-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def preserves_Kernel_KernelIdeal : Prop :=
  IdealRules.named_const.Statement Cert.KernelIdeal.κ "scale" .bf16 0x3D94#16 (((Real.sqrt 192)⁻¹ : ℝ) : EReal)
  ∧ IdealRules.named_const.Statement Cert.KernelIdeal.κ "scale" .f32 0x3D93CD3A#32 (((Real.sqrt 192)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v18_1)) (v3 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v18_1) = v2 c
          ∧ r.2.mem ((c.tc : Thread Cert.KernelIdeal.nD Cert.KernelIdeal.τ).loc Cert.KernelIdeal.main_v21) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v6) = v1 c
          ∧ r.2.mem ((c.tc : Thread Cert.Reference6Ideal.nD Cert.Reference6Ideal.τ).loc Cert.Reference6Ideal.main_v9) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)) (v2 : (c : Dev Cert.Kernel8Ideal.nD) → Buf (Elt Ideal) ((c.tc : Thread Cert.Kernel8Ideal.nD Cert.Kernel8Ideal.τ).loc Cert.Kernel8Ideal.main_v5_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_v5_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v3) = v1 c
          ∧ r.2.mem ((c.tc : Thread Cert.Reference8Ideal.nD Cert.Reference8Ideal.τ).loc Cert.Reference8Ideal.main_v7) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v47) = v0 c
          ∧ r.2.mem ((c.tc : Thread Cert.Reference9Ideal.nD Cert.Reference9Ideal.τ).loc Cert.Reference9Ideal.main_v48) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_v20) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)) (v3 : (c : Dev Cert.Kernel11Ideal.nD) → Buf (Elt Ideal) ((c.tc : Thread Cert.Kernel11Ideal.nD Cert.Kernel11Ideal.τ).loc Cert.Kernel11Ideal.main_v1_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_v1_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v32) = v0 c
          ∧ r.2.mem ((c.tc : Thread Cert.Reference11Ideal.nD Cert.Reference11Ideal.τ).loc Cert.Reference11Ideal.main_v33) = v1 c
          ∧ r.2.mem ((c.tc : Thread Cert.Reference11Ideal.nD Cert.Reference11Ideal.τ).loc Cert.Reference11Ideal.main_v34) = v2 c
          ∧ r.2.mem ((c.tc : Thread Cert.Reference11Ideal.nD Cert.Reference11Ideal.τ).loc Cert.Reference11Ideal.main_v35) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v13) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_arg1) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v4) = v2 c
          ∧ r.2.mem ((c.tc : Thread Cert.Reference14Ideal.nD Cert.Reference14Ideal.τ).loc Cert.Reference14Ideal.main_v10) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v6) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v6) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v6) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v6) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_finite.lean ====
abbrev S2x2048x1536 : Shape := ⟨3, ![2, 2048, 1536]⟩
abbrev S2x2048x2048 : Shape := ⟨3, ![2, 2048, 2048]⟩
abbrev S2x2048x64 : Shape := ⟨3, ![2, 2048, 64]⟩
abbrev S2x2048x32 : Shape := ⟨3, ![2, 2048, 32]⟩
abbrev S2x2048x1024 : Shape := ⟨3, ![2, 2048, 1024]⟩
abbrev S_ : Shape := ⟨0, ![]⟩

class Facts : Prop where
  bcast_S_S2x2048x1536 : S_.BroadcastsInDim S2x2048x1536 (![] : Fin 0 → Fin S2x2048x1536.rank)
  reducesTo_S2x2048x1536_S_d0_1_2 : S2x2048x1536.ReducesTo [0, 1, 2] S_
  h_S_ : 0 < S_.numel
  bcast_S_S2x2048x2048 : S_.BroadcastsInDim S2x2048x2048 (![] : Fin 0 → Fin S2x2048x2048.rank)
  reducesTo_S2x2048x2048_S_d0_1_2 : S2x2048x2048.ReducesTo [0, 1, 2] S_
  bcast_S_S2x2048x64 : S_.BroadcastsInDim S2x2048x64 (![] : Fin 0 → Fin S2x2048x64.rank)
  reducesTo_S2x2048x64_S_d0_1_2 : S2x2048x64.ReducesTo [0, 1, 2] S_
  bcast_S_S2x2048x32 : S_.BroadcastsInDim S2x2048x32 (![] : Fin 0 → Fin S2x2048x32.rank)
  reducesTo_S2x2048x32_S_d0_1_2 : S2x2048x32.ReducesTo [0, 1, 2] S_
  bcast_S_S2x2048x1024 : S_.BroadcastsInDim S2x2048x1024 (![] : Fin 0 → Fin S2x2048x1024.rank)
  reducesTo_S2x2048x1024_S_d0_1_2 : S2x2048x1024.ReducesTo [0, 1, 2] S_

variable [Facts]

def fn_part1 {F : FTy → Type} [FloatOps F] (main_arg4 : FVec F S2x2048x32 .f32) (main_arg5 : FVec F S2x2048x1024 .f32) (main_v14 : IVec S_ 1) (main_v15 : FVec F S2x2048x32 .f32) (main_cst_5 : FVec F S_ .f32) : IVec S_ 1 :=
  let main_v16 : FVec F S2x2048x32 .f32 := broadcastInDim S2x2048x32 ![] bcast_S_S2x2048x32 main_cst_5
  let main_v17 : IVec S2x2048x32 1 := cmpf .olt main_v15 main_v16
  let main_c_6 : IVec S_ 1 := constantI S_ 1 1#1
  let main_v18 : IVec S_ 1 := (fun x v => Host.reduce IntOp.andi x v reducesTo_S2x2048x32_S_d0_1_2 h_S_) main_v17 main_c_6
  let main_v19 : IVec S_ 1 := andi main_v14 main_v18
  let main_v20 : FVec F S2x2048x32 .f32 := Host.absf main_arg4
  let main_cst_7 : FVec F S_ .f32 := constant S_ .f32 0x7F800000#32
  let main_v21 : FVec F S2x2048x32 .f32 := broadcastInDim S2x2048x32 ![] bcast_S_S2x2048x32 main_cst_7
  let main_v22 : IVec S2x2048x32 1 := cmpf .olt main_v20 main_v21
  let main_c_8 : IVec S_ 1 := constantI S_ 1 1#1
  let main_v23 : IVec S_ 1 := (fun x v => Host.reduce IntOp.andi x v reducesTo_S2x2048x32_S_d0_1_2 h_S_) main_v22 main_c_8
  let main_v24 : IVec S_ 1 := andi main_v19 main_v23
  let main_v25 : FVec F S2x2048x1024 .f32 := Host.absf main_arg5
  let main_cst_9 : FVec F S_ .f32 := constant S_ .f32 0x7F800000#32
  let main_v26 : FVec F S2x2048x1024 .f32 := broadcastInDim S2x2048x1024 ![] bcast_S_S2x2048x1024 main_cst_9
  let main_v27 : IVec S2x2048x1024 1 := cmpf .olt main_v25 main_v26
  let main_c_10 : IVec S_ 1 := constantI S_ 1 1#1
  let main_v28 : IVec S_ 1 := (fun x v => Host.reduce IntOp.andi x v reducesTo_S2x2048x1024_S_d0_1_2 h_S_) main_v27 main_c_10
  let main_v29 : IVec S_ 1 := andi main_v24 main_v28
  main_v29

def fn {F : FTy → Type} [FloatOps F] (main_arg0 : FVec F S2x2048x1536 .f32) (main_arg1 : FVec F S2x2048x2048 .f32) (main_arg2 : FVec F S2x2048x64 .f32) (main_arg3 : FVec F S2x2048x32 .f32) (main_arg4 : FVec F S2x2048x32 .f32) (main_arg5 : FVec F S2x2048x1024 .f32) : IVec S_ 1 :=
  let main_v0 : FVec F S2x2048x1536 .f32 := Host.absf main_arg0
  let main_cst : FVec F S_ .f32 := constant S_ .f32 0x7F800000#32
  let main_v1 : FVec F S2x2048x1536 .f32 := broadcastInDim S2x2048x1536 ![] bcast_S_S2x2048x1536 main_cst
  let main_v2 : IVec S2x2048x1536 1 := cmpf .olt main_v0 main_v1
  let main_c : IVec S_ 1 := constantI S_ 1 1#1
  let main_v3 : IVec S_ 1 := (fun x v => Host.reduce IntOp.andi x v reducesTo_S2x2048x1536_S_d0_1_2 h_S_) main_v2 main_c
  let main_c_0 : IVec S_ 1 := constantI S_ 1 1#1
  let main_v4 : IVec S_ 1 := andi main_c_0 main_v3
  let main_v5 : FVec F S2x2048x2048 .f32 := Host.absf main_arg1
  let main_cst_1 : FVec F S_ .f32 := constant S_ .f32 0x7F800000#32
  let main_v6 : FVec F S2x2048x2048 .f32 := broadcastInDim S2x2048x2048 ![] bcast_S_S2x2048x2048 main_cst_1
  let main_v7 : IVec S2x2048x2048 1 := cmpf .olt main_v5 main_v6
  let main_c_2 : IVec S_ 1 := constantI S_ 1 1#1
  let main_v8 : IVec S_ 1 := (fun x v => Host.reduce IntOp.andi x v reducesTo_S2x2048x2048_S_d0_1_2 h_S_) main_v7 main_c_2
  let main_v9 : IVec S_ 1 := andi main_v4 main_v8
  let main_v10 : FVec F S2x2048x64 .f32 := Host.absf main_arg2
  let main_cst_3 : FVec F S_ .f32 := constant S_ .f32 0x7F800000#32
  let main_v11 : FVec F S2x2048x64 .f32 := broadcastInDim S2x2048x64 ![] bcast_S_S2x2048x64 main_cst_3
  let main_v12 : IVec S2x2048x64 1 := cmpf .olt main_v10 main_v11
  let main_c_4 : IVec S_ 1 := constantI S_ 1 1#1
  let main_v13 : IVec S_ 1 := (fun x v => Host.reduce IntOp.andi x v reducesTo_S2x2048x64_S_d0_1_2 h_S_) main_v12 main_c_4
  let main_v14 : IVec S_ 1 := andi main_v9 main_v13
  let main_v15 : FVec F S2x2048x32 .f32 := Host.absf main_arg3
  let main_cst_5 : FVec F S_ .f32 := constant S_ .f32 0x7F800000#32
  fn_part1 (F := F) main_arg4 main_arg5 main_v14 main_v15 main_cst_5
-- ==== Pre_finite4.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn_part1 {F : FTy → Type} [FloatOps F] (main_arg3 : FVec F S4096x2816 .bf16) (main_v16 : IVec S_ 1) : IVec S_ 1 :=
  let main_v17 : FVec F S4096x2816 .f32 := (extf .f32 · bitsLt_bf16_f32) main_arg3
  let main_v18 : FVec F S4096x2816 .f32 := Host.absf main_v17
  let main_cst_5 : FVec F S_ .f32 := constant S_ .f32 0x7F800000#32
  let main_v19 : FVec F S4096x2816 .f32 := broadcastInDim S4096x2816 ![] bcast_S_S4096x2816 main_cst_5
  let main_v20 : IVec S4096x2816 1 := cmpf .olt main_v18 main_v19
  let main_c_6 : IVec S_ 1 := constantI S_ 1 1#1
  let main_v21 : IVec S_ 1 := (fun x v => Host.reduce IntOp.andi x v reducesTo_S4096x2816_S_d0_1 h_S_) main_v20 main_c_6
  let main_v22 : IVec S_ 1 := andi main_v16 main_v21
  main_v22

def fn {F : FTy → Type} [FloatOps F] (main_arg0 : FVec F S4096x1024 .f32) (main_arg1 : FVec F S2816x1024 .bf16) (main_arg2 : FVec F S4096x2816 .bf16) (main_arg3 : FVec F S4096x2816 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 1 := constantI S_ 1 1#1
  let main_v4 : IVec S_ 1 := andi main_c_0 main_v3
  let main_v5 : FVec F S2816x1024 .f32 := (extf .f32 · bitsLt_bf16_f32) main_arg1
  let main_v6 : FVec F S2816x1024 .f32 := Host.absf main_v5
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_c_2 : IVec S_ 1 := constantI S_ 1 1#1
  let main_v9 : IVec S_ 1 := (fun x v => Host.reduce IntOp.andi x v reducesTo_S2816x1024_S_d0_1 h_S_) main_v8 main_c_2
  let main_v10 : IVec S_ 1 := andi main_v4 main_v9
  let main_v11 : FVec F S4096x2816 .f32 := (extf .f32 · bitsLt_bf16_f32) main_arg2
  let main_v12 : FVec F S4096x2816 .f32 := Host.absf main_v11
  let main_cst_3 : FVec F S_ .f32 := constant S_ .f32 0x7F800000#32
  let main_v13 : FVec F S4096x2816 .f32 := broadcastInDim S4096x2816 ![] bcast_S_S4096x2816 main_cst_3
  let main_v14 : IVec S4096x2816 1 := cmpf .olt main_v12 main_v13
  let main_c_4 : IVec S_ 1 := constantI S_ 1 1#1
  let main_v15 : IVec S_ 1 := (fun x v => Host.reduce IntOp.andi x v reducesTo_S4096x2816_S_d0_1 h_S_) main_v14 main_c_4
  let main_v16 : IVec S_ 1 := andi main_v10 main_v15
  fn_part1 (F := F) main_arg3 main_v16
-- ==== Kernel.lean ====
abbrev S2x2048x1536 : Shape := ⟨3, ![2, 2048, 1536]⟩
abbrev S2x2048x2048 : Shape := ⟨3, ![2, 2048, 2048]⟩
abbrev S2x2048x64 : Shape := ⟨3, ![2, 2048, 64]⟩
abbrev S2x2048x32 : Shape := ⟨3, ![2, 2048, 32]⟩
abbrev S2x2048x1024 : Shape := ⟨3, ![2, 2048, 1024]⟩
abbrev S4096x8x192 : Shape := ⟨3, ![4096, 8, 192]⟩
abbrev S_ : Shape := ⟨0, ![]⟩
abbrev S4096x8x256 : Shape := ⟨3, ![4096, 8, 256]⟩
abbrev S4096x2048 : Shape := ⟨2, ![4096, 2048]⟩
abbrev S4096x64 : Shape := ⟨2, ![4096, 64]⟩
abbrev S4096x128 : Shape := ⟨2, ![4096, 128]⟩
abbrev S4096x1024 : Shape := ⟨2, ![4096, 1024]⟩
abbrev S4096x32 : Shape := ⟨2, ![4096, 32]⟩
abbrev S8x4096x1 : Shape := ⟨3, ![8, 4096, 1]⟩
abbrev S2048x256 : Shape := ⟨2, ![2048, 256]⟩
abbrev S2048x128 : Shape := ⟨2, ![2048, 128]⟩
abbrev S1x2048x1 : Shape := ⟨3, ![1, 2048, 1]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩
abbrev S512x128 : Shape := ⟨2, ![512, 128]⟩
abbrev S512x256 : Shape := ⟨2, ![512, 256]⟩
abbrev S256x512 : Shape := ⟨2, ![256, 512]⟩
abbrev S768x128 : Shape := ⟨2, ![768, 128]⟩
abbrev S768x256 : Shape := ⟨2, ![768, 256]⟩
abbrev S256x768 : Shape := ⟨2, ![256, 768]⟩
abbrev S1024x128 : Shape := ⟨2, ![1024, 128]⟩
abbrev S1024x256 : Shape := ⟨2, ![1024, 256]⟩
abbrev S256x1024 : Shape := ⟨2, ![256, 1024]⟩
abbrev S1280x128 : Shape := ⟨2, ![1280, 128]⟩
abbrev S1280x256 : Shape := ⟨2, ![1280, 256]⟩
abbrev S256x1280 : Shape := ⟨2, ![256, 1280]⟩
abbrev S1536x128 : Shape := ⟨2, ![1536, 128]⟩
abbrev S1536x256 : Shape := ⟨2, ![1536, 256]⟩
abbrev S256x1536 : Shape := ⟨2, ![256, 1536]⟩
abbrev S1792x128 : Shape := ⟨2, ![1792, 128]⟩
abbrev S1792x256 : Shape := ⟨2, ![1792, 256]⟩
abbrev S256x1792 : Shape := ⟨2, ![256, 1792]⟩
abbrev S512 : Shape := ⟨1, ![512]⟩
abbrev S512x1 : Shape := ⟨2, ![512, 1]⟩
abbrev S1x512x1 : Shape := ⟨3, ![1, 512, 1]⟩
abbrev S512x512 : Shape := ⟨2, ![512, 512]⟩
abbrev S512x1024 : Shape := ⟨2, ![512, 1024]⟩
abbrev S512x1536 : Shape := ⟨2, ![512, 1536]⟩

abbrev nBuf : Space → Nat
  | .hbm => 37
  | .vmem => 40
  | .smem => 0
  | _ => 0

abbrev bufTy : (tb : Table) → Fin (tcTables nBuf tb) → BufTy
  | .hbm, ⟨0, _⟩ => ⟨S2x2048x1536, .f32⟩
  | .hbm, ⟨1, _⟩ => ⟨S2x2048x2048, .f32⟩
  | .hbm, ⟨2, _⟩ => ⟨S2x2048x64, .f32⟩
  | .hbm, ⟨3, _⟩ => ⟨S2x2048x32, .f32⟩
  | .hbm, ⟨4, _⟩ => ⟨S2x2048x32, .f32⟩
  | .hbm, ⟨5, _⟩ => ⟨S2x2048x1024, .f32⟩
  | .hbm, ⟨6, _⟩ => ⟨S4096x8x192, .f32⟩
  | .hbm, ⟨7, _⟩ => ⟨S_, .i32⟩
  | .hbm, ⟨8, _⟩ => ⟨S_, .f32⟩
  | .hbm, ⟨9, _⟩ => ⟨S4096x8x256, .f32⟩
  | .hbm, ⟨10, _⟩ => ⟨S4096x2048, .f32⟩
  | .hbm, ⟨11, _⟩ => ⟨S4096x2048, .bf16⟩
  | .hbm, ⟨12, _⟩ => ⟨S4096x2048, .f32⟩
  | .hbm, ⟨13, _⟩ => ⟨S4096x2048, .bf16⟩
  | .hbm, ⟨14, _⟩ => ⟨S4096x64, .f32⟩
  | .hbm, ⟨15, _⟩ => ⟨S_, .i32⟩
  | .hbm, ⟨16, _⟩ => ⟨S_, .f32⟩
  | .hbm, ⟨17, _⟩ => ⟨S4096x128, .f32⟩
  | .hbm, ⟨18, _⟩ => ⟨S4096x128, .bf16⟩
  | .hbm, ⟨19, _⟩ => ⟨S4096x1024, .f32⟩
  | .hbm, ⟨20, _⟩ => ⟨S4096x1024, .bf16⟩
  | .hbm, ⟨21, _⟩ => ⟨S4096x32, .f32⟩
  | .hbm, ⟨22, _⟩ => ⟨S4096x32, .f32⟩
  | .hbm, ⟨23, _⟩ => ⟨S_, .f32⟩
  | .hbm, ⟨24, _⟩ => ⟨S4096x64, .f32⟩
  | .hbm, ⟨25, _⟩ => ⟨S4096x128, .f32⟩
  | .hbm, ⟨26, _⟩ => ⟨S4096x32, .f32⟩
  | .hbm, ⟨27, _⟩ => ⟨S4096x128, .f32⟩
  | .hbm, ⟨28, _⟩ => ⟨S4096x1024, .bf16⟩
  | .hbm, ⟨29, _⟩ => ⟨S8x4096x1, .f32⟩
  | .hbm, ⟨30, _⟩ => ⟨S4096x2048, .bf16⟩
  | .hbm, ⟨31, _⟩ => ⟨S4096x2048, .bf16⟩
  | .hbm, ⟨32, _⟩ => ⟨S4096x2048, .bf16⟩
  | .hbm, ⟨33, _⟩ => ⟨S4096x128, .f32⟩
  | .hbm, ⟨34, _⟩ => ⟨S4096x8x256, .bf16⟩
  | .hbm, ⟨35, _⟩ => ⟨S4096x8x192, .bf16⟩
  | .hbm, ⟨36, _⟩ => ⟨S4096x64, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S1x2048x1, .f32⟩
  | .local _ .vmem, ⟨13, _⟩ => ⟨S1x2048x1, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S1x2048x1, .f32⟩
  | .local _ .vmem, ⟨27, _⟩ => ⟨S1x2048x1, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x256, .bf16⟩
  | .local _ .vmem, ⟨33, _⟩ => ⟨S2048x256, .bf16⟩
  | .local _ .vmem, ⟨34, _⟩ => ⟨S2048x256, .bf16⟩
  | .local _ .vmem, ⟨35, _⟩ => ⟨S2048x256, .bf16⟩
  | .local _ .vmem, ⟨36, _⟩ => ⟨S2048x128, .f32⟩
  | .local _ .vmem, ⟨37, _⟩ => ⟨S2048x128, .f32⟩
  | .local _ .vmem, ⟨38, _⟩ => ⟨S2048x256, .f32⟩
  | .local _ .vmem, ⟨39, _⟩ => ⟨S2048x128, .f32⟩
  | _, _ => ⟨S2x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc1_scratch0 : Ref sig .tc := ⟨.vmem, 38, rfl⟩
abbrev cc1_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x2048x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2048x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S2048x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S2048x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]
-- ==== KernelIdeal.lean ====
variable {F : FTy → Type} [FloatOps F] [Named F]
def κ : String → Option EReal := fun
  | "mask" => some ⊥
  | "scale" => some (((Real.sqrt 192)⁻¹ : ℝ) : EReal)
  | _ => none
-- ==== ReferenceIdeal.lean ====
abbrev S2x2048x1536 : Shape := ⟨3, ![2, 2048, 1536]⟩
abbrev S2x2048x2048 : Shape := ⟨3, ![2, 2048, 2048]⟩
abbrev S2x2048x64 : Shape := ⟨3, ![2, 2048, 64]⟩
abbrev S2x2048x32 : Shape := ⟨3, ![2, 2048, 32]⟩
abbrev S2x2048x1024 : Shape := ⟨3, ![2, 2048, 1024]⟩
abbrev S2x2048x8x192 : Shape := ⟨4, ![2, 2048, 8, 192]⟩
abbrev S2x2048x8x128 : Shape := ⟨4, ![2, 2048, 8, 128]⟩
abbrev S2x2048x8x64 : Shape := ⟨4, ![2, 2048, 8, 64]⟩
abbrev S2x2048x8x256 : Shape := ⟨4, ![2, 2048, 8, 256]⟩
abbrev S2x2048x1x32 : Shape := ⟨4, ![2, 2048, 1, 32]⟩
abbrev S2x2048x8x32 : Shape := ⟨4, ![2, 2048, 8, 32]⟩
abbrev S2x8x2048x2048 : Shape := ⟨4, ![2, 8, 2048, 2048]⟩
abbrev S2x2048x2048x8 : Shape := ⟨4, ![2, 2048, 2048, 8]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x8x2048x128 : Shape := ⟨4, ![2, 8, 2048, 128]⟩
abbrev S4096x1024 : Shape := ⟨2, ![4096, 1024]⟩
abbrev S4096x8x192 : Shape := ⟨3, ![4096, 8, 192]⟩
abbrev S4096x2048 : Shape := ⟨2, ![4096, 2048]⟩
abbrev S4096x64 : Shape := ⟨2, ![4096, 64]⟩

abbrev nBuf : Space → Nat
  | .hbm => 155
  | .vmem => 0
  | .smem => 0
  | _ => 0

abbrev hbmTy0_0 (i : Nat) : BufTy := match i % 128 with
  | 0 => ⟨S2x2048x1536, .f32⟩
  | 1 => ⟨S2x2048x2048, .f32⟩
  | 2 => ⟨S2x2048x64, .f32⟩
  | 3 => ⟨S2x2048x32, .f32⟩
  | 4 => ⟨S2x2048x32, .f32⟩
  | 5 => ⟨S2x2048x1024, .f32⟩
  | 6 => ⟨S2x2048x8x192, .f32⟩
  | 7 => ⟨S2x2048x8x128, .f32⟩
  | 8 => ⟨S2x2048x8x64, .f32⟩
  | 9 => ⟨S2x2048x8x256, .f32⟩
  | 10 => ⟨S2x2048x8x128, .f32⟩
  | 11 => ⟨S2x2048x8x128, .f32⟩
  | 12 => ⟨S2x2048x1x32, .f32⟩
  | 13 => ⟨S2x2048x1x32, .f32⟩
  | 14 => ⟨S2x2048x8x32, .f32⟩
  | 15 => ⟨S2x2048x8x32, .f32⟩
  | 16 => ⟨S2x2048x8x32, .f32⟩
  | 17 => ⟨S2x2048x8x32, .f32⟩
  | 18 => ⟨S2x2048x8x32, .f32⟩
  | 19 => ⟨S2x2048x8x32, .f32⟩
  | 20 => ⟨S2x2048x8x32, .f32⟩
  | 21 => ⟨S2x2048x8x32, .f32⟩
  | 22 => ⟨S2x2048x8x32, .f32⟩
  | 23 => ⟨S2x2048x8x32, .f32⟩
  | 24 => ⟨S2x2048x8x32, .f32⟩
  | 25 => ⟨S2x2048x8x32, .f32⟩
  | 26 => ⟨S2x2048x8x64, .f32⟩
  | 27 => ⟨S2x8x2048x2048, .f32⟩
  | 28 => ⟨S2x2048x2048x8, .f32⟩
  | 29 => ⟨S2x8x2048x2048, .f32⟩
  | 30 => ⟨S2x8x2048x2048, .f32⟩
  | 31 => ⟨S_, .f32⟩
  | 32 => ⟨S_, .f32⟩
  | 33 => ⟨S2x8x2048x2048, .f32⟩
  | 34 => ⟨S2x8x2048x2048, .f32⟩
  | 35 => ⟨S2048, .i32⟩
  | 36 => ⟨S2048x1, .i32⟩
  | 37 => ⟨S2048, .i32⟩
  | 38 => ⟨S1x2048, .i32⟩
  | 39 => ⟨S2048x2048, .i32⟩
  | 40 => ⟨S2048x2048, .i32⟩
  | 41 => ⟨S2048x2048, .i1⟩
  | 42 => ⟨S1x1x2048x2048, .i1⟩
  | 43 => ⟨S_, .f32⟩
  | 44 => ⟨S_, .f32⟩
  | 45 => ⟨S2x8x2048x2048, .i1⟩
  | 46 => ⟨S2x8x2048x2048, .f32⟩
  | 47 => ⟨S2x8x2048x2048, .f32⟩
  | 48 => ⟨S_, .f32⟩
  | 49 => ⟨S2x8x2048x2048, .f32⟩
  | 50 => ⟨S_, .f32⟩
  | 51 => ⟨S2x8x2048, .f32⟩
  | 52 => ⟨S2x8x2048x1, .f32⟩
  | 53 => ⟨S2x8x2048x2048, .f32⟩
  | 54 => ⟨S2x8x2048x2048, .i1⟩
  | 55 => ⟨S2x8x2048x2048, .f32⟩
  | 56 => ⟨S_, .f32⟩
  | 57 => ⟨S2x8x2048, .f32⟩
  | 58 => ⟨S_, .f32⟩
  | 59 => ⟨S2x8x2048, .f32⟩
  | 60 => ⟨S2x8x2048, .f32⟩
  | 61 => ⟨S_, .f32⟩
  | 62 => ⟨S2x8x2048, .f32⟩
  | 63 => ⟨S2x8x2048, .i1⟩
  | 64 => ⟨S_, .f32⟩
  | 65 => ⟨S2x8x2048, .f32⟩
  | 66 => ⟨S2x8x2048, .i1⟩
  | 67 => ⟨S_, .f32⟩
  | 68 => ⟨S2x8x2048, .f32⟩
  | 69 => ⟨S_, .f32⟩
  | 70 => ⟨S2x8x2048, .f32⟩
  | 71 => ⟨S_, .f32⟩
  | 72 => ⟨S2x8x2048, .f32⟩
  | 73 => ⟨S2x8x2048, .f32⟩
  | 74 => ⟨S2x8x2048, .f32⟩
  | 75 => ⟨S2x8x2048x1, .f32⟩
  | 76 => ⟨S2x8x2048x2048, .f32⟩
  | 77 => ⟨S2x8x2048x2048, .f32⟩
  | 78 => ⟨S2x8x2048x2048, .f32⟩
  | 79 => ⟨S_, .f32⟩
  | 80 => ⟨S2x8x2048, .f32⟩
  | 81 => ⟨S2x8x2048x1, .f32⟩
  | 82 => ⟨S2x8x2048x2048, .f32⟩
  | 83 => ⟨S2x8x2048x2048, .f32⟩
  | 84 => ⟨S2x8x2048x1, .f32⟩
  | 85 => ⟨S_, .f32⟩
  | 86 => ⟨S2x8x2048x1, .f32⟩
  | 87 => ⟨S2x8x2048x1, .f32⟩
  | 88 => ⟨S2x8x128x2048, .f32⟩
  | 89 => ⟨S2x2048x8x128, .f32⟩
  | 90 => ⟨S2x2048x1024, .f32⟩
  | 91 => ⟨S2x2048x8x128, .f32⟩
  | 92 => ⟨S2x8x128x2048, .f32⟩
  | 93 => ⟨S2x8x2048x2048, .f32⟩
  | 94 => ⟨S2x8x128x2048, .f32⟩
  | 95 => ⟨S2x2048x8x128, .f32⟩
  | 96 => ⟨S2x8x2048x2048, .f32⟩
  | 97 => ⟨S2x8x2048x2048, .f32⟩
  | 98 => ⟨S2x8x2048x2048, .f32⟩
  | 99 => ⟨S_, .f32⟩
  | 100 => ⟨S2x8x2048, .f32⟩
  | 101 => ⟨S2x8x2048x1, .f32⟩
  | 102 => ⟨S2x8x2048x1, .f32⟩
  | 103 => ⟨S2x8x2048x2048, .f32⟩
  | 104 => ⟨S2x8x2048x2048, .f32⟩
  | 105 => ⟨S_, .f32⟩
  | 106 => ⟨S2x8x2048, .f32⟩
  | 107 => ⟨S2x8x2048x2048, .f32⟩
  | 108 => ⟨S2x8x2048x2048, .f32⟩
  | 109 => ⟨S2x8x2048x2048, .f32⟩
  | 110 => ⟨S_, .f32⟩
  | 111 => ⟨S2x8x2048x2048, .f32⟩
  | 112 => ⟨S2x8x2048x2048, .f32⟩
  | 113 => ⟨S2x8x2048x2048, .f32⟩
  | 114 => ⟨S2x8x2048x2048, .f32⟩
  | 115 => ⟨S2x2048x2048x8, .f32⟩
  | 116 => ⟨S2x2048x8x64, .f32⟩
  | 117 => ⟨S2x2048x64, .f32⟩
  | 118 => ⟨S2x8x2048x128, .f32⟩
  | 119 => ⟨S2x2048x8x128, .f32⟩
  | 120 => ⟨S2x8x2048x128, .f32⟩
  | 121 => ⟨S2x2048x8x128, .f32⟩
  | 122 => ⟨S2x2048x8x32, .f32⟩
  | 123 => ⟨S2x2048x8x32, .f32⟩
  | 124 => ⟨S2x2048x8x32, .f32⟩
  | 125 => ⟨S2x2048x8x32, .f32⟩
  | 126 => ⟨S2x2048x8x32, .f32⟩
  | 127 => ⟨S2x2048x8x32, .f32⟩
  | _ => ⟨S2x2048x1536, .f32⟩

abbrev hbmTy0_1 (i : Nat) : BufTy := match i % 128 with
  | 0 => ⟨S2x2048x8x32, .f32⟩
  | 1 => ⟨S2x2048x8x32, .f32⟩
  | 2 => ⟨S2x2048x8x32, .f32⟩
  | 3 => ⟨S2x2048x8x32, .f32⟩
  | 4 => ⟨S2x2048x8x32, .f32⟩
  | 5 => ⟨S2x2048x8x32, .f32⟩
  | 6 => ⟨S2x2048x8x32, .f32⟩
  | 7 => ⟨S2x2048x8x64, .f32⟩
  | 8 => ⟨S_, .f32⟩
  | 9 => ⟨S2x2048x8x256, .f32⟩
  | 10 => ⟨S_, .f32⟩
  | 11 => ⟨S2x2048x8x256, .f32⟩
  | 12 => ⟨S2x2048x8x256, .f32⟩
  | 13 => ⟨S2x2048x2048, .f32⟩
  | 14 => ⟨S_, .f32⟩
  | 15 => ⟨S2x2048x8x192, .f32⟩
  | 16 => ⟨S_, .f32⟩
  | 17 => ⟨S2x2048x8x192, .f32⟩
  | 18 => ⟨S2x2048x8x192, .f32⟩
  | 19 => ⟨S2x2048x1536, .f32⟩
  | 20 => ⟨S4096x1024, .f32⟩
  | 21 => ⟨S4096x1024, .bf16⟩
  | 22 => ⟨S4096x8x192, .f32⟩
  | 23 => ⟨S4096x8x192, .bf16⟩
  | 24 => ⟨S4096x2048, .f32⟩
  | 25 => ⟨S4096x2048, .bf16⟩
  | 26 => ⟨S4096x64, .f32⟩
  | _ => ⟨S2x2048x1536, .f32⟩

abbrev hbmTy (i : Nat) : BufTy := match i / 128 with
  | 0 => hbmTy0_0 i
  | 1 => hbmTy0_1 i
  | _ => ⟨S2x2048x1536, .f32⟩

abbrev bufTy : (tb : Table) → Fin (tcTables nBuf tb) → BufTy
  | .hbm, ⟨i, _⟩ => hbmTy i
  | _, _ => ⟨S2x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_0 : Ref sig .tc := ⟨.hbm, 43, rfl⟩
abbrev main_call0_v0 : Ref sig .tc := ⟨.hbm, 44, rfl⟩
abbrev main_v36_1 : Ref sig .tc := ⟨.hbm, 45, rfl⟩
abbrev main_call0_v2 : Ref sig .tc := ⟨.hbm, 46, rfl⟩
abbrev main_v36_0 : Ref sig .tc := ⟨.hbm, 47, rfl⟩
abbrev main_call0_cst : Ref sig .tc := ⟨.hbm, 48, rfl⟩
abbrev main_v36_2 : Ref sig .tc := ⟨.hbm, 49, rfl⟩
abbrev main_cst_1 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_2 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_12 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_call1_cst : Ref sig .tc := ⟨.hbm, 110, rfl⟩
abbrev main_call1_v0 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_13 : Ref sig .tc := ⟨.hbm, 136, rfl⟩
abbrev main_v109 : Ref sig .tc := ⟨.hbm, 137, rfl⟩
abbrev main_cst_14 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_15 : Ref sig .tc := ⟨.hbm, 142, rfl⟩
abbrev main_v113 : Ref sig .tc := ⟨.hbm, 143, rfl⟩
abbrev main_cst_16 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩

abbrev nD : Nat := 1
abbrev τ : Topo := Topo.v7x

variable {F : FTy → Type} [FloatOps F]
-- ==== Kernel2.lean ====
abbrev S4096x1024 : Shape := ⟨2, ![4096, 1024]⟩
abbrev S4096x2816 : Shape := ⟨2, ![4096, 2816]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 arg1 c0_i32
  let c1_i32 : BitVec 32 := 1#32
  let v2 : BitVec 32 := Scalar.minsi arg0 c1_i32
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 c0_i32 arg1
  let c2_i32_0 : BitVec 32 := 2#32
  let v2 : BitVec 32 := Scalar.subi arg0 c2_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S4096x1024 : Shape := ⟨2, ![4096, 1024]⟩
abbrev S4096x2816 : Shape := ⟨2, ![4096, 2816]⟩
abbrev S_ : Shape := ⟨0, ![]⟩
abbrev S1024x5632 : Shape := ⟨2, ![1024, 5632]⟩
abbrev S4096x5632 : Shape := ⟨2, ![4096, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S1024x5632, .f32⟩
  | .hbm, ⟨8, _⟩ => ⟨S4096x5632, .f32⟩
  | .hbm, ⟨9, _⟩ => ⟨S4096x2816, .f32⟩
  | .hbm, ⟨10, _⟩ => ⟨S4096x2816, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S1024x1408, .f32⟩
  | .hbm, ⟨18, _⟩ => ⟨S1x1024x1408, .f32⟩
  | .hbm, ⟨19, _⟩ => ⟨S1x1024x1408, .f32⟩
  | .hbm, ⟨20, _⟩ => ⟨S1x1024x1408, .f32⟩
  | .hbm, ⟨21, _⟩ => ⟨S1x1024x1408, .f32⟩
  | .hbm, ⟨22, _⟩ => ⟨S4x1024x1408, .f32⟩
  | .hbm, ⟨23, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Kernel3.lean ====
abbrev S4096x2816 : Shape := ⟨2, ![4096, 2816]⟩
abbrev S1024x5632 : Shape := ⟨2, ![1024, 5632]⟩
abbrev S4096x1024 : Shape := ⟨2, ![4096, 1024]⟩
abbrev S1024 : Shape := ⟨1, ![1024]⟩
abbrev S1024x4x1408 : Shape := ⟨3, ![1024, 4, 1408]⟩
abbrev S4x1024x1408 : Shape := ⟨3, ![4, 1024, 1408]⟩
abbrev S1x1024 : Shape := ⟨2, ![1, 1024]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S1024x4x1408, .bf16⟩
  | .hbm, ⟨7, _⟩ => ⟨S4x1024x1408, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_14 : BitVec 32 := 0#32
  let v19 : BitVec 1 := Scalar.cmpi .ne v18 c0_i32_14
  v19

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let arg1 : BitVec 32 := BitVec.ofNat 32 (i 1).val
  let c0_i32_10 : BitVec 32 := 0#32
  let v10 : BitVec 1 := Scalar.cmpi .eq arg1 c0_i32_10
  let v11 : BitVec 1 := Scalar.andi v9 v10
  let v12 : BitVec 32 := Scalar.extui v11
  let c0_i32_11 : BitVec 32 := 0#32
  let v13 : BitVec 1 := Scalar.cmpi .ne v12 c0_i32_11
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference3Ideal.lean ====
abbrev S4096x2816 : Shape := ⟨2, ![4096, 2816]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩

abbrev nBuf : Space → Nat
  | .hbm => 61
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S1024x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x5632, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x5632, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩
abbrev S256x1024 : Shape := ⟨2, ![256, 1024]⟩
abbrev S512x256 : Shape := ⟨2, ![512, 256]⟩
abbrev S128x1024 : Shape := ⟨2, ![128, 1024]⟩
abbrev S512x128 : Shape := ⟨2, ![512, 128]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S2816x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .bf16⟩
  | .hbm, ⟨36, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .f32⟩
  | .local _ .vmem, ⟨3, _⟩ => ⟨S2048x512, .f32⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel6.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x2816 : Shape := ⟨2, ![4096, 2816]⟩
abbrev S512x1024 : Shape := ⟨2, ![512, 1024]⟩
abbrev S1x1024x1408 : Shape := ⟨3, ![1, 1024, 1408]⟩
abbrev S512x1408 : Shape := ⟨2, ![512, 1408]⟩
abbrev S1x1024x256 : Shape := ⟨3, ![1, 1024, 256]⟩
abbrev S1024x256 : Shape := ⟨2, ![1024, 256]⟩
abbrev S512x256 : Shape := ⟨2, ![512, 256]⟩
abbrev S1x1024x128 : Shape := ⟨3, ![1, 1024, 128]⟩
abbrev S1024x128 : Shape := ⟨2, ![1024, 128]⟩
abbrev S512x128 : Shape := ⟨2, ![512, 128]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S1024x4x1408, .bf16⟩
  | .hbm, ⟨3, _⟩ => ⟨S4x1024x1408, .bf16⟩
  | .hbm, ⟨4, _⟩ => ⟨S4096x2816, .bf16⟩
  | .hbm, ⟨5, _⟩ => ⟨S4096x2816, .bf16⟩
  | .hbm, ⟨6, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .bf16⟩
  | .hbm, ⟨8, _⟩ => ⟨S4096x2816, .bf16⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel7.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S1024x3264 : Shape := ⟨2, ![1024, 3264]⟩
abbrev S1024x512 : Shape := ⟨2, ![1024, 512]⟩
abbrev S1024x704 : Shape := ⟨2, ![1024, 704]⟩
abbrev S_ : Shape := ⟨0, ![]⟩
abbrev S1024x64 : Shape := ⟨2, ![1024, 64]⟩
abbrev S1024x768 : Shape := ⟨2, ![1024, 768]⟩
abbrev S1024x2048 : Shape := ⟨2, ![1024, 2048]⟩
abbrev S4096x768 : Shape := ⟨2, ![4096, 768]⟩
abbrev S4096x512 : Shape := ⟨2, ![4096, 512]⟩
abbrev S4096x2048 : Shape := ⟨2, ![4096, 2048]⟩
abbrev S512x1024 : Shape := ⟨2, ![512, 1024]⟩
abbrev S512x768 : Shape := ⟨2, ![512, 768]⟩
abbrev S512x512 : Shape := ⟨2, ![512, 512]⟩
abbrev S512x2048 : Shape := ⟨2, ![512, 2048]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x3264, .bf16⟩
  | .hbm, ⟨2, _⟩ => ⟨S1024x512, .bf16⟩
  | .hbm, ⟨3, _⟩ => ⟨S1024x704, .bf16⟩
  | .hbm, ⟨4, _⟩ => ⟨S_, .bf16⟩
  | .hbm, ⟨5, _⟩ => ⟨S1024x64, .bf16⟩
  | .hbm, ⟨6, _⟩ => ⟨S1024x768, .bf16⟩
  | .hbm, ⟨7, _⟩ => ⟨S1024x2048, .bf16⟩
  | .hbm, ⟨8, _⟩ => ⟨S4096x768, .f32⟩
  | .hbm, ⟨9, _⟩ => ⟨S4096x512, .f32⟩
  | .hbm, ⟨10, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1024x512, .bf16⟩
  | .local _ .vmem, ⟨4, _⟩ => ⟨S1024x2048, .bf16⟩
  | .local _ .vmem, ⟨5, _⟩ => ⟨S512x768, .f32⟩
  | .local _ .vmem, ⟨6, _⟩ => ⟨S512x768, .f32⟩
  | .local _ .vmem, ⟨7, _⟩ => ⟨S512x512, .f32⟩
  | .local _ .vmem, ⟨8, _⟩ => ⟨S512x512, .f32⟩
  | .local _ .vmem, ⟨9, _⟩ => ⟨S512x2048, .bf16⟩
  | .local _ .vmem, ⟨10, _⟩ => ⟨S512x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S4096x1024 : Shape := ⟨2, ![4096, 1024]⟩
abbrev S1024x3264 : Shape := ⟨2, ![1024, 3264]⟩
abbrev S4096x3264 : Shape := ⟨2, ![4096, 3264]⟩
abbrev S4096x512 : Shape := ⟨2, ![4096, 512]⟩
abbrev S4096x704 : Shape := ⟨2, ![4096, 704]⟩
abbrev S4096x2048 : Shape := ⟨2, ![4096, 2048]⟩
abbrev S_ : Shape := ⟨0, ![]⟩
abbrev S4096x768 : Shape := ⟨2, ![4096, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3264, .bf16⟩
  | .hbm, ⟨2, _⟩ => ⟨S4096x1024, .f32⟩
  | .hbm, ⟨3, _⟩ => ⟨S1024x3264, .f32⟩
  | .hbm, ⟨4, _⟩ => ⟨S4096x3264, .f32⟩
  | .hbm, ⟨5, _⟩ => ⟨S4096x512, .f32⟩
  | .hbm, ⟨6, _⟩ => ⟨S4096x704, .f32⟩
  | .hbm, ⟨7, _⟩ => ⟨S4096x2048, .f32⟩
  | .hbm, ⟨8, _⟩ => ⟨S_, .i32⟩
  | .hbm, ⟨9, _⟩ => ⟨S_, .f32⟩
  | .hbm, ⟨10, _⟩ => ⟨S4096x768, .f32⟩
  | .hbm, ⟨11, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel9.lean ====
abbrev S4096x768 : Shape := ⟨2, ![4096, 768]⟩
abbrev S4096x512 : Shape := ⟨2, ![4096, 512]⟩
abbrev S4096x2048 : Shape := ⟨2, ![4096, 2048]⟩
abbrev S1024x3264 : Shape := ⟨2, ![1024, 3264]⟩
abbrev S4096x1024 : Shape := ⟨2, ![4096, 1024]⟩
abbrev S1024 : Shape := ⟨1, ![1024]⟩
abbrev S1024x512 : Shape := ⟨2, ![1024, 512]⟩
abbrev S1024x704 : Shape := ⟨2, ![1024, 704]⟩
abbrev S_ : Shape := ⟨0, ![]⟩
abbrev S1024x64 : Shape := ⟨2, ![1024, 64]⟩
abbrev S1024x768 : Shape := ⟨2, ![1024, 768]⟩
abbrev S1024x2048 : Shape := ⟨2, ![1024, 2048]⟩
abbrev S1x1024 : Shape := ⟨2, ![1, 1024]⟩
abbrev S512x768 : Shape := ⟨2, ![512, 768]⟩
abbrev S512x512 : Shape := ⟨2, ![512, 512]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 17
  | .smem => 0
  | _ => 0

abbrev bufTy : (tb : Table) → Fin (tcTables nBuf tb) → BufTy
  | .hbm, ⟨0, _⟩ => ⟨S4096x768, .bf16⟩
  | .hbm, ⟨1, _⟩ => ⟨S4096x512, .bf16⟩
  | .hbm, ⟨2, _⟩ => ⟨S4096x2048, .bf16⟩
  | .hbm, ⟨3, _⟩ => ⟨S1024x3264, .bf16⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S1024x512, .bf16⟩
  | .hbm, ⟨8, _⟩ => ⟨S1024x704, .bf16⟩
  | .hbm, ⟨9, _⟩ => ⟨S_, .bf16⟩
  | .hbm, ⟨10, _⟩ => ⟨S1024x64, .bf16⟩
  | .hbm, ⟨11, _⟩ => ⟨S1024x768, .bf16⟩
  | .hbm, ⟨12, _⟩ => ⟨S1024x2048, .bf16⟩
  | .hbm, ⟨13, _⟩ => ⟨S1x1024, .f32⟩
  | .hbm, ⟨14, _⟩ => ⟨S4096x1024, .f32⟩
  | .hbm, ⟨15, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S1024x768, .bf16⟩
  | .local _ .vmem, ⟨7, _⟩ => ⟨S1024x512, .bf16⟩
  | .local _ .vmem, ⟨8, _⟩ => ⟨S1024x2048, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference9Ideal.lean ====
abbrev S4096x768 : Shape := ⟨2, ![4096, 768]⟩
abbrev S4096x512 : Shape := ⟨2, ![4096, 512]⟩
abbrev S4096x2048 : Shape := ⟨2, ![4096, 2048]⟩
abbrev S1024x3264 : Shape := ⟨2, ![1024, 3264]⟩
abbrev S4096x1024 : Shape := ⟨2, ![4096, 1024]⟩
abbrev S1024 : Shape := ⟨1, ![1024]⟩
abbrev S4096x704 : Shape := ⟨2, ![4096, 704]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3264 : Shape := ⟨2, ![4096, 3264]⟩

abbrev nBuf : Space → Nat
  | .hbm => 65
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x512, .bf16⟩
  | .hbm, ⟨2, _⟩ => ⟨S4096x2048, .bf16⟩
  | .hbm, ⟨3, _⟩ => ⟨S1024x3264, .bf16⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S1024x3264, .f32⟩
  | .hbm, ⟨8, _⟩ => ⟨S4096x704, .bf16⟩
  | .hbm, ⟨9, _⟩ => ⟨S4096x704, .f32⟩
  | .hbm, ⟨10, _⟩ => ⟨S4096x512, .f32⟩
  | .hbm, ⟨11, _⟩ => ⟨S4096x2048, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x3264, .f32⟩
  | .hbm, ⟨33, _⟩ => ⟨S4096x512, .f32⟩
  | .hbm, ⟨34, _⟩ => ⟨S4096x704, .f32⟩
  | .hbm, ⟨35, _⟩ => ⟨S4096x2048, .f32⟩
  | .hbm, ⟨36, _⟩ => ⟨S4096x3264, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S1x1024, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S4096x2048 : Shape := ⟨2, ![4096, 2048]⟩
abbrev S2048 : Shape := ⟨1, ![2048]⟩
abbrev S1x2048 : Shape := ⟨2, ![1, 2048]⟩
abbrev S512x1024 : Shape := ⟨2, ![512, 1024]⟩
abbrev S512x2048 : Shape := ⟨2, ![512, 2048]⟩
abbrev S1x1024 : Shape := ⟨2, ![1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x2048, .bf16⟩
  | .hbm, ⟨3, _⟩ => ⟨S2048, .f32⟩
  | .hbm, ⟨4, _⟩ => ⟨S4096x1024, .bf16⟩
  | .hbm, ⟨5, _⟩ => ⟨S1x2048, .f32⟩
  | .hbm, ⟨6, _⟩ => ⟨S4096x1024, .bf16⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x2048, .bf16⟩
  | .local _ .vmem, ⟨4, _⟩ => ⟨S512x2048, .bf16⟩
  | .local _ .vmem, ⟨5, _⟩ => ⟨S1x2048, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S4096x1024 : Shape := ⟨2, ![4096, 1024]⟩
abbrev S1024x1024 : Shape := ⟨2, ![1024, 1024]⟩
abbrev S4096x2048 : Shape := ⟨2, ![4096, 2048]⟩
abbrev S2048 : Shape := ⟨1, ![2048]⟩
abbrev S1x2048 : Shape := ⟨2, ![1, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x2048, .bf16⟩
  | .hbm, ⟨3, _⟩ => ⟨S2048, .f32⟩
  | .hbm, ⟨4, _⟩ => ⟨S4096x1024, .bf16⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x2048, .f32⟩
  | .hbm, ⟨9, _⟩ => ⟨S4096x1024, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | .hbm, ⟨27, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S4096x2048 : Shape := ⟨2, ![4096, 2048]⟩
abbrev S2048 : Shape := ⟨1, ![2048]⟩
abbrev S1x2048 : Shape := ⟨2, ![1, 2048]⟩
abbrev S512x1024 : Shape := ⟨2, ![512, 1024]⟩
abbrev S512x2048 : Shape := ⟨2, ![512, 2048]⟩
abbrev S1x1024 : Shape := ⟨2, ![1, 1024]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x2048, .bf16⟩
  | .hbm, ⟨3, _⟩ => ⟨S2048, .f32⟩
  | .hbm, ⟨4, _⟩ => ⟨S4096x1024, .bf16⟩
  | .hbm, ⟨5, _⟩ => ⟨S4096x1024, .bf16⟩
  | .hbm, ⟨6, _⟩ => ⟨S1x2048, .f32⟩
  | .hbm, ⟨7, _⟩ => ⟨S4096x1024, .bf16⟩
  | .hbm, ⟨8, _⟩ => ⟨S4096x1024, .bf16⟩
  | .hbm, ⟨9, _⟩ => ⟨S4096x2048, .bf16⟩
  | .hbm, ⟨10, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x2048, .bf16⟩
  | .local _ .vmem, ⟨4, _⟩ => ⟨S512x2048, .bf16⟩
  | .local _ .vmem, ⟨5, _⟩ => ⟨S1x2048, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | .local _ .vmem, ⟨16, _⟩ => ⟨S1x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference11Ideal.lean ====
abbrev S4096x1024 : Shape := ⟨2, ![4096, 1024]⟩
abbrev S1024x1024 : Shape := ⟨2, ![1024, 1024]⟩
abbrev S4096x2048 : Shape := ⟨2, ![4096, 2048]⟩
abbrev S2048 : Shape := ⟨1, ![2048]⟩
abbrev S1x2048 : Shape := ⟨2, ![1, 2048]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x2048, .bf16⟩
  | .hbm, ⟨3, _⟩ => ⟨S2048, .f32⟩
  | .hbm, ⟨4, _⟩ => ⟨S4096x1024, .bf16⟩
  | .hbm, ⟨5, _⟩ => ⟨S4096x1024, .bf16⟩
  | .hbm, ⟨6, _⟩ => ⟨S1024x1024, .f32⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S_, .f32⟩
  | .hbm, ⟨42, _⟩ => ⟨S2048, .f32⟩
  | .hbm, ⟨43, _⟩ => ⟨S4096x1024, .bf16⟩
  | .hbm, ⟨44, _⟩ => ⟨S4096x1024, .bf16⟩
  | .hbm, ⟨45, _⟩ => ⟨S4096x2048, .bf16⟩
  | .hbm, ⟨46, _⟩ => ⟨S1x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel14.lean ====
abbrev S4096x1408 : Shape := ⟨2, ![4096, 1408]⟩
abbrev S128x1408 : Shape := ⟨2, ![128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S_, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S4096x384 : Shape := ⟨2, ![4096, 384]⟩
abbrev S384x2048 : Shape := ⟨2, ![384, 2048]⟩
abbrev S4096x2048 : Shape := ⟨2, ![4096, 2048]⟩
abbrev S1024x384 : Shape := ⟨2, ![1024, 384]⟩
abbrev S384x1024 : Shape := ⟨2, ![384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x384, .bf16⟩
  | .hbm, ⟨1, _⟩ => ⟨S384x2048, .bf16⟩
  | .hbm, ⟨2, _⟩ => ⟨S4096x2048, .f32⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S384x1024, .bf16⟩
  | .local _ .vmem, ⟨4, _⟩ => ⟨S1024x1024, .f32⟩
  | .local _ .vmem, ⟨5, _⟩ => ⟨S1024x1024, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x384 : Shape := ⟨2, ![4096, 384]⟩
abbrev S384x2048 : Shape := ⟨2, ![384, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S384x2048, .bf16⟩
  | .hbm, ⟨2, _⟩ => ⟨S4096x384, .f32⟩
  | .hbm, ⟨3, _⟩ => ⟨S384x2048, .f32⟩
  | .hbm, ⟨4, _⟩ => ⟨S4096x2048, .f32⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S4096x2048 : Shape := ⟨2, ![4096, 2048]⟩
abbrev S384x2048 : Shape := ⟨2, ![384, 2048]⟩
abbrev S4096x384 : Shape := ⟨2, ![4096, 384]⟩
abbrev S1024x2048 : Shape := ⟨2, ![1024, 2048]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S384x2048, .bf16⟩
  | .hbm, ⟨2, _⟩ => ⟨S4096x384, .f32⟩
  | .local _ .vmem, ⟨0, _⟩ => ⟨S1024x2048, .bf16⟩
  | .local _ .vmem, ⟨1, _⟩ => ⟨S1024x2048, .bf16⟩
  | .local _ .vmem, ⟨2, _⟩ => ⟨S384x2048, .bf16⟩
  | .local _ .vmem, ⟨3, _⟩ => ⟨S1024x384, .f32⟩
  | .local _ .vmem, ⟨4, _⟩ => ⟨S1024x384, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x2048 : Shape := ⟨2, ![4096, 2048]⟩
abbrev S384x2048 : Shape := ⟨2, ![384, 2048]⟩
abbrev S_ : Shape := ⟨0, ![]⟩
abbrev S4096x384 : Shape := ⟨2, ![4096, 384]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S384x2048, .bf16⟩
  | .hbm, ⟨2, _⟩ => ⟨S384x2048, .f32⟩
  | .hbm, ⟨3, _⟩ => ⟨S_, .f32⟩
  | .hbm, ⟨4, _⟩ => ⟨S4096x384, .f32⟩
  | .hbm, ⟨5, _⟩ => ⟨S4096x2048, .f32⟩
  | .hbm, ⟨6, _⟩ => ⟨S4096x2048, .f32⟩
  | .hbm, ⟨7, _⟩ => ⟨S4096x384, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x2048, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x256, .f32⟩
  | .hbm, ⟨3, _⟩ => ⟨S256x2048, .f32⟩
  | .hbm, ⟨4, _⟩ => ⟨S4096x2048, .f32⟩
  | .hbm, ⟨5, _⟩ => ⟨S4096x2048, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel22.lean ====
abbrev S4096x2048 : Shape := ⟨2, ![4096, 2048]⟩
abbrev S256x2048 : Shape := ⟨2, ![256, 2048]⟩
abbrev S4096x256 : Shape := ⟨2, ![4096, 256]⟩
abbrev S1024x2048 : Shape := ⟨2, ![1024, 2048]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S4096x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x2048 : Shape := ⟨2, ![4096, 2048]⟩
abbrev S256x2048 : Shape := ⟨2, ![256, 2048]⟩
abbrev S_ : Shape := ⟨0, ![]⟩
abbrev S4096x256 : Shape := ⟨2, ![4096, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S256x2048, .f32⟩
  | .hbm, ⟨3, _⟩ => ⟨S_, .f32⟩
  | .hbm, ⟨4, _⟩ => ⟨S4096x256, .f32⟩
  | .hbm, ⟨5, _⟩ => ⟨S4096x2048, .f32⟩
  | .hbm, ⟨6, _⟩ => ⟨S4096x2048, .f32⟩
  | .hbm, ⟨7, _⟩ => ⟨S4096x256, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S512x1024, .f32⟩
  | .hbm, ⟨4, _⟩ => ⟨S4096x1024, .f32⟩
  | .hbm, ⟨5, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel24.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S512x1024, .f32⟩
  | .hbm, ⟨3, _⟩ => ⟨S_, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S4096x384 : Shape := ⟨2, ![4096, 384]⟩
abbrev S4096x2048 : Shape := ⟨2, ![4096, 2048]⟩
abbrev S384x2048 : Shape := ⟨2, ![384, 2048]⟩
abbrev S2048x384 : Shape := ⟨2, ![2048, 384]⟩
abbrev S2048x1024 : Shape := ⟨2, ![2048, 1024]⟩
abbrev S384x1024 : Shape := ⟨2, ![384, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x384, .bf16⟩
  | .hbm, ⟨1, _⟩ => ⟨S4096x2048, .bf16⟩
  | .hbm, ⟨2, _⟩ => ⟨S384x2048, .bf16⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S2048x1024, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x384 : Shape := ⟨2, ![4096, 384]⟩
abbrev S4096x2048 : Shape := ⟨2, ![4096, 2048]⟩
abbrev S_ : Shape := ⟨0, ![]⟩
abbrev S384x2048 : Shape := ⟨2, ![384, 2048]⟩
abbrev S2048x384 : Shape := ⟨2, ![2048, 384]⟩

abbrev nBuf : Space → Nat
  | .hbm => 10
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x2048, .bf16⟩
  | .hbm, ⟨2, _⟩ => ⟨S4096x384, .f32⟩
  | .hbm, ⟨3, _⟩ => ⟨S_, .f32⟩
  | .hbm, ⟨4, _⟩ => ⟨S384x2048, .f32⟩
  | .hbm, ⟨5, _⟩ => ⟨S4096x2048, .f32⟩
  | .hbm, ⟨6, _⟩ => ⟨S4096x2048, .f32⟩
  | .hbm, ⟨7, _⟩ => ⟨S2048x384, .f32⟩
  | .hbm, ⟨8, _⟩ => ⟨S384x2048, .f32⟩
  | .hbm, ⟨9, _⟩ => ⟨S384x2048, .bf16⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel26.lean ====
abbrev S4096x256 : Shape := ⟨2, ![4096, 256]⟩
abbrev S4096x2048 : Shape := ⟨2, ![4096, 2048]⟩
abbrev S256x2048 : Shape := ⟨2, ![256, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S4096x256, .f32⟩
  | .hbm, ⟨3, _⟩ => ⟨S_, .f32⟩
  | .hbm, ⟨4, _⟩ => ⟨S256x2048, .f32⟩
  | .hbm, ⟨5, _⟩ => ⟨S4096x2048, .f32⟩
  | .hbm, ⟨6, _⟩ => ⟨S4096x2048, .f32⟩
  | .hbm, ⟨7, _⟩ => ⟨S2048x256, .f32⟩
  | .hbm, ⟨8, _⟩ => ⟨S256x2048, .f32⟩
  | .hbm, ⟨9, _⟩ => ⟨S256x2048, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel27.lean ====
abbrev S4096x1024 : Shape := ⟨2, ![4096, 1024]⟩
abbrev S4096x768 : Shape := ⟨2, ![4096, 768]⟩
abbrev S1024x768 : Shape := ⟨2, ![1024, 768]⟩
abbrev S2048x1024 : Shape := ⟨2, ![2048, 1024]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference27Ideal.lean ====
abbrev S4096x1024 : Shape := ⟨2, ![4096, 1024]⟩
abbrev S4096x768 : Shape := ⟨2, ![4096, 768]⟩
abbrev S_ : Shape := ⟨0, ![]⟩
abbrev S1024x768 : Shape := ⟨2, ![1024, 768]⟩
abbrev S768x1024 : Shape := ⟨2, ![768, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S4096x1024, .f32⟩
  | .hbm, ⟨3, _⟩ => ⟨S_, .f32⟩
  | .hbm, ⟨4, _⟩ => ⟨S1024x768, .f32⟩
  | .hbm, ⟨5, _⟩ => ⟨S4096x768, .f32⟩
  | .hbm, ⟨6, _⟩ => ⟨S4096x768, .f32⟩
  | .hbm, ⟨7, _⟩ => ⟨S768x1024, .f32⟩
  | .hbm, ⟨8, _⟩ => ⟨S1024x768, .f32⟩
  | .hbm, ⟨9, _⟩ => ⟨S1024x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel28.lean ====
abbrev S4096x1024 : Shape := ⟨2, ![4096, 1024]⟩
abbrev S4096x512 : Shape := ⟨2, ![4096, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference28Ideal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1024, .f32⟩
  | .hbm, ⟨3, _⟩ => ⟨S_, .f32⟩
  | .hbm, ⟨4, _⟩ => ⟨S1024x512, .f32⟩
  | .hbm, ⟨5, _⟩ => ⟨S4096x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel29.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference29Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S_, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Frames2.lean ====
/- The claims about the runs of the calls beside the attention. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Pre_finite4
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Reference29Ideal.Run
public import Idealize.ShloMosaic.Lib.Quiescent

@[expose] public section

noncomputable section

namespace Cert.Attn

open Idealize.ShloMosaic Idealize.SL.Sem

/-! ## The weight gradient of the first product -/

theorem frame_p2 : quiescent_Kernel2 := fun m ρ _ => Kernel2.Gen.frame m ρ

theorem frame_pi2 : quiescent_Kernel2Ideal := fun m ρ _ => Kernel2Ideal.Gen.frame m ρ

theorem frame_ri2 : quiescent_Reference2Ideal := fun m ρ _ =>
  (θ_run Reference2Ideal.defs _ _).mono (fun r h => ⟨fun c => (h c).2, sem_eq_zero_of_no_sems (by decide) r.2⟩)
    (Reference2Ideal.Value.run (F := Ideal) m ρ)

/-! ## The input gradient of the first product -/

theorem frame_p3 : quiescent_Kernel3 := fun m ρ _ => Kernel3.Gen.frame m ρ

theorem frame_pi3 : quiescent_Kernel3Ideal := fun m ρ _ => Kernel3Ideal.Gen.frame m ρ

theorem frame_ri3 : quiescent_Reference3Ideal := fun m ρ _ =>
  (θ_run Reference3Ideal.defs _ _).mono (fun r h => ⟨fun c => (h c).2.2, sem_eq_zero_of_no_sems (by decide) r.2⟩)
    (Reference3Ideal.Value.run (F := Ideal) m ρ)

/-! ## The input gradient of the second product -/

theorem frame_p4 : quiescent_Kernel4 := fun m ρ _ => Kernel4.Gen.frame m ρ

theorem frame_pi4 : quiescent_Kernel4Ideal := fun m ρ _ => Kernel4Ideal.Gen.frame m ρ

theorem frame_ri4 : quiescent_Reference4Ideal := fun m ρ _ =>
  (θ_run Reference4Ideal.defs _ _).mono (fun r h => ⟨fun c => (h c).2.2, sem_eq_zero_of_no_sems (by decide) r.2⟩)
    (Reference4Ideal.Value.run (F := Ideal) m ρ)

theorem frame_pi4_finite : quiescent_Kernel4Ideal_pre_finite4 := fun m ρ _ => Kernel4Ideal.Gen.frame m ρ

theorem frame_ri4_finite : quiescent_Reference4Ideal_pre_finite4 := fun m ρ _ =>
  (θ_run Reference4Ideal.defs _ _).mono (fun r h => ⟨fun c => (h c).2.2, sem_eq_zero_of_no_sems (by decide) r.2⟩)
    (Reference4Ideal.Value.run (F := Ideal) m ρ)

/-! ## The weight gradient of the second product -/

theorem frame_p5 : quiescent_Kernel5 := fun m ρ _ => Kernel5.Gen.frame m ρ

theorem frame_pi5 : quiescent_Kernel5Ideal := fun m ρ _ => Kernel5Ideal.Gen.frame m ρ

theorem frame_ri5 : quiescent_Reference5Ideal := fun m ρ _ =>
  (θ_run Reference5Ideal.defs _ _).mono (fun r h => ⟨fun c => (h c).2, sem_eq_zero_of_no_sems (by decide) r.2⟩)
    (Reference5Ideal.Value.run (F := Ideal) m ρ)

/-! ## The first product with its activation -/

theorem frame_p6 : quiescent_Kernel6 := fun m ρ _ => Kernel6.Gen.frame m ρ

theorem frame_pi6 : quiescent_Kernel6Ideal := fun m ρ _ => Kernel6Ideal.Gen.frame m ρ

theorem frame_ri6 : quiescent_Reference6Ideal := fun m ρ _ =>
  (θ_run Reference6Ideal.defs _ _).mono (fun r h => ⟨fun c => (h c).2.2.2, sem_eq_zero_of_no_sems (by decide) r.2⟩)
    (Reference6Ideal.Value.run (F := Ideal) m ρ)

/-! ## The second product with its residual -/

theorem frame_p7 : quiescent_Kernel7 := fun m ρ _ => Kernel7.Gen.frame m ρ

theorem frame_pi7 : quiescent_Kernel7Ideal := fun m ρ _ => Kernel7Ideal.Gen.frame m ρ

theorem frame_ri7 : quiescent_Reference7Ideal := fun m ρ _ =>
  (θ_run Reference7Ideal.defs _ _).mono (fun r h => ⟨fun c => (h c).2, sem_eq_zero_of_no_sems (by decide) r.2⟩)
    (Reference7Ideal.Value.run (F := Ideal) m ρ)

/-! ## The mixer's input products -/

theorem frame_p8 : quiescent_Kernel8 := fun m ρ _ => Kernel8.Gen.frame m ρ

theorem frame_pi8 : quiescent_Kernel8Ideal := fun m ρ _ => Kernel8Ideal.Gen.frame m ρ

theorem frame_ri8 : quiescent_Reference8Ideal := fun m ρ _ =>
  (θ_run Reference8Ideal.defs _ _).mono (fun r h => ⟨fun c => (h c).2.2.2, sem_eq_zero_of_no_sems (by decide) r.2⟩)
    (Reference8Ideal.Value.run (F := Ideal) m ρ)

/-! ## The mixer's input gradient -/

theorem frame_p9 : quiescent_Kernel9 := fun m ρ _ => Kernel9.Gen.frame m ρ

theorem frame_pi9 : quiescent_Kernel9Ideal := fun m ρ _ => Kernel9Ideal.Gen.frame m ρ

theorem frame_ri9 : quiescent_Reference9Ideal := fun m ρ _ =>
  (θ_run Reference9Ideal.defs _ _).mono (fun r h => ⟨fun c => (h c).2.2, sem_eq_zero_of_no_sems (by decide) r.2⟩)
    (Reference9Ideal.Value.run (F := Ideal) m ρ)

/-! ## The attention's output product and the gates -/

theorem frame_p10 : quiescent_Kernel10 := fun m ρ _ => Kernel10.Gen.frame m ρ

theorem frame_pi10 : quiescent_Kernel10Ideal := fun m ρ _ => Kernel10Ideal.Gen.frame m ρ

theorem frame_ri10 : quiescent_Reference10Ideal := fun m ρ _ =>
  (θ_run Reference10Ideal.defs _ _).mono (fun r h => ⟨fun c => (h c).2.2, sem_eq_zero_of_no_sems (by decide) r.2⟩)
    (Reference10Ideal.Value.run (F := Ideal) m ρ)

/-! ## The gates' and branches' gradients -/

theorem frame_p11 : quiescent_Kernel11 := fun m ρ _ => Kernel11.Gen.frame m ρ

theorem frame_pi11 : quiescent_Kernel11Ideal := fun m ρ _ => Kernel11Ideal.Gen.frame m ρ

theorem frame_ri11 : quiescent_Reference11Ideal := fun m ρ _ =>
  (θ_run Reference11Ideal.defs _ _).mono (fun r h => ⟨fun c => (h c).2.2.2.2, sem_eq_zero_of_no_sems (by decide) r.2⟩)
    (Reference11Ideal.Value.run (F := Ideal) m ρ)

/-! ## The mixer's output product -/

theorem frame_p12 : quiescent_Kernel12 := fun m ρ _ => Kernel12.Gen.frame m ρ

theorem frame_pi12 : quiescent_Kernel12Ideal := fun m ρ _ => Kernel12Ideal.Gen.frame m ρ

theorem frame_ri12 : quiescent_Reference12Ideal := fun m ρ _ =>
  (θ_run Reference12Ideal.defs _ _).mono (fun r h => ⟨fun c => (h c).2, sem_eq_zero_of_no_sems (by decide) r.2⟩)
    (Reference12Ideal.Value.run (F := Ideal) m ρ)

/-! ## The norm -/

theorem frame_p13 : quiescent_Kernel13 := fun m ρ _ => Kernel13.Gen.frame m ρ

theorem frame_pi13 : quiescent_Kernel13Ideal := fun m ρ _ => Kernel13Ideal.Gen.frame m ρ

theorem frame_ri13 : quiescent_Reference13Ideal := fun m ρ _ =>
  (θ_run Reference13Ideal.defs _ _).mono (fun r h => ⟨fun c => (h c).2, sem_eq_zero_of_no_sems (by decide) r.2⟩)
    (Reference13Ideal.Value.run (F := Ideal) m ρ)

/-! ## The optimiser's step -/

theorem frame_p14 : quiescent_Kernel14 := fun m ρ _ => Kernel14.Gen.frame m ρ

theorem frame_pi14 : quiescent_Kernel14Ideal := fun m ρ _ => Kernel14Ideal.Gen.frame m ρ

theorem frame_ri14 : quiescent_Reference14Ideal := fun m ρ _ =>
  (θ_run Reference14Ideal.defs _ _).mono (fun r h => ⟨fun c => (h c).2.2.2.2, sem_eq_zero_of_no_sems (by decide) r.2⟩)
    (Reference14Ideal.Value.run (F := Ideal) m ρ)

/-! ## The weight gradient of the output product -/

theorem frame_p15 : quiescent_Kernel15 := fun m ρ _ => Kernel15.Gen.frame m ρ

theorem frame_pi15 : quiescent_Kernel15Ideal := fun m ρ _ => Kernel15Ideal.Gen.frame m ρ

theorem frame_ri15 : quiescent_Reference15Ideal := fun m ρ _ =>
  (θ_run Reference15Ideal.defs _ _).mono (fun r h => ⟨fun c => (h c).2, sem_eq_zero_of_no_sems (by decide) r.2⟩)
    (Reference15Ideal.Value.run (F := Ideal) m ρ)

/-! ## The weight gradient of the gates' product -/

theorem frame_p16 : quiescent_Kernel16 := fun m ρ _ => Kernel16.Gen.frame m ρ

theorem frame_pi16 : quiescent_Kernel16Ideal := fun m ρ _ => Kernel16Ideal.Gen.frame m ρ

theorem frame_ri16 : quiescent_Reference16Ideal := fun m ρ _ =>
  (θ_run Reference16Ideal.defs _ _).mono (fun r h => ⟨fun c => (h c).2, sem_eq_zero_of_no_sems (by decide) r.2⟩)
    (Reference16Ideal.Value.run (F := Ideal) m ρ)

/-! ## The weight gradient of the attention's output product -/

theorem frame_p17 : quiescent_Kernel17 := fun m ρ _ => Kernel17.Gen.frame m ρ

theorem frame_pi17 : quiescent_Kernel17Ideal := fun m ρ _ => Kernel17Ideal.Gen.frame m ρ

theorem frame_ri17 : quiescent_Reference17Ideal := fun m ρ _ =>
  (θ_run Reference17Ideal.defs _ _).mono (fun r h => ⟨fun c => (h c).2, sem_eq_zero_of_no_sems (by decide) r.2⟩)
    (Reference17Ideal.Value.run (F := Ideal) m ρ)

/-! ## The input gradient of the attention's output product -/

theorem frame_p18 : quiescent_Kernel18 := fun m ρ _ => Kernel18.Gen.frame m ρ

theorem frame_pi18 : quiescent_Kernel18Ideal := fun m ρ _ => Kernel18Ideal.Gen.frame m ρ

theorem frame_ri18 : quiescent_Reference18Ideal := fun m ρ _ =>
  (θ_run Reference18Ideal.defs _ _).mono (fun r h => ⟨fun c => (h c).2, sem_eq_zero_of_no_sems (by decide) r.2⟩)
    (Reference18Ideal.Value.run (F := Ideal) m ρ)

/-! ## The query's product -/

theorem frame_p19 : quiescent_Kernel19 := fun m ρ _ => Kernel19.Gen.frame m ρ

theorem frame_pi19 : quiescent_Kernel19Ideal := fun m ρ _ => Kernel19Ideal.Gen.frame m ρ

theorem frame_ri19 : quiescent_Reference19Ideal := fun m ρ _ =>
  (θ_run Reference19Ideal.defs _ _).mono (fun r h => ⟨fun c => (h c).2, sem_eq_zero_of_no_sems (by decide) r.2⟩)
    (Reference19Ideal.Value.run (F := Ideal) m ρ)

/-! ## The query's input gradient -/

theorem frame_p20 : quiescent_Kernel20 := fun m ρ _ => Kernel20.Gen.frame m ρ

theorem frame_pi20 : quiescent_Kernel20Ideal := fun m ρ _ => Kernel20Ideal.Gen.frame m ρ

theorem frame_ri20 : quiescent_Reference20Ideal := fun m ρ _ =>
  (θ_run Reference20Ideal.defs _ _).mono (fun r h => ⟨fun c => (h c).2, sem_eq_zero_of_no_sems (by decide) r.2⟩)
    (Reference20Ideal.Value.run (F := Ideal) m ρ)

/-! ## The keys' and values' product -/

theorem frame_p21 : quiescent_Kernel21 := fun m ρ _ => Kernel21.Gen.frame m ρ

theorem frame_pi21 : quiescent_Kernel21Ideal := fun m ρ _ => Kernel21Ideal.Gen.frame m ρ

theorem frame_ri21 : quiescent_Reference21Ideal := fun m ρ _ =>
  (θ_run Reference21Ideal.defs _ _).mono (fun r h => ⟨fun c => (h c).2, sem_eq_zero_of_no_sems (by decide) r.2⟩)
    (Reference21Ideal.Value.run (F := Ideal) m ρ)

/-! ## The keys' and values' input gradient -/

theorem frame_p22 : quiescent_Kernel22 := fun m ρ _ => Kernel22.Gen.frame m ρ

theorem frame_pi22 : quiescent_Kernel22Ideal := fun m ρ _ => Kernel22Ideal.Gen.frame m ρ

theorem frame_ri22 : quiescent_Reference22Ideal := fun m ρ _ =>
  (θ_run Reference22Ideal.defs _ _).mono (fun r h => ⟨fun c => (h c).2, sem_eq_zero_of_no_sems (by decide) r.2⟩)
    (Reference22Ideal.Value.run (F := Ideal) m ρ)

/-! ## The pool's output product -/

theorem frame_p23 : quiescent_Kernel23 := fun m ρ _ => Kernel23.Gen.frame m ρ

theorem frame_pi23 : quiescent_Kernel23Ideal := fun m ρ _ => Kernel23Ideal.Gen.frame m ρ

theorem frame_ri23 : quiescent_Reference23Ideal := fun m ρ _ =>
  (θ_run Reference23Ideal.defs _ _).mono (fun r h => ⟨fun c => (h c).2, sem_eq_zero_of_no_sems (by decide) r.2⟩)
    (Reference23Ideal.Value.run (F := Ideal) m ρ)

/-! ## The pool's output product's input gradient -/

theorem frame_p24 : quiescent_Kernel24 := fun m ρ _ => Kernel24.Gen.frame m ρ

theorem frame_pi24 : quiescent_Kernel24Ideal := fun m ρ _ => Kernel24Ideal.Gen.frame m ρ

theorem frame_ri24 : quiescent_Reference24Ideal := fun m ρ _ =>
  (θ_run Reference24Ideal.defs _ _).mono (fun r h => ⟨fun c => (h c).2, sem_eq_zero_of_no_sems (by decide) r.2⟩)
    (Reference24Ideal.Value.run (F := Ideal) m ρ)

/-! ## The weight gradient of the query's product -/

theorem frame_p25 : quiescent_Kernel25 := fun m ρ _ => Kernel25.Gen.frame m ρ

theorem frame_pi25 : quiescent_Kernel25Ideal := fun m ρ _ => Kernel25Ideal.Gen.frame m ρ

theorem frame_ri25 : quiescent_Reference25Ideal := fun m ρ _ =>
  (θ_run Reference25Ideal.defs _ _).mono (fun r h => ⟨fun c => (h c).2, sem_eq_zero_of_no_sems (by decide) r.2⟩)
    (Reference25Ideal.Value.run (F := Ideal) m ρ)

/-! ## The weight gradient of the keys' and values' product -/

theorem frame_p26 : quiescent_Kernel26 := fun m ρ _ => Kernel26.Gen.frame m ρ

theorem frame_pi26 : quiescent_Kernel26Ideal := fun m ρ _ => Kernel26Ideal.Gen.frame m ρ

theorem frame_ri26 : quiescent_Reference26Ideal := fun m ρ _ =>
  (θ_run Reference26Ideal.defs _ _).mono (fun r h => ⟨fun c => (h c).2, sem_eq_zero_of_no_sems (by decide) r.2⟩)
    (Reference26Ideal.Value.run (F := Ideal) m ρ)

/-! ## The weight gradient of the latents' product -/

theorem frame_p27 : quiescent_Kernel27 := fun m ρ _ => Kernel27.Gen.frame m ρ

theorem frame_pi27 : quiescent_Kernel27Ideal := fun m ρ _ => Kernel27Ideal.Gen.frame m ρ

theorem frame_ri27 : quiescent_Reference27Ideal := fun m ρ _ =>
  (θ_run Reference27Ideal.defs _ _).mono (fun r h => ⟨fun c => (h c).2, sem_eq_zero_of_no_sems (by decide) r.2⟩)
    (Reference27Ideal.Value.run (F := Ideal) m ρ)

/-! ## The weight gradient of the pool's input product -/

theorem frame_p28 : quiescent_Kernel28 := fun m ρ _ => Kernel28.Gen.frame m ρ

theorem frame_pi28 : quiescent_Kernel28Ideal := fun m ρ _ => Kernel28Ideal.Gen.frame m ρ

theorem frame_ri28 : quiescent_Reference28Ideal := fun m ρ _ =>
  (θ_run Reference28Ideal.defs _ _).mono (fun r h => ⟨fun c => (h c).2, sem_eq_zero_of_no_sems (by decide) r.2⟩)
    (Reference28Ideal.Value.run (F := Ideal) m ρ)

/-! ## The weight gradient of the pool's output product -/

theorem frame_p29 : quiescent_Kernel29 := fun m ρ _ => Kernel29.Gen.frame m ρ

theorem frame_pi29 : quiescent_Kernel29Ideal := fun m ρ _ => Kernel29Ideal.Gen.frame m ρ

theorem frame_ri29 : quiescent_Reference29Ideal := fun m ρ _ =>
  (θ_run Reference29Ideal.defs _ _).mono (fun r h => ⟨fun c => (h c).2, sem_eq_zero_of_no_sems (by decide) r.2⟩)
    (Reference29Ideal.Value.run (F := Ideal) m ρ)

end Cert.Attn

end
-- ==== Proof.Kit.lean ====
/- Arrays of extended reals that hold real numbers, and what the operations of the kernels do to them: a rank-two array
   `A` holds a function `f` of two natural numbers when its element at `(i, j)` is the real `f i j`. -/
module

public import Idealize.ShloMosaic.Lib.MatmulPlain
public import Idealize.ShloMosaic.Lib.Pointwise
public import Idealize.ShloMosaic.Lib.Pipeline.Value
public import Idealize.ShloMosaic.Lib.WordCmp
public import Mathlib.Data.Finset.Fold
public import Idealize.ShloMosaic.PureOps.Ideal.Laws

@[expose] public section

noncomputable section

namespace Cert.Attn

open Idealize.ShloMosaic
open scoped BigOperators

/-- A rank-two shape. -/
abbrev Sh (a b : ℕ) : Shape := ⟨2, ![a, b]⟩

/-- The array `A` holds the real `f i j` at every index `(i, j)`. -/
def R2 {a b : ℕ} (A : (Sh a b).Idx → EReal) (f : ℕ → ℕ → ℝ) : Prop :=
  ∀ i : (Sh a b).Idx, A i = ((f (i 0).val (i 1).val : ℝ) : EReal)

variable {a b k : ℕ}

theorem R2.at {A : (Sh a b).Idx → EReal} {f : ℕ → ℕ → ℝ} (h : R2 A f) (i : Fin a) (j : Fin b) :
    A (ValueIdx.ix2 i j) = ((f i.val j.val : ℝ) : EReal) := h (ValueIdx.ix2 i j)

theorem lt0 (i : (Sh a b).Idx) : (i 0).val < a := (i 0).isLt
theorem lt1 (i : (Sh a b).Idx) : (i 1).val < b := (i 1).isLt

/-- Only the values at indices of the array matter. -/
theorem R2.congr {A : (Sh a b).Idx → EReal} {f g : ℕ → ℕ → ℝ} (h : R2 A f)
    (e : ∀ i j, i < a → j < b → f i j = g i j) : R2 A g := fun i => by
  rw [h i, e _ _ (lt0 i) (lt1 i)]

theorem R2.add {φ : FTy} {A B : FVec Ideal (Sh a b) φ} {f g : ℕ → ℕ → ℝ} (hA : R2 A f) (hB : R2 B g) :
    R2 (addf A B) fun i j => f i j + g i j := fun i => by
  show A i + B i = _
  rw [hA i, hB i, EReal.coe_add]

theorem R2.sub {φ : FTy} {A B : FVec Ideal (Sh a b) φ} {f g : ℕ → ℕ → ℝ} (hA : R2 A f) (hB : R2 B g) :
    R2 (subf A B) fun i j => f i j - g i j := fun i => by
  show A i - B i = _
  rw [hA i, hB i, EReal.coe_sub]

theorem R2.mul {φ : FTy} {A B : FVec Ideal (Sh a b) φ} {f g : ℕ → ℕ → ℝ} (hA : R2 A f) (hB : R2 B g) :
    R2 (mulf A B) fun i j => f i j * g i j := fun i => by
  show A i * B i = _
  rw [hA i, hB i, EReal.coe_mul]

theorem R2.div {φ : FTy} {A B : FVec Ideal (Sh a b) φ} {f g : ℕ → ℕ → ℝ} (hA : R2 A f) (hB : R2 B g)
    (hg : ∀ i j, i < a → j < b → g i j ≠ 0) : R2 (divf A B) fun i j => f i j / g i j := fun i => by
  show Ideal.div (A i) (B i) = _
  rw [hA i, hB i, Ideal.div_coe (hg _ _ (lt0 i) (lt1 i)), ← EReal.coe_mul]
  congr 1; ring

theorem R2.exp {φ : FTy} {A : FVec Ideal (Sh a b) φ} {f : ℕ → ℕ → ℝ} (hA : R2 A f) :
    R2 (exp A) fun i j => Real.exp (f i j) := fun i => by
  show Ideal.exp (A i) = _
  rw [hA i, Ideal.exp_coe]

theorem R2.log {φ : FTy} {A : FVec Ideal (Sh a b) φ} {f : ℕ → ℕ → ℝ} (hA : R2 A f)
    (hf : ∀ i j, i < a → j < b → 0 < f i j) : R2 (log A) fun i j => Real.log (f i j) := fun i => by
  show Ideal.log (A i) = _
  rw [hA i, Ideal.log_coe, if_neg (not_le.mpr (hf _ _ (lt0 i) (lt1 i)))]

theorem R2.truncf {φ ψ : FTy} {A : FVec Ideal (Sh a b) φ} {f : ℕ → ℕ → ℝ} (hA : R2 A f) (h : ψ.bits < φ.bits) :
    R2 (truncf ψ A h) f := hA

theorem R2.extf {φ ψ : FTy} {A : FVec Ideal (Sh a b) φ} {f : ℕ → ℕ → ℝ} (hA : R2 A f) (h : φ.bits < ψ.bits) :
    R2 (extf ψ A h) f := hA

theorem R2.cast {A : (Sh a b).Idx → EReal} {f : ℕ → ℕ → ℝ} (hA : R2 A f) (h : (Sh a b).ShapeCasts (Sh a b)) :
    R2 (shapeCast (Sh a b) A h) f := by rw [shapeCast_self]; exact hA

theorem R2.const {x : EReal} {r : ℝ} (h : x = (r : EReal)) : R2 (a := a) (b := b) (fun _ => x) fun _ _ => r := fun _ => h

theorem zero_f32 : Ideal.ofBits .f32 0x00000000#32 = ((0 : ℝ) : EReal) := by
  simp [Ideal.ofBits, Ideal.ieee]

theorem R2.zero : R2 (a := a) (b := b) (constant (F := Ideal) (Sh a b) .f32 0x00000000#32) fun _ _ => 0 :=
  R2.const zero_f32

theorem sum_fin_coe (n : ℕ) (g : ℕ → ℝ) : ∑ k : Fin n, ((g k.val : ℝ) : EReal) = ((∑ k ∈ Finset.range n, g k : ℝ) : EReal) := by
  rw [Finset.sum_range]
  induction n with
  | zero => simp
  | succ n ih => rw [Fin.sum_univ_castSucc, Fin.sum_univ_castSucc, EReal.coe_add]; simp only [Fin.val_castSucc, ih]

/-- A product of two matrices. -/
theorem R2.plain {M K N : ℕ} {φ₁ φ₂ : FTy} {A : FVec Ideal (Sh M K) φ₁} {B : FVec Ideal (Sh K N) φ₂} {C : FVec Ideal (Sh M N) .f32}
    {f g h : ℕ → ℕ → ℝ} (d : DotDims (Sh M K) (Sh K N) (Sh M N)) (hd : d = DotDims.plain M K N) (p : Option ContractPrecision)
    (hA : R2 A f) (hB : R2 B g) (hC : R2 C h) :
    R2 (matmul d p A B C) fun i j => h i j + ∑ k ∈ Finset.range K, f i k * g k j := fun i => by
  subst hd
  obtain ⟨r, c, rfl⟩ : ∃ (r : Fin M) (c : Fin N), i = ValueIdx.ix2 r c := ⟨i 0, i 1, (ValueIdx.eq_ix2 i)⟩
  show FloatOps.matmul (DotDims.plain M K N) p A B C (ValueIdx.ix2 r c) = _
  rw [Ideal.matmul_plain_apply, hC.at, EReal.coe_add]
  congr 1
  rw [← sum_fin_coe]
  exact Finset.sum_congr rfl fun k _ => by rw [hA.at, hB.at, EReal.coe_mul]; rfl

/-- A product with the right factor transposed. -/
theorem R2.nt {M K N : ℕ} {φ₁ φ₂ : FTy} {A : FVec Ideal (Sh M K) φ₁} {B : FVec Ideal (Sh N K) φ₂} {C : FVec Ideal (Sh M N) .f32}
    {f g h : ℕ → ℕ → ℝ} (d : DotDims (Sh M K) (Sh N K) (Sh M N)) (hd : d = DotDims.transposedRhs M K N) (p : Option ContractPrecision)
    (hA : R2 A f) (hB : R2 B g) (hC : R2 C h) :
    R2 (matmul d p A B C) fun i j => h i j + ∑ k ∈ Finset.range K, f i k * g j k := fun i => by
  subst hd
  obtain ⟨r, c, rfl⟩ : ∃ (r : Fin M) (c : Fin N), i = ValueIdx.ix2 r c := ⟨i 0, i 1, (ValueIdx.eq_ix2 i)⟩
  show FloatOps.matmul (DotDims.transposedRhs M K N) p A B C (ValueIdx.ix2 r c) = _
  rw [Ideal.matmul_transposedRhs_apply, hC.at, EReal.coe_add]
  congr 1
  rw [← sum_fin_coe]
  exact Finset.sum_congr rfl fun k _ => by rw [hA.at, hB.at, EReal.coe_mul]; rfl

/-- A product with the left factor transposed. -/
theorem R2.tn {M K N : ℕ} {φ₁ φ₂ : FTy} {A : FVec Ideal (Sh K M) φ₁} {B : FVec Ideal (Sh K N) φ₂} {C : FVec Ideal (Sh M N) .f32}
    {f g h : ℕ → ℕ → ℝ} (d : DotDims (Sh K M) (Sh K N) (Sh M N)) (h1 : d.lhsContracting = [0]) (h2 : d.rhsContracting = [0])
    (h3 : d.lhsNonContracting = [1]) (h4 : d.rhsNonContracting = [1]) (h5 : d.lhsBatch = []) (h6 : d.rhsBatch = [])
    (p : Option ContractPrecision) (hA : R2 A f) (hB : R2 B g) (hC : R2 C h) :
    R2 (matmul d p A B C) fun i j => h i j + ∑ k ∈ Finset.range K, f k i * g k j := fun i => by
  obtain ⟨r, c, rfl⟩ : ∃ (r : Fin M) (c : Fin N), i = ValueIdx.ix2 r c := ⟨i 0, i 1, (ValueIdx.eq_ix2 i)⟩
  obtain ⟨lc, rc, ln, rn, lb, rb, wf⟩ := d
  subst h1 h2 h3 h4 h5 h6
  show Ideal.matmul _ A B C (ValueIdx.ix2 r c) = _
  rw [Ideal.matmul_apply₁_of _ rfl (K := K) rfl A B C (ValueIdx.ix2 r c) (fun k => ValueIdx.ix2 k r) (fun k => ValueIdx.ix2 k c), hC.at, EReal.coe_add]
  · congr 1
    rw [← sum_fin_coe]
    exact Finset.sum_congr rfl fun k _ => by rw [hA.at, hB.at, EReal.coe_mul]; rfl
  · intro k
    funext x; apply Fin.ext
    match x with
    | ⟨0, _⟩ => rfl
    | ⟨1, _⟩ => rfl
  · intro k
    funext x; apply Fin.ext
    match x with
    | ⟨0, _⟩ => rfl
    | ⟨1, _⟩ => rfl

/-- A column read across the row. -/
theorem R2.bcast {n : ℕ} {A : (Sh a 1).Idx → EReal} {f : ℕ → ℕ → ℝ} (hA : R2 A f) (h : (Sh a 1).Broadcasts (Sh a n)) :
    R2 (broadcastTo (Sh a n) A h) fun i _ => f i 0 := fun i => by
  rw [broadcastTo_apply A h i (ValueIdx.ix2 (n0 := a) (n1 := 1) (i 0) 0)]; · exact hA _
  intro x
  match x with
  | ⟨0, _⟩ =>
    show (i 0).val = if a = 1 then 0 else (i 0).val
    split
    · have := lt0 i; omega
    · rfl
  | ⟨1, _⟩ => show 0 = if 1 = 1 then 0 else _; simp

/-- The sum of each row, kept as a column. -/
theorem R2.rowSum {A : FVec Ideal (Sh a b) .f32} {f : ℕ → ℕ → ℝ} (hA : R2 A f) (h : (Sh a b).Reduces [1] ⟨1, ![a]⟩)
    (hc : (⟨1, ![a]⟩ : Shape).ShapeCasts (Sh a 1)) (h1 h2) :
    R2 (shapeCast (Sh a 1) (multiReduction .add [1] ⟨1, ![a]⟩ A 0x00000000#32 h h1 h2) hc)
      fun i _ => ∑ k ∈ Finset.range b, f i k := fun i => by
  rw [shapeCast_apply _ hc i (ix1 (n0 := a) (i 0))]
  · show FloatOps.reduceAdd [1] h A _ = _
    rw [Ideal.reduceAdd_def, Ideal.reduceAdd_r2_a1, ← sum_fin_coe]
    exact Finset.sum_congr rfl fun k _ => hA _
  · have h0 := lt1 i
    rw [Shape.rowMajor_val_one, Shape.rowMajor_val_two]
    show (i 0).val = (i 0).val * 1 + (i 1).val
    omega

/-- A fold of `max` from `⊥` over reals and `⊥`s, one of them a real, is a real. -/
theorem fold_max_real {n : ℕ} (g : Fin n → EReal) (ht : ∀ k, g k ≠ ⊤) (k₀ : Fin n) (hb : g k₀ ≠ ⊥) :
    ∃ r : ℝ, (Finset.univ : Finset (Fin n)).fold max ⊥ g = (r : EReal) := by
  refine ⟨_, (EReal.coe_toReal ?_ ?_).symm⟩
  · refine ne_of_lt ((Finset.fold_max_lt _).mpr ⟨bot_lt_top, fun k _ => lt_top_iff_ne_top.mpr (ht k)⟩)
  · refine ne_of_gt ((Finset.lt_fold_max _).mpr (Or.inr ⟨k₀, Finset.mem_univ _, bot_lt_iff_ne_bot.mpr hb⟩))

/-- The scores under the causal mask: the real `f i j` on and below the diagonal, `⊥` above it. -/
def R2M (A : (Sh a b).Idx → EReal) (f : ℕ → ℕ → ℝ) : Prop :=
  ∀ i : (Sh a b).Idx, A i = if (i 1).val ≤ (i 0).val then ((f (i 0).val (i 1).val : ℝ) : EReal) else ⊥

theorem negInf_f32 : Ideal.ofBits .f32 0xFF800000#32 = (⊥ : EReal) := by
  simp [Ideal.ofBits, Ideal.ieee]

/-- The maximum of each row of real or masked scores is a real. -/
theorem rowMax_of {A : FVec Ideal (Sh a b) .f32} (ht : ∀ i, A i ≠ ⊤) (hb : ∀ r : Fin a, ∃ c : Fin b, A (ix2 r c) ≠ ⊥)
    (h : (Sh a b).Reduces [1] ⟨1, ![a]⟩) (hc : (⟨1, ![a]⟩ : Shape).ShapeCasts (Sh a 1)) (h1 h2) :
    ∃ m : ℕ → ℝ, R2 (shapeCast (Sh a 1) (multiReduction .maximumf [1] ⟨1, ![a]⟩ A 0xFF800000#32 h h1 h2) hc) fun i _ => m i := by
  have key : ∀ r : Fin a, ∃ x : ℝ, (Finset.univ : Finset (Fin b)).fold max ⊥ (fun c => A (ix2 r c)) = (x : EReal) := fun r => by
    obtain ⟨c, hc⟩ := hb r
    exact fold_max_real _ (fun k => ht _) c hc
  choose m hm using key
  refine ⟨fun i => if hi : i < a then m ⟨i, hi⟩ else 0, fun i => ?_⟩
  rw [shapeCast_apply _ hc i (ix1 (n0 := a) (i 0))]
  · simp only [dif_pos (lt0 i)]
    rw [← hm]
    simp only [multiReduction_maximumf_eq_fold, Shape.Reduces.fold_fiber_r2_a1, Ideal.maximumf_eq_max]
    rw [show (FloatOps.ofBits (F := Ideal) .f32 0xFF800000#32) = (⊥ : EReal) from negInf_f32]
    rfl
  · have h0 := lt1 i
    rw [Shape.rowMajor_val_one, Shape.rowMajor_val_two]
    show (i 0).val = (i 0).val * 1 + (i 1).val
    omega

theorem R2.rowMax {A : FVec Ideal (Sh a b) .f32} {f : ℕ → ℕ → ℝ} (hA : R2 A f) (b0 : 0 < b) (h : (Sh a b).Reduces [1] ⟨1, ![a]⟩)
    (hc : (⟨1, ![a]⟩ : Shape).ShapeCasts (Sh a 1)) (h1 h2) :
    ∃ m : ℕ → ℝ, R2 (shapeCast (Sh a 1) (multiReduction .maximumf [1] ⟨1, ![a]⟩ A 0xFF800000#32 h h1 h2) hc) fun i _ => m i :=
  rowMax_of (fun i => by rw [hA i]; exact EReal.coe_ne_top _) (fun r => ⟨⟨0, b0⟩, by rw [hA]; exact EReal.coe_ne_bot _⟩) h hc h1 h2

theorem R2M.rowMax {A : FVec Ideal (Sh a b) .f32} {f : ℕ → ℕ → ℝ} (hA : R2M A f) (b0 : 0 < b) (h : (Sh a b).Reduces [1] ⟨1, ![a]⟩)
    (hc : (⟨1, ![a]⟩ : Shape).ShapeCasts (Sh a 1)) (h1 h2) :
    ∃ m : ℕ → ℝ, R2 (shapeCast (Sh a 1) (multiReduction .maximumf [1] ⟨1, ![a]⟩ A 0xFF800000#32 h h1 h2) hc) fun i _ => m i :=
  rowMax_of (fun i => by rw [hA i]; split; exacts [EReal.coe_ne_top _, bot_ne_top])
    (fun r => ⟨⟨0, b0⟩, by rw [hA]; exact (if_pos (Nat.zero_le _)).trans_ne (EReal.coe_ne_bot _)⟩) h hc h1 h2

theorem R2.max {φ : FTy} {A B : FVec Ideal (Sh a b) φ} {f g : ℕ → ℕ → ℝ} (hA : R2 A f) (hB : R2 B g) :
    R2 (maximumf A B) fun i j => Max.max (f i j) (g i j) := fun i => by
  show Max.max (A i) (B i) = _
  rw [hA i, hB i]
  exact (EReal.coe_strictMono.monotone.map_max).symm

/-- The causal mask. -/
theorem R2.mask {n : ℕ} (hn : n < 2 ^ 31) {A : FVec Ideal (Sh n n) .f32} {f : ℕ → ℕ → ℝ} (hA : R2 A f) {x : EReal} (hx : x = ⊥)
    (h0 : (Sh n n).Iotas .tc 32 [0]) (h1 : (Sh n n).Iotas .tc 32 [1]) :
    R2M (select (cmpi .sge (iota .tc (Sh n n) 32 [0] h0) (iota .tc (Sh n n) 32 [1] h1)) A (fun _ => x)) f := fun i => by
  have l0 := lt0 i
  have l1 := lt1 i
  show (if IntOp.cmpi .sge (iota .tc (Sh n n) 32 [0] h0 i) (iota .tc (Sh n n) 32 [1] h1 i) = 1#1 then A i else x) = _
  rw [iota_apply, iota_apply]
  simp only [List.foldl_cons, List.foldl_nil, Nat.zero_mul, Nat.zero_add]
  rw [hA i, hx]
  have l1' : (i 1).val < n := l1
  have l0' : (i 0).val < n := l0
  refine if_congr ?_ rfl rfl
  exact WordCmp.cmpi_sge_ofNat_eq_one_iff (by omega) (by omega)

/-- Exponentials of masked scores less a row's constant. -/
theorem R2M.expSub {A B : FVec Ideal (Sh a b) .f32} {f g : ℕ → ℕ → ℝ} (hA : R2M A f) (hB : R2 B g) :
    R2 (exp (subf A B)) fun i j => if j ≤ i then Real.exp (f i j - g i j) else 0 := fun i => by
  show Ideal.exp (A i - B i) = _
  rw [hA i, hB i]
  by_cases h : (i 1).val ≤ (i 0).val
  · rw [if_pos h, ← EReal.coe_sub, Ideal.exp_coe]; simp only [h, if_true]
  · rw [if_neg h, EReal.bot_sub, Ideal.exp_bot]; simp only [h, if_false]; rfl

/-- Two arrays side by side. -/
theorem R2.concat {w₁ w₂ w : ℕ} {A : (Sh a w₁).Idx → EReal} {B : (Sh a w₂).Idx → EReal} {f g : ℕ → ℕ → ℝ} (hA : R2 A f) (hB : R2 B g)
    (h : Shape.Concatenates [Sh a w₁, Sh a w₂] (Sh a w) 1) :
    R2 (concatenate (Sh a w) 1 [⟨Sh a w₁, A⟩, ⟨Sh a w₂, B⟩] h) fun i j => if j < w₁ then f i j else g i (j - w₁) := fun i => by
  rw [concatenate_pair_apply]
  by_cases hj : (i 1).val < w₁
  · refine (dif_pos hj).trans ?_; rw [hA]; simp only [hj, if_true]; rfl
  · refine (dif_neg hj).trans ?_; rw [hB]; simp only [hj, if_false]; rfl

/-- A slice. -/
theorem R2.slice {n w o c : ℕ} {A : (Sh a b).Idx → EReal} {f : ℕ → ℕ → ℝ} (hA : R2 A f) (h : (Sh a b).Slices ![o, c] (Sh n w)) :
    R2 (extractStridedSlice (Sh n w) ![o, c] A h) fun i j => f (o + i) (c + j) := fun i => by
  rw [Pointwise.extractStridedSlice_apply, hA]; rfl

/-- A rotation along the rows. -/
theorem R2.rotate {A : (Sh a 128).Idx → EReal} {f : ℕ → ℕ → ℝ} (hA : R2 A f) (n : BitVec 32) (h : (Sh a 128).Rotates 1 none) :
    R2 (dynamicRotate 1 n none A h) fun i j => f i ((j + 128 - n.toNat % 128) % 128) := fun i => by
  rw [Pointwise.dynamicRotate_apply, hA]; rfl

/-- The first 32 lanes of one array, the rest of another. -/
theorem R2.lanes {A B : (Sh a 128).Idx → EReal} {f g : ℕ → ℕ → ℝ} (hA : R2 A f) (hB : R2 B g) (h : (Sh a 128).Iotas .tc 32 [1]) :
    R2 (select (cmpi .slt (iota .tc (Sh a 128) 32 [1] h) (broadcast (Sh a 128) 32#32)) A B) fun i j => if j < 32 then f i j else g i j := fun i => by
  have l1 := lt1 i
  show (if IntOp.cmpi .slt (iota .tc (Sh a 128) 32 [1] h i) 32#32 = 1#1 then A i else B i) = _
  rw [iota_apply]
  simp only [List.foldl_cons, List.foldl_nil, Nat.zero_mul, Nat.zero_add]
  rw [hA i, hB i]
  have e : IntOp.cmpi .slt (BitVec.ofNat 32 (i 1).val) 32#32 = 1#1 ↔ (i 1).val < 32 :=
    WordCmp.cmpi_slt_ofNat_eq_one_iff (a := (i 1).val) (b := 32) (by omega) (by omega)
  by_cases hj : (i 1).val < 32
  · rw [if_pos (e.mpr hj)]; simp only [hj, if_true]
  · rw [if_neg (fun h' => hj (e.mp h'))]; simp only [hj, if_false]

/-! ## Loads and stores -/

/-- Inside the rectangle of `n` rows from `o` and `w` columns from `c`. -/
def In (o c n w s d : ℕ) : Prop := (o ≤ s ∧ s < o + n) ∧ c ≤ d ∧ d < c + w

/-- The array holds `f` where `D` says so. -/
def RP (D : ℕ → ℕ → Prop) (A : (Sh a b).Idx → EReal) (f : ℕ → ℕ → ℝ) : Prop :=
  ∀ i : (Sh a b).Idx, D (i 0).val (i 1).val → A i = ((f (i 0).val (i 1).val : ℝ) : EReal)

theorem R2.rp {A : (Sh a b).Idx → EReal} {f : ℕ → ℕ → ℝ} (h : R2 A f) : RP (fun _ _ => True) A f := fun i _ => h i

theorem RP.r2 {D : ℕ → ℕ → Prop} {A : (Sh a b).Idx → EReal} {f : ℕ → ℕ → ℝ} (h : RP D A f) (hD : ∀ s d, s < a → d < b → D s d) : R2 A f :=
  fun i => h i (hD _ _ (lt0 i) (lt1 i))

theorem RP.none {A : (Sh a b).Idx → EReal} (f : ℕ → ℕ → ℝ) : RP (fun _ _ => False) A f := fun _ h => h.elim

theorem RP.store_val {e : EltTy} {n w o c : ℕ} {L : List (View.Piece (Elt Ideal) (Sh a b) e)} (val : Elt Ideal e → EReal)
    (inb : ∀ x, (![o, c] : Fin 2 → ℕ) x + (Sh n w).size x ≤ (Sh a b).size x) {P : (Sh n w).Idx → Elt Ideal e}
    {D D' : ℕ → ℕ → Prop} {f f' g : ℕ → ℕ → ℝ}
    (hL : RP D (fun i => val (View.canon L i)) f) (hP : R2 (fun i => val (P i)) g)
    (hin : ∀ s d, In o c n w s d → s < a → d < b → f' s d = g (s - o) (d - c))
    (hout : ∀ s d, ¬ In o c n w s d → D' s d → s < a → d < b → D s d ∧ f' s d = f s d) :
    RP D' (fun i => val (View.canon (⟨Rect.unit (s := Sh a b) ![o, c] (Sh n w).size inb, P⟩ :: L) i)) f' := fun i hi => by
  by_cases h : In o c n w (i 0).val (i 1).val
  · rw [hin _ _ h (lt0 i) (lt1 i)]
    obtain ⟨⟨h1, h2⟩, h3, h4⟩ := h
    have e : i = (Rect.unit (s := Sh a b) ![o, c] (Sh n w).size inb).emb
        (ValueIdx.ix2 (n0 := n) (n1 := w) ⟨(i 0).val - o, by omega⟩ ⟨(i 1).val - c, by omega⟩) := by
      funext x; apply Fin.ext
      match x with
      | ⟨0, _⟩ => show (i 0).val = o + 1 * ((i 0).val - o); omega
      | ⟨1, _⟩ => show (i 1).val = c + 1 * ((i 1).val - c); omega
    have := hP (ValueIdx.ix2 (n0 := n) (n1 := w) ⟨(i 0).val - o, by omega⟩ ⟨(i 1).val - c, by omega⟩)
    refine Eq.trans ?_ this
    show val _ = val _
    conv_lhs => rw [e]
    rw [View.canon_cons_emb]
  · obtain ⟨h1, h2⟩ := hout _ _ h hi (lt0 i) (lt1 i)
    rw [h2, ← hL i h1]
    show val _ = val _
    rw [View.canon_cons_of_not_mem]
    intro hm
    have hm : i ∈ (Rect.unit (s := Sh a b) ![o, c] (Sh n w).size inb).set := hm
    rw [Rect.mem_set_unit] at hm
    exact h ⟨hm 0, hm 1⟩

/-- One more store of a rectangle into a bf16 buffer. -/
theorem RP.store16 {n w o c : ℕ} {L : List (View.Piece (Elt Ideal) (Sh a b) .bf16)}
    {inb : ∀ x, (![o, c] : Fin 2 → ℕ) x + (Sh n w).size x ≤ (Sh a b).size x} {P : (Sh n w).Idx → Elt Ideal .bf16}
    {D D' : ℕ → ℕ → Prop} {f f' g : ℕ → ℕ → ℝ} (hL : RP D (View.canon L) f) (hP : R2 P g)
    (hin : ∀ s d, In o c n w s d → s < a → d < b → f' s d = g (s - o) (d - c))
    (hout : ∀ s d, ¬ In o c n w s d → D' s d → s < a → d < b → D s d ∧ f' s d = f s d) :
    RP D' (View.canon (⟨Rect.unit (s := Sh a b) ![o, c] (Sh n w).size inb, P⟩ :: L)) f' :=
  RP.store_val (e := .bf16) (fun x => x) inb hL hP hin hout

/-- One more store of a rectangle into an f32 buffer. -/
theorem RP.store32 {n w o c : ℕ} {L : List (View.Piece (Elt Ideal) (Sh a b) .f32)}
    {inb : ∀ x, (![o, c] : Fin 2 → ℕ) x + (Sh n w).size x ≤ (Sh a b).size x} {P : (Sh n w).Idx → Elt Ideal .f32}
    {D D' : ℕ → ℕ → Prop} {f f' g : ℕ → ℕ → ℝ} (hL : RP D (View.canon L) f) (hP : R2 P g)
    (hin : ∀ s d, In o c n w s d → s < a → d < b → f' s d = g (s - o) (d - c))
    (hout : ∀ s d, ¬ In o c n w s d → D' s d → s < a → d < b → D s d ∧ f' s d = f s d) :
    RP D' (View.canon (⟨Rect.unit (s := Sh a b) ![o, c] (Sh n w).size inb, P⟩ :: L)) f' :=
  RP.store_val (e := .f32) (fun x => x) inb hL hP hin hout

theorem RP.rows16 {n o : ℕ} {L : List (View.Piece (Elt Ideal) (Sh a b) .bf16)}
    {inb : ∀ x, (![o, 0] : Fin 2 → ℕ) x + (Sh n b).size x ≤ (Sh a b).size x} {P : (Sh n b).Idx → Elt Ideal .bf16}
    {f : ℕ → ℕ → ℝ} (hL : RP (fun s _ => s < o) (View.canon L) f) (hP : R2 P fun i d => f (o + i) d) :
    RP (fun s _ => s < o + n) (View.canon (⟨Rect.unit (s := Sh a b) ![o, 0] (Sh n b).size inb, P⟩ :: L)) f :=
  RP.store16 hL hP (fun s d h _ _ => by obtain ⟨⟨h1, h2⟩, _⟩ := h; show f s d = f (o + (s - o)) (d - 0); congr 1; omega)
    fun s d h h1 _ h3 => ⟨by by_contra h4; exact h ⟨⟨by omega, h1⟩, Nat.zero_le _, by omega⟩, rfl⟩

variable {sig : RefSig} {κ : Kind} {sp : Space} {n w o c : ℕ}

/-- A load of a rectangle of a whole bf16 buffer. -/
theorem R2.load16 (m : Memref sig κ sp (Sh a b) .bf16) (hm : m.IsWhole) {X : FVec Ideal (Sh a b) .bf16} {f : ℕ → ℕ → ℝ} (hX : R2 X f)
    (inb : ∀ x, (![o, c] : Fin 2 → ℕ) x + (Sh n w).size x ≤ (Sh a b).size x) :
    R2 (a := n) (b := w) (m.view.readAt (Elt Ideal) (Rect.unit (s := Sh a b) ![o, c] (Sh n w).size inb).toLoadRect (hm.unread X))
      fun i j => f (o + i) (c + j) := fun i => by
  rw [View.readAt_apply, hm.read_unread, hX]
  congr 2
  · show o + 1 * (i 0).val = _; omega
  · show c + 1 * (i 1).val = _; omega

/-- A load of a rectangle of a whole f32 buffer. -/
theorem R2.load32 (m : Memref sig κ sp (Sh a b) .f32) (hm : m.IsWhole) {X : FVec Ideal (Sh a b) .f32} {f : ℕ → ℕ → ℝ} (hX : R2 X f)
    (inb : ∀ x, (![o, c] : Fin 2 → ℕ) x + (Sh n w).size x ≤ (Sh a b).size x) :
    R2 (a := n) (b := w) (m.view.readAt (Elt Ideal) (Rect.unit (s := Sh a b) ![o, c] (Sh n w).size inb).toLoadRect (hm.unread X))
      fun i j => f (o + i) (c + j) := fun i => by
  rw [View.readAt_apply, hm.read_unread, hX]
  congr 2
  · show o + 1 * (i 0).val = _; omega
  · show c + 1 * (i 1).val = _; omega

/-- A load of a rectangle of a bf16 buffer that was stored into. -/
theorem R2.loadCov16 {v : View sig κ sp (Sh a b) .bf16} {L : List (View.Piece (Elt Ideal) (Sh a b) .bf16)} {f : ℕ → ℕ → ℝ}
    (hX : R2 (View.canon L) f) (inb : ∀ x, (![o, c] : Fin 2 → ℕ) x + (Sh n w).size x ≤ (Sh a b).size x) :
    R2 (a := n) (b := w) (v.readCov L (Rect.unit (s := Sh a b) ![o, c] (Sh n w).size inb).toLoadRect)
      fun i j => f (o + i) (c + j) := fun i => by
  rw [View.readCov_eq_canon']
  refine (hX _).trans ?_
  congr 2
  · show o + 1 * (i 0).val = _; omega
  · show c + 1 * (i 1).val = _; omega

/-- A load of a rectangle of an f32 buffer that was stored into. -/
theorem R2.loadCov32 {v : View sig κ sp (Sh a b) .f32} {L : List (View.Piece (Elt Ideal) (Sh a b) .f32)} {f : ℕ → ℕ → ℝ}
    (hX : R2 (View.canon L) f) (inb : ∀ x, (![o, c] : Fin 2 → ℕ) x + (Sh n w).size x ≤ (Sh a b).size x) :
    R2 (a := n) (b := w) (v.readCov L (Rect.unit (s := Sh a b) ![o, c] (Sh n w).size inb).toLoadRect)
      fun i j => f (o + i) (c + j) := fun i => by
  rw [View.readCov_eq_canon']
  refine (hX _).trans ?_
  congr 2
  · show o + 1 * (i 0).val = _; omega
  · show c + 1 * (i 1).val = _; omega

/-! ## Columns kept with a leading axis of one -/

/-- A rank-three shape of one column. -/
abbrev Sc (a : ℕ) : Shape := ⟨3, ![1, a, 1]⟩

/-- The column holds the real `f i` at every index. -/
def R3 (A : (Sc a).Idx → EReal) (f : ℕ → ℝ) : Prop := ∀ i : (Sc a).Idx, A i = ((f (i 1).val : ℝ) : EReal)

theorem R3.congr {A : (Sc a).Idx → EReal} {f g : ℕ → ℝ} (h : R3 A f) (e : ∀ i, f i = g i) : R3 A g := fun i => by rw [h i, e]

theorem R2.toCol {A : (Sh a 1).Idx → EReal} {f : ℕ → ℕ → ℝ} (hA : R2 A f) (h : (Sh a 1).ShapeCasts (Sc a)) :
    R3 (shapeCast (Sc a) A h) fun i => f i 0 := fun i => by
  have h0 : (i 0).val < 1 := (i 0).isLt
  have h2 : (i 2).val < 1 := (i 2).isLt
  rw [shapeCast_apply _ h i (ValueIdx.ix2 (n0 := a) (n1 := 1) (i 1) 0)]
  · exact hA _
  · rw [Shape.rowMajor_val_two, Shape.rowMajor_val_three]
    show (i 1).val * 1 + 0 = ((i 0).val * a + (i 1).val) * 1 + (i 2).val
    have : (i 0).val = 0 := by omega
    rw [this]; omega

theorem R3.ofCol {A : (Sc a).Idx → EReal} {f : ℕ → ℝ} (hA : R3 A f) (h : (Sc a).ShapeCasts (Sh a 1)) :
    R2 (shapeCast (Sh a 1) A h) fun i _ => f i := fun i => by
  have h1 := lt1 i
  rw [shapeCast_apply _ h i (ix3 (n0 := 1) (n1 := a) (n2 := 1) 0 (i 0) 0)]
  · exact hA _
  · rw [Shape.rowMajor_val_two, Shape.rowMajor_val_three]
    show ((0 : ℕ) * a + (i 0).val) * 1 + 0 = (i 0).val * 1 + (i 1).val
    omega

/-- A load of rows of a whole column. -/
theorem R3.load {n o : ℕ} (m : Memref sig κ sp (Sc a) .f32) (hm : m.IsWhole) {X : FVec Ideal (Sc a) .f32} {f : ℕ → ℝ} (hX : R3 X f)
    (inb : ∀ x, (![0, o, 0] : Fin 3 → ℕ) x + (Sc n).size x ≤ (Sc a).size x) :
    R3 (a := n) (m.view.readAt (Elt Ideal) (Rect.unit (s := Sc a) ![0, o, 0] (Sc n).size inb).toLoadRect (hm.unread X))
      fun i => f (o + i) := fun i => by
  rw [View.readAt_apply, hm.read_unread, hX]
  congr 2
  show o + 1 * (i 1).val = _; omega

/-- The column holds `f` above row `u`. -/
def R3U (u : ℕ) (A : (Sc a).Idx → EReal) (f : ℕ → ℝ) : Prop := ∀ i : (Sc a).Idx, (i 1).val < u → A i = ((f (i 1).val : ℝ) : EReal)

theorem R3U.r3 {A : (Sc a).Idx → EReal} {f : ℕ → ℝ} (h : R3U a A f) : R3 A f := fun i => h i (i 1).isLt

/-- One more store of rows of a column. -/
theorem R3U.store {n o : ℕ} {L : List (View.Piece (Elt Ideal) (Sc a) .f32)}
    {inb : ∀ x, (![0, o, 0] : Fin 3 → ℕ) x + (Sc n).size x ≤ (Sc a).size x} {P : (Sc n).Idx → Elt Ideal .f32}
    {f g : ℕ → ℝ} (hL : R3U o (View.canon L) f) (hP : R3 P g) (hin : ∀ s, s < n → f (o + s) = g s) :
    R3U (o + n) (View.canon (⟨Rect.unit (s := Sc a) ![0, o, 0] (Sc n).size inb, P⟩ :: L)) f := fun i hi => by
  have h0 : (i 0).val < 1 := (i 0).isLt
  have h2 : (i 2).val < 1 := (i 2).isLt
  by_cases h : o ≤ (i 1).val
  · have e : i = (Rect.unit (s := Sc a) ![0, o, 0] (Sc n).size inb).emb
        (ix3 (n0 := 1) (n1 := n) (n2 := 1) 0 ⟨(i 1).val - o, by omega⟩ 0) := by
      funext x; apply Fin.ext
      match x with
      | ⟨0, _⟩ => show (i 0).val = 0 + 1 * 0; omega
      | ⟨1, _⟩ => show (i 1).val = o + 1 * ((i 1).val - o); omega
      | ⟨2, _⟩ => show (i 2).val = 0 + 1 * 0; omega
    have := hP (ix3 (n0 := 1) (n1 := n) (n2 := 1) 0 ⟨(i 1).val - o, by omega⟩ 0)
    have hv : f (i 1).val = g ((i 1).val - o) := by rw [← hin _ (by omega)]; congr 1; omega
    rw [hv]
    refine Eq.trans ?_ this
    conv_lhs => rw [e]
    rw [View.canon_cons_emb]
  · rw [← hL i (by omega), View.canon_cons_of_not_mem]
    intro hm
    have hm : i ∈ (Rect.unit (s := Sc a) ![0, o, 0] (Sc n).size inb).set := hm
    rw [Rect.mem_set_unit] at hm
    exact h (hm 1).1

end Cert.Attn
-- ==== Proof.Ext.lean ====
/- Arrays of extended reals as functions of two natural numbers, infinities included, and what the products of the feed-forward
   calls do to them: for the claims that hold at every argument. -/
module

public import proofs.«01_k».proof.Proof.Kit
public import Idealize.ShloMosaic.Lib.ValueLayout

@[expose] public section

noncomputable section

namespace Cert.Attn

open Idealize.ShloMosaic
open scoped BigOperators
open Finset (range)

variable {a b k : ℕ}

/-- The array `A` holds the extended real `f i j` at every index `(i, j)`. -/
def X2 (A : (Sh a b).Idx → EReal) (f : ℕ → ℕ → EReal) : Prop :=
  ∀ i : (Sh a b).Idx, A i = f (i 0).val (i 1).val

/-- An array read at two natural numbers, zero outside. -/
def xt (A : (Sh a b).Idx → EReal) (i j : ℕ) : EReal :=
  if h : i < a ∧ j < b then A (ValueIdx.ix2 (n0 := a) (n1 := b) ⟨i, h.1⟩ ⟨j, h.2⟩) else 0

theorem X2.self (A : (Sh a b).Idx → EReal) : X2 A (xt A) := fun i => by
  unfold xt
  rw [dif_pos ⟨lt0 i, lt1 i⟩]
  exact congrArg A (ValueIdx.eq_ix2 i)

theorem X2.at {A : (Sh a b).Idx → EReal} {f : ℕ → ℕ → EReal} (h : X2 A f) (i : Fin a) (j : Fin b) :
    A (ValueIdx.ix2 i j) = f i.val j.val := h (ValueIdx.ix2 i j)

/-- Only the values at indices of the array matter. -/
theorem X2.congr {A : (Sh a b).Idx → EReal} {f g : ℕ → ℕ → EReal} (h : X2 A f)
    (e : ∀ i j, i < a → j < b → f i j = g i j) : X2 A g := fun i => by
  rw [h i, e _ _ (lt0 i) (lt1 i)]

theorem X2.add {φ : FTy} {A B : FVec Ideal (Sh a b) φ} {f g : ℕ → ℕ → EReal} (hA : X2 A f) (hB : X2 B g) :
    X2 (addf A B) fun i j => f i j + g i j := fun i => by
  show A i + B i = _
  rw [hA i, hB i]

theorem X2.mul {φ : FTy} {A B : FVec Ideal (Sh a b) φ} {f g : ℕ → ℕ → EReal} (hA : X2 A f) (hB : X2 B g) :
    X2 (mulf A B) fun i j => f i j * g i j := fun i => by
  show A i * B i = _
  rw [hA i, hB i]

theorem X2.const (x : EReal) : X2 (a := a) (b := b) (fun _ => x) fun _ _ => x := fun _ => rfl

theorem X2.cast {A : (Sh a b).Idx → EReal} {f : ℕ → ℕ → EReal} (hA : X2 A f) (h : (Sh a b).ShapeCasts (Sh a b)) :
    X2 (shapeCast (Sh a b) A h) f := by rw [shapeCast_self]; exact hA

theorem X2.zero : X2 (a := a) (b := b) (constant (F := Ideal) (Sh a b) .f32 0x00000000#32) fun _ _ => 0 :=
  fun _ => zero_f32

/-- A product of two matrices. -/
theorem X2.plain {M K N : ℕ} {φ₁ φ₂ : FTy} {A : FVec Ideal (Sh M K) φ₁} {B : FVec Ideal (Sh K N) φ₂} {C : FVec Ideal (Sh M N) .f32}
    {f g : ℕ → ℕ → EReal} (d : DotDims (Sh M K) (Sh K N) (Sh M N)) (hd : d = DotDims.plain M K N) (p : Option ContractPrecision)
    (hA : X2 A f) (hB : X2 B g) (hC : X2 C fun _ _ => 0) :
    X2 (matmul d p A B C) fun i j => ∑ k ∈ range K, f i k * g k j := fun i => by
  subst hd
  obtain ⟨r, c, rfl⟩ : ∃ (r : Fin M) (c : Fin N), i = ValueIdx.ix2 r c := ⟨i 0, i 1, (ValueIdx.eq_ix2 i)⟩
  show FloatOps.matmul (DotDims.plain M K N) p A B C (ValueIdx.ix2 r c) = _
  rw [Ideal.matmul_plain_apply, hC.at, zero_add]
  refine Eq.trans ?_ (Finset.sum_range _).symm
  exact Finset.sum_congr rfl fun k _ => by rw [hA.at, hB.at]; rfl

/-- A product with the right factor transposed. -/
theorem X2.nt {M K N : ℕ} {φ₁ φ₂ : FTy} {A : FVec Ideal (Sh M K) φ₁} {B : FVec Ideal (Sh N K) φ₂} {C : FVec Ideal (Sh M N) .f32}
    {f g : ℕ → ℕ → EReal} (d : DotDims (Sh M K) (Sh N K) (Sh M N)) (hd : d = DotDims.transposedRhs M K N) (p : Option ContractPrecision)
    (hA : X2 A f) (hB : X2 B g) (hC : X2 C fun _ _ => 0) :
    X2 (matmul d p A B C) fun i j => ∑ k ∈ range K, f i k * g j k := fun i => by
  subst hd
  obtain ⟨r, c, rfl⟩ : ∃ (r : Fin M) (c : Fin N), i = ValueIdx.ix2 r c := ⟨i 0, i 1, (ValueIdx.eq_ix2 i)⟩
  show FloatOps.matmul (DotDims.transposedRhs M K N) p A B C (ValueIdx.ix2 r c) = _
  rw [Ideal.matmul_transposedRhs_apply, hC.at, zero_add]
  refine Eq.trans ?_ (Finset.sum_range _).symm
  exact Finset.sum_congr rfl fun k _ => by rw [hA.at, hB.at]; rfl

/-- A product with the left factor transposed. -/
theorem X2.tn {M K N : ℕ} {φ₁ φ₂ : FTy} {A : FVec Ideal (Sh K M) φ₁} {B : FVec Ideal (Sh K N) φ₂} {C : FVec Ideal (Sh M N) .f32}
    {f g : ℕ → ℕ → EReal} (d : DotDims (Sh K M) (Sh K N) (Sh M N)) (h1 : d.lhsContracting = [0]) (h2 : d.rhsContracting = [0])
    (h3 : d.lhsNonContracting = [1]) (h4 : d.rhsNonContracting = [1]) (h5 : d.lhsBatch = []) (h6 : d.rhsBatch = [])
    (p : Option ContractPrecision) (hA : X2 A f) (hB : X2 B g) (hC : X2 C fun _ _ => 0) :
    X2 (matmul d p A B C) fun i j => ∑ k ∈ range K, f k i * g k j := fun i => by
  obtain ⟨r, c, rfl⟩ : ∃ (r : Fin M) (c : Fin N), i = ValueIdx.ix2 r c := ⟨i 0, i 1, (ValueIdx.eq_ix2 i)⟩
  obtain ⟨lc, rc, ln, rn, lb, rb, wf⟩ := d
  subst h1 h2 h3 h4 h5 h6
  show Ideal.matmul _ A B C (ValueIdx.ix2 r c) = _
  rw [Ideal.matmul_apply₁_of _ rfl (K := K) rfl A B C (ValueIdx.ix2 r c) (fun k => ValueIdx.ix2 k r) (fun k => ValueIdx.ix2 k c), hC.at, zero_add]
  · refine Eq.trans ?_ (Finset.sum_range _).symm
    exact Finset.sum_congr rfl fun k _ => by rw [hA.at, hB.at]; rfl
  · intro k
    funext x; apply Fin.ext
    match x with
    | ⟨0, _⟩ => rfl
    | ⟨1, _⟩ => rfl
  · intro k
    funext x; apply Fin.ext
    match x with
    | ⟨0, _⟩ => rfl
    | ⟨1, _⟩ => rfl

theorem half_f32 : Ideal.ofBits .f32 0x3F000000#32 = ((1 / 2 : ℝ) : EReal) := by
  simp [Ideal.ofBits, Ideal.ieee]
  rw [← EReal.coe_mul]
  norm_num

/-- A finite factor that is not negative goes into a sum, infinities included. -/
theorem mul_sum_of_nonneg {x : ℝ} (hx : 0 ≤ x) (n : ℕ) (g : ℕ → EReal) : (x : EReal) * ∑ k ∈ range n, g k = ∑ k ∈ range n, (x : EReal) * g k := by
  induction n with
  | zero => simp
  | succ n ih =>
    rw [Finset.sum_range_succ, Finset.sum_range_succ, EReal.left_distrib_of_nonneg_of_ne_top (EReal.coe_nonneg.mpr hx) (EReal.coe_ne_top _), ih]

/-- The offsets of a whole buffer's store are zero. -/
theorem hz2 : (![0, 0] : Fin 2 → ℕ) = fun _ => 0 := by
  funext a
  fin_cases a <;> rfl

theorem hz3 : (![0, 0, 0] : Fin 3 → ℕ) = fun _ => 0 := by
  funext a
  fin_cases a <;> rfl

/-- A sum over blocks of equal length is one sum. -/
theorem sum_blocks (b : ℕ) (F : ℕ → EReal) : ∀ a : ℕ, ∑ s ∈ range a, ∑ k ∈ range b, F (s * b + k) = ∑ k ∈ range (a * b), F k
  | 0 => by simp
  | a + 1 => by rw [Finset.sum_range_succ, sum_blocks b F a, Nat.succ_mul, Finset.sum_range_add]

/-! ## The activation -/

/-- The logistic function, by the hyperbolic tangent of the half. -/
def sg (x : EReal) : EReal := ((1 / 2 : ℝ) : EReal) * Ideal.tanh (((1 / 2 : ℝ) : EReal) * x) + ((1 / 2 : ℝ) : EReal)

theorem one_f32 : Ideal.ofBits .f32 0x3F800000#32 = 1 := by
  simp [Ideal.ofBits, Ideal.ieee, -EReal.coe_mul]
  norm_num

theorem sg_coe (r : ℝ) : sg (r : EReal) = (((1 + Real.exp (-r))⁻¹ : ℝ) : EReal) := by
  unfold sg
  rw [← EReal.coe_mul, Ideal.tanh_coe, ← EReal.coe_mul, ← EReal.coe_add]
  congr 1
  rw [Real.tanh_eq_sinh_div_cosh, Real.sinh_eq, Real.cosh_eq]
  have e : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  have h1 := Real.exp_pos (1 / 2 * r)
  have h2 := Real.exp_pos (-(1 / 2 * r))
  rw [e]
  generalize Real.exp (1 / 2 * r) = u at *
  generalize Real.exp (-(1 / 2 * r)) = v at *
  have h3 : u + v ≠ 0 := by positivity
  have h4 : 1 + v * v ≠ 0 := by positivity
  field_simp
  linear_combination (2 * v) * e2

/-- The logistic function is the reciprocal of one plus the exponential of the negative, at the infinities too. -/
theorem sg_eq (x : EReal) : Ideal.div (1 : EReal) (1 + Ideal.exp (-x)) = sg x := by
  show Ideal.logistic x = _
  induction x with
  | bot =>
    rw [Ideal.logistic_bot]
    unfold sg
    rw [EReal.coe_mul_bot_of_pos (by norm_num), Ideal.tanh_bot, mul_neg, mul_one, ← EReal.coe_neg, ← EReal.coe_add]
    norm_num
  | top =>
    rw [Ideal.logistic_top]
    unfold sg
    rw [EReal.coe_mul_top_of_pos (by norm_num), Ideal.tanh_top, mul_one, ← EReal.coe_add]
    norm_num
  | coe r => rw [Ideal.logistic_coe, sg_coe]

/-- The activation as the kernels compute it. -/
theorem X2.sg {A : FVec Ideal (Sh a b) .f32} {f : ℕ → ℕ → EReal} (hA : X2 A f) :
    X2 (addf (mulf (broadcast (Sh a b) (Scalar.ofBits (F := Ideal) .f32 0x3F000000#32)) (tanh (mulf (broadcast (Sh a b) (Scalar.ofBits (F := Ideal) .f32 0x3F000000#32)) A)))
      (broadcast (Sh a b) (Scalar.ofBits (F := Ideal) .f32 0x3F000000#32))) fun i j => Attn.sg (f i j) := fun i => by
  show Ideal.ofBits .f32 0x3F000000#32 * Ideal.tanh (Ideal.ofBits .f32 0x3F000000#32 * A i) + Ideal.ofBits .f32 0x3F000000#32 = _
  rw [half_f32, hA i]
  rfl

/-! ## A slab of a stack, and stores by columns -/

/-- The stack of one array holds `f`. -/
def X3 (A : (⟨3, ![1, a, b]⟩ : Shape).Idx → EReal) (f : ℕ → ℕ → EReal) : Prop :=
  ∀ i, A i = f (i 1).val (i 2).val

/-- The columns from `o` of a stack of one array, as an array. -/
theorem X3.cols {w o : ℕ} {A : Vec Ideal (⟨3, ![1, a, b]⟩ : Shape) .bf16} {f : ℕ → ℕ → EReal} (hA : X3 A f)
    (inb : ∀ x, (![0, 0, o] : Fin 3 → ℕ) x + (![1, a, w] : Fin 3 → ℕ) x ≤ (⟨3, ![1, a, b]⟩ : Shape).size x)
    (h : (⟨3, ![1, a, w]⟩ : Shape).ShapeCasts (Sh a w)) :
    X2 (shapeCast (Sh a w) (View.ld (Val := Elt Ideal) A (Rect.unit (s := ⟨3, ![1, a, b]⟩) ![0, 0, o] ![1, a, w] inb)) h) fun i j => f i (o + j) := fun i => by
  obtain ⟨r, c, rfl⟩ : ∃ (r : Fin a) (c : Fin w), i = ValueIdx.ix2 r c := ⟨i 0, i 1, (ValueIdx.eq_ix2 i)⟩
  rw [ValueIdx.shapeCast_1ab_ab_apply]
  show A _ = _
  rw [hA]
  congr 1
  · show 0 + 1 * r.val = r.val; omega
  · show o + 1 * c.val = o + c.val; omega

/-- The first `n` columns hold `f`. -/
def XC (n : ℕ) (A : (Sh a b).Idx → EReal) (f : ℕ → ℕ → EReal) : Prop :=
  ∀ i : (Sh a b).Idx, (i 1).val < n → A i = f (i 0).val (i 1).val

theorem XC.none (A : (Sh a b).Idx → EReal) (f : ℕ → ℕ → EReal) : XC 0 A f := fun _ h => (Nat.not_lt_zero _ h).elim

theorem XC.x2 {A : (Sh a b).Idx → EReal} {f : ℕ → ℕ → EReal} (h : XC b A f) : X2 A f := fun i => h i (lt1 i)

/-- One more store, of the next `w` columns. -/
theorem XC.store {w c n : ℕ} {L : List (View.Piece (Elt Ideal) (Sh a b) .bf16)}
    {inb : ∀ x, (![0, c] : Fin 2 → ℕ) x + (Sh a w).size x ≤ (Sh a b).size x} {P : (Sh a w).Idx → Elt Ideal .bf16}
    {f : ℕ → ℕ → EReal} (hL : XC c (View.canon L) f) (hP : X2 P fun i j => f i (c + j)) (hn : n = c + w) :
    XC n (View.canon (⟨Rect.unit (s := Sh a b) ![0, c] (Sh a w).size inb, P⟩ :: L)) f := fun i hi => by
  by_cases h : (i 1).val < c
  · rw [← hL i h, View.canon_cons_of_not_mem]
    intro hm
    have hm : i ∈ (Rect.unit (s := Sh a b) ![0, c] (Sh a w).size inb).set := hm
    rw [Rect.mem_set_unit] at hm
    have : c ≤ (i 1).val := (hm 1).1
    omega
  · have e : i = (Rect.unit (s := Sh a b) ![0, c] (Sh a w).size inb).emb
        (ValueIdx.ix2 (n0 := a) (n1 := w) ⟨(i 0).val, lt0 i⟩ ⟨(i 1).val - c, by omega⟩) := by
      funext x; apply Fin.ext
      match x with
      | ⟨0, _⟩ => show (i 0).val = 0 + 1 * (i 0).val; omega
      | ⟨1, _⟩ => show (i 1).val = c + 1 * ((i 1).val - c); omega
    have hp : P (ValueIdx.ix2 (n0 := a) (n1 := w) ⟨(i 0).val, lt0 i⟩ ⟨(i 1).val - c, by omega⟩) = f (i 0).val (c + ((i 1).val - c)) := hP _
    rw [show c + ((i 1).val - c) = (i 1).val by omega] at hp
    rw [← hp]
    conv_lhs => rw [e]
    rw [View.canon_cons_emb]

/-! ## Arrays of real numbers -/

/-- The real logistic function. -/
def sr (r : ℝ) : ℝ := (1 + Real.exp (-r))⁻¹

/-- The activation as the kernels compute it, of real numbers. -/
theorem R2.sg {A : FVec Ideal (Sh a b) .f32} {f : ℕ → ℕ → ℝ} (hA : R2 A f) :
    R2 (addf (mulf (broadcast (Sh a b) (Scalar.ofBits (F := Ideal) .f32 0x3F000000#32)) (tanh (mulf (broadcast (Sh a b) (Scalar.ofBits (F := Ideal) .f32 0x3F000000#32)) A)))
      (broadcast (Sh a b) (Scalar.ofBits (F := Ideal) .f32 0x3F000000#32))) fun i j => sr (f i j) := fun i => by
  rw [X2.sg (f := fun i j => ((f i j : ℝ) : EReal)) hA i]
  exact sg_coe _

theorem R2.half : R2 (a := a) (b := b) (broadcast (Sh a b) (Scalar.ofBits (F := Ideal) .f32 0x3F000000#32)) fun _ _ => 1 / 2 := R2.const half_f32

theorem R2.one : R2 (a := a) (b := b) (broadcast (Sh a b) (Scalar.ofBits (F := Ideal) .f32 0x3F800000#32)) fun _ _ => 1 := R2.const one_f32

/-- An array without infinities is one of real numbers. -/
theorem R2.of_finite (A : (Sh a b).Idx → EReal) (h : ∀ i, A i ≠ ⊤ ∧ A i ≠ ⊥) : ∃ f, R2 A f :=
  ⟨fun i j => (xt A i j).toReal, fun i => by
    dsimp only
    rw [← X2.self A i, EReal.coe_toReal (h i).1 (h i).2]⟩

/-- A rectangle read from an array. -/
theorem R2.ld {e : EltTy} {n w o c : ℕ} {A : (Sh a b).Idx → Elt Ideal e} {f : ℕ → ℕ → ℝ} (val : Elt Ideal e → EReal) (hA : R2 (fun i => val (A i)) f)
    (inb : ∀ x, (![o, c] : Fin 2 → ℕ) x + (![n, w] : Fin 2 → ℕ) x ≤ (Sh a b).size x) :
    R2 (a := n) (b := w) (fun i => val (View.ld (Val := Elt Ideal) A (Rect.unit (s := Sh a b) ![o, c] ![n, w] inb) i)) fun i j => f (o + i) (c + j) := fun i => by
  refine (hA _).trans ?_
  dsimp only
  congr 2
  · show o + 1 * (i 0).val = _; omega
  · show c + 1 * (i 1).val = _; omega

theorem R2.ld16 {n w o c : ℕ} {A : (Sh a b).Idx → Elt Ideal .bf16} {f : ℕ → ℕ → ℝ} (hA : R2 A f)
    (inb : ∀ x, (![o, c] : Fin 2 → ℕ) x + (![n, w] : Fin 2 → ℕ) x ≤ (Sh a b).size x) :
    R2 (a := n) (b := w) (View.ld (Val := Elt Ideal) A (Rect.unit (s := Sh a b) ![o, c] ![n, w] inb)) fun i j => f (o + i) (c + j) := R2.ld (e := .bf16) (fun x => x) hA inb

/-- The weights as the call takes them: a stack of four arrays of columns. -/
theorem stack {W : (Sh 1024 5632).Idx → EReal} {g : ℕ → ℕ → EReal} (h : X2 (a := 1024) (b := 5632) W g) (h1 : (Sh 1024 5632).ShapeCasts (⟨3, ![1024, 4, 1408]⟩ : Shape)) (h2 : (⟨3, ![1024, 4, 1408]⟩ : Shape).Transposes [1, 0, 2] (⟨3, ![4, 1024, 1408]⟩ : Shape))
    (y : (⟨3, ![4, 1024, 1408]⟩ : Shape).Idx) : transpose (⟨3, ![4, 1024, 1408]⟩ : Shape) [1, 0, 2] (shapeCast (⟨3, ![1024, 4, 1408]⟩ : Shape) W h1) h2 y = g (y 1).val ((y 0).val * 1408 + (y 2).val) := by
  obtain ⟨p, r, k, rfl⟩ : ∃ (p : Fin 4) (r : Fin 1024) (k : Fin 1408), y = ValueIdx.ix3 p r k := ⟨y 0, y 1, y 2, ValueIdx.eq_ix3 y⟩
  rw [transpose_apply _ _ h2 (ValueIdx.ix3 p r k) (ValueIdx.ix3 (n0 := 1024) (n1 := 4) (n2 := 1408) r p k) (fun a => by
    match a with
    | ⟨0, _⟩ => rfl
    | ⟨1, _⟩ => rfl
    | ⟨2, _⟩ => rfl)]
  rw [shapeCast_apply W h1 (ValueIdx.ix3 (n0 := 1024) (n1 := 4) (n2 := 1408) r p k) (ValueIdx.ix2 (n0 := 1024) (n1 := 5632) r ⟨p.val * 1408 + k.val, by have := p.isLt; have := k.isLt; omega⟩) ?_]
  · exact h _
  · show ((Sh 1024 5632).rowMajor _).val = ((⟨3, ![1024, 4, 1408]⟩ : Shape).rowMajor _).val
    rw [Shape.rowMajor_val_three, Shape.rowMajor_val_two]
    show r.val * 5632 + (p.val * 1408 + k.val) = (r.val * 4 + p.val) * 1408 + k.val
    omega

/-! ## Sums along an axis, and broadcasts -/

/-- The one array of a stack. -/
theorem X3.x2 {A : Vec Ideal (⟨3, ![1, a, b]⟩ : Shape) .bf16} {f : ℕ → ℕ → EReal} (hA : X3 A f) (h : (⟨3, ![1, a, b]⟩ : Shape).ShapeCasts (Sh a b)) :
    X2 (shapeCast (Sh a b) A h) f := fun i => by
  obtain ⟨r, c, rfl⟩ : ∃ (r : Fin a) (c : Fin b), i = ValueIdx.ix2 r c := ⟨i 0, i 1, (ValueIdx.eq_ix2 i)⟩
  rw [ValueIdx.shapeCast_1ab_ab_apply]
  exact hA _

theorem X2.sub {φ : FTy} {A B : FVec Ideal (Sh a b) φ} {f g : ℕ → ℕ → EReal} (hA : X2 A f) (hB : X2 B g) :
    X2 (subf A B) fun i j => f i j - g i j := fun i => by
  show A i - B i = _
  rw [hA i, hB i]

/-- A column laid along the rows. -/
theorem X2.bcast {n : ℕ} {A : FVec Ideal (Sh a 1) .f32} {f : ℕ → EReal} (hA : X2 A fun i _ => f i) (h : (Sh a 1).Broadcasts (Sh a n)) :
    X2 (broadcastTo (Sh a n) A h) fun i _ => f i := fun i => by
  rw [broadcastTo_apply A h i (ValueIdx.ix2 (n0 := a) (n1 := 1) (i 0) 0)]; · exact hA _
  intro x
  match x with
  | ⟨0, _⟩ =>
    show (i 0).val = if a = 1 then 0 else (i 0).val
    split
    · have := lt0 i; omega
    · rfl
  | ⟨1, _⟩ => show 0 = if 1 = 1 then 0 else _; simp

/-- A row laid along the columns. -/
theorem X2.bcastRow {n : ℕ} {A : FVec Ideal (Sh 1 b) .f32} {f : ℕ → EReal} (hA : X2 A fun _ j => f j) (h : (Sh 1 b).Broadcasts (Sh n b)) :
    X2 (broadcastTo (Sh n b) A h) fun _ j => f j := fun i => by
  rw [broadcastTo_apply A h i (ValueIdx.ix2 (n0 := 1) (n1 := b) 0 (i 1))]; · exact hA _
  intro x
  match x with
  | ⟨0, _⟩ => show 0 = if 1 = 1 then 0 else _; simp
  | ⟨1, _⟩ =>
    show (i 1).val = if b = 1 then 0 else (i 1).val
    split
    · have := lt1 i; omega
    · rfl

/-- The sum of each row, kept as a column. -/
theorem X2.rowSum {A : FVec Ideal (Sh a b) .f32} {f : ℕ → ℕ → EReal} (hA : X2 A f) (h : (Sh a b).Reduces [1] ⟨1, ![a]⟩)
    (hc : (⟨1, ![a]⟩ : Shape).ShapeCasts (Sh a 1)) (h1 h2) :
    X2 (shapeCast (Sh a 1) (multiReduction .add [1] ⟨1, ![a]⟩ A 0x00000000#32 h h1 h2) hc)
      fun i _ => ∑ k ∈ range b, f i k := fun i => by
  rw [shapeCast_apply _ hc i (ix1 (n0 := a) (i 0))]
  · show FloatOps.reduceAdd [1] h A _ = _
    rw [Ideal.reduceAdd_def, Ideal.reduceAdd_r2_a1]
    refine Eq.trans ?_ (Finset.sum_range _).symm
    exact Finset.sum_congr rfl fun k _ => hA _
  · have h0 := lt1 i
    rw [Shape.rowMajor_val_one, Shape.rowMajor_val_two]
    show (i 0).val = (i 0).val * 1 + (i 1).val
    omega

/-- The sum of each column, kept as a row. -/
theorem X2.colSum {A : FVec Ideal (Sh a b) .f32} {f : ℕ → ℕ → EReal} (hA : X2 A f) (h : (Sh a b).Reduces [0] ⟨1, ![b]⟩)
    (hc : (⟨1, ![b]⟩ : Shape).ShapeCasts (Sh 1 b)) (h1 h2) :
    X2 (shapeCast (Sh 1 b) (multiReduction .add [0] ⟨1, ![b]⟩ A 0x00000000#32 h h1 h2) hc)
      fun _ j => ∑ k ∈ range a, f k j := fun i => by
  rw [shapeCast_apply _ hc i (ix1 (n0 := b) (i 1))]
  · show FloatOps.reduceAdd [0] h A _ = _
    rw [Ideal.reduceAdd_def, Ideal.reduceAdd_r2_a0]
    refine Eq.trans ?_ (Finset.sum_range _).symm
    exact Finset.sum_congr rfl fun k _ => hA _
  · have h0 := lt0 i
    rw [Shape.rowMajor_val_one, Shape.rowMajor_val_two]
    show (i 1).val = (i 0).val * b + (i 1).val
    have e : (i 0).val = 0 := by omega
    rw [e]; omega

end Cert.Attn

end
-- ==== Proof.UpDw.lean ====
/- The gradient of the first feed-forward weight, four shards of columns, each accumulated over four blocks of rows: the first two
   from the gate's cotangent, the last two from the other factor's. -/
module

public import proofs.«01_k».proof.Defs
public import proofs.«01_k».proof.Proof.Ext
public import Idealize.ShloMosaic.Lib.Pipeline.ValueKit
public import Idealize.ShloMosaic.Lib.ValueLayout
public import proofs.«01_k».proof.Proof.Gen.Kernel2Ideal.Frame
public import proofs.«01_k».proof.Proof.Gen.Reference2Ideal.Run
public import proofs.«01_k».proof.Proof.Gen.Reference2Ideal.Read

@[expose] public section

set_option maxRecDepth 16384

noncomputable section

namespace Cert.Attn.UpDw

open Idealize.ShloMosaic Idealize.ShloMosaic.TcCoe Idealize.SL.Sem
open scoped BigOperators
open Finset (range)

/-- The cotangent of the two halves laid side by side. -/
def cat (g u : ℕ → ℕ → EReal) (k c : ℕ) : EReal := if c < 2816 then g k c else u k (c - 2816)

section kernel

open Cert.Kernel2Ideal Cert.Kernel2Ideal.Gen

section body

variable {F : FTy → Type} [FloatOps F]

variable (c : Dev nD) (i : grid0.Coords) (a2 : Memref sig .tc .vmem S1024x1024 .bf16) (h2 : a2.IsWhole) (a3 : Memref sig .tc .vmem S1024x1408 .bf16) (h3 : a3.IsWhole)
  (a4 : Memref sig .tc .vmem S1024x1408 .bf16) (h4 : a4.IsWhole) (a5 : Memref sig .tc .vmem S1x1024x1408 .bf16) (h5 : a5.IsWhole) (a6 : Memref sig .tc .vmem S1024x1408 .f32) (h6 : a6.IsWhole)
  (x0 : Vec F S1024x1024 .bf16) (x1 x2 : Vec F S1024x1408 .bf16) (xs : Vec F S1024x1408 .f32)

theorem s_A (hc0 hc1 hc2 hc3) : sout0_A_0 c i a2 h2 a3 h3 a4 h4 a5 h5 a6 h6 hc0 hc1 hc2 hc3 x0 x1 x2 = k0_pay2 (k0_pay1 (F := F)) x0 x1 := by
  unfold sout0_A_0
  rw [View.read_writes_eq_canon _ _ _ (scover0_A_0 c i a2 h2 a3 h3 a4 h4 a5 h5 a6 h6 hc0 hc1 hc2 hc3 x0 x1 x2)]
  unfold kernelRun0_A
  dsimp only
  sl_unfold_words
  rw [View.canon_cons_unit_zero (S := S1024x1408) hz2, View.readCov_unit_zero (S := S1024x1408) _ hz2]
  simp only [View.readAt_eq_ld, h2.read_unread, h3.read_unread, View.ld_unit_zero (S := S1024x1408) hz2, View.ld_unit_zero (S := S1024x1024) hz2]

theorem s_B (hc0 hc1 hc2 hc3) : sout0_B_0 c i a2 h2 a3 h3 a4 h4 a5 h5 a6 h6 hc0 hc1 hc2 hc3 x0 x1 x2 xs = k0_pay2 (F := F) xs x0 x1 := by
  unfold sout0_B_0
  rw [View.read_writes_eq_canon _ _ _ (scover0_B_0 c i a2 h2 a3 h3 a4 h4 a5 h5 a6 h6 hc0 hc1 hc2 hc3 x0 x1 x2 xs)]
  unfold kernelRun0_B
  dsimp only
  rw [View.canon_unit_zero hz2]
  simp only [View.readAt_eq_ld, h2.read_unread, h3.read_unread, h6.read_unread, View.ld_unit_zero (S := S1024x1408) hz2, View.ld_unit_zero (S := S1024x1024) hz2]

theorem o_C (hc0 hc1 hc2 hc3) : out0_C_3 c i a2 h2 a3 h3 a4 h4 a5 h5 a6 h6 hc0 hc1 hc2 hc3 x0 x1 x2 xs = k0_pay4 (k0_pay2 (F := F) xs x0 x1) := by
  unfold out0_C_3
  rw [View.read_writes_eq_canon _ _ _ (cover0_C_3 c i a2 h2 a3 h3 a4 h4 a5 h5 a6 h6 hc0 hc1 hc2 hc3 x0 x1 x2 xs)]
  unfold kernelRun0_C
  dsimp only
  sl_unfold_words
  rw [View.canon_unit_zero hz3, View.readCov_unit_zero (S := S1024x1408) _ hz2]
  simp only [View.readAt_eq_ld, h2.read_unread, h3.read_unread, h6.read_unread, View.ld_unit_zero (S := S1024x1408) hz2, View.ld_unit_zero (S := S1024x1024) hz2]

theorem s_D (hc0 hc1 hc2 hc3) : sout0_D_0 c i a2 h2 a3 h3 a4 h4 a5 h5 a6 h6 hc0 hc1 hc2 hc3 x0 x1 x2 = k0_pay2 (k0_pay1 (F := F)) x0 x2 := by
  unfold sout0_D_0
  rw [View.read_writes_eq_canon _ _ _ (scover0_D_0 c i a2 h2 a3 h3 a4 h4 a5 h5 a6 h6 hc0 hc1 hc2 hc3 x0 x1 x2)]
  unfold kernelRun0_D
  dsimp only
  sl_unfold_words
  rw [View.canon_cons_unit_zero (S := S1024x1408) hz2, View.readCov_unit_zero (S := S1024x1408) _ hz2]
  simp only [View.readAt_eq_ld, h2.read_unread, h4.read_unread, View.ld_unit_zero (S := S1024x1408) hz2, View.ld_unit_zero (S := S1024x1024) hz2]
  rfl

theorem s_E (hc0 hc1 hc2 hc3) : sout0_E_0 c i a2 h2 a3 h3 a4 h4 a5 h5 a6 h6 hc0 hc1 hc2 hc3 x0 x1 x2 xs = k0_pay2 (F := F) xs x0 x2 := by
  unfold sout0_E_0
  rw [View.read_writes_eq_canon _ _ _ (scover0_E_0 c i a2 h2 a3 h3 a4 h4 a5 h5 a6 h6 hc0 hc1 hc2 hc3 x0 x1 x2 xs)]
  unfold kernelRun0_E
  dsimp only
  rw [View.canon_unit_zero hz2]
  simp only [View.readAt_eq_ld, h2.read_unread, h4.read_unread, h6.read_unread, View.ld_unit_zero (S := S1024x1408) hz2, View.ld_unit_zero (S := S1024x1024) hz2]
  rfl

theorem o_F (hc0 hc1 hc2 hc3) : out0_F_3 c i a2 h2 a3 h3 a4 h4 a5 h5 a6 h6 hc0 hc1 hc2 hc3 x0 x1 x2 xs = k0_pay4 (k0_pay2 (F := F) xs x0 x2) := by
  unfold out0_F_3
  rw [View.read_writes_eq_canon _ _ _ (cover0_F_3 c i a2 h2 a3 h3 a4 h4 a5 h5 a6 h6 hc0 hc1 hc2 hc3 x0 x1 x2 xs)]
  unfold kernelRun0_F
  dsimp only
  sl_unfold_words
  rw [View.canon_unit_zero hz3, View.readCov_unit_zero (S := S1024x1408) _ hz2]
  simp only [View.readAt_eq_ld, h2.read_unread, h4.read_unread, h6.read_unread, View.ld_unit_zero (S := S1024x1408) hz2, View.ld_unit_zero (S := S1024x1024) hz2]
  rfl

end body

variable (m : (ℓ : Loc nD τ sig) → Buf (Elt Ideal) ℓ) (c : Dev nD)

/-- The block of the cotangent that point `t` takes: of the gate's in the first eight, of the other's after. -/
def ct (t : Fin cfg0.N) : Vec Ideal S1024x1408 .bf16 := if t.val < 8 then iblk m c 1 t else iblk m c 2 t

theorem sc_first (t : Fin cfg0.N) (h : t.val % 4 = 0) : (outsAt0 m c t.val t.isLt).2 = k0_pay2 (F := Ideal) (k0_pay1 (F := Ideal)) (iblk m c 0 t) (ct m c t) := by
  unfold ct
  by_cases h8 : t.val < 8
  · rw [outsAt0_A m c t h h8 (by omega) (by omega), if_pos h8]
    dsimp only
    rw [s_A (F := Ideal)]
  · rw [outsAt0_D m c t h h8 (by omega) (by omega), if_neg h8]
    dsimp only
    rw [s_D (F := Ideal)]

theorem sc_next (t : Fin cfg0.N) (h0 : t.val % 4 ≠ 0) (h3 : t.val % 4 ≠ 3) :
    (outsAt0 m c t.val t.isLt).2 = k0_pay2 (F := Ideal) (outsAt0 m c (t.val - 1) (by have := t.isLt; omega)).2 (iblk m c 0 t) (ct m c t) := by
  unfold ct
  by_cases h8 : t.val < 8
  · rw [outsAt0_B m c t h0 h8 (by omega) h3, if_pos h8]
    dsimp only
    rw [s_B (F := Ideal)]
  · rw [outsAt0_E m c t h0 h8 (by omega) h3, if_neg h8]
    dsimp only
    rw [s_E (F := Ideal)]

theorem out_last (t : Fin cfg0.N) (h3 : t.val % 4 = 3) :
    (outsAt0 m c t.val t.isLt).1 = k0_pay4 (F := Ideal) (k0_pay2 (F := Ideal) (outsAt0 m c (t.val - 1) (by have := t.isLt; omega)).2 (iblk m c 0 t) (ct m c t)) := by
  unfold ct
  by_cases h8 : t.val < 8
  · rw [outsAt0_C m c t (by omega) h8 (by omega) h3, if_pos h8]
    dsimp only
    rw [o_C (F := Ideal)]
  · rw [outsAt0_F m c t (by omega) h8 (by omega) h3, if_neg h8]
    dsimp only
    rw [o_F (F := Ideal)]

theorem ix0 : ∀ t : Fin cfg0.N, win0_0.index t = ![t.val % 4, 0] := (by decide +kernel : ∀ t : Fin grid0.N, win0_0.index t = ![t.val % 4, 0])
theorem ix1 : ∀ t : Fin cfg0.N, t.val < 8 → win0_1.index t = ![t.val % 4, t.val / 4] := (by decide +kernel : ∀ t : Fin grid0.N, t.val < 8 → win0_1.index t = ![t.val % 4, t.val / 4])
theorem ix2 : ∀ t : Fin cfg0.N, ¬ t.val < 8 → win0_2.index t = ![t.val % 4, t.val / 4 - 2] := (by decide +kernel : ∀ t : Fin grid0.N, ¬ t.val < 8 → win0_2.index t = ![t.val % 4, t.val / 4 - 2])
theorem ix3 : ∀ t : Fin cfg0.N, win0_3.index t = ![t.val / 4, 0, 0] := (by decide +kernel : ∀ t : Fin grid0.N, win0_3.index t = ![t.val / 4, 0, 0])
theorem fl3 : ∀ t : Fin cfg0.N, (cfg0.win 3).flush t = true → t.val % 4 = 3 := (by decide +kernel : ∀ t : Fin grid0.N, win0_3.flush t = true → t.val % 4 = 3)

theorem in0 {f : ℕ → ℕ → EReal} (h : X2 (a := 4096) (b := 1024) (m ((c : Thread nD τ).loc main_arg0)) f) (t : Fin cfg0.N) :
    X2 (a := 1024) (b := 1024) (iblk m c 0 t) fun i j => f (t.val % 4 * 1024 + i) j := by
  intro y
  refine (h _).trans ?_
  blk_simp [ix0]

theorem in1 {g u : ℕ → ℕ → EReal} (hg : X2 (a := 4096) (b := 2816) (m ((c : Thread nD τ).loc main_arg1)) g)
    (hu : X2 (a := 4096) (b := 2816) (m ((c : Thread nD τ).loc main_arg2)) u) (t : Fin cfg0.N) :
    X2 (a := 1024) (b := 1408) (ct m c t) fun i j => cat g u (t.val % 4 * 1024 + i) (t.val / 4 * 1408 + j) := by
  have hN : t.val < 16 := lt_of_lt_of_eq t.isLt N_0
  intro y
  have l1 : (y 1).val < 1408 := (y 1).isLt
  unfold ct cat
  by_cases h8 : t.val < 8
  · rw [if_pos h8]
    dsimp only
    rw [if_pos (by omega)]
    refine (hg _).trans ?_
    blk_simp [ix1 t h8]
  · rw [if_neg h8]
    dsimp only
    rw [if_neg (by omega)]
    refine (hu _).trans ?_
    blk_simp [ix2 t h8]
    congr 1
    omega

theorem pay2_x {A : FVec Ideal S1024x1024 .bf16} {B : FVec Ideal S1024x1408 .bf16} {C : FVec Ideal S1024x1408 .f32} {f g h : ℕ → ℕ → EReal} (hA : X2 A f) (hB : X2 B g) (hC : X2 C h) :
    X2 (a := 1024) (b := 1408) (k0_pay2 (F := Ideal) C A B) fun i j => h i j + ∑ k ∈ range 1024, f k i * g k j :=
  (hC.add (X2.tn _ rfl rfl rfl rfl rfl rfl none hA hB X2.zero)).cast _

theorem pay1_x : X2 (a := 1024) (b := 1408) (k0_pay1 (F := Ideal)) fun _ _ => 0 := X2.cast (fun _ => zero_f32) _

theorem pay4_x {A : FVec Ideal S1024x1408 .f32} {f : ℕ → ℕ → EReal} (hA : X2 A f) (y : S1x1024x1408.Idx) : k0_pay4 (F := Ideal) A y = f (y 1).val (y 2).val := by
  unfold k0_pay4
  dsimp only
  rw [ValueIdx.eq_ix3 y]
  refine (ValueIdx.shapeCast_ab_1ab_apply _ _ _ _ _).trans ?_
  exact hA _

/-- What the carried sum holds after a point that is not the last of its four. -/
theorem carried {f g u : ℕ → ℕ → EReal} (hf : X2 (a := 4096) (b := 1024) (m ((c : Thread nD τ).loc main_arg0)) f) (hg : X2 (a := 4096) (b := 2816) (m ((c : Thread nD τ).loc main_arg1)) g)
    (hu : X2 (a := 4096) (b := 2816) (m ((c : Thread nD τ).loc main_arg2)) u) : ∀ (n : ℕ) (hn : n < cfg0.N), n % 4 ≠ 3 →
    X2 (a := 1024) (b := 1408) (outsAt0 m c n hn).2 fun i j => ∑ s ∈ range (n % 4 + 1), ∑ k ∈ range 1024, f (s * 1024 + k) i * cat g u (s * 1024 + k) (n / 4 * 1408 + j) := by
  intro n
  induction n with
  | zero =>
    intro hn h3
    rw [sc_first m c ⟨0, hn⟩ rfl]
    refine (pay2_x (in0 m c hf _) (in1 m c hg hu _) pay1_x).congr fun i j _ _ => ?_
    simp
  | succ n ih =>
    intro hn h3
    by_cases h0 : (n + 1) % 4 = 0
    · rw [sc_first m c ⟨n + 1, hn⟩ h0]
      refine (pay2_x (in0 m c hf _) (in1 m c hg hu _) pay1_x).congr fun i j _ _ => ?_
      simp [h0]
    · rw [sc_next m c ⟨n + 1, hn⟩ h0 h3]
      refine (pay2_x (in0 m c hf _) (in1 m c hg hu _) (ih (by omega) (by omega))).congr fun i j _ _ => ?_
      have e : (n + 1) % 4 = n % 4 + 1 := by omega
      have e' : (n + 1) / 4 = n / 4 := by omega
      rw [Finset.sum_range_succ _ ((n + 1) % 4)]
      dsimp only
      rw [e, e']

/-- The kernel's result: each shard of columns of the product of the transposed activations with the cotangents laid side by side. -/
theorem result {f g u : ℕ → ℕ → EReal} (hf : X2 (a := 4096) (b := 1024) (m ((c : Thread nD τ).loc main_arg0)) f) (hg : X2 (a := 4096) (b := 2816) (m ((c : Thread nD τ).loc main_arg1)) g)
    (hu : X2 (a := 4096) (b := 2816) (m ((c : Thread nD τ).loc main_arg2)) u) (G : FVec Ideal S4x1024x1408 .bf16)
    (hG : ∀ i, G i = ∑ k ∈ range 4096, f k (i 1).val * cat g u k ((i 0).val * 1408 + (i 2).val)) :
    (dats m 0 c).arrAt 3 cfg0.N = G := by
  refine (dats m 0 c).arrAt_eq_of_covers 3 _ (by decide +kernel) fun t hf' y => ?_
  have h3 := fl3 t hf'
  have hN : t.val < 16 := lt_of_lt_of_eq t.isLt N_0
  have l0 : (y 0).val < 1 := (y 0).isLt
  blk_simp
  rw [after0_3, out_last m c t h3]
  refine (pay4_x (pay2_x (in0 m c hf t) (in1 m c hg hu t) (carried m c hf hg hu (t.val - 1) _ (by omega))) y).trans (Eq.trans ?_ (hG _).symm)
  blk_simp [ix3]
  have e : (t.val - 1) % 4 + 1 = 3 := by omega
  have e' : (t.val - 1) / 4 = t.val / 4 := by omega
  have e0 : (y 0).val = 0 := by omega
  rw [e, e', h3]
  refine (Finset.sum_range_succ (fun s => ∑ k ∈ range 1024, f (s * 1024 + k) (y 1).val * cat g u (s * 1024 + k) (t.val / 4 * 1408 + (y 2).val)) 3).symm.trans ?_
  refine (sum_blocks 1024 (fun k => f k (y 1).val * cat g u k (t.val / 4 * 1408 + (y 2).val)) 4).trans ?_
  simp [e0]

/-- The run, with the result named and the arguments unchanged. -/
theorem run_named (ρ : Dev nD → PrngReg) : θ_run defs (onTc (τ := τ) (main (F := Ideal))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end kernel

section reference

open Cert.Reference2Ideal Cert.Reference2Ideal.Read

/-- Four shards, one after the other. -/
theorem shards {F : ℕ → ℕ → ℕ → EReal} (A0 A1 A2 A3 : S1x1024x1408.Idx → EReal) (h : Shape.Concatenates [S1x1024x1408, S1x1024x1408, S1x1024x1408, S1x1024x1408] S4x1024x1408 0)
    (h0 : ∀ y, A0 y = F 0 (y 1).val (y 2).val) (h1 : ∀ y, A1 y = F 1 (y 1).val (y 2).val) (h2 : ∀ y, A2 y = F 2 (y 1).val (y 2).val) (h3 : ∀ y, A3 y = F 3 (y 1).val (y 2).val)
    (i : S4x1024x1408.Idx) : concatenate S4x1024x1408 0 [⟨S1x1024x1408, A0⟩, ⟨S1x1024x1408, A1⟩, ⟨S1x1024x1408, A2⟩, ⟨S1x1024x1408, A3⟩] h i = F (i 0).val (i 1).val (i 2).val := by
  have l0 : (i 0).val < 4 := (i 0).isLt
  have off : ∀ b : Fin 3, b ≠ 0 → ((ValueIdx.ix3 (n0 := 1) (n1 := 1024) (n2 := 1408) 0 (i 1) (i 2)) b).val = (i b).val := fun b hb => match b with
    | ⟨0, _⟩ => absurd rfl hb
    | ⟨1, _⟩ => rfl
    | ⟨2, _⟩ => rfl
  have e : (i 0).val = 0 ∨ (i 0).val = 1 ∨ (i 0).val = 2 ∨ (i 0).val = 3 := by omega
  rcases e with e | e | e | e
  · refine (concatenate_apply_piece (t := S4x1024x1408) 0 [⟨S1x1024x1408, A0⟩, ⟨S1x1024x1408, A1⟩, ⟨S1x1024x1408, A2⟩, ⟨S1x1024x1408, A3⟩] h i 0 (show 0 < 4 by decide) S1x1024x1408 A0 rfl rfl 0 rfl (ValueIdx.ix3 0 (i 1) (i 2)) off ?_).trans ?_
    · exact e.symm
    · rw [h0, e]
  · refine (concatenate_apply_piece (t := S4x1024x1408) 0 [⟨S1x1024x1408, A0⟩, ⟨S1x1024x1408, A1⟩, ⟨S1x1024x1408, A2⟩, ⟨S1x1024x1408, A3⟩] h i 1 (show 1 < 4 by decide) S1x1024x1408 A1 rfl rfl 1 rfl (ValueIdx.ix3 0 (i 1) (i 2)) off ?_).trans ?_
    · exact e.symm
    · rw [h1, e]
  · refine (concatenate_apply_piece (t := S4x1024x1408) 0 [⟨S1x1024x1408, A0⟩, ⟨S1x1024x1408, A1⟩, ⟨S1x1024x1408, A2⟩, ⟨S1x1024x1408, A3⟩] h i 2 (show 2 < 4 by decide) S1x1024x1408 A2 rfl rfl 2 rfl (ValueIdx.ix3 0 (i 1) (i 2)) off ?_).trans ?_
    · exact e.symm
    · rw [h2, e]
  · refine (concatenate_apply_piece (t := S4x1024x1408) 0 [⟨S1x1024x1408, A0⟩, ⟨S1x1024x1408, A1⟩, ⟨S1x1024x1408, A2⟩, ⟨S1x1024x1408, A3⟩] h i 3 (show 3 < 4 by decide) S1x1024x1408 A3 rfl rfl 3 rfl (ValueIdx.ix3 0 (i 1) (i 2)) off ?_).trans ?_
    · exact e.symm
    · rw [h3, e]

variable {f g u : ℕ → ℕ → EReal} (x0 : FVec Ideal S4096x1024 .bf16) (x1 x2 : FVec Ideal S4096x2816 .bf16)

theorem cat_x (hg : X2 (a := 4096) (b := 2816) x1 g) (hu : X2 (a := 4096) (b := 2816) x2 u) : X2 (a := 4096) (b := 5632) (val_main_v7 (F := Ideal) x1 x2) (cat g u) := fun i => by
  unfold val_main_v7 cat
  rw [concatenate_pair_apply]
  by_cases hj : (i 1).val < 2816
  · refine (dif_pos hj).trans ?_
    rw [if_pos hj]
    exact hg _
  · refine (dif_neg hj).trans ?_
    rw [if_neg hj]
    exact hu _

theorem dot_x (hf : X2 (a := 4096) (b := 1024) x0 f) (hg : X2 (a := 4096) (b := 2816) x1 g) (hu : X2 (a := 4096) (b := 2816) x2 u) :
    X2 (a := 1024) (b := 5632) (val_main_v9 (F := Ideal) x0 x1 x2) fun i j => ∑ k ∈ range 4096, f k i * cat g u k j := fun i => by
  rw [val_main_v9_apply, val_main_v8_apply]
  refine Eq.trans ?_ (Finset.sum_range _).symm
  refine Finset.sum_congr rfl fun k _ => ?_
  show val_main_v7 (F := Ideal) x1 x2 (lidx_main_v8 (idx_main_v9 i) k) * x0 (ridx_main_v8 (idx_main_v9 i) k) = _
  rw [cat_x x1 x2 hg hu, hf, mul_comm]

/-- The reference's result: the shards of the same product. -/
theorem ref (hf : X2 (a := 4096) (b := 1024) x0 f) (hg : X2 (a := 4096) (b := 2816) x1 g) (hu : X2 (a := 4096) (b := 2816) x2 u) (i : S4x1024x1408.Idx) :
    val_main_v19 (F := Ideal) x0 x1 x2 i = ∑ k ∈ range 4096, f k (i 1).val * cat g u k ((i 0).val * 1408 + (i 2).val) := by
  have d := dot_x x0 x1 x2 hf hg hu
  show val_main_v18 (F := Ideal) x0 x1 x2 i = _
  unfold val_main_v18
  refine shards (F := fun s i j => ∑ k ∈ range 4096, f k i * cat g u k (s * 1408 + j)) _ _ _ _ _ (fun y => ?_) (fun y => ?_) (fun y => ?_) (fun y => ?_) i
  · rw [val_main_v14_apply, val_main_v10_apply]
    refine (d _).trans ?_
    simp
  · rw [val_main_v15_apply, val_main_v11_apply]
    exact d _
  · rw [val_main_v16_apply, val_main_v12_apply]
    exact d _
  · rw [val_main_v17_apply, val_main_v13_apply]
    exact d _

end reference

set_option backward.isDefEq.respectTransparency.types false in
/-- The gradient of the first feed-forward weight is the reference's, at every argument. -/
theorem algebraic : Cert.algebraic_Kernel2Ideal_Reference2Ideal := fun m g m' g' _ agree => by
  refine ⟨_, run_named m g, ?_⟩
  refine (θ_run _ _ _).mono (fun r h c => ?_) (Cert.Reference2Ideal.Value.run (F := Ideal) m' g')
  obtain ⟨g0, g1, g2⟩ := agree c
  obtain ⟨r0, rest⟩ := h c
  refine ⟨r0.trans ((Cert.Reference2Ideal.Read.val_main_v19_eq (F := Ideal) _ _ _).trans ?_), rest⟩
  rw [g0, g1, g2]
  exact (result m c (X2.self _) (X2.self _) (X2.self _) _ (ref _ _ _ (X2.self _) (X2.self _) (X2.self _))).symm

end Cert.Attn.UpDw

end
-- ==== Proof.Row.lean ====
/- The norm of one row and its derivative, on the extended reals: what the norm's kernels have in common. -/
module

public import proofs.«01_k».proof.Proof.Ext

@[expose] public section

set_option maxRecDepth 16384

noncomputable section

namespace Cert.Attn

open Idealize.ShloMosaic Idealize.ShloMosaic.TcCoe Idealize.SL.Sem
open scoped BigOperators
open Finset (range)

/-! ## The norm's derivative of one row -/

theorem k_f32 : Ideal.ofBits .f32 0x44800000#32 = ((1024 : ℝ) : EReal) := by
  simp [Ideal.ofBits, Ideal.ieee, -EReal.coe_mul]
  norm_num

theorem mhalf_f32 : Ideal.ofBits .f32 0xBF000000#32 = ((-1 / 2 : ℝ) : EReal) := by
  simp [Ideal.ofBits, Ideal.ieee, -EReal.coe_mul]
  norm_num

/-- The norm's small constant is a positive real. -/
theorem eps_f32 : ∃ e : ℝ, 0 < e ∧ Ideal.ofBits .f32 0x358637BD#32 = (e : EReal) := by
  refine ⟨_, ?_, by simp only [Ideal.ofBits, Ideal.ieee]; rfl⟩
  norm_num
  rw [if_neg (by decide)]
  positivity

/-- The mean square of a row with the small constant added. -/
def nn (X : ℕ → EReal) : EReal := Ideal.div (∑ k ∈ range 1024, X k * X k) (Ideal.ofBits .f32 0x44800000#32) + Ideal.ofBits .f32 0x358637BD#32

/-- The reciprocal of the row's root mean square. -/
def rr (X : ℕ → EReal) : EReal := Ideal.rsqrt (nn X)

/-- The input's gradient as the kernel has it: `D` the gradient of the row with the gain multiplied in. -/
def kx (X D : ℕ → EReal) (y : EReal) (j : ℕ) : EReal :=
  y + rr X * (D j - X j * rr X * Ideal.div (∑ k ∈ range 1024, D k * (X k * rr X)) (Ideal.ofBits .f32 0x44800000#32))

/-- The factor of the row in the reference's gradient of the mean square. -/
def qq (X D : ℕ → EReal) : EReal :=
  Ideal.div ((∑ k ∈ range 1024, X k * D k) * (Ideal.ofBits .f32 0xBF000000#32 * Ideal.div (rr X) (nn X))) (Ideal.ofBits .f32 0x44800000#32)

/-- A sum of squares with an infinite term is infinite. -/
theorem sum_sq_top (X : ℕ → EReal) (n k : ℕ) (hk : k < n) (h : X k = ⊤ ∨ X k = ⊥) : ∑ j ∈ range n, X j * X j = ⊤ := by
  have pos : ∀ j, 0 ≤ X j * X j := fun j => by
    rcases le_total 0 (X j) with hj | hj
    · exact mul_nonneg hj hj
    · have e : X j * X j = -X j * -X j := by rw [neg_mul_neg]
      have hn : 0 ≤ -X j := EReal.neg_nonneg.mpr hj
      rw [e]
      exact mul_nonneg hn hn
  have hs : X k * X k = ⊤ := by
    rcases h with h | h
    · rw [h, EReal.top_mul_top]
    · rw [h, EReal.bot_mul_bot]
  refine top_le_iff.mp ?_
  rw [← hs]
  exact Finset.single_le_sum (f := fun j => X j * X j) (fun j _ => pos j) (Finset.mem_range.mpr hk)

theorem add_self (z : EReal) (c : ℝ) : (c : EReal) * z + (c : EReal) * z = ((2 * c : ℝ) : EReal) * z := by
  have e : ∀ w : EReal, w + w = ((2 : ℝ) : EReal) * w := fun w => by
    induction w with
    | bot => rw [EReal.coe_mul_bot_of_pos (by norm_num)]; rfl
    | top => rw [EReal.coe_mul_top_of_pos (by norm_num)]; rfl
    | coe r => rw [← EReal.coe_add, ← EReal.coe_mul]; congr 1; ring
  rw [e, ← mul_assoc, ← EReal.coe_mul]

/-- The kernel's gradient of a row's entry is the reference's. -/
theorem row (X D : ℕ → EReal) (y : EReal) (j : ℕ) (hj : j < 1024) :
    kx X D y j = y + D j * rr X + X j * qq X D + qq X D * X j := by
  obtain ⟨e, he, hE⟩ := eps_f32
  by_cases hf : ∀ k, k < 1024 → X k ≠ ⊤ ∧ X k ≠ ⊥
  · have hx : ∀ k, k < 1024 → X k = (((X k).toReal : ℝ) : EReal) := fun k hk => (EReal.coe_toReal (hf k hk).1 (hf k hk).2).symm
    obtain ⟨x, hx⟩ : ∃ x : ℕ → ℝ, ∀ k, k < 1024 → X k = ((x k : ℝ) : EReal) := ⟨_, hx⟩
    obtain ⟨v, hv, hn⟩ : ∃ v : ℝ, 0 < v ∧ nn X = (v : EReal) := by
      refine ⟨(∑ k ∈ range 1024, x k * x k) * (1 / 1024) + e, ?_, ?_⟩
      · have : 0 ≤ ∑ k ∈ range 1024, x k * x k := Finset.sum_nonneg fun k _ => mul_self_nonneg _
        positivity
      · have hs : ∑ k ∈ range 1024, X k * X k = ((∑ k ∈ range 1024, x k * x k : ℝ) : EReal) := by
          rw [Finset.sum_range, ← sum_fin_coe]
          exact Finset.sum_congr rfl fun k _ => by rw [hx k.val k.isLt, EReal.coe_mul]
        unfold nn
        rw [hs, k_f32, hE, Ideal.div_coe (by norm_num), ← EReal.coe_mul, ← EReal.coe_add]
    obtain ⟨r, hr, hrv, hR⟩ : ∃ r : ℝ, 0 ≤ r ∧ r * r * v = 1 ∧ rr X = (r : EReal) := by
      refine ⟨(Real.sqrt v)⁻¹, by positivity, ?_, ?_⟩
      · have h1 : Real.sqrt v * Real.sqrt v = v := Real.mul_self_sqrt hv.le
        have h2 : Real.sqrt v ≠ 0 := (Real.sqrt_pos.mpr hv).ne'
        field_simp
        nlinarith [h1]
      · unfold rr
        rw [hn, Ideal.rsqrt_coe, if_neg (not_lt.mpr hv.le), if_neg hv.ne']
    have hS : ∑ k ∈ range 1024, D k * (X k * rr X) = (r : EReal) * ∑ k ∈ range 1024, X k * D k := by
      rw [mul_sum_of_nonneg hr]
      exact Finset.sum_congr rfl fun k _ => by rw [hR, mul_comm (X k), mul_left_comm, mul_comm (D k)]
    unfold kx qq
    rw [hS, hR, hn, k_f32, mhalf_f32, Ideal.div_coe (by norm_num), Ideal.div_coe (by norm_num), Ideal.div_coe hv.ne', hx j hj]
    generalize ∑ k ∈ range 1024, X k * D k = T
    generalize D j = d
    generalize x j = a
    have e1 : (a : EReal) * (r : EReal) * ((r : EReal) * T * ((1 / 1024 : ℝ) : EReal)) = ((a * r * r * (1 / 1024) : ℝ) : EReal) * T := by
      simp only [EReal.coe_mul]
      ac_rfl
    have e2 : (a : EReal) * (T * (((-1 / 2 : ℝ) : EReal) * ((r : EReal) * ((1 / v : ℝ) : EReal))) * ((1 / 1024 : ℝ) : EReal)) = ((a * (-1 / 2) * r * (1 / v) * (1 / 1024) : ℝ) : EReal) * T := by
      simp only [EReal.coe_mul]
      ac_rfl
    rw [mul_comm _ (a : EReal), e1, e2, sub_eq_add_neg, EReal.left_distrib_of_nonneg_of_ne_top (EReal.coe_nonneg.mpr hr) (EReal.coe_ne_top _),
      ← neg_mul, ← EReal.coe_neg, ← mul_assoc, ← EReal.coe_mul, add_assoc _ (_ * T), add_self, mul_comm d, add_assoc]
    congr 4
    have h3 : 1 / v = r * r := by field_simp; linarith
    rw [h3]
    ring
  · push Not at hf
    obtain ⟨k, hk, h⟩ := hf
    have hn : nn X = ⊤ := by
      unfold nn
      rw [sum_sq_top X 1024 k hk (by by_cases h' : X k = ⊤; exacts [Or.inl h', Or.inr (h h')]), k_f32, hE, Ideal.div_coe (by norm_num), EReal.top_mul_coe_of_pos (by norm_num), EReal.top_add_coe]
    have hR : rr X = 0 := by unfold rr; rw [hn]; rfl
    have hq : qq X D = 0 := by
      unfold qq
      rw [hR, hn, k_f32, mhalf_f32, Ideal.div_coe (by norm_num)]
      unfold Ideal.div
      rw [if_neg EReal.top_ne_zero]
      simp
    unfold kx
    rw [hq, hR]
    simp

/-- A column divided by the row's length. -/
theorem mean_x {A : FVec Ideal (Sh 512 1) .f32} {f : ℕ → EReal} (hA : X2 A fun i _ => f i) :
    X2 (divf A (broadcast (Sh 512 1) (Scalar.ofBits (F := Ideal) .f32 0x44800000#32))) fun i _ => Ideal.div (f i) (Ideal.ofBits .f32 0x44800000#32) := fun i => by
  show Ideal.div (A i) _ = _
  rw [hA i]
  rfl

/-- The norm's factor of every row. -/
theorem X2.rms {A : FVec Ideal (Sh 512 1024) .f32} {x : ℕ → ℕ → EReal} (hx : X2 A x) (h : (Sh 512 1024).Reduces [1] ⟨1, ![512]⟩) (hc : (⟨1, ![512]⟩ : Shape).ShapeCasts (Sh 512 1)) (h1 h2) :
    X2 (rsqrt (addf (divf (shapeCast (Sh 512 1) (multiReduction .add [1] ⟨1, ![512]⟩ (mulf (F := Ideal) A A) 0x00000000#32 h h1 h2) hc) (broadcast (Sh 512 1) (Scalar.ofBits (F := Ideal) .f32 0x44800000#32)))
      (broadcast (Sh 512 1) (Scalar.ofBits (F := Ideal) .f32 0x358637BD#32)))) fun i _ => rr (x i) := fun i => by
  have e := (X2.rowSum (hx.mul hx) h hc h1 h2) i
  show Ideal.rsqrt (Ideal.div (shapeCast (Sh 512 1) (multiReduction .add [1] ⟨1, ![512]⟩ (mulf (F := Ideal) A A) 0x00000000#32 h h1 h2) hc i) (Ideal.ofBits .f32 0x44800000#32) + Ideal.ofBits .f32 0x358637BD#32) = _
  rw [e]
  rfl

end Cert.Attn

end
-- ==== Proof.UpDx.lean ====
/- The gradient of a feed-forward half-step's input, through the first product and the norm, and the gradient of the norm's gain: at
   every argument, infinities included. The product is summed over two points a block of rows, the gain's gradient over all points. -/
module

public import proofs.«01_k».proof.Defs
public import proofs.«01_k».proof.Proof.Row
public import Idealize.ShloMosaic.Lib.Pipeline.ValueKit
public import Idealize.ShloMosaic.Lib.Claim
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

namespace Cert.Attn.UpDx

open Idealize.ShloMosaic Idealize.ShloMosaic.TcCoe Idealize.SL.Sem
open scoped BigOperators
open Finset (range)

/-- The gradient of the normed input: the two cotangents times the two halves of the weight, transposed. -/
def dh (p q w : ℕ → ℕ → EReal) (i j : ℕ) : EReal := ∑ k ∈ range 2816, p i k * w j k + ∑ k ∈ range 2816, q i k * w j (2816 + k)

section kernel

open Cert.Kernel3Ideal Cert.Kernel3Ideal.Gen Cert.Kernel3Ideal.Value

section payloads

variable {v0 v4 : Vec Ideal S512x1408 .bf16} {v1 v5 : Vec Ideal S1x1024x1408 .bf16} {xv acc yv : Vec Ideal S512x1024 .f32} {gv prev : Vec Ideal S1x1024 .f32}
  {p q u w h x y : ℕ → ℕ → EReal} {g d : ℕ → EReal}
  (h0 : X2 (a := 512) (b := 1408) v0 p) (h4 : X2 (a := 512) (b := 1408) v4 q) (h1 : X3 (a := 1024) (b := 1408) v1 u) (h5 : X3 (a := 1024) (b := 1408) v5 w)
  (hx : X2 (a := 512) (b := 1024) xv x) (ha : X2 (a := 512) (b := 1024) acc h) (hy : X2 (a := 512) (b := 1024) yv y)
  (hg : X2 (a := 1) (b := 1024) gv fun _ j => g j) (hp : X2 (a := 1) (b := 1024) prev fun _ j => d j)

include h0 h1 h4 h5 in
theorem pay1_x : X2 (a := 512) (b := 1024) (k0_pay1 (F := Ideal) v0 v1 v4 v5) fun i j => ∑ k ∈ range 1408, p i k * u j k + ∑ k ∈ range 1408, q i k * w j k :=
  (X2.nt _ rfl none h0 (h1.x2 _) X2.zero).add (X2.nt _ rfl none h4 (h5.x2 _) X2.zero)

theorem pay2_x : X2 (a := 1) (b := 1024) (k0_pay2 (F := Ideal)) fun _ _ => 0 := fun _ => zero_f32

include h0 h1 h4 h5 in
theorem pay3_x : X2 (a := 512) (b := 1024) (k0_pay3 (F := Ideal) v0 v1 v4 v5) fun i j => ∑ k ∈ range 1408, p i k * u j k + ∑ k ∈ range 1408, q i k * w j k :=
  (pay1_x h0 h4 h1 h5).cast _

include h0 h1 h4 h5 ha in
theorem pay4_x : X2 (a := 512) (b := 1024) (k0_pay4 (F := Ideal) v0 v1 v4 v5 acc) fun i j => h i j + (∑ k ∈ range 1408, p i k * u j k + ∑ k ∈ range 1408, q i k * w j k) :=
  ha.add (pay1_x h0 h4 h1 h5)

include hx in
theorem pay5_x : X2 (a := 512) (b := 1) (k0_pay5 (F := Ideal) xv) fun i _ => rr (x i) := X2.rms hx reduces_S512x1024_S512 shapeCasts_S512_S512x1 (.inl rfl) rfl

include hx in
theorem pay6_x : X2 (a := 512) (b := 1024) (k0_pay6 (F := Ideal) xv) fun i j => x i j * rr (x i) :=
  hx.mul (X2.bcast (f := fun i => rr (x i)) (pay5_x hx) _)

include h0 h1 h4 h5 ha hx hg hy in
theorem pay7_x : X2 (a := 512) (b := 1024) (k0_pay7 (F := Ideal) v0 v1 v4 v5 xv gv acc yv)
    fun i j => kx (x i) (fun j => (h i j + (∑ k ∈ range 1408, p i k * u j k + ∑ k ∈ range 1408, q i k * w j k)) * g j) (y i j) j := by
  have hd := (pay4_x h0 h4 h1 h5 ha).mul (X2.bcastRow (n := 512) (hg.cast shapeCasts_S1x1024_S1x1024) broadcasts_S1x1024_S512x1024)
  have hn := pay6_x hx
  have hm := mean_x (X2.rowSum (hd.mul hn) reduces_S512x1024_S512 shapeCasts_S512_S512x1 (.inl rfl) rfl)
  exact hy.add ((X2.bcast (f := fun i => rr (x i)) (pay5_x hx) broadcasts_S512x1_S512x1024).mul (hd.sub (hn.mul (X2.bcast hm broadcasts_S512x1_S512x1024))))

include h0 h1 h4 h5 ha hx hp in
theorem pay8_x : X2 (a := 1) (b := 1024) (k0_pay8 (F := Ideal) v0 v1 v4 v5 xv acc prev)
    fun _ j => d j + ∑ i ∈ range 512, (h i j + (∑ k ∈ range 1408, p i k * u j k + ∑ k ∈ range 1408, q i k * w j k)) * (x i j * rr (x i)) :=
  (hp.cast _).add (X2.colSum ((pay4_x h0 h4 h1 h5 ha).mul (pay6_x hx)) reduces_S512x1024_S1024 shapeCasts_S1024_S1x1024 (.inl rfl) rfl)

end payloads

section body

variable {F : FTy → Type} [FloatOps F]

variable (c : Dev nD) (i : grid0.Coords) (a2 : Memref sig .tc .vmem S512x1408 .bf16) (h2 : a2.IsWhole) (a3 : Memref sig .tc .vmem S512x1408 .bf16) (h3 : a3.IsWhole)
  (a4 : Memref sig .tc .vmem S1x1024x1408 .bf16) (h4 : a4.IsWhole) (a5 : Memref sig .tc .vmem S1x1024x1408 .bf16) (h5 : a5.IsWhole) (a6 : Memref sig .tc .vmem S512x1024 .f32) (h6 : a6.IsWhole)
  (a7 : Memref sig .tc .vmem S1x1024 .f32) (h7 : a7.IsWhole) (a8 : Memref sig .tc .vmem S512x1024 .f32) (h8 : a8.IsWhole) (a9 : Memref sig .tc .vmem S512x1024 .f32) (h9 : a9.IsWhole)
  (a10 : Memref sig .tc .vmem S1x1024 .f32) (h10 : a10.IsWhole) (a11 : Memref sig .tc .vmem S512x1024 .f32) (h11 : a11.IsWhole)
  (x0 x1 : Vec F S512x1408 .bf16) (x2 x3 : Vec F S1x1024x1408 .bf16) (x4 : Vec F S512x1024 .f32) (x5 : Vec F S1x1024 .f32) (x6 : Vec F S512x1024 .f32) (xo : Vec F S1x1024 .f32) (xs : Vec F S512x1024 .f32)

theorem s_A (hc0 hc1 hc2) : sout0_A_0 c i a2 h2 a3 h3 a4 h4 a5 h5 a6 h6 a7 h7 a8 h8 a9 h9 a10 h10 a11 h11 hc0 hc1 hc2 x0 x1 x2 x3 x4 x5 x6 = k0_pay3 (F := F) x0 x2 x1 x3 := by
  unfold sout0_A_0
  rw [View.read_writes_eq_canon _ _ _ (scover0_A_0 c i a2 h2 a3 h3 a4 h4 a5 h5 a6 h6 a7 h7 a8 h8 a9 h9 a10 h10 a11 h11 hc0 hc1 hc2 x0 x1 x2 x3 x4 x5 x6)]
  unfold kernelRun0_A
  dsimp only
  sl_unfold_words
  rw [View.canon_unit_zero hz2]
  simp only [View.readAt_eq_ld, h2.read_unread, h3.read_unread, h4.read_unread, h5.read_unread, View.ld_unit_zero (S := S512x1408) hz2, View.ld_unit_zero (S := S1x1024x1408) hz3]

theorem g_A (hc0 hc1 hc2) : out0_A_8 c i a2 h2 a3 h3 a4 h4 a5 h5 a6 h6 a7 h7 a8 h8 a9 h9 a10 h10 a11 h11 hc0 hc1 hc2 x0 x1 x2 x3 x4 x5 x6 = k0_pay2 (F := F) := by
  unfold out0_A_8
  rw [View.read_writes_eq_canon _ _ _ (cover0_A_8 c i a2 h2 a3 h3 a4 h4 a5 h5 a6 h6 a7 h7 a8 h8 a9 h9 a10 h10 a11 h11 hc0 hc1 hc2 x0 x1 x2 x3 x4 x5 x6)]
  unfold kernelRun0_A
  dsimp only
  sl_unfold_words
  rw [View.canon_unit_zero hz2]

theorem s_C (hc0 hc1 hc2) : sout0_C_0 c i a2 h2 a3 h3 a4 h4 a5 h5 a6 h6 a7 h7 a8 h8 a9 h9 a10 h10 a11 h11 hc0 hc1 hc2 x0 x1 x2 x3 x4 x5 x6 = k0_pay3 (F := F) x0 x2 x1 x3 := by
  unfold sout0_C_0
  rw [View.read_writes_eq_canon _ _ _ (scover0_C_0 c i a2 h2 a3 h3 a4 h4 a5 h5 a6 h6 a7 h7 a8 h8 a9 h9 a10 h10 a11 h11 hc0 hc1 hc2 x0 x1 x2 x3 x4 x5 x6)]
  unfold kernelRun0_C
  dsimp only
  sl_unfold_words
  rw [View.canon_unit_zero hz2]
  simp only [View.readAt_eq_ld, h2.read_unread, h3.read_unread, h4.read_unread, h5.read_unread, View.ld_unit_zero (S := S512x1408) hz2, View.ld_unit_zero (S := S1x1024x1408) hz3]

theorem o_B (hc0 hc1 hc2) : out0_B_7 c i a2 h2 a3 h3 a4 h4 a5 h5 a6 h6 a7 h7 a8 h8 a9 h9 a10 h10 a11 h11 hc0 hc1 hc2 x0 x1 x2 x3 x4 x5 x6 xo xs = k0_pay7 (F := F) x0 x2 x1 x3 x4 x5 xs x6 := by
  unfold out0_B_7
  rw [View.read_writes_eq_canon _ _ _ (cover0_B_7 c i a2 h2 a3 h3 a4 h4 a5 h5 a6 h6 a7 h7 a8 h8 a9 h9 a10 h10 a11 h11 hc0 hc1 hc2 x0 x1 x2 x3 x4 x5 x6 xo xs)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h11.read_unread, View.ld_unit_zero (S := S512x1408) hz2, View.ld_unit_zero (S := S1x1024x1408) hz3,
    View.ld_unit_zero (S := S512x1024) hz2, View.ld_unit_zero (S := S1x1024) hz2]

theorem g_B (hc0 hc1 hc2) : out0_B_8 c i a2 h2 a3 h3 a4 h4 a5 h5 a6 h6 a7 h7 a8 h8 a9 h9 a10 h10 a11 h11 hc0 hc1 hc2 x0 x1 x2 x3 x4 x5 x6 xo xs = k0_pay8 (F := F) x0 x2 x1 x3 x4 xs xo := by
  unfold out0_B_8
  rw [View.read_writes_eq_canon _ _ _ (cover0_B_8 c i a2 h2 a3 h3 a4 h4 a5 h5 a6 h6 a7 h7 a8 h8 a9 h9 a10 h10 a11 h11 hc0 hc1 hc2 x0 x1 x2 x3 x4 x5 x6 xo xs)]
  unfold kernelRun0_B
  dsimp only
  sl_unfold_words
  rw [View.canon_unit_zero hz2]
  simp only [View.readAt_eq_ld, h2.read_unread, h3.read_unread, h4.read_unread, h5.read_unread, h6.read_unread, h10.read_unread, h11.read_unread, View.ld_unit_zero (S := S512x1408) hz2, View.ld_unit_zero (S := S1x1024x1408) hz3,
    View.ld_unit_zero (S := S512x1024) hz2, View.ld_unit_zero (S := S1x1024) hz2]

end body

variable (m : (ℓ : Loc nD τ sig) → Buf (Elt Ideal) ℓ) (c : Dev nD)

theorem ix0 : ∀ t : Fin cfg0.N, win0_0.index t = ![t.val / 2, t.val % 2] := (by decide +kernel : ∀ t : Fin grid0.N, win0_0.index t = ![t.val / 2, t.val % 2])
theorem ix1 : ∀ t : Fin cfg0.N, win0_1.index t = ![t.val / 2, t.val % 2] := (by decide +kernel : ∀ t : Fin grid0.N, win0_1.index t = ![t.val / 2, t.val % 2])
theorem ix2 : ∀ t : Fin cfg0.N, win0_2.index t = ![t.val % 2, 0, 0] := (by decide +kernel : ∀ t : Fin grid0.N, win0_2.index t = ![t.val % 2, 0, 0])
theorem ix3 : ∀ t : Fin cfg0.N, win0_3.index t = ![2 + t.val % 2, 0, 0] := (by decide +kernel : ∀ t : Fin grid0.N, win0_3.index t = ![2 + t.val % 2, 0, 0])
theorem ix4 : ∀ t : Fin cfg0.N, win0_4.index t = ![t.val / 2, 0] := (by decide +kernel : ∀ t : Fin grid0.N, win0_4.index t = ![t.val / 2, 0])
theorem ix5 : ∀ t : Fin cfg0.N, win0_5.index t = ![0, 0] := (by decide +kernel : ∀ t : Fin grid0.N, win0_5.index t = ![0, 0])
theorem ix6 : ∀ t : Fin cfg0.N, win0_6.index t = ![t.val / 2, 0] := (by decide +kernel : ∀ t : Fin grid0.N, win0_6.index t = ![t.val / 2, 0])
theorem ix7 : ∀ t : Fin cfg0.N, win0_7.index t = ![t.val / 2, 0] := (by decide +kernel : ∀ t : Fin grid0.N, win0_7.index t = ![t.val / 2, 0])
theorem ix8 : ∀ t : Fin cfg0.N, win0_8.index t = ![0, 0] := (by decide +kernel : ∀ t : Fin grid0.N, win0_8.index t = ![0, 0])
theorem fl7 : ∀ t : Fin cfg0.N, (cfg0.win 7).flush t = true → t.val % 2 = 1 := (by decide +kernel : ∀ t : Fin grid0.N, win0_7.flush t = true → t.val % 2 = 1)
theorem fl8 : ∀ t : Fin cfg0.N, (cfg0.win 8).flush t = true → t.val = 15 := (by decide +kernel : ∀ t : Fin grid0.N, win0_8.flush t = true → t.val = 15)

section operands

variable {p q w x y : ℕ → ℕ → EReal} {g : ℕ → EReal} (t : Fin cfg0.N)

theorem in0 (h : X2 (a := 4096) (b := 2816) (m ((c : Thread nD τ).loc main_arg0)) p) : X2 (a := 512) (b := 1408) (iblk m c 0 t) fun i j => p (t.val / 2 * 512 + i) (t.val % 2 * 1408 + j) := by
  intro y
  refine (h _).trans ?_
  blk_simp [ix0]

theorem in1 (h : X2 (a := 4096) (b := 2816) (m ((c : Thread nD τ).loc main_arg1)) q) : X2 (a := 512) (b := 1408) (iblk m c 1 t) fun i j => q (t.val / 2 * 512 + i) (t.val % 2 * 1408 + j) := by
  intro y
  refine (h _).trans ?_
  blk_simp [ix1]

theorem in2 (h : X2 (a := 1024) (b := 5632) (m ((c : Thread nD τ).loc main_arg2)) w) : X3 (a := 1024) (b := 1408) (iblk m c 2 t) fun i j => w i (t.val % 2 * 1408 + j) := by
  intro y
  show V m c main_v1 _ = _
  entry_read
  refine (stack h _ _ _).trans ?_
  blk_simp [ix2]

theorem in3 (h : X2 (a := 1024) (b := 5632) (m ((c : Thread nD τ).loc main_arg2)) w) : X3 (a := 1024) (b := 1408) (iblk m c 3 t) fun i j => w i ((2 + t.val % 2) * 1408 + j) := by
  intro y
  show V m c main_v1 _ = _
  entry_read
  refine (stack h _ _ _).trans ?_
  blk_simp [ix3]

theorem in4 (h : X2 (a := 4096) (b := 1024) (m ((c : Thread nD τ).loc main_arg3)) x) : X2 (a := 512) (b := 1024) (iblk m c 4 t) fun i j => x (t.val / 2 * 512 + i) j := by
  intro y
  refine (h _).trans ?_
  blk_simp [ix4]

/-- A line read as an array of one row. -/
theorem line {A : S1024.Idx → EReal} (h : ∀ i : S1024.Idx, A i = g (i 0).val) (y : S1x1024.Idx) : shapeCast S1x1024 A shapeCasts_S1024_S1x1024 y = g (y 1).val := by
  have l0 : (y 0).val < 1 := (y 0).isLt
  refine (shapeCast_apply _ _ y (ValueIdx.ix1 (n := 1024) (y 1)) ?_).trans (h _)
  rw [Shape.rowMajor_val_one, Shape.rowMajor_val_two]
  show (y 1).val = (y 0).val * 1024 + (y 1).val
  omega

theorem in5 (h : ∀ i : S1024.Idx, m ((c : Thread nD τ).loc main_arg4) i = g (i 0).val) : X2 (a := 1) (b := 1024) (iblk m c 5 t) fun _ j => g j := by
  intro y
  show V m c main_v2 _ = _
  entry_read
  refine (line h _).trans ?_
  blk_simp [ix5]

theorem in6 (h : X2 (a := 4096) (b := 1024) (m ((c : Thread nD τ).loc main_arg5)) y) : X2 (a := 512) (b := 1024) (iblk m c 6 t) fun i j => y (t.val / 2 * 512 + i) j := by
  intro y
  refine (h _).trans ?_
  blk_simp [ix6]

end operands

/-! ## What a point leaves -/

/-- After an even point the carried sum is the products with the first slabs. -/
theorem sc_even (t : Fin cfg0.N) (h : t.val % 2 = 0) : (outsAt0 m c t.val t.isLt).2.2 = k0_pay3 (F := Ideal) (iblk m c 0 t) (iblk m c 2 t) (iblk m c 1 t) (iblk m c 3 t) := by
  by_cases h16 : t.val % 16 = 0
  · rw [outsAt0_A m c t h16 h (by omega)]
    dsimp only
    rw [s_A (F := Ideal)]
  · rw [outsAt0_C m c t h16 h (by omega)]
    dsimp only
    rw [s_C (F := Ideal)]

theorem gain_first (t : Fin cfg0.N) (h : t.val % 16 = 0) : (outsAt0 m c t.val t.isLt).2.1 = k0_pay2 (F := Ideal) := by
  rw [outsAt0_A m c t h (by omega) (by omega)]
  dsimp only
  rw [g_A (F := Ideal)]

theorem gain_even (t : Fin cfg0.N) (h16 : t.val % 16 ≠ 0) (h : t.val % 2 = 0) :
    (outsAt0 m c t.val t.isLt).2.1 = (outsAt0 m c (t.val - 1) (by have := t.isLt; omega)).2.1 := by
  rw [outsAt0_C m c t h16 h (by omega)]
  rfl

theorem gain_odd (t : Fin cfg0.N) (h : t.val % 2 = 1) :
    (outsAt0 m c t.val t.isLt).2.1 = k0_pay8 (F := Ideal) (iblk m c 0 t) (iblk m c 2 t) (iblk m c 1 t) (iblk m c 3 t) (iblk m c 4 t) (outsAt0 m c (t.val - 1) (by have := t.isLt; omega)).2.2 (outsAt0 m c (t.val - 1) (by have := t.isLt; omega)).2.1 := by
  rw [outsAt0_B m c t (by omega) (by omega) h]
  dsimp only
  rw [g_B (F := Ideal)]

theorem out_odd (t : Fin cfg0.N) (h : t.val % 2 = 1) :
    (outsAt0 m c t.val t.isLt).1 = k0_pay7 (F := Ideal) (iblk m c 0 t) (iblk m c 2 t) (iblk m c 1 t) (iblk m c 3 t) (iblk m c 4 t) (iblk m c 5 t) (outsAt0 m c (t.val - 1) (by have := t.isLt; omega)).2.2 (iblk m c 6 t) := by
  rw [outsAt0_B m c t (by omega) (by omega) h]
  dsimp only
  rw [o_B (F := Ideal)]

section results

variable {p q w x y : ℕ → ℕ → EReal} {g : ℕ → EReal}
  (hp : X2 (a := 4096) (b := 2816) (m ((c : Thread nD τ).loc main_arg0)) p) (hq : X2 (a := 4096) (b := 2816) (m ((c : Thread nD τ).loc main_arg1)) q)
  (hw : X2 (a := 1024) (b := 5632) (m ((c : Thread nD τ).loc main_arg2)) w) (hx : X2 (a := 4096) (b := 1024) (m ((c : Thread nD τ).loc main_arg3)) x)
  (hg : ∀ i : S1024.Idx, m ((c : Thread nD τ).loc main_arg4) i = g (i 0).val) (hy : X2 (a := 4096) (b := 1024) (m ((c : Thread nD τ).loc main_arg5)) y)

/-- The two halves of the products, added as the kernel adds them. -/
theorem halves (p q w : ℕ → ℕ → EReal) (i j : ℕ) :
    (∑ k ∈ range 1408, p i (0 * 1408 + k) * w j (0 * 1408 + k) + ∑ k ∈ range 1408, q i (0 * 1408 + k) * w j ((2 + 0) * 1408 + k))
      + (∑ k ∈ range 1408, p i (1 * 1408 + k) * w j (1 * 1408 + k) + ∑ k ∈ range 1408, q i (1 * 1408 + k) * w j ((2 + 1) * 1408 + k)) = dh p q w i j := by
  unfold dh
  rw [show (2816 : ℕ) = 1408 + 1408 from rfl, Finset.sum_range_add, Finset.sum_range_add]
  rw [add_add_add_comm]
  simp only [Nat.zero_mul, Nat.zero_add, Nat.one_mul, Nat.add_zero]
  refine congrArg₂ _ rfl (congrArg₂ _ rfl (Finset.sum_congr rfl fun k _ => ?_))
  rw [show (2 + 1) * 1408 + k = 1408 + 1408 + (1408 + k) by omega]

include hp hq hw in
/-- The carried sum before an odd point. -/
theorem carried (t : Fin cfg0.N) (h : t.val % 2 = 1) : X2 (a := 512) (b := 1024) (outsAt0 m c (t.val - 1) (by have := t.isLt; omega)).2.2 fun i j =>
    ∑ k ∈ range 1408, p (t.val / 2 * 512 + i) (0 * 1408 + k) * w j (0 * 1408 + k) + ∑ k ∈ range 1408, q (t.val / 2 * 512 + i) (0 * 1408 + k) * w j ((2 + 0) * 1408 + k) := by
  have hlt : t.val - 1 < cfg0.N := by have := t.isLt; omega
  have e1 : (t.val - 1) / 2 = t.val / 2 := by omega
  have e2 : (t.val - 1) % 2 = 0 := by omega
  rw [sc_even m c ⟨t.val - 1, hlt⟩ e2]
  refine (pay3_x (in0 m c ⟨t.val - 1, hlt⟩ hp) (in1 m c ⟨t.val - 1, hlt⟩ hq) (in2 m c ⟨t.val - 1, hlt⟩ hw) (in3 m c ⟨t.val - 1, hlt⟩ hw)).congr fun i j _ _ => ?_
  dsimp only
  rw [e1, e2]

include hp hq hw hx in
/-- The gain's gradient after point `n`: the rows of the blocks done so far. -/
theorem gain : ∀ (n : ℕ) (hn : n < cfg0.N), X2 (a := 1) (b := 1024) (outsAt0 m c n hn).2.1 fun _ j =>
    ∑ s ∈ range ((n + 1) / 2), ∑ i ∈ range 512, dh p q w (s * 512 + i) j * (x (s * 512 + i) j * rr (x (s * 512 + i))) := by
  intro n
  induction n with
  | zero =>
    intro hn
    rw [gain_first m c ⟨0, hn⟩ rfl]
    exact pay2_x.congr fun i j _ _ => by simp
  | succ n ih =>
    intro hn
    have hN : n + 1 < 16 := lt_of_lt_of_eq hn N_0
    by_cases h : (n + 1) % 2 = 0
    · rw [gain_even m c ⟨n + 1, hn⟩ (by dsimp only; omega) h]
      refine (ih (by omega)).congr fun i j _ _ => ?_
      rw [show (n + 1 + 1) / 2 = (n + 1) / 2 by omega]
    · have h1 : (n + 1) % 2 = 1 := by omega
      rw [gain_odd m c ⟨n + 1, hn⟩ h1]
      refine (pay8_x (in0 m c ⟨n + 1, hn⟩ hp) (in1 m c ⟨n + 1, hn⟩ hq) (in2 m c ⟨n + 1, hn⟩ hw) (in3 m c ⟨n + 1, hn⟩ hw) (in4 m c ⟨n + 1, hn⟩ hx) (carried m c hp hq hw ⟨n + 1, hn⟩ h1) (ih (by omega))).congr fun i j _ _ => ?_
      rw [show (n + 1 + 1) / 2 = (n + 1) / 2 + 1 by omega]
      dsimp only
      rw [h1]
      simp only [halves]
      exact (Finset.sum_range_succ (fun s => ∑ i ∈ range 512, dh p q w (s * 512 + i) j * (x (s * 512 + i) j * rr (x (s * 512 + i)))) _).symm

include hp hq hw hx hg hy in
/-- The kernel's first result: the input's gradient. -/
theorem result7 (G : FVec Ideal S4096x1024 .f32) (hG : X2 (a := 4096) (b := 1024) G fun i j => kx (x i) (fun j => dh p q w i j * g j) (y i j) j) : (dats m 0 c).arrAt 7 cfg0.N = G := by
  refine (dats m 0 c).arrAt_eq_of_covers 7 _ (by decide +kernel) fun t hf' y => ?_
  have h1 := fl7 t hf'
  have e := (pay7_x (in0 m c t hp) (in1 m c t hq) (in2 m c t hw) (in3 m c t hw) (in4 m c t hx) (carried m c hp hq hw t h1) (in6 m c t hy) (in5 m c t hg)) y
  rw [h1] at e
  simp only [halves] at e
  blk_simp
  rw [after0_7, out_odd m c t h1]
  refine e.trans (Eq.trans ?_ (hG _).symm)
  blk_simp [ix7]

include hp hq hw hx in
/-- The second: the gain's gradient. -/
theorem result8 (G : FVec Ideal S1x1024 .f32) (hG : X2 (a := 1) (b := 1024) G fun _ j => ∑ i ∈ range 4096, dh p q w i j * (x i j * rr (x i))) : (dats m 0 c).arrAt 8 cfg0.N = G := by
  refine (dats m 0 c).arrAt_eq_of_covers 8 _ (by decide +kernel) fun t hf' y => ?_
  have h15 := fl8 t hf'
  blk_simp
  rw [after0_8]
  refine (gain m c hp hq hw hx t.val t.isLt y).trans (Eq.trans ?_ (hG _).symm)
  blk_simp [ix8]
  rw [h15]
  exact sum_blocks 512 (fun i => dh p q w i (y 1).val * (x i (y 1).val * rr (x i))) 8

end results

end kernel

/-- A line is a function of its place. -/
theorem line_self (A : (⟨1, ![1024]⟩ : Shape).Idx → EReal) : ∃ g : ℕ → EReal, ∀ i, A i = g (i 0).val :=
  ⟨fun n => if h : n < 1024 then A (ValueIdx.ix1 ⟨n, h⟩) else 0, fun i => by
    refine Eq.trans ?_ (dif_pos (i 0).isLt).symm
    exact congrArg A (funext fun a => match a with | ⟨0, _⟩ => rfl)⟩

section reference

open Cert.Reference3Ideal Cert.Reference3Ideal.Read

variable {p q w x y : ℕ → ℕ → EReal} {g : ℕ → EReal} {x0 x1 : FVec Ideal S4096x2816 .bf16} {x2 : FVec Ideal S1024x5632 .bf16} {x3 x5 : FVec Ideal S4096x1024 .f32} {x4 : FVec Ideal S1024 .f32}
  (hp : X2 (a := 4096) (b := 2816) x0 p) (hq : X2 (a := 4096) (b := 2816) x1 q) (hw : X2 (a := 1024) (b := 5632) x2 w) (hx : X2 (a := 4096) (b := 1024) x3 x)
  (hg : ∀ i : S1024.Idx, x4 i = g (i 0).val) (hy : X2 (a := 4096) (b := 1024) x5 y)

include hp hq in
theorem ref_v22 : X2 (a := 4096) (b := 5632) (val_main_v22 (F := Ideal) x0 x1) fun i k => if k < 2816 then p i k else q i (k - 2816) := fun i => by
  unfold val_main_v22
  rw [concatenate_pair_apply]
  by_cases hj : (i 1).val < 2816
  · refine (dif_pos hj).trans (Eq.trans ?_ (if_pos hj).symm)
    exact hp _
  · refine (dif_neg hj).trans (Eq.trans ?_ (if_neg hj).symm)
    exact hq _

include hp hq hw in
/-- The product through the two halves of the weight. -/
theorem ref_v23 : X2 (a := 4096) (b := 1024) (val_main_v23 (F := Ideal) x0 x1 x2) (dh p q w) := fun i => by
  rw [val_main_v23_apply]
  refine Eq.trans (b := ∑ k ∈ range (2816 + 2816), (if k < 2816 then p (i 0).val k else q (i 0).val (k - 2816)) * w (i 1).val k) ?_ ?_
  · refine Eq.trans ?_ (Finset.sum_range _).symm
    refine Finset.sum_congr rfl fun k _ => ?_
    show val_main_v22 (F := Ideal) x0 x1 (lidx_main_v23 i k) * x2 (ridx_main_v23 i k) = _
    rw [ref_v22 hp hq, hw]
  · rw [Finset.sum_range_add]
    unfold dh
    refine congrArg₂ (· + ·) (Finset.sum_congr rfl fun k hk => ?_) (Finset.sum_congr rfl fun k _ => ?_)
    · rw [if_pos (Finset.mem_range.mp hk)]
    · rw [if_neg (by omega), Nat.add_sub_cancel_left]

include hx in
theorem ref_v7 : X2 (a := 4096) (b := 1) (val_main_v7 (F := Ideal) x3) fun i _ => nn (x i) := fun i => by
  rw [val_main_v7_apply, val_main_v5_apply, val_main_v3_apply, val_main_v4_apply, val_main_v6_apply, val_main_v2_apply, val_main_cst_apply, val_main_cst_0_apply, val_main_cst_1_apply]
  unfold nn
  refine congrArg₂ (· + ·) (congrArg₂ Ideal.div ?_ rfl) rfl
  refine (congrArg₂ (· + ·) zero_f32 rfl).trans ((zero_add _).trans ?_)
  refine Eq.trans ?_ (Finset.sum_range _).symm
  refine Finset.sum_congr rfl fun k _ => ?_
  show x3 _ * x3 _ = _
  rw [hx]

include hx in
theorem ref_v8 : X2 (a := 4096) (b := 1) (val_main_v8 (F := Ideal) x3) fun i _ => rr (x i) := fun i => by
  show Ideal.rsqrt (val_main_v7 (F := Ideal) x3 i) = _
  rw [ref_v7 hx]
  rfl

include hx in
theorem ref_v11 : X2 (a := 4096) (b := 1) (val_main_v11 (F := Ideal) x3) fun i _ => Ideal.ofBits .f32 0xBF000000#32 * Ideal.div (rr (x i)) (nn (x i)) := fun i => by
  rw [val_main_v11_apply, val_main_v10_apply, val_main_cst_2_apply]
  show _ * Ideal.div (val_main_v8 (F := Ideal) x3 i) (val_main_v7 (F := Ideal) x3 i) = _
  rw [ref_v7 hx, ref_v8 hx]
  rfl

include hp hq hw hx in
/-- The reference's second result: the gain's gradient. -/
theorem ref_v45 : X2 (a := 1) (b := 1024) (val_main_v45 (F := Ideal) x0 x1 x2 x3) fun _ j => ∑ i ∈ range 4096, dh p q w i j * (x i j * rr (x i)) := fun i => by
  have l0 : (i 0).val < 1 := (i 0).isLt
  rw [val_main_v45_apply, val_main_v29_apply, val_main_cst_4_apply]
  refine (congrArg₂ (· + ·) zero_f32 (Fin.sum_univ_one _)).trans ((zero_add _).trans ?_)
  rw [val_main_v26_apply, val_main_v25_apply, val_main_cst_3_apply]
  refine (congrArg₂ (· + ·) zero_f32 rfl).trans ((zero_add _).trans ?_)
  refine Eq.trans ?_ (Finset.sum_range _).symm
  refine Finset.sum_congr rfl fun k _ => ?_
  rw [val_main_v24_apply, val_main_v13_apply, val_main_v12_apply]
  show x3 _ * val_main_v8 (F := Ideal) x3 _ * val_main_v23 (F := Ideal) x0 x1 x2 _ = _
  rw [hx, ref_v8 hx, ref_v23 hp hq hw, mul_comm]
  have e : (i 0).val * 1024 + (i 1).val = (i 1).val := by omega
  show dh p q w k.val (0 * 1024 + ((i 0).val * 1024 + (i 1).val)) * (x k.val (0 * 1024 + ((i 0).val * 1024 + (i 1).val)) * rr (x k.val)) = _
  rw [e, Nat.zero_mul, Nat.zero_add]

include hp hq hw hg in
/-- The gradient of the normalised row, the gain multiplied in. -/
theorem ref_v28 : X2 (a := 4096) (b := 1024) (val_main_v28 (F := Ideal) x0 x1 x2 x4) fun i j => dh p q w i j * g j := fun i => by
  rw [val_main_v28_apply, val_main_v27_apply, val_main_v14_apply]
  show val_main_v23 (F := Ideal) x0 x1 x2 i * x4 _ = _
  rw [ref_v23 hp hq hw, hg]

include hp hq hw hx hg in
theorem ref_v40 : X2 (a := 4096) (b := 1024) (val_main_v40 (F := Ideal) x0 x1 x2 x3 x4) fun i _ => qq (x i) fun j => dh p q w i j * g j := fun i => by
  rw [val_main_v40_apply, val_main_v39_apply, val_main_cst_7_apply]
  refine (congrArg₂ (· + ·) zero_f32 (Fin.sum_univ_one _)).trans ((zero_add _).trans ?_)
  rw [val_main_v38_apply, val_main_v37_apply, val_main_cst_6_apply, val_main_v36_apply, val_main_v32_apply, val_main_v31_apply, val_main_cst_5_apply]
  unfold qq
  refine congrArg₂ Ideal.div (congrArg₂ (· * ·) ?_ (ref_v11 hx _)) rfl
  refine (congrArg₂ (· + ·) zero_f32 rfl).trans ((zero_add _).trans ?_)
  refine Eq.trans ?_ (Finset.sum_range _).symm
  refine Finset.sum_congr rfl fun k _ => ?_
  show x3 _ * val_main_v28 (F := Ideal) x0 x1 x2 x4 _ = _
  rw [hx, ref_v28 hp hq hw hg]
  have e : (i 0).val * 1 + 0 = (i 0).val := by omega
  show x ((i 0).val * 1 + 0) k.val * (dh p q w ((i 0).val * 1 + 0) k.val * g k.val) = _
  rw [e]

include hp hq hw hx hg hy in
/-- The reference's first result, in the kernel's form. -/
theorem ref_v44 : X2 (a := 4096) (b := 1024) (val_main_v44 (F := Ideal) x0 x1 x2 x3 x4 x5) fun i j => kx (x i) (fun j => dh p q w i j * g j) (y i j) j := fun i => by
  show x5 i + val_main_v28 (F := Ideal) x0 x1 x2 x4 i * val_main_v33 (F := Ideal) x3 i + x3 i * val_main_v40 (F := Ideal) x0 x1 x2 x3 x4 i + val_main_v40 (F := Ideal) x0 x1 x2 x3 x4 i * x3 i = _
  rw [val_main_v33_apply, hy, ref_v28 hp hq hw hg, ref_v8 hx, hx, ref_v40 hp hq hw hx hg]
  exact (row (x (i 0).val) (fun j => dh p q w (i 0).val j * g j) (y (i 0).val (i 1).val) (i 1).val (i 1).isLt).symm

end reference

set_option backward.isDefEq.respectTransparency.types false in
/-- The gradients of the half-step's input and of the gain are the reference's, at every argument. -/
theorem algebraic : Cert.algebraic_Kernel3Ideal_Reference3Ideal := fun m g m' g' _ agree => by
  refine ⟨_, _, Cert.Kernel3Ideal.Value.run_blocks m g, ?_⟩
  refine (θ_run _ _ _).mono (fun r h c => ?_) (Cert.Reference3Ideal.Value.run (F := Ideal) m' g')
  obtain ⟨g0, g1, g2, g3, g4, g5⟩ := agree c
  obtain ⟨r0, r1, rest⟩ := h c
  have e0 := X2.self (a := 4096) (b := 2816) (m ((c : Thread Cert.Kernel3Ideal.nD Cert.Kernel3Ideal.τ).loc Cert.Kernel3Ideal.main_arg0))
  have e1 := X2.self (a := 4096) (b := 2816) (m ((c : Thread Cert.Kernel3Ideal.nD Cert.Kernel3Ideal.τ).loc Cert.Kernel3Ideal.main_arg1))
  have e2 := X2.self (a := 1024) (b := 5632) (m ((c : Thread Cert.Kernel3Ideal.nD Cert.Kernel3Ideal.τ).loc Cert.Kernel3Ideal.main_arg2))
  have e3 := X2.self (a := 4096) (b := 1024) (m ((c : Thread Cert.Kernel3Ideal.nD Cert.Kernel3Ideal.τ).loc Cert.Kernel3Ideal.main_arg3))
  have e5 := X2.self (a := 4096) (b := 1024) (m ((c : Thread Cert.Kernel3Ideal.nD Cert.Kernel3Ideal.τ).loc Cert.Kernel3Ideal.main_arg5))
  obtain ⟨g, e4⟩ := line_self (m ((c : Thread Cert.Kernel3Ideal.nD Cert.Kernel3Ideal.τ).loc Cert.Kernel3Ideal.main_arg4))
  refine ⟨r0.trans ((Cert.Reference3Ideal.Read.val_main_v44_eq (F := Ideal) _ c).trans ?_), r1.trans ((Cert.Reference3Ideal.Read.val_main_v45_eq (F := Ideal) _ _ _ _).trans ?_), rest⟩
  · rw [g0, g1, g2, g3, g4, g5]
    exact (result7 m c e0 e1 e2 e3 e4 e5 _ (ref_v44 e0 e1 e2 e3 e4 e5)).symm
  · rw [g0, g1, g2, g3]
    exact (result8 m c e0 e1 e2 e3 _ (ref_v45 e0 e1 e2 e3)).symm

end Cert.Attn.UpDx

end
-- ==== Proof.Model.lean ====
/- The attention of one head on real numbers: scores, softmax, output and gradients, and the sums over blocks of rows that the
   kernels take them in. -/
module

public import Mathlib.Analysis.SpecialFunctions.Log.Basic
public import Mathlib.Algebra.BigOperators.Intervals
public import Mathlib.Tactic.Ring
public import Mathlib.Tactic.Linarith

@[expose] public section

noncomputable section

namespace Cert.Attn

open scoped BigOperators

open Finset (range)

/-- The score of query row `t` against key row `s`. -/
def sS (q k : ℕ → ℕ → ℝ) (t s : ℕ) : ℝ := ∑ d ∈ range 256, q t d * k s d

/-- The sum of the exponentials of a row's scores up to the diagonal. -/
def sZ (q k : ℕ → ℕ → ℝ) (t : ℕ) : ℝ := ∑ s ∈ range (t + 1), Real.exp (sS q k t s)

/-- The attention's output. -/
def sO (q k v : ℕ → ℕ → ℝ) (t e : ℕ) : ℝ := (∑ s ∈ range (t + 1), Real.exp (sS q k t s) * v s e) / sZ q k t

/-- The weight of key row `s` in query row `t`, given the log-sums `L`. -/
def sP (q k : ℕ → ℕ → ℝ) (L : ℕ → ℝ) (t s : ℕ) : ℝ := Real.exp (sS q k t s - L t)

/-- The gradient of a weight. -/
def sDP (w v : ℕ → ℕ → ℝ) (t s : ℕ) : ℝ := ∑ e ∈ range 128, w t e * v s e

/-- The sum of a row's output gradient against its output. -/
def sDel (w o : ℕ → ℕ → ℝ) (t : ℕ) : ℝ := ∑ e ∈ range 128, w t e * o t e

/-- The gradient of a score. -/
def sDS (q k v : ℕ → ℕ → ℝ) (L : ℕ → ℝ) (w o : ℕ → ℕ → ℝ) (t s : ℕ) : ℝ := sP q k L t s * (sDP w v t s - sDel w o t)

/-- The gradient of the queries. -/
def sDQ (q k v : ℕ → ℕ → ℝ) (L : ℕ → ℝ) (w o : ℕ → ℕ → ℝ) (t d : ℕ) : ℝ := ∑ s ∈ range (t + 1), sDS q k v L w o t s * k s d

/-- The gradient of the values, from the first `u` query rows. -/
def sDV (q k : ℕ → ℕ → ℝ) (L : ℕ → ℝ) (w : ℕ → ℕ → ℝ) (u s e : ℕ) : ℝ := ∑ t ∈ range u, if s ≤ t then sP q k L t s * w t e else 0

/-- The gradient of the keys, from the first `u` query rows. -/
def sDK (q k v : ℕ → ℕ → ℝ) (L : ℕ → ℝ) (w o : ℕ → ℕ → ℝ) (u s d : ℕ) : ℝ := ∑ t ∈ range u, if s ≤ t then sDS q k v L w o t s * q t d else 0

theorem sZ_pos (q k : ℕ → ℕ → ℝ) (t : ℕ) : 0 < sZ q k t :=
  Finset.sum_pos (fun _ _ => Real.exp_pos _) ⟨0, Finset.mem_range.mpr (Nat.succ_pos _)⟩

/-- A sum over a row's own block up to the diagonal and over the blocks before it is the sum up to the diagonal. -/
theorem sum_tri (F : ℕ → ℝ) {o n i : ℕ} (hi : i < n) :
    (∑ j ∈ range n, if j ≤ i then F (o + j) else 0) + ∑ j ∈ range o, F j = ∑ s ∈ range (o + i + 1), F s := by
  rw [← Finset.sum_filter, add_comm, show o + i + 1 = o + (i + 1) by omega, Finset.sum_range_add F o (i + 1)]
  congr 1
  refine Finset.sum_congr (Finset.ext fun j => ?_) fun _ _ => rfl
  simp only [Finset.mem_filter, Finset.mem_range]; omega

theorem sum_tri0 (F : ℕ → ℝ) {n i : ℕ} (hi : i < n) :
    (∑ j ∈ range n, if j ≤ i then F j else 0) = ∑ s ∈ range (i + 1), F s := by
  have := sum_tri F (o := 0) hi
  simpa using this

/-- The sum of exponentials of a row, all shifted by the row's constant. -/
theorem shift_sum (q k : ℕ → ℕ → ℝ) (M : ℝ) {o n i : ℕ} (hi : i < n) :
    (∑ j ∈ range n, if j ≤ i then Real.exp (sS q k (o + i) (o + j) - M) else 0) + ∑ j ∈ range o, Real.exp (sS q k (o + i) j - M)
      = Real.exp (-M) * sZ q k (o + i) := by
  rw [sum_tri (fun s => Real.exp (sS q k (o + i) s - M)) hi, sZ, Finset.mul_sum]
  exact Finset.sum_congr rfl fun s _ => by rw [sub_eq_add_neg, Real.exp_add, mul_comm]

theorem shift_sum_v (q k v : ℕ → ℕ → ℝ) (M : ℝ) (e : ℕ) {o n i : ℕ} (hi : i < n) :
    (∑ j ∈ range n, (if j ≤ i then Real.exp (sS q k (o + i) (o + j) - M) else 0) * v (o + j) e) + ∑ j ∈ range o, Real.exp (sS q k (o + i) j - M) * v j e
      = Real.exp (-M) * ∑ s ∈ range (o + i + 1), Real.exp (sS q k (o + i) s) * v s e := by
  have := sum_tri (fun s => Real.exp (sS q k (o + i) s - M) * v s e) (o := o) hi
  rw [Finset.mul_sum]
  refine Eq.trans ?_ (this.trans (Finset.sum_congr rfl fun s _ => by rw [sub_eq_add_neg, Real.exp_add]; ring))
  congr 1
  exact Finset.sum_congr rfl fun j _ => by split <;> simp

/-- The shift cancels in the output -/
theorem shift_o (q k v : ℕ → ℕ → ℝ) (M : ℝ) (t e : ℕ) :
    (Real.exp (-M) * ∑ s ∈ range (t + 1), Real.exp (sS q k t s) * v s e) / (Real.exp (-M) * sZ q k t) = sO q k v t e :=
  mul_div_mul_left _ _ (Real.exp_ne_zero _)

/-- and in the log-sum. -/
theorem shift_lse (q k : ℕ → ℕ → ℝ) (M : ℝ) (t : ℕ) : M + Real.log (Real.exp (-M) * sZ q k t) = Real.log (sZ q k t) := by
  rw [Real.log_mul (Real.exp_ne_zero _) (sZ_pos q k t).ne', Real.log_exp]; ring

/-- A row's gradient of the queries, from its own block and the blocks before it. -/
theorem tri_dq (q k v : ℕ → ℕ → ℝ) (L : ℕ → ℝ) (w o : ℕ → ℕ → ℝ) (d : ℕ) {u n i : ℕ} (hi : i < n) :
    (∑ j ∈ range n, (if j ≤ i then sDS q k v L w o (u + i) (u + j) else 0) * k (u + j) d) + ∑ j ∈ range u, sDS q k v L w o (u + i) j * k j d
      = sDQ q k v L w o (u + i) d := by
  refine Eq.trans ?_ (sum_tri (fun s => sDS q k v L w o (u + i) s * k s d) (o := u) hi)
  congr 1
  exact Finset.sum_congr rfl fun j _ => by split <;> simp

/-- The next block of query rows adds to the sums down the columns. -/
theorem sDV_add (q k : ℕ → ℕ → ℝ) (L : ℕ → ℝ) (w : ℕ → ℕ → ℝ) (u n s e : ℕ) :
    sDV q k L w (u + n) s e = sDV q k L w u s e + ∑ i ∈ range n, if s ≤ u + i then sP q k L (u + i) s * w (u + i) e else 0 := by
  rw [sDV, Finset.sum_range_add]; rfl

theorem sDK_add (q k v : ℕ → ℕ → ℝ) (L : ℕ → ℝ) (w o : ℕ → ℕ → ℝ) (u n s d : ℕ) :
    sDK q k v L w o (u + n) s d = sDK q k v L w o u s d + ∑ i ∈ range n, if s ≤ u + i then sDS q k v L w o (u + i) s * q (u + i) d else 0 := by
  rw [sDK, Finset.sum_range_add]; rfl

theorem sDV_zero (q k : ℕ → ℕ → ℝ) (L : ℕ → ℝ) (w : ℕ → ℕ → ℝ) {u s : ℕ} (e : ℕ) (h : u ≤ s) : sDV q k L w u s e = 0 :=
  Finset.sum_eq_zero fun t ht => if_neg (by have := Finset.mem_range.mp ht; omega)

theorem sDK_zero (q k v : ℕ → ℕ → ℝ) (L : ℕ → ℝ) (w o : ℕ → ℕ → ℝ) {u s : ℕ} (d : ℕ) (h : u ≤ s) : sDK q k v L w o u s d = 0 :=
  Finset.sum_eq_zero fun t ht => if_neg (by have := Finset.mem_range.mp ht; omega)

end Cert.Attn

end
-- ==== Proof.Blocks.lean ====
/- One block of query rows of the attention against one block of key rows: the kernels' operations, at any number of key rows,
   and the reals that they hold. -/
module

public import proofs.«01_k».proof.Proof.Kit
public import proofs.«01_k».proof.Proof.Model

@[expose] public section

noncomputable section

namespace Cert.Attn

open Idealize.ShloMosaic
open scoped BigOperators
open Finset (range)

variable {a n m : ℕ}

/-- An `f32` array of zeros. -/
abbrev z32 (a b : ℕ) : FVec Ideal (Sh a b) .f32 := constant (F := Ideal) (Sh a b) .f32 0x00000000#32

/-- Keys: the head's own lanes and the shared rotary lanes side by side. -/
def keys (hs : (Sh n 128).ShapeCasts (Sh n 128)) (hc : Shape.Concatenates [Sh n 128, Sh n 128] (Sh n 256) 1) (kn kr : FVec Ideal (Sh n 128) .bf16) :
    FVec Ideal (Sh n 256) .bf16 :=
  concatenate (Sh n 256) 1 [⟨Sh n 128, shapeCast (Sh n 128) kn hs⟩, ⟨Sh n 128, shapeCast (Sh n 128) kr hs⟩] hc

theorem keys_r2 {hs hc} {kn kr : FVec Ideal (Sh n 128) .bf16} {k : ℕ → ℕ → ℝ}
    (hn : R2 kn k) (hr : R2 kr fun i j => k i (128 + j)) : R2 (keys (n := n) hs hc kn kr) k :=
  ((hn.cast hs).concat (hr.cast hs) hc).congr fun i j _ hj => by
    by_cases h : j < 128
    · simp only [h, if_true]
    · simp only [h, if_false]; congr 1; omega

/-- Scores of a block. -/
def scores (hq : (Sh a 256).ShapeCasts (Sh a 256)) (d : DotDims (Sh a 256) (Sh n 256) (Sh a n)) (q : FVec Ideal (Sh a 256) .bf16) (K : FVec Ideal (Sh n 256) .bf16) :
    FVec Ideal (Sh a n) .f32 := matmul d none (shapeCast (Sh a 256) q hq) K (z32 a n)

theorem scores_r2 {hq} {d : DotDims (Sh a 256) (Sh n 256) (Sh a n)} (hd : d = DotDims.transposedRhs a 256 n)
    {q : FVec Ideal (Sh a 256) .bf16} {K : FVec Ideal (Sh n 256) .bf16} {fq fk : ℕ → ℕ → ℝ} (h : R2 q fq) (hK : R2 K fk) :
    R2 (scores hq d q K) (sS fq fk) :=
  (R2.nt d hd none (h.cast hq) hK R2.zero).congr fun i j _ _ => by rw [zero_add]; rfl

/-- Scores under the causal mask. -/
def masked (h0 : (Sh n n).Iotas .tc 32 [0]) (h1 : (Sh n n).Iotas .tc 32 [1]) (x : EReal) (s : FVec Ideal (Sh n n) .f32) : FVec Ideal (Sh n n) .f32 :=
  select (cmpi .sge (iota .tc (Sh n n) 32 [0] h0) (iota .tc (Sh n n) 32 [1] h1)) s (broadcast (Sh n n) x)

/-- The rows' maxima. -/
def rmax (h : (Sh a n).Reduces [1] ⟨1, ![a]⟩) (h1 : FKind.Formats .f32) (h2 : 0xFF800000#32 = FKind.maximumf.neutral .f32 h1) (hc : (⟨1, ![a]⟩ : Shape).ShapeCasts (Sh a 1)) (A : FVec Ideal (Sh a n) .f32) :
    FVec Ideal (Sh a 1) .f32 :=
  shapeCast (Sh a 1) (multiReduction .maximumf [1] ⟨1, ![a]⟩ A 0xFF800000#32 h h1 h2) hc

/-- The rows' sums. -/
def rsum (h : (Sh a n).Reduces [1] ⟨1, ![a]⟩) (h1 : FKind.Formats .f32) (h2 : 0x00000000#32 = FKind.add.neutral .f32 h1) (hc : (⟨1, ![a]⟩ : Shape).ShapeCasts (Sh a 1)) (A : FVec Ideal (Sh a n) .f32) :
    FVec Ideal (Sh a 1) .f32 :=
  shapeCast (Sh a 1) (multiReduction .add [1] ⟨1, ![a]⟩ A 0x00000000#32 h h1 h2) hc

/-- Exponentials of scores less the rows' constants. -/
def pexp (hb : (Sh a 1).Broadcasts (Sh a n)) (A : FVec Ideal (Sh a n) .f32) (M : FVec Ideal (Sh a 1) .f32) : FVec Ideal (Sh a n) .f32 :=
  exp (subf A (broadcastTo (Sh a n) M hb))

/-- Weights times values. -/
def pv (hl : FTy.bits .bf16 < FTy.bits .f32) (hs : (Sh n 128).ShapeCasts (Sh n 128)) (d : DotDims (Sh a n) (Sh n 128) (Sh a 128)) (p : FVec Ideal (Sh a n) .f32) (v : FVec Ideal (Sh n 128) .bf16) :
    FVec Ideal (Sh a 128) .f32 :=
  matmul d none (truncf .bf16 p hl) (shapeCast (Sh n 128) v hs) (z32 a 128)

theorem pv_r2 {hl hs} {d : DotDims (Sh a n) (Sh n 128) (Sh a 128)} (hd : d = DotDims.plain a n 128) {p : FVec Ideal (Sh a n) .f32} {v : FVec Ideal (Sh n 128) .bf16}
    {f g : ℕ → ℕ → ℝ} (hp : R2 p f) (hv : R2 v g) : R2 (pv hl hs d p v) fun i e => ∑ j ∈ range n, f i j * g j e :=
  (R2.plain d hd none (hp.truncf hl) (hv.cast hs) R2.zero).congr fun i j _ _ => by rw [zero_add]

/-! ## The forward pass -/

section first

variable (h1 : FKind.Formats .f32) (hmax : 0xFF800000#32 = FKind.maximumf.neutral .f32 h1) (hadd : 0x00000000#32 = FKind.add.neutral .f32 h1) (hc : (⟨1, ![n]⟩ : Shape).ShapeCasts (Sh n 1)) (hr : (Sh n n).Reduces [1] ⟨1, ![n]⟩)
  (hb : (Sh n 1).Broadcasts (Sh n n)) (hb' : (Sh n 1).Broadcasts (Sh n 128)) (hl : FTy.bits .bf16 < FTy.bits .f32) (hs : (Sh n 128).ShapeCasts (Sh n 128))
  (d : DotDims (Sh n n) (Sh n 128) (Sh n 128)) (h3 : (Sh n 1).ShapeCasts (Sc n))

/-- The output of the first block of rows, from its masked scores. -/
def firstO (A : FVec Ideal (Sh n n) .f32) (v : FVec Ideal (Sh n 128) .bf16) : FVec Ideal (Sh n 128) .bf16 :=
  truncf .bf16 (divf (pv hl hs d (pexp hb A (rmax hr h1 hmax hc A)) v)
    (broadcastTo (Sh n 128) (rsum hr h1 hadd hc (pexp hb A (rmax hr h1 hmax hc A))) hb')) hl

/-- Its log-sums. -/
def firstL (A : FVec Ideal (Sh n n) .f32) : FVec Ideal (Sc n) .f32 :=
  shapeCast (Sc n) (addf (rmax hr h1 hmax hc A) (log (rsum hr h1 hadd hc (pexp hb A (rmax hr h1 hmax hc A))))) h3

variable {h1 hmax hadd hc hr hb hb' hl hs d h3}

theorem first_r2 (hd : d = DotDims.plain n n 128) (n0 : 0 < n) {A : FVec Ideal (Sh n n) .f32} {v : FVec Ideal (Sh n 128) .bf16} {q k fv : ℕ → ℕ → ℝ}
    (hA : R2M A (sS q k)) (hv : R2 v fv) :
    R2 (firstO h1 hmax hadd hc hr hb hb' hl hs d A v) (sO q k fv) ∧ R3 (firstL h1 hmax hadd hc hr hb h3 A) fun i => Real.log (sZ q k i) := by
  obtain ⟨M, hM⟩ : ∃ M : ℕ → ℝ, R2 (rmax hr h1 hmax hc A) fun i _ => M i := hA.rowMax n0 hr hc h1 hmax
  have hp : R2 (pexp hb A (rmax hr h1 hmax hc A)) fun i j => if j ≤ i then Real.exp (sS q k i j - M i) else 0 := hA.expSub (hM.bcast hb)
  have hl' : R2 (rsum hr h1 hadd hc (pexp hb A (rmax hr h1 hmax hc A))) fun i _ => Real.exp (-M i) * sZ q k i :=
    (hp.rowSum hr hc h1 hadd).congr fun i _ hi _ => by
      have := shift_sum q k (M i) (o := 0) hi
      simpa using this
  constructor
  · refine (((pv_r2 hd hp hv).div (hl'.bcast hb') fun i _ hi _ => (mul_pos (Real.exp_pos _) (sZ_pos q k i)).ne').truncf hl).congr fun i e hi _ => ?_
    rw [← shift_o q k fv (M i) i e]
    congr 1
    have := shift_sum_v q k fv (M i) e (o := 0) hi
    simpa using this
  · have := (hM.add (hl'.log fun i _ hi _ => mul_pos (Real.exp_pos _) (sZ_pos q k i))).toCol h3
    exact this.congr fun i => shift_lse q k (M i) _

end first

section next

variable (h1 : FKind.Formats .f32) (hmax : 0xFF800000#32 = FKind.maximumf.neutral .f32 h1) (hadd : 0x00000000#32 = FKind.add.neutral .f32 h1) (hc : (⟨1, ![a]⟩ : Shape).ShapeCasts (Sh a 1)) (hr : (Sh a a).Reduces [1] ⟨1, ![a]⟩) (hr' : (Sh a n).Reduces [1] ⟨1, ![a]⟩)
  (hb : (Sh a 1).Broadcasts (Sh a a)) (hbn : (Sh a 1).Broadcasts (Sh a n)) (hb' : (Sh a 1).Broadcasts (Sh a 128)) (hl : FTy.bits .bf16 < FTy.bits .f32)
  (hs : (Sh a 128).ShapeCasts (Sh a 128)) (hsn : (Sh n 128).ShapeCasts (Sh n 128))
  (d : DotDims (Sh a a) (Sh a 128) (Sh a 128)) (d' : DotDims (Sh a n) (Sh n 128) (Sh a 128)) (h3 : (Sh a 1).ShapeCasts (Sc a))

/-- The maxima over both blocks. -/
def nextM (A : FVec Ideal (Sh a a) .f32) (B : FVec Ideal (Sh a n) .f32) : FVec Ideal (Sh a 1) .f32 :=
  maximumf (rmax hr h1 hmax hc A) (rmax hr' h1 hmax hc B)

/-- The sums of exponentials over both. -/
def nextS (A : FVec Ideal (Sh a a) .f32) (B : FVec Ideal (Sh a n) .f32) : FVec Ideal (Sh a 1) .f32 :=
  addf (rsum hr h1 hadd hc (pexp hb A (nextM h1 hmax hc hr hr' A B))) (rsum hr' h1 hadd hc (pexp hbn B (nextM h1 hmax hc hr hr' A B)))

/-- The output of a later block of rows, from its masked scores and its scores against the rows before. -/
def nextO (A : FVec Ideal (Sh a a) .f32) (B : FVec Ideal (Sh a n) .f32) (v : FVec Ideal (Sh a 128) .bf16) (v' : FVec Ideal (Sh n 128) .bf16) : FVec Ideal (Sh a 128) .bf16 :=
  truncf .bf16 (divf (addf (pv hl hs d (pexp hb A (nextM h1 hmax hc hr hr' A B)) v) (pv hl hsn d' (pexp hbn B (nextM h1 hmax hc hr hr' A B)) v'))
    (broadcastTo (Sh a 128) (nextS h1 hmax hadd hc hr hr' hb hbn A B) hb')) hl

/-- Its log-sums. -/
def nextL (A : FVec Ideal (Sh a a) .f32) (B : FVec Ideal (Sh a n) .f32) : FVec Ideal (Sc a) .f32 :=
  shapeCast (Sc a) (addf (nextM h1 hmax hc hr hr' A B) (log (nextS h1 hmax hadd hc hr hr' hb hbn A B))) h3

variable {h1 hmax hadd hc hr hr' hb hbn hb' hl hs hsn d d' h3}

theorem next_r2 (hd : d = DotDims.plain a a 128) (hd' : d' = DotDims.plain a n 128) (a0 : 0 < a) (n0 : 0 < n)
    {A : FVec Ideal (Sh a a) .f32} {B : FVec Ideal (Sh a n) .f32} {v : FVec Ideal (Sh a 128) .bf16} {v' : FVec Ideal (Sh n 128) .bf16} {q k fv : ℕ → ℕ → ℝ}
    (hA : R2M A fun i j => sS q k (n + i) (n + j)) (hB : R2 B fun i j => sS q k (n + i) j) (hv : R2 v fun i j => fv (n + i) j) (hv' : R2 v' fv) :
    R2 (nextO h1 hmax hadd hc hr hr' hb hbn hb' hl hs hsn d d' A B v v') (fun i e => sO q k fv (n + i) e)
      ∧ R3 (nextL h1 hmax hadd hc hr hr' hb hbn h3 A B) fun i => Real.log (sZ q k (n + i)) := by
  obtain ⟨M₁, hM₁⟩ : ∃ M : ℕ → ℝ, R2 (rmax hr h1 hmax hc A) fun i _ => M i := hA.rowMax a0 hr hc h1 hmax
  obtain ⟨M₂, hM₂⟩ : ∃ M : ℕ → ℝ, R2 (rmax hr' h1 hmax hc B) fun i _ => M i := hB.rowMax n0 hr' hc h1 hmax
  obtain ⟨M, hM⟩ : ∃ M : ℕ → ℝ, R2 (nextM h1 hmax hc hr hr' A B) fun i _ => M i := ⟨fun i => Max.max (M₁ i) (M₂ i), hM₁.max hM₂⟩
  have hp : R2 (pexp hb A (nextM h1 hmax hc hr hr' A B)) fun i j => if j ≤ i then Real.exp (sS q k (n + i) (n + j) - M i) else 0 := hA.expSub (hM.bcast hb)
  have hp' : R2 (pexp hbn B (nextM h1 hmax hc hr hr' A B)) fun i j => Real.exp (sS q k (n + i) j - M i) := (hB.sub (hM.bcast hbn)).exp
  have hl' : R2 (nextS h1 hmax hadd hc hr hr' hb hbn A B) fun i _ => Real.exp (-M i) * sZ q k (n + i) :=
    ((hp.rowSum hr hc h1 hadd).add (hp'.rowSum hr' hc h1 hadd)).congr fun i _ hi _ => shift_sum q k (M i) hi
  constructor
  · refine ((((pv_r2 hd hp hv).add (pv_r2 hd' hp' hv')).div (hl'.bcast hb') fun i _ hi _ => (mul_pos (Real.exp_pos _) (sZ_pos q k _)).ne').truncf hl).congr
      fun i e hi _ => ?_
    rw [← shift_o q k fv (M i) (n + i) e]
    exact congrArg (· / _) (shift_sum_v q k fv (M i) e hi)
  · have := (hM.add (hl'.log fun i _ hi _ => mul_pos (Real.exp_pos _) (sZ_pos q k _))).toCol h3
    exact this.congr fun i => shift_lse q k (M i) _

end next

theorem masked_r2 {h0 : (Sh n n).Iotas .tc 32 [0]} {h1 : (Sh n n).Iotas .tc 32 [1]} {x : EReal} (hx : x = ⊥) (hn : n < 2 ^ 31)
    {A : FVec Ideal (Sh n n) .f32} {f : ℕ → ℕ → ℝ} (hA : R2 A f) : R2M (masked h0 h1 x A) f := hA.mask hn hx h0 h1

section whole

variable {h1 : FKind.Formats .f32} {hmax : 0xFF800000#32 = FKind.maximumf.neutral .f32 h1} {hadd : 0x00000000#32 = FKind.add.neutral .f32 h1}
  {hc : (⟨1, ![a]⟩ : Shape).ShapeCasts (Sh a 1)} {hr : (Sh a a).Reduces [1] ⟨1, ![a]⟩} {hr' : (Sh a n).Reduces [1] ⟨1, ![a]⟩}
  {hb : (Sh a 1).Broadcasts (Sh a a)} {hbn : (Sh a 1).Broadcasts (Sh a n)} {hb' : (Sh a 1).Broadcasts (Sh a 128)} {hl : FTy.bits .bf16 < FTy.bits .f32}
  {hs : (Sh a 128).ShapeCasts (Sh a 128)} {hsn : (Sh n 128).ShapeCasts (Sh n 128)} {hsq : (Sh a 256).ShapeCasts (Sh a 256)}
  {hk : Shape.Concatenates [Sh a 128, Sh a 128] (Sh a 256) 1} {hkc : Shape.Concatenates [Sh n 128, Sh n 128] (Sh n 256) 1}
  {i0 : (Sh a a).Iotas .tc 32 [0]} {i1 : (Sh a a).Iotas .tc 32 [1]} {x : EReal}
  {ds : DotDims (Sh a 256) (Sh a 256) (Sh a a)} {ds' : DotDims (Sh a 256) (Sh n 256) (Sh a n)}
  {d : DotDims (Sh a a) (Sh a 128) (Sh a 128)} {d' : DotDims (Sh a n) (Sh n 128) (Sh a 128)} {h3 : (Sh a 1).ShapeCasts (Sc a)}

/-- The first block of query rows. -/
theorem fwd_first (hx : x = ⊥) (a0 : 0 < a) (ha : a < 2 ^ 31) (eds : ds = DotDims.transposedRhs a 256 a) (ed : d = DotDims.plain a a 128)
    {q : FVec Ideal (Sh a 256) .bf16} {kn kr v : FVec Ideal (Sh a 128) .bf16} {fq fk fv : ℕ → ℕ → ℝ}
    (hq : R2 q fq) (hkn : R2 kn fk) (hkr : R2 kr fun i j => fk i (128 + j)) (hv : R2 v fv) :
    R2 (firstO h1 hmax hadd hc hr hb hb' hl hs d (masked i0 i1 x (scores hsq ds q (keys hs hk kn kr))) v) (sO fq fk fv)
      ∧ R3 (firstL h1 hmax hadd hc hr hb h3 (masked i0 i1 x (scores hsq ds q (keys hs hk kn kr)))) fun i => Real.log (sZ fq fk i) :=
  first_r2 ed a0 (masked_r2 hx ha (scores_r2 eds hq (keys_r2 hkn hkr))) hv

/-- A later block of query rows, against itself and the rows before. -/
theorem fwd_next (hx : x = ⊥) (a0 : 0 < a) (n0 : 0 < n) (ha : a < 2 ^ 31) (eds : ds = DotDims.transposedRhs a 256 a) (eds' : ds' = DotDims.transposedRhs a 256 n)
    (ed : d = DotDims.plain a a 128) (ed' : d' = DotDims.plain a n 128)
    {q : FVec Ideal (Sh a 256) .bf16} {kn kr v : FVec Ideal (Sh a 128) .bf16} {pn pr v' : FVec Ideal (Sh n 128) .bf16} {fq fk fv : ℕ → ℕ → ℝ}
    (hq : R2 q fun i j => fq (n + i) j) (hkn : R2 kn fun i j => fk (n + i) j) (hkr : R2 kr fun i j => fk (n + i) (128 + j)) (hv : R2 v fun i j => fv (n + i) j)
    (hpn : R2 pn fk) (hpr : R2 pr fun i j => fk i (128 + j)) (hv' : R2 v' fv) :
    R2 (nextO h1 hmax hadd hc hr hr' hb hbn hb' hl hs hsn d d' (masked i0 i1 x (scores hsq ds q (keys hs hk kn kr))) (scores hsq ds' q (keys hsn hkc pn pr)) v v')
        (fun i e => sO fq fk fv (n + i) e)
      ∧ R3 (nextL h1 hmax hadd hc hr hr' hb hbn h3 (masked i0 i1 x (scores hsq ds q (keys hs hk kn kr))) (scores hsq ds' q (keys hsn hkc pn pr)))
        fun i => Real.log (sZ fq fk (n + i)) :=
  next_r2 ed ed' a0 n0 (masked_r2 hx ha (scores_r2 eds hq (keys_r2 (k := fun i j => fk (n + i) j) hkn hkr))) (scores_r2 eds' hq (keys_r2 hpn hpr)) hv hv'

end whole

end Cert.Attn

end
-- ==== Proof.Back.lean ====
/- The gradients of one block of query rows of the attention against one block of key rows: the kernels' operations, at any
   number of key rows, and the reals that they hold. -/
module

public import proofs.«01_k».proof.Proof.Blocks

@[expose] public section

noncomputable section

namespace Cert.Attn

open Idealize.ShloMosaic
open scoped BigOperators
open Finset (range)

variable {a n m b : ℕ}

/-- Row sums of the output's gradient against the output. -/
def bdel (hs : (Sh a 128).ShapeCasts (Sh a 128)) (hx : FTy.bits .bf16 < FTy.bits .f32) (h1 : FKind.Formats .f32) (h2 : 0x00000000#32 = FKind.add.neutral .f32 h1)
    (hc : (⟨1, ![a]⟩ : Shape).ShapeCasts (Sh a 1)) (hr : (Sh a 128).Reduces [1] ⟨1, ![a]⟩) (w o : FVec Ideal (Sh a 128) .bf16) : FVec Ideal (Sh a 1) .f32 :=
  rsum hr h1 h2 hc (mulf (extf .f32 (shapeCast (Sh a 128) w hs) hx) (extf .f32 (shapeCast (Sh a 128) o hs) hx))

/-- Gradients of scores, from the weights. -/
def bds (hl : FTy.bits .bf16 < FTy.bits .f32) (hs : (Sh a 128).ShapeCasts (Sh a 128)) (hsn : (Sh n 128).ShapeCasts (Sh n 128)) (d : DotDims (Sh a 128) (Sh n 128) (Sh a n))
    (hb : (Sh a 1).Broadcasts (Sh a n)) (p : FVec Ideal (Sh a n) .f32) (w : FVec Ideal (Sh a 128) .bf16) (v : FVec Ideal (Sh n 128) .bf16) (del : FVec Ideal (Sh a 1) .f32) : FVec Ideal (Sh a n) .bf16 :=
  truncf .bf16 (mulf p (subf (matmul d none (shapeCast (Sh a 128) w hs) (shapeCast (Sh n 128) v hsn) (z32 a n)) (broadcastTo (Sh a n) del hb))) hl

/-- The values' gradient, added to what was there. -/
def bdv (hl : FTy.bits .bf16 < FTy.bits .f32) (hs : (Sh a 128).ShapeCasts (Sh a 128)) (hsn : (Sh n 128).ShapeCasts (Sh n 128)) (d : DotDims (Sh a n) (Sh a 128) (Sh n 128))
    (p : FVec Ideal (Sh a n) .f32) (w : FVec Ideal (Sh a 128) .bf16) (old : FVec Ideal (Sh n 128) .f32) : FVec Ideal (Sh n 128) .f32 :=
  shapeCast (Sh n 128) (addf old (matmul d none (truncf .bf16 p hl) (shapeCast (Sh a 128) w hs) (z32 n 128))) hsn

/-- The keys' gradient, added to what was there. -/
def bdk (hs : (Sh a 256).ShapeCasts (Sh a 256)) (hsn : (Sh n 256).ShapeCasts (Sh n 256)) (d : DotDims (Sh a n) (Sh a 256) (Sh n 256))
    (ds : FVec Ideal (Sh a n) .bf16) (q : FVec Ideal (Sh a 256) .bf16) (old : FVec Ideal (Sh n 256) .f32) : FVec Ideal (Sh n 256) .f32 :=
  shapeCast (Sh n 256) (addf old (matmul d none ds (shapeCast (Sh a 256) q hs) (z32 n 256))) hsn

/-- The queries' gradient against a block of keys. -/
def bdq (d : DotDims (Sh a n) (Sh n 256) (Sh a 256)) (ds : FVec Ideal (Sh a n) .bf16) (K : FVec Ideal (Sh n 256) .bf16) : FVec Ideal (Sh a 256) .f32 :=
  matmul d none ds K (z32 a 256)

/-- The dimensions of a product with the left factor transposed. -/
def TN {M K N : ℕ} (d : DotDims (Sh K M) (Sh K N) (Sh M N)) : Prop :=
  d.lhsContracting = [0] ∧ d.rhsContracting = [0] ∧ d.lhsNonContracting = [1] ∧ d.rhsNonContracting = [1] ∧ d.lhsBatch = [] ∧ d.rhsBatch = []

theorem R2.tn' {M K N : ℕ} {φ₁ φ₂ : FTy} {A : FVec Ideal (Sh K M) φ₁} {B : FVec Ideal (Sh K N) φ₂} {C : FVec Ideal (Sh M N) .f32}
    {f g h : ℕ → ℕ → ℝ} {d : DotDims (Sh K M) (Sh K N) (Sh M N)} (hd : TN d) (hA : R2 A f) (hB : R2 B g) (hC : R2 C h) :
    R2 (matmul d none A B C) fun i j => h i j + ∑ k ∈ Finset.range K, f k i * g k j :=
  R2.tn d hd.1 hd.2.1 hd.2.2.1 hd.2.2.2.1 hd.2.2.2.2.1 hd.2.2.2.2.2 none hA hB hC

section block

variable {hl : FTy.bits .bf16 < FTy.bits .f32} {h1 : FKind.Formats .f32} {hadd : 0x00000000#32 = FKind.add.neutral .f32 h1}
  {hc : (⟨1, ![a]⟩ : Shape).ShapeCasts (Sh a 1)} {hr : (Sh a 128).Reduces [1] ⟨1, ![a]⟩} {h3 : (Sc a).ShapeCasts (Sh a 1)}
  {hs : (Sh a 128).ShapeCasts (Sh a 128)} {hsn : (Sh n 128).ShapeCasts (Sh n 128)} {hsq : (Sh a 256).ShapeCasts (Sh a 256)} {hsk : (Sh n 256).ShapeCasts (Sh n 256)}
  {hk : Shape.Concatenates [Sh a 128, Sh a 128] (Sh a 256) 1} {hkn : Shape.Concatenates [Sh n 128, Sh n 128] (Sh n 256) 1}
  {i0 : (Sh a a).Iotas .tc 32 [0]} {i1 : (Sh a a).Iotas .tc 32 [1]} {x : EReal}
  {hb : (Sh a 1).Broadcasts (Sh a a)} {hbn : (Sh a 1).Broadcasts (Sh a n)}
  {e1 : DotDims (Sh a 256) (Sh a 256) (Sh a a)} {e1' : DotDims (Sh a 256) (Sh n 256) (Sh a n)}
  {e2 : DotDims (Sh a 128) (Sh a 128) (Sh a a)} {e2' : DotDims (Sh a 128) (Sh n 128) (Sh a n)}
  {e3 : DotDims (Sh a a) (Sh a 128) (Sh a 128)} {e3' : DotDims (Sh a n) (Sh a 128) (Sh n 128)}
  {e4 : DotDims (Sh a a) (Sh a 256) (Sh a 256)} {e4' : DotDims (Sh a n) (Sh a 256) (Sh n 256)}
  {e5 : DotDims (Sh a a) (Sh a 256) (Sh a 256)} {e5' : DotDims (Sh a n) (Sh n 256) (Sh a 256)}
  {q : FVec Ideal (Sh a 256) .bf16} {w ot : FVec Ideal (Sh a 128) .bf16} {l : FVec Ideal (Sc a) .f32}
  {kn kr v : FVec Ideal (Sh a 128) .bf16} {pn pr v' : FVec Ideal (Sh n 128) .bf16}
  {fq fk fv fw fo : ℕ → ℕ → ℝ} {L : ℕ → ℝ} {o : ℕ}

theorem del_r2 (hw : R2 w fun i j => fw (o + i) j) (ho : R2 ot fun i j => fo (o + i) j) : R2 (bdel hs hl h1 hadd hc hr w ot) fun i _ => sDel fw fo (o + i) :=
  (((hw.cast hs).extf hl).mul ((ho.cast hs).extf hl)).rowSum hr hc h1 hadd

/-- Weights of the block's own keys -/
theorem pd_r2 (hx : x = ⊥) (ha : a < 2 ^ 31) (h : e1 = DotDims.transposedRhs a 256 a) (hq : R2 q fun i j => fq (o + i) j) (hkn : R2 kn fun i j => fk (o + i) j)
    (hkr : R2 kr fun i j => fk (o + i) (128 + j)) (hL : R3 l fun i => L (o + i)) :
    R2 (pexp hb (masked i0 i1 x (scores hsq e1 q (keys hs hk kn kr))) (shapeCast (Sh a 1) l h3)) fun i j => if j ≤ i then sP fq fk L (o + i) (o + j) else 0 :=
  (masked_r2 hx ha (scores_r2 h hq (keys_r2 (k := fun i j => fk (o + i) j) hkn hkr))).expSub ((hL.ofCol h3).bcast hb)

/-- and of the keys before it. -/
theorem pp_r2 (h : e1' = DotDims.transposedRhs a 256 n) (hq : R2 q fun i j => fq (o + i) j) (hpn : R2 pn fk) (hpr : R2 pr fun i j => fk i (128 + j)) (hL : R3 l fun i => L (o + i)) :
    R2 (pexp hbn (scores hsq e1' q (keys hsn hkn pn pr)) (shapeCast (Sh a 1) l h3)) fun i j => sP fq fk L (o + i) j :=
  ((scores_r2 h hq (keys_r2 hpn hpr)).sub ((hL.ofCol h3).bcast hbn)).exp

theorem dsd_r2 (hx : x = ⊥) (ha : a < 2 ^ 31) (h : e1 = DotDims.transposedRhs a 256 a) (h' : e2 = DotDims.transposedRhs a 128 a) (hq : R2 q fun i j => fq (o + i) j)
    (hkn : R2 kn fun i j => fk (o + i) j) (hkr : R2 kr fun i j => fk (o + i) (128 + j)) (hL : R3 l fun i => L (o + i))
    (hw : R2 w fun i j => fw (o + i) j) (ho : R2 ot fun i j => fo (o + i) j) (hv : R2 v fun i j => fv (o + i) j) :
    R2 (bds hl hs hs e2 hb (pexp hb (masked i0 i1 x (scores hsq e1 q (keys hs hk kn kr))) (shapeCast (Sh a 1) l h3)) w v (bdel hs hl h1 hadd hc hr w ot))
      fun i j => if j ≤ i then sDS fq fk fv L fw fo (o + i) (o + j) else 0 :=
  (((pd_r2 hx ha h hq hkn hkr hL).mul ((R2.nt e2 h' none (hw.cast hs) (hv.cast hs) R2.zero).sub ((del_r2 hw ho).bcast hb))).truncf hl).congr fun i j _ _ => by
    simp only [sDS, sDP]; split <;> simp

theorem dsp_r2 (h : e1' = DotDims.transposedRhs a 256 n) (h' : e2' = DotDims.transposedRhs a 128 n) (hq : R2 q fun i j => fq (o + i) j)
    (hpn : R2 pn fk) (hpr : R2 pr fun i j => fk i (128 + j)) (hL : R3 l fun i => L (o + i))
    (hw : R2 w fun i j => fw (o + i) j) (ho : R2 ot fun i j => fo (o + i) j) (hv : R2 v' fv) :
    R2 (bds hl hs hsn e2' hbn (pexp hbn (scores hsq e1' q (keys hsn hkn pn pr)) (shapeCast (Sh a 1) l h3)) w v' (bdel hs hl h1 hadd hc hr w ot))
      fun i j => sDS fq fk fv L fw fo (o + i) j :=
  (((pp_r2 h hq hpn hpr hL).mul ((R2.nt e2' h' none (hw.cast hs) (hv.cast hsn) R2.zero).sub ((del_r2 hw ho).bcast hbn))).truncf hl).congr fun i j _ _ => by
    simp only [sDS, sDP]; simp

/-- Gradients of scores from weights, output gradients, values and row sums. -/
theorem ds_of {p : FVec Ideal (Sh a n) .f32} {w' : FVec Ideal (Sh a 128) .bf16} {v'' : FVec Ideal (Sh n 128) .bf16} {del : FVec Ideal (Sh a 1) .f32}
    (h' : e2' = DotDims.transposedRhs a 128 n) (hp : R2 p fun i j => sP fq fk L (o + i) j) (hw : R2 w' fun i j => fw (o + i) j) (hv : R2 v'' fv) (hd : R2 del fun i _ => sDel fw fo (o + i)) :
    R2 (truncf .bf16 (mulf p (subf (matmul e2' none w' v'' (z32 a n)) (broadcastTo (Sh a n) del hbn))) hl) fun i j => sDS fq fk fv L fw fo (o + i) j :=
  ((hp.mul ((R2.nt e2' h' none hw hv R2.zero).sub (hd.bcast hbn))).truncf hl).congr fun i j _ _ => by
    simp only [sDS, sDP]; simp

/-- The values' gradient at the block's own keys -/
theorem dv_diag (hx : x = ⊥) (ha : a < 2 ^ 31) (h : e1 = DotDims.transposedRhs a 256 a) (h' : TN e3) (hq : R2 q fun i j => fq (o + i) j)
    (hkn : R2 kn fun i j => fk (o + i) j) (hkr : R2 kr fun i j => fk (o + i) (128 + j)) (hL : R3 l fun i => L (o + i))
    (hw : R2 w fun i j => fw (o + i) j) {old : FVec Ideal (Sh a 128) .f32} (hold : R2 old fun i j => sDV fq fk L fw o (o + i) j) :
    R2 (bdv hl hs hs e3 (pexp hb (masked i0 i1 x (scores hsq e1 q (keys hs hk kn kr))) (shapeCast (Sh a 1) l h3)) w old) fun i j => sDV fq fk L fw (o + a) (o + i) j :=
  ((hold.add (R2.tn' h' ((pd_r2 hx ha h hq hkn hkr hL).truncf hl) (hw.cast hs) R2.zero)).cast hs).congr fun i j _ _ => by
    rw [sDV_add, zero_add]
    refine congrArg _ (Finset.sum_congr rfl fun k _ => ?_)
    simp only [Nat.add_le_add_iff_left]
    split <;> simp

/-- and at the keys before. -/
theorem dv_prev (h : e1' = DotDims.transposedRhs a 256 n) (h' : TN e3') (hn : n ≤ o) (hq : R2 q fun i j => fq (o + i) j)
    (hpn : R2 pn fk) (hpr : R2 pr fun i j => fk i (128 + j)) (hL : R3 l fun i => L (o + i))
    (hw : R2 w fun i j => fw (o + i) j) {old : FVec Ideal (Sh n 128) .f32} (hold : R2 old fun i j => sDV fq fk L fw o i j) :
    R2 (bdv hl hs hsn e3' (pexp hbn (scores hsq e1' q (keys hsn hkn pn pr)) (shapeCast (Sh a 1) l h3)) w old) fun i j => sDV fq fk L fw (o + a) i j :=
  ((hold.add (R2.tn' h' ((pp_r2 h hq hpn hpr hL).truncf hl) (hw.cast hs) R2.zero)).cast hsn).congr fun i j hi _ => by
    rw [sDV_add, zero_add]
    refine congrArg _ (Finset.sum_congr rfl fun k _ => ?_)
    rw [if_pos (by omega)]

/-- The keys' gradient at the block's own keys -/
theorem dk_diag (hx : x = ⊥) (ha : a < 2 ^ 31) (h : e1 = DotDims.transposedRhs a 256 a) (h' : e2 = DotDims.transposedRhs a 128 a) (h4 : TN e4)
    (hq : R2 q fun i j => fq (o + i) j) (hkn : R2 kn fun i j => fk (o + i) j) (hkr : R2 kr fun i j => fk (o + i) (128 + j)) (hL : R3 l fun i => L (o + i))
    (hw : R2 w fun i j => fw (o + i) j) (ho : R2 ot fun i j => fo (o + i) j) (hv : R2 v fun i j => fv (o + i) j)
    {old : FVec Ideal (Sh a 256) .f32} (hold : R2 old fun i j => sDK fq fk fv L fw fo o (o + i) j) :
    R2 (bdk hsq hsq e4 (bds hl hs hs e2 hb (pexp hb (masked i0 i1 x (scores hsq e1 q (keys hs hk kn kr))) (shapeCast (Sh a 1) l h3)) w v (bdel hs hl h1 hadd hc hr w ot)) q old)
      fun i j => sDK fq fk fv L fw fo (o + a) (o + i) j :=
  ((hold.add (R2.tn' h4 (dsd_r2 hx ha h h' hq hkn hkr hL hw ho hv) (hq.cast hsq) R2.zero)).cast hsq).congr fun i j _ _ => by
    rw [sDK_add, zero_add]
    refine congrArg _ (Finset.sum_congr rfl fun k _ => ?_)
    simp only [Nat.add_le_add_iff_left]
    split <;> simp

/-- and at the keys before. -/
theorem dk_prev (h : e1' = DotDims.transposedRhs a 256 n) (h' : e2' = DotDims.transposedRhs a 128 n) (h4 : TN e4') (hn : n ≤ o) (hq : R2 q fun i j => fq (o + i) j)
    (hpn : R2 pn fk) (hpr : R2 pr fun i j => fk i (128 + j)) (hL : R3 l fun i => L (o + i))
    (hw : R2 w fun i j => fw (o + i) j) (ho : R2 ot fun i j => fo (o + i) j) (hv : R2 v' fv)
    {old : FVec Ideal (Sh n 256) .f32} (hold : R2 old fun i j => sDK fq fk fv L fw fo o i j) :
    R2 (bdk hsq hsk e4' (bds hl hs hsn e2' hbn (pexp hbn (scores hsq e1' q (keys hsn hkn pn pr)) (shapeCast (Sh a 1) l h3)) w v' (bdel hs hl h1 hadd hc hr w ot)) q old)
      fun i j => sDK fq fk fv L fw fo (o + a) i j :=
  ((hold.add (R2.tn' h4 (dsp_r2 h h' hq hpn hpr hL hw ho hv) (hq.cast hsq) R2.zero)).cast hsk).congr fun i j hi _ => by
    rw [sDK_add, zero_add]
    refine congrArg _ (Finset.sum_congr rfl fun k _ => ?_)
    rw [if_pos (by omega)]

/-- The queries' gradient in the first block -/
theorem dq_first (hx : x = ⊥) (ha : a < 2 ^ 31) (h : e1 = DotDims.transposedRhs a 256 a) (h' : e2 = DotDims.transposedRhs a 128 a) (h5 : e5 = DotDims.plain a a 256)
    (hq : R2 q fun i j => fq (0 + i) j) (hkn : R2 kn fun i j => fk (0 + i) j) (hkr : R2 kr fun i j => fk (0 + i) (128 + j)) (hL : R3 l fun i => L (0 + i))
    (hw : R2 w fun i j => fw (0 + i) j) (ho : R2 ot fun i j => fo (0 + i) j) (hv : R2 v fun i j => fv (0 + i) j) :
    R2 (bdq e5 (bds hl hs hs e2 hb (pexp hb (masked i0 i1 x (scores hsq e1 q (keys hs hk kn kr))) (shapeCast (Sh a 1) l h3)) w v (bdel hs hl h1 hadd hc hr w ot)) (keys hs hk kn kr))
      fun i j => sDQ fq fk fv L fw fo (0 + i) j :=
  (R2.plain e5 h5 none (dsd_r2 hx ha h h' hq hkn hkr hL hw ho hv) (keys_r2 (k := fun i j => fk (0 + i) j) hkn hkr) R2.zero).congr fun i j hi _ => by
    rw [zero_add, ← tri_dq fq fk fv L fw fo j (u := 0) hi]
    simp

/-- and in a later one: what the block's own keys give -/
theorem dq_own (hx : x = ⊥) (ha : a < 2 ^ 31) (h : e1 = DotDims.transposedRhs a 256 a) (h' : e2 = DotDims.transposedRhs a 128 a) (h5 : e5 = DotDims.plain a a 256)
    (hq : R2 q fun i j => fq (o + i) j) (hk' : R2 kn fun i j => fk (o + i) j) (hkr : R2 kr fun i j => fk (o + i) (128 + j)) (hL : R3 l fun i => L (o + i))
    (hw : R2 w fun i j => fw (o + i) j) (ho : R2 ot fun i j => fo (o + i) j) (hv : R2 v fun i j => fv (o + i) j) :
    R2 (bdq e5 (bds hl hs hs e2 hb (pexp hb (masked i0 i1 x (scores hsq e1 q (keys hs hk kn kr))) (shapeCast (Sh a 1) l h3)) w v (bdel hs hl h1 hadd hc hr w ot)) (keys hs hk kn kr))
      fun i d => ∑ j ∈ range a, (if j ≤ i then sDS fq fk fv L fw fo (o + i) (o + j) else 0) * fk (o + j) d :=
  (R2.plain e5 h5 none (dsd_r2 hx ha h h' hq hk' hkr hL hw ho hv) (keys_r2 (k := fun i j => fk (o + i) j) hk' hkr) R2.zero).congr fun i j hi _ => by rw [zero_add]

/-- and the two together. -/
theorem dq_sum {A B : FVec Ideal (Sh a 256) .f32} (hA : R2 A fun i d => ∑ j ∈ range a, (if j ≤ i then sDS fq fk fv L fw fo (o + i) (o + j) else 0) * fk (o + j) d)
    (hB : R2 B fun i d => ∑ j ∈ range o, sDS fq fk fv L fw fo (o + i) j * fk j d) : R2 (addf A B) fun i j => sDQ fq fk fv L fw fo (o + i) j :=
  (hA.add hB).congr fun i j hi _ => tri_dq fq fk fv L fw fo j hi

end block

/-! ## The sums kept across blocks -/

/-- After a block's own keys: rows from `o` on are ahead by `n` query rows. -/
def ahead (F : ℕ → ℕ → ℕ → ℝ) (o n s d : ℕ) : ℝ := if o ≤ s then F (o + n) s d else F o s d

theorem st_diag {n o : ℕ} {L : List (View.Piece (Elt Ideal) (Sh a b) .f32)} {inb : ∀ x, (![o, 0] : Fin 2 → ℕ) x + (Sh n b).size x ≤ (Sh a b).size x}
    {P : (Sh n b).Idx → Elt Ideal .f32} {F : ℕ → ℕ → ℕ → ℝ} (hz : ∀ u s d, u ≤ s → F u s d = 0) (hL : R2 (View.canon L) (F o)) (hP : R2 P fun i j => F (o + n) (o + i) j) :
    R2 (View.canon (⟨Rect.unit (s := Sh a b) ![o, 0] (Sh n b).size inb, P⟩ :: L)) (ahead F o n) := by
  refine RP.r2 (D := fun _ _ => True) (RP.store32 hL.rp hP ?_ ?_) fun _ _ _ _ => trivial
  · rintro s d ⟨⟨h1, h2⟩, _⟩ _ _
    simp only [ahead, h1, if_true, Nat.sub_zero]
    congr 1; omega
  · intro s d h _ _ hd
    refine ⟨trivial, ?_⟩
    unfold ahead
    split
    · have : o + n ≤ s := by by_contra h'; exact h ⟨⟨by omega, by omega⟩, by omega, by omega⟩
      rw [hz _ _ _ this, hz _ _ _ (by omega)]
    · rfl

theorem st_prev {n o : ℕ} {L : List (View.Piece (Elt Ideal) (Sh a b) .f32)} {inb : ∀ x, (![0, 0] : Fin 2 → ℕ) x + (Sh o b).size x ≤ (Sh a b).size x}
    {P : (Sh o b).Idx → Elt Ideal .f32} {F : ℕ → ℕ → ℕ → ℝ} (hL : R2 (View.canon L) (ahead F o n)) (hP : R2 P fun i j => F (o + n) i j) :
    R2 (View.canon (⟨Rect.unit (s := Sh a b) ![0, 0] (Sh o b).size inb, P⟩ :: L)) (F (o + n)) := by
  refine RP.r2 (D := fun _ _ => True) (RP.store32 hL.rp hP ?_ ?_) fun _ _ _ _ => trivial
  · rintro s d ⟨⟨h1, h2⟩, _⟩ _ _
    simp only [Nat.sub_zero]
  · intro s d h _ _ hd
    refine ⟨trivial, ?_⟩
    have : o ≤ s := by by_contra h'; exact h ⟨⟨by omega, by omega⟩, by omega, by omega⟩
    simp only [ahead, this, if_true]

theorem st_init {L : List (View.Piece (Elt Ideal) (Sh a b) .f32)} {inb : ∀ x, (![0, 0] : Fin 2 → ℕ) x + (Sh a b).size x ≤ (Sh a b).size x}
    {P : (Sh a b).Idx → Elt Ideal .f32} {F : ℕ → ℕ → ℝ} (hP : R2 P F) :
    R2 (View.canon (⟨Rect.unit (s := Sh a b) ![0, 0] (Sh a b).size inb, P⟩ :: L)) F := by
  refine RP.r2 (D := fun _ _ => True) (RP.store32 (RP.none F) hP ?_ ?_) fun _ _ _ _ => trivial
  · intro s d _ _ _
    simp only [Nat.sub_zero]
  · intro s d h _ hs hd
    exact (h ⟨⟨by omega, by omega⟩, by omega, by omega⟩).elim

end Cert.Attn

end
-- ==== Proof.Fwd.lean ====
/- What the forward call's body leaves in its three output buffers. -/
module

public import proofs.«01_k».proof.Proof.Blocks
public import proofs.«01_k».proof.Proof.Gen.KernelIdeal.Frame

@[expose] public section

set_option maxRecDepth 16384

noncomputable section

namespace Cert.Attn

open Idealize.ShloMosaic Idealize.ShloMosaic.TcCoe Idealize.SL.Sem Cert.KernelIdeal Cert.KernelIdeal.Gen
open scoped BigOperators
open Finset (range)

/-- The reciprocal root of the head's width. -/
def σ : ℝ := (Real.sqrt 192)⁻¹

theorem scale32 : Named.named (F := Ideal) Cert.KernelIdeal.κ "scale" (φ := .f32) 0x3D93CD3A#32 = ((σ : ℝ) : EReal) :=
  IdealRules.named_const.ideal_named_scalar _ _ _ _ rfl

theorem scale16 : Named.named (F := Ideal) Cert.KernelIdeal.κ "scale" (φ := .bf16) 0x3D94#16 = ((σ : ℝ) : EReal) :=
  IdealRules.named_const.ideal_named_scalar _ _ _ _ rfl

theorem mask32 : Named.named (F := Ideal) Cert.KernelIdeal.κ "mask" (φ := .f32) 0xF149F2CA#32 = (⊥ : EReal) :=
  IdealRules.named_const.ideal_named_scalar _ _ _ _ rfl

/-- The lane that a rotary lane is paired with. -/
def pair (d : ℕ) : ℕ := if d < 32 then (d + 32) % 128 else (d + 96) % 128

/-- The rotary embedding on 128 lanes. -/
def ropeF (x cs sn : ℕ → ℕ → ℝ) (t d : ℕ) : ℝ := x t d * cs t d + x t (pair d) * sn t d

/-- The scaled queries, their rotary lanes rotated. -/
def qsF (q cs sn : ℕ → ℕ → ℝ) (t d : ℕ) : ℝ :=
  if d < 128 then q t d * σ else ropeF (fun t d => q t (128 + d)) (fun t d => cs t d * σ) (fun t d => sn t d * σ) t (d - 128)

/-- A head's keys and the shared rotary keys, side by side. -/
def keyF (kv kr : ℕ → ℕ → ℝ) (s d : ℕ) : ℝ := if d < 128 then kv s d else kr s (d - 128)

/-- A head's values. -/
def valF (kv : ℕ → ℕ → ℝ) (s e : ℕ) : ℝ := kv s (128 + e)

section body

variable (c : Dev nD) (i : grid0.Coords)
  (arg2 : Memref sig .tc .vmem S2048x256 .bf16) (harg2 : arg2.IsWhole) (arg3 : Memref sig .tc .vmem S2048x256 .bf16) (harg3 : arg3.IsWhole)
  (arg4 : Memref sig .tc .vmem S2048x128 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x128 .bf16) (harg7 : arg7.IsWhole)
  (arg8 : Memref sig .tc .vmem S1x2048x1 .f32) (harg8 : arg8.IsWhole) (arg9 : Memref sig .tc .vmem S2048x256 .bf16) (harg9 : arg9.IsWhole)
  (x0 : Vec Ideal S2048x256 .bf16) (x1 : Vec Ideal S2048x256 .bf16) (x2 : Vec Ideal S2048x128 .bf16) (x3 : Vec Ideal S2048x128 .f32) (x4 : Vec Ideal S2048x128 .f32)
  {fq fkv fkr fcs fsn : ℕ → ℕ → ℝ}

theorem pay4_r2 {x : FVec Ideal S2048x128 .bf16} {cs sn : FVec Ideal S2048x128 .f32} {fx fc fs : ℕ → ℕ → ℝ} (hx : R2 x fx) (hc : R2 cs fc) (hs : R2 sn fs) :
    R2 (k0_pay4 (F := Ideal) x cs sn) (ropeF fx (fun t d => fc t d * σ) (fun t d => fs t d * σ)) := by
  refine R2.congr ((((hx.cast _).extf bitsLt_bf16_f32).mul ((hc.cast _).mul (R2.const scale32))).add
    ((((hx.cast _).rotate 96#32 rotates_S2048x128_d1).lanes ((hx.cast _).rotate 32#32 rotates_S2048x128_d1) iota_S2048x128_d1_w32).extf bitsLt_bf16_f32 |>.mul
      ((hs.cast _).mul (R2.const scale32))) |>.truncf bitsLt_bf16_f32) fun i j _ hj => ?_
  unfold ropeF pair
  by_cases h : j < 32
  · simp only [h, if_true]; rfl
  · simp only [h, if_false]; rfl

include harg2 in
/-- The queries that the body keeps. -/
theorem qs_r2 (h0 : R2 x0 fq) (h3 : R2 x3 fcs) (h4 : R2 x4 fsn) :
    R2 (View.canon (kernelRun0_A.sl.H7_2 (F := Ideal) c arg2 harg2 arg5 harg5 arg6 harg6 x0 x3 x4)) (qsF fq fcs fsn) := by
  unfold kernelRun0_A.sl.H7_2
  refine RP.r2 (D := fun _ _ => True) (RP.store16 (f := qsF fq fcs fsn) (D := fun s d => d < 128)
    (RP.store16 (RP.none (qsF fq fcs fsn)) (((h0.load16 arg2 harg2 _).cast _).mul (R2.const scale16)) ?_ ?_)
    (pay4_r2 (h0.load16 arg2 harg2 _) (h3.load32 arg5 harg5 _) (h4.load32 arg6 harg6 _)) ?_ ?_) (fun _ _ _ _ => trivial)
  · intro s d h _ _
    obtain ⟨_, _, h⟩ := h
    have h : d < 128 := by omega
    simp only [qsF, h, if_true, Nat.zero_add, Nat.sub_zero]
  · intro s d h h1 h2 h3
    exact (h ⟨⟨Nat.zero_le _, by omega⟩, Nat.zero_le _, by omega⟩).elim
  · intro s d h _ _
    obtain ⟨_, h, _⟩ := h
    have h : ¬ d < 128 := by omega
    simp only [qsF, ropeF, h, if_false, Nat.zero_add, Nat.sub_zero]
  · intro s d h _ h2 h3
    exact ⟨by by_contra h4; exact h ⟨⟨Nat.zero_le _, by omega⟩, by omega, by omega⟩, rfl⟩

theorem z0 {a b o : ℕ} {A : (Sh a b).Idx → EReal} {f : ℕ → ℕ → ℝ} (h : R2 A fun i j => f (o + i) (0 + j)) : R2 A fun i j => f (o + i) j :=
  h.congr fun i j _ _ => by rw [Nat.zero_add]

theorem z00 {a b : ℕ} {A : (Sh a b).Idx → EReal} {f : ℕ → ℕ → ℝ} (h : R2 A fun i j => f (0 + i) (0 + j)) : R2 A f :=
  h.congr fun i j _ _ => by rw [Nat.zero_add, Nat.zero_add]

theorem z00' {a b c : ℕ} {A : (Sh a b).Idx → EReal} {f : ℕ → ℕ → ℝ} (h : R2 A fun i j => f (0 + i) (c + j)) : R2 A fun i j => f i (c + j) :=
  h.congr fun i j _ _ => by rw [Nat.zero_add]

theorem keyN {a o : ℕ} (ha : 0 < a) {A : (Sh a 128).Idx → EReal} {kv kr : ℕ → ℕ → ℝ} (h : R2 A fun i j => kv (o + i) (0 + j)) : R2 A fun i j => keyF kv kr (o + i) j :=
  h.congr fun i j _ hj => by simp only [keyF, hj, if_true, Nat.zero_add]

theorem keyR {a o : ℕ} {A : (Sh a 128).Idx → EReal} {kv kr : ℕ → ℕ → ℝ} (h : R2 A fun i j => kr (o + i) (0 + j)) : R2 A fun i j => keyF kv kr (o + i) (128 + j) :=
  h.congr fun i j _ hj => by
    simp only [keyF, show ¬ 128 + j < 128 by omega, if_false, Nat.zero_add]; congr 1; omega

theorem keyN0 {a : ℕ} {A : (Sh a 128).Idx → EReal} {kv kr : ℕ → ℕ → ℝ} (h : R2 A fun i j => kv (0 + i) (0 + j)) : R2 A (keyF kv kr) :=
  h.congr fun i j _ hj => by simp only [keyF, hj, if_true, Nat.zero_add]

theorem keyR0 {a : ℕ} {A : (Sh a 128).Idx → EReal} {kv kr : ℕ → ℕ → ℝ} (h : R2 A fun i j => kr (0 + i) (0 + j)) : R2 A fun i j => keyF kv kr i (128 + j) :=
  h.congr fun i j _ hj => by
    simp only [keyF, show ¬ 128 + j < 128 by omega, if_false, Nat.zero_add]; congr 1; omega

theorem val0 {a : ℕ} {A : (Sh a 128).Idx → EReal} {kv : ℕ → ℕ → ℝ} (h : R2 A fun i j => kv (0 + i) (128 + j)) : R2 A (valF kv) :=
  h.congr fun i j _ hj => by simp only [valF, Nat.zero_add]

theorem zeros {a b : ℕ} : R2 (a := a) (b := b) (fun _ => ((0 : ℝ) : EReal)) fun _ _ => 0 := fun _ => rfl

/-- The name of the mask's constant. -/
abbrev msk : EReal := Named.named (F := Ideal) Cert.KernelIdeal.κ "mask" (φ := .f32) 0xF149F2CA#32

include harg2 harg3 harg4 harg5 harg6 in
/-- The attention's output, as the body stores it. -/
theorem o_r2 (h0 : R2 x0 fq) (h1 : R2 x1 fkv) (h2 : R2 x2 fkr) (h3 : R2 x3 fcs) (h4 : R2 x4 fsn) :
    R2 (View.canon (kernelRun0_A (F := Ideal) c i arg2 harg2 arg3 harg3 arg4 harg4 arg5 harg5 arg6 harg6 arg7 harg7 arg8 harg8 arg9 harg9 x0 x1 x2 x3 x4).1)
      (sO (qsF fq fcs fsn) (keyF fkv fkr) (valF fkv)) := by
  have hQ := qs_r2 c arg2 harg2 arg5 harg5 arg6 harg6 x0 x3 x4 h0 h3 h4
  unfold kernelRun0_A
  dsimp only
  refine RP.r2 (D := fun s _ => s < 1792 + 256) (RP.rows16 (o := 1792) ?_ ?_) (fun _ _ h _ => h)
  rotate_left
  · exact (fwd_next (n := 1792) (hb' := broadcasts_S256x1_S256x128) (hl := bitsLt_bf16_f32) (h3 := shapeCasts_S256x1_S1x256x1) (x := msk) (fq := qsF fq fcs fsn) (fk := keyF fkv fkr) (fv := valF fkv) mask32 (by norm_num) (by norm_num) (by norm_num) rfl rfl rfl rfl
      (z0 (hQ.loadCov16 _)) (keyN (by norm_num) (h1.load16 arg3 harg3 _)) (keyR (h2.load16 arg4 harg4 _)) (h1.load16 arg3 harg3 _)
      (keyN0 (h1.load16 arg3 harg3 _)) (keyR0 (h2.load16 arg4 harg4 _)) (val0 (h1.load16 arg3 harg3 _))).1
  refine RP.rows16 (o := 1536) (n := 256) ?_ ?_
  rotate_left
  · exact (fwd_next (n := 1536) (hb' := broadcasts_S256x1_S256x128) (hl := bitsLt_bf16_f32) (h3 := shapeCasts_S256x1_S1x256x1) (x := msk) (fq := qsF fq fcs fsn) (fk := keyF fkv fkr) (fv := valF fkv) mask32 (by norm_num) (by norm_num) (by norm_num) rfl rfl rfl rfl
      (z0 (hQ.loadCov16 _)) (keyN (by norm_num) (h1.load16 arg3 harg3 _)) (keyR (h2.load16 arg4 harg4 _)) (h1.load16 arg3 harg3 _)
      (keyN0 (h1.load16 arg3 harg3 _)) (keyR0 (h2.load16 arg4 harg4 _)) (val0 (h1.load16 arg3 harg3 _))).1
  refine RP.rows16 (o := 1280) (n := 256) ?_ ?_
  rotate_left
  · exact (fwd_next (n := 1280) (hb' := broadcasts_S256x1_S256x128) (hl := bitsLt_bf16_f32) (h3 := shapeCasts_S256x1_S1x256x1) (x := msk) (fq := qsF fq fcs fsn) (fk := keyF fkv fkr) (fv := valF fkv) mask32 (by norm_num) (by norm_num) (by norm_num) rfl rfl rfl rfl
      (z0 (hQ.loadCov16 _)) (keyN (by norm_num) (h1.load16 arg3 harg3 _)) (keyR (h2.load16 arg4 harg4 _)) (h1.load16 arg3 harg3 _)
      (keyN0 (h1.load16 arg3 harg3 _)) (keyR0 (h2.load16 arg4 harg4 _)) (val0 (h1.load16 arg3 harg3 _))).1
  refine RP.rows16 (o := 1024) (n := 256) ?_ ?_
  rotate_left
  · exact (fwd_next (n := 1024) (hb' := broadcasts_S256x1_S256x128) (hl := bitsLt_bf16_f32) (h3 := shapeCasts_S256x1_S1x256x1) (x := msk) (fq := qsF fq fcs fsn) (fk := keyF fkv fkr) (fv := valF fkv) mask32 (by norm_num) (by norm_num) (by norm_num) rfl rfl rfl rfl
      (z0 (hQ.loadCov16 _)) (keyN (by norm_num) (h1.load16 arg3 harg3 _)) (keyR (h2.load16 arg4 harg4 _)) (h1.load16 arg3 harg3 _)
      (keyN0 (h1.load16 arg3 harg3 _)) (keyR0 (h2.load16 arg4 harg4 _)) (val0 (h1.load16 arg3 harg3 _))).1
  refine RP.rows16 (o := 768) (n := 256) ?_ ?_
  rotate_left
  · exact (fwd_next (n := 768) (hb' := broadcasts_S256x1_S256x128) (hl := bitsLt_bf16_f32) (h3 := shapeCasts_S256x1_S1x256x1) (x := msk) (fq := qsF fq fcs fsn) (fk := keyF fkv fkr) (fv := valF fkv) mask32 (by norm_num) (by norm_num) (by norm_num) rfl rfl rfl rfl
      (z0 (hQ.loadCov16 _)) (keyN (by norm_num) (h1.load16 arg3 harg3 _)) (keyR (h2.load16 arg4 harg4 _)) (h1.load16 arg3 harg3 _)
      (keyN0 (h1.load16 arg3 harg3 _)) (keyR0 (h2.load16 arg4 harg4 _)) (val0 (h1.load16 arg3 harg3 _))).1
  refine RP.rows16 (o := 512) (n := 256) ?_ ?_
  rotate_left
  · exact (fwd_next (n := 512) (hb' := broadcasts_S256x1_S256x128) (hl := bitsLt_bf16_f32) (h3 := shapeCasts_S256x1_S1x256x1) (x := msk) (fq := qsF fq fcs fsn) (fk := keyF fkv fkr) (fv := valF fkv) mask32 (by norm_num) (by norm_num) (by norm_num) rfl rfl rfl rfl
      (z0 (hQ.loadCov16 _)) (keyN (by norm_num) (h1.load16 arg3 harg3 _)) (keyR (h2.load16 arg4 harg4 _)) (h1.load16 arg3 harg3 _)
      (keyN0 (h1.load16 arg3 harg3 _)) (keyR0 (h2.load16 arg4 harg4 _)) (val0 (h1.load16 arg3 harg3 _))).1
  refine RP.rows16 (o := 256) (n := 256) ?_ ?_
  rotate_left
  · exact (fwd_next (n := 256) (hb' := broadcasts_S256x1_S256x128) (hl := bitsLt_bf16_f32) (h3 := shapeCasts_S256x1_S1x256x1) (x := msk) (fq := qsF fq fcs fsn) (fk := keyF fkv fkr) (fv := valF fkv) mask32 (by norm_num) (by norm_num) (by norm_num) rfl rfl rfl rfl
      (z0 (hQ.loadCov16 _)) (keyN (by norm_num) (h1.load16 arg3 harg3 _)) (keyR (h2.load16 arg4 harg4 _)) (h1.load16 arg3 harg3 _)
      (keyN0 (h1.load16 arg3 harg3 _)) (keyR0 (h2.load16 arg4 harg4 _)) (val0 (h1.load16 arg3 harg3 _))).1
  refine RP.rows16 (o := 0) (n := 256) ?_ ?_
  rotate_left
  · exact ((fwd_first (a := 256) (hb' := broadcasts_S256x1_S256x128) (hl := bitsLt_bf16_f32) (h3 := shapeCasts_S256x1_S1x256x1) (x := msk) (fq := qsF fq fcs fsn) (fk := keyF fkv fkr) (fv := valF fkv) mask32 (by norm_num) (by norm_num) rfl rfl
      (z00 (hQ.loadCov16 _)) (keyN0 (h1.load16 arg3 harg3 _)) (keyR0 (h2.load16 arg4 harg4 _)) (val0 (h1.load16 arg3 harg3 _))).1).congr fun i j _ _ => by rw [Nat.zero_add]
  exact fun i h => absurd h (Nat.not_lt_zero _)

include harg2 harg3 harg4 harg5 harg6 in
/-- The rows' log-sums, as the body stores them. -/
theorem lse_r2 (h0 : R2 x0 fq) (h1 : R2 x1 fkv) (h2 : R2 x2 fkr) (h3 : R2 x3 fcs) (h4 : R2 x4 fsn) :
    R3 (View.canon (kernelRun0_A (F := Ideal) c i arg2 harg2 arg3 harg3 arg4 harg4 arg5 harg5 arg6 harg6 arg7 harg7 arg8 harg8 arg9 harg9 x0 x1 x2 x3 x4).2.1)
      fun t => Real.log (sZ (qsF fq fcs fsn) (keyF fkv fkr) t) := by
  have hQ := qs_r2 c arg2 harg2 arg5 harg5 arg6 harg6 x0 x3 x4 h0 h3 h4
  unfold kernelRun0_A
  dsimp only
  refine R3U.r3 (R3U.store (o := 1792) (n := 256) ?_ ?_ fun _ _ => rfl)
  rotate_left
  · exact (fwd_next (n := 1792) (hb' := broadcasts_S256x1_S256x128) (hl := bitsLt_bf16_f32) (h3 := shapeCasts_S256x1_S1x256x1) (x := msk) (fq := qsF fq fcs fsn) (fk := keyF fkv fkr) (fv := fun _ _ => 0) mask32 (by norm_num) (by norm_num) (by norm_num) rfl rfl rfl rfl
      (z0 (hQ.loadCov16 _)) (keyN (by norm_num) (h1.load16 arg3 harg3 _)) (keyR (h2.load16 arg4 harg4 _)) zeros
      (keyN0 (h1.load16 arg3 harg3 _)) (keyR0 (h2.load16 arg4 harg4 _)) zeros).2
  refine R3U.store (o := 1536) (n := 256) ?_ ?_ fun _ _ => rfl
  rotate_left
  · exact (fwd_next (n := 1536) (hb' := broadcasts_S256x1_S256x128) (hl := bitsLt_bf16_f32) (h3 := shapeCasts_S256x1_S1x256x1) (x := msk) (fq := qsF fq fcs fsn) (fk := keyF fkv fkr) (fv := fun _ _ => 0) mask32 (by norm_num) (by norm_num) (by norm_num) rfl rfl rfl rfl
      (z0 (hQ.loadCov16 _)) (keyN (by norm_num) (h1.load16 arg3 harg3 _)) (keyR (h2.load16 arg4 harg4 _)) zeros
      (keyN0 (h1.load16 arg3 harg3 _)) (keyR0 (h2.load16 arg4 harg4 _)) zeros).2
  refine R3U.store (o := 1280) (n := 256) ?_ ?_ fun _ _ => rfl
  rotate_left
  · exact (fwd_next (n := 1280) (hb' := broadcasts_S256x1_S256x128) (hl := bitsLt_bf16_f32) (h3 := shapeCasts_S256x1_S1x256x1) (x := msk) (fq := qsF fq fcs fsn) (fk := keyF fkv fkr) (fv := fun _ _ => 0) mask32 (by norm_num) (by norm_num) (by norm_num) rfl rfl rfl rfl
      (z0 (hQ.loadCov16 _)) (keyN (by norm_num) (h1.load16 arg3 harg3 _)) (keyR (h2.load16 arg4 harg4 _)) zeros
      (keyN0 (h1.load16 arg3 harg3 _)) (keyR0 (h2.load16 arg4 harg4 _)) zeros).2
  refine R3U.store (o := 1024) (n := 256) ?_ ?_ fun _ _ => rfl
  rotate_left
  · exact (fwd_next (n := 1024) (hb' := broadcasts_S256x1_S256x128) (hl := bitsLt_bf16_f32) (h3 := shapeCasts_S256x1_S1x256x1) (x := msk) (fq := qsF fq fcs fsn) (fk := keyF fkv fkr) (fv := fun _ _ => 0) mask32 (by norm_num) (by norm_num) (by norm_num) rfl rfl rfl rfl
      (z0 (hQ.loadCov16 _)) (keyN (by norm_num) (h1.load16 arg3 harg3 _)) (keyR (h2.load16 arg4 harg4 _)) zeros
      (keyN0 (h1.load16 arg3 harg3 _)) (keyR0 (h2.load16 arg4 harg4 _)) zeros).2
  refine R3U.store (o := 768) (n := 256) ?_ ?_ fun _ _ => rfl
  rotate_left
  · exact (fwd_next (n := 768) (hb' := broadcasts_S256x1_S256x128) (hl := bitsLt_bf16_f32) (h3 := shapeCasts_S256x1_S1x256x1) (x := msk) (fq := qsF fq fcs fsn) (fk := keyF fkv fkr) (fv := fun _ _ => 0) mask32 (by norm_num) (by norm_num) (by norm_num) rfl rfl rfl rfl
      (z0 (hQ.loadCov16 _)) (keyN (by norm_num) (h1.load16 arg3 harg3 _)) (keyR (h2.load16 arg4 harg4 _)) zeros
      (keyN0 (h1.load16 arg3 harg3 _)) (keyR0 (h2.load16 arg4 harg4 _)) zeros).2
  refine R3U.store (o := 512) (n := 256) ?_ ?_ fun _ _ => rfl
  rotate_left
  · exact (fwd_next (n := 512) (hb' := broadcasts_S256x1_S256x128) (hl := bitsLt_bf16_f32) (h3 := shapeCasts_S256x1_S1x256x1) (x := msk) (fq := qsF fq fcs fsn) (fk := keyF fkv fkr) (fv := fun _ _ => 0) mask32 (by norm_num) (by norm_num) (by norm_num) rfl rfl rfl rfl
      (z0 (hQ.loadCov16 _)) (keyN (by norm_num) (h1.load16 arg3 harg3 _)) (keyR (h2.load16 arg4 harg4 _)) zeros
      (keyN0 (h1.load16 arg3 harg3 _)) (keyR0 (h2.load16 arg4 harg4 _)) zeros).2
  refine R3U.store (o := 256) (n := 256) ?_ ?_ fun _ _ => rfl
  rotate_left
  · exact (fwd_next (n := 256) (hb' := broadcasts_S256x1_S256x128) (hl := bitsLt_bf16_f32) (h3 := shapeCasts_S256x1_S1x256x1) (x := msk) (fq := qsF fq fcs fsn) (fk := keyF fkv fkr) (fv := fun _ _ => 0) mask32 (by norm_num) (by norm_num) (by norm_num) rfl rfl rfl rfl
      (z0 (hQ.loadCov16 _)) (keyN (by norm_num) (h1.load16 arg3 harg3 _)) (keyR (h2.load16 arg4 harg4 _)) zeros
      (keyN0 (h1.load16 arg3 harg3 _)) (keyR0 (h2.load16 arg4 harg4 _)) zeros).2
  refine R3U.store (o := 0) (n := 256) ?_ ?_ fun _ _ => rfl
  rotate_left
  · exact ((fwd_first (a := 256) (hb' := broadcasts_S256x1_S256x128) (hl := bitsLt_bf16_f32) (h3 := shapeCasts_S256x1_S1x256x1) (x := msk) (fq := qsF fq fcs fsn) (fk := keyF fkv fkr) (fv := fun _ _ => 0) mask32 (by norm_num) (by norm_num) rfl rfl
      (z00 (hQ.loadCov16 _)) (keyN0 (h1.load16 arg3 harg3 _)) (keyR0 (h2.load16 arg4 harg4 _)) zeros).2).congr fun i => by rw [Nat.zero_add]
  exact fun i h => absurd h (Nat.not_lt_zero _)

include harg2 harg5 harg6 in
/-- The scaled queries, as the body stores them. -/
theorem q_r2 (h0 : R2 x0 fq) (h3 : R2 x3 fcs) (h4 : R2 x4 fsn) :
    R2 (View.canon (kernelRun0_A (F := Ideal) c i arg2 harg2 arg3 harg3 arg4 harg4 arg5 harg5 arg6 harg6 arg7 harg7 arg8 harg8 arg9 harg9 x0 x1 x2 x3 x4).2.2.1) (qsF fq fcs fsn) :=
  qs_r2 c arg2 harg2 arg5 harg5 arg6 harg6 x0 x3 x4 h0 h3 h4

end body

end Cert.Attn

end
-- ==== Proof.BwdA.lean ====
/- What the backward call's body leaves in its output buffers at the first head. -/
module

public import proofs.«01_k».proof.Proof.Back
public import proofs.«01_k».proof.Proof.Fwd

@[expose] public section

set_option maxRecDepth 16384

noncomputable section

namespace Cert.Attn

open Idealize.ShloMosaic Idealize.ShloMosaic.TcCoe Idealize.SL.Sem Cert.KernelIdeal Cert.KernelIdeal.Gen
open scoped BigOperators
open Finset (range)

theorem ah0 {b o n : ℕ} {A : (Sh o b).Idx → EReal} {F : ℕ → ℕ → ℕ → ℝ} (h : R2 A fun i j => ahead F o n (0 + i) (0 + j)) : R2 A fun i j => F o i j :=
  h.congr fun i j hi _ => by simp only [ahead, Nat.zero_add, show ¬ o ≤ i by omega, if_false]

theorem ahz {a b n : ℕ} {A : (Sh a b).Idx → EReal} {F : ℕ → ℕ → ℕ → ℝ} (h : R2 A (ahead F 0 n)) : R2 A (F n) :=
  h.congr fun i j _ _ => by simp only [ahead, Nat.zero_le, if_true, Nat.zero_add]

theorem rz {a b o : ℕ} {A : (Sh a b).Idx → EReal} {f : ℕ → ℕ → ℝ} (h : R2 A f) : R2 A fun i j => f (0 + i) j :=
  h.congr fun i j _ _ => by rw [Nat.zero_add]

/-- The inverse rotation, with the scale. -/
def ropeB (x cs sn : ℕ → ℕ → ℝ) (t d : ℕ) : ℝ := x t d * (cs t d * σ) + x t (pair d) * (sn t (pair d) * σ)

/-- The queries' gradient, scaled, its rotary lanes rotated back. -/
def dqF (dy cs sn : ℕ → ℕ → ℝ) (t d : ℕ) : ℝ := if d < 128 then dy t d * σ else ropeB (fun t d => dy t (128 + d)) cs sn t (d - 128)

/-- The stored lanes: the head's own -/
def outN (hs : (Sh 512 256).Slices ![0, 0] (Sh 512 128)) (hl : FTy.bits .bf16 < FTy.bits .f32) (x : EReal) (dy : FVec Ideal (Sh 512 256) .f32) : FVec Ideal (Sh 512 128) .bf16 :=
  truncf .bf16 (mulf (extractStridedSlice (Sh 512 128) ![0, 0] dy hs) (broadcast (Sh 512 128) x)) hl

theorem outN_r2 {hs hl} {x : EReal} (hx : x = ((σ : ℝ) : EReal)) {dy : FVec Ideal (Sh 512 256) .f32} {F : ℕ → ℕ → ℝ} {o : ℕ} (h : R2 dy fun i j => F (o + i) j) :
    R2 (outN hs hl x dy) fun i j => F (o + i) j * σ :=
  (((h.slice hs).mul (R2.const hx)).truncf hl).congr fun i j _ _ => by rw [Nat.zero_add, Nat.zero_add]

theorem sl128 {hs : (Sh 512 256).Slices ![0, 128] (Sh 512 128)} {dy : FVec Ideal (Sh 512 256) .f32} {F : ℕ → ℕ → ℝ} {o : ℕ} (h : R2 dy fun i j => F (o + i) j) :
    R2 (extractStridedSlice (Sh 512 128) ![0, 128] dy hs) fun i j => F (o + i) (128 + j) :=
  (h.slice hs).congr fun i j _ _ => by rw [Nat.zero_add]

/-- The rotary lanes, as each block of rows stores them. -/
theorem rope_r2 {y c s : FVec Ideal S512x128 .f32} {F fc fs : ℕ → ℕ → ℝ} {o : ℕ} (hy : R2 y fun i j => F (o + i) (128 + j))
    (hc : R2 c fun i j => fc (o + i) j * σ) (hs : R2 s fun i j => F (o + i) (128 + j) * (fs (o + i) j * σ)) :
    R2 (k1_pay69 (F := Ideal) y c s k1_pay68 96#32) fun i j => ropeB (fun t d => F t (128 + d)) fc fs (o + i) j := by
  refine R2.congr ((hy.mul hc).add ((hs.rotate 96#32 rotates_S512x128_d1).lanes (hs.rotate 32#32 rotates_S512x128_d1) iota_S512x128_d1_w32) |>.truncf bitsLt_bf16_f32) fun i j _ hj => ?_
  unfold ropeB pair
  by_cases h : j < 32
  · simp only [h, if_true]; rfl
  · simp only [h, if_false]; rfl

theorem zm {A : FVec Ideal S512x128 .f32} {x : EReal} (hx : x = ((σ : ℝ) : EReal)) {f : ℕ → ℕ → ℝ} {o : ℕ} (h : R2 A fun i j => f (o + i) (0 + j)) :
    R2 (mulf (shapeCast S512x128 A shapeCasts_S512x128_S512x128) (broadcast S512x128 x) : FVec Ideal S512x128 .f32) fun i j => f (o + i) j * σ :=
  ((h.cast shapeCasts_S512x128_S512x128).mul (R2.const hx)).congr fun i j _ _ => by rw [Nat.zero_add]

theorem rope22 {y c s : FVec Ideal S512x128 .f32} {F fc fs : ℕ → ℕ → ℝ} {o : ℕ} (hy : R2 y fun i j => F (o + i) (128 + j))
    (hc : R2 c fun i j => fc (o + i) (0 + j)) (hs : R2 s fun i j => fs (o + i) (0 + j)) :
    R2 (k1_pay22 (F := Ideal) y (k1_pay20 c) k1_pay21 s) fun i j => ropeB (fun t d => F t (128 + d)) fc fs (o + i) j :=
  rope_r2 hy (zm scale32 hc) (hy.mul (zm scale32 hs))

theorem rope45 {y c s : FVec Ideal S512x128 .f32} {F fc fs : ℕ → ℕ → ℝ} {o : ℕ} (hy : R2 y fun i j => F (o + i) (128 + j))
    (hc : R2 c fun i j => fc (o + i) (0 + j)) (hs : R2 s fun i j => fs (o + i) (0 + j)) :
    R2 (k1_pay45 (F := Ideal) y (k1_pay42 c) (k1_pay43 s) k1_pay44) fun i j => ropeB (fun t d => F t (128 + d)) fc fs (o + i) j :=
  rope_r2 hy (zm scale32 hc) (hy.mul (zm scale32 hs))

theorem rope69 {v235 : FVec Ideal S512x256 .f32} {v240 : FVec Ideal S1024x256 .bf16} {v244 v249 : FVec Ideal S512x1024 .f32} {c s : FVec Ideal S512x128 .f32} {F fc fs : ℕ → ℕ → ℝ} {o : ℕ}
    (hy : R2 (k1_pay65 v235 v240 v244 v249) fun i j => F (o + i) (128 + j)) (hc : R2 c fun i j => fc (o + i) (0 + j)) (hs : R2 s fun i j => fs (o + i) (0 + j)) :
    R2 (k1_pay69 (F := Ideal) (k1_pay65 v235 v240 v244 v249) (k1_pay66 c) (k1_pay67 v235 v240 v244 v249 s) k1_pay68 96#32) fun i j => ropeB (fun t d => F t (128 + d)) fc fs (o + i) j :=
  rope_r2 hy (zm scale32 hc) (hy.mul (zm scale32 hs))

theorem rope89 {v339 : FVec Ideal S512x256 .f32} {v344 : FVec Ideal S1536x256 .bf16} {v355 : FVec Ideal S512x1536 .bf16} {c s : FVec Ideal S512x128 .f32} {F fc fs : ℕ → ℕ → ℝ} {o : ℕ}
    (h : R2 (k1_pay87 v339 v344 v355) fun i j => F (o + i) j) (hc : R2 c fun i j => fc (o + i) (0 + j)) (hs : R2 s fun i j => fs (o + i) (0 + j)) :
    R2 (k1_pay89 (F := Ideal) v339 v344 v355 c s) fun i j => ropeB (fun t d => F t (128 + d)) fc fs (o + i) j :=
  rope_r2 (sl128 (hs := slices_S512x256_o0_128_S512x128) h) (zm scale32 hc) ((sl128 (hs := slices_S512x256_o0_128_S512x128) h).mul (zm scale32 hs))

section sums

variable {fq fk fv fw fo : ℕ → ℕ → ℝ} {L : ℕ → ℝ}

/-- A block's own part of the queries' gradient -/
def gOwn (fq fk fv : ℕ → ℕ → ℝ) (L : ℕ → ℝ) (fw fo : ℕ → ℕ → ℝ) (a o i d : ℕ) : ℝ := ∑ j ∈ range a, (if j ≤ i then sDS fq fk fv L fw fo (o + i) (o + j) else 0) * fk (o + j) d

/-- and the part of the keys before it. -/
def gPrev (fq fk fv : ℕ → ℕ → ℝ) (L : ℕ → ℝ) (fw fo : ℕ → ℕ → ℝ) (o i d : ℕ) : ℝ := ∑ j ∈ range o, sDS fq fk fv L fw fo (o + i) j * fk j d

theorem pv_dq {n : ℕ} {d : DotDims (Sh 512 n) (Sh n 256) (Sh 512 256)} (hd : d = DotDims.plain 512 n 256) {ds : FVec Ideal (Sh 512 n) .bf16} {K : FVec Ideal (Sh n 256) .bf16} {f : ℕ → ℕ → ℝ}
    (h : R2 ds f) (hK : R2 K fk) : R2 (matmul d none ds K (z32 512 256)) fun i e => ∑ j ∈ range n, f i j * fk j e :=
  (R2.plain d hd none h hK R2.zero).congr fun i j hi _ => by rw [zero_add]

theorem q39 {v87 : FVec Ideal S512x128 .bf16} {v94 : FVec Ideal S512x1 .f32} {v131 : FVec Ideal S512x256 .f32} {v136 : FVec Ideal S512x256 .bf16} {v140 : FVec Ideal S512x512 .f32} {v141 : Vec Ideal S512x128 .bf16}
    (hA : R2 v131 (gOwn fq fk fv L fw fo 512 512)) (hB : R2 (k1_pay36 v87 v94 v140 v141) fun i j => sDS fq fk fv L fw fo (512 + i) j) (hK : R2 v136 fk) :
    R2 (k1_pay39 v87 v94 v131 v136 v140 v141) fun i j => sDQ fq fk fv L fw fo (512 + i) j := by
  unfold k1_pay39; exact dq_sum hA (pv_dq (d := dot_S512x512_S512x256_S512x256_1_0_0_1_n_n) rfl hB hK)

theorem q63 {v235 : FVec Ideal S512x256 .f32} {v240 : FVec Ideal S1024x256 .bf16} {v244 v249 : FVec Ideal S512x1024 .f32}
    (hA : R2 v235 (gOwn fq fk fv L fw fo 512 1024)) (hB : R2 (k1_pay60 v244 v249) fun i j => sDS fq fk fv L fw fo (1024 + i) j) (hK : R2 v240 fk) :
    R2 (k1_pay63 v235 v240 v244 v249) fun i j => sDQ fq fk fv L fw fo (1024 + i) j := by
  unfold k1_pay63; exact dq_sum hA (pv_dq (d := dot_S512x1024_S1024x256_S512x256_1_0_0_1_n_n) rfl hB hK)

theorem q87 {v339 : FVec Ideal S512x256 .f32} {v344 : FVec Ideal S1536x256 .bf16} {v355 : FVec Ideal S512x1536 .bf16}
    (hA : R2 v339 (gOwn fq fk fv L fw fo 512 1536)) (hB : R2 v355 fun i j => sDS fq fk fv L fw fo (1536 + i) j) (hK : R2 v344 fk) :
    R2 (k1_pay87 v339 v344 v355) fun i j => sDQ fq fk fv L fw fo (1536 + i) j := by
  unfold k1_pay87; exact dq_sum hA (pv_dq (d := dot_S512x1536_S1536x256_S512x256_1_0_0_1_n_n) rfl hB hK)

/-- The weights of rows 1536 to 2047 over the 1536 keys before them. -/
theorem p82 {v293 : FVec Ideal S512x256 .bf16} {v304 : FVec Ideal S512x1 .f32} {v340 v342 : FVec Ideal S1536x128 .bf16} (hq : R2 v293 fun i j => fq (1536 + i) j) (hL : R2 v304 fun i _ => L (1536 + i))
    (hpn : R2 v340 fk) (hpr : R2 v342 fun i j => fk i (128 + j)) : R2 (k1_pay82 v293 v304 v340 v342) fun i j => sP fq fk L (1536 + i) j := by
  unfold k1_pay82 k1_pay81
  exact (((R2.nt dot_S512x256_S1536x256_S512x1536_1_1_0_0_n_n rfl none hq (keys_r2 (hs := shapeCasts_S1536x128_S1536x128) (hc := concatenates_S1536x128_S1536x128_S1536x256_d1) hpn hpr) R2.zero).sub
    (hL.bcast broadcasts_S512x1_S512x1536)).exp).congr fun i j _ _ => by rw [zero_add]; rfl

/-- The weights of rows 1024 to 1535 over the 1024 keys before them. -/
theorem p58 {v189 : FVec Ideal S512x256 .bf16} {v200 : FVec Ideal S512x1 .f32} {v236 v238 : FVec Ideal S1024x128 .bf16} (hq : R2 v189 fun i j => fq (1024 + i) j) (hL : R2 v200 fun i _ => L (1024 + i))
    (hpn : R2 v236 fk) (hpr : R2 v238 fun i j => fk i (128 + j)) : R2 (k1_pay58 v189 v200 v236 v238) fun i j => sP fq fk L (1024 + i) j := by
  unfold k1_pay58 k1_pay57
  exact (((R2.nt dot_S512x256_S1024x256_S512x1024_1_1_0_0_n_n rfl none hq (keys_r2 (hs := shapeCasts_S1024x128_S1024x128) (hc := concatenates_S1024x128_S1024x128_S1024x256_d1) hpn hpr) R2.zero).sub
    (hL.bcast broadcasts_S512x1_S512x1024)).exp).congr fun i j _ _ => by rw [zero_add]; rfl

/-- The weights of rows 512 to 1023 over the 512 keys before them. -/
theorem p35 {v85 : FVec Ideal S512x256 .bf16} {v96 : FVec Ideal S512x1 .f32} {v132 v134 : FVec Ideal S512x128 .bf16} (hq : R2 v85 fun i j => fq (512 + i) j) (hL : R2 v96 fun i _ => L (512 + i))
    (hpn : R2 v132 fk) (hpr : R2 v134 fun i j => fk i (128 + j)) : R2 (k1_pay35 v85 v96 v132 v134) fun i j => sP fq fk L (512 + i) j := by
  unfold k1_pay35 k1_pay34
  exact (((R2.nt dot_S512x256_S512x256_S512x512_1_1_0_0_n_n rfl none hq (keys_r2 (hs := shapeCasts_S512x128_S512x128) (hc := concatenates_S512x128_S512x128_S512x256_d1) hpn hpr) R2.zero).sub
    (hL.bcast broadcasts_S512x1_S512x512)).exp).congr fun i j _ _ => by rw [zero_add]; rfl

/-- The scores' gradients of rows 1536 to 2047 over the 1536 keys before them. -/
theorem d83 {v295 : FVec Ideal S512x128 .bf16} {v302 : FVec Ideal S512x1 .f32} {v349 : FVec Ideal S1536x128 .bf16} {v293 : FVec Ideal S512x256 .bf16} {v304 : FVec Ideal S512x1 .f32} {v340 v342 : FVec Ideal S1536x128 .bf16} (hq : R2 v293 fun i j => fq (1536 + i) j) (hL : R2 v304 fun i _ => L (1536 + i))
    (hpn : R2 v340 fk) (hpr : R2 v342 fun i j => fk i (128 + j)) (hw : R2 v295 fun i j => fw (1536 + i) j) (hd : R2 v302 fun i _ => sDel fw fo (1536 + i))
    (hv : R2 v349 fv) : R2 (k1_pay83 v293 v295 v302 v304 v340 v342 v349) fun i j => sDS fq fk fv L fw fo (1536 + i) j := by
  unfold k1_pay83
  exact ds_of (o := 1536) (n := 1536) (a := 512) (hl := bitsLt_bf16_f32) rfl (p82 hq hL hpn hpr) hw (hv.cast _) hd

/-- The scores' gradients of rows 1024 to 1535 over the 1024 keys before them. -/
theorem d60 {v191 : FVec Ideal S512x128 .bf16} {v198 : FVec Ideal S512x1 .f32} {v245 : FVec Ideal S1024x128 .bf16} {v244 : FVec Ideal S512x1024 .f32} (hp : R2 v244 fun i j => sP fq fk L (1024 + i) j) (hw : R2 v191 fun i j => fw (1024 + i) j) (hd : R2 v198 fun i _ => sDel fw fo (1024 + i))
    (hv : R2 v245 fv) : R2 (k1_pay60 v244 (k1_pay59 v191 v198 v245)) fun i j => sDS fq fk fv L fw fo (1024 + i) j := by
  unfold k1_pay60 k1_pay59
  exact ds_of (o := 1024) (n := 1024) (a := 512) (hl := bitsLt_bf16_f32) rfl hp hw (hv.cast _) hd

/-- The scores' gradients of rows 512 to 1023 over the 512 keys before them. -/
theorem d36 {v87 : FVec Ideal S512x128 .bf16} {v94 : FVec Ideal S512x1 .f32} {v141 : FVec Ideal S512x128 .bf16} {v140 : FVec Ideal S512x512 .f32} (hp : R2 v140 fun i j => sP fq fk L (512 + i) j) (hw : R2 v87 fun i j => fw (512 + i) j) (hd : R2 v94 fun i _ => sDel fw fo (512 + i))
    (hv : R2 v141 fv) : R2 (k1_pay36 v87 v94 v140 v141) fun i j => sDS fq fk fv L fw fo (512 + i) j := by
  unfold k1_pay36
  exact ds_of (o := 512) (n := 512) (a := 512) (hl := bitsLt_bf16_f32) rfl hp hw (hv.cast _) hd

section own
variable {q : FVec Ideal S512x256 .bf16} {w ot kn kr v : FVec Ideal S512x128 .bf16} {l : FVec Ideal S1x512x1 .f32}

/-- What the keys of rows 512 to 1023 give to their own queries' gradient. -/
theorem o33 (hq : R2 q fun i j => fq (512 + i) j) (hkn : R2 kn fun i j => fk (512 + i) j) (hkr : R2 kr fun i j => fk (512 + i) (128 + j)) (hL : R3 l fun i => L (512 + i))
    (hw : R2 w fun i j => fw (512 + i) j) (ho : R2 ot fun i j => fo (512 + i) j) (hv : R2 v fun i j => fv (512 + i) j) :
    R2 (k1_pay33 (F := Ideal) (k1_pay24 w) (k1_pay25 w ot) (k1_pay26 l) (k1_pay27 kn kr) (k1_pay28 q kn kr) (iota .tc S512x512 32 [0] iota_S512x512_d0_w32) v) (gOwn fq fk fv L fw fo 512 512) := by
  unfold k1_pay33 k1_pay30 k1_pay29 k1_pay28 k1_pay27 k1_pay26 k1_pay25 k1_pay24 k1_pay23
  exact dq_own (o := 512) (a := 512) (h1 := .inl rfl) (hadd := rfl) (hl := bitsLt_bf16_f32) (h3 := shapeCasts_S1x512x1_S512x1) (x := msk) mask32 (by norm_num) rfl rfl rfl hq hkn hkr hL hw ho hv

/-- What the keys of rows 1024 to 1535 give to their own queries' gradient. -/
theorem o56 (hq : R2 q fun i j => fq (1024 + i) j) (hkn : R2 kn fun i j => fk (1024 + i) j) (hkr : R2 kr fun i j => fk (1024 + i) (128 + j)) (hL : R3 l fun i => L (1024 + i))
    (hw : R2 w fun i j => fw (1024 + i) j) (ho : R2 ot fun i j => fo (1024 + i) j) (hv : R2 v fun i j => fv (1024 + i) j) :
    R2 (k1_pay56 (F := Ideal) (k1_pay47 w) (k1_pay48 w ot) (k1_pay50 kn kr) (k1_pay51 q l kn kr) v) (gOwn fq fk fv L fw fo 512 1024) := by
  unfold k1_pay56 k1_pay53 k1_pay52 k1_pay51 k1_pay50 k1_pay49 k1_pay48 k1_pay47 k1_pay46
  exact dq_own (o := 1024) (a := 512) (h1 := .inl rfl) (hadd := rfl) (hl := bitsLt_bf16_f32) (h3 := shapeCasts_S1x512x1_S512x1) (x := msk) mask32 (by norm_num) rfl rfl rfl hq hkn hkr hL hw ho hv

/-- What the keys of rows 1536 to 2047 give to their own queries' gradient. -/
theorem o80 (hq : R2 q fun i j => fq (1536 + i) j) (hkn : R2 kn fun i j => fk (1536 + i) j) (hkr : R2 kr fun i j => fk (1536 + i) (128 + j)) (hL : R3 l fun i => L (1536 + i))
    (hw : R2 w fun i j => fw (1536 + i) j) (ho : R2 ot fun i j => fo (1536 + i) j) (hv : R2 v fun i j => fv (1536 + i) j) :
    R2 (k1_pay80 (F := Ideal) (k1_pay72 w ot) (k1_pay74 kn kr) (k1_pay75 q l kn kr) (k1_pay76 w v)) (gOwn fq fk fv L fw fo 512 1536) := by
  unfold k1_pay80 k1_pay77 k1_pay76 k1_pay75 k1_pay74 k1_pay73 k1_pay72 k1_pay71 k1_pay70
  exact dq_own (o := 1536) (a := 512) (h1 := .inl rfl) (hadd := rfl) (hl := bitsLt_bf16_f32) (h3 := shapeCasts_S1x512x1_S512x1) (x := msk) mask32 (by norm_num) rfl rfl rfl hq hkn hkr hL hw ho hv

/-- The first rows' gradient. -/
theorem o17 (hq : R2 q fun i j => fq (0 + i) j) (hkn : R2 kn fun i j => fk (0 + i) j) (hkr : R2 kr fun i j => fk (0 + i) (128 + j)) (hL : R3 l fun i => L (0 + i))
    (hw : R2 w fun i j => fw (0 + i) j) (ho : R2 ot fun i j => fo (0 + i) j) (hv : R2 v fun i j => fv (0 + i) j) :
    R2 (k1_pay17 (F := Ideal) (k1_pay8 w) (k1_pay9 w ot) (k1_pay10 l) (k1_pay11 kn kr) (k1_pay12 q kn kr) (iota .tc S512x512 32 [0] iota_S512x512_d0_w32) (iota .tc S512x512 32 [1] iota_S512x512_d1_w32) v)
      fun i j => sDQ fq fk fv L fw fo (0 + i) j := by
  unfold k1_pay17 k1_pay14 k1_pay13 k1_pay12 k1_pay11 k1_pay10 k1_pay9 k1_pay8 k1_pay7
  exact dq_first (a := 512) (h1 := .inl rfl) (hadd := rfl) (hl := bitsLt_bf16_f32) (h3 := shapeCasts_S1x512x1_S512x1) (x := msk) mask32 (by norm_num) rfl rfl rfl hq hkn hkr hL hw ho hv

end own

end sums

/-- One more block of rows of the queries' gradient. -/
theorem dq_store {o : ℕ} {L : List (View.Piece (Elt Ideal) (Sh 2048 256) .bf16)}
    {i1 : ∀ x, (![o, 0] : Fin 2 → ℕ) x + (Sh 512 128).size x ≤ (Sh 2048 256).size x} {i2 : ∀ x, (![o, 128] : Fin 2 → ℕ) x + (Sh 512 128).size x ≤ (Sh 2048 256).size x}
    {P Q : (Sh 512 128).Idx → Elt Ideal .bf16} {F fc fs : ℕ → ℕ → ℝ} (hL : RP (fun s _ => s < o) (View.canon L) (dqF F fc fs))
    (hP : R2 P fun i j => F (o + i) j * σ) (hQ : R2 Q fun i j => ropeB (fun t d => F t (128 + d)) fc fs (o + i) j) :
    RP (fun s _ => s < o + 512) (View.canon (⟨Rect.unit (s := Sh 2048 256) ![o, 128] (Sh 512 128).size i2, Q⟩ ::
      ⟨Rect.unit (s := Sh 2048 256) ![o, 0] (Sh 512 128).size i1, P⟩ :: L)) (dqF F fc fs) := by
  refine RP.store16 (f := dqF F fc fs) (D := fun s d => s < o ∨ s < o + 512 ∧ d < 128) (RP.store16 (f := dqF F fc fs) hL hP ?_ ?_) hQ ?_ ?_
  · rintro s d ⟨⟨h1, h2⟩, h3, h4⟩ _ _
    have : d < 128 := by omega
    simp only [dqF, this, if_true, Nat.sub_zero]
    congr 2; omega
  · intro s d h h' _ _
    exact ⟨by rcases h' with h' | h'; · exact h'
              by_contra h''; exact h ⟨⟨by omega, h'.1⟩, by omega, by omega⟩, rfl⟩
  · rintro s d ⟨⟨h1, h2⟩, h3, h4⟩ _ _
    have h5 : ¬ d < 128 := by omega
    have h6 : o + (s - o) = s := by omega
    simp only [dqF, h5, if_false, h6]
  · intro s d h h' _ h7
    refine ⟨?_, rfl⟩
    by_cases h1 : s < o
    · exact .inl h1
    · exact .inr ⟨h', by by_contra h2; exact h ⟨⟨by omega, by omega⟩, by omega, by omega⟩⟩

namespace A

section caseA

variable (c : Dev nD) (i : grid1.Coords)
  (arg2 : Memref sig .tc .vmem S2048x256 .bf16) (harg2 : arg2.IsWhole) (arg3 : Memref sig .tc .vmem S2048x256 .bf16) (harg3 : arg3.IsWhole)
  (arg4 : Memref sig .tc .vmem S2048x128 .bf16) (harg4 : arg4.IsWhole) (arg5 : Memref sig .tc .vmem S2048x128 .bf16) (harg5 : arg5.IsWhole)
  (arg6 : Memref sig .tc .vmem S2048x128 .bf16) (harg6 : arg6.IsWhole) (arg7 : Memref sig .tc .vmem S1x2048x1 .f32) (harg7 : arg7.IsWhole)
  (arg8 : Memref sig .tc .vmem S2048x128 .f32) (harg8 : arg8.IsWhole) (arg9 : Memref sig .tc .vmem S2048x128 .f32) (harg9 : arg9.IsWhole)
  (arg10 : Memref sig .tc .vmem S2048x256 .bf16) (harg10 : arg10.IsWhole) (arg11 : Memref sig .tc .vmem S2048x256 .bf16) (harg11 : arg11.IsWhole)
  (arg12 : Memref sig .tc .vmem S2048x128 .f32) (harg12 : arg12.IsWhole) (arg13 : Memref sig .tc .vmem S2048x256 .f32) (harg13 : arg13.IsWhole)
  (arg14 : Memref sig .tc .vmem S2048x128 .f32) (harg14 : arg14.IsWhole) (hc0 : cond1_0 i)
  (x0 : Vec Ideal S2048x256 .bf16) (x1 : Vec Ideal S2048x256 .bf16) (x2 : Vec Ideal S2048x128 .bf16) (x3 : Vec Ideal S2048x128 .bf16) (x4 : Vec Ideal S2048x128 .bf16)
  (x5 : Vec Ideal S1x2048x1 .f32) (x6 : Vec Ideal S2048x128 .f32) (x7 : Vec Ideal S2048x128 .f32)
  {fq fkv fkr fo fw fcs fsn : ℕ → ℕ → ℝ} {L : ℕ → ℝ}

theorem HS0_1 : R2 (View.canon (kernelRun1_A.sl.HS0_1 (F := Ideal))) (sDK fq (keyF fkv fkr) (valF fkv) L fw fo 0) := by
  unfold kernelRun1_A.sl.HS0_1
  exact (st_init ((R2.const zero_f32).cast shapeCasts_S2048x256_S2048x256)).congr fun s d _ _ => (sDK_zero _ _ _ _ _ _ _ (Nat.zero_le _)).symm

theorem HS1_1 : R2 (View.canon (kernelRun1_A.sl.HS1_1 (F := Ideal))) (sDV fq (keyF fkv fkr) L fw 0) := by
  unfold kernelRun1_A.sl.HS1_1
  exact (st_init ((R2.const zero_f32).cast shapeCasts_S2048x128_S2048x128)).congr fun s d _ _ => (sDV_zero _ _ _ _ _ (Nat.zero_le _)).symm

include harg2 harg3 harg4 harg5 harg6 harg7 in
theorem HS0_2 (h0 : R2 x0 fq) (h1 : R2 x1 fkv) (h2 : R2 x2 fkr) (h3 : R2 x3 fo) (h4 : R2 x4 fw) (h5 : R3 x5 L) : R2 (View.canon (kernelRun1_A.sl.HS0_2 (F := Ideal) c arg2 harg2 arg3 harg3 arg4 harg4 arg5 harg5 arg6 harg6 arg7 harg7 arg13 x0 x1 x2 x3 x4 x5)) (sDK fq (keyF fkv fkr) (valF fkv) L fw fo 512) := by
  unfold kernelRun1_A.sl.HS0_2
  refine ahz (st_diag (o := 0) (n := 512) (F := (sDK fq (keyF fkv fkr) (valF fkv) L fw fo)) (fun u s d h => sDK_zero _ _ _ _ _ _ _ h) (HS0_1) ?_)
  exact dk_diag (o := 0) (a := 512) (hl := bitsLt_bf16_f32) (h3 := shapeCasts_S1x512x1_S512x1) (x := msk) (fq := fq) (fk := keyF fkv fkr) (fv := valF fkv) (fw := fw) (fo := fo) (L := L) mask32 (by norm_num) rfl rfl ⟨rfl, rfl, rfl, rfl, rfl, rfl⟩ (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _) (z0 (R2.loadCov32 (HS0_1) _))

include harg2 harg3 harg4 harg6 harg7 in
theorem HS1_2 (h0 : R2 x0 fq) (h1 : R2 x1 fkv) (h2 : R2 x2 fkr) (h4 : R2 x4 fw) (h5 : R3 x5 L) : R2 (View.canon (kernelRun1_A.sl.HS1_2 (F := Ideal) c arg2 harg2 arg3 harg3 arg4 harg4 arg6 harg6 arg7 harg7 arg14 x0 x1 x2 x4 x5)) (sDV fq (keyF fkv fkr) L fw 512) := by
  unfold kernelRun1_A.sl.HS1_2
  refine ahz (st_diag (o := 0) (n := 512) (F := (sDV fq (keyF fkv fkr) L fw)) (fun u s d h => sDV_zero _ _ _ _ _ h) (HS1_1) ?_)
  exact dv_diag (o := 0) (a := 512) (hl := bitsLt_bf16_f32) (h3 := shapeCasts_S1x512x1_S512x1) (x := msk) (fq := fq) (fk := keyF fkv fkr) (fw := fw) (L := L) mask32 (by norm_num) rfl ⟨rfl, rfl, rfl, rfl, rfl, rfl⟩ (z0 (h0.load16 arg2 harg2 _)) (keyN (by norm_num) (h1.load16 arg3 harg3 _)) (keyR (h2.load16 arg4 harg4 _)) (h5.load arg7 harg7 _) (z0 (h4.load16 arg6 harg6 _)) (z0 (R2.loadCov32 (HS1_1) _))

include harg2 harg3 harg4 harg5 harg6 harg7 in
theorem HS0_3 (h0 : R2 x0 fq) (h1 : R2 x1 fkv) (h2 : R2 x2 fkr) (h3 : R2 x3 fo) (h4 : R2 x4 fw) (h5 : R3 x5 L) : R2 (View.canon (kernelRun1_A.sl.HS0_3 (F := Ideal) c arg2 harg2 arg3 harg3 arg4 harg4 arg5 harg5 arg6 harg6 arg7 harg7 arg13 x0 x1 x2 x3 x4 x5)) (ahead (sDK fq (keyF fkv fkr) (valF fkv) L fw fo) 512 512) := by
  unfold kernelRun1_A.sl.HS0_3
  refine st_diag (o := 512) (n := 512) (F := (sDK fq (keyF fkv fkr) (valF fkv) L fw fo)) (fun u s d h => sDK_zero _ _ _ _ _ _ _ h) (HS0_2 c arg2 harg2 arg3 harg3 arg4 harg4 arg5 harg5 arg6 harg6 arg7 harg7 arg13 x0 x1 x2 x3 x4 x5  h0 h1 h2 h3 h4 h5) ?_
  exact dk_diag (o := 512) (a := 512) (hl := bitsLt_bf16_f32) (h3 := shapeCasts_S1x512x1_S512x1) (x := msk) (fq := fq) (fk := keyF fkv fkr) (fv := valF fkv) (fw := fw) (fo := fo) (L := L) mask32 (by norm_num) rfl rfl ⟨rfl, rfl, rfl, rfl, rfl, rfl⟩ (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _) (z0 (R2.loadCov32 (HS0_2 c arg2 harg2 arg3 harg3 arg4 harg4 arg5 harg5 arg6 harg6 arg7 harg7 arg13 x0 x1 x2 x3 x4 x5  h0 h1 h2 h3 h4 h5) _))

include harg2 harg3 harg4 harg5 harg6 harg7 in
theorem HS0_4 (h0 : R2 x0 fq) (h1 : R2 x1 fkv) (h2 : R2 x2 fkr) (h3 : R2 x3 fo) (h4 : R2 x4 fw) (h5 : R3 x5 L) : R2 (View.canon (kernelRun1_A.sl.HS0_4 (F := Ideal) c arg2 harg2 arg3 harg3 arg4 harg4 arg5 harg5 arg6 harg6 arg7 harg7 arg13 x0 x1 x2 x3 x4 x5)) (sDK fq (keyF fkv fkr) (valF fkv) L fw fo 1024) := by
  unfold kernelRun1_A.sl.HS0_4
  refine st_prev (o := 512) (n := 512) (F := (sDK fq (keyF fkv fkr) (valF fkv) L fw fo)) (HS0_3 c arg2 harg2 arg3 harg3 arg4 harg4 arg5 harg5 arg6 harg6 arg7 harg7 arg13 x0 x1 x2 x3 x4 x5  h0 h1 h2 h3 h4 h5) ?_
  exact dk_prev (o := 512) (n := 512) (a := 512) (hl := bitsLt_bf16_f32) (h3 := shapeCasts_S1x512x1_S512x1) (fq := fq) (fk := keyF fkv fkr) (fv := valF fkv) (fw := fw) (fo := fo) (L := L) rfl rfl ⟨rfl, rfl, rfl, rfl, rfl, rfl⟩ le_rfl (z0 (h0.load16 arg2 harg2 _)) (keyN0 (h1.load16 arg3 harg3 _)) (keyR0 (h2.load16 arg4 harg4 _)) (h5.load arg7 harg7 _) (z0 (h4.load16 arg6 harg6 _)) (z0 (h3.load16 arg5 harg5 _)) (val0 (h1.load16 arg3 harg3 _)) (ah0 (R2.loadCov32 (HS0_3 c arg2 harg2 arg3 harg3 arg4 harg4 arg5 harg5 arg6 harg6 arg7 harg7 arg13 x0 x1 x2 x3 x4 x5  h0 h1 h2 h3 h4 h5) _))

include harg2 harg3 harg4 harg6 harg7 in
theorem HS1_3 (h0 : R2 x0 fq) (h1 : R2 x1 fkv) (h2 : R2 x2 fkr) (h4 : R2 x4 fw) (h5 : R3 x5 L) : R2 (View.canon (kernelRun1_A.sl.HS1_3 (F := Ideal) c arg2 harg2 arg3 harg3 arg4 harg4 arg6 harg6 arg7 harg7 arg14 x0 x1 x2 x4 x5)) (ahead (sDV fq (keyF fkv fkr) L fw) 512 512) := by
  unfold kernelRun1_A.sl.HS1_3
  refine st_diag (o := 512) (n := 512) (F := (sDV fq (keyF fkv fkr) L fw)) (fun u s d h => sDV_zero _ _ _ _ _ h) (HS1_2 c arg2 harg2 arg3 harg3 arg4 harg4 arg6 harg6 arg7 harg7 arg14 x0 x1 x2 x4 x5  h0 h1 h2 h4 h5) ?_
  exact dv_diag (o := 512) (a := 512) (hl := bitsLt_bf16_f32) (h3 := shapeCasts_S1x512x1_S512x1) (x := msk) (fq := fq) (fk := keyF fkv fkr) (fw := fw) (L := L) mask32 (by norm_num) rfl ⟨rfl, rfl, rfl, rfl, rfl, rfl⟩ (z0 (h0.load16 arg2 harg2 _)) (keyN (by norm_num) (h1.load16 arg3 harg3 _)) (keyR (h2.load16 arg4 harg4 _)) (h5.load arg7 harg7 _) (z0 (h4.load16 arg6 harg6 _)) (z0 (R2.loadCov32 (HS1_2 c arg2 harg2 arg3 harg3 arg4 harg4 arg6 harg6 arg7 harg7 arg14 x0 x1 x2 x4 x5  h0 h1 h2 h4 h5) _))

include harg2 harg3 harg4 harg6 harg7 in
theorem HS1_4 (h0 : R2 x0 fq) (h1 : R2 x1 fkv) (h2 : R2 x2 fkr) (h4 : R2 x4 fw) (h5 : R3 x5 L) : R2 (View.canon (kernelRun1_A.sl.HS1_4 (F := Ideal) c arg2 harg2 arg3 harg3 arg4 harg4 arg6 harg6 arg7 harg7 arg14 x0 x1 x2 x4 x5)) (sDV fq (keyF fkv fkr) L fw 1024) := by
  unfold kernelRun1_A.sl.HS1_4
  refine st_prev (o := 512) (n := 512) (F := (sDV fq (keyF fkv fkr) L fw)) (HS1_3 c arg2 harg2 arg3 harg3 arg4 harg4 arg6 harg6 arg7 harg7 arg14 x0 x1 x2 x4 x5  h0 h1 h2 h4 h5) ?_
  exact dv_prev (o := 512) (n := 512) (a := 512) (hl := bitsLt_bf16_f32) (h3 := shapeCasts_S1x512x1_S512x1) (fq := fq) (fk := keyF fkv fkr) (fw := fw) (L := L) rfl ⟨rfl, rfl, rfl, rfl, rfl, rfl⟩ le_rfl (z0 (h0.load16 arg2 harg2 _)) (keyN0 (h1.load16 arg3 harg3 _)) (keyR0 (h2.load16 arg4 harg4 _)) (h5.load arg7 harg7 _) (z0 (h4.load16 arg6 harg6 _)) (ah0 (R2.loadCov32 (HS1_3 c arg2 harg2 arg3 harg3 arg4 harg4 arg6 harg6 arg7 harg7 arg14 x0 x1 x2 x4 x5  h0 h1 h2 h4 h5) _))

include harg2 harg3 harg4 harg5 harg6 harg7 in
theorem HS0_5 (h0 : R2 x0 fq) (h1 : R2 x1 fkv) (h2 : R2 x2 fkr) (h3 : R2 x3 fo) (h4 : R2 x4 fw) (h5 : R3 x5 L) : R2 (View.canon (kernelRun1_A.sl.HS0_5 (F := Ideal) c arg2 harg2 arg3 harg3 arg4 harg4 arg5 harg5 arg6 harg6 arg7 harg7 arg13 x0 x1 x2 x3 x4 x5)) (ahead (sDK fq (keyF fkv fkr) (valF fkv) L fw fo) 1024 512) := by
  unfold kernelRun1_A.sl.HS0_5
  refine st_diag (o := 1024) (n := 512) (F := (sDK fq (keyF fkv fkr) (valF fkv) L fw fo)) (fun u s d h => sDK_zero _ _ _ _ _ _ _ h) (HS0_4 c arg2 harg2 arg3 harg3 arg4 harg4 arg5 harg5 arg6 harg6 arg7 harg7 arg13 x0 x1 x2 x3 x4 x5  h0 h1 h2 h3 h4 h5) ?_
  exact dk_diag (o := 1024) (a := 512) (hl := bitsLt_bf16_f32) (h3 := shapeCasts_S1x512x1_S512x1) (x := msk) (fq := fq) (fk := keyF fkv fkr) (fv := valF fkv) (fw := fw) (fo := fo) (L := L) mask32 (by norm_num) rfl rfl ⟨rfl, rfl, rfl, rfl, rfl, rfl⟩ (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _) (z0 (R2.loadCov32 (HS0_4 c arg2 harg2 arg3 harg3 arg4 harg4 arg5 harg5 arg6 harg6 arg7 harg7 arg13 x0 x1 x2 x3 x4 x5  h0 h1 h2 h3 h4 h5) _))

include harg2 harg3 harg4 harg5 harg6 harg7 in
theorem HS0_6 (h0 : R2 x0 fq) (h1 : R2 x1 fkv) (h2 : R2 x2 fkr) (h3 : R2 x3 fo) (h4 : R2 x4 fw) (h5 : R3 x5 L) : R2 (View.canon (kernelRun1_A.sl.HS0_6 (F := Ideal) c arg2 harg2 arg3 harg3 arg4 harg4 arg5 harg5 arg6 harg6 arg7 harg7 arg13 x0 x1 x2 x3 x4 x5)) (sDK fq (keyF fkv fkr) (valF fkv) L fw fo 1536) := by
  unfold kernelRun1_A.sl.HS0_6
  refine st_prev (o := 1024) (n := 512) (F := (sDK fq (keyF fkv fkr) (valF fkv) L fw fo)) (HS0_5 c arg2 harg2 arg3 harg3 arg4 harg4 arg5 harg5 arg6 harg6 arg7 harg7 arg13 x0 x1 x2 x3 x4 x5  h0 h1 h2 h3 h4 h5) ?_
  exact dk_prev (o := 1024) (n := 1024) (a := 512) (hl := bitsLt_bf16_f32) (h3 := shapeCasts_S1x512x1_S512x1) (fq := fq) (fk := keyF fkv fkr) (fv := valF fkv) (fw := fw) (fo := fo) (L := L) rfl rfl ⟨rfl, rfl, rfl, rfl, rfl, rfl⟩ le_rfl (z0 (h0.load16 arg2 harg2 _)) (keyN0 (h1.load16 arg3 harg3 _)) (keyR0 (h2.load16 arg4 harg4 _)) (h5.load arg7 harg7 _) (z0 (h4.load16 arg6 harg6 _)) (z0 (h3.load16 arg5 harg5 _)) (val0 (h1.load16 arg3 harg3 _)) (ah0 (R2.loadCov32 (HS0_5 c arg2 harg2 arg3 harg3 arg4 harg4 arg5 harg5 arg6 harg6 arg7 harg7 arg13 x0 x1 x2 x3 x4 x5  h0 h1 h2 h3 h4 h5) _))

include harg2 harg3 harg4 harg6 harg7 in
theorem HS1_5 (h0 : R2 x0 fq) (h1 : R2 x1 fkv) (h2 : R2 x2 fkr) (h4 : R2 x4 fw) (h5 : R3 x5 L) : R2 (View.canon (kernelRun1_A.sl.HS1_5 (F := Ideal) c arg2 harg2 arg3 harg3 arg4 harg4 arg6 harg6 arg7 harg7 arg14 x0 x1 x2 x4 x5)) (ahead (sDV fq (keyF fkv fkr) L fw) 1024 512) := by
  unfold kernelRun1_A.sl.HS1_5
  refine st_diag (o := 1024) (n := 512) (F := (sDV fq (keyF fkv fkr) L fw)) (fun u s d h => sDV_zero _ _ _ _ _ h) (HS1_4 c arg2 harg2 arg3 harg3 arg4 harg4 arg6 harg6 arg7 harg7 arg14 x0 x1 x2 x4 x5  h0 h1 h2 h4 h5) ?_
  exact dv_diag (o := 1024) (a := 512) (hl := bitsLt_bf16_f32) (h3 := shapeCasts_S1x512x1_S512x1) (x := msk) (fq := fq) (fk := keyF fkv fkr) (fw := fw) (L := L) mask32 (by norm_num) rfl ⟨rfl, rfl, rfl, rfl, rfl, rfl⟩ (z0 (h0.load16 arg2 harg2 _)) (keyN (by norm_num) (h1.load16 arg3 harg3 _)) (keyR (h2.load16 arg4 harg4 _)) (h5.load arg7 harg7 _) (z0 (h4.load16 arg6 harg6 _)) (z0 (R2.loadCov32 (HS1_4 c arg2 harg2 arg3 harg3 arg4 harg4 arg6 harg6 arg7 harg7 arg14 x0 x1 x2 x4 x5  h0 h1 h2 h4 h5) _))

include harg2 harg3 harg4 harg6 harg7 in
theorem HS1_6 (h0 : R2 x0 fq) (h1 : R2 x1 fkv) (h2 : R2 x2 fkr) (h4 : R2 x4 fw) (h5 : R3 x5 L) : R2 (View.canon (kernelRun1_A.sl.HS1_6 (F := Ideal) c arg2 harg2 arg3 harg3 arg4 harg4 arg6 harg6 arg7 harg7 arg14 x0 x1 x2 x4 x5)) (sDV fq (keyF fkv fkr) L fw 1536) := by
  unfold kernelRun1_A.sl.HS1_6
  refine st_prev (o := 1024) (n := 512) (F := (sDV fq (keyF fkv fkr) L fw)) (HS1_5 c arg2 harg2 arg3 harg3 arg4 harg4 arg6 harg6 arg7 harg7 arg14 x0 x1 x2 x4 x5  h0 h1 h2 h4 h5) ?_
  exact dv_prev (o := 1024) (n := 1024) (a := 512) (hl := bitsLt_bf16_f32) (h3 := shapeCasts_S1x512x1_S512x1) (fq := fq) (fk := keyF fkv fkr) (fw := fw) (L := L) rfl ⟨rfl, rfl, rfl, rfl, rfl, rfl⟩ le_rfl (z0 (h0.load16 arg2 harg2 _)) (keyN0 (h1.load16 arg3 harg3 _)) (keyR0 (h2.load16 arg4 harg4 _)) (h5.load arg7 harg7 _) (z0 (h4.load16 arg6 harg6 _)) (ah0 (R2.loadCov32 (HS1_5 c arg2 harg2 arg3 harg3 arg4 harg4 arg6 harg6 arg7 harg7 arg14 x0 x1 x2 x4 x5  h0 h1 h2 h4 h5) _))

include harg2 harg3 harg4 harg5 harg6 harg7 in
theorem HS0_7 (h0 : R2 x0 fq) (h1 : R2 x1 fkv) (h2 : R2 x2 fkr) (h3 : R2 x3 fo) (h4 : R2 x4 fw) (h5 : R3 x5 L) : R2 (View.canon (kernelRun1_A.sl.HS0_7 (F := Ideal) c arg2 harg2 arg3 harg3 arg4 harg4 arg5 harg5 arg6 harg6 arg7 harg7 arg13 x0 x1 x2 x3 x4 x5)) (ahead (sDK fq (keyF fkv fkr) (valF fkv) L fw fo) 1536 512) := by
  unfold kernelRun1_A.sl.HS0_7
  refine st_diag (o := 1536) (n := 512) (F := (sDK fq (keyF fkv fkr) (valF fkv) L fw fo)) (fun u s d h => sDK_zero _ _ _ _ _ _ _ h) (HS0_6 c arg2 harg2 arg3 harg3 arg4 harg4 arg5 harg5 arg6 harg6 arg7 harg7 arg13 x0 x1 x2 x3 x4 x5  h0 h1 h2 h3 h4 h5) ?_
  exact dk_diag (o := 1536) (a := 512) (hl := bitsLt_bf16_f32) (h3 := shapeCasts_S1x512x1_S512x1) (x := msk) (fq := fq) (fk := keyF fkv fkr) (fv := valF fkv) (fw := fw) (fo := fo) (L := L) mask32 (by norm_num) rfl rfl ⟨rfl, rfl, rfl, rfl, rfl, rfl⟩ (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _) (z0 (R2.loadCov32 (HS0_6 c arg2 harg2 arg3 harg3 arg4 harg4 arg5 harg5 arg6 harg6 arg7 harg7 arg13 x0 x1 x2 x3 x4 x5  h0 h1 h2 h3 h4 h5) _))

include harg2 harg3 harg4 harg5 harg6 harg7 in
theorem HS0_8 (h0 : R2 x0 fq) (h1 : R2 x1 fkv) (h2 : R2 x2 fkr) (h3 : R2 x3 fo) (h4 : R2 x4 fw) (h5 : R3 x5 L) : R2 (View.canon (kernelRun1_A.sl.HS0_8 (F := Ideal) c arg2 harg2 arg3 harg3 arg4 harg4 arg5 harg5 arg6 harg6 arg7 harg7 arg13 x0 x1 x2 x3 x4 x5)) (sDK fq (keyF fkv fkr) (valF fkv) L fw fo 2048) := by
  unfold kernelRun1_A.sl.HS0_8
  refine st_prev (o := 1536) (n := 512) (F := (sDK fq (keyF fkv fkr) (valF fkv) L fw fo)) (HS0_7 c arg2 harg2 arg3 harg3 arg4 harg4 arg5 harg5 arg6 harg6 arg7 harg7 arg13 x0 x1 x2 x3 x4 x5  h0 h1 h2 h3 h4 h5) ?_
  exact dk_prev (o := 1536) (n := 1536) (a := 512) (hl := bitsLt_bf16_f32) (h3 := shapeCasts_S1x512x1_S512x1) (fq := fq) (fk := keyF fkv fkr) (fv := valF fkv) (fw := fw) (fo := fo) (L := L) rfl rfl ⟨rfl, rfl, rfl, rfl, rfl, rfl⟩ le_rfl (z0 (h0.load16 arg2 harg2 _)) (keyN0 (h1.load16 arg3 harg3 _)) (keyR0 (h2.load16 arg4 harg4 _)) (h5.load arg7 harg7 _) (z0 (h4.load16 arg6 harg6 _)) (z0 (h3.load16 arg5 harg5 _)) (val0 (h1.load16 arg3 harg3 _)) (ah0 (R2.loadCov32 (HS0_7 c arg2 harg2 arg3 harg3 arg4 harg4 arg5 harg5 arg6 harg6 arg7 harg7 arg13 x0 x1 x2 x3 x4 x5  h0 h1 h2 h3 h4 h5) _))

include harg2 harg3 harg4 harg6 harg7 in
theorem HS1_7 (h0 : R2 x0 fq) (h1 : R2 x1 fkv) (h2 : R2 x2 fkr) (h4 : R2 x4 fw) (h5 : R3 x5 L) : R2 (View.canon (kernelRun1_A.sl.HS1_7 (F := Ideal) c arg2 harg2 arg3 harg3 arg4 harg4 arg6 harg6 arg7 harg7 arg14 x0 x1 x2 x4 x5)) (ahead (sDV fq (keyF fkv fkr) L fw) 1536 512) := by
  unfold kernelRun1_A.sl.HS1_7
  refine st_diag (o := 1536) (n := 512) (F := (sDV fq (keyF fkv fkr) L fw)) (fun u s d h => sDV_zero _ _ _ _ _ h) (HS1_6 c arg2 harg2 arg3 harg3 arg4 harg4 arg6 harg6 arg7 harg7 arg14 x0 x1 x2 x4 x5  h0 h1 h2 h4 h5) ?_
  exact dv_diag (o := 1536) (a := 512) (hl := bitsLt_bf16_f32) (h3 := shapeCasts_S1x512x1_S512x1) (x := msk) (fq := fq) (fk := keyF fkv fkr) (fw := fw) (L := L) mask32 (by norm_num) rfl ⟨rfl, rfl, rfl, rfl, rfl, rfl⟩ (z0 (h0.load16 arg2 harg2 _)) (keyN (by norm_num) (h1.load16 arg3 harg3 _)) (keyR (h2.load16 arg4 harg4 _)) (h5.load arg7 harg7 _) (z0 (h4.load16 arg6 harg6 _)) (z0 (R2.loadCov32 (HS1_6 c arg2 harg2 arg3 harg3 arg4 harg4 arg6 harg6 arg7 harg7 arg14 x0 x1 x2 x4 x5  h0 h1 h2 h4 h5) _))

include harg2 harg3 harg4 harg6 harg7 in
theorem HS1_8 (h0 : R2 x0 fq) (h1 : R2 x1 fkv) (h2 : R2 x2 fkr) (h4 : R2 x4 fw) (h5 : R3 x5 L) : R2 (View.canon (kernelRun1_A.sl.HS1_8 (F := Ideal) c arg2 harg2 arg3 harg3 arg4 harg4 arg6 harg6 arg7 harg7 arg14 x0 x1 x2 x4 x5)) (sDV fq (keyF fkv fkr) L fw 2048) := by
  unfold kernelRun1_A.sl.HS1_8
  refine st_prev (o := 1536) (n := 512) (F := (sDV fq (keyF fkv fkr) L fw)) (HS1_7 c arg2 harg2 arg3 harg3 arg4 harg4 arg6 harg6 arg7 harg7 arg14 x0 x1 x2 x4 x5  h0 h1 h2 h4 h5) ?_
  exact dv_prev (o := 1536) (n := 1536) (a := 512) (hl := bitsLt_bf16_f32) (h3 := shapeCasts_S1x512x1_S512x1) (fq := fq) (fk := keyF fkv fkr) (fw := fw) (L := L) rfl ⟨rfl, rfl, rfl, rfl, rfl, rfl⟩ le_rfl (z0 (h0.load16 arg2 harg2 _)) (keyN0 (h1.load16 arg3 harg3 _)) (keyR0 (h2.load16 arg4 harg4 _)) (h5.load arg7 harg7 _) (z0 (h4.load16 arg6 harg6 _)) (ah0 (R2.loadCov32 (HS1_7 c arg2 harg2 arg3 harg3 arg4 harg4 arg6 harg6 arg7 harg7 arg14 x0 x1 x2 x4 x5  h0 h1 h2 h4 h5) _))

set_option maxHeartbeats 2000000 in
include harg2 harg3 harg4 harg5 harg6 harg7 harg8 harg9 in
/-- The queries' gradient, as the body stores it. -/
theorem dq_r2 (h0 : R2 x0 fq) (h1 : R2 x1 fkv) (h2 : R2 x2 fkr) (h3 : R2 x3 fo) (h4 : R2 x4 fw) (h5 : R3 x5 L) (h6 : R2 x6 fcs) (h7 : R2 x7 fsn) :
    R2 (View.canon (kernelRun1_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1) (dqF (sDQ fq (keyF fkv fkr) (valF fkv) L fw fo) fcs fsn) := by
  unfold kernelRun1_A
  dsimp only
  refine RP.r2 (D := fun s _ => s < 1536 + 512) (dq_store (o := 1536) (F := sDQ fq (keyF fkv fkr) (valF fkv) L fw fo) (fc := fcs) (fs := fsn) ?_ ?_ ?_) (fun _ _ h _ => h)
  rotate_left
  · refine outN_r2 (F := (sDQ fq (keyF fkv fkr) (valF fkv) L fw fo)) scale32 (q87 ?_ ?_ ?_)
    · exact o80 (fq := fq) (fk := keyF fkv fkr) (fv := valF fkv) (fw := fw) (fo := fo) (L := L) (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _)
    · exact d83 (fq := fq) (fk := keyF fkv fkr) (fv := valF fkv) (fw := fw) (fo := fo) (L := L) (R2.cast (z0 (h0.load16 arg2 harg2 _)) _) (R3.ofCol (h5.load arg7 harg7 _) _) (keyN0 (h1.load16 arg3 harg3 _)) (keyR0 (h2.load16 arg4 harg4 _)) (R2.cast (z0 (h4.load16 arg6 harg6 _)) _) (del_r2 (o := 1536) (hl := bitsLt_bf16_f32) (z0 (h4.load16 arg6 harg6 _)) (z0 (h3.load16 arg5 harg5 _))) (val0 (h1.load16 arg3 harg3 _))
    · exact keys_r2 (hs := shapeCasts_S1536x128_S1536x128) (hc := concatenates_S1536x128_S1536x128_S1536x256_d1) (keyN0 (h1.load16 arg3 harg3 _)) (keyR0 (h2.load16 arg4 harg4 _))
  · refine rope89 (F := (sDQ fq (keyF fkv fkr) (valF fkv) L fw fo)) ((q87 ?_ ?_ ?_)) (h6.load32 arg8 harg8 _) (h7.load32 arg9 harg9 _)
    · exact o80 (fq := fq) (fk := keyF fkv fkr) (fv := valF fkv) (fw := fw) (fo := fo) (L := L) (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _)
    · exact d83 (fq := fq) (fk := keyF fkv fkr) (fv := valF fkv) (fw := fw) (fo := fo) (L := L) (R2.cast (z0 (h0.load16 arg2 harg2 _)) _) (R3.ofCol (h5.load arg7 harg7 _) _) (keyN0 (h1.load16 arg3 harg3 _)) (keyR0 (h2.load16 arg4 harg4 _)) (R2.cast (z0 (h4.load16 arg6 harg6 _)) _) (del_r2 (o := 1536) (hl := bitsLt_bf16_f32) (z0 (h4.load16 arg6 harg6 _)) (z0 (h3.load16 arg5 harg5 _))) (val0 (h1.load16 arg3 harg3 _))
    · exact keys_r2 (hs := shapeCasts_S1536x128_S1536x128) (hc := concatenates_S1536x128_S1536x128_S1536x256_d1) (keyN0 (h1.load16 arg3 harg3 _)) (keyR0 (h2.load16 arg4 harg4 _))
  refine dq_store (o := 1024) ?_ ?_ ?_
  rotate_left
  · refine outN_r2 (F := (sDQ fq (keyF fkv fkr) (valF fkv) L fw fo)) scale32 (q63 ?_ ?_ ?_)
    · exact o56 (fq := fq) (fk := keyF fkv fkr) (fv := valF fkv) (fw := fw) (fo := fo) (L := L) (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _)
    · exact d60 (fq := fq) (fk := keyF fkv fkr) (fv := valF fkv) (fw := fw) (fo := fo) (L := L) (p58 (R2.cast (z0 (h0.load16 arg2 harg2 _)) _) (R3.ofCol (h5.load arg7 harg7 _) _) (keyN0 (h1.load16 arg3 harg3 _)) (keyR0 (h2.load16 arg4 harg4 _))) (R2.cast (z0 (h4.load16 arg6 harg6 _)) _) (del_r2 (o := 1024) (hl := bitsLt_bf16_f32) (z0 (h4.load16 arg6 harg6 _)) (z0 (h3.load16 arg5 harg5 _))) (val0 (h1.load16 arg3 harg3 _))
    · exact keys_r2 (hs := shapeCasts_S1024x128_S1024x128) (hc := concatenates_S1024x128_S1024x128_S1024x256_d1) (keyN0 (h1.load16 arg3 harg3 _)) (keyR0 (h2.load16 arg4 harg4 _))
  · refine rope69 (F := (sDQ fq (keyF fkv fkr) (valF fkv) L fw fo)) (sl128 (hs := slices_S512x256_o0_128_S512x128) (q63 ?_ ?_ ?_)) (h6.load32 arg8 harg8 _) (h7.load32 arg9 harg9 _)
    · exact o56 (fq := fq) (fk := keyF fkv fkr) (fv := valF fkv) (fw := fw) (fo := fo) (L := L) (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _)
    · exact d60 (fq := fq) (fk := keyF fkv fkr) (fv := valF fkv) (fw := fw) (fo := fo) (L := L) (p58 (R2.cast (z0 (h0.load16 arg2 harg2 _)) _) (R3.ofCol (h5.load arg7 harg7 _) _) (keyN0 (h1.load16 arg3 harg3 _)) (keyR0 (h2.load16 arg4 harg4 _))) (R2.cast (z0 (h4.load16 arg6 harg6 _)) _) (del_r2 (o := 1024) (hl := bitsLt_bf16_f32) (z0 (h4.load16 arg6 harg6 _)) (z0 (h3.load16 arg5 harg5 _))) (val0 (h1.load16 arg3 harg3 _))
    · exact keys_r2 (hs := shapeCasts_S1024x128_S1024x128) (hc := concatenates_S1024x128_S1024x128_S1024x256_d1) (keyN0 (h1.load16 arg3 harg3 _)) (keyR0 (h2.load16 arg4 harg4 _))
  refine dq_store (o := 512) ?_ ?_ ?_
  rotate_left
  · refine outN_r2 (F := (sDQ fq (keyF fkv fkr) (valF fkv) L fw fo)) scale32 (q39 ?_ ?_ ?_)
    · exact o33 (fq := fq) (fk := keyF fkv fkr) (fv := valF fkv) (fw := fw) (fo := fo) (L := L) (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _)
    · exact d36 (fq := fq) (fk := keyF fkv fkr) (fv := valF fkv) (fw := fw) (fo := fo) (L := L) (p35 (R2.cast (z0 (h0.load16 arg2 harg2 _)) _) (R3.ofCol (h5.load arg7 harg7 _) _) (keyN0 (h1.load16 arg3 harg3 _)) (keyR0 (h2.load16 arg4 harg4 _))) (R2.cast (z0 (h4.load16 arg6 harg6 _)) _) (del_r2 (o := 512) (hl := bitsLt_bf16_f32) (z0 (h4.load16 arg6 harg6 _)) (z0 (h3.load16 arg5 harg5 _))) (val0 (h1.load16 arg3 harg3 _))
    · exact keys_r2 (hs := shapeCasts_S512x128_S512x128) (hc := concatenates_S512x128_S512x128_S512x256_d1) (keyN0 (h1.load16 arg3 harg3 _)) (keyR0 (h2.load16 arg4 harg4 _))
  · refine rope45 (F := (sDQ fq (keyF fkv fkr) (valF fkv) L fw fo)) (sl128 (hs := slices_S512x256_o0_128_S512x128) (q39 ?_ ?_ ?_)) (h6.load32 arg8 harg8 _) (h7.load32 arg9 harg9 _)
    · exact o33 (fq := fq) (fk := keyF fkv fkr) (fv := valF fkv) (fw := fw) (fo := fo) (L := L) (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _)
    · exact d36 (fq := fq) (fk := keyF fkv fkr) (fv := valF fkv) (fw := fw) (fo := fo) (L := L) (p35 (R2.cast (z0 (h0.load16 arg2 harg2 _)) _) (R3.ofCol (h5.load arg7 harg7 _) _) (keyN0 (h1.load16 arg3 harg3 _)) (keyR0 (h2.load16 arg4 harg4 _))) (R2.cast (z0 (h4.load16 arg6 harg6 _)) _) (del_r2 (o := 512) (hl := bitsLt_bf16_f32) (z0 (h4.load16 arg6 harg6 _)) (z0 (h3.load16 arg5 harg5 _))) (val0 (h1.load16 arg3 harg3 _))
    · exact keys_r2 (hs := shapeCasts_S512x128_S512x128) (hc := concatenates_S512x128_S512x128_S512x256_d1) (keyN0 (h1.load16 arg3 harg3 _)) (keyR0 (h2.load16 arg4 harg4 _))
  refine dq_store (o := 0) ?_ ?_ ?_
  rotate_left
  · exact outN_r2 (F := (sDQ fq (keyF fkv fkr) (valF fkv) L fw fo)) scale32 (o17 (fq := fq) (fk := keyF fkv fkr) (fv := valF fkv) (fw := fw) (fo := fo) (L := L) (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _))
  · exact rope22 (F := (sDQ fq (keyF fkv fkr) (valF fkv) L fw fo)) (sl128 (hs := slices_S512x256_o0_128_S512x128) (o17 (fq := fq) (fk := keyF fkv fkr) (fv := valF fkv) (fw := fw) (fo := fo) (L := L) (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _))) (h6.load32 arg8 harg8 _) (h7.load32 arg9 harg9 _)
  exact fun i h => absurd h (Nat.not_lt_zero _)

include harg2 harg3 harg4 harg5 harg6 harg7 in
/-- The gradient of the head's keys and values, as the body stores it. -/
theorem dkv_r2 (h0 : R2 x0 fq) (h1 : R2 x1 fkv) (h2 : R2 x2 fkr) (h3 : R2 x3 fo) (h4 : R2 x4 fw) (h5 : R3 x5 L) :
    R2 (View.canon (kernelRun1_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1) (fun s d => if d < 128 then sDK fq (keyF fkv fkr) (valF fkv) L fw fo 2048 s d else sDV fq (keyF fkv fkr) L fw 2048 s (d - 128)) := by
  unfold kernelRun1_A
  dsimp only
  refine RP.r2 (D := fun _ _ => True) (RP.store16 (f := fun s d => sDK fq (keyF fkv fkr) (valF fkv) L fw fo 2048 s d) (D := fun s d => d < 128)
    (RP.store16 (RP.none fun _ _ => 0) ((z00 ((HS0_8 c arg2 harg2 arg3 harg3 arg4 harg4 arg5 harg5 arg6 harg6 arg7 harg7 arg13 x0 x1 x2 x3 x4 x5 h0 h1 h2 h3 h4 h5).loadCov32 _)).truncf bitsLt_bf16_f32) ?_ ?_)
    ((z00 ((HS1_8 c arg2 harg2 arg3 harg3 arg4 harg4 arg6 harg6 arg7 harg7 arg14 x0 x1 x2 x4 x5 h0 h1 h2 h4 h5).loadCov32 _)).truncf bitsLt_bf16_f32) ?_ ?_) (fun _ _ _ _ => trivial)
  · intro s d h _ _
    simp only [Nat.sub_zero]
  · intro s d h h1 h2 h3
    exact (h ⟨⟨Nat.zero_le _, by omega⟩, Nat.zero_le _, by omega⟩).elim
  · intro s d h _ _
    obtain ⟨_, h, _⟩ := h
    have h : ¬ d < 128 := by omega
    simp only [h, if_false, Nat.sub_zero]
  · intro s d h _ h2 h3
    have h4 : d < 128 := by by_contra h4; exact h ⟨⟨Nat.zero_le _, by omega⟩, by omega, by omega⟩
    exact ⟨h4, by simp only [h4, if_true]⟩

include harg2 harg3 harg4 harg5 harg6 harg7 in
/-- The gradient of the shared rotary keys after a batch element's first head. -/
theorem dkr_r2 (h0 : R2 x0 fq) (h1 : R2 x1 fkv) (h2 : R2 x2 fkr) (h3 : R2 x3 fo) (h4 : R2 x4 fw) (h5 : R3 x5 L) :
    R2 (View.canon (kernelRun1_A (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1) (fun s d => 0 + sDK fq (keyF fkv fkr) (valF fkv) L fw fo 2048 s (128 + d)) := by
  unfold kernelRun1_A
  dsimp only
  refine st_init (((z00 ((st_init (F := fun _ _ => 0) (R2.const zero_f32)).loadCov32 _)).cast shapeCasts_S2048x128_S2048x128).add (z00' ((HS0_8 c arg2 harg2 arg3 harg3 arg4 harg4 arg5 harg5 arg6 harg6 arg7 harg7 arg13 x0 x1 x2 x3 x4 x5 h0 h1 h2 h3 h4 h5).loadCov32 _)))

end caseA

end A

end Cert.Attn

end
-- ==== Proof.BwdB.lean ====
/- What the backward call's body leaves in its output buffers at the later heads. -/
module

public import proofs.«01_k».proof.Proof.Back
public import proofs.«01_k».proof.Proof.Fwd
public import proofs.«01_k».proof.Proof.BwdA

@[expose] public section

set_option maxRecDepth 16384

noncomputable section

namespace Cert.Attn.B

open Idealize.ShloMosaic Idealize.ShloMosaic.TcCoe Idealize.SL.Sem Cert.KernelIdeal Cert.KernelIdeal.Gen
open scoped BigOperators
open Finset (range)

section caseB

variable (c : Dev nD) (i : grid1.Coords)
  (arg2 : Memref sig .tc .vmem S2048x256 .bf16) (harg2 : arg2.IsWhole) (arg3 : Memref sig .tc .vmem S2048x256 .bf16) (harg3 : arg3.IsWhole)
  (arg4 : Memref sig .tc .vmem S2048x128 .bf16) (harg4 : arg4.IsWhole) (arg5 : Memref sig .tc .vmem S2048x128 .bf16) (harg5 : arg5.IsWhole)
  (arg6 : Memref sig .tc .vmem S2048x128 .bf16) (harg6 : arg6.IsWhole) (arg7 : Memref sig .tc .vmem S1x2048x1 .f32) (harg7 : arg7.IsWhole)
  (arg8 : Memref sig .tc .vmem S2048x128 .f32) (harg8 : arg8.IsWhole) (arg9 : Memref sig .tc .vmem S2048x128 .f32) (harg9 : arg9.IsWhole)
  (arg10 : Memref sig .tc .vmem S2048x256 .bf16) (harg10 : arg10.IsWhole) (arg11 : Memref sig .tc .vmem S2048x256 .bf16) (harg11 : arg11.IsWhole)
  (arg12 : Memref sig .tc .vmem S2048x128 .f32) (harg12 : arg12.IsWhole) (arg13 : Memref sig .tc .vmem S2048x256 .f32) (harg13 : arg13.IsWhole)
  (arg14 : Memref sig .tc .vmem S2048x128 .f32) (harg14 : arg14.IsWhole) (hc0 : ¬cond1_0 i)
  (x0 : Vec Ideal S2048x256 .bf16) (x1 : Vec Ideal S2048x256 .bf16) (x2 : Vec Ideal S2048x128 .bf16) (x3 : Vec Ideal S2048x128 .bf16) (x4 : Vec Ideal S2048x128 .bf16)
  (x5 : Vec Ideal S1x2048x1 .f32) (x6 : Vec Ideal S2048x128 .f32) (x7 : Vec Ideal S2048x128 .f32) (xo10 : Vec Ideal S2048x128 .f32)
  {fq fkv fkr fo fw fcs fsn : ℕ → ℕ → ℝ} {L : ℕ → ℝ}

theorem HS0_1 : R2 (View.canon (kernelRun1_B.sl.HS0_1 (F := Ideal))) (sDK fq (keyF fkv fkr) (valF fkv) L fw fo 0) := by
  unfold kernelRun1_B.sl.HS0_1
  exact (st_init ((R2.const zero_f32).cast shapeCasts_S2048x256_S2048x256)).congr fun s d _ _ => (sDK_zero _ _ _ _ _ _ _ (Nat.zero_le _)).symm

theorem HS1_1 : R2 (View.canon (kernelRun1_B.sl.HS1_1 (F := Ideal))) (sDV fq (keyF fkv fkr) L fw 0) := by
  unfold kernelRun1_B.sl.HS1_1
  exact (st_init ((R2.const zero_f32).cast shapeCasts_S2048x128_S2048x128)).congr fun s d _ _ => (sDV_zero _ _ _ _ _ (Nat.zero_le _)).symm

include harg2 harg3 harg4 harg5 harg6 harg7 in
theorem HS0_2 (h0 : R2 x0 fq) (h1 : R2 x1 fkv) (h2 : R2 x2 fkr) (h3 : R2 x3 fo) (h4 : R2 x4 fw) (h5 : R3 x5 L) : R2 (View.canon (kernelRun1_B.sl.HS0_2 (F := Ideal) c arg2 harg2 arg3 harg3 arg4 harg4 arg5 harg5 arg6 harg6 arg7 harg7 arg13 x0 x1 x2 x3 x4 x5)) (sDK fq (keyF fkv fkr) (valF fkv) L fw fo 512) := by
  unfold kernelRun1_B.sl.HS0_2
  refine ahz (st_diag (o := 0) (n := 512) (F := (sDK fq (keyF fkv fkr) (valF fkv) L fw fo)) (fun u s d h => sDK_zero _ _ _ _ _ _ _ h) (HS0_1) ?_)
  exact dk_diag (o := 0) (a := 512) (hl := bitsLt_bf16_f32) (h3 := shapeCasts_S1x512x1_S512x1) (x := msk) (fq := fq) (fk := keyF fkv fkr) (fv := valF fkv) (fw := fw) (fo := fo) (L := L) mask32 (by norm_num) rfl rfl ⟨rfl, rfl, rfl, rfl, rfl, rfl⟩ (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _) (z0 (R2.loadCov32 (HS0_1) _))

include harg2 harg3 harg4 harg6 harg7 in
theorem HS1_2 (h0 : R2 x0 fq) (h1 : R2 x1 fkv) (h2 : R2 x2 fkr) (h4 : R2 x4 fw) (h5 : R3 x5 L) : R2 (View.canon (kernelRun1_B.sl.HS1_2 (F := Ideal) c arg2 harg2 arg3 harg3 arg4 harg4 arg6 harg6 arg7 harg7 arg14 x0 x1 x2 x4 x5)) (sDV fq (keyF fkv fkr) L fw 512) := by
  unfold kernelRun1_B.sl.HS1_2
  refine ahz (st_diag (o := 0) (n := 512) (F := (sDV fq (keyF fkv fkr) L fw)) (fun u s d h => sDV_zero _ _ _ _ _ h) (HS1_1) ?_)
  exact dv_diag (o := 0) (a := 512) (hl := bitsLt_bf16_f32) (h3 := shapeCasts_S1x512x1_S512x1) (x := msk) (fq := fq) (fk := keyF fkv fkr) (fw := fw) (L := L) mask32 (by norm_num) rfl ⟨rfl, rfl, rfl, rfl, rfl, rfl⟩ (z0 (h0.load16 arg2 harg2 _)) (keyN (by norm_num) (h1.load16 arg3 harg3 _)) (keyR (h2.load16 arg4 harg4 _)) (h5.load arg7 harg7 _) (z0 (h4.load16 arg6 harg6 _)) (z0 (R2.loadCov32 (HS1_1) _))

include harg2 harg3 harg4 harg5 harg6 harg7 in
theorem HS0_3 (h0 : R2 x0 fq) (h1 : R2 x1 fkv) (h2 : R2 x2 fkr) (h3 : R2 x3 fo) (h4 : R2 x4 fw) (h5 : R3 x5 L) : R2 (View.canon (kernelRun1_B.sl.HS0_3 (F := Ideal) c arg2 harg2 arg3 harg3 arg4 harg4 arg5 harg5 arg6 harg6 arg7 harg7 arg13 x0 x1 x2 x3 x4 x5)) (ahead (sDK fq (keyF fkv fkr) (valF fkv) L fw fo) 512 512) := by
  unfold kernelRun1_B.sl.HS0_3
  refine st_diag (o := 512) (n := 512) (F := (sDK fq (keyF fkv fkr) (valF fkv) L fw fo)) (fun u s d h => sDK_zero _ _ _ _ _ _ _ h) (HS0_2 c arg2 harg2 arg3 harg3 arg4 harg4 arg5 harg5 arg6 harg6 arg7 harg7 arg13 x0 x1 x2 x3 x4 x5  h0 h1 h2 h3 h4 h5) ?_
  exact dk_diag (o := 512) (a := 512) (hl := bitsLt_bf16_f32) (h3 := shapeCasts_S1x512x1_S512x1) (x := msk) (fq := fq) (fk := keyF fkv fkr) (fv := valF fkv) (fw := fw) (fo := fo) (L := L) mask32 (by norm_num) rfl rfl ⟨rfl, rfl, rfl, rfl, rfl, rfl⟩ (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _) (z0 (R2.loadCov32 (HS0_2 c arg2 harg2 arg3 harg3 arg4 harg4 arg5 harg5 arg6 harg6 arg7 harg7 arg13 x0 x1 x2 x3 x4 x5  h0 h1 h2 h3 h4 h5) _))

include harg2 harg3 harg4 harg5 harg6 harg7 in
theorem HS0_4 (h0 : R2 x0 fq) (h1 : R2 x1 fkv) (h2 : R2 x2 fkr) (h3 : R2 x3 fo) (h4 : R2 x4 fw) (h5 : R3 x5 L) : R2 (View.canon (kernelRun1_B.sl.HS0_4 (F := Ideal) c arg2 harg2 arg3 harg3 arg4 harg4 arg5 harg5 arg6 harg6 arg7 harg7 arg13 x0 x1 x2 x3 x4 x5)) (sDK fq (keyF fkv fkr) (valF fkv) L fw fo 1024) := by
  unfold kernelRun1_B.sl.HS0_4
  refine st_prev (o := 512) (n := 512) (F := (sDK fq (keyF fkv fkr) (valF fkv) L fw fo)) (HS0_3 c arg2 harg2 arg3 harg3 arg4 harg4 arg5 harg5 arg6 harg6 arg7 harg7 arg13 x0 x1 x2 x3 x4 x5  h0 h1 h2 h3 h4 h5) ?_
  exact dk_prev (o := 512) (n := 512) (a := 512) (hl := bitsLt_bf16_f32) (h3 := shapeCasts_S1x512x1_S512x1) (fq := fq) (fk := keyF fkv fkr) (fv := valF fkv) (fw := fw) (fo := fo) (L := L) rfl rfl ⟨rfl, rfl, rfl, rfl, rfl, rfl⟩ le_rfl (z0 (h0.load16 arg2 harg2 _)) (keyN0 (h1.load16 arg3 harg3 _)) (keyR0 (h2.load16 arg4 harg4 _)) (h5.load arg7 harg7 _) (z0 (h4.load16 arg6 harg6 _)) (z0 (h3.load16 arg5 harg5 _)) (val0 (h1.load16 arg3 harg3 _)) (ah0 (R2.loadCov32 (HS0_3 c arg2 harg2 arg3 harg3 arg4 harg4 arg5 harg5 arg6 harg6 arg7 harg7 arg13 x0 x1 x2 x3 x4 x5  h0 h1 h2 h3 h4 h5) _))

include harg2 harg3 harg4 harg6 harg7 in
theorem HS1_3 (h0 : R2 x0 fq) (h1 : R2 x1 fkv) (h2 : R2 x2 fkr) (h4 : R2 x4 fw) (h5 : R3 x5 L) : R2 (View.canon (kernelRun1_B.sl.HS1_3 (F := Ideal) c arg2 harg2 arg3 harg3 arg4 harg4 arg6 harg6 arg7 harg7 arg14 x0 x1 x2 x4 x5)) (ahead (sDV fq (keyF fkv fkr) L fw) 512 512) := by
  unfold kernelRun1_B.sl.HS1_3
  refine st_diag (o := 512) (n := 512) (F := (sDV fq (keyF fkv fkr) L fw)) (fun u s d h => sDV_zero _ _ _ _ _ h) (HS1_2 c arg2 harg2 arg3 harg3 arg4 harg4 arg6 harg6 arg7 harg7 arg14 x0 x1 x2 x4 x5  h0 h1 h2 h4 h5) ?_
  exact dv_diag (o := 512) (a := 512) (hl := bitsLt_bf16_f32) (h3 := shapeCasts_S1x512x1_S512x1) (x := msk) (fq := fq) (fk := keyF fkv fkr) (fw := fw) (L := L) mask32 (by norm_num) rfl ⟨rfl, rfl, rfl, rfl, rfl, rfl⟩ (z0 (h0.load16 arg2 harg2 _)) (keyN (by norm_num) (h1.load16 arg3 harg3 _)) (keyR (h2.load16 arg4 harg4 _)) (h5.load arg7 harg7 _) (z0 (h4.load16 arg6 harg6 _)) (z0 (R2.loadCov32 (HS1_2 c arg2 harg2 arg3 harg3 arg4 harg4 arg6 harg6 arg7 harg7 arg14 x0 x1 x2 x4 x5  h0 h1 h2 h4 h5) _))

include harg2 harg3 harg4 harg6 harg7 in
theorem HS1_4 (h0 : R2 x0 fq) (h1 : R2 x1 fkv) (h2 : R2 x2 fkr) (h4 : R2 x4 fw) (h5 : R3 x5 L) : R2 (View.canon (kernelRun1_B.sl.HS1_4 (F := Ideal) c arg2 harg2 arg3 harg3 arg4 harg4 arg6 harg6 arg7 harg7 arg14 x0 x1 x2 x4 x5)) (sDV fq (keyF fkv fkr) L fw 1024) := by
  unfold kernelRun1_B.sl.HS1_4
  refine st_prev (o := 512) (n := 512) (F := (sDV fq (keyF fkv fkr) L fw)) (HS1_3 c arg2 harg2 arg3 harg3 arg4 harg4 arg6 harg6 arg7 harg7 arg14 x0 x1 x2 x4 x5  h0 h1 h2 h4 h5) ?_
  exact dv_prev (o := 512) (n := 512) (a := 512) (hl := bitsLt_bf16_f32) (h3 := shapeCasts_S1x512x1_S512x1) (fq := fq) (fk := keyF fkv fkr) (fw := fw) (L := L) rfl ⟨rfl, rfl, rfl, rfl, rfl, rfl⟩ le_rfl (z0 (h0.load16 arg2 harg2 _)) (keyN0 (h1.load16 arg3 harg3 _)) (keyR0 (h2.load16 arg4 harg4 _)) (h5.load arg7 harg7 _) (z0 (h4.load16 arg6 harg6 _)) (ah0 (R2.loadCov32 (HS1_3 c arg2 harg2 arg3 harg3 arg4 harg4 arg6 harg6 arg7 harg7 arg14 x0 x1 x2 x4 x5  h0 h1 h2 h4 h5) _))

include harg2 harg3 harg4 harg5 harg6 harg7 in
theorem HS0_5 (h0 : R2 x0 fq) (h1 : R2 x1 fkv) (h2 : R2 x2 fkr) (h3 : R2 x3 fo) (h4 : R2 x4 fw) (h5 : R3 x5 L) : R2 (View.canon (kernelRun1_B.sl.HS0_5 (F := Ideal) c arg2 harg2 arg3 harg3 arg4 harg4 arg5 harg5 arg6 harg6 arg7 harg7 arg13 x0 x1 x2 x3 x4 x5)) (ahead (sDK fq (keyF fkv fkr) (valF fkv) L fw fo) 1024 512) := by
  unfold kernelRun1_B.sl.HS0_5
  refine st_diag (o := 1024) (n := 512) (F := (sDK fq (keyF fkv fkr) (valF fkv) L fw fo)) (fun u s d h => sDK_zero _ _ _ _ _ _ _ h) (HS0_4 c arg2 harg2 arg3 harg3 arg4 harg4 arg5 harg5 arg6 harg6 arg7 harg7 arg13 x0 x1 x2 x3 x4 x5  h0 h1 h2 h3 h4 h5) ?_
  exact dk_diag (o := 1024) (a := 512) (hl := bitsLt_bf16_f32) (h3 := shapeCasts_S1x512x1_S512x1) (x := msk) (fq := fq) (fk := keyF fkv fkr) (fv := valF fkv) (fw := fw) (fo := fo) (L := L) mask32 (by norm_num) rfl rfl ⟨rfl, rfl, rfl, rfl, rfl, rfl⟩ (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _) (z0 (R2.loadCov32 (HS0_4 c arg2 harg2 arg3 harg3 arg4 harg4 arg5 harg5 arg6 harg6 arg7 harg7 arg13 x0 x1 x2 x3 x4 x5  h0 h1 h2 h3 h4 h5) _))

include harg2 harg3 harg4 harg5 harg6 harg7 in
theorem HS0_6 (h0 : R2 x0 fq) (h1 : R2 x1 fkv) (h2 : R2 x2 fkr) (h3 : R2 x3 fo) (h4 : R2 x4 fw) (h5 : R3 x5 L) : R2 (View.canon (kernelRun1_B.sl.HS0_6 (F := Ideal) c arg2 harg2 arg3 harg3 arg4 harg4 arg5 harg5 arg6 harg6 arg7 harg7 arg13 x0 x1 x2 x3 x4 x5)) (sDK fq (keyF fkv fkr) (valF fkv) L fw fo 1536) := by
  unfold kernelRun1_B.sl.HS0_6
  refine st_prev (o := 1024) (n := 512) (F := (sDK fq (keyF fkv fkr) (valF fkv) L fw fo)) (HS0_5 c arg2 harg2 arg3 harg3 arg4 harg4 arg5 harg5 arg6 harg6 arg7 harg7 arg13 x0 x1 x2 x3 x4 x5  h0 h1 h2 h3 h4 h5) ?_
  exact dk_prev (o := 1024) (n := 1024) (a := 512) (hl := bitsLt_bf16_f32) (h3 := shapeCasts_S1x512x1_S512x1) (fq := fq) (fk := keyF fkv fkr) (fv := valF fkv) (fw := fw) (fo := fo) (L := L) rfl rfl ⟨rfl, rfl, rfl, rfl, rfl, rfl⟩ le_rfl (z0 (h0.load16 arg2 harg2 _)) (keyN0 (h1.load16 arg3 harg3 _)) (keyR0 (h2.load16 arg4 harg4 _)) (h5.load arg7 harg7 _) (z0 (h4.load16 arg6 harg6 _)) (z0 (h3.load16 arg5 harg5 _)) (val0 (h1.load16 arg3 harg3 _)) (ah0 (R2.loadCov32 (HS0_5 c arg2 harg2 arg3 harg3 arg4 harg4 arg5 harg5 arg6 harg6 arg7 harg7 arg13 x0 x1 x2 x3 x4 x5  h0 h1 h2 h3 h4 h5) _))

include harg2 harg3 harg4 harg6 harg7 in
theorem HS1_5 (h0 : R2 x0 fq) (h1 : R2 x1 fkv) (h2 : R2 x2 fkr) (h4 : R2 x4 fw) (h5 : R3 x5 L) : R2 (View.canon (kernelRun1_B.sl.HS1_5 (F := Ideal) c arg2 harg2 arg3 harg3 arg4 harg4 arg6 harg6 arg7 harg7 arg14 x0 x1 x2 x4 x5)) (ahead (sDV fq (keyF fkv fkr) L fw) 1024 512) := by
  unfold kernelRun1_B.sl.HS1_5
  refine st_diag (o := 1024) (n := 512) (F := (sDV fq (keyF fkv fkr) L fw)) (fun u s d h => sDV_zero _ _ _ _ _ h) (HS1_4 c arg2 harg2 arg3 harg3 arg4 harg4 arg6 harg6 arg7 harg7 arg14 x0 x1 x2 x4 x5  h0 h1 h2 h4 h5) ?_
  exact dv_diag (o := 1024) (a := 512) (hl := bitsLt_bf16_f32) (h3 := shapeCasts_S1x512x1_S512x1) (x := msk) (fq := fq) (fk := keyF fkv fkr) (fw := fw) (L := L) mask32 (by norm_num) rfl ⟨rfl, rfl, rfl, rfl, rfl, rfl⟩ (z0 (h0.load16 arg2 harg2 _)) (keyN (by norm_num) (h1.load16 arg3 harg3 _)) (keyR (h2.load16 arg4 harg4 _)) (h5.load arg7 harg7 _) (z0 (h4.load16 arg6 harg6 _)) (z0 (R2.loadCov32 (HS1_4 c arg2 harg2 arg3 harg3 arg4 harg4 arg6 harg6 arg7 harg7 arg14 x0 x1 x2 x4 x5  h0 h1 h2 h4 h5) _))

include harg2 harg3 harg4 harg6 harg7 in
theorem HS1_6 (h0 : R2 x0 fq) (h1 : R2 x1 fkv) (h2 : R2 x2 fkr) (h4 : R2 x4 fw) (h5 : R3 x5 L) : R2 (View.canon (kernelRun1_B.sl.HS1_6 (F := Ideal) c arg2 harg2 arg3 harg3 arg4 harg4 arg6 harg6 arg7 harg7 arg14 x0 x1 x2 x4 x5)) (sDV fq (keyF fkv fkr) L fw 1536) := by
  unfold kernelRun1_B.sl.HS1_6
  refine st_prev (o := 1024) (n := 512) (F := (sDV fq (keyF fkv fkr) L fw)) (HS1_5 c arg2 harg2 arg3 harg3 arg4 harg4 arg6 harg6 arg7 harg7 arg14 x0 x1 x2 x4 x5  h0 h1 h2 h4 h5) ?_
  exact dv_prev (o := 1024) (n := 1024) (a := 512) (hl := bitsLt_bf16_f32) (h3 := shapeCasts_S1x512x1_S512x1) (fq := fq) (fk := keyF fkv fkr) (fw := fw) (L := L) rfl ⟨rfl, rfl, rfl, rfl, rfl, rfl⟩ le_rfl (z0 (h0.load16 arg2 harg2 _)) (keyN0 (h1.load16 arg3 harg3 _)) (keyR0 (h2.load16 arg4 harg4 _)) (h5.load arg7 harg7 _) (z0 (h4.load16 arg6 harg6 _)) (ah0 (R2.loadCov32 (HS1_5 c arg2 harg2 arg3 harg3 arg4 harg4 arg6 harg6 arg7 harg7 arg14 x0 x1 x2 x4 x5  h0 h1 h2 h4 h5) _))

include harg2 harg3 harg4 harg5 harg6 harg7 in
theorem HS0_7 (h0 : R2 x0 fq) (h1 : R2 x1 fkv) (h2 : R2 x2 fkr) (h3 : R2 x3 fo) (h4 : R2 x4 fw) (h5 : R3 x5 L) : R2 (View.canon (kernelRun1_B.sl.HS0_7 (F := Ideal) c arg2 harg2 arg3 harg3 arg4 harg4 arg5 harg5 arg6 harg6 arg7 harg7 arg13 x0 x1 x2 x3 x4 x5)) (ahead (sDK fq (keyF fkv fkr) (valF fkv) L fw fo) 1536 512) := by
  unfold kernelRun1_B.sl.HS0_7
  refine st_diag (o := 1536) (n := 512) (F := (sDK fq (keyF fkv fkr) (valF fkv) L fw fo)) (fun u s d h => sDK_zero _ _ _ _ _ _ _ h) (HS0_6 c arg2 harg2 arg3 harg3 arg4 harg4 arg5 harg5 arg6 harg6 arg7 harg7 arg13 x0 x1 x2 x3 x4 x5  h0 h1 h2 h3 h4 h5) ?_
  exact dk_diag (o := 1536) (a := 512) (hl := bitsLt_bf16_f32) (h3 := shapeCasts_S1x512x1_S512x1) (x := msk) (fq := fq) (fk := keyF fkv fkr) (fv := valF fkv) (fw := fw) (fo := fo) (L := L) mask32 (by norm_num) rfl rfl ⟨rfl, rfl, rfl, rfl, rfl, rfl⟩ (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _) (z0 (R2.loadCov32 (HS0_6 c arg2 harg2 arg3 harg3 arg4 harg4 arg5 harg5 arg6 harg6 arg7 harg7 arg13 x0 x1 x2 x3 x4 x5  h0 h1 h2 h3 h4 h5) _))

include harg2 harg3 harg4 harg5 harg6 harg7 in
theorem HS0_8 (h0 : R2 x0 fq) (h1 : R2 x1 fkv) (h2 : R2 x2 fkr) (h3 : R2 x3 fo) (h4 : R2 x4 fw) (h5 : R3 x5 L) : R2 (View.canon (kernelRun1_B.sl.HS0_8 (F := Ideal) c arg2 harg2 arg3 harg3 arg4 harg4 arg5 harg5 arg6 harg6 arg7 harg7 arg13 x0 x1 x2 x3 x4 x5)) (sDK fq (keyF fkv fkr) (valF fkv) L fw fo 2048) := by
  unfold kernelRun1_B.sl.HS0_8
  refine st_prev (o := 1536) (n := 512) (F := (sDK fq (keyF fkv fkr) (valF fkv) L fw fo)) (HS0_7 c arg2 harg2 arg3 harg3 arg4 harg4 arg5 harg5 arg6 harg6 arg7 harg7 arg13 x0 x1 x2 x3 x4 x5  h0 h1 h2 h3 h4 h5) ?_
  exact dk_prev (o := 1536) (n := 1536) (a := 512) (hl := bitsLt_bf16_f32) (h3 := shapeCasts_S1x512x1_S512x1) (fq := fq) (fk := keyF fkv fkr) (fv := valF fkv) (fw := fw) (fo := fo) (L := L) rfl rfl ⟨rfl, rfl, rfl, rfl, rfl, rfl⟩ le_rfl (z0 (h0.load16 arg2 harg2 _)) (keyN0 (h1.load16 arg3 harg3 _)) (keyR0 (h2.load16 arg4 harg4 _)) (h5.load arg7 harg7 _) (z0 (h4.load16 arg6 harg6 _)) (z0 (h3.load16 arg5 harg5 _)) (val0 (h1.load16 arg3 harg3 _)) (ah0 (R2.loadCov32 (HS0_7 c arg2 harg2 arg3 harg3 arg4 harg4 arg5 harg5 arg6 harg6 arg7 harg7 arg13 x0 x1 x2 x3 x4 x5  h0 h1 h2 h3 h4 h5) _))

include harg2 harg3 harg4 harg6 harg7 in
theorem HS1_7 (h0 : R2 x0 fq) (h1 : R2 x1 fkv) (h2 : R2 x2 fkr) (h4 : R2 x4 fw) (h5 : R3 x5 L) : R2 (View.canon (kernelRun1_B.sl.HS1_7 (F := Ideal) c arg2 harg2 arg3 harg3 arg4 harg4 arg6 harg6 arg7 harg7 arg14 x0 x1 x2 x4 x5)) (ahead (sDV fq (keyF fkv fkr) L fw) 1536 512) := by
  unfold kernelRun1_B.sl.HS1_7
  refine st_diag (o := 1536) (n := 512) (F := (sDV fq (keyF fkv fkr) L fw)) (fun u s d h => sDV_zero _ _ _ _ _ h) (HS1_6 c arg2 harg2 arg3 harg3 arg4 harg4 arg6 harg6 arg7 harg7 arg14 x0 x1 x2 x4 x5  h0 h1 h2 h4 h5) ?_
  exact dv_diag (o := 1536) (a := 512) (hl := bitsLt_bf16_f32) (h3 := shapeCasts_S1x512x1_S512x1) (x := msk) (fq := fq) (fk := keyF fkv fkr) (fw := fw) (L := L) mask32 (by norm_num) rfl ⟨rfl, rfl, rfl, rfl, rfl, rfl⟩ (z0 (h0.load16 arg2 harg2 _)) (keyN (by norm_num) (h1.load16 arg3 harg3 _)) (keyR (h2.load16 arg4 harg4 _)) (h5.load arg7 harg7 _) (z0 (h4.load16 arg6 harg6 _)) (z0 (R2.loadCov32 (HS1_6 c arg2 harg2 arg3 harg3 arg4 harg4 arg6 harg6 arg7 harg7 arg14 x0 x1 x2 x4 x5  h0 h1 h2 h4 h5) _))

include harg2 harg3 harg4 harg6 harg7 in
theorem HS1_8 (h0 : R2 x0 fq) (h1 : R2 x1 fkv) (h2 : R2 x2 fkr) (h4 : R2 x4 fw) (h5 : R3 x5 L) : R2 (View.canon (kernelRun1_B.sl.HS1_8 (F := Ideal) c arg2 harg2 arg3 harg3 arg4 harg4 arg6 harg6 arg7 harg7 arg14 x0 x1 x2 x4 x5)) (sDV fq (keyF fkv fkr) L fw 2048) := by
  unfold kernelRun1_B.sl.HS1_8
  refine st_prev (o := 1536) (n := 512) (F := (sDV fq (keyF fkv fkr) L fw)) (HS1_7 c arg2 harg2 arg3 harg3 arg4 harg4 arg6 harg6 arg7 harg7 arg14 x0 x1 x2 x4 x5  h0 h1 h2 h4 h5) ?_
  exact dv_prev (o := 1536) (n := 1536) (a := 512) (hl := bitsLt_bf16_f32) (h3 := shapeCasts_S1x512x1_S512x1) (fq := fq) (fk := keyF fkv fkr) (fw := fw) (L := L) rfl ⟨rfl, rfl, rfl, rfl, rfl, rfl⟩ le_rfl (z0 (h0.load16 arg2 harg2 _)) (keyN0 (h1.load16 arg3 harg3 _)) (keyR0 (h2.load16 arg4 harg4 _)) (h5.load arg7 harg7 _) (z0 (h4.load16 arg6 harg6 _)) (ah0 (R2.loadCov32 (HS1_7 c arg2 harg2 arg3 harg3 arg4 harg4 arg6 harg6 arg7 harg7 arg14 x0 x1 x2 x4 x5  h0 h1 h2 h4 h5) _))

set_option maxHeartbeats 2000000 in
include harg2 harg3 harg4 harg5 harg6 harg7 harg8 harg9 in
/-- The queries' gradient, as the body stores it. -/
theorem dq_r2 (h0 : R2 x0 fq) (h1 : R2 x1 fkv) (h2 : R2 x2 fkr) (h3 : R2 x3 fo) (h4 : R2 x4 fw) (h5 : R3 x5 L) (h6 : R2 x6 fcs) (h7 : R2 x7 fsn) :
    R2 (View.canon (kernelRun1_B (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10).1) (dqF (sDQ fq (keyF fkv fkr) (valF fkv) L fw fo) fcs fsn) := by
  unfold kernelRun1_B
  dsimp only
  refine RP.r2 (D := fun s _ => s < 1536 + 512) (dq_store (o := 1536) (F := sDQ fq (keyF fkv fkr) (valF fkv) L fw fo) (fc := fcs) (fs := fsn) ?_ ?_ ?_) (fun _ _ h _ => h)
  rotate_left
  · refine outN_r2 (F := (sDQ fq (keyF fkv fkr) (valF fkv) L fw fo)) scale32 (q87 ?_ ?_ ?_)
    · exact o80 (fq := fq) (fk := keyF fkv fkr) (fv := valF fkv) (fw := fw) (fo := fo) (L := L) (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _)
    · exact d83 (fq := fq) (fk := keyF fkv fkr) (fv := valF fkv) (fw := fw) (fo := fo) (L := L) (R2.cast (z0 (h0.load16 arg2 harg2 _)) _) (R3.ofCol (h5.load arg7 harg7 _) _) (keyN0 (h1.load16 arg3 harg3 _)) (keyR0 (h2.load16 arg4 harg4 _)) (R2.cast (z0 (h4.load16 arg6 harg6 _)) _) (del_r2 (o := 1536) (hl := bitsLt_bf16_f32) (z0 (h4.load16 arg6 harg6 _)) (z0 (h3.load16 arg5 harg5 _))) (val0 (h1.load16 arg3 harg3 _))
    · exact keys_r2 (hs := shapeCasts_S1536x128_S1536x128) (hc := concatenates_S1536x128_S1536x128_S1536x256_d1) (keyN0 (h1.load16 arg3 harg3 _)) (keyR0 (h2.load16 arg4 harg4 _))
  · refine rope89 (F := (sDQ fq (keyF fkv fkr) (valF fkv) L fw fo)) ((q87 ?_ ?_ ?_)) (h6.load32 arg8 harg8 _) (h7.load32 arg9 harg9 _)
    · exact o80 (fq := fq) (fk := keyF fkv fkr) (fv := valF fkv) (fw := fw) (fo := fo) (L := L) (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _)
    · exact d83 (fq := fq) (fk := keyF fkv fkr) (fv := valF fkv) (fw := fw) (fo := fo) (L := L) (R2.cast (z0 (h0.load16 arg2 harg2 _)) _) (R3.ofCol (h5.load arg7 harg7 _) _) (keyN0 (h1.load16 arg3 harg3 _)) (keyR0 (h2.load16 arg4 harg4 _)) (R2.cast (z0 (h4.load16 arg6 harg6 _)) _) (del_r2 (o := 1536) (hl := bitsLt_bf16_f32) (z0 (h4.load16 arg6 harg6 _)) (z0 (h3.load16 arg5 harg5 _))) (val0 (h1.load16 arg3 harg3 _))
    · exact keys_r2 (hs := shapeCasts_S1536x128_S1536x128) (hc := concatenates_S1536x128_S1536x128_S1536x256_d1) (keyN0 (h1.load16 arg3 harg3 _)) (keyR0 (h2.load16 arg4 harg4 _))
  refine dq_store (o := 1024) ?_ ?_ ?_
  rotate_left
  · refine outN_r2 (F := (sDQ fq (keyF fkv fkr) (valF fkv) L fw fo)) scale32 (q63 ?_ ?_ ?_)
    · exact o56 (fq := fq) (fk := keyF fkv fkr) (fv := valF fkv) (fw := fw) (fo := fo) (L := L) (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _)
    · exact d60 (fq := fq) (fk := keyF fkv fkr) (fv := valF fkv) (fw := fw) (fo := fo) (L := L) (p58 (R2.cast (z0 (h0.load16 arg2 harg2 _)) _) (R3.ofCol (h5.load arg7 harg7 _) _) (keyN0 (h1.load16 arg3 harg3 _)) (keyR0 (h2.load16 arg4 harg4 _))) (R2.cast (z0 (h4.load16 arg6 harg6 _)) _) (del_r2 (o := 1024) (hl := bitsLt_bf16_f32) (z0 (h4.load16 arg6 harg6 _)) (z0 (h3.load16 arg5 harg5 _))) (val0 (h1.load16 arg3 harg3 _))
    · exact keys_r2 (hs := shapeCasts_S1024x128_S1024x128) (hc := concatenates_S1024x128_S1024x128_S1024x256_d1) (keyN0 (h1.load16 arg3 harg3 _)) (keyR0 (h2.load16 arg4 harg4 _))
  · refine rope69 (F := (sDQ fq (keyF fkv fkr) (valF fkv) L fw fo)) (sl128 (hs := slices_S512x256_o0_128_S512x128) (q63 ?_ ?_ ?_)) (h6.load32 arg8 harg8 _) (h7.load32 arg9 harg9 _)
    · exact o56 (fq := fq) (fk := keyF fkv fkr) (fv := valF fkv) (fw := fw) (fo := fo) (L := L) (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _)
    · exact d60 (fq := fq) (fk := keyF fkv fkr) (fv := valF fkv) (fw := fw) (fo := fo) (L := L) (p58 (R2.cast (z0 (h0.load16 arg2 harg2 _)) _) (R3.ofCol (h5.load arg7 harg7 _) _) (keyN0 (h1.load16 arg3 harg3 _)) (keyR0 (h2.load16 arg4 harg4 _))) (R2.cast (z0 (h4.load16 arg6 harg6 _)) _) (del_r2 (o := 1024) (hl := bitsLt_bf16_f32) (z0 (h4.load16 arg6 harg6 _)) (z0 (h3.load16 arg5 harg5 _))) (val0 (h1.load16 arg3 harg3 _))
    · exact keys_r2 (hs := shapeCasts_S1024x128_S1024x128) (hc := concatenates_S1024x128_S1024x128_S1024x256_d1) (keyN0 (h1.load16 arg3 harg3 _)) (keyR0 (h2.load16 arg4 harg4 _))
  refine dq_store (o := 512) ?_ ?_ ?_
  rotate_left
  · refine outN_r2 (F := (sDQ fq (keyF fkv fkr) (valF fkv) L fw fo)) scale32 (q39 ?_ ?_ ?_)
    · exact o33 (fq := fq) (fk := keyF fkv fkr) (fv := valF fkv) (fw := fw) (fo := fo) (L := L) (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _)
    · exact d36 (fq := fq) (fk := keyF fkv fkr) (fv := valF fkv) (fw := fw) (fo := fo) (L := L) (p35 (R2.cast (z0 (h0.load16 arg2 harg2 _)) _) (R3.ofCol (h5.load arg7 harg7 _) _) (keyN0 (h1.load16 arg3 harg3 _)) (keyR0 (h2.load16 arg4 harg4 _))) (R2.cast (z0 (h4.load16 arg6 harg6 _)) _) (del_r2 (o := 512) (hl := bitsLt_bf16_f32) (z0 (h4.load16 arg6 harg6 _)) (z0 (h3.load16 arg5 harg5 _))) (val0 (h1.load16 arg3 harg3 _))
    · exact keys_r2 (hs := shapeCasts_S512x128_S512x128) (hc := concatenates_S512x128_S512x128_S512x256_d1) (keyN0 (h1.load16 arg3 harg3 _)) (keyR0 (h2.load16 arg4 harg4 _))
  · refine rope45 (F := (sDQ fq (keyF fkv fkr) (valF fkv) L fw fo)) (sl128 (hs := slices_S512x256_o0_128_S512x128) (q39 ?_ ?_ ?_)) (h6.load32 arg8 harg8 _) (h7.load32 arg9 harg9 _)
    · exact o33 (fq := fq) (fk := keyF fkv fkr) (fv := valF fkv) (fw := fw) (fo := fo) (L := L) (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _)
    · exact d36 (fq := fq) (fk := keyF fkv fkr) (fv := valF fkv) (fw := fw) (fo := fo) (L := L) (p35 (R2.cast (z0 (h0.load16 arg2 harg2 _)) _) (R3.ofCol (h5.load arg7 harg7 _) _) (keyN0 (h1.load16 arg3 harg3 _)) (keyR0 (h2.load16 arg4 harg4 _))) (R2.cast (z0 (h4.load16 arg6 harg6 _)) _) (del_r2 (o := 512) (hl := bitsLt_bf16_f32) (z0 (h4.load16 arg6 harg6 _)) (z0 (h3.load16 arg5 harg5 _))) (val0 (h1.load16 arg3 harg3 _))
    · exact keys_r2 (hs := shapeCasts_S512x128_S512x128) (hc := concatenates_S512x128_S512x128_S512x256_d1) (keyN0 (h1.load16 arg3 harg3 _)) (keyR0 (h2.load16 arg4 harg4 _))
  refine dq_store (o := 0) ?_ ?_ ?_
  rotate_left
  · exact outN_r2 (F := (sDQ fq (keyF fkv fkr) (valF fkv) L fw fo)) scale32 (o17 (fq := fq) (fk := keyF fkv fkr) (fv := valF fkv) (fw := fw) (fo := fo) (L := L) (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _))
  · exact rope22 (F := (sDQ fq (keyF fkv fkr) (valF fkv) L fw fo)) (sl128 (hs := slices_S512x256_o0_128_S512x128) (o17 (fq := fq) (fk := keyF fkv fkr) (fv := valF fkv) (fw := fw) (fo := fo) (L := L) (z0 (h0.load16 arg2 harg2 _)) (keyN (by norm_num) (h1.load16 arg3 harg3 _)) (keyR (h2.load16 arg4 harg4 _)) (h5.load arg7 harg7 _) (z0 (h4.load16 arg6 harg6 _)) (z0 (h3.load16 arg5 harg5 _)) (h1.load16 arg3 harg3 _))) (h6.load32 arg8 harg8 _) (h7.load32 arg9 harg9 _)
  exact fun i h => absurd h (Nat.not_lt_zero _)

include harg2 harg3 harg4 harg5 harg6 harg7 in
/-- The gradient of the head's keys and values, as the body stores it. -/
theorem dkv_r2 (h0 : R2 x0 fq) (h1 : R2 x1 fkv) (h2 : R2 x2 fkr) (h3 : R2 x3 fo) (h4 : R2 x4 fw) (h5 : R3 x5 L) :
    R2 (View.canon (kernelRun1_B (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10).2.1) (fun s d => if d < 128 then sDK fq (keyF fkv fkr) (valF fkv) L fw fo 2048 s d else sDV fq (keyF fkv fkr) L fw 2048 s (d - 128)) := by
  unfold kernelRun1_B
  dsimp only
  refine RP.r2 (D := fun _ _ => True) (RP.store16 (f := fun s d => sDK fq (keyF fkv fkr) (valF fkv) L fw fo 2048 s d) (D := fun s d => d < 128)
    (RP.store16 (RP.none fun _ _ => 0) ((z00 ((HS0_8 c arg2 harg2 arg3 harg3 arg4 harg4 arg5 harg5 arg6 harg6 arg7 harg7 arg13 x0 x1 x2 x3 x4 x5 h0 h1 h2 h3 h4 h5).loadCov32 _)).truncf bitsLt_bf16_f32) ?_ ?_)
    ((z00 ((HS1_8 c arg2 harg2 arg3 harg3 arg4 harg4 arg6 harg6 arg7 harg7 arg14 x0 x1 x2 x4 x5 h0 h1 h2 h4 h5).loadCov32 _)).truncf bitsLt_bf16_f32) ?_ ?_) (fun _ _ _ _ => trivial)
  · intro s d h _ _
    simp only [Nat.sub_zero]
  · intro s d h h1 h2 h3
    exact (h ⟨⟨Nat.zero_le _, by omega⟩, Nat.zero_le _, by omega⟩).elim
  · intro s d h _ _
    obtain ⟨_, h, _⟩ := h
    have h : ¬ d < 128 := by omega
    simp only [h, if_false, Nat.sub_zero]
  · intro s d h _ h2 h3
    have h4 : d < 128 := by by_contra h4; exact h ⟨⟨Nat.zero_le _, by omega⟩, by omega, by omega⟩
    exact ⟨h4, by simp only [h4, if_true]⟩

include harg2 harg3 harg4 harg5 harg6 harg7 harg12 in
/-- The gradient of the shared rotary keys after a later head. -/
theorem dkr_r2 (h0 : R2 x0 fq) (h1 : R2 x1 fkv) (h2 : R2 x2 fkr) (h3 : R2 x3 fo) (h4 : R2 x4 fw) (h5 : R3 x5 L) {g : ℕ → ℕ → ℝ} (hg : R2 xo10 g) :
    R2 (View.canon (kernelRun1_B (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo10).2.2.1) (fun s d => g s d + sDK fq (keyF fkv fkr) (valF fkv) L fw fo 2048 s (128 + d)) := by
  unfold kernelRun1_B
  dsimp only
  refine st_init (((z00 (hg.load32 arg12 harg12 _)).cast shapeCasts_S2048x128_S2048x128).add (z00' ((HS0_8 c arg2 harg2 arg3 harg3 arg4 harg4 arg5 harg5 arg6 harg6 arg7 harg7 arg13 x0 x1 x2 x3 x4 x5 h0 h1 h2 h3 h4 h5).loadCov32 _)))

end caseB

end Cert.Attn.B

end
-- ==== Proof.Arr.lean ====
/- The arrays that the two calls write, from the arrays they read. -/
module

public import proofs.«01_k».proof.Proof.BwdB
public import proofs.«01_k».proof.Proof.Fwd
public import Idealize.ShloMosaic.Lib.Pipeline.ValueKit

@[expose] public section

set_option maxRecDepth 16384

noncomputable section

namespace Cert.Attn
open Idealize.ShloMosaic Idealize.ShloMosaic.TcCoe Idealize.SL Idealize.SL.Sem Cert.KernelIdeal Cert.KernelIdeal.Gen
open scoped BigOperators
open Finset (range)

/-- The tile of a batch element and a head, `w` columns to a head. -/
def T (w : ℕ) (F : ℕ → ℕ → ℝ) (b h s d : ℕ) : ℝ := F (b * 2048 + s) (h * w + d)

/-- The array whose tiles are given. -/
def U (w : ℕ) (G : ℕ → ℕ → ℕ → ℕ → ℝ) (r c : ℕ) : ℝ := G (r / 2048) (c / w) (r % 2048) (c % w)

/-- A tile of an array of tiles is the tile given. -/
theorem T_U (w : ℕ) (G : ℕ → ℕ → ℕ → ℕ → ℝ) (b h s d : ℕ) (hs : s < 2048) (hd : d < w) : T w (U w G) b h s d = G b h s d := by
  unfold T U
  rw [show (b * 2048 + s) / 2048 = b by omega, show (b * 2048 + s) % 2048 = s by omega, show (h * w + d) / w = h by rw [Nat.mul_comm, Nat.mul_add_div (by omega), Nat.div_eq_of_lt hd]; rfl, show (h * w + d) % w = d by rw [Nat.mul_comm, Nat.mul_add_mod, Nat.mod_eq_of_lt hd]]

/-- A block of an array's rows and columns, read as a tile. -/
theorem U_at (w : ℕ) (G : ℕ → ℕ → ℕ → ℕ → ℝ) (b h s d : ℕ) (hs : s < 2048) (hd : d < w) : U w G (b * 2048 + s) (h * w + d) = G b h s d :=
  T_U w G b h s d hs hd

/-- The log-sums' array, of a batch element and a head in each row block. -/
def R3A (A : (⟨3, ![8, 4096, 1]⟩ : Shape).Idx → EReal) (f : ℕ → ℕ → ℕ → ℝ) : Prop :=
  ∀ i : (⟨3, ![8, 4096, 1]⟩ : Shape).Idx, A i = ((f ((i 1).val / 2048) (i 0).val ((i 1).val % 2048) : ℝ) : EReal)

theorem F_at (F : ℕ → ℕ → ℕ → ℝ) (b h s : ℕ) (hs : s < 2048) :
    F ((b * 2048 + s) / 2048) h ((b * 2048 + s) % 2048) = F b h s := by
  rw [show (b * 2048 + s) / 2048 = b by omega, show (b * 2048 + s) % 2048 = s by omega]

section arrays

variable (V : (c : Dev nD) → (b : Ref sig .tc) → Buf (Elt Ideal) ((c : Thread nD τ).loc b)) (c : Dev nD)

theorem ix0_0 : ∀ t : Fin cfg0.N, win0_0.index t = ![t.val / 8, t.val % 8] := (by decide +kernel : ∀ t : Fin grid0.N, win0_0.index t = ![t.val / 8, t.val % 8])

theorem in0_0 {F : ℕ → ℕ → ℝ} (hV : R2 (a := 4096) (b := 2048) (V c main_v3) F) (t : Fin cfg0.N) : R2 (a := 2048) (b := 256) (iblk0 V c 0 t) (T 256 F (t.val / 8) (t.val % 8)) := by
  intro y
  refine (hV _).trans ?_
  unfold T
  blk_simp [ix0_0]

theorem ix0_1 : ∀ t : Fin cfg0.N, win0_1.index t = ![t.val / 8, t.val % 8] := (by decide +kernel : ∀ t : Fin grid0.N, win0_1.index t = ![t.val / 8, t.val % 8])

theorem in0_1 {F : ℕ → ℕ → ℝ} (hV : R2 (a := 4096) (b := 2048) (V c main_v5) F) (t : Fin cfg0.N) : R2 (a := 2048) (b := 256) (iblk0 V c 1 t) (T 256 F (t.val / 8) (t.val % 8)) := by
  intro y
  refine (hV _).trans ?_
  unfold T
  blk_simp [ix0_1]

theorem ix0_2 : ∀ t : Fin cfg0.N, win0_2.index t = ![t.val / 8, 0] := (by decide +kernel : ∀ t : Fin grid0.N, win0_2.index t = ![t.val / 8, 0])

theorem in0_2 {F : ℕ → ℕ → ℝ} (hV : R2 (a := 4096) (b := 128) (V c main_v8) F) (t : Fin cfg0.N) : R2 (a := 2048) (b := 128) (iblk0 V c 2 t) (T 128 F (t.val / 8) 0) := by
  intro y
  refine (hV _).trans ?_
  unfold T
  blk_simp [ix0_2]

theorem ix0_3 : ∀ t : Fin cfg0.N, win0_3.index t = ![t.val / 8, 0] := (by decide +kernel : ∀ t : Fin grid0.N, win0_3.index t = ![t.val / 8, 0])

theorem in0_3 {F : ℕ → ℕ → ℝ} (hV : R2 (a := 4096) (b := 128) (V c main_v14) F) (t : Fin cfg0.N) : R2 (a := 2048) (b := 128) (iblk0 V c 3 t) (T 128 F (t.val / 8) 0) := by
  intro y
  refine (hV _).trans ?_
  unfold T
  blk_simp [ix0_3]

theorem ix0_4 : ∀ t : Fin cfg0.N, win0_4.index t = ![t.val / 8, 0] := (by decide +kernel : ∀ t : Fin grid0.N, win0_4.index t = ![t.val / 8, 0])

theorem in0_4 {F : ℕ → ℕ → ℝ} (hV : R2 (a := 4096) (b := 128) (V c main_v16) F) (t : Fin cfg0.N) : R2 (a := 2048) (b := 128) (iblk0 V c 4 t) (T 128 F (t.val / 8) 0) := by
  intro y
  refine (hV _).trans ?_
  unfold T
  blk_simp [ix0_4]

theorem ix1_0 : ∀ t : Fin cfg1.N, win1_0.index t = ![t.val / 8, t.val % 8] := (by decide +kernel : ∀ t : Fin grid1.N, win1_0.index t = ![t.val / 8, t.val % 8])

theorem in1_0 {F : ℕ → ℕ → ℝ} (hV : R2 (a := 4096) (b := 2048) (V c main_v17_2) F) (t : Fin cfg1.N) : R2 (a := 2048) (b := 256) (iblk1 V c 0 t) (T 256 F (t.val / 8) (t.val % 8)) := by
  intro y
  refine (hV _).trans ?_
  unfold T
  blk_simp [ix1_0]

theorem ix1_1 : ∀ t : Fin cfg1.N, win1_1.index t = ![t.val / 8, t.val % 8] := (by decide +kernel : ∀ t : Fin grid1.N, win1_1.index t = ![t.val / 8, t.val % 8])

theorem in1_1 {F : ℕ → ℕ → ℝ} (hV : R2 (a := 4096) (b := 2048) (V c main_v5) F) (t : Fin cfg1.N) : R2 (a := 2048) (b := 256) (iblk1 V c 1 t) (T 256 F (t.val / 8) (t.val % 8)) := by
  intro y
  refine (hV _).trans ?_
  unfold T
  blk_simp [ix1_1]

theorem ix1_2 : ∀ t : Fin cfg1.N, win1_2.index t = ![t.val / 8, 0] := (by decide +kernel : ∀ t : Fin grid1.N, win1_2.index t = ![t.val / 8, 0])

theorem in1_2 {F : ℕ → ℕ → ℝ} (hV : R2 (a := 4096) (b := 128) (V c main_v8) F) (t : Fin cfg1.N) : R2 (a := 2048) (b := 128) (iblk1 V c 2 t) (T 128 F (t.val / 8) 0) := by
  intro y
  refine (hV _).trans ?_
  unfold T
  blk_simp [ix1_2]

theorem ix1_3 : ∀ t : Fin cfg1.N, win1_3.index t = ![t.val / 8, t.val % 8] := (by decide +kernel : ∀ t : Fin grid1.N, win1_3.index t = ![t.val / 8, t.val % 8])

theorem in1_3 {F : ℕ → ℕ → ℝ} (hV : R2 (a := 4096) (b := 1024) (V c main_v17_0) F) (t : Fin cfg1.N) : R2 (a := 2048) (b := 128) (iblk1 V c 3 t) (T 128 F (t.val / 8) (t.val % 8)) := by
  intro y
  refine (hV _).trans ?_
  unfold T
  blk_simp [ix1_3]

theorem ix1_4 : ∀ t : Fin cfg1.N, win1_4.index t = ![t.val / 8, t.val % 8] := (by decide +kernel : ∀ t : Fin grid1.N, win1_4.index t = ![t.val / 8, t.val % 8])

theorem in1_4 {F : ℕ → ℕ → ℝ} (hV : R2 (a := 4096) (b := 1024) (V c main_v10) F) (t : Fin cfg1.N) : R2 (a := 2048) (b := 128) (iblk1 V c 4 t) (T 128 F (t.val / 8) (t.val % 8)) := by
  intro y
  refine (hV _).trans ?_
  unfold T
  blk_simp [ix1_4]

theorem ix1_6 : ∀ t : Fin cfg1.N, win1_6.index t = ![t.val / 8, 0] := (by decide +kernel : ∀ t : Fin grid1.N, win1_6.index t = ![t.val / 8, 0])

theorem in1_6 {F : ℕ → ℕ → ℝ} (hV : R2 (a := 4096) (b := 128) (V c main_v14) F) (t : Fin cfg1.N) : R2 (a := 2048) (b := 128) (iblk1 V c 6 t) (T 128 F (t.val / 8) 0) := by
  intro y
  refine (hV _).trans ?_
  unfold T
  blk_simp [ix1_6]

theorem ix1_7 : ∀ t : Fin cfg1.N, win1_7.index t = ![t.val / 8, 0] := (by decide +kernel : ∀ t : Fin grid1.N, win1_7.index t = ![t.val / 8, 0])

theorem in1_7 {F : ℕ → ℕ → ℝ} (hV : R2 (a := 4096) (b := 128) (V c main_v16) F) (t : Fin cfg1.N) : R2 (a := 2048) (b := 128) (iblk1 V c 7 t) (T 128 F (t.val / 8) 0) := by
  intro y
  refine (hV _).trans ?_
  unfold T
  blk_simp [ix1_7]

theorem ix1_5 : ∀ t : Fin cfg1.N, win1_5.index t = ![t.val % 8, t.val / 8, 0] := (by decide +kernel : ∀ t : Fin grid1.N, win1_5.index t = ![t.val % 8, t.val / 8, 0])

theorem in1_5 {F : ℕ → ℕ → ℕ → ℝ} (hV : R3A (V c main_v17_1) F) (t : Fin cfg1.N) : R3 (a := 2048) (iblk1 V c 5 t) (F (t.val / 8) (t.val % 8)) := by
  intro y
  refine (hV _).trans ?_
  blk_simp [ix1_5]
  exact congrArg _ (F_at F (t.val / 8) (t.val % 8) (y 1).val (y 1).isLt)

theorem ix0_5 : ∀ t : Fin cfg0.N, win0_5.index t = ![t.val / 8, t.val % 8] := (by decide +kernel : ∀ t : Fin grid0.N, win0_5.index t = ![t.val / 8, t.val % 8])

theorem arr0_5 {G : ℕ → ℕ → ℕ → ℕ → ℝ} (hG : ∀ t : Fin cfg0.N, R2 (a := 2048) (b := 128) (outsAt0 V c t).1 (G (t.val / 8) (t.val % 8))) :
    R2 (a := 4096) (b := 1024) ((dat0 V c).arrAt 5 cfg0.N) (U 128 G) := by
  intro i
  refine (dat0 V c).arrAt_forall_of_covers 5 (fun (i : (Sh 4096 1024).Idx) (v : EReal) => v = ((U 128 G (i 0).val (i 1).val : ℝ) : EReal)) (by decide +kernel) (fun t hf y => ?_) i
  blk_simp
  rw [after0_5]
  refine (hG t y).trans ?_
  have e := U_at 128 G (t.val / 8) (t.val % 8) (y 0).val (y 1).val (y 0).isLt (y 1).isLt
  simp only [ix0_5]
  exact congrArg _ e.symm

theorem ix0_7 : ∀ t : Fin cfg0.N, win0_7.index t = ![t.val / 8, t.val % 8] := (by decide +kernel : ∀ t : Fin grid0.N, win0_7.index t = ![t.val / 8, t.val % 8])

theorem arr0_7 {G : ℕ → ℕ → ℕ → ℕ → ℝ} (hG : ∀ t : Fin cfg0.N, R2 (a := 2048) (b := 256) (outsAt0 V c t).2.2 (G (t.val / 8) (t.val % 8))) :
    R2 (a := 4096) (b := 2048) ((dat0 V c).arrAt 7 cfg0.N) (U 256 G) := by
  intro i
  refine (dat0 V c).arrAt_forall_of_covers 7 (fun (i : (Sh 4096 2048).Idx) (v : EReal) => v = ((U 256 G (i 0).val (i 1).val : ℝ) : EReal)) (by decide +kernel) (fun t hf y => ?_) i
  blk_simp
  rw [after0_7]
  refine (hG t y).trans ?_
  have e := U_at 256 G (t.val / 8) (t.val % 8) (y 0).val (y 1).val (y 0).isLt (y 1).isLt
  simp only [ix0_7]
  exact congrArg _ e.symm

theorem ix1_8 : ∀ t : Fin cfg1.N, win1_8.index t = ![t.val / 8, t.val % 8] := (by decide +kernel : ∀ t : Fin grid1.N, win1_8.index t = ![t.val / 8, t.val % 8])

theorem arr1_8 {G : ℕ → ℕ → ℕ → ℕ → ℝ} (hG : ∀ t : Fin cfg1.N, R2 (a := 2048) (b := 256) (outsAt1 V c t.val t.isLt).1 (G (t.val / 8) (t.val % 8))) :
    R2 (a := 4096) (b := 2048) ((dat1 V c).arrAt 8 cfg1.N) (U 256 G) := by
  intro i
  refine (dat1 V c).arrAt_forall_of_covers 8 (fun (i : (Sh 4096 2048).Idx) (v : EReal) => v = ((U 256 G (i 0).val (i 1).val : ℝ) : EReal)) (by decide +kernel) (fun t hf y => ?_) i
  blk_simp
  rw [after1_8]
  refine (hG t y).trans ?_
  have e := U_at 256 G (t.val / 8) (t.val % 8) (y 0).val (y 1).val (y 0).isLt (y 1).isLt
  simp only [ix1_8]
  exact congrArg _ e.symm

theorem ix1_9 : ∀ t : Fin cfg1.N, win1_9.index t = ![t.val / 8, t.val % 8] := (by decide +kernel : ∀ t : Fin grid1.N, win1_9.index t = ![t.val / 8, t.val % 8])

theorem arr1_9 {G : ℕ → ℕ → ℕ → ℕ → ℝ} (hG : ∀ t : Fin cfg1.N, R2 (a := 2048) (b := 256) (outsAt1 V c t.val t.isLt).2.1 (G (t.val / 8) (t.val % 8))) :
    R2 (a := 4096) (b := 2048) ((dat1 V c).arrAt 9 cfg1.N) (U 256 G) := by
  intro i
  refine (dat1 V c).arrAt_forall_of_covers 9 (fun (i : (Sh 4096 2048).Idx) (v : EReal) => v = ((U 256 G (i 0).val (i 1).val : ℝ) : EReal)) (by decide +kernel) (fun t hf y => ?_) i
  blk_simp
  rw [after1_9]
  refine (hG t y).trans ?_
  have e := U_at 256 G (t.val / 8) (t.val % 8) (y 0).val (y 1).val (y 0).isLt (y 1).isLt
  simp only [ix1_9]
  exact congrArg _ e.symm

theorem ix1_10 : ∀ t : Fin cfg1.N, win1_10.index t = ![t.val / 8, 0] := (by decide +kernel : ∀ t : Fin grid1.N, win1_10.index t = ![t.val / 8, 0])

theorem arr1_10 {G : ℕ → ℕ → ℕ → ℕ → ℝ} (hG : ∀ t : Fin cfg1.N, t.val % 8 = 7 → R2 (a := 2048) (b := 128) (outsAt1 V c t.val t.isLt).2.2 (G (t.val / 8) 0)) :
    R2 (a := 4096) (b := 128) ((dat1 V c).arrAt 10 cfg1.N) (U 128 G) := by
  intro i
  refine (dat1 V c).arrAt_forall_of_covers 10 (fun (i : (Sh 4096 128).Idx) (v : EReal) => v = ((U 128 G (i 0).val (i 1).val : ℝ) : EReal)) (by decide +kernel) (fun t hf y => ?_) i
  blk_simp
  rw [after1_10]
  refine (hG t ((flush1_10 t).mp hf) y).trans ?_
  have e := U_at 128 G (t.val / 8) 0 (y 0).val (y 1).val (y 0).isLt (y 1).isLt
  simp only [ix1_10]
  exact congrArg _ e.symm

theorem ix0_6 : ∀ t : Fin cfg0.N, win0_6.index t = ![t.val % 8, t.val / 8, 0] := (by decide +kernel : ∀ t : Fin grid0.N, win0_6.index t = ![t.val % 8, t.val / 8, 0])

theorem arr0_6 {F : ℕ → ℕ → ℕ → ℝ} (hG : ∀ t : Fin cfg0.N, R3 (a := 2048) (outsAt0 V c t).2.1 (F (t.val / 8) (t.val % 8))) :
    R3A ((dat0 V c).arrAt 6 cfg0.N) F := by
  intro i
  refine (dat0 V c).arrAt_forall_of_covers 6 (fun (i : (⟨3, ![8, 4096, 1]⟩ : Shape).Idx) (v : EReal) => v = ((F ((i 1).val / 2048) (i 0).val ((i 1).val % 2048) : ℝ) : EReal)) (by decide +kernel) (fun t hf y => ?_) i
  blk_simp
  rw [after0_6]
  refine (hG t y).trans ?_
  simp only [ix0_6]
  exact congrArg _ (F_at F (t.val / 8) (t.val % 8) (y 1).val (y 1).isLt).symm

theorem pt0_5 (t : Fin cfg0.N) {fq fkv fkr fcs fsn : ℕ → ℕ → ℝ} (h0 : R2 (a := 2048) (b := 256) (iblk0 V c 0 t) fq) (h1 : R2 (a := 2048) (b := 256) (iblk0 V c 1 t) fkv) (h2 : R2 (a := 2048) (b := 128) (iblk0 V c 2 t) fkr) (h3 : R2 (a := 2048) (b := 128) (iblk0 V c 3 t) fcs) (h4 : R2 (a := 2048) (b := 128) (iblk0 V c 4 t) fsn) :
    R2 (a := 2048) (b := 128) (outsAt0 V c t).1 (sO (qsF fq fcs fsn) (keyF fkv fkr) (valF fkv)) := by
  dsimp only [outsAt0]
  unfold out0_A_5
  rw [View.read_writes_junk_eq_canon]
  exact o_r2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) h0 h1 h2 h3 h4

theorem pt0_6 (t : Fin cfg0.N) {fq fkv fkr fcs fsn : ℕ → ℕ → ℝ} (h0 : R2 (a := 2048) (b := 256) (iblk0 V c 0 t) fq) (h1 : R2 (a := 2048) (b := 256) (iblk0 V c 1 t) fkv) (h2 : R2 (a := 2048) (b := 128) (iblk0 V c 2 t) fkr) (h3 : R2 (a := 2048) (b := 128) (iblk0 V c 3 t) fcs) (h4 : R2 (a := 2048) (b := 128) (iblk0 V c 4 t) fsn) :
    R3 (a := 2048) (outsAt0 V c t).2.1 fun i => Real.log (sZ (qsF fq fcs fsn) (keyF fkv fkr) i) := by
  dsimp only [outsAt0]
  unfold out0_A_6
  rw [View.read_writes_junk_eq_canon]
  exact lse_r2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) h0 h1 h2 h3 h4

theorem pt0_7 (t : Fin cfg0.N) {fq fkv fkr fcs fsn : ℕ → ℕ → ℝ} (h0 : R2 (a := 2048) (b := 256) (iblk0 V c 0 t) fq) (h1 : R2 (a := 2048) (b := 256) (iblk0 V c 1 t) fkv) (h2 : R2 (a := 2048) (b := 128) (iblk0 V c 2 t) fkr) (h3 : R2 (a := 2048) (b := 128) (iblk0 V c 3 t) fcs) (h4 : R2 (a := 2048) (b := 128) (iblk0 V c 4 t) fsn) :
    R2 (a := 2048) (b := 256) (outsAt0 V c t).2.2 (qsF fq fcs fsn) := by
  dsimp only [outsAt0]
  unfold out0_A_7
  rw [View.read_writes_junk_eq_canon]
  exact q_r2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) h0 h3 h4

theorem pt1_8 (t : Fin cfg1.N) {fq fkv fkr fo fw fcs fsn : ℕ → ℕ → ℝ} {L : ℕ → ℝ} (h0 : R2 (a := 2048) (b := 256) (iblk1 V c 0 t) fq) (h1 : R2 (a := 2048) (b := 256) (iblk1 V c 1 t) fkv) (h2 : R2 (a := 2048) (b := 128) (iblk1 V c 2 t) fkr) (h3 : R2 (a := 2048) (b := 128) (iblk1 V c 3 t) fo) (h4 : R2 (a := 2048) (b := 128) (iblk1 V c 4 t) fw) (h5 : R3 (a := 2048) (iblk1 V c 5 t) L) (h6 : R2 (a := 2048) (b := 128) (iblk1 V c 6 t) fcs) (h7 : R2 (a := 2048) (b := 128) (iblk1 V c 7 t) fsn) :
    R2 (a := 2048) (b := 256) (outsAt1 V c t.val t.isLt).1 (dqF (sDQ fq (keyF fkv fkr) (valF fkv) L fw fo) fcs fsn) := by
  by_cases hc : t.val % 8 = 0
  · rw [outsAt1_A V c t hc]
    dsimp only
    unfold out1_A_8
    rw [View.read_writes_junk_eq_canon]
    exact A.dq_r2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr hc) (iblk1 V c 0 t) (iblk1 V c 1 t) (iblk1 V c 2 t) (iblk1 V c 3 t) (iblk1 V c 4 t) (iblk1 V c 5 t) (iblk1 V c 6 t) (iblk1 V c 7 t) h0 h1 h2 h3 h4 h5 h6 h7
  · rw [outsAt1_B V c t hc]
    dsimp only
    unfold out1_B_8
    rw [View.read_writes_junk_eq_canon]
    exact B.dq_r2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => hc ((hcond1_0 t).mp h)) (iblk1 V c 0 t) (iblk1 V c 1 t) (iblk1 V c 2 t) (iblk1 V c 3 t) (iblk1 V c 4 t) (iblk1 V c 5 t) (iblk1 V c 6 t) (iblk1 V c 7 t) _ h0 h1 h2 h3 h4 h5 h6 h7

theorem pt1_9 (t : Fin cfg1.N) {fq fkv fkr fo fw fcs fsn : ℕ → ℕ → ℝ} {L : ℕ → ℝ} (h0 : R2 (a := 2048) (b := 256) (iblk1 V c 0 t) fq) (h1 : R2 (a := 2048) (b := 256) (iblk1 V c 1 t) fkv) (h2 : R2 (a := 2048) (b := 128) (iblk1 V c 2 t) fkr) (h3 : R2 (a := 2048) (b := 128) (iblk1 V c 3 t) fo) (h4 : R2 (a := 2048) (b := 128) (iblk1 V c 4 t) fw) (h5 : R3 (a := 2048) (iblk1 V c 5 t) L) (h6 : R2 (a := 2048) (b := 128) (iblk1 V c 6 t) fcs) (h7 : R2 (a := 2048) (b := 128) (iblk1 V c 7 t) fsn) :
    R2 (a := 2048) (b := 256) (outsAt1 V c t.val t.isLt).2.1 fun s d => if d < 128 then sDK fq (keyF fkv fkr) (valF fkv) L fw fo 2048 s d else sDV fq (keyF fkv fkr) L fw 2048 s (d - 128) := by
  by_cases hc : t.val % 8 = 0
  · rw [outsAt1_A V c t hc]
    dsimp only
    unfold out1_A_9
    rw [View.read_writes_junk_eq_canon]
    exact A.dkv_r2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr hc) (iblk1 V c 0 t) (iblk1 V c 1 t) (iblk1 V c 2 t) (iblk1 V c 3 t) (iblk1 V c 4 t) (iblk1 V c 5 t) (iblk1 V c 6 t) (iblk1 V c 7 t) h0 h1 h2 h3 h4 h5
  · rw [outsAt1_B V c t hc]
    dsimp only
    unfold out1_B_9
    rw [View.read_writes_junk_eq_canon]
    exact B.dkv_r2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => hc ((hcond1_0 t).mp h)) (iblk1 V c 0 t) (iblk1 V c 1 t) (iblk1 V c 2 t) (iblk1 V c 3 t) (iblk1 V c 4 t) (iblk1 V c 5 t) (iblk1 V c 6 t) (iblk1 V c 7 t) _ h0 h1 h2 h3 h4 h5

theorem pt1_10_A (t : Fin cfg1.N) (hc : t.val % 8 = 0) {fq fkv fkr fo fw fcs fsn : ℕ → ℕ → ℝ} {L : ℕ → ℝ} (h0 : R2 (a := 2048) (b := 256) (iblk1 V c 0 t) fq) (h1 : R2 (a := 2048) (b := 256) (iblk1 V c 1 t) fkv) (h2 : R2 (a := 2048) (b := 128) (iblk1 V c 2 t) fkr) (h3 : R2 (a := 2048) (b := 128) (iblk1 V c 3 t) fo) (h4 : R2 (a := 2048) (b := 128) (iblk1 V c 4 t) fw) (h5 : R3 (a := 2048) (iblk1 V c 5 t) L) (h6 : R2 (a := 2048) (b := 128) (iblk1 V c 6 t) fcs) (h7 : R2 (a := 2048) (b := 128) (iblk1 V c 7 t) fsn) :
    R2 (a := 2048) (b := 128) (outsAt1 V c t.val t.isLt).2.2 fun s d => 0 + sDK fq (keyF fkv fkr) (valF fkv) L fw fo 2048 s (128 + d) := by
  rw [outsAt1_A V c t hc]
  dsimp only
  unfold out1_A_10
  rw [View.read_writes_junk_eq_canon]
  exact A.dkr_r2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) ((hcond1_0 t).mpr hc) (iblk1 V c 0 t) (iblk1 V c 1 t) (iblk1 V c 2 t) (iblk1 V c 3 t) (iblk1 V c 4 t) (iblk1 V c 5 t) (iblk1 V c 6 t) (iblk1 V c 7 t) h0 h1 h2 h3 h4 h5

theorem pt1_10_B (t : Fin cfg1.N) (hc : ¬ t.val % 8 = 0) {fq fkv fkr fo fw fcs fsn : ℕ → ℕ → ℝ} {L : ℕ → ℝ} (h0 : R2 (a := 2048) (b := 256) (iblk1 V c 0 t) fq) (h1 : R2 (a := 2048) (b := 256) (iblk1 V c 1 t) fkv) (h2 : R2 (a := 2048) (b := 128) (iblk1 V c 2 t) fkr) (h3 : R2 (a := 2048) (b := 128) (iblk1 V c 3 t) fo) (h4 : R2 (a := 2048) (b := 128) (iblk1 V c 4 t) fw) (h5 : R3 (a := 2048) (iblk1 V c 5 t) L) (h6 : R2 (a := 2048) (b := 128) (iblk1 V c 6 t) fcs) (h7 : R2 (a := 2048) (b := 128) (iblk1 V c 7 t) fsn) {g : ℕ → ℕ → ℝ}
    (hg : R2 (a := 2048) (b := 128) (outsAt1 V c (t.val - 1) (Nat.lt_of_le_of_lt (Nat.sub_le _ _) t.isLt)).2.2 g) :
    R2 (a := 2048) (b := 128) (outsAt1 V c t.val t.isLt).2.2 fun s d => g s d + sDK fq (keyF fkv fkr) (valF fkv) L fw fo 2048 s (128 + d) := by
  rw [outsAt1_B V c t hc]
  dsimp only
  unfold out1_B_10
  rw [View.read_writes_junk_eq_canon]
  exact B.dkr_r2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _) (fun h => hc ((hcond1_0 t).mp h)) (iblk1 V c 0 t) (iblk1 V c 1 t) (iblk1 V c 2 t) (iblk1 V c 3 t) (iblk1 V c 4 t) (iblk1 V c 5 t) (iblk1 V c 6 t) (iblk1 V c 7 t) _ h0 h1 h2 h3 h4 h5 hg

end arrays

end Cert.Attn
-- ==== Proof.Heads.lean ====
/- The two calls together: the arrays they leave, from the arrays the program hands them. -/
module

public import proofs.«01_k».proof.Proof.Arr

@[expose] public section

set_option maxRecDepth 16384

noncomputable section

namespace Cert.Attn
open Idealize.ShloMosaic Idealize.ShloMosaic.TcCoe Idealize.SL Idealize.SL.Sem Cert.KernelIdeal Cert.KernelIdeal.Gen
open scoped BigOperators
open Finset (range)

section heads

variable (fQ fKV fKR fCS fSN fW : ℕ → ℕ → ℝ)

/-- A head's scaled and rotated queries. -/
def qT (b h : ℕ) : ℕ → ℕ → ℝ := qsF (T 256 fQ b h) (T 128 fCS b 0) (T 128 fSN b 0)

/-- A head's keys. -/
def kT (b h : ℕ) : ℕ → ℕ → ℝ := keyF (T 256 fKV b h) (T 128 fKR b 0)

/-- A head's values. -/
def vT (b h : ℕ) : ℕ → ℕ → ℝ := valF (T 256 fKV b h)

/-- A head's output. -/
def oT (b h : ℕ) : ℕ → ℕ → ℝ := sO (qT fQ fCS fSN b h) (kT fKV fKR b h) (vT fKV b h)

/-- A head's log-sums. -/
def lT (b h i : ℕ) : ℝ := Real.log (sZ (qT fQ fCS fSN b h) (kT fKV fKR b h) i)

/-- A head's gradient of the queries. -/
def dqT (b h : ℕ) : ℕ → ℕ → ℝ :=
  dqF (sDQ (qT fQ fCS fSN b h) (kT fKV fKR b h) (vT fKV b h) (lT fQ fKV fKR fCS fSN b h) (T 128 fW b h) (oT fQ fKV fKR fCS fSN b h))
    (T 128 fCS b 0) (T 128 fSN b 0)

/-- A head's gradient of its keys, the shared ones among them. -/
def dkT (b h : ℕ) : ℕ → ℕ → ℝ :=
  sDK (qT fQ fCS fSN b h) (kT fKV fKR b h) (vT fKV b h) (lT fQ fKV fKR fCS fSN b h) (T 128 fW b h) (oT fQ fKV fKR fCS fSN b h) 2048

/-- A head's gradient of its values. -/
def dvT (b h : ℕ) : ℕ → ℕ → ℝ := sDV (qT fQ fCS fSN b h) (kT fKV fKR b h) (lT fQ fKV fKR fCS fSN b h) (T 128 fW b h) 2048

/-- A head's gradient of its own keys and values, side by side. -/
def dkvT (b h s d : ℕ) : ℝ := if d < 128 then dkT fQ fKV fKR fCS fSN fW b h s d else dvT fQ fKV fKR fCS fSN fW b h s (d - 128)

/-- The gradient of the shared keys, from the first `n` heads. -/
def dkrT (n b s d : ℕ) : ℝ := ∑ h ∈ range n, dkT fQ fKV fKR fCS fSN fW b h s (128 + d)

variable (V : (c : Dev nD) → (b : Ref sig .tc) → Buf (Elt Ideal) ((c : Thread nD τ).loc b)) (c : Dev nD)

/-- The output that the forward call leaves. -/
theorem fwd_o (h0 : R2 (a := 4096) (b := 2048) (V c main_v3) fQ) (h1 : R2 (a := 4096) (b := 2048) (V c main_v5) fKV)
    (h2 : R2 (a := 4096) (b := 128) (V c main_v8) fKR) (h3 : R2 (a := 4096) (b := 128) (V c main_v14) fCS) (h4 : R2 (a := 4096) (b := 128) (V c main_v16) fSN) :
    R2 (a := 4096) (b := 1024) ((dat0 V c).arrAt 5 cfg0.N) (U 128 (oT fQ fKV fKR fCS fSN)) :=
  arr0_5 V c fun t => pt0_5 V c t (in0_0 V c h0 t) (in0_1 V c h1 t) (in0_2 V c h2 t) (in0_3 V c h3 t) (in0_4 V c h4 t)

/-- The log-sums that the forward call leaves. -/
theorem fwd_lse (h0 : R2 (a := 4096) (b := 2048) (V c main_v3) fQ) (h1 : R2 (a := 4096) (b := 2048) (V c main_v5) fKV)
    (h2 : R2 (a := 4096) (b := 128) (V c main_v8) fKR) (h3 : R2 (a := 4096) (b := 128) (V c main_v14) fCS) (h4 : R2 (a := 4096) (b := 128) (V c main_v16) fSN) :
    R3A ((dat0 V c).arrAt 6 cfg0.N) (lT fQ fKV fKR fCS fSN) :=
  arr0_6 V c fun t => pt0_6 V c t (in0_0 V c h0 t) (in0_1 V c h1 t) (in0_2 V c h2 t) (in0_3 V c h3 t) (in0_4 V c h4 t)

/-- The scaled queries that the forward call leaves. -/
theorem fwd_qs (h0 : R2 (a := 4096) (b := 2048) (V c main_v3) fQ) (h1 : R2 (a := 4096) (b := 2048) (V c main_v5) fKV)
    (h2 : R2 (a := 4096) (b := 128) (V c main_v8) fKR) (h3 : R2 (a := 4096) (b := 128) (V c main_v14) fCS) (h4 : R2 (a := 4096) (b := 128) (V c main_v16) fSN) :
    R2 (a := 4096) (b := 2048) ((dat0 V c).arrAt 7 cfg0.N) (U 256 (qT fQ fCS fSN)) :=
  arr0_7 V c fun t => pt0_7 V c t (in0_0 V c h0 t) (in0_1 V c h1 t) (in0_2 V c h2 t) (in0_3 V c h3 t) (in0_4 V c h4 t)

/-- The arrays that the backward call reads. -/
structure In1 : Prop where
  q : R2 (a := 4096) (b := 2048) (V c main_v17_2) (U 256 (qT fQ fCS fSN))
  kv : R2 (a := 4096) (b := 2048) (V c main_v5) fKV
  kr : R2 (a := 4096) (b := 128) (V c main_v8) fKR
  o : R2 (a := 4096) (b := 1024) (V c main_v17_0) (U 128 (oT fQ fKV fKR fCS fSN))
  w : R2 (a := 4096) (b := 1024) (V c main_v10) fW
  l : R3A (V c main_v17_1) (lT fQ fKV fKR fCS fSN)
  cs : R2 (a := 4096) (b := 128) (V c main_v14) fCS
  sn : R2 (a := 4096) (b := 128) (V c main_v16) fSN

variable {fQ fKV fKR fCS fSN fW V c}

theorem In1.q' (H : In1 fQ fKV fKR fCS fSN fW V c) (t : Fin cfg1.N) : R2 (a := 2048) (b := 256) (iblk1 V c 0 t) (qT fQ fCS fSN (t.val / 8) (t.val % 8)) :=
  (in1_0 V c H.q t).congr fun s d hs hd => T_U _ _ _ _ _ _ hs hd

theorem In1.o' (H : In1 fQ fKV fKR fCS fSN fW V c) (t : Fin cfg1.N) : R2 (a := 2048) (b := 128) (iblk1 V c 3 t) (oT fQ fKV fKR fCS fSN (t.val / 8) (t.val % 8)) :=
  (in1_3 V c H.o t).congr fun s d hs hd => T_U _ _ _ _ _ _ hs hd

/-- The gradient of the queries that the backward call leaves. -/
theorem In1.dq (H : In1 fQ fKV fKR fCS fSN fW V c) :
    R2 (a := 4096) (b := 2048) ((dat1 V c).arrAt 8 cfg1.N) (U 256 (dqT fQ fKV fKR fCS fSN fW)) :=
  arr1_8 V c fun t => pt1_8 V c t (H.q' t) (in1_1 V c H.kv t) (in1_2 V c H.kr t) (H.o' t) (in1_4 V c H.w t) (in1_5 V c H.l t) (in1_6 V c H.cs t) (in1_7 V c H.sn t)

/-- The gradient of the keys and values that the backward call leaves. -/
theorem In1.dkv (H : In1 fQ fKV fKR fCS fSN fW V c) :
    R2 (a := 4096) (b := 2048) ((dat1 V c).arrAt 9 cfg1.N) (U 256 (dkvT fQ fKV fKR fCS fSN fW)) :=
  arr1_9 V c fun t => pt1_9 V c t (H.q' t) (in1_1 V c H.kv t) (in1_2 V c H.kr t) (H.o' t) (in1_4 V c H.w t) (in1_5 V c H.l t) (in1_6 V c H.cs t) (in1_7 V c H.sn t)

/-- The running sum over the heads of the shared keys' gradient. -/
theorem In1.acc (H : In1 fQ fKV fKR fCS fSN fW V c) : ∀ (n : ℕ) (hn : n < cfg1.N),
    R2 (a := 2048) (b := 128) (outsAt1 V c n hn).2.2 (dkrT fQ fKV fKR fCS fSN fW (n % 8 + 1) (n / 8))
  | n, hn => by
    by_cases hc : n % 8 = 0
    · refine (pt1_10_A V c ⟨n, hn⟩ hc (H.q' _) (in1_1 V c H.kv _) (in1_2 V c H.kr _) (H.o' _) (in1_4 V c H.w _) (in1_5 V c H.l _) (in1_6 V c H.cs _) (in1_7 V c H.sn _)).congr fun s d hs hd => ?_
      unfold dkrT
      rw [hc, Finset.sum_range_succ, Finset.sum_range_zero]
      rfl
    · have ih := In1.acc H (n - 1) (Nat.lt_of_le_of_lt (Nat.sub_le _ _) hn)
      refine (pt1_10_B V c ⟨n, hn⟩ hc (H.q' _) (in1_1 V c H.kv _) (in1_2 V c H.kr _) (H.o' _) (in1_4 V c H.w _) (in1_5 V c H.l _) (in1_6 V c H.cs _) (in1_7 V c H.sn _) ih).congr fun s d hs hd => ?_
      unfold dkrT
      rw [show (n - 1) % 8 + 1 = n % 8 by omega, show (n - 1) / 8 = n / 8 by omega, Finset.sum_range_succ]
      rfl
  termination_by n => n
  decreasing_by omega

/-- The gradient of the shared keys that the backward call leaves. -/
theorem In1.dkr (H : In1 fQ fKV fKR fCS fSN fW V c) :
    R2 (a := 4096) (b := 128) ((dat1 V c).arrAt 10 cfg1.N) (U 128 fun b _ => dkrT fQ fKV fKR fCS fSN fW 8 b) :=
  arr1_10 V c fun t ht => by
    have h := H.acc t.val t.isLt
    rw [ht] at h
    exact h

end heads

end Cert.Attn
-- ==== Proof.Host.lean ====
/- The arrays that the kernel's host part hands to the two calls. -/
module

public import proofs.«01_k».proof.Proof.Heads
public import Idealize.ShloMosaic.Lib.StableHlo.RunRead
public import Idealize.ShloMosaic.Lib.KernelVsHost

@[expose] public section

set_option maxRecDepth 16384

noncomputable section

namespace Cert.Attn
open Idealize.ShloMosaic Idealize.ShloMosaic.TcCoe Idealize.SL Idealize.SL.Sem Cert.KernelIdeal Cert.KernelIdeal.Gen
open scoped BigOperators
open Finset (range)

/-- An argument of two batch elements holds the real `f` of the row among both and of the column. -/
def RA {n : ℕ} (A : (⟨3, ![2, 2048, n]⟩ : Shape).Idx → EReal) (f : ℕ → ℕ → ℝ) : Prop :=
  ∀ i : (⟨3, ![2, 2048, n]⟩ : Shape).Idx, A i = ((f ((i 0).val * 2048 + (i 1).val) (i 2).val : ℝ) : EReal)

/-- The queries, each head's columns filled up to 256. -/
def pQ (a : ℕ → ℕ → ℝ) (r c : ℕ) : ℝ := if c % 256 < 192 then a r (c / 256 * 192 + c % 256) else 0

/-- The shared keys, their columns filled up to 128. -/
def pKR (a : ℕ → ℕ → ℝ) (r c : ℕ) : ℝ := if c < 64 then a r c else 0

/-- The cosines on 128 lanes. -/
def pCS (a : ℕ → ℕ → ℝ) (r c : ℕ) : ℝ := if c < 32 then a r c else if c < 64 then a r (c - 32) else 0

/-- The signed sines on 128 lanes. -/
def pSN (a : ℕ → ℕ → ℝ) (r c : ℕ) : ℝ := if c < 32 then -a r c else if c < 64 then a r (c - 32) else 0

variable (m : (ℓ : Loc nD τ sig) → Buf (Elt Ideal) ℓ) (ρ : Dev nD → PrngReg)

theorem RA.at {n : ℕ} {A : (⟨3, ![2, 2048, n]⟩ : Shape).Idx → EReal} {f : ℕ → ℕ → ℝ} (h : RA A f) {r c : ℕ} (hr : r / 2048 < 2) (hr' : r % 2048 < 2048) (hc : c < n) :
    A (ValueIdx.ix3 (n0 := 2) (n1 := 2048) (n2 := n) ⟨r / 2048, hr⟩ ⟨r % 2048, hr'⟩ ⟨c, hc⟩) = ((f r c : ℝ) : EReal) := by
  refine (h _).trans ?_
  show ((f (r / 2048 * 2048 + r % 2048) c : ℝ) : EReal) = _
  rw [Nat.div_add_mod']

theorem sitofp_zero : sitofp (F := Ideal) .f32 (constantI S_ 32 0#32) (Shape.Idx.first h_S_) = ((0 : ℝ) : EReal) := by
  show (((0#32 : BitVec 32).toInt : ℝ) : EReal) = _
  norm_num

theorem padQ (A : FVec Ideal S2x2048x1536 .f32) {f : ℕ → ℕ → ℝ} (h : RA A f) (j : S4096x8x256.Idx) :
    pad S4096x8x256 ![0, 0, 0] ![0, 0, 64] ![0, 0, 0] (shapeCast S4096x8x192 A shapeCasts_S2x2048x1536_S4096x8x192)
      (sitofp (F := Ideal) .f32 (constantI S_ 32 0#32)) pads_S4096x8x192_S4096x8x256_000_000_0640 h_S_ j
      = ((if (j 2).val < 192 then f (j 0).val ((j 1).val * 192 + (j 2).val) else 0 : ℝ) : EReal) := by
  by_cases hj : (j 2).val < 192
  · rw [if_pos hj, pad_apply_of_inside _ _ _ _ _ _ _ j (ValueIdx.ix3 (n0 := 4096) (n1 := 8) (n2 := 192) (j 0) (j 1) ⟨(j 2).val, hj⟩)
      (by intro a; fin_cases a <;> simp <;> rfl)]
    pointwise
    exact h.at _ _ _
  · rw [if_neg hj, pad_apply_of_not_inside _ _ _ _ _ _ _ j 2 (by
      rintro ⟨-, -, h3⟩
      refine hj ?_
      simpa using h3)]
    exact sitofp_zero

theorem castQ (A : FVec Ideal S4096x8x256 .f32) {f : ℕ → ℕ → ℝ}
    (h : ∀ j, A j = ((if (j 2).val < 192 then f (j 0).val ((j 1).val * 192 + (j 2).val) else 0 : ℝ) : EReal)) :
    R2 (a := 4096) (b := 2048) (truncf (F := Ideal) .bf16 (shapeCast S4096x2048 A shapeCasts_S4096x8x256_S4096x2048) bitsLt_bf16_f32) (pQ f) := by
  intro i
  pointwise
  rw [h]
  rfl

theorem padKR (A : FVec Ideal S2x2048x64 .f32) {f : ℕ → ℕ → ℝ} (h : RA A f) (i : S4096x128.Idx) :
    pad S4096x128 ![0, 0] ![0, 64] ![0, 0] (shapeCast S4096x64 A shapeCasts_S2x2048x64_S4096x64)
      (sitofp (F := Ideal) .f32 (constantI S_ 32 0#32)) pads_S4096x64_S4096x128_000_0640 h_S_ i = ((pKR f (i 0).val (i 1).val : ℝ) : EReal) := by
  unfold pKR
  by_cases hj : (i 1).val < 64
  · rw [if_pos hj, pad_apply_of_inside _ _ _ _ _ _ _ i (ValueIdx.ix2 (n0 := 4096) (n1 := 64) (i 0) ⟨(i 1).val, hj⟩)
      (by intro a; fin_cases a <;> simp <;> rfl)]
    pointwise
    exact h.at _ _ _
  · rw [if_neg hj, pad_apply_of_not_inside _ _ _ _ _ _ _ i 1 (by
      rintro ⟨-, -, h3⟩
      refine hj ?_
      simpa using h3)]
    exact sitofp_zero

theorem v5_at (c : Dev nD) {f : ℕ → ℕ → ℝ} (h : RA (n := 2048) (m ((c : Thread nD τ).loc main_arg1)) f) :
    R2 (a := 4096) (b := 2048) (V5 m ρ c main_v5) f := by
  intro i
  show W5 m ρ c (Proc.devRef .tc main_v5) i = _
  after_reads_simp
  pointwise
  exact h.at _ _ (i 1).isLt

theorem v10_at (c : Dev nD) {f : ℕ → ℕ → ℝ} (h : RA (n := 1024) (m ((c : Thread nD τ).loc main_arg5)) f) :
    R2 (a := 4096) (b := 1024) (V5 m ρ c main_v10) f := by
  intro i
  show W5 m ρ c (Proc.devRef .tc main_v10) i = _
  after_reads_simp
  pointwise
  exact h.at _ _ (i 1).isLt

theorem v3_at (c : Dev nD) {f : ℕ → ℕ → ℝ} (h : RA (n := 1536) (m ((c : Thread nD τ).loc main_arg0)) f) :
    R2 (a := 4096) (b := 2048) (V5 m ρ c main_v3) (pQ f) := by
  intro i
  have e : W5 m ρ c (Proc.devRef .tc main_v3) = truncf (F := Ideal) .bf16 (shapeCast S4096x2048 (pad S4096x8x256 ![0, 0, 0] ![0, 0, 64] ![0, 0, 0]
      (shapeCast S4096x8x192 (m ((c : Thread nD τ).loc main_arg0) : FVec Ideal S2x2048x1536 .f32) shapeCasts_S2x2048x1536_S4096x8x192)
      (sitofp (F := Ideal) .f32 (constantI S_ 32 0#32)) pads_S4096x8x192_S4096x8x256_000_000_0640 h_S_) shapeCasts_S4096x8x256_S4096x2048) bitsLt_bf16_f32 := by
    after_reads_simp
    simp only [StableHlo.TRef.toBuf, StableHlo.TRef.ofBuf, cast_eq]
    rfl
  show W5 m ρ c (Proc.devRef .tc main_v3) i = _
  rw [e]
  exact castQ _ (padQ _ h) i

theorem v8_at (c : Dev nD) {f : ℕ → ℕ → ℝ} (h : RA (n := 64) (m ((c : Thread nD τ).loc main_arg2)) f) :
    R2 (a := 4096) (b := 128) (V5 m ρ c main_v8) (pKR f) := by
  intro i
  have e : W5 m ρ c (Proc.devRef .tc main_v8) = truncf (F := Ideal) .bf16 (pad S4096x128 ![0, 0] ![0, 64] ![0, 0]
      (shapeCast S4096x64 (m ((c : Thread nD τ).loc main_arg2) : FVec Ideal S2x2048x64 .f32) shapeCasts_S2x2048x64_S4096x64)
      (sitofp (F := Ideal) .f32 (constantI S_ 32 0#32)) pads_S4096x64_S4096x128_000_0640 h_S_) bitsLt_bf16_f32 := by
    after_reads_simp
    simp only [StableHlo.TRef.toBuf, StableHlo.TRef.ofBuf, cast_eq]
    rfl
  show W5 m ρ c (Proc.devRef .tc main_v8) i = _
  rw [e]
  exact padKR _ h i

theorem v14_at (c : Dev nD) {f : ℕ → ℕ → ℝ} (h : RA (n := 32) (m ((c : Thread nD τ).loc main_arg3)) f) :
    R2 (a := 4096) (b := 128) (V5 m ρ c main_v14) (pCS f) := by
  intro i
  show W5 m ρ c (Proc.devRef .tc main_v14) i = _
  after_reads_simp
  pointwise
  after_reads_simp
  pointwise
  unfold pCS
  split_ifs
  · exact h.at _ _ _
  · exact h.at _ _ _
  · exact (h.at _ _ _).trans (by rw [if_pos (by omega)])
  · exact (h.at _ _ _).trans (by rw [if_pos (by omega)])
  · omega
  · exact EReal.coe_zero.symm

theorem v16_at (c : Dev nD) {f : ℕ → ℕ → ℝ} (h : RA (n := 32) (m ((c : Thread nD τ).loc main_arg4)) f) :
    R2 (a := 4096) (b := 128) (V5 m ρ c main_v16) (pSN f) := by
  intro i
  show W5 m ρ c (Proc.devRef .tc main_v16) i = _
  after_reads_simp
  pointwise
  after_reads_simp
  pointwise
  unfold pSN
  split_ifs
  · exact Eq.trans (congrArg (fun x : EReal => -x) (h.at _ _ _)) (EReal.coe_neg _).symm
  · exact Eq.trans (congrArg (fun x : EReal => -x) (h.at _ _ _)) (EReal.coe_neg _).symm
  · exact (h.at _ _ _).trans (by rw [if_pos (by omega)])
  · exact (h.at _ _ _).trans (by rw [if_pos (by omega)])
  · omega
  · exact EReal.coe_zero.symm

end Cert.Attn
-- ==== Proof.Run.lean ====
/- The kernel's run, and the arrays it ends with. -/
module

public import proofs.«01_k».proof.Proof.Host

@[expose] public section

set_option maxRecDepth 16384

noncomputable section

namespace Cert.Attn
open Idealize.ShloMosaic Idealize.ShloMosaic.TcCoe Idealize.SL Idealize.SL.BI Idealize.SL.Sem Cert.KernelIdeal Cert.KernelIdeal.Gen
open Idealize.ShloMosaic.Tactic Idealize.SL.RA
open scoped Idealize.SL.BI
open Idealize.SL.BI.BIBase Idealize.SL.BI.Laws Idealize.SL.ProofMode
open Idealize.ShloMosaic.Rounds
open Idealize.ShloMosaic.Pipeline (Dat Cfg Window BodyObligation cellOf)
open scoped BigOperators
open Finset (range)

variable (m : (ℓ : Loc nD τ sig) → Buf (Elt Ideal) ℓ) (ρ : Dev nD → PrngReg)

set_option backward.isDefEq.respectTransparency.types false in
/-- Every weakly fair execution of the kernel ends with its results as the segments leave them and its arguments unchanged. -/
theorem run_ki : θ_run defs (onTc (τ := τ) (main (F := Ideal))) ⟨m, fun _ => 0, ρ⟩ (fun r => (∀ c : Dev nD,
      r.2.mem ((c.tc : Thread nD τ).loc main_v17_0) = W8 m ρ c (Proc.devRef .tc main_v17_0)
      ∧ r.2.mem ((c.tc : Thread nD τ).loc main_v20) = W8 m ρ c (Proc.devRef .tc main_v20)
      ∧ r.2.mem ((c.tc : Thread nD τ).loc main_v18_1) = W8 m ρ c (Proc.devRef .tc main_v18_1)
      ∧ r.2.mem ((c.tc : Thread nD τ).loc main_v21) = W8 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨h c _ (mem_uc main_v17_0 (by decide)), h c _ (mem_uc main_v20 (by decide)), h c _ (mem_uc main_v18_1 (by decide)), h c _ (mem_uc main_v21 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩), funext fun g => hz g (.inr (no_unscoped g.2))⟩)

/-- The kernel's arguments hold reals. -/
structure Args (c : Dev nD) (a0 a1 a2 a3 a4 a5 : ℕ → ℕ → ℝ) : Prop where
  q : RA (n := 1536) (m ((c : Thread nD τ).loc main_arg0)) a0
  kv : RA (n := 2048) (m ((c : Thread nD τ).loc main_arg1)) a1
  kr : RA (n := 64) (m ((c : Thread nD τ).loc main_arg2)) a2
  cs : RA (n := 32) (m ((c : Thread nD τ).loc main_arg3)) a3
  sn : RA (n := 32) (m ((c : Thread nD τ).loc main_arg4)) a4
  w : RA (n := 1024) (m ((c : Thread nD τ).loc main_arg5)) a5

variable {m ρ} {c : Dev nD} {a0 a1 a2 a3 a4 a5 : ℕ → ℕ → ℝ}

theorem Args.o6 (H : Args m c a0 a1 a2 a3 a4 a5) : R2 (a := 4096) (b := 1024) (W6 m ρ c (Proc.devRef .tc main_v17_0)) (U 128 (oT (pQ a0) a1 (pKR a2) (pCS a3) (pSN a4))) := by
  have e := W6_arr m ρ c 5
  exact fun i => (congrFun e i).trans (fwd_o _ _ _ _ _ (V5 m ρ) c (v3_at m ρ c H.q) (v5_at m ρ c H.kv) (v8_at m ρ c H.kr) (v14_at m ρ c H.cs) (v16_at m ρ c H.sn) i)

theorem Args.l6 (H : Args m c a0 a1 a2 a3 a4 a5) : R3A (W6 m ρ c (Proc.devRef .tc main_v17_1)) (lT (pQ a0) a1 (pKR a2) (pCS a3) (pSN a4)) := by
  have e := W6_arr m ρ c 6
  exact fun i => (congrFun e i).trans (fwd_lse _ _ _ _ _ (V5 m ρ) c (v3_at m ρ c H.q) (v5_at m ρ c H.kv) (v8_at m ρ c H.kr) (v14_at m ρ c H.cs) (v16_at m ρ c H.sn) i)

theorem Args.q6 (H : Args m c a0 a1 a2 a3 a4 a5) : R2 (a := 4096) (b := 2048) (W6 m ρ c (Proc.devRef .tc main_v17_2)) (U 256 (qT (pQ a0) (pCS a3) (pSN a4))) := by
  have e := W6_arr m ρ c 7
  exact fun i => (congrFun e i).trans (fwd_qs _ _ _ _ _ (V5 m ρ) c (v3_at m ρ c H.q) (v5_at m ρ c H.kv) (v8_at m ρ c H.kr) (v14_at m ρ c H.cs) (v16_at m ρ c H.sn) i)

theorem Args.in1 (H : Args m c a0 a1 a2 a3 a4 a5) : In1 (pQ a0) a1 (pKR a2) (pCS a3) (pSN a4) a5 (V6 m ρ) c where
  q := H.q6
  kv := fun i => (congrFun (W6_of m ρ c main_v5 (by decide)) i).trans (v5_at m ρ c H.kv i)
  kr := fun i => (congrFun (W6_of m ρ c main_v8 (by decide)) i).trans (v8_at m ρ c H.kr i)
  o := H.o6
  w := fun i => (congrFun (W6_of m ρ c main_v10 (by decide)) i).trans (v10_at m ρ c H.w i)
  l := H.l6
  cs := fun i => (congrFun (W6_of m ρ c main_v14 (by decide)) i).trans (v14_at m ρ c H.cs i)
  sn := fun i => (congrFun (W6_of m ρ c main_v16 (by decide)) i).trans (v16_at m ρ c H.sn i)

/-- The attention's output at the end. -/
theorem Args.o (H : Args m c a0 a1 a2 a3 a4 a5) : R2 (a := 4096) (b := 1024) (W8 m ρ c (Proc.devRef .tc main_v17_0)) (U 128 (oT (pQ a0) a1 (pKR a2) (pCS a3) (pSN a4))) :=
  fun i => (congrFun ((W8_of m ρ c main_v17_0 (by decide)).trans (W7_of m ρ c main_v17_0 (by decide))) i).trans (H.o6 i)

/-- The keys' and values' gradient at the end. -/
theorem Args.dkv (H : Args m c a0 a1 a2 a3 a4 a5) : R2 (a := 4096) (b := 2048) (W8 m ρ c (Proc.devRef .tc main_v18_1)) (U 256 (dkvT (pQ a0) a1 (pKR a2) (pCS a3) (pSN a4) a5)) :=
  fun i => (congrFun ((W8_of m ρ c main_v18_1 (by decide)).trans (W7_arr m ρ c 9)) i).trans (H.in1.dkv i)

theorem dkr_cut (A : FVec Ideal S4096x128 .f32) {f : ℕ → ℕ → ℝ} (h : R2 (a := 4096) (b := 128) A f) (i : S4096x64.Idx) :
    extractStridedSlice S4096x64 ![0, 0] A slices_S4096x128_S4096x64_0_0 i = ((f (i 0).val (i 1).val : ℝ) : EReal) := by
  pointwise
  exact h _

theorem dq_cut (A : FVec Ideal S4096x2048 .bf16) {f : ℕ → ℕ → ℝ} (h : R2 (a := 4096) (b := 2048) A f) (i : S4096x8x192.Idx) :
    extractStridedSlice S4096x8x192 ![0, 0, 0] (shapeCast S4096x8x256 A shapeCasts_S4096x2048_S4096x8x256) slices_S4096x8x256_S4096x8x192_0_0_0 i
      = ((f (i 0).val ((i 1).val * 256 + (i 2).val) : ℝ) : EReal) := by
  pointwise
  exact h _

/-- The shared keys' gradient at the end. -/
theorem Args.dkr (H : Args m c a0 a1 a2 a3 a4 a5) : R2 (a := 4096) (b := 64) (W8 m ρ c (Proc.devRef .tc main_v21)) (U 128 fun b _ => dkrT (pQ a0) a1 (pKR a2) (pCS a3) (pSN a4) a5 8 b) := by
  have e : W8 m ρ c (Proc.devRef .tc main_v21) = extractStridedSlice S4096x64 ![0, 0] (W7 m ρ c (Proc.devRef .tc main_v18_2) : FVec Ideal S4096x128 .f32) slices_S4096x128_S4096x64_0_0 := by
    after_reads_simp
  intro i
  rw [e]
  exact dkr_cut _ (fun i => (congrFun (W7_arr m ρ c 10) i).trans (H.in1.dkr i)) i

/-- The queries' gradient at the end. -/
theorem Args.dq (H : Args m c a0 a1 a2 a3 a4 a5) (i : S4096x8x192.Idx) : W8 m ρ c (Proc.devRef .tc main_v20) i
    = ((U 256 (dqT (pQ a0) a1 (pKR a2) (pCS a3) (pSN a4) a5) (i 0).val ((i 1).val * 256 + (i 2).val) : ℝ) : EReal) := by
  have e : W8 m ρ c (Proc.devRef .tc main_v20) = extractStridedSlice S4096x8x192 ![0, 0, 0]
      (shapeCast S4096x8x256 (W7 m ρ c (Proc.devRef .tc main_v18_0) : FVec Ideal S4096x2048 .bf16) shapeCasts_S4096x2048_S4096x8x256) slices_S4096x8x256_S4096x8x192_0_0_0 := by
    after_reads_simp
    rfl
  rw [e]
  exact dq_cut _ (fun i => (congrFun (W7_arr m ρ c 8) i).trans (H.in1.dq i)) i

end Cert.Attn
-- ==== Proof.RefA.lean ====
/- The reference's forward lines, read element by element in real numbers. -/
module

public import proofs.«01_k».proof.Proof.Host
public import proofs.«01_k».proof.Proof.Gen.ReferenceIdeal.Read
public import Idealize.ShloMosaic.Lib.KernelVsHost

@[expose] public section

set_option maxRecDepth 16384

noncomputable section

namespace Cert.Attn
open Idealize.ShloMosaic Idealize.ShloMosaic.TcCoe Cert.ReferenceIdeal Cert.ReferenceIdeal.Gen Cert.ReferenceIdeal.Read
open scoped BigOperators
open Finset (range)

section ref

variable (x0 : (⟨S2x2048x1536, .f32⟩ : BufTy).Contents (Elt Ideal)) (x1 : (⟨S2x2048x2048, .f32⟩ : BufTy).Contents (Elt Ideal))
  (x2 : (⟨S2x2048x64, .f32⟩ : BufTy).Contents (Elt Ideal)) (x3 x4 : (⟨S2x2048x32, .f32⟩ : BufTy).Contents (Elt Ideal))
  (x5 : (⟨S2x2048x1024, .f32⟩ : BufTy).Contents (Elt Ideal))
  {a0 a1 a2 a3 a4 a5 : ℕ → ℕ → ℝ}
  (h0 : RA (n := 1536) x0 a0) (h1 : RA (n := 2048) x1 a1) (h2 : RA (n := 64) x2 a2) (h3 : RA (n := 32) x3 a3) (h4 : RA (n := 32) x4 a4)
  (h5 : RA (n := 1024) x5 a5)

/-- An array of four axes holds the real `f` of its coordinates. -/
def R4 {a b c d : ℕ} (A : (⟨4, ![a, b, c, d]⟩ : Shape).Idx → EReal) (f : ℕ → ℕ → ℕ → ℕ → ℝ) : Prop :=
  ∀ i : (⟨4, ![a, b, c, d]⟩ : Shape).Idx, A i = ((f (i 0).val (i 1).val (i 2).val (i 3).val : ℝ) : EReal)

theorem R4.congr {a b c d : ℕ} {A : (⟨4, ![a, b, c, d]⟩ : Shape).Idx → EReal} {f g : ℕ → ℕ → ℕ → ℕ → ℝ} (h : R4 A f)
    (e : ∀ i j k l, i < a → j < b → k < c → l < d → f i j k l = g i j k l) : R4 A g :=
  fun i => (h i).trans (congrArg _ (e _ _ _ _ (i 0).isLt (i 1).isLt (i 2).isLt (i 3).isLt))

/-- A sum of products of reals, as the model's sum. -/
theorem dotE {n : ℕ} {L R : Fin n → EReal} (f g : ℕ → ℝ) (hL : ∀ k, L k = ((f k.val : ℝ) : EReal)) (hR : ∀ k, R k = ((g k.val : ℝ) : EReal)) :
    ∑ k, L k * R k = ((∑ k ∈ range n, f k * g k : ℝ) : EReal) := by
  rw [← sum_fin_coe n fun k => f k * g k]
  exact Finset.sum_congr rfl fun k _ => by rw [hL, hR, EReal.coe_mul]

theorem sumE {n : ℕ} {L : Fin n → EReal} (f : ℕ → ℝ) (hL : ∀ k, L k = ((f k.val : ℝ) : EReal)) :
    ∑ k, L k = ((∑ k ∈ range n, f k : ℝ) : EReal) := by
  rw [← sum_fin_coe n f]
  exact Finset.sum_congr rfl fun k _ => hL k

theorem addE {x y : EReal} {r s : ℝ} (h : x = r) (h' : y = s) : x + y = ((r + s : ℝ) : EReal) := by rw [h, h', EReal.coe_add]
theorem subE {x y : EReal} {r s : ℝ} (h : x = r) (h' : y = s) : x - y = ((r - s : ℝ) : EReal) := by rw [h, h', EReal.coe_sub]
theorem mulE {x y : EReal} {r s : ℝ} (h : x = r) (h' : y = s) : x * y = ((r * s : ℝ) : EReal) := by rw [h, h', EReal.coe_mul]
theorem negE {x : EReal} {r : ℝ} (h : x = r) : -x = ((-r : ℝ) : EReal) := by rw [h, EReal.coe_neg]
theorem divE {x y : EReal} {r s : ℝ} (h : x = r) (h' : y = s) (hs : s ≠ 0) : Ideal.div x y = ((r * s⁻¹ : ℝ) : EReal) := by
  rw [h, h', Ideal.div_coe hs, ← EReal.coe_mul, one_div]

/-- The reference's queries. -/
def gQ (a : ℕ → ℕ → ℝ) (b s h d : ℕ) : ℝ := a (b * 2048 + s) (h * 192 + d)

/-- The reference's keys and values. -/
def gKV (a : ℕ → ℕ → ℝ) (b s h d : ℕ) : ℝ := a (b * 2048 + s) (h * 256 + d)

/-- The reference's rotated queries. -/
def gR (a0 a3 a4 : ℕ → ℕ → ℝ) (b s h d : ℕ) : ℝ :=
  if d < 32 then gQ a0 b s h (128 + d) * a3 (b * 2048 + s) d - gQ a0 b s h (128 + (32 + d)) * a4 (b * 2048 + s) d
  else gQ a0 b s h (128 + (32 + (d - 32))) * a3 (b * 2048 + s) (d - 32) + gQ a0 b s h (128 + (d - 32)) * a4 (b * 2048 + s) (d - 32)

include h0 in
theorem v0_r : R4 (val_main_v0 (F := Ideal) x0) (gQ a0) := fun i => by
  have i0 : (i 0).val < 2 := (i 0).isLt
  have i1 : (i 1).val < 2048 := (i 1).isLt
  have i2 : (i 2).val < 8 := (i 2).isLt
  have i3 : (i 3).val < 192 := (i 3).isLt
  rw [val_main_v0_apply, h0]
  refine congrArg _ ?_
  unfold gQ
  refine congrArg₂ a0 ?_ ?_
  · show ((((i 0).val * 2048 + (i 1).val) * 8 + (i 2).val) * 192 + (i 3).val) / 3145728 * 2048 + ((((i 0).val * 2048 + (i 1).val) * 8 + (i 2).val) * 192 + (i 3).val) / 1536 % 2048 = _
    omega
  · show ((((i 0).val * 2048 + (i 1).val) * 8 + (i 2).val) * 192 + (i 3).val) % 1536 = _
    omega

include h1 in
theorem v3_r : R4 (val_main_v3 (F := Ideal) x1) (gKV a1) := fun i => by
  have i0 : (i 0).val < 2 := (i 0).isLt
  have i1 : (i 1).val < 2048 := (i 1).isLt
  have i2 : (i 2).val < 8 := (i 2).isLt
  have i3 : (i 3).val < 256 := (i 3).isLt
  rw [val_main_v3_apply, h1]
  refine congrArg _ ?_
  unfold gKV
  refine congrArg₂ a1 ?_ ?_
  · show ((((i 0).val * 2048 + (i 1).val) * 8 + (i 2).val) * 256 + (i 3).val) / 4194304 * 2048 + ((((i 0).val * 2048 + (i 1).val) * 8 + (i 2).val) * 256 + (i 3).val) / 2048 % 2048 = _
    omega
  · show ((((i 0).val * 2048 + (i 1).val) * 8 + (i 2).val) * 256 + (i 3).val) % 2048 = _
    omega

include h0 in
theorem v1_r : R4 (val_main_v1 (F := Ideal) x0) (gQ a0) := fun i => (val_main_v1_apply x0 i).trans (v0_r x0 h0 _)
include h0 in
theorem v2_r : R4 (val_main_v2 (F := Ideal) x0) fun b s h d => gQ a0 b s h (128 + d) := fun i => (val_main_v2_apply x0 i).trans (v0_r x0 h0 _)
include h1 in
theorem v4_r : R4 (val_main_v4 (F := Ideal) x1) (gKV a1) := fun i => (val_main_v4_apply x1 i).trans (v3_r x1 h1 _)
include h1 in
theorem v5_r : R4 (val_main_v5 (F := Ideal) x1) fun b s h d => gKV a1 b s h (128 + d) := fun i => (val_main_v5_apply x1 i).trans (v3_r x1 h1 _)
include h3 in
theorem v6_r : R4 (val_main_v6 (F := Ideal) x3) fun b s _ d => a3 (b * 2048 + s) d := fun i => (val_main_v6_apply x3 i).trans (h3 _)
include h4 in
theorem v7_r : R4 (val_main_v7 (F := Ideal) x4) fun b s _ d => a4 (b * 2048 + s) d := fun i => (val_main_v7_apply x4 i).trans (h4 _)
include h0 in
theorem v8_r : R4 (val_main_v8 (F := Ideal) x0) fun b s h d => gQ a0 b s h (128 + d) := fun i => (val_main_v8_apply x0 i).trans (v2_r x0 h0 _)
include h0 in
theorem v9_r : R4 (val_main_v9 (F := Ideal) x0) fun b s h d => gQ a0 b s h (128 + (32 + d)) := fun i => (val_main_v9_apply x0 i).trans (v2_r x0 h0 _)

include h0 h3 h4 in
theorem v14_r : R4 (val_main_v14 (F := Ideal) x0 x3 x4) fun b s h d =>
    gQ a0 b s h (128 + d) * a3 (b * 2048 + s) d - gQ a0 b s h (128 + (32 + d)) * a4 (b * 2048 + s) d := fun i =>
  subE (mulE (v8_r x0 h0 i) ((val_main_v10_apply x3 i).trans (v6_r x3 h3 _))) (mulE (v9_r x0 h0 i) ((val_main_v12_apply x4 i).trans (v7_r x4 h4 _)))

include h0 h3 h4 in
theorem v19_r : R4 (val_main_v19 (F := Ideal) x0 x3 x4) fun b s h d =>
    gQ a0 b s h (128 + (32 + d)) * a3 (b * 2048 + s) d + gQ a0 b s h (128 + d) * a4 (b * 2048 + s) d := fun i =>
  addE (mulE (v9_r x0 h0 i) ((val_main_v15_apply x3 i).trans (v6_r x3 h3 _))) (mulE (v8_r x0 h0 i) ((val_main_v17_apply x4 i).trans (v7_r x4 h4 _)))

/-- Two arrays of 32 lanes side by side. -/
theorem cat_r (A B : (⟨4, ![2, 2048, 8, 32]⟩ : Shape).Idx → EReal) {f g : ℕ → ℕ → ℕ → ℕ → ℝ} (hA : R4 A f) (hB : R4 B g) :
    R4 (a := 2) (b := 2048) (c := 8) (d := 64) (concatenate S2x2048x8x64 3 [⟨S2x2048x8x32, A⟩, ⟨S2x2048x8x32, B⟩] concatenates_S2x2048x8x32_S2x2048x8x32_S2x2048x8x64_d3)
      fun b s h d => if d < 32 then f b s h d else g b s h (d - 32) := fun i => by
  have i3 : (i 3).val < 64 := (i 3).isLt
  pointwise
  by_cases h : (i 3).val < 32
  · rw [dif_pos h]; exact (hA _).trans (congrArg _ (if_pos h).symm)
  · rw [dif_neg h]; exact (hB _).trans (congrArg _ (if_neg h).symm)

include h0 h3 h4 in
theorem v20_r : R4 (val_main_v20 (F := Ideal) x0 x3 x4) (gR a0 a3 a4) := cat_r _ _ (v14_r x0 x3 x4 h0 h3 h4) (v19_r x0 x3 x4 h0 h3 h4)

/-- The square root of the queries' width. -/
theorem v25_r (i : S_.Idx) : val_main_v25 (F := Ideal) i = ((Real.sqrt 192 : ℝ) : EReal) := by
  rw [val_main_v25_apply, val_main_cst_apply, Ideal.hostUnary_sqrt_def]
  rw [show FloatOps.ofBits (F := Ideal) .f32 0x43400000#32 = ((192 : ℝ) : EReal) by
    simp [Ideal.ofBits, Ideal.ieee, -EReal.coe_mul]; norm_num]
  rw [Ideal.sqrt_coe, if_neg (by norm_num)]

theorem sqrt192 : Real.sqrt 192 ≠ 0 := Real.sqrt_ne_zero'.mpr (by norm_num)

/-- The reference's scores. -/
def gS (a0 a1 a2 a3 a4 : ℕ → ℕ → ℝ) (b h t s : ℕ) : ℝ :=
  ((∑ d ∈ range 128, gQ a0 b t h d * gKV a1 b s h d) + ∑ d ∈ range 64, a2 (b * 2048 + s) d * gR a0 a3 a4 b t h d) * σ

include h0 h1 h2 h3 h4 in
theorem v27_r : R4 (val_main_v27 (F := Ideal) x0 x1 x2 x3 x4) (gS a0 a1 a2 a3 a4) := fun i =>
  (divE (addE ((val_main_v21_apply x0 x1 i).trans (dotE (fun k => gQ a0 (i 0).val (i 2).val (i 1).val k) (fun k => gKV a1 (i 0).val (i 3).val (i 1).val k)
      (fun k => v1_r x0 h0 _) (fun k => v4_r x1 h1 _)))
    ((val_main_v23_apply x0 x2 x3 x4 i).trans ((val_main_v22_apply x0 x2 x3 x4 _).trans
      (dotE (fun k => a2 ((i 0).val * 2048 + (i 3).val) k) (fun k => gR a0 a3 a4 (i 0).val (i 2).val (i 1).val k)
        (fun k => h2 _) (fun k => v20_r x0 x3 x4 h0 h3 h4 _)))))
    ((val_main_v26_apply i).trans (v25_r _)) sqrt192)

end ref
end Cert.Attn
-- ==== Proof.RefB.lean ====
/- The reference's masked softmax and the gradient of its scores, in the model's terms. -/
module

public import proofs.«01_k».proof.Proof.RefA

@[expose] public section

set_option maxRecDepth 16384

noncomputable section

namespace Cert.Attn
open Idealize.ShloMosaic Idealize.ShloMosaic.TcCoe Cert.ReferenceIdeal Cert.ReferenceIdeal.Gen Cert.ReferenceIdeal.Read
open scoped BigOperators
open Finset (range)

section real

variable (a0 a1 a2 a3 a4 a5 : ℕ → ℕ → ℝ)

/-- The model's queries on the reference's arguments. -/
def mq (b h : ℕ) : ℕ → ℕ → ℝ := qT (pQ a0) (pCS a3) (pSN a4) b h

/-- The model's keys on the reference's arguments. -/
def mk (b h : ℕ) : ℕ → ℕ → ℝ := kT a1 (pKR a2) b h

theorem pQ_T (b h t d : ℕ) (hd : d < 192) : T 256 (pQ a0) b h t d = gQ a0 b t h d := by
  unfold T pQ gQ
  rw [if_pos (by omega), show (h * 256 + d) / 256 * 192 + (h * 256 + d) % 256 = h * 192 + d by omega]

theorem mq_lo (b h t d : ℕ) (hd : d < 128) : mq a0 a3 a4 b h t d = gQ a0 b t h d * σ := by
  unfold mq qT qsF
  rw [if_pos hd, pQ_T _ _ _ _ _ (by omega)]

theorem mq_hi (b h t d : ℕ) (hd : d < 64) : mq a0 a3 a4 b h t (128 + d) = gR a0 a3 a4 b t h d * σ := by
  unfold mq qT qsF
  rw [if_neg (by omega), show 128 + d - 128 = d by omega]
  unfold ropeF pair gR
  simp only
  by_cases h32 : d < 32
  · rw [if_pos h32, if_pos h32, show (d + 32) % 128 = 32 + d by omega, pQ_T _ _ _ _ _ (by omega), pQ_T _ _ _ _ _ (by omega)]
    unfold T pCS pSN
    rw [if_pos (by omega), if_pos (by omega), show 0 * 128 + d = d by omega]
    ring
  · rw [if_neg h32, if_neg h32, show (d + 96) % 128 = d - 32 by omega, pQ_T _ _ _ _ _ (by omega), pQ_T _ _ _ _ _ (by omega)]
    unfold T pCS pSN
    rw [if_neg (by omega), if_pos (by omega), if_neg (by omega), if_pos (by omega), show 0 * 128 + d - 32 = d - 32 by omega, show 32 + (d - 32) = d by omega]
    ring

theorem mk_lo (b h s d : ℕ) (hd : d < 128) : mk a1 a2 b h s d = gKV a1 b s h d := by
  unfold mk kT keyF
  rw [if_pos hd]; rfl

theorem mk_hi (b h s d : ℕ) : mk a1 a2 b h s (128 + d) = if d < 64 then a2 (b * 2048 + s) d else 0 := by
  unfold mk kT keyF
  rw [if_neg (by omega), show 128 + d - 128 = d by omega]
  unfold T pKR
  rw [show 0 * 128 + d = d by omega]

/-- The reference's scores are the model's. -/
theorem gS_eq (b h t s : ℕ) : gS a0 a1 a2 a3 a4 b h t s = sS (mq a0 a3 a4 b h) (mk a1 a2 b h) t s := by
  unfold gS sS
  rw [show (256 : ℕ) = 128 + (64 + 64) from rfl, Finset.sum_range_add _ 128 (64 + 64),
    Finset.sum_range_add (fun x => mq a0 a3 a4 b h t (128 + x) * mk a1 a2 b h s (128 + x)) 64 64, add_mul, Finset.sum_mul, Finset.sum_mul]
  have e3 : ∑ x ∈ range 64, mq a0 a3 a4 b h t (128 + (64 + x)) * mk a1 a2 b h s (128 + (64 + x)) = 0 :=
    Finset.sum_eq_zero fun x _ => by rw [mk_hi, if_neg (by omega), mul_zero]
  rw [e3, add_zero]
  refine congrArg₂ _ (Finset.sum_congr rfl fun d hd => ?_) (Finset.sum_congr rfl fun d hd => ?_)
  · have := Finset.mem_range.mp hd
    rw [mq_lo _ _ _ _ _ _ _ this, mk_lo _ _ _ _ _ _ this]; ring
  · have := Finset.mem_range.mp hd
    rw [mq_hi _ _ _ _ _ _ _ this, mk_hi, if_pos this]; ring

end real

section soft

variable (q k v w : ℕ → ℕ → ℝ) (M : ℝ) (t : ℕ)

theorem soft_z (ht : t < 2048) : ∑ s ∈ range 2048, (if s ≤ t then Real.exp (sS q k t s - M) else 0) = Real.exp (-M) * sZ q k t := by
  rw [sum_tri0 (fun s => Real.exp (sS q k t s - M)) ht, sZ, Finset.mul_sum]
  exact Finset.sum_congr rfl fun s _ => by rw [← Real.exp_add]; congr 1; ring

theorem soft_p (s : ℕ) : Real.exp (sS q k t s - M) * (Real.exp (-M) * sZ q k t)⁻¹ = sP q k (fun i => Real.log (sZ q k i)) t s := by
  have hz := sZ_pos q k t
  unfold sP
  rw [Real.exp_sub _ (Real.log _), Real.exp_log hz, sub_eq_add_neg, Real.exp_add]
  have := (Real.exp_pos (-M)).ne'
  field_simp

/-- The sum of the probabilities against the values is the output. -/
theorem soft_o (e : ℕ) : ∑ s ∈ range (t + 1), sP q k (fun i => Real.log (sZ q k i)) t s * v s e = sO q k v t e := by
  have hz := sZ_pos q k t
  unfold sO sP
  rw [Finset.sum_div]
  exact Finset.sum_congr rfl fun s _ => by rw [Real.exp_sub, Real.exp_log hz]; ring

/-- The output against its gradient is the sum of the probabilities against theirs. -/
theorem soft_del : ∑ s ∈ range (t + 1), sDP w v t s * sP q k (fun i => Real.log (sZ q k i)) t s = sDel w (sO q k v) t := by
  unfold sDel sDP
  simp only [← soft_o, Finset.mul_sum, Finset.sum_mul]
  rw [Finset.sum_comm]
  exact Finset.sum_congr rfl fun e _ => Finset.sum_congr rfl fun s _ => by ring

/-- The reference's gradient of a score is the model's. -/
theorem soft_ds (ht : t < 2048) (s : ℕ) :
    (sDP w v t s * (Real.exp (-M) * sZ q k t)⁻¹
      + (0 + -(0 + ∑ s ∈ range 2048, sDP w v t s * (1 * ((Real.exp (-M) * sZ q k t) * (Real.exp (-M) * sZ q k t))⁻¹) * (if s ≤ t then Real.exp (sS q k t s - M) else 0))))
      * Real.exp (sS q k t s - M)
      = sDS q k v (fun i => Real.log (sZ q k i)) w (sO q k v) t s := by
  have hZ : Real.exp (-M) * sZ q k t ≠ 0 := mul_ne_zero (Real.exp_pos _).ne' (sZ_pos q k t).ne'
  have e1 : ∑ s ∈ range 2048, sDP w v t s * (1 * ((Real.exp (-M) * sZ q k t) * (Real.exp (-M) * sZ q k t))⁻¹) * (if s ≤ t then Real.exp (sS q k t s - M) else 0)
      = (Real.exp (-M) * sZ q k t)⁻¹ * sDel w (sO q k v) t := by
    rw [← soft_del, Finset.mul_sum, ← sum_tri0 (n := 2048) _ ht]
    refine Finset.sum_congr rfl fun s _ => ?_
    by_cases h : s ≤ t
    · rw [if_pos h, if_pos h, ← soft_p q k M, mul_inv]; ring
    · rw [if_neg h, if_neg h, mul_zero]
  rw [e1, sDS, ← soft_p q k M]
  ring

end soft

section ref

variable (x0 : (⟨S2x2048x1536, .f32⟩ : BufTy).Contents (Elt Ideal)) (x1 : (⟨S2x2048x2048, .f32⟩ : BufTy).Contents (Elt Ideal))
  (x2 : (⟨S2x2048x64, .f32⟩ : BufTy).Contents (Elt Ideal)) (x3 x4 : (⟨S2x2048x32, .f32⟩ : BufTy).Contents (Elt Ideal))
  (x5 : (⟨S2x2048x1024, .f32⟩ : BufTy).Contents (Elt Ideal))
  {a0 a1 a2 a3 a4 a5 : ℕ → ℕ → ℝ}
  (h0 : RA (n := 1536) x0 a0) (h1 : RA (n := 2048) x1 a1) (h2 : RA (n := 64) x2 a2) (h3 : RA (n := 32) x3 a3) (h4 : RA (n := 32) x4 a4)
  (h5 : RA (n := 1024) x5 a5)

/-- The causal mask. -/
theorem v36_1_r (i : S2x8x2048x2048.Idx) : val_main_v36_1 (F := Ideal) i = 1#1 ↔ (i 3).val ≤ (i 2).val := by
  have i2 : (i 2).val < 2048 := (i 2).isLt
  have i3 : (i 3).val < 2048 := (i 3).isLt
  rw [val_main_v36_1_apply, val_main_v35_apply, val_main_v34_apply, val_main_v32_apply, val_main_v29_apply, val_main_v28_apply,
    val_main_v33_apply, val_main_v31_apply, val_main_v30_apply]
  exact WordCmp.cmpi_sge_ofNat_eq_one_iff (a := (i 2).val) (b := (i 3).val) (by omega) (by omega)

include h0 h1 h2 h3 h4 in
/-- The masked scores. -/
theorem v36_r (i : S2x8x2048x2048.Idx) : val_main_v36_0 (F := Ideal) x0 x1 x2 x3 x4 i
    = if (i 3).val ≤ (i 2).val then ((sS (mq a0 a3 a4 (i 0).val (i 1).val) (mk a1 a2 (i 0).val (i 1).val) (i 2).val (i 3).val : ℝ) : EReal) else ⊥ := by
  rw [val_main_v36_0_apply, ← gS_eq]
  show (if val_main_v36_1 (F := Ideal) i = 1#1 then val_main_v27 (F := Ideal) x0 x1 x2 x3 x4 i else val_main_call0_v2 (F := Ideal) i) = _
  refine if_congr (v36_1_r i) (v27_r x0 x1 x2 x3 x4 h0 h1 h2 h3 h4 i) ?_
  rw [val_main_call0_v2_apply, val_main_call0_v0_apply, val_main_cst_0_apply]
  exact negInf_f32

include h0 h1 h2 h3 h4 in
/-- Each row's maximum is a real. -/
theorem v44_r : ∃ M : ℕ → ℕ → ℕ → ℝ, ∀ i : S2x8x2048.Idx, val_main_v44 (F := Ideal) x0 x1 x2 x3 x4 i = ((M (i 0).val (i 1).val (i 2).val : ℝ) : EReal) := by
  have key : ∀ (b : Fin 2) (h : Fin 8) (t : Fin 2048), ∃ r : ℝ, val_main_v44 (F := Ideal) x0 x1 x2 x3 x4 (ValueIdx.ix3 (n0 := 2) (n1 := 8) (n2 := 2048) b h t) = (r : EReal) := fun b h t => by
    have hr : S2x8x2048x2048.Reduces [3] S2x8x2048 := by decide
    have e : val_main_v37 (F := Ideal) x0 x1 x2 x3 x4 (ValueIdx.ix3 (n0 := 2) (n1 := 8) (n2 := 2048) b h t)
        = (Finset.univ : Finset (Fin 2048)).fold max ⊥ fun s => val_main_v36_0 (F := Ideal) x0 x1 x2 x3 x4 (ValueIdx.ix4 (n0 := 2) (n1 := 8) (n2 := 2048) (n3 := 2048) b h t s) := by
      unfold val_main_v37
      generalize val_main_v36_0 (F := Ideal) x0 x1 x2 x3 x4 = y
      refine (Host.reduce_eq_fold_single (FloatOps.maximumf (F := Ideal) (φ := .f32)) y _ reducesTo_S2x8x2048x2048_S2x8x2048_d3 hr h_S_ _).trans ?_
      rw [val_main_cst_1_apply, show (FloatOps.ofBits (F := Ideal) .f32 0xFF800000#32) = (⊥ : EReal) from negInf_f32]
      refine congrArg (fun g => Finset.fold max ⊥ g (Finset.univ : Finset (Fin 2048))) (funext fun s => congrArg y ?_)
      exact funext fun a => Fin.ext (by match a with | ⟨0, _⟩ => rfl | ⟨1, _⟩ => rfl | ⟨2, _⟩ => rfl | ⟨3, _⟩ => rfl)
    obtain ⟨r, hr⟩ := fold_max_real (fun s : Fin 2048 => val_main_v36_0 (F := Ideal) x0 x1 x2 x3 x4 (ValueIdx.ix4 (n0 := 2) (n1 := 8) (n2 := 2048) (n3 := 2048) b h t s))
      (fun s => by rw [v36_r x0 x1 x2 x3 x4 h0 h1 h2 h3 h4]; split; exacts [EReal.coe_ne_top _, bot_ne_top]) ⟨0, by norm_num⟩
      (by rw [v36_r x0 x1 x2 x3 x4 h0 h1 h2 h3 h4]; exact (if_pos (Nat.zero_le _)).trans_ne (EReal.coe_ne_bot _))
    refine ⟨r, ?_⟩
    rw [val_main_v44_apply, val_main_v43_apply, val_main_cst_3_apply, e, hr,
      show (FloatOps.ofBits (F := Ideal) .f32 0xFF800000#32) = (⊥ : EReal) from negInf_f32]
    exact max_eq_right bot_le
  choose M hM using key
  refine ⟨fun b h t => if hb : b < 2 then if hh : h < 8 then if ht : t < 2048 then M ⟨b, hb⟩ ⟨h, hh⟩ ⟨t, ht⟩ else 0 else 0 else 0, fun i => ?_⟩
  have i0 : (i 0).val < 2 := (i 0).isLt
  have i1 : (i 1).val < 8 := (i 1).isLt
  have i2 : (i 2).val < 2048 := (i 2).isLt
  simp only [dif_pos i0, dif_pos i1, dif_pos i2]
  refine Eq.trans ?_ (hM ⟨(i 0).val, i0⟩ ⟨(i 1).val, i1⟩ ⟨(i 2).val, i2⟩)
  exact congrArg _ (ValueIdx.eq_ix3 i)

variable {M : ℕ → ℕ → ℕ → ℝ} (hM : ∀ i : S2x8x2048.Idx, val_main_v44 (F := Ideal) x0 x1 x2 x3 x4 i = ((M (i 0).val (i 1).val (i 2).val : ℝ) : EReal))

include h0 h1 h2 h3 h4 hM in
/-- The exponentials. -/
theorem v57_r : R4 (val_main_v57 (F := Ideal) x0 x1 x2 x3 x4) fun b h t s =>
    if s ≤ t then Real.exp (sS (mq a0 a3 a4 b h) (mk a1 a2 b h) t s - M b h t) else 0 := fun i => by
  rw [val_main_v57_apply, val_main_v56_apply, val_main_v55_apply, val_main_v54_apply, hM, v36_r x0 x1 x2 x3 x4 h0 h1 h2 h3 h4 i]
  show Ideal.exp (_ - ((M (i 0).val (i 1).val (i 2).val : ℝ) : EReal)) = _
  by_cases h : (i 3).val ≤ (i 2).val
  · rw [if_pos h, ← EReal.coe_sub, Ideal.exp_coe]; simp only [h, if_true]
  · rw [if_neg h, EReal.bot_sub, Ideal.exp_bot]; simp only [h, if_false]; rfl

include h0 h1 h2 h3 h4 hM in
/-- Their sums. -/
theorem v58_r (i : S2x8x2048.Idx) : val_main_v58 (F := Ideal) x0 x1 x2 x3 x4 i
    = ((Real.exp (-M (i 0).val (i 1).val (i 2).val) * sZ (mq a0 a3 a4 (i 0).val (i 1).val) (mk a1 a2 (i 0).val (i 1).val) (i 2).val : ℝ) : EReal) := by
  rw [val_main_v58_apply, val_main_cst_9_apply, ← soft_z _ _ _ _ (show (i 2).val < 2048 from (i 2).isLt)]
  refine (addE zero_f32 (sumE (fun s => if s ≤ (i 2).val then Real.exp (sS (mq a0 a3 a4 (i 0).val (i 1).val) (mk a1 a2 (i 0).val (i 1).val) (i 2).val s - M (i 0).val (i 1).val (i 2).val) else 0)
    fun s => v57_r x0 x1 x2 x3 x4 h0 h1 h2 h3 h4 hM _)).trans ?_
  rw [zero_add]

theorem zM_ne (b h t : ℕ) : Real.exp (-M b h t) * sZ (mq a0 a3 a4 b h) (mk a1 a2 b h) t ≠ 0 := mul_ne_zero (Real.exp_pos _).ne' (sZ_pos _ _ _).ne'

include h0 h1 h2 h3 h4 in
/-- The probabilities. -/
theorem v61_r : R4 (val_main_v61 (F := Ideal) x0 x1 x2 x3 x4) fun b h t s =>
    if s ≤ t then sP (mq a0 a3 a4 b h) (mk a1 a2 b h) (fun i => Real.log (sZ (mq a0 a3 a4 b h) (mk a1 a2 b h) i)) t s else 0 := fun i => by
  obtain ⟨M, hM⟩ := v44_r x0 x1 x2 x3 x4 h0 h1 h2 h3 h4
  refine (divE (v57_r x0 x1 x2 x3 x4 h0 h1 h2 h3 h4 hM i) ((val_main_v60_apply x0 x1 x2 x3 x4 i).trans ((val_main_v59_apply x0 x1 x2 x3 x4 _).trans
    (v58_r x0 x1 x2 x3 x4 h0 h1 h2 h3 h4 hM _))) (zM_ne _ _ _)).trans (congrArg _ ?_)
  by_cases h : (i 3).val ≤ (i 2).val
  · simp only [h, if_true]; exact soft_p _ _ _ _ _
  · simp only [h, if_false, zero_mul]

/-- A unit axis after three others. -/
theorem unit_r (A : S2x8x2048.Idx → EReal) {G : ℕ → ℕ → ℕ → ℝ} (hA : ∀ i : S2x8x2048.Idx, A i = ((G (i 0).val (i 1).val (i 2).val : ℝ) : EReal)) (i : S2x8x2048x1.Idx) :
    A (idx_main_v77 i) = ((G (i 0).val (i 1).val (i 2).val : ℝ) : EReal) := by
  have i0 : (i 0).val < 2 := (i 0).isLt
  have i1 : (i 1).val < 8 := (i 1).isLt
  have i2 : (i 2).val < 2048 := (i 2).isLt
  have i3 : (i 3).val < 1 := (i 3).isLt
  rw [hA]
  show ((G (((((i 0).val * 8 + (i 1).val) * 2048 + (i 2).val) * 1 + (i 3).val) / 16384) (((((i 0).val * 8 + (i 1).val) * 2048 + (i 2).val) * 1 + (i 3).val) / 2048 % 8) (((((i 0).val * 8 + (i 1).val) * 2048 + (i 2).val) * 1 + (i 3).val) % 2048) : ℝ) : EReal) = _
  rw [show ((((i 0).val * 8 + (i 1).val) * 2048 + (i 2).val) * 1 + (i 3).val) / 16384 = (i 0).val by omega,
    show ((((i 0).val * 8 + (i 1).val) * 2048 + (i 2).val) * 1 + (i 3).val) / 2048 % 8 = (i 1).val by omega,
    show ((((i 0).val * 8 + (i 1).val) * 2048 + (i 2).val) * 1 + (i 3).val) % 2048 = (i 2).val by omega]

include h5 in
theorem v68_r : R4 (val_main_v68 (F := Ideal) x5) fun b s h e => T 128 a5 b h s e := fun i => by
  have i0 : (i 0).val < 2 := (i 0).isLt
  have i1 : (i 1).val < 2048 := (i 1).isLt
  have i2 : (i 2).val < 8 := (i 2).isLt
  have i3 : (i 3).val < 128 := (i 3).isLt
  rw [val_main_v68_apply, h5]
  refine congrArg _ ?_
  unfold T
  refine congrArg₂ a5 ?_ ?_
  · show ((((i 0).val * 2048 + (i 1).val) * 8 + (i 2).val) * 128 + (i 3).val) / 2097152 * 2048 + ((((i 0).val * 2048 + (i 1).val) * 8 + (i 2).val) * 128 + (i 3).val) / 1024 % 2048 = _
    omega
  · show ((((i 0).val * 2048 + (i 1).val) * 8 + (i 2).val) * 128 + (i 3).val) % 1024 = _
    omega

include h5 in
theorem v69_r : R4 (val_main_v69 (F := Ideal) x5) fun b h e s => T 128 a5 b h s e := fun i => (val_main_v69_apply x5 i).trans (v68_r x5 h5 _)

include h1 in
theorem v5_v : R4 (val_main_v5 (F := Ideal) x1) fun b s h e => vT a1 b h s e := fun i => v5_r x1 h1 i

include h1 h5 in
/-- The gradient of the probabilities. -/
theorem v70_r : R4 (val_main_v70 (F := Ideal) x1 x5) fun b h t s => sDP (T 128 a5 b h) (vT a1 b h) t s := fun i =>
  (val_main_v70_apply x1 x5 i).trans (dotE (fun e => T 128 a5 (i 0).val (i 1).val (i 2).val e) (fun e => vT a1 (i 0).val (i 1).val (i 3).val e)
    (fun e => v69_r x5 h5 _) fun e => v5_v x1 h1 _)

include h0 h1 h2 h3 h4 h5 in
/-- The gradient of the scaled scores. -/
theorem v87_r : R4 (val_main_v87 (F := Ideal) x0 x1 x2 x3 x4 x5) fun b h t s =>
    (if s ≤ t then sDS (mq a0 a3 a4 b h) (mk a1 a2 b h) (vT a1 b h) (fun i => Real.log (sZ (mq a0 a3 a4 b h) (mk a1 a2 b h) i)) (T 128 a5 b h)
      (sO (mq a0 a3 a4 b h) (mk a1 a2 b h) (vT a1 b h)) t s else 0) * σ := fun i => by
  have i0 : (i 0).val < 2 := (i 0).isLt
  have i1 : (i 1).val < 8 := (i 1).isLt
  have i2 : (i 2).val < 2048 := (i 2).isLt
  obtain ⟨M, hM⟩ := v44_r x0 x1 x2 x3 x4 h0 h1 h2 h3 h4
  have z59 : R4 (val_main_v59 (F := Ideal) x0 x1 x2 x3 x4) fun b h t _ => Real.exp (-M b h t) * sZ (mq a0 a3 a4 b h) (mk a1 a2 b h) t := fun j =>
    (val_main_v59_apply x0 x1 x2 x3 x4 j).trans (v58_r x0 x1 x2 x3 x4 h0 h1 h2 h3 h4 hM _)
  have one : Ideal.ofBits .f32 0x3F800000#32 = ((1 : ℝ) : EReal) := by simp [Ideal.ofBits, Ideal.ieee, -EReal.coe_mul]; norm_num
  have z64 : R4 (val_main_v64 (F := Ideal) x0 x1 x2 x3 x4) fun b h t _ =>
      1 * ((Real.exp (-M b h t) * sZ (mq a0 a3 a4 b h) (mk a1 a2 b h) t) * (Real.exp (-M b h t) * sZ (mq a0 a3 a4 b h) (mk a1 a2 b h) t))⁻¹ := fun j =>
    divE ((val_main_v63_apply j).trans one) (mulE (z59 j) (z59 j)) (mul_ne_zero (zM_ne _ _ _) (zM_ne _ _ _))
  have z75 : R4 (val_main_v75 (F := Ideal) x0 x1 x2 x3 x4 x5) fun b h t s => sDP (T 128 a5 b h) (vT a1 b h) t s
      * (1 * ((Real.exp (-M b h t) * sZ (mq a0 a3 a4 b h) (mk a1 a2 b h) t) * (Real.exp (-M b h t) * sZ (mq a0 a3 a4 b h) (mk a1 a2 b h) t))⁻¹)
      * (if s ≤ t then Real.exp (sS (mq a0 a3 a4 b h) (mk a1 a2 b h) t s - M b h t) else 0) := fun j =>
    mulE (mulE (v70_r x1 x5 h1 h5 j) ((val_main_v73_apply x0 x1 x2 x3 x4 j).trans (z64 _))) (v57_r x0 x1 x2 x3 x4 h0 h1 h2 h3 h4 hM j)
  have z77 := unit_r _ (G := fun b h t => 0 + ∑ s ∈ range 2048, sDP (T 128 a5 b h) (vT a1 b h) t s
      * (1 * ((Real.exp (-M b h t) * sZ (mq a0 a3 a4 b h) (mk a1 a2 b h) t) * (Real.exp (-M b h t) * sZ (mq a0 a3 a4 b h) (mk a1 a2 b h) t))⁻¹)
      * (if s ≤ t then Real.exp (sS (mq a0 a3 a4 b h) (mk a1 a2 b h) t s - M b h t) else 0)) fun j =>
    (val_main_v76_apply x0 x1 x2 x3 x4 x5 j).trans (addE zero_f32 (sumE (fun s => (fun b h t => sDP (T 128 a5 b h) (vT a1 b h) t s
      * (1 * ((Real.exp (-M b h t) * sZ (mq a0 a3 a4 b h) (mk a1 a2 b h) t) * (Real.exp (-M b h t) * sZ (mq a0 a3 a4 b h) (mk a1 a2 b h) t))⁻¹)
      * (if s ≤ t then Real.exp (sS (mq a0 a3 a4 b h) (mk a1 a2 b h) t s - M b h t) else 0)) (j 0).val (j 1).val (j 2).val) fun s => z75 _))
  have z81 := (val_main_v82_apply x0 x1 x2 x3 x4 x5 i).trans ((val_main_v81_apply x0 x1 x2 x3 x4 x5 _).trans
    (addE zero_f32 ((Fin.sum_univ_one _).trans (negE ((val_main_v77_apply x0 x1 x2 x3 x4 x5 _).trans (z77 _))))))
  have z84 := mulE (addE (divE (v70_r x1 x5 h1 h5 i) ((val_main_v79_apply x0 x1 x2 x3 x4 i).trans (z59 _)) (zM_ne _ _ _)) z81) (v57_r x0 x1 x2 x3 x4 h0 h1 h2 h3 h4 hM i)
  refine (divE (r := if (i 3).val ≤ (i 2).val then _ else 0) ?_ ((val_main_v86_apply i).trans (v25_r _)) sqrt192)
  show (if val_main_v36_1 (F := Ideal) i = 1#1 then val_main_v84 (F := Ideal) x0 x1 x2 x3 x4 x5 i else val_main_call1_v0 (F := Ideal) i) = _
  by_cases h : (i 3).val ≤ (i 2).val
  · rw [if_pos ((v36_1_r i).mpr h), if_pos h, ← soft_ds _ _ _ _ (M (i 0).val (i 1).val (i 2).val) _ i2]
    refine z84.trans (congrArg (fun r : ℝ => (r : EReal)) (congrArg₂ (· * ·) rfl (if_pos h)))
  · rw [if_neg (fun e => h ((v36_1_r i).mp e)), if_neg h]
    exact zero_f32

end ref
end Cert.Attn
-- ==== Proof.RefC.lean ====
/- The reference's results, in the model's terms. -/
module

public import proofs.«01_k».proof.Proof.RefB

@[expose] public section

set_option maxRecDepth 16384

noncomputable section

namespace Cert.Attn
open Idealize.ShloMosaic Idealize.ShloMosaic.TcCoe Cert.ReferenceIdeal Cert.ReferenceIdeal.Gen Cert.ReferenceIdeal.Read
open scoped BigOperators
open Finset (range)

section lay

/-- An array of heads flattened: its columns are the heads' lanes side by side. -/
theorem R4.flat128 {A : S2x2048x8x128.Idx → EReal} {G : ℕ → ℕ → ℕ → ℕ → ℝ} (h : R4 (a := 2) (b := 2048) (c := 8) (d := 128) A fun b s h d => G b h s d) :
    RA (n := 1024) (fun i => A (idx_main_v67 i)) (U 128 G) := fun i => by
  have i0 : (i 0).val < 2 := (i 0).isLt
  have i1 : (i 1).val < 2048 := (i 1).isLt
  have i2 : (i 2).val < 1024 := (i 2).isLt
  refine (h _).trans (congrArg _ ?_)
  show G ((((i 0).val * 2048 + (i 1).val) * 1024 + (i 2).val) / 2097152) ((((i 0).val * 2048 + (i 1).val) * 1024 + (i 2).val) / 128 % 8)
    ((((i 0).val * 2048 + (i 1).val) * 1024 + (i 2).val) / 1024 % 2048) ((((i 0).val * 2048 + (i 1).val) * 1024 + (i 2).val) % 128) = U 128 G _ _
  unfold U
  congr 1 <;> omega

theorem R4.flat256 {A : S2x2048x8x256.Idx → EReal} {G : ℕ → ℕ → ℕ → ℕ → ℝ} (h : R4 (a := 2) (b := 2048) (c := 8) (d := 256) A fun b s h d => G b h s d) :
    RA (n := 2048) (fun i => A (idx_main_v112 i)) (U 256 G) := fun i => by
  have i0 : (i 0).val < 2 := (i 0).isLt
  have i1 : (i 1).val < 2048 := (i 1).isLt
  have i2 : (i 2).val < 2048 := (i 2).isLt
  refine (h _).trans (congrArg _ ?_)
  show G ((((i 0).val * 2048 + (i 1).val) * 2048 + (i 2).val) / 4194304) ((((i 0).val * 2048 + (i 1).val) * 2048 + (i 2).val) / 256 % 8)
    ((((i 0).val * 2048 + (i 1).val) * 2048 + (i 2).val) / 2048 % 2048) ((((i 0).val * 2048 + (i 1).val) * 2048 + (i 2).val) % 256) = U 256 G _ _
  unfold U
  congr 1 <;> omega

theorem R4.flat192 {A : S2x2048x8x192.Idx → EReal} {G : ℕ → ℕ → ℕ → ℕ → ℝ} (h : R4 (a := 2) (b := 2048) (c := 8) (d := 192) A fun b s h d => G b h s d) :
    RA (n := 1536) (fun i => A (idx_main_v116 i)) (U 192 G) := fun i => by
  have i0 : (i 0).val < 2 := (i 0).isLt
  have i1 : (i 1).val < 2048 := (i 1).isLt
  have i2 : (i 2).val < 1536 := (i 2).isLt
  refine (h _).trans (congrArg _ ?_)
  show G ((((i 0).val * 2048 + (i 1).val) * 1536 + (i 2).val) / 3145728) ((((i 0).val * 2048 + (i 1).val) * 1536 + (i 2).val) / 192 % 8)
    ((((i 0).val * 2048 + (i 1).val) * 1536 + (i 2).val) / 1536 % 2048) ((((i 0).val * 2048 + (i 1).val) * 1536 + (i 2).val) % 192) = U 192 G _ _
  unfold U
  congr 1 <;> omega

/-- Zero lanes around an array's own. -/
theorem R4.pad {n w l u : ℕ} {A : (⟨4, ![2, 2048, 8, n]⟩ : Shape).Idx → EReal} {f : ℕ → ℕ → ℕ → ℕ → ℝ} (hA : R4 A f) {z : S_.Idx → EReal} (hz : ∀ i, z i = ((0 : ℝ) : EReal))
    (h : (⟨4, ![2, 2048, 8, n]⟩ : Shape).Pads ![0, 0, 0, l] ![0, 0, 0, u] ![0, 0, 0, 0] ⟨4, ![2, 2048, 8, w]⟩) (hu : 0 < S_.numel) :
    R4 (pad ⟨4, ![2, 2048, 8, w]⟩ ![0, 0, 0, l] ![0, 0, 0, u] ![0, 0, 0, 0] A z h hu) fun b s h d => if l ≤ d ∧ d < l + n then f b s h (d - l) else 0 := fun i => by
  by_cases hd : l ≤ (i 3).val ∧ (i 3).val < l + n
  · refine (pad_apply_of_inside _ _ _ A z h hu i (ValueIdx.ix4 (n0 := 2) (n1 := 2048) (n2 := 8) (n3 := n) (i 0) (i 1) (i 2) ⟨(i 3).val - l, by omega⟩) ?_).trans
      ((hA _).trans (congrArg _ (if_pos hd).symm))
    intro a
    match a with
    | ⟨0, _⟩ => show (i 0).val = 0 + (i 0).val * (0 + 1); omega
    | ⟨1, _⟩ => show (i 1).val = 0 + (i 1).val * (0 + 1); omega
    | ⟨2, _⟩ => show (i 2).val = 0 + (i 2).val * (0 + 1); omega
    | ⟨3, _⟩ => show (i 3).val = l + ((i 3).val - l) * (0 + 1); omega
  · refine (pad_apply_of_not_inside _ _ _ A z h hu i 3 ?_).trans ((hz _).trans (congrArg _ (if_neg hd).symm))
    show ¬(l ≤ (i 3).val ∧ ((i 3).val - l) % (0 + 1) = 0 ∧ ((i 3).val - l) / (0 + 1) < n)
    rw [Nat.zero_add, Nat.div_one]
    omega

end lay

section ref

variable (x0 : (⟨S2x2048x1536, .f32⟩ : BufTy).Contents (Elt Ideal)) (x1 : (⟨S2x2048x2048, .f32⟩ : BufTy).Contents (Elt Ideal))
  (x2 : (⟨S2x2048x64, .f32⟩ : BufTy).Contents (Elt Ideal)) (x3 x4 : (⟨S2x2048x32, .f32⟩ : BufTy).Contents (Elt Ideal))
  (x5 : (⟨S2x2048x1024, .f32⟩ : BufTy).Contents (Elt Ideal))
  {a0 a1 a2 a3 a4 a5 : ℕ → ℕ → ℝ}
  (h0 : RA (n := 1536) x0 a0) (h1 : RA (n := 2048) x1 a1) (h2 : RA (n := 64) x2 a2) (h3 : RA (n := 32) x3 a3) (h4 : RA (n := 32) x4 a4)
  (h5 : RA (n := 1024) x5 a5)

/-- A head's probability, zero above the diagonal. -/
def gP (a0 a1 a2 a3 a4 : ℕ → ℕ → ℝ) (b h t s : ℕ) : ℝ :=
  if s ≤ t then sP (qT (pQ a0) (pCS a3) (pSN a4) b h) (kT a1 (pKR a2) b h) (lT (pQ a0) a1 (pKR a2) (pCS a3) (pSN a4) b h) t s else 0

include h0 h1 h2 h3 h4 in
theorem v61_g : R4 (val_main_v61 (F := Ideal) x0 x1 x2 x3 x4) (gP a0 a1 a2 a3 a4) := v61_r x0 x1 x2 x3 x4 h0 h1 h2 h3 h4

include h0 h1 h2 h3 h4 in
theorem v66_r : R4 (val_main_v66 (F := Ideal) x0 x1 x2 x3 x4) fun b s h e => oT (pQ a0) a1 (pKR a2) (pCS a3) (pSN a4) b h s e := fun i => by
  have i1 : (i 1).val < 2048 := (i 1).isLt
  rw [val_main_v66_apply, val_main_v65_apply]
  refine (dotE (fun s => vT a1 (i 0).val (i 2).val s (i 3).val) (fun s => gP a0 a1 a2 a3 a4 (i 0).val (i 2).val (i 1).val s) (fun s => v5_v x1 h1 _)
    fun s => v61_g x0 x1 x2 x3 x4 h0 h1 h2 h3 h4 _).trans (congrArg _ ?_)
  dsimp only
  unfold oT
  rw [← soft_o, ← sum_tri0 _ i1]
  refine Finset.sum_congr rfl fun s _ => ?_
  unfold gP
  rw [mul_ite, mul_zero]
  refine if_congr Iff.rfl ?_ rfl
  exact mul_comm _ _

include h0 h1 h2 h3 h4 in
theorem v118_r : R2 (a := 4096) (b := 1024) (val_main_v118 (F := Ideal) x0 x1 x2 x3 x4) (U 128 (oT (pQ a0) a1 (pKR a2) (pCS a3) (pSN a4))) := fun i => by
  have l0 : (i 0).val < 4096 := (i 0).isLt
  have l1 : (i 1).val < 1024 := (i 1).isLt
  rw [val_main_v118_apply, Ideal.truncf_def, val_main_v117_apply, val_main_v67_apply]
  refine ((v66_r x0 x1 x2 x3 x4 h0 h1 h2 h3 h4).flat128 (idx_main_v117 i)).trans (congrArg _ ?_)
  show U 128 _ (((i 0).val * 1024 + (i 1).val) / 2097152 * 2048 + ((i 0).val * 1024 + (i 1).val) / 1024 % 2048) (((i 0).val * 1024 + (i 1).val) % 1024) = _
  congr 1 <;> omega

/-- A head's gradient of a score, zero above the diagonal. -/
def gDS (a0 a1 a2 a3 a4 a5 : ℕ → ℕ → ℝ) (b h t s : ℕ) : ℝ :=
  if s ≤ t then sDS (qT (pQ a0) (pCS a3) (pSN a4) b h) (kT a1 (pKR a2) b h) (vT a1 b h) (lT (pQ a0) a1 (pKR a2) (pCS a3) (pSN a4) b h) (T 128 a5 b h)
    (oT (pQ a0) a1 (pKR a2) (pCS a3) (pSN a4) b h) t s else 0

include h0 h1 h2 h3 h4 h5 in
theorem v87_g : R4 (val_main_v87 (F := Ideal) x0 x1 x2 x3 x4 x5) fun b h t s => gDS a0 a1 a2 a3 a4 a5 b h t s * σ :=
  v87_r x0 x1 x2 x3 x4 x5 h0 h1 h2 h3 h4 h5

/-- The model's gradient of the scaled queries. -/
def gDQ (a0 a1 a2 a3 a4 a5 : ℕ → ℕ → ℝ) (b h t d : ℕ) : ℝ :=
  sDQ (qT (pQ a0) (pCS a3) (pSN a4) b h) (kT a1 (pKR a2) b h) (vT a1 b h) (lT (pQ a0) a1 (pKR a2) (pCS a3) (pSN a4) b h) (T 128 a5 b h)
    (oT (pQ a0) a1 (pKR a2) (pCS a3) (pSN a4) b h) t d

theorem gDQ_eq (b h t d : ℕ) (ht : t < 2048) : gDQ a0 a1 a2 a3 a4 a5 b h t d = ∑ s ∈ range 2048, gDS a0 a1 a2 a3 a4 a5 b h t s * mk a1 a2 b h s d := by
  unfold gDQ sDQ
  rw [← sum_tri0 _ ht]
  refine Finset.sum_congr rfl fun s _ => ?_
  unfold gDS
  rw [ite_mul, zero_mul]; rfl

theorem dkT_eq (b h s d : ℕ) : dkT (pQ a0) a1 (pKR a2) (pCS a3) (pSN a4) a5 b h s d = ∑ t ∈ range 2048, gDS a0 a1 a2 a3 a4 a5 b h t s * mq a0 a3 a4 b h t d := by
  unfold dkT sDK
  refine Finset.sum_congr rfl fun t _ => ?_
  unfold gDS
  rw [ite_mul, zero_mul]; rfl

include h0 h1 h2 h3 h4 h5 in
theorem v71_r : R4 (val_main_v71 (F := Ideal) x0 x1 x2 x3 x4 x5) fun b h e s => dvT (pQ a0) a1 (pKR a2) (pCS a3) (pSN a4) a5 b h s e := fun i => by
  refine ((val_main_v71_apply x0 x1 x2 x3 x4 x5 i).trans (dotE (fun t => T 128 a5 (i 0).val (i 1).val t (i 2).val) (fun t => gP a0 a1 a2 a3 a4 (i 0).val (i 1).val t (i 3).val)
    (fun t => v69_r x5 h5 _) fun t => v61_g x0 x1 x2 x3 x4 h0 h1 h2 h3 h4 _)).trans (congrArg _ ?_)
  dsimp only
  unfold dvT sDV
  refine Finset.sum_congr rfl fun t _ => ?_
  unfold gP
  rw [mul_ite, mul_zero]
  refine if_congr Iff.rfl ?_ rfl
  exact mul_comm _ _

include h0 h1 h2 h3 h4 h5 in
theorem v72_r : R4 (val_main_v72 (F := Ideal) x0 x1 x2 x3 x4 x5) fun b s h e => dvT (pQ a0) a1 (pKR a2) (pCS a3) (pSN a4) a5 b h s e := fun i =>
  (val_main_v72_apply x0 x1 x2 x3 x4 x5 i).trans (v71_r x0 x1 x2 x3 x4 x5 h0 h1 h2 h3 h4 h5 _)

include h0 h1 h2 h3 h4 h5 in
theorem v92_r : R4 (val_main_v92 (F := Ideal) x0 x1 x2 x3 x4 x5) fun b s h d => if d < 128 then dkT (pQ a0) a1 (pKR a2) (pCS a3) (pSN a4) a5 b h s d else 0 := fun i => by
  have i3 : (i 3).val < 128 := (i 3).isLt
  rw [val_main_v92_apply, val_main_v91_apply]
  refine (dotE (fun t => gDS a0 a1 a2 a3 a4 a5 (i 0).val (i 2).val t (i 1).val * σ) (fun t => gQ a0 (i 0).val t (i 2).val (i 3).val)
    (fun t => v87_g x0 x1 x2 x3 x4 x5 h0 h1 h2 h3 h4 h5 _) fun t => v1_r x0 h0 _).trans (congrArg _ ?_)
  simp only [i3, if_true]
  rw [dkT_eq]
  refine Finset.sum_congr rfl fun t _ => ?_
  rw [mq_lo _ _ _ _ _ _ _ i3]; ring

include h0 h1 h2 h3 h4 h5 in
theorem v111_r : R4 (val_main_v111 (F := Ideal) x0 x1 x2 x3 x4 x5) fun b s h d => dkvT (pQ a0) a1 (pKR a2) (pCS a3) (pSN a4) a5 b h s d := fun i => by
  have i3 : (i 3).val < 256 := (i 3).isLt
  refine (addE ((v72_r x0 x1 x2 x3 x4 x5 h0 h1 h2 h3 h4 h5).pad (z := val_main_cst_13 (F := Ideal)) (fun _ => zero_f32) pads_S2x2048x8x128_S2x2048x8x256_000_000_000_12800 h_S_ i)
    ((v92_r x0 x1 x2 x3 x4 x5 h0 h1 h2 h3 h4 h5).pad (z := val_main_cst_14 (F := Ideal)) (fun _ => zero_f32) pads_S2x2048x8x128_S2x2048x8x256_000_000_000_01280 h_S_ i)).trans (congrArg _ ?_)
  dsimp only
  unfold dkvT
  by_cases h : (i 3).val < 128
  · rw [if_neg (by omega), if_pos (by omega), Nat.sub_zero, if_pos h, if_pos h, zero_add]
  · rw [if_pos (by omega), if_neg (by omega), if_neg h, add_zero]

include h0 h1 h2 h3 h4 h5 in
theorem v122_r : R2 (a := 4096) (b := 2048) (val_main_v122 (F := Ideal) x0 x1 x2 x3 x4 x5) (U 256 (dkvT (pQ a0) a1 (pKR a2) (pCS a3) (pSN a4) a5)) := fun i => by
  have l0 : (i 0).val < 4096 := (i 0).isLt
  have l1 : (i 1).val < 2048 := (i 1).isLt
  rw [val_main_v122_apply, Ideal.truncf_def, val_main_v121_apply, val_main_v112_apply]
  refine ((v111_r x0 x1 x2 x3 x4 x5 h0 h1 h2 h3 h4 h5).flat256 (idx_main_v121 i)).trans (congrArg _ ?_)
  show U 256 _ (((i 0).val * 2048 + (i 1).val) / 4194304 * 2048 + ((i 0).val * 2048 + (i 1).val) / 2048 % 2048) (((i 0).val * 2048 + (i 1).val) % 2048) = _
  congr 1 <;> omega

include h0 h1 h2 h3 h4 h5 in
theorem v94_r : R4 (val_main_v94 (F := Ideal) x0 x1 x2 x3 x4 x5) fun b t h d => if d < 128 then gDQ a0 a1 a2 a3 a4 a5 b h t d * σ else 0 := fun i => by
  have i1 : (i 1).val < 2048 := (i 1).isLt
  have i3 : (i 3).val < 128 := (i 3).isLt
  rw [val_main_v94_apply, val_main_v93_apply]
  refine (dotE (fun s => gDS a0 a1 a2 a3 a4 a5 (i 0).val (i 2).val (i 1).val s * σ) (fun s => gKV a1 (i 0).val s (i 2).val (i 3).val)
    (fun t => v87_g x0 x1 x2 x3 x4 x5 h0 h1 h2 h3 h4 h5 _) fun t => v4_r x1 h1 _).trans (congrArg _ ?_)
  simp only [i3, if_true]
  rw [gDQ_eq _ _ _ _ i1, Finset.sum_mul]
  refine Finset.sum_congr rfl fun t _ => ?_
  rw [mk_lo _ _ _ _ _ _ i3]; ring

include h0 h1 h2 h3 h4 h5 in
theorem v88_r : R4 (val_main_v88 (F := Ideal) x0 x1 x2 x3 x4 x5) fun b s t h => gDS a0 a1 a2 a3 a4 a5 b h t s * σ := fun i =>
  (val_main_v88_apply x0 x1 x2 x3 x4 x5 i).trans (v87_g x0 x1 x2 x3 x4 x5 h0 h1 h2 h3 h4 h5 _)

include h0 h1 h2 h3 h4 h5 in
theorem v89_r : R4 (val_main_v89 (F := Ideal) x0 x1 x2 x3 x4 x5) fun b t h d => if d < 64 then gDQ a0 a1 a2 a3 a4 a5 b h t (128 + d) * σ else 0 := fun i => by
  have i1 : (i 1).val < 2048 := (i 1).isLt
  have i3 : (i 3).val < 64 := (i 3).isLt
  rw [val_main_v89_apply]
  refine (dotE (fun s => gDS a0 a1 a2 a3 a4 a5 (i 0).val (i 2).val (i 1).val s * σ) (fun s => a2 ((i 0).val * 2048 + s) (i 3).val)
    (fun t => ?_) fun t => ?_).trans (congrArg _ ?_)
  · exact v88_r x0 x1 x2 x3 x4 x5 h0 h1 h2 h3 h4 h5 _
  · exact h2 (ridx_main_v89 i t)
  simp only [i3, if_true]
  rw [gDQ_eq _ _ _ _ i1, Finset.sum_mul]
  refine Finset.sum_congr rfl fun t _ => ?_
  rw [mk_hi, if_pos i3]; ring

include h0 h1 h2 h3 h4 h5 in
theorem v95_r : R4 (val_main_v95 (F := Ideal) x0 x1 x2 x3 x4 x5) fun b t h d => if d < 64 then gDQ a0 a1 a2 a3 a4 a5 b h t (128 + d) * σ else 0 := fun i =>
  (val_main_v95_apply x0 x1 x2 x3 x4 x5 i).trans (v89_r x0 x1 x2 x3 x4 x5 h0 h1 h2 h3 h4 h5 _)

include h0 h1 h2 h3 h4 h5 in
theorem v96_r : R4 (val_main_v96 (F := Ideal) x0 x1 x2 x3 x4 x5) fun b t h d => if 32 + d < 64 then gDQ a0 a1 a2 a3 a4 a5 b h t (128 + (32 + d)) * σ else 0 := fun i =>
  (val_main_v96_apply x0 x1 x2 x3 x4 x5 i).trans (v89_r x0 x1 x2 x3 x4 x5 h0 h1 h2 h3 h4 h5 _)

/-- The rotation's transpose, on the two halves of the rotary lanes. -/
theorem dqT_hi (b h t d : ℕ) (hd : d < 64) : dqT (pQ a0) a1 (pKR a2) (pCS a3) (pSN a4) a5 b h t (128 + d)
    = if d < 32 then gDQ a0 a1 a2 a3 a4 a5 b h t (128 + (32 + d)) * σ * a4 (b * 2048 + t) d + gDQ a0 a1 a2 a3 a4 a5 b h t (128 + d) * σ * a3 (b * 2048 + t) d
      else gDQ a0 a1 a2 a3 a4 a5 b h t (128 + d) * σ * a3 (b * 2048 + t) (d - 32) + -(gDQ a0 a1 a2 a3 a4 a5 b h t (128 + (d - 32)) * σ) * a4 (b * 2048 + t) (d - 32) := by
  have e : dqT (pQ a0) a1 (pKR a2) (pCS a3) (pSN a4) a5 b h t (128 + d)
      = gDQ a0 a1 a2 a3 a4 a5 b h t (128 + d) * (T 128 (pCS a3) b 0 t d * σ) + gDQ a0 a1 a2 a3 a4 a5 b h t (128 + pair d) * (T 128 (pSN a4) b 0 t (pair d) * σ) := by
    unfold dqT dqF
    rw [if_neg (by omega), show 128 + d - 128 = d by omega]
    rfl
  rw [e]
  unfold pair T pCS pSN
  by_cases h32 : d < 32
  · rw [if_pos h32, if_pos h32, show (d + 32) % 128 = 32 + d by omega]
    rw [if_pos (show 0 * 128 + d < 32 by omega), if_neg (show ¬0 * 128 + (32 + d) < 32 by omega), if_pos (show 0 * 128 + (32 + d) < 64 by omega),
      show 0 * 128 + d = d by omega, show 0 * 128 + (32 + d) - 32 = d by omega]
    ring
  · rw [if_neg h32, if_neg h32, show (d + 96) % 128 = d - 32 by omega]
    rw [if_neg (show ¬0 * 128 + d < 32 by omega), if_pos (show 0 * 128 + d < 64 by omega), if_pos (show 0 * 128 + (d - 32) < 32 by omega),
      show 0 * 128 + d - 32 = d - 32 by omega, show 0 * 128 + (d - 32) = d - 32 by omega]
    ring

include h0 h1 h2 h3 h4 h5 in
/-- The gradient of the queries' rotary lanes. -/
theorem v108_r : R4 (val_main_v108 (F := Ideal) x0 x1 x2 x3 x4 x5) fun b t h d => dqT (pQ a0) a1 (pKR a2) (pCS a3) (pSN a4) a5 b h t (128 + d) := by
  refine (cat_r _ _ (fun i => addE (mulE (v96_r x0 x1 x2 x3 x4 x5 h0 h1 h2 h3 h4 h5 i) ((val_main_v97_apply x4 i).trans (v7_r x4 h4 _)))
      (mulE (v95_r x0 x1 x2 x3 x4 x5 h0 h1 h2 h3 h4 h5 i) ((val_main_v105_apply x3 i).trans (v6_r x3 h3 _))))
    (g := fun b t h d => (if 32 + d < 64 then gDQ a0 a1 a2 a3 a4 a5 b h t (128 + (32 + d)) * σ else 0) * a3 (b * 2048 + t) d
      + -(if d < 64 then gDQ a0 a1 a2 a3 a4 a5 b h t (128 + d) * σ else 0) * a4 (b * 2048 + t) d)
    (f := fun b t h d => (if 32 + d < 64 then gDQ a0 a1 a2 a3 a4 a5 b h t (128 + (32 + d)) * σ else 0) * a4 (b * 2048 + t) d
      + (if d < 64 then gDQ a0 a1 a2 a3 a4 a5 b h t (128 + d) * σ else 0) * a3 (b * 2048 + t) d)
    (fun i => addE (mulE (v96_r x0 x1 x2 x3 x4 x5 h0 h1 h2 h3 h4 h5 i) ((val_main_v99_apply x3 i).trans (v6_r x3 h3 _)))
      (mulE (negE (v95_r x0 x1 x2 x3 x4 x5 h0 h1 h2 h3 h4 h5 i)) ((val_main_v102_apply x4 i).trans (v7_r x4 h4 _))))).congr ?_
  intro b t h d hb ht hh hd
  rw [dqT_hi _ _ _ _ hd]
  by_cases h32 : d < 32
  · rw [if_pos h32, if_pos h32, if_pos (show 32 + d < 64 by omega), if_pos hd]
  · rw [if_neg h32, if_neg h32, if_pos (show 32 + (d - 32) < 64 by omega), if_pos (show d - 32 < 64 by omega), show 32 + (d - 32) = d by omega]

include h0 h1 h2 h3 h4 h5 in
theorem v115_r : R4 (val_main_v115 (F := Ideal) x0 x1 x2 x3 x4 x5) fun b s h d => dqT (pQ a0) a1 (pKR a2) (pCS a3) (pSN a4) a5 b h s d := fun i => by
  have i3 : (i 3).val < 192 := (i 3).isLt
  refine (addE ((v108_r x0 x1 x2 x3 x4 x5 h0 h1 h2 h3 h4 h5).pad (z := val_main_cst_15 (F := Ideal)) (fun _ => zero_f32) pads_S2x2048x8x64_S2x2048x8x192_000_000_000_12800 h_S_ i)
    ((v94_r x0 x1 x2 x3 x4 x5 h0 h1 h2 h3 h4 h5).pad (z := val_main_cst_16 (F := Ideal)) (fun _ => zero_f32) pads_S2x2048x8x128_S2x2048x8x192_000_000_000_0640 h_S_ i)).trans (congrArg _ ?_)
  dsimp only
  by_cases h : (i 3).val < 128
  · rw [if_neg (by omega), if_pos (by omega), Nat.sub_zero, if_pos h, zero_add]
    unfold dqT dqF
    rw [if_pos h]; rfl
  · rw [if_pos (by omega), if_neg (by omega), add_zero, show 128 + ((i 3).val - 128) = (i 3).val by omega]

include h0 h1 h2 h3 h4 h5 in
theorem v120_r (i : S4096x8x192.Idx) : val_main_v120 (F := Ideal) x0 x1 x2 x3 x4 x5 i
    = ((U 256 (dqT (pQ a0) a1 (pKR a2) (pCS a3) (pSN a4) a5) (i 0).val ((i 1).val * 256 + (i 2).val) : ℝ) : EReal) := by
  have l0 : (i 0).val < 4096 := (i 0).isLt
  have l1 : (i 1).val < 8 := (i 1).isLt
  have l2 : (i 2).val < 192 := (i 2).isLt
  rw [val_main_v120_apply, Ideal.truncf_def, val_main_v119_apply, val_main_v116_apply]
  refine ((v115_r x0 x1 x2 x3 x4 x5 h0 h1 h2 h3 h4 h5).flat192 (idx_main_v119 i)).trans (congrArg _ ?_)
  show U 192 _ ((((i 0).val * 8 + (i 1).val) * 192 + (i 2).val) / 3145728 * 2048 + (((i 0).val * 8 + (i 1).val) * 192 + (i 2).val) / 1536 % 2048) ((((i 0).val * 8 + (i 1).val) * 192 + (i 2).val) % 1536) = _
  unfold U
  congr 1 <;> omega

/-- The two axes summed over: the query positions and the heads. -/
def contr2 : dot_S2x2048x2048x8_S2x2048x8x64_S2x2048x64_23_12_1_3_0_0.contr.Idx ≃ Fin 2048 × Fin 8 where
  toFun q := (⟨(q ⟨0, by decide⟩).val, (q ⟨0, by decide⟩).isLt⟩, ⟨(q ⟨1, by decide⟩).val, (q ⟨1, by decide⟩).isLt⟩)
  invFun p := fun a => if h : a.val = 0 then ⟨p.1.val, by have e : a = ⟨0, by decide⟩ := Fin.ext h; subst e; exact p.1.isLt⟩
    else ⟨p.2.val, by have h2 : a.val < 2 := a.isLt; have e : a = ⟨1, by decide⟩ := Fin.ext (by show a.val = 1; omega); subst e; exact p.2.isLt⟩
  left_inv q := by
    funext a
    apply Fin.ext
    have h2 : a.val < 2 := a.isLt
    by_cases h : a.val = 0
    · have e : a = ⟨0, by decide⟩ := Fin.ext h
      subst e; rfl
    · have e : a = ⟨1, by decide⟩ := Fin.ext (by show a.val = 1; omega)
      subst e; rfl
  right_inv p := rfl

/-- The sum over the query positions and the heads. -/
theorem dot90 (A : S2x2048x2048x8.Idx → EReal) (B : S2x2048x8x64.Idx → EReal) (i : S2x2048x64.Idx) :
    Host.dotGeneral (F := Ideal) (φ₁ := .f32) (φ₂ := .f32) dot_S2x2048x2048x8_S2x2048x8x64_S2x2048x64_23_12_1_3_0_0 none A B i
      = ∑ t : Fin 2048, ∑ h : Fin 8, A (ValueIdx.ix4 (n0 := 2) (n1 := 2048) (n2 := 2048) (n3 := 8) (i 0) (i 1) t h)
          * B (ValueIdx.ix4 (n0 := 2) (n1 := 2048) (n2 := 8) (n3 := 64) (i 0) t h (i 2)) := by
  simp only [Host.dotGeneral]
  rw [Ideal.dotGeneral_apply]
  rw [← Equiv.sum_comp contr2.symm, Fintype.sum_prod_type]
  refine Finset.sum_congr rfl fun t _ => Finset.sum_congr rfl fun h _ => ?_
  refine congrArg₂ (· * ·) (congrArg A ?_) (congrArg B ?_)
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl | ⟨3, _⟩ => rfl)

include h0 h1 h2 h3 h4 h5 in
theorem v90_r : RA (n := 64) (val_main_v90 (F := Ideal) x0 x1 x2 x3 x4 x5) (U 128 fun b _ => dkrT (pQ a0) a1 (pKR a2) (pCS a3) (pSN a4) a5 8 b) := fun i => by
  have i0 : (i 0).val < 2 := (i 0).isLt
  have i1 : (i 1).val < 2048 := (i 1).isLt
  have i2 : (i 2).val < 64 := (i 2).isLt
  unfold val_main_v90
  rw [dot90]
  refine (sumE (fun t => ∑ h ∈ range 8, (gDS a0 a1 a2 a3 a4 a5 (i 0).val h t (i 1).val * σ) * gR a0 a3 a4 (i 0).val t h (i 2).val) fun t =>
    dotE (fun h => gDS a0 a1 a2 a3 a4 a5 (i 0).val h t.val (i 1).val * σ) (fun h => gR a0 a3 a4 (i 0).val t.val h (i 2).val)
      (fun h => v88_r x0 x1 x2 x3 x4 x5 h0 h1 h2 h3 h4 h5 _) fun h => v20_r x0 x3 x4 h0 h3 h4 _).trans (congrArg _ ?_)
  unfold U dkrT
  rw [Finset.sum_comm, show ((i 0).val * 2048 + (i 1).val) / 2048 = (i 0).val by omega, show ((i 0).val * 2048 + (i 1).val) % 2048 = (i 1).val by omega,
    show (i 2).val % 128 = (i 2).val by omega]
  refine Finset.sum_congr rfl fun h _ => ?_
  rw [dkT_eq]
  refine Finset.sum_congr rfl fun t _ => ?_
  rw [mq_hi _ _ _ _ _ _ _ i2]; ring

include h0 h1 h2 h3 h4 h5 in
theorem v123_r : R2 (a := 4096) (b := 64) (val_main_v123 (F := Ideal) x0 x1 x2 x3 x4 x5) (U 128 fun b _ => dkrT (pQ a0) a1 (pKR a2) (pCS a3) (pSN a4) a5 8 b) := fun i => by
  have l0 : (i 0).val < 4096 := (i 0).isLt
  have l1 : (i 1).val < 64 := (i 1).isLt
  rw [val_main_v123_apply]
  refine (v90_r x0 x1 x2 x3 x4 x5 h0 h1 h2 h3 h4 h5 (idx_main_v123 i)).trans (congrArg _ ?_)
  show U 128 _ (((i 0).val * 64 + (i 1).val) / 131072 * 2048 + ((i 0).val * 64 + (i 1).val) / 64 % 2048) (((i 0).val * 64 + (i 1).val) % 64) = _
  congr 1 <;> omega

end ref
end Cert.Attn
-- ==== Proof.Alg.lean ====
/- The kernel and the reference end with the same results. -/
module

public import proofs.«01_k».proof.Defs
public import proofs.«01_k».proof.Proof.Run
public import proofs.«01_k».proof.Proof.RefC
public import proofs.«01_k».proof.Proof.Gen.Pre_finite
public import Idealize.ShloMosaic.Lib.ReduceAll

@[expose] public section

set_option maxRecDepth 16384

noncomputable section

namespace Cert.Attn

open Idealize.ShloMosaic Idealize.ShloMosaic.TcCoe Idealize.SL.Sem

/-- An array of three axes with finite entries is one of real numbers. -/
theorem ra_of_finite {n : ℕ} (A : (⟨3, ![2, 2048, n]⟩ : Shape).Idx → EReal) (h : ∀ i, A i ≠ ⊤ ∧ A i ≠ ⊥) : ∃ f, RA A f :=
  ⟨fun r c => if hh : r / 2048 < 2 ∧ c < n then (A (ValueIdx.ix3 (n0 := 2) (n1 := 2048) (n2 := n) ⟨r / 2048, hh.1⟩ ⟨r % 2048, Nat.mod_lt _ (by decide)⟩ ⟨c, hh.2⟩)).toReal else 0, fun i => by
    have i0 : (i 0).val < 2 := (i 0).isLt
    have i1 : (i 1).val < 2048 := (i 1).isLt
    have i2 : (i 2).val < n := (i 2).isLt
    have e : (ValueIdx.ix3 (n0 := 2) (n1 := 2048) (n2 := n) ⟨((i 0).val * 2048 + (i 1).val) / 2048, by omega⟩ ⟨((i 0).val * 2048 + (i 1).val) % 2048, Nat.mod_lt _ (by decide)⟩ ⟨(i 2).val, i2⟩) = i := by
      funext a
      fin_cases a
      · exact Fin.ext (show ((i 0).val * 2048 + (i 1).val) / 2048 = (i 0).val by omega)
      · exact Fin.ext (show ((i 0).val * 2048 + (i 1).val) % 2048 = (i 1).val by omega)
      · rfl
    dsimp only
    rw [dif_pos ⟨by omega, i2⟩, e, EReal.coe_toReal (h i).1 (h i).2]⟩

/-- An entry whose absolute value is below infinity is finite. -/
theorem finite_of_abs (x : EReal) (h : Ideal.cmp .olt (max x (-x)) (Ideal.ofBits .f32 0x7F800000#32) = 1#1) : x ≠ ⊤ ∧ x ≠ ⊥ := by
  have e : Ideal.ofBits .f32 0x7F800000#32 = ⊤ := by
    simp [Ideal.ofBits, Ideal.ieee]
  rw [e] at h
  constructor <;> rintro rfl <;> simp [Ideal.cmp] at h

/-- The conjunction of two bits is one only when both are. -/
theorem both_one (a b : BitVec 1) (h : IntOp.andi a b = 1#1) : a = 1#1 ∧ b = 1#1 := by
  revert h; revert a b; decide

/-- An array whose entries' absolute values are all below infinity is one of real numbers. -/
theorem ra_of_all {n : ℕ} (A : (⟨3, ![2, 2048, n]⟩ : Shape).Idx → EReal) (hb : Cert.Pre_finite.S_.BroadcastsInDim ⟨3, ![2, 2048, n]⟩ (![] : Fin 0 → Fin 3))
    (hr : Shape.ReducesTo (⟨3, ![2, 2048, n]⟩ : Shape) [0, 1, 2] Cert.Pre_finite.S_) (hu : 0 < Cert.Pre_finite.S_.numel) (j : Cert.Pre_finite.S_.Idx)
    (h : Host.reduce IntOp.andi (cmpf (F := Ideal) (φ := .f32) .olt (Host.absf A) (broadcastInDim ⟨3, ![2, 2048, n]⟩ ![] hb (constant (F := Ideal) Cert.Pre_finite.S_ .f32 0x7F800000#32)))
      (constantI Cert.Pre_finite.S_ 1 1#1) hr hu j = 1#1) : ∃ f, RA A f :=
  haveI : Subsingleton Cert.Pre_finite.S_.Idx := ⟨fun a b => funext fun k => k.elim0⟩
  ra_of_finite A fun i => finite_of_abs (A i) (Host.reduce_andi_all _ _ hr hu j h i)

set_option backward.isDefEq.respectTransparency.types false in
/-- The precondition says that six arrays are arrays of real numbers. -/
theorem reals_of_pre (A0 : (⟨3, ![2, 2048, 1536]⟩ : Shape).Idx → EReal) (A1 : (⟨3, ![2, 2048, 2048]⟩ : Shape).Idx → EReal) (A2 : (⟨3, ![2, 2048, 64]⟩ : Shape).Idx → EReal)
    (A3 A4 : (⟨3, ![2, 2048, 32]⟩ : Shape).Idx → EReal) (A5 : (⟨3, ![2, 2048, 1024]⟩ : Shape).Idx → EReal) [Cert.Pre_finite.Facts]
    (h : Cert.Pre_finite.fn (F := Ideal) A0 A1 A2 A3 A4 A5 = fun _ => 1#1) :
    ∃ a0 a1 a2 a3 a4 a5, RA A0 a0 ∧ RA A1 a1 ∧ RA A2 a2 ∧ RA A3 a3 ∧ RA A4 a4 ∧ RA A5 a5 := by
  have e := congrFun h (Shape.Idx.first Cert.Pre_finite.Facts.h_S_)
  dsimp only [Cert.Pre_finite.fn, Cert.Pre_finite.fn_part1] at e
  obtain ⟨e, e5⟩ := both_one _ _ e
  obtain ⟨e, e4⟩ := both_one _ _ e
  obtain ⟨e, e3⟩ := both_one _ _ e
  obtain ⟨e, e2⟩ := both_one _ _ e
  obtain ⟨e, e1⟩ := both_one _ _ e
  obtain ⟨e, e0⟩ := both_one _ _ e
  obtain ⟨a0, h0⟩ := ra_of_all A0 _ _ _ _ e0
  obtain ⟨a1, h1⟩ := ra_of_all A1 _ _ _ _ e1
  obtain ⟨a2, h2⟩ := ra_of_all A2 _ _ _ _ e2
  obtain ⟨a3, h3⟩ := ra_of_all A3 _ _ _ _ e3
  obtain ⟨a4, h4⟩ := ra_of_all A4 _ _ _ _ e4
  obtain ⟨a5, h5⟩ := ra_of_all A5 _ _ _ _ e5
  exact ⟨a0, a1, a2, a3, a4, a5, h0, h1, h2, h3, h4, h5⟩

set_option backward.isDefEq.respectTransparency.types false in
/-- On finite arguments the idealised kernel and the reference end with the same four results: the attention's output and its gradients in the queries, in the keys and values, and in the rotary keys. -/
theorem algebraic : Cert.algebraic_KernelIdeal_ReferenceIdeal_pre_finite := fun m g m' g' pre agree => by
  refine ⟨fun c => Cert.KernelIdeal.Gen.W8 m g c (Proc.devRef .tc Cert.KernelIdeal.main_v17_0), fun c => Cert.KernelIdeal.Gen.W8 m g c (Proc.devRef .tc Cert.KernelIdeal.main_v20),
    fun c => Cert.KernelIdeal.Gen.W8 m g c (Proc.devRef .tc Cert.KernelIdeal.main_v18_1), fun c => Cert.KernelIdeal.Gen.W8 m g c (Proc.devRef .tc Cert.KernelIdeal.main_v21), ?_, ?_⟩
  · exact (θ_run _ _ _).mono (fun r h => h.1) (run_ki m g)
  · refine (θ_run _ _ _).mono (fun r h c => ?_) (Cert.ReferenceIdeal.Value.run (F := Ideal) m' g')
    obtain ⟨a0, a1, a2, a3, a4, a5, h0, h1, h2, h3, h4, h5⟩ := reals_of_pre _ _ _ _ _ _ (pre c)
    have H : Args m c a0 a1 a2 a3 a4 a5 := ⟨h0, h1, h2, h3, h4, h5⟩
    obtain ⟨g0, g1, g2, g3, g4, g5⟩ := agree c
    rw [← g0] at h0
    rw [← g1] at h1
    rw [← g2] at h2
    rw [← g3] at h3
    rw [← g4] at h4
    rw [← g5] at h5
    obtain ⟨r0, r1, r2, r3, rest⟩ := h c
    refine ⟨r0.trans ((Cert.ReferenceIdeal.Read.val_main_v118_eq (F := Ideal) (StableHlo.launchContents m' c)).trans (funext fun i => ?_)),
      r1.trans ((Cert.ReferenceIdeal.Read.val_main_v120_eq (F := Ideal) (StableHlo.launchContents m' c)).trans (funext fun i => ?_)),
      r2.trans ((Cert.ReferenceIdeal.Read.val_main_v122_eq (F := Ideal) (StableHlo.launchContents m' c)).trans (funext fun i => ?_)),
      r3.trans ((Cert.ReferenceIdeal.Read.val_main_v123_eq (F := Ideal) (StableHlo.launchContents m' c)).trans (funext fun i => ?_)), rest⟩
    · exact (v118_r _ _ _ _ _ h0 h1 h2 h3 h4 i).trans (H.o i).symm
    · exact (v120_r _ _ _ _ _ _ h0 h1 h2 h3 h4 h5 i).trans (H.dq i).symm
    · exact (v122_r _ _ _ _ _ _ h0 h1 h2 h3 h4 h5 i).trans (H.dkv i).symm
    · exact (v123_r _ _ _ _ _ _ h0 h1 h2 h3 h4 h5 i).trans (H.dkr i).symm

end Cert.Attn

end
-- ==== Proof.Fin.lean ====
/- Arrays of two axes whose every entry a precondition says is finite. -/
module

public import proofs.«01_k».proof.Proof.Alg
public import proofs.«01_k».proof.Proof.Ext

@[expose] public section

set_option maxRecDepth 16384

noncomputable section

namespace Cert.Attn

open Idealize.ShloMosaic Idealize.ShloMosaic.TcCoe Idealize.SL.Sem

/-- The shape of one number. -/
abbrev S0 : Shape := ⟨0, ![]⟩

/-- An array whose entries' absolute values are all below infinity has finite entries. -/
theorem finite_of_all {S : Shape} {axes : List (Fin S.rank)} (A : FVec Ideal S .f32) {bd : Fin 0 → Fin S.rank} (hb : S0.BroadcastsInDim S bd)
    (hr : Shape.ReducesTo S axes S0) (hu : 0 < S0.numel) (j : S0.Idx)
    (h : Host.reduce IntOp.andi (cmpf (F := Ideal) (φ := .f32) .olt (Host.absf A) (broadcastInDim S bd hb (constant (F := Ideal) S0 .f32 0x7F800000#32)))
      (constantI S0 1 1#1) hr hu j = 1#1) (i : S.Idx) : A i ≠ ⊤ ∧ A i ≠ ⊥ :=
  haveI : Subsingleton S0.Idx := ⟨fun a b => funext fun k => k.elim0⟩
  finite_of_abs (A i) (Host.reduce_andi_all _ _ hr hu j h i)

end Cert.Attn

end
-- ==== Proof.DownDx.lean ====
/- The input gradient of the second feed-forward product, with the activation's derivative: a block of rows against a half of the
   columns, a chunk of columns at a time. -/
module

public import proofs.«01_k».proof.Defs
public import proofs.«01_k».proof.Proof.Fin
public import Idealize.ShloMosaic.Lib.Pipeline.ValueKit
public import proofs.«01_k».proof.Proof.Gen.Kernel4Ideal.Value
public import proofs.«01_k».proof.Proof.Gen.Pre_finite4
public import proofs.«01_k».proof.Proof.Gen.Reference4Ideal.Run
public import proofs.«01_k».proof.Proof.Gen.Reference4Ideal.Read

@[expose] public section

set_option maxRecDepth 16384

noncomputable section

namespace Cert.Attn.DownDx

open Idealize.ShloMosaic Idealize.ShloMosaic.TcCoe Idealize.SL.Sem
open scoped BigOperators
open Finset (range)

/-- The activation's cotangent: half of a row of the output's gradient times a row of the weights. -/
def da (f g : ℕ → ℕ → ℝ) (i j : ℕ) : ℝ := 1 / 2 * ∑ k ∈ range 1024, f i k * g j k

/-- The gate's gradient. -/
def dg (f g h u : ℕ → ℕ → ℝ) (i j : ℕ) : ℝ := da f g i j * u i j * (sr (h i j) * (1 + h i j * (1 - sr (h i j))))

/-- The other factor's gradient. -/
def du (f g h : ℕ → ℕ → ℝ) (i j : ℕ) : ℝ := da f g i j * (h i j * sr (h i j))

section kernel

open Cert.Kernel4Ideal Cert.Kernel4Ideal.Gen Cert.Kernel4Ideal.Value

section chunk

variable {w o : ℕ} {f g h u : ℕ → ℕ → ℝ}

theorem da_r {A : FVec Ideal S512x1024 .f32} (hA : R2 A f) (hb : FTy.bf16.bits < FTy.f32.bits) {B : Vec Ideal S1408x1024 .bf16} (hB : R2 B g) (inb : ∀ x, (![o, 0] : Fin 2 → ℕ) x + (![w, 1024] : Fin 2 → ℕ) x ≤ S1408x1024.size x)
    (d : DotDims S512x1024 (Sh w 1024) (Sh 512 w)) (hd : d = DotDims.transposedRhs 512 1024 w) :
    R2 (mulf (broadcast (Sh 512 w) (Scalar.ofBits (F := Ideal) .f32 0x3F000000#32)) (matmul (F := Ideal) (φ₁ := .bf16) (φ₂ := .bf16) d none (truncf .bf16 A hb) (View.ld (Val := Elt Ideal) B (Rect.unit (s := S1408x1024) ![o, 0] ![w, 1024] inb))
      (constant (Sh 512 w) .f32 0x00000000#32))) fun i j => da f g i (o + j) :=
  (R2.half.mul (R2.nt d hd none (hA.truncf hb) (R2.ld16 hB inb) R2.zero)).congr fun i j _ _ => by
    unfold da
    rw [zero_add]
    simp only [Nat.zero_add]

theorem dg_r {D G U : FVec Ideal (Sh 512 w) .f32} (hD : R2 D fun i j => da f g i (o + j)) (hG : R2 G fun i j => h (0 + i) (o + j)) (hU : R2 U fun i j => u (0 + i) (o + j)) {Q : FVec Ideal (Sh 512 w) .f32}
    (hQ : Q = addf (mulf (broadcast (Sh 512 w) (Scalar.ofBits (F := Ideal) .f32 0x3F000000#32)) (tanh (mulf (broadcast (Sh 512 w) (Scalar.ofBits (F := Ideal) .f32 0x3F000000#32)) G)))
      (broadcast (Sh 512 w) (Scalar.ofBits (F := Ideal) .f32 0x3F000000#32))) :
    R2 (mulf (mulf D U) (mulf Q (addf (broadcast (Sh 512 w) (Scalar.ofBits (F := Ideal) .f32 0x3F800000#32)) (mulf G (subf (broadcast (Sh 512 w) (Scalar.ofBits (F := Ideal) .f32 0x3F800000#32)) Q)))))
      fun i j => dg f g h u i (o + j) := by
  subst hQ
  exact ((hD.mul hU).mul ((R2.sg hG).mul (R2.one.add (hG.mul (R2.one.sub (R2.sg hG)))))).congr fun i j _ _ => by
    unfold dg
    rw [Nat.zero_add]

theorem du_r {D G : FVec Ideal (Sh 512 w) .f32} (hD : R2 D fun i j => da f g i (o + j)) (hG : R2 G fun i j => h (0 + i) (o + j)) :
    R2 (mulf D (mulf G (addf (mulf (broadcast (Sh 512 w) (Scalar.ofBits (F := Ideal) .f32 0x3F000000#32)) (tanh (mulf (broadcast (Sh 512 w) (Scalar.ofBits (F := Ideal) .f32 0x3F000000#32)) G)))
      (broadcast (Sh 512 w) (Scalar.ofBits (F := Ideal) .f32 0x3F000000#32))))) fun i j => du f g h i (o + j) :=
  (hD.mul (hG.mul (R2.sg hG))).congr fun i j _ _ => by
    unfold du
    rw [Nat.zero_add]

/-- One more chunk of columns, of real numbers. -/
theorem chunk {a b n c : ℕ} {L : List (View.Piece (Elt Ideal) (Sh a b) .bf16)}
    {inb : ∀ x, (![0, c] : Fin 2 → ℕ) x + (Sh a w).size x ≤ (Sh a b).size x} {P : (Sh a w).Idx → Elt Ideal .bf16}
    (hL : XC c (View.canon L) fun i j => ((f i j : ℝ) : EReal)) (hP : R2 P fun i j => f i (c + j)) (hn : n = c + w) :
    XC n (View.canon (⟨Rect.unit (s := Sh a b) ![0, c] (Sh a w).size inb, P⟩ :: L)) fun i j => ((f i j : ℝ) : EReal) := hL.store hP hn

end chunk

section body

variable (c : Dev nD) (i : grid0.Coords) (a2 : Memref sig .tc .vmem S512x1024 .f32) (h2 : a2.IsWhole) (a3 : Memref sig .tc .vmem S1408x1024 .bf16) (h3 : a3.IsWhole)
  (a4 : Memref sig .tc .vmem S512x1408 .bf16) (h4 : a4.IsWhole) (a5 : Memref sig .tc .vmem S512x1408 .bf16) (h5 : a5.IsWhole) (a6 : Memref sig .tc .vmem S512x1408 .bf16) (h6 : a6.IsWhole)
  (a7 : Memref sig .tc .vmem S512x1408 .bf16) (h7 : a7.IsWhole)
  {x0 : Vec Ideal S512x1024 .f32} {x1 : Vec Ideal S1408x1024 .bf16} {x2 x3 : Vec Ideal S512x1408 .bf16} {f g h u : ℕ → ℕ → ℝ}
  (hx0 : R2 (a := 512) (b := 1024) x0 f) (hx1 : R2 (a := 1408) (b := 1024) x1 g) (hx2 : R2 (a := 512) (b := 1408) x2 h) (hx3 : R2 (a := 512) (b := 1408) x3 u)

include hx0 hx1 hx2 hx3 in
theorem o_4 : R2 (a := 512) (b := 1408) (out0_A_4 (F := Ideal) c i a2 h2 a3 h3 a4 h4 a5 h5 a6 h6 a7 h7 x0 x1 x2 x3) (dg f g h u) := by
  unfold out0_A_4
  rw [View.read_writes_eq_canon _ _ _ (cover0_A_4 c i a2 h2 a3 h3 a4 h4 a5 h5 a6 h6 a7 h7 x0 x1 x2 x3)]
  unfold kernelRun0_A
  dsimp only
  sl_unfold_words
  simp only [View.readAt_eq_ld, h2.read_unread, h3.read_unread, h4.read_unread, h5.read_unread, View.ld_unit_zero (S := S512x1024) hz2]
  exact (chunk (c := 1280) (w := 128) (chunk (c := 1024) (w := 256) (
    (chunk (c := 768) (w := 256) (chunk (c := 512) (w := 256) (
    (chunk (c := 256) (w := 256) (chunk (c := 0) (w := 256) (XC.none _ _) (dg_r (da_r hx0 _ hx1 _ _ rfl) (R2.ld16 hx2 _) (R2.ld16 hx3 _) rfl) rfl) (dg_r (da_r hx0 _ hx1 _ _ rfl) (R2.ld16 hx2 _) (R2.ld16 hx3 _) rfl) rfl)) (dg_r (da_r hx0 _ hx1 _ _ rfl) (R2.ld16 hx2 _) (R2.ld16 hx3 _) rfl) rfl) (dg_r (da_r hx0 _ hx1 _ _ rfl) (R2.ld16 hx2 _) (R2.ld16 hx3 _) rfl) rfl)) (dg_r (da_r hx0 _ hx1 _ _ rfl) (R2.ld16 hx2 _) (R2.ld16 hx3 _) rfl) rfl) (dg_r (da_r hx0 _ hx1 _ _ rfl) (R2.ld16 hx2 _) (R2.ld16 hx3 _) rfl) rfl).x2

include hx0 hx1 hx2 in
theorem o_5 : R2 (a := 512) (b := 1408) (out0_A_5 (F := Ideal) c i a2 h2 a3 h3 a4 h4 a5 h5 a6 h6 a7 h7 x0 x1 x2 x3) (du f g h) := by
  unfold out0_A_5
  rw [View.read_writes_eq_canon _ _ _ (cover0_A_5 c i a2 h2 a3 h3 a4 h4 a5 h5 a6 h6 a7 h7 x0 x1 x2 x3)]
  unfold kernelRun0_A
  dsimp only
  sl_unfold_words
  simp only [View.readAt_eq_ld, h2.read_unread, h3.read_unread, h4.read_unread, h5.read_unread, View.ld_unit_zero (S := S512x1024) hz2]
  exact (chunk (c := 1280) (w := 128) (chunk (c := 1024) (w := 256) (
    (chunk (c := 768) (w := 256) (chunk (c := 512) (w := 256) (
    (chunk (c := 256) (w := 256) (chunk (c := 0) (w := 256) (XC.none _ _) (du_r (da_r hx0 _ hx1 _ _ rfl) (R2.ld16 hx2 _)) rfl) (du_r (da_r hx0 _ hx1 _ _ rfl) (R2.ld16 hx2 _)) rfl)) (du_r (da_r hx0 _ hx1 _ _ rfl) (R2.ld16 hx2 _)) rfl) (du_r (da_r hx0 _ hx1 _ _ rfl) (R2.ld16 hx2 _)) rfl)) (du_r (da_r hx0 _ hx1 _ _ rfl) (R2.ld16 hx2 _)) rfl) (du_r (da_r hx0 _ hx1 _ _ rfl) (R2.ld16 hx2 _)) rfl).x2

end body

variable (m : (ℓ : Loc nD τ sig) → Buf (Elt Ideal) ℓ) (c : Dev nD)

theorem ix0 : ∀ t : Fin cfg0.N, win0_0.index t = ![t.val % 8, 0] := (by decide +kernel : ∀ t : Fin grid0.N, win0_0.index t = ![t.val % 8, 0])
theorem ix1 : ∀ t : Fin cfg0.N, win0_1.index t = ![t.val / 8, 0] := (by decide +kernel : ∀ t : Fin grid0.N, win0_1.index t = ![t.val / 8, 0])
theorem ix2 : ∀ t : Fin cfg0.N, win0_2.index t = ![t.val % 8, t.val / 8] := (by decide +kernel : ∀ t : Fin grid0.N, win0_2.index t = ![t.val % 8, t.val / 8])
theorem ix3 : ∀ t : Fin cfg0.N, win0_3.index t = ![t.val % 8, t.val / 8] := (by decide +kernel : ∀ t : Fin grid0.N, win0_3.index t = ![t.val % 8, t.val / 8])
theorem ix4 : ∀ t : Fin cfg0.N, win0_4.index t = ![t.val % 8, t.val / 8] := (by decide +kernel : ∀ t : Fin grid0.N, win0_4.index t = ![t.val % 8, t.val / 8])
theorem ix5 : ∀ t : Fin cfg0.N, win0_5.index t = ![t.val % 8, t.val / 8] := (by decide +kernel : ∀ t : Fin grid0.N, win0_5.index t = ![t.val % 8, t.val / 8])

theorem in0 {f : ℕ → ℕ → ℝ} (h : R2 (a := 4096) (b := 1024) (m ((c : Thread nD τ).loc main_arg0)) f) (t : Fin cfg0.N) :
    R2 (a := 512) (b := 1024) (iblk m c 0 t) fun i j => f (t.val % 8 * 512 + i) j := by
  intro y
  refine (h _).trans ?_
  blk_simp [ix0]

theorem in1 {f : ℕ → ℕ → ℝ} (h : R2 (a := 2816) (b := 1024) (m ((c : Thread nD τ).loc main_arg1)) f) (t : Fin cfg0.N) :
    R2 (a := 1408) (b := 1024) (iblk m c 1 t) fun i j => f (t.val / 8 * 1408 + i) j := by
  intro y
  refine (h _).trans ?_
  blk_simp [ix1]

theorem in2 {f : ℕ → ℕ → ℝ} (h : R2 (a := 4096) (b := 2816) (m ((c : Thread nD τ).loc main_arg2)) f) (t : Fin cfg0.N) :
    R2 (a := 512) (b := 1408) (iblk m c 2 t) fun i j => f (t.val % 8 * 512 + i) (t.val / 8 * 1408 + j) := by
  intro y
  refine (h _).trans ?_
  blk_simp [ix2]

theorem in3 {f : ℕ → ℕ → ℝ} (h : R2 (a := 4096) (b := 2816) (m ((c : Thread nD τ).loc main_arg3)) f) (t : Fin cfg0.N) :
    R2 (a := 512) (b := 1408) (iblk m c 3 t) fun i j => f (t.val % 8 * 512 + i) (t.val / 8 * 1408 + j) := by
  intro y
  refine (h _).trans ?_
  blk_simp [ix3]

theorem point4 (t : Fin cfg0.N) : (outsAt0 m c t).1 = out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) := by simp only [outsAt0]

theorem point5 (t : Fin cfg0.N) : (outsAt0 m c t).2 = out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) := by simp only [outsAt0]

section results

variable {f g h u : ℕ → ℕ → ℝ} (hf : R2 (a := 4096) (b := 1024) (m ((c : Thread nD τ).loc main_arg0)) f) (hg : R2 (a := 2816) (b := 1024) (m ((c : Thread nD τ).loc main_arg1)) g)
  (hh : R2 (a := 4096) (b := 2816) (m ((c : Thread nD τ).loc main_arg2)) h) (hu : R2 (a := 4096) (b := 2816) (m ((c : Thread nD τ).loc main_arg3)) u) (G : FVec Ideal S4096x2816 .bf16)

include hf hg hh hu in
/-- The kernel's first result is the gate's gradient. -/
theorem result4 (hG : R2 (a := 4096) (b := 2816) G (dg f g h u)) : (dats m 0 c).arrAt 4 cfg0.N = G := by
  refine (dats m 0 c).arrAt_eq_of_covers 4 _ (by decide +kernel) fun t hf' y => ?_
  blk_simp
  rw [after0_4, point4 m c t]
  refine (o_4 c (grid0.coords t) (ms0_0 t) (hs0_0 t) (ms0_1 t) (hs0_1 t) (ms0_2 t) (hs0_2 t) (ms0_3 t) (hs0_3 t) (ms0_4 t) (hs0_4 t) (ms0_5 t) (hs0_5 t) (in0 m c hf t) (in1 m c hg t) (in2 m c hh t) (in3 m c hu t) y).trans (Eq.trans ?_ (hG _).symm)
  blk_simp [ix4]
  rfl

include hf hg hh in
/-- The second is the other factor's. -/
theorem result5 (hG : R2 (a := 4096) (b := 2816) G (du f g h)) : (dats m 0 c).arrAt 5 cfg0.N = G := by
  refine (dats m 0 c).arrAt_eq_of_covers 5 _ (by decide +kernel) fun t hf' y => ?_
  blk_simp
  rw [after0_5, point5 m c t]
  refine (o_5 c (grid0.coords t) (ms0_0 t) (hs0_0 t) (ms0_1 t) (hs0_1 t) (ms0_2 t) (hs0_2 t) (ms0_3 t) (hs0_3 t) (ms0_4 t) (hs0_4 t) (ms0_5 t) (hs0_5 t) (in0 m c hf t) (in1 m c hg t) (in2 m c hh t) y).trans (Eq.trans ?_ (hG _).symm)
  blk_simp [ix5]
  rfl

end results

end kernel

section reference

open Cert.Reference4Ideal Cert.Reference4Ideal.Read

variable {f g h u : ℕ → ℕ → ℝ} {x0 : FVec Ideal S4096x1024 .f32} {x1 : FVec Ideal S2816x1024 .bf16} {x2 x3 : FVec Ideal S4096x2816 .bf16} (hf : R2 (a := 4096) (b := 1024) x0 f) (hg : R2 (a := 2816) (b := 1024) x1 g)
  (hh : R2 (a := 4096) (b := 2816) x2 h) (hu : R2 (a := 4096) (b := 2816) x3 u)

include hf hg in
theorem ref_v10 : R2 (a := 4096) (b := 2816) (val_main_v10 (F := Ideal) x0 x1) (da f g) := fun i => by
  rw [val_main_v10_apply]
  unfold da
  rw [Finset.mul_sum, ← sum_fin_coe]
  refine Finset.sum_congr rfl fun k _ => ?_
  show Ideal.ofBits .f32 0x3F000000#32 * x0 (lidx_main_v10 i k) * x1 (ridx_main_v10 i k) = _
  rw [half_f32, hf, hg, ← EReal.coe_mul, ← EReal.coe_mul, mul_assoc]

include hh in
theorem ref_s : R2 (a := 4096) (b := 2816) (val_main_v3_2 (F := Ideal) x2) fun i j => sr (h i j) := fun i => by
  show Ideal.div (Ideal.ofBits .f32 0x3F800000#32) (Ideal.ofBits .f32 0x3F800000#32 + Ideal.exp (-(x2 i))) = _
  rw [one_f32, sg_eq, hh, sg_coe]
  rfl

include hf hg hh hu in
theorem ref_v14 : R2 (a := 4096) (b := 2816) (val_main_v14 (F := Ideal) x0 x1 x2 x3) (dg f g h u) := fun i => by
  show val_main_v10 (F := Ideal) x0 x1 i * x3 i * val_main_v3_2 (F := Ideal) x2 i + x2 i * (val_main_v10 (F := Ideal) x0 x1 i * x3 i) * (val_main_v3_2 (F := Ideal) x2 i * (Ideal.ofBits .f32 0x3F800000#32 - val_main_v3_2 (F := Ideal) x2 i)) = _
  rw [ref_v10 hf hg, ref_s hh, hh, hu, one_f32, ← EReal.coe_one, ← EReal.coe_sub]
  simp only [← EReal.coe_mul, ← EReal.coe_add]
  congr 1
  unfold dg
  ring

include hf hg hh in
theorem ref_v15 : R2 (a := 4096) (b := 2816) (val_main_v15 (F := Ideal) x0 x1 x2) (du f g h) := fun i => by
  show x2 i * val_main_v3_2 (F := Ideal) x2 i * val_main_v10 (F := Ideal) x0 x1 i = _
  rw [ref_v10 hf hg, ref_s hh, hh]
  simp only [← EReal.coe_mul]
  congr 1
  unfold du
  ring

end reference

set_option backward.isDefEq.respectTransparency.types false in
/-- The precondition says that the four arrays are arrays of real numbers. -/
theorem reals_of_pre (A0 : (Sh 4096 1024).Idx → EReal) (A1 : (Sh 2816 1024).Idx → EReal) (A2 A3 : (Sh 4096 2816).Idx → EReal) [Cert.Pre_finite4.Facts]
    (h : Cert.Pre_finite4.fn (F := Ideal) A0 A1 A2 A3 = fun _ => 1#1) : ∃ a0 a1 a2 a3, R2 A0 a0 ∧ R2 A1 a1 ∧ R2 A2 a2 ∧ R2 A3 a3 := by
  have e := congrFun h (Shape.Idx.first Cert.Pre_finite4.Facts.h_S_)
  dsimp only [Cert.Pre_finite4.fn, Cert.Pre_finite4.fn_part1] at e
  obtain ⟨e, e3⟩ := both_one _ _ e
  obtain ⟨e, e2⟩ := both_one _ _ e
  obtain ⟨e, e1⟩ := both_one _ _ e
  obtain ⟨e, e0⟩ := both_one _ _ e
  obtain ⟨a0, h0⟩ := R2.of_finite (a := 4096) (b := 1024) A0 (finite_of_all A0 _ _ _ _ e0)
  obtain ⟨a1, h1⟩ := R2.of_finite (a := 2816) (b := 1024) A1 (finite_of_all A1 _ _ _ _ e1)
  obtain ⟨a2, h2⟩ := R2.of_finite (a := 4096) (b := 2816) A2 (finite_of_all A2 _ _ _ _ e2)
  obtain ⟨a3, h3⟩ := R2.of_finite (a := 4096) (b := 2816) A3 (finite_of_all A3 _ _ _ _ e3)
  exact ⟨a0, a1, a2, a3, h0, h1, h2, h3⟩

set_option backward.isDefEq.respectTransparency.types false in
/-- On finite arguments the gradients of the gate and of the other factor are the reference's. -/
theorem algebraic : Cert.algebraic_Kernel4Ideal_Reference4Ideal_pre_finite4 := fun m g m' g' pre agree => by
  refine ⟨_, _, Cert.Kernel4Ideal.Value.run_blocks m g, ?_⟩
  refine (θ_run _ _ _).mono (fun r h c => ?_) (Cert.Reference4Ideal.Value.run (F := Ideal) m' g')
  obtain ⟨a0, a1, a2, a3, h0, h1, h2, h3⟩ := reals_of_pre _ _ _ _ (pre c)
  obtain ⟨g0, g1, g2, g3⟩ := agree c
  obtain ⟨r0, r1, rest⟩ := h c
  refine ⟨r0.trans ((Cert.Reference4Ideal.Read.val_main_v14_eq (F := Ideal) _ _ _ _).trans ?_), r1.trans ((Cert.Reference4Ideal.Read.val_main_v15_eq (F := Ideal) _ _ _).trans ?_), rest⟩
  · rw [g0, g1, g2, g3]
    exact (result4 m c h0 h1 h2 h3 _ (ref_v14 h0 h1 h2 h3)).symm
  · rw [g0, g1, g2]
    exact (result5 m c h0 h1 h2 _ (ref_v15 h0 h1 h2)).symm

end Cert.Attn.DownDx

end
-- ==== Proof.DownDw.lean ====
/- The gradient of the second feed-forward weight: a product accumulated over two blocks of rows, scaled by a half, against
   the one product of the scaled cotangent. -/
module

public import proofs.«01_k».proof.Defs
public import proofs.«01_k».proof.Proof.Ext
public import Idealize.ShloMosaic.Lib.Pipeline.ValueKit
public import proofs.«01_k».proof.Proof.Gen.Kernel5Ideal.Value
public import proofs.«01_k».proof.Proof.Gen.Reference5Ideal.Run
public import proofs.«01_k».proof.Proof.Gen.Reference5Ideal.Read

@[expose] public section

set_option maxRecDepth 16384

noncomputable section

namespace Cert.Attn.DownDw

open Idealize.ShloMosaic Idealize.ShloMosaic.TcCoe Idealize.SL.Sem
open scoped BigOperators
open Finset (range)

section kernel

open Cert.Kernel5Ideal Cert.Kernel5Ideal.Gen Cert.Kernel5Ideal.Value

section body

variable {F : FTy → Type} [FloatOps F]

theorem s_A (c : Dev nD) (i : grid0.Coords) (a3 : Memref sig .tc .vmem S2048x1408 .bf16) (h3 : a3.IsWhole) (a4 : Memref sig .tc .vmem S2048x512 .f32) (h4 : a4.IsWhole)
    (a5 : Memref sig .tc .vmem S1408x512 .bf16) (h5 : a5.IsWhole) (a6 : Memref sig .tc .vmem S1408x512 .f32) (h6 : a6.IsWhole) (hc0 hc1 hc2)
    (x0 : Vec F S2048x1408 .bf16) (x1 : Vec F S2048x512 .f32) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x1408) hz2, View.ld_unit_zero (S := S2048x512) hz2, shapeCast_self]

theorem o_B (c : Dev nD) (i : grid0.Coords) (a3 : Memref sig .tc .vmem S2048x1408 .bf16) (h3 : a3.IsWhole) (a4 : Memref sig .tc .vmem S2048x512 .f32) (h4 : a4.IsWhole)
    (a5 : Memref sig .tc .vmem S1408x512 .bf16) (h5 : a5.IsWhole) (a6 : Memref sig .tc .vmem S1408x512 .f32) (h6 : a6.IsWhole) (hc0 hc1 hc2)
    (x0 : Vec F S2048x1408 .bf16) (x1 : Vec F S2048x512 .f32) (xs : Vec F S1408x512 .f32) :
    out0_B_2 c i a3 h3 a4 h4 a5 h5 a6 h6 hc0 hc1 hc2 x0 x1 xs = k0_pay4 (addf xs (k0_pay1 x0 x1)) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz2, View.readCov_unit_zero (S := S1408x512) _ hz2]
  unfold k0_pay3
  simp only [View.readAt_eq_ld, h3.read_unread, h4.read_unread, h6.read_unread, View.ld_unit_zero (S := S2048x1408) hz2, View.ld_unit_zero (S := S2048x512) hz2,
    View.ld_unit_zero (S := S1408x512) hz2, shapeCast_self]

variable (m : (ℓ : Loc nD τ sig) → Buf (Elt F) ℓ)

/-- What a point that writes back leaves in the output's buffer: the half of the two blocks' products, added. -/
theorem out_odd (c : Dev nD) (t t' : Fin cfg0.N) (h : t.val % 2 = 1) (ht : t'.val = t.val - 1) :
    (outsAt0 m c t.val t.isLt).1 = k0_pay4 (F := F) (addf (k0_pay1 (F := F) (iblk m c 0 t') (iblk m c 1 t')) (k0_pay1 (F := F) (iblk m c 0 t) (iblk m c 1 t))) := by
  rw [outsAt0_B m c t (by omega) h h]
  dsimp only
  rw [o_B (F := F)]
  have e : (outsAt0 m c (t.val - 1) (by have := t.isLt; omega)).2 = k0_pay1 (F := F) (iblk m c 0 t') (iblk m c 1 t') := by
    have := outsAt0_A m c t' (by omega) (by omega) (by omega)
    simp only [ht] at this
    rw [this]
    dsimp only
    rw [s_A (F := F)]
  rw [e]

end body

variable (m : (ℓ : Loc nD τ sig) → Buf (Elt Ideal) ℓ) (c : Dev nD)

theorem ix0 : ∀ t : Fin cfg0.N, win0_0.index t = ![t.val % 2, t.val / 4] := (by decide +kernel : ∀ t : Fin grid0.N, win0_0.index t = ![t.val % 2, t.val / 4])
theorem ix1 : ∀ t : Fin cfg0.N, win0_1.index t = ![t.val % 2, t.val / 2 % 2] := (by decide +kernel : ∀ t : Fin grid0.N, win0_1.index t = ![t.val % 2, t.val / 2 % 2])

theorem in0 {f : ℕ → ℕ → EReal} (h : X2 (a := 4096) (b := 2816) (m ((c : Thread nD τ).loc main_arg0)) f) (t : Fin cfg0.N) :
    X2 (a := 2048) (b := 1408) (iblk m c 0 t) fun i j => f (t.val % 2 * 2048 + i) (t.val / 4 * 1408 + j) := by
  intro y
  refine (h _).trans ?_
  blk_simp [ix0]

theorem in1 {f : ℕ → ℕ → EReal} (h : X2 (a := 4096) (b := 1024) (m ((c : Thread nD τ).loc main_arg1)) f) (t : Fin cfg0.N) :
    X2 (a := 2048) (b := 512) (iblk m c 1 t) fun i j => f (t.val % 2 * 2048 + i) (t.val / 2 % 2 * 512 + j) := by
  intro y
  refine (h _).trans ?_
  blk_simp [ix1]

theorem pay1_x {A : FVec Ideal S2048x1408 .bf16} {B : FVec Ideal S2048x512 .f32} {f g : ℕ → ℕ → EReal} (hA : X2 A f) (hB : X2 B g) :
    X2 (a := 1408) (b := 512) (k0_pay1 (F := Ideal) A B) fun i j => ∑ k ∈ range 2048, f k i * g k j :=
  X2.tn _ rfl rfl rfl rfl rfl rfl none hA hB X2.zero

theorem pay4_x {A : FVec Ideal S1408x512 .f32} {f : ℕ → ℕ → EReal} (hA : X2 A f) :
    X2 (a := 1408) (b := 512) (k0_pay4 (F := Ideal) A) fun i j => f i j * ((1 / 2 : ℝ) : EReal) := fun i => by
  show A i * Ideal.ofBits .f32 0x3F000000#32 = _
  rw [hA i, half_f32]

/-- The kernel's result: the half of the product of the transposed activations with the cotangent. -/
theorem result {f g : ℕ → ℕ → EReal} (hf : X2 (a := 4096) (b := 2816) (m ((c : Thread nD τ).loc main_arg0)) f)
    (hg : X2 (a := 4096) (b := 1024) (m ((c : Thread nD τ).loc main_arg1)) g) :
    X2 (a := 2816) (b := 1024) (G2 m c) fun i j => ((1 / 2 : ℝ) : EReal) * ∑ k ∈ range 4096, f k i * g k j := fun i => by
  have l0 : (i 0).val < 2816 := (i 0).isLt
  have l1 : (i 1).val < 1024 := (i 1).isLt
  have hp : pt2Of i < cfg0.N := lt_of_lt_of_eq (by unfold pt2Of run2Of; omega) N_0.symm
  have hp' : pt2Of i - 1 < cfg0.N := by omega
  unfold G2
  rw [dif_pos hp, ← outsAt0_sweep m c (pt2Of i) hp, out_odd m c ⟨pt2Of i, hp⟩ ⟨pt2Of i - 1, hp'⟩ (by show (2 * run2Of i + 1) % 2 = 1; omega) rfl]
  refine (pay4_x ((pay1_x (in0 m c hf _) (in1 m c hg _)).add (pay1_x (in0 m c hf _) (in1 m c hg _))) (loc2Of i)).trans ?_
  dsimp only
  rw [mul_comm, show (4096 : ℕ) = 2048 + 2048 from rfl, Finset.sum_range_add]
  have e0 : (pt2Of i - 1) % 2 = 0 := by unfold pt2Of; omega
  have e1 : pt2Of i % 2 = 1 := by unfold pt2Of; omega
  have r0 : (pt2Of i - 1) / 4 * 1408 + (i 0).val % 1408 = (i 0).val := by unfold pt2Of run2Of; omega
  have r1 : pt2Of i / 4 * 1408 + (i 0).val % 1408 = (i 0).val := by unfold pt2Of run2Of; omega
  have c0 : (pt2Of i - 1) / 2 % 2 * 512 + (i 1).val % 512 = (i 1).val := by unfold pt2Of run2Of; omega
  have c1 : pt2Of i / 2 % 2 * 512 + (i 1).val % 512 = (i 1).val := by unfold pt2Of run2Of; omega
  show _ * ((∑ k ∈ range 2048, f ((pt2Of i - 1) % 2 * 2048 + k) ((pt2Of i - 1) / 4 * 1408 + (i 0).val % 1408) * g ((pt2Of i - 1) % 2 * 2048 + k) ((pt2Of i - 1) / 2 % 2 * 512 + (i 1).val % 512))
    + ∑ k ∈ range 2048, f (pt2Of i % 2 * 2048 + k) (pt2Of i / 4 * 1408 + (i 0).val % 1408) * g (pt2Of i % 2 * 2048 + k) (pt2Of i / 2 % 2 * 512 + (i 1).val % 512)) = _
  rw [e0, e1, r0, r1, c0, c1]
  simp only [Nat.zero_mul, Nat.zero_add, Nat.one_mul]

end kernel

section reference

open Cert.Reference5Ideal Cert.Reference5Ideal.Read

/-- The reference's result: the product of the transposed activations with the halved cotangent. -/
theorem ref {f g : ℕ → ℕ → EReal} (x0 : FVec Ideal S4096x2816 .bf16) (x1 : FVec Ideal S4096x1024 .f32) (hf : X2 (a := 4096) (b := 2816) x0 f) (hg : X2 (a := 4096) (b := 1024) x1 g) :
    X2 (a := 2816) (b := 1024) (val_main_v9 (F := Ideal) x0 x1) fun i j => ((1 / 2 : ℝ) : EReal) * ∑ k ∈ range 4096, f k i * g k j := fun i => by
  show val_main_v8 (F := Ideal) x0 x1 i = _
  rw [val_main_v8_apply, val_main_v7_apply]
  refine Eq.trans ?_ (mul_sum_of_nonneg (by norm_num) _ _).symm
  refine Eq.trans ?_ (Finset.sum_range _).symm
  refine Finset.sum_congr rfl fun k _ => ?_
  show Ideal.ofBits .f32 0x3F000000#32 * x1 (lidx_main_v7 (idx_main_v8 i) k) * x0 (ridx_main_v7 (idx_main_v8 i) k) = _
  rw [hf, hg, half_f32, mul_assoc, mul_comm (g _ _)]

end reference

set_option backward.isDefEq.respectTransparency.types false in
/-- The gradient of the second feed-forward weight is the reference's, at every argument. -/
theorem algebraic : Cert.algebraic_Kernel5Ideal_Reference5Ideal := fun m g m' g' _ agree => by
  refine ⟨fun c => Cert.Kernel5Ideal.Value.G2 m c, Cert.Kernel5Ideal.Value.run m g, ?_⟩
  refine (θ_run _ _ _).mono (fun r h c => ?_) (Cert.Reference5Ideal.Value.run (F := Ideal) m' g')
  obtain ⟨g0, g1⟩ := agree c
  obtain ⟨r0, rest⟩ := h c
  refine ⟨r0.trans ((Cert.Reference5Ideal.Read.val_main_v9_eq (F := Ideal) _ _).trans (funext fun i => ?_)), rest⟩
  rw [g0, g1]
  exact (ref _ _ (X2.self _) (X2.self _) i).trans (result m c (X2.self _) (X2.self _) i).symm

end Cert.Attn.DownDw

end
-- ==== Proof.UpAct.lean ====
/- The first feed-forward product with its activation: a block of rows against a half of the gate's columns and the same half of
   the other's, a chunk of columns at a time. -/
module

public import proofs.«01_k».proof.Defs
public import proofs.«01_k».proof.Proof.Ext
public import Idealize.ShloMosaic.Lib.Pipeline.ValueKit
public import Idealize.ShloMosaic.Lib.Claim
public import proofs.«01_k».proof.Proof.Gen.Kernel6Ideal.Value
public import proofs.«01_k».proof.Proof.Gen.Reference6Ideal.Run
public import proofs.«01_k».proof.Proof.Gen.Reference6Ideal.Read

@[expose] public section

set_option maxRecDepth 16384

noncomputable section

namespace Cert.Attn.UpAct

open Idealize.ShloMosaic Idealize.ShloMosaic.TcCoe Idealize.SL.Sem
open scoped BigOperators
open Finset (range)

section kernel

open Cert.Kernel6Ideal Cert.Kernel6Ideal.Gen Cert.Kernel6Ideal.Value

/-- A row of `f` times a column of `g`. -/
def pr (f g : ℕ → ℕ → EReal) (i j : ℕ) : EReal := ∑ k ∈ range 1024, f i k * g k j

section chunk

variable {A : FVec Ideal S512x1024 .bf16} {f g h : ℕ → ℕ → EReal} {o : ℕ}

/-- The product of a block of rows and a chunk of columns. -/
theorem proj {w : ℕ} (hA : X2 A f) {B : Vec Ideal S1x1024x1408 .bf16} (hB : X3 B g) (inb : ∀ x, (![0, 0, o] : Fin 3 → ℕ) x + (![1, 1024, w] : Fin 3 → ℕ) x ≤ S1x1024x1408.size x)
    (hs : (⟨3, ![1, 1024, w]⟩ : Shape).ShapeCasts (Sh 1024 w)) (d : DotDims S512x1024 (Sh 1024 w) (Sh 512 w)) (hd : d = DotDims.plain 512 1024 w) :
    X2 (matmul (F := Ideal) (φ₁ := .bf16) (φ₂ := .bf16) d none A (shapeCast (Sh 1024 w) (View.ld (Val := Elt Ideal) B (Rect.unit (s := S1x1024x1408) ![0, 0, o] ![1, 1024, w] inb)) hs) (constant (Sh 512 w) .f32 0x00000000#32))
      fun i j => pr f g i (o + j) := (X2.plain d hd none hA (X3.cols hB inb hs) X2.zero).congr fun _ _ _ _ => rfl

/-- The gate times its logistic function, times the other factor. -/
theorem act {w : ℕ} {G U : FVec Ideal (Sh 512 w) .f32} (hG : X2 G fun i j => pr f g i (o + j)) (hU : X2 U fun i j => pr f h i (o + j)) :
    X2 (mulf (mulf G (addf (mulf (broadcast (Sh 512 w) (Scalar.ofBits (F := Ideal) .f32 0x3F000000#32)) (tanh (mulf (broadcast (Sh 512 w) (Scalar.ofBits (F := Ideal) .f32 0x3F000000#32)) G)))
      (broadcast (Sh 512 w) (Scalar.ofBits (F := Ideal) .f32 0x3F000000#32)))) U) fun i j => pr f g i (o + j) * sg (pr f g i (o + j)) * pr f h i (o + j) :=
  (hG.mul (X2.sg hG)).mul hU

end chunk

section body

variable (c : Dev nD) (i : grid0.Coords) (a2 : Memref sig .tc .vmem S512x1024 .bf16) (h2 : a2.IsWhole) (a3 : Memref sig .tc .vmem S1x1024x1408 .bf16) (h3 : a3.IsWhole)
  (a4 : Memref sig .tc .vmem S1x1024x1408 .bf16) (h4 : a4.IsWhole) (a5 : Memref sig .tc .vmem S512x1408 .bf16) (h5 : a5.IsWhole) (a6 : Memref sig .tc .vmem S512x1408 .bf16) (h6 : a6.IsWhole)
  (a7 : Memref sig .tc .vmem S512x1408 .bf16) (h7 : a7.IsWhole)
  {x0 : Vec Ideal S512x1024 .bf16} {x1 x2 : Vec Ideal S1x1024x1408 .bf16} {f g h : ℕ → ℕ → EReal} (hx0 : X2 (a := 512) (b := 1024) x0 f) (hx1 : X3 x1 g) (hx2 : X3 x2 h)

include hx0 hx1 in
theorem o_3 : X2 (a := 512) (b := 1408) (out0_A_3 (F := Ideal) c i a2 h2 a3 h3 a4 h4 a5 h5 a6 h6 a7 h7 x0 x1 x2) (pr f g) := by
  unfold out0_A_3
  rw [View.read_writes_eq_canon _ _ _ (cover0_A_3 c i a2 h2 a3 h3 a4 h4 a5 h5 a6 h6 a7 h7 x0 x1 x2)]
  unfold kernelRun0_A
  dsimp only
  sl_unfold_words
  simp only [View.readAt_eq_ld, h2.read_unread, h3.read_unread, h4.read_unread, View.ld_unit_zero (S := S512x1024) hz2]
  exact ((((((XC.none _ _).store (c := 0) (w := 256) (proj hx0 hx1 _ _ _ rfl) rfl).store (c := 256) (w := 256) (proj hx0 hx1 _ _ _ rfl) rfl).store (c := 512) (w := 256) (proj hx0 hx1 _ _ _ rfl) rfl).store (c := 768) (w := 256)
    (proj hx0 hx1 _ _ _ rfl) rfl).store (c := 1024) (w := 256) (proj hx0 hx1 _ _ _ rfl) rfl).store (c := 1280) (w := 128) (proj hx0 hx1 _ _ _ rfl) rfl |>.x2

include hx0 hx2 in
theorem o_4 : X2 (a := 512) (b := 1408) (out0_A_4 (F := Ideal) c i a2 h2 a3 h3 a4 h4 a5 h5 a6 h6 a7 h7 x0 x1 x2) (pr f h) := by
  unfold out0_A_4
  rw [View.read_writes_eq_canon _ _ _ (cover0_A_4 c i a2 h2 a3 h3 a4 h4 a5 h5 a6 h6 a7 h7 x0 x1 x2)]
  unfold kernelRun0_A
  dsimp only
  sl_unfold_words
  simp only [View.readAt_eq_ld, h2.read_unread, h3.read_unread, h4.read_unread, View.ld_unit_zero (S := S512x1024) hz2]
  exact ((((((XC.none _ _).store (c := 0) (w := 256) (proj hx0 hx2 _ _ _ rfl) rfl).store (c := 256) (w := 256) (proj hx0 hx2 _ _ _ rfl) rfl).store (c := 512) (w := 256) (proj hx0 hx2 _ _ _ rfl) rfl).store (c := 768) (w := 256)
    (proj hx0 hx2 _ _ _ rfl) rfl).store (c := 1024) (w := 256) (proj hx0 hx2 _ _ _ rfl) rfl).store (c := 1280) (w := 128) (proj hx0 hx2 _ _ _ rfl) rfl |>.x2

include hx0 hx1 hx2 in
theorem o_5 : X2 (a := 512) (b := 1408) (out0_A_5 (F := Ideal) c i a2 h2 a3 h3 a4 h4 a5 h5 a6 h6 a7 h7 x0 x1 x2) fun i j => pr f g i j * sg (pr f g i j) * pr f h i j := by
  unfold out0_A_5
  rw [View.read_writes_eq_canon _ _ _ (cover0_A_5 c i a2 h2 a3 h3 a4 h4 a5 h5 a6 h6 a7 h7 x0 x1 x2)]
  unfold kernelRun0_A
  dsimp only
  sl_unfold_words
  simp only [View.readAt_eq_ld, h2.read_unread, h3.read_unread, h4.read_unread, View.ld_unit_zero (S := S512x1024) hz2]
  exact ((((((XC.none _ _).store (c := 0) (w := 256) (act (proj hx0 hx1 _ _ _ rfl) (proj hx0 hx2 _ _ _ rfl)) rfl).store (c := 256) (w := 256) (act (proj hx0 hx1 _ _ _ rfl) (proj hx0 hx2 _ _ _ rfl)) rfl).store (c := 512) (w := 256)
    (act (proj hx0 hx1 _ _ _ rfl) (proj hx0 hx2 _ _ _ rfl)) rfl).store (c := 768) (w := 256) (act (proj hx0 hx1 _ _ _ rfl) (proj hx0 hx2 _ _ _ rfl)) rfl).store (c := 1024) (w := 256)
    (act (proj hx0 hx1 _ _ _ rfl) (proj hx0 hx2 _ _ _ rfl)) rfl).store (c := 1280) (w := 128) (act (proj hx0 hx1 _ _ _ rfl) (proj hx0 hx2 _ _ _ rfl)) rfl |>.x2

end body

variable (m : (ℓ : Loc nD τ sig) → Buf (Elt Ideal) ℓ) (c : Dev nD)

theorem ix0 : ∀ t : Fin cfg0.N, win0_0.index t = ![t.val % 8, 0] := (by decide +kernel : ∀ t : Fin grid0.N, win0_0.index t = ![t.val % 8, 0])
theorem ix1 : ∀ t : Fin cfg0.N, win0_1.index t = ![t.val / 8, 0, 0] := (by decide +kernel : ∀ t : Fin grid0.N, win0_1.index t = ![t.val / 8, 0, 0])
theorem ix2 : ∀ t : Fin cfg0.N, win0_2.index t = ![t.val / 8 + 2, 0, 0] := (by decide +kernel : ∀ t : Fin grid0.N, win0_2.index t = ![t.val / 8 + 2, 0, 0])
theorem ix3 : ∀ t : Fin cfg0.N, win0_3.index t = ![t.val % 8, t.val / 8] := (by decide +kernel : ∀ t : Fin grid0.N, win0_3.index t = ![t.val % 8, t.val / 8])
theorem ix4 : ∀ t : Fin cfg0.N, win0_4.index t = ![t.val % 8, t.val / 8] := (by decide +kernel : ∀ t : Fin grid0.N, win0_4.index t = ![t.val % 8, t.val / 8])
theorem ix5 : ∀ t : Fin cfg0.N, win0_5.index t = ![t.val % 8, t.val / 8] := (by decide +kernel : ∀ t : Fin grid0.N, win0_5.index t = ![t.val % 8, t.val / 8])

theorem in0 {f : ℕ → ℕ → EReal} (h : X2 (a := 4096) (b := 1024) (m ((c : Thread nD τ).loc main_arg0)) f) (t : Fin cfg0.N) :
    X2 (a := 512) (b := 1024) (iblk m c 0 t) fun i j => f (t.val % 8 * 512 + i) j := by
  intro y
  refine (h _).trans ?_
  blk_simp [ix0]

theorem in1 {g : ℕ → ℕ → EReal} (h : X2 (a := 1024) (b := 5632) (m ((c : Thread nD τ).loc main_arg1)) g) (t : Fin cfg0.N) :
    X3 (a := 1024) (b := 1408) (iblk m c 1 t) fun i j => g i (t.val / 8 * 1408 + j) := by
  intro y
  show V m c main_v1 _ = _
  entry_read
  refine (stack h _ _ _).trans ?_
  blk_simp [ix1]

theorem in2 {g : ℕ → ℕ → EReal} (h : X2 (a := 1024) (b := 5632) (m ((c : Thread nD τ).loc main_arg1)) g) (t : Fin cfg0.N) :
    X3 (a := 1024) (b := 1408) (iblk m c 2 t) fun i j => g i ((t.val / 8 + 2) * 1408 + j) := by
  intro y
  show V m c main_v1 _ = _
  entry_read
  refine (stack h _ _ _).trans ?_
  blk_simp [ix2]

theorem point3 (t : Fin cfg0.N) : (outsAt0 m c t).1 = out0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) := by simp only [outsAt0]

theorem point4 (t : Fin cfg0.N) : (outsAt0 m c t).2.1 = out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) := by simp only [outsAt0]

theorem point5 (t : Fin cfg0.N) : (outsAt0 m c t).2.2 = out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) := by simp only [outsAt0]

section results

variable {f g : ℕ → ℕ → EReal} (hf : X2 (a := 4096) (b := 1024) (m ((c : Thread nD τ).loc main_arg0)) f) (hg : X2 (a := 1024) (b := 5632) (m ((c : Thread nD τ).loc main_arg1)) g) (G : FVec Ideal S4096x2816 .bf16)

include hf hg

/-- The kernel's first result: the product with the first half of the columns. -/
theorem result3 (hG : X2 (a := 4096) (b := 2816) G (pr f g)) : (dats m 0 c).arrAt 3 cfg0.N = G := by
  refine (dats m 0 c).arrAt_eq_of_covers 3 _ (by decide +kernel) fun t hf' y => ?_
  blk_simp
  rw [after0_3, point3 m c t]
  refine (o_3 c (grid0.coords t) (ms0_0 t) (hs0_0 t) (ms0_1 t) (hs0_1 t) (ms0_2 t) (hs0_2 t) (ms0_3 t) (hs0_3 t) (ms0_4 t) (hs0_4 t) (ms0_5 t) (hs0_5 t) (in0 m c hf t) (in1 m c hg t) y).trans (Eq.trans ?_ (hG _).symm)
  blk_simp [ix3]
  rfl

/-- The second: the product with the second half. -/
theorem result4 (hG : X2 (a := 4096) (b := 2816) G fun i j => pr f g i (2816 + j)) : (dats m 0 c).arrAt 4 cfg0.N = G := by
  refine (dats m 0 c).arrAt_eq_of_covers 4 _ (by decide +kernel) fun t hf' y => ?_
  blk_simp
  rw [after0_4, point4 m c t]
  refine (o_4 c (grid0.coords t) (ms0_0 t) (hs0_0 t) (ms0_1 t) (hs0_1 t) (ms0_2 t) (hs0_2 t) (ms0_3 t) (hs0_3 t) (ms0_4 t) (hs0_4 t) (ms0_5 t) (hs0_5 t) (in0 m c hf t) (in2 m c hg t) y).trans (Eq.trans ?_ (hG _).symm)
  blk_simp [ix4]
  exact Finset.sum_congr rfl fun k _ => by dsimp only; rw [show (t.val / 8 + 2) * 1408 + (y 1).val = 2816 + (t.val / 8 * 1408 + (y 1).val) by omega]

/-- The third: the activation. -/
theorem result5 (hG : X2 (a := 4096) (b := 2816) G fun i j => pr f g i j * sg (pr f g i j) * pr f g i (2816 + j)) : (dats m 0 c).arrAt 5 cfg0.N = G := by
  refine (dats m 0 c).arrAt_eq_of_covers 5 _ (by decide +kernel) fun t hf' y => ?_
  blk_simp
  rw [after0_5, point5 m c t]
  refine (o_5 c (grid0.coords t) (ms0_0 t) (hs0_0 t) (ms0_1 t) (hs0_1 t) (ms0_2 t) (hs0_2 t) (ms0_3 t) (hs0_3 t) (ms0_4 t) (hs0_4 t) (ms0_5 t) (hs0_5 t) (in0 m c hf t) (in1 m c hg t) (in2 m c hg t) y).trans (Eq.trans ?_ (hG _).symm)
  blk_simp [ix5]
  refine congrArg₂ _ rfl (Finset.sum_congr rfl fun k _ => ?_)
  dsimp only
  rw [show (t.val / 8 + 2) * 1408 + (y 1).val = 2816 + (t.val / 8 * 1408 + (y 1).val) by omega]

end results

end kernel

section reference

open Cert.Reference6Ideal Cert.Reference6Ideal.Read

variable {f g : ℕ → ℕ → EReal} {x0 : FVec Ideal S4096x1024 .bf16} {x1 : FVec Ideal S1024x5632 .bf16} (hf : X2 (a := 4096) (b := 1024) x0 f) (hg : X2 (a := 1024) (b := 5632) x1 g)

include hf hg

theorem ref_v2 : X2 (a := 4096) (b := 5632) (val_main_v2 (F := Ideal) x0 x1) (pr f g) := fun i => by
  rw [val_main_v2_apply]
  refine Eq.trans ?_ (Finset.sum_range _).symm
  refine Finset.sum_congr rfl fun k _ => ?_
  show x0 (lidx_main_v2 i k) * x1 (ridx_main_v2 i k) = _
  rw [hf, hg]

theorem ref_v3 : X2 (a := 4096) (b := 2816) (val_main_v3 (F := Ideal) x0 x1) (pr f g) := fun i => by
  rw [val_main_v3_apply, ref_v2 hf hg]

theorem ref_v4 : X2 (a := 4096) (b := 2816) (val_main_v4 (F := Ideal) x0 x1) fun i j => pr f g i (2816 + j) := fun i => by
  rw [val_main_v4_apply, ref_v2 hf hg]

theorem ref_v9 : X2 (a := 4096) (b := 2816) (val_main_v9 (F := Ideal) x0 x1) fun i j => pr f g i j * sg (pr f g i j) * pr f g i (2816 + j) := fun i => by
  show val_main_v3 (F := Ideal) x0 x1 i * Ideal.div (Ideal.ofBits .f32 0x3F800000#32) (Ideal.ofBits .f32 0x3F800000#32 + Ideal.exp (-(val_main_v3 (F := Ideal) x0 x1 i))) * val_main_v4 (F := Ideal) x0 x1 i = _
  rw [one_f32, sg_eq, ref_v3 hf hg, ref_v4 hf hg]

end reference

set_option backward.isDefEq.respectTransparency.types false in
/-- The first feed-forward product with its activation is the reference's, at every argument. -/
theorem algebraic : Cert.algebraic_Kernel6Ideal_Reference6Ideal := fun m g m' g' _ agree => by
  refine ⟨_, _, _, Cert.Kernel6Ideal.Value.run_blocks m g, ?_⟩
  refine (θ_run _ _ _).mono (fun r h c => ?_) (Cert.Reference6Ideal.Value.run (F := Ideal) m' g')
  obtain ⟨g0, g1⟩ := agree c
  obtain ⟨r0, r1, r2, rest⟩ := h c
  have e0 := X2.self (a := 4096) (b := 1024) (m ((c : Thread Cert.Kernel6Ideal.nD Cert.Kernel6Ideal.τ).loc Cert.Kernel6Ideal.main_arg0))
  have e1 := X2.self (a := 1024) (b := 5632) (m ((c : Thread Cert.Kernel6Ideal.nD Cert.Kernel6Ideal.τ).loc Cert.Kernel6Ideal.main_arg1))
  refine ⟨r0.trans ((Cert.Reference6Ideal.Read.val_main_v5_eq (F := Ideal) _ _).trans ?_), r1.trans ((Cert.Reference6Ideal.Read.val_main_v6_eq (F := Ideal) _ _).trans ?_),
    r2.trans ((Cert.Reference6Ideal.Read.val_main_v9_eq (F := Ideal) _ _).trans ?_), rest⟩
  · rw [g0, g1]
    exact (result3 m c e0 e1 _ (ref_v3 e0 e1)).symm
  · rw [g0, g1]
    exact (result4 m c e0 e1 _ (ref_v4 e0 e1)).symm
  · rw [g0, g1]
    exact (result5 m c e0 e1 _ (ref_v9 e0 e1)).symm

end Cert.Attn.UpAct

end
-- ==== Proof.Down.lean ====
/- The second feed-forward product with its residual: a block of rows at a time, against the whole of both. -/
module

public import proofs.«01_k».proof.Defs
public import proofs.«01_k».proof.Proof.Ext
public import Idealize.ShloMosaic.Lib.Pipeline.ValueKit
public import proofs.«01_k».proof.Proof.Gen.Kernel7Ideal.Value
public import proofs.«01_k».proof.Proof.Gen.Reference7Ideal.Run
public import proofs.«01_k».proof.Proof.Gen.Reference7Ideal.Read

@[expose] public section

set_option maxRecDepth 16384

noncomputable section

namespace Cert.Attn.Down

open Idealize.ShloMosaic Idealize.ShloMosaic.TcCoe Idealize.SL.Sem
open scoped BigOperators
open Finset (range)

section kernel

open Cert.Kernel7Ideal Cert.Kernel7Ideal.Gen Cert.Kernel7Ideal.Value

theorem out_x {A : FVec Ideal S512x2816 .bf16} {B : FVec Ideal S2816x1024 .bf16} {C : FVec Ideal S512x1024 .f32} {f g h : ℕ → ℕ → EReal} (hA : X2 A f) (hB : X2 B g) (hC : X2 C h) :
    X2 (a := 512) (b := 1024) (out0_3 (F := Ideal) A B C) fun i j => h i j + (∑ k ∈ range 2816, f i k * g k j) * ((1 / 2 : ℝ) : EReal) := by
  unfold out0_3
  rw [View.canon_unit_zero hz2, View.ld_unit_zero (S := S512x2816) hz2, View.ld_unit_zero (S := S2816x1024) hz2, View.ld_unit_zero (S := S512x1024) hz2]
  exact hC.add ((X2.plain _ rfl none hA hB X2.zero).mul fun i => half_f32)

variable (m : (ℓ : Loc nD τ sig) → Buf (Elt Ideal) ℓ) (c : Dev nD)

theorem ix0 : ∀ t : Fin cfg0.N, win0_0.index t = ![t.val, 0] := (by decide +kernel : ∀ t : Fin grid0.N, win0_0.index t = ![t.val, 0])
theorem ix1 : ∀ t : Fin cfg0.N, win0_1.index t = ![0, 0] := (by decide +kernel : ∀ t : Fin grid0.N, win0_1.index t = ![0, 0])
theorem ix2 : ∀ t : Fin cfg0.N, win0_2.index t = ![t.val, 0] := (by decide +kernel : ∀ t : Fin grid0.N, win0_2.index t = ![t.val, 0])
theorem ix3 : ∀ t : Fin cfg0.N, win0_3.index t = ![t.val, 0] := (by decide +kernel : ∀ t : Fin grid0.N, win0_3.index t = ![t.val, 0])

theorem in0 {f : ℕ → ℕ → EReal} (h : X2 (a := 4096) (b := 2816) (m ((c : Thread nD τ).loc main_arg0)) f) (t : Fin cfg0.N) :
    X2 (a := 512) (b := 2816) (iblk m c 0 t) fun i j => f (t.val * 512 + i) j := by
  intro y
  refine (h _).trans ?_
  blk_simp [ix0]

theorem in1 {f : ℕ → ℕ → EReal} (h : X2 (a := 2816) (b := 1024) (m ((c : Thread nD τ).loc main_arg1)) f) (t : Fin cfg0.N) :
    X2 (a := 2816) (b := 1024) (iblk m c 1 t) fun i j => f i j := by
  intro y
  refine (h _).trans ?_
  blk_simp [ix1]

theorem in2 {f : ℕ → ℕ → EReal} (h : X2 (a := 4096) (b := 1024) (m ((c : Thread nD τ).loc main_arg2)) f) (t : Fin cfg0.N) :
    X2 (a := 512) (b := 1024) (iblk m c 2 t) fun i j => f (t.val * 512 + i) j := by
  intro y
  refine (h _).trans ?_
  blk_simp [ix2]

/-- The kernel's result: the residual and the half of the product, added. -/
theorem result {f g h : ℕ → ℕ → EReal} (hf : X2 (a := 4096) (b := 2816) (m ((c : Thread nD τ).loc main_arg0)) f) (hg : X2 (a := 2816) (b := 1024) (m ((c : Thread nD τ).loc main_arg1)) g)
    (hh : X2 (a := 4096) (b := 1024) (m ((c : Thread nD τ).loc main_arg2)) h) (G : FVec Ideal S4096x1024 .f32)
    (hG : X2 (a := 4096) (b := 1024) G fun i j => h i j + (∑ k ∈ range 2816, f i k * g k j) * ((1 / 2 : ℝ) : EReal)) :
    (dats m 0 c).arrAt 3 cfg0.N = G := by
  refine (dats m 0 c).arrAt_eq_of_covers 3 _ (by decide +kernel) fun t hf' y => ?_
  blk_simp
  rw [after0_3]
  refine (out_x (in0 m c hf t) (in1 m c hg t) (in2 m c hh t) y).trans (Eq.trans ?_ (hG _).symm)
  blk_simp [ix3]

end kernel

section reference

open Cert.Reference7Ideal Cert.Reference7Ideal.Read

/-- The reference's result is the same. -/
theorem ref {f g h : ℕ → ℕ → EReal} (x0 : FVec Ideal S4096x2816 .bf16) (x1 : FVec Ideal S2816x1024 .bf16) (x2 : FVec Ideal S4096x1024 .f32) (hf : X2 (a := 4096) (b := 2816) x0 f)
    (hg : X2 (a := 2816) (b := 1024) x1 g) (hh : X2 (a := 4096) (b := 1024) x2 h) :
    X2 (a := 4096) (b := 1024) (val_main_v5 (F := Ideal) x0 x1 x2) fun i j => h i j + (∑ k ∈ range 2816, f i k * g k j) * ((1 / 2 : ℝ) : EReal) := fun i => by
  show x2 i + Ideal.ofBits .f32 0x3F000000#32 * val_main_v2 (F := Ideal) x0 x1 i = _
  rw [val_main_v2_apply, half_f32, hh i, mul_comm]
  congr 2
  refine Eq.trans ?_ (Finset.sum_range _).symm
  refine Finset.sum_congr rfl fun k _ => ?_
  show x0 (lidx_main_v2 i k) * x1 (ridx_main_v2 i k) = _
  rw [hf, hg]

end reference

set_option backward.isDefEq.respectTransparency.types false in
/-- The second feed-forward product with its residual is the reference's, at every argument. -/
theorem algebraic : Cert.algebraic_Kernel7Ideal_Reference7Ideal := fun m g m' g' _ agree => by
  refine ⟨_, Cert.Kernel7Ideal.Value.run_blocks m g, ?_⟩
  refine (θ_run _ _ _).mono (fun r h c => ?_) (Cert.Reference7Ideal.Value.run (F := Ideal) m' g')
  obtain ⟨g0, g1, g2⟩ := agree c
  obtain ⟨r0, rest⟩ := h c
  refine ⟨r0.trans ((Cert.Reference7Ideal.Read.val_main_v5_eq (F := Ideal) _ _ _).trans ?_), rest⟩
  rw [g0, g1, g2]
  exact (result m c (X2.self _) (X2.self _) (X2.self _) _ (ref _ _ _ (X2.self _) (X2.self _) (X2.self _))).symm

end Cert.Attn.Down

end
-- ==== Proof.Split.lean ====
/- The pieces of the mixing calls' operands: columns of an array, columns with zeros beside them, a line as a row, rectangles
   read from a block. -/
module

public import proofs.«01_k».proof.Proof.Ext
public import Idealize.ShloMosaic.Lib.Pipeline.ValueKit

@[expose] public section

noncomputable section

namespace Cert.Attn

open Idealize.ShloMosaic
open scoped BigOperators
open Finset (range)

variable {a b : ℕ}

/-- Some of the columns. -/
theorem X2.cols {o w : ℕ} {A : (Sh a b).Idx → EReal} {f : ℕ → ℕ → EReal} (hA : X2 A f) (h : (Sh a b).Slices ![0, o] (Sh a w)) :
    X2 (extractStridedSlice (Sh a w) ![0, o] A h) fun i j => f i (o + j) := fun i => by
  rw [Pointwise.extractStridedSlice_apply, hA]
  dsimp only
  congr 1
  show 0 + (i 0).val = _
  omega

/-- Columns with zeros beside them. -/
theorem X2.padded {w₁ w₂ w : ℕ} {A : (Sh a w₁).Idx → EReal} {B : (Sh a w₂).Idx → EReal} {f : ℕ → ℕ → EReal} (hA : X2 A f) (hB : ∀ i, B i = 0)
    (h : Shape.Concatenates [Sh a w₁, Sh a w₂] (Sh a w) 1) :
    X2 (concatenate (Sh a w) 1 [⟨Sh a w₁, A⟩, ⟨Sh a w₂, B⟩] h) fun i j => if j < w₁ then f i j else 0 := fun i => by
  rw [concatenate_pair_apply]
  by_cases hj : (i 1).val < w₁
  · refine (dif_pos hj).trans (Eq.trans ?_ (if_pos hj).symm)
    exact hA _
  · refine (dif_neg hj).trans (Eq.trans ?_ (if_neg hj).symm)
    exact hB _

/-- A line read as an array of one row. -/
theorem X2.line {A : (⟨1, ![b]⟩ : Shape).Idx → EReal} {g : ℕ → EReal} (hA : ∀ i, A i = g (i 0).val) (h : (⟨1, ![b]⟩ : Shape).ShapeCasts (Sh 1 b)) :
    X2 (shapeCast (Sh 1 b) A h) fun _ j => g j := fun i => by
  have l0 : (i 0).val < 1 := (i 0).isLt
  refine (shapeCast_apply _ _ i (ValueIdx.ix1 (n := b) (i 1)) ?_).trans (hA _)
  rw [Shape.rowMajor_val_one, Shape.rowMajor_val_two]
  show (i 1).val = (i 0).val * b + (i 1).val
  have e : (i 0).val = 0 := by omega
  rw [e]; omega

/-- A line is a function of its place. -/
theorem line_of (A : (⟨1, ![b]⟩ : Shape).Idx → EReal) : ∃ g : ℕ → EReal, ∀ i, A i = g (i 0).val :=
  ⟨fun n => if h : n < b then A (ValueIdx.ix1 ⟨n, h⟩) else 0, fun i => by
    refine Eq.trans ?_ (dif_pos (i 0).isLt).symm
    exact congrArg A (funext fun a => match a with | ⟨0, _⟩ => rfl)⟩

/-- A rectangle read from an array. -/
theorem X2.ld {e : EltTy} {n w o c : ℕ} {A : (Sh a b).Idx → Elt Ideal e} {f : ℕ → ℕ → EReal} (val : Elt Ideal e → EReal) (hA : X2 (fun i => val (A i)) f)
    (inb : ∀ x, (![o, c] : Fin 2 → ℕ) x + (![n, w] : Fin 2 → ℕ) x ≤ (Sh a b).size x) :
    X2 (a := n) (b := w) (fun i => val (View.ld (Val := Elt Ideal) A (Rect.unit (s := Sh a b) ![o, c] ![n, w] inb) i)) fun i j => f (o + i) (c + j) := fun i => by
  refine (hA _).trans ?_
  dsimp only
  congr 2
  · show o + 1 * (i 0).val = _; omega
  · show c + 1 * (i 1).val = _; omega

theorem X2.ld16 {n w o c : ℕ} {A : (Sh a b).Idx → Elt Ideal .bf16} {f : ℕ → ℕ → EReal} (hA : X2 A f)
    (inb : ∀ x, (![o, c] : Fin 2 → ℕ) x + (![n, w] : Fin 2 → ℕ) x ≤ (Sh a b).size x) :
    X2 (a := n) (b := w) (View.ld (Val := Elt Ideal) A (Rect.unit (s := Sh a b) ![o, c] ![n, w] inb)) fun i j => f (o + i) (c + j) := X2.ld (e := .bf16) (fun x => x) hA inb

theorem X2.ld32 {n w o c : ℕ} {A : (Sh a b).Idx → Elt Ideal .f32} {f : ℕ → ℕ → EReal} (hA : X2 A f)
    (inb : ∀ x, (![o, c] : Fin 2 → ℕ) x + (![n, w] : Fin 2 → ℕ) x ≤ (Sh a b).size x) :
    X2 (a := n) (b := w) (View.ld (Val := Elt Ideal) A (Rect.unit (s := Sh a b) ![o, c] ![n, w] inb)) fun i j => f (o + i) (c + j) := X2.ld (e := .f32) (fun x => x) hA inb

end Cert.Attn

end
-- ==== Proof.MixIn.lean ====
/- The products into the mixing module: a block of rows at a time, against the three parts of the weight. -/
module

public import proofs.«01_k».proof.Defs
public import Idealize.ShloMosaic.Lib.KernelVsHost
public import proofs.«01_k».proof.Proof.Split
public import proofs.«01_k».proof.Proof.Gen.Kernel8Ideal.Value
public import proofs.«01_k».proof.Proof.Gen.Reference8Ideal.Run
public import proofs.«01_k».proof.Proof.Gen.Reference8Ideal.Read

@[expose] public section

set_option maxRecDepth 16384

noncomputable section

namespace Cert.Attn.MixIn

open Idealize.ShloMosaic Idealize.ShloMosaic.TcCoe Idealize.SL.Sem
open scoped BigOperators
open Finset (range)

section kernel

open Cert.Kernel8Ideal Cert.Kernel8Ideal.Gen Cert.Kernel8Ideal.Value

variable {f g : ℕ → ℕ → EReal}

theorem out4_x {A : FVec Ideal S512x1024 .bf16} {B : FVec Ideal S1024x768 .bf16} (x2 : FVec Ideal S1024x512 .bf16) (x3 : FVec Ideal S1024x2048 .bf16) (hA : X2 A f) (hB : X2 B g) :
    X2 (a := 512) (b := 768) (out0_4 (F := Ideal) A B x2 x3) fun i j => ∑ k ∈ range 1024, f i k * g k j := by
  unfold out0_4
  rw [View.canon_unit_zero hz2, View.ld_unit_zero (S := S512x1024) hz2, View.ld_unit_zero (S := S1024x768) hz2]
  exact X2.plain _ rfl none hA (hB.cast _) X2.zero

theorem out5_x {A : FVec Ideal S512x1024 .bf16} {B : FVec Ideal S1024x512 .bf16} (x1 : FVec Ideal S1024x768 .bf16) (x3 : FVec Ideal S1024x2048 .bf16) (hA : X2 A f) (hB : X2 B g) :
    X2 (a := 512) (b := 512) (out0_5 (F := Ideal) A x1 B x3) fun i j => ∑ k ∈ range 1024, f i k * g k j := by
  unfold out0_5
  rw [View.canon_unit_zero hz2, View.ld_unit_zero (S := S512x1024) hz2, View.ld_unit_zero (S := S1024x512) hz2]
  exact X2.plain _ rfl none hA (hB.cast _) X2.zero

theorem out6_x {A : FVec Ideal S512x1024 .bf16} {B : FVec Ideal S1024x2048 .bf16} (x1 : FVec Ideal S1024x768 .bf16) (x2 : FVec Ideal S1024x512 .bf16) (hA : X2 A f) (hB : X2 B g) :
    X2 (a := 512) (b := 2048) (out0_6 (F := Ideal) A x1 x2 B) fun i j => ∑ k ∈ range 1024, f i k * g k j := by
  unfold out0_6
  rw [View.canon_unit_zero hz2, View.ld_unit_zero (S := S512x1024) hz2, View.ld_unit_zero (S := S1024x2048) hz2]
  exact X2.plain _ rfl none hA (hB.cast _) X2.zero

variable (m : (ℓ : Loc nD τ sig) → Buf (Elt Ideal) ℓ) (c : Dev nD)

theorem ix0 : ∀ t : Fin cfg0.N, win0_0.index t = ![t.val, 0] := (by decide +kernel : ∀ t : Fin grid0.N, win0_0.index t = ![t.val, 0])
theorem ix1 : ∀ t : Fin cfg0.N, win0_1.index t = ![0, 0] := (by decide +kernel : ∀ t : Fin grid0.N, win0_1.index t = ![0, 0])
theorem ix2 : ∀ t : Fin cfg0.N, win0_2.index t = ![0, 0] := (by decide +kernel : ∀ t : Fin grid0.N, win0_2.index t = ![0, 0])
theorem ix3 : ∀ t : Fin cfg0.N, win0_3.index t = ![0, 0] := (by decide +kernel : ∀ t : Fin grid0.N, win0_3.index t = ![0, 0])
theorem ix4 : ∀ t : Fin cfg0.N, win0_4.index t = ![t.val, 0] := (by decide +kernel : ∀ t : Fin grid0.N, win0_4.index t = ![t.val, 0])
theorem ix5 : ∀ t : Fin cfg0.N, win0_5.index t = ![t.val, 0] := (by decide +kernel : ∀ t : Fin grid0.N, win0_5.index t = ![t.val, 0])
theorem ix6 : ∀ t : Fin cfg0.N, win0_6.index t = ![t.val, 0] := (by decide +kernel : ∀ t : Fin grid0.N, win0_6.index t = ![t.val, 0])

section operands

variable (hf : X2 (a := 4096) (b := 1024) (m ((c : Thread nD τ).loc main_arg0)) f) (hg : X2 (a := 1024) (b := 3264) (m ((c : Thread nD τ).loc main_arg1)) g) (t : Fin cfg0.N)

include hf in
theorem in0 : X2 (a := 512) (b := 1024) (iblk m c 0 t) fun i j => f (t.val * 512 + i) j := by
  intro y
  refine (hf _).trans ?_
  blk_simp [ix0]

theorem zero16 (i : S1024x64.Idx) : broadcastInDim S1024x64 ![] bcast_S_S1024x64 (constant (F := Ideal) S_ .bf16 0x0000#16) i = (0 : EReal) := by
  show Ideal.ofBits .bf16 0x0000#16 = 0
  simp [Ideal.ofBits, Ideal.ieee]

include hg in
theorem in1 : X2 (a := 1024) (b := 768) (iblk m c 1 t) fun i j => if j < 704 then g i (512 + j) else 0 := by
  intro y
  show V m c main_v3 _ = _
  entry_read
  refine (((hg.cols slices_S1024x3264_S1024x704_0_512).padded zero16 concatenates_S1024x704_S1024x64_S1024x768_d1) _).trans ?_
  blk_simp [ix1]

include hg in
theorem in2 : X2 (a := 1024) (b := 512) (iblk m c 2 t) fun i j => g i (0 + j) := by
  intro y
  show V m c main_v0 _ = _
  entry_read
  refine ((hg.cols slices_S1024x3264_S1024x512_0_0) _).trans ?_
  blk_simp [ix2]

include hg in
theorem in3 : X2 (a := 1024) (b := 2048) (iblk m c 3 t) fun i j => g i (1216 + j) := by
  intro y
  show V m c main_v4 _ = _
  entry_read
  refine ((hg.cols slices_S1024x3264_S1024x2048_0_1216) _).trans ?_
  blk_simp [ix3]

end operands

variable (hf : X2 (a := 4096) (b := 1024) (m ((c : Thread nD τ).loc main_arg0)) f) (hg : X2 (a := 1024) (b := 3264) (m ((c : Thread nD τ).loc main_arg1)) g)

include hf hg in
/-- The first result: the latent columns of the product, zeros beside them. -/
theorem result4 (G : FVec Ideal S4096x768 .f32) (hG : X2 (a := 4096) (b := 768) G fun i j => if j < 704 then ∑ k ∈ range 1024, f i k * g k (512 + j) else 0) :
    (dats m 0 c).arrAt 4 cfg0.N = G := by
  refine (dats m 0 c).arrAt_eq_of_covers 4 _ (by decide +kernel) fun t hf' y => ?_
  blk_simp
  rw [after0_4]
  refine (out4_x _ _ (in0 m c hf t) (in1 m c hg t) y).trans (Eq.trans ?_ (hG _).symm)
  blk_simp [ix4]
  by_cases hj : (y 1).val < 704
  · simp only [hj, if_true]
  · simp only [hj, if_false, mul_zero, Finset.sum_const_zero]

include hf hg in
/-- The second: the pooled columns. -/
theorem result5 (G : FVec Ideal S4096x512 .f32) (hG : X2 (a := 4096) (b := 512) G fun i j => ∑ k ∈ range 1024, f i k * g k (0 + j)) :
    (dats m 0 c).arrAt 5 cfg0.N = G := by
  refine (dats m 0 c).arrAt_eq_of_covers 5 _ (by decide +kernel) fun t hf' y => ?_
  blk_simp
  rw [after0_5]
  refine (out5_x _ _ (in0 m c hf t) (in2 m c hg t) y).trans (Eq.trans ?_ (hG _).symm)
  blk_simp [ix5]

include hf hg in
/-- The third: the gate's columns. -/
theorem result6 (G : FVec Ideal S4096x2048 .bf16) (hG : X2 (a := 4096) (b := 2048) G fun i j => ∑ k ∈ range 1024, f i k * g k (1216 + j)) :
    (dats m 0 c).arrAt 6 cfg0.N = G := by
  refine (dats m 0 c).arrAt_eq_of_covers 6 _ (by decide +kernel) fun t hf' y => ?_
  blk_simp
  rw [after0_6]
  refine (out6_x _ _ (in0 m c hf t) (in3 m c hg t) y).trans (Eq.trans ?_ (hG _).symm)
  blk_simp [ix6]

end kernel

section reference

open Cert.Reference8Ideal Cert.Reference8Ideal.Read

variable {f g : ℕ → ℕ → EReal} {x0 : FVec Ideal S4096x1024 .bf16} {x1 : FVec Ideal S1024x3264 .bf16} (hf : X2 (a := 4096) (b := 1024) x0 f) (hg : X2 (a := 1024) (b := 3264) x1 g)

include hf hg in
theorem ref_v2 : X2 (a := 4096) (b := 3264) (val_main_v2 (F := Ideal) x0 x1) fun i j => ∑ k ∈ range 1024, f i k * g k j := fun i => by
  rw [val_main_v2_apply]
  refine Eq.trans ?_ (Finset.sum_range _).symm
  refine Finset.sum_congr rfl fun k _ => ?_
  show x0 (lidx_main_v2 i k) * x1 (ridx_main_v2 i k) = _
  rw [hf, hg]

include hf hg in
theorem ref_v3 : X2 (a := 4096) (b := 512) (val_main_v3 (F := Ideal) x0 x1) fun i j => ∑ k ∈ range 1024, f i k * g k (0 + j) :=
  (ref_v2 hf hg).cols _

include hf hg in
theorem ref_v4 : X2 (a := 4096) (b := 704) (val_main_v4 (F := Ideal) x0 x1) fun i j => ∑ k ∈ range 1024, f i k * g k (512 + j) :=
  (ref_v2 hf hg).cols _

include hf hg in
theorem ref_v7 : X2 (a := 4096) (b := 2048) (val_main_v7 (F := Ideal) x0 x1) fun i j => ∑ k ∈ range 1024, f i k * g k (1216 + j) := fun i => by
  show val_main_v5 (F := Ideal) x0 x1 i = _
  unfold val_main_v5
  exact (ref_v2 hf hg).cols _ i

include hf hg in
theorem ref_v6 : X2 (a := 4096) (b := 768) (val_main_v6 (F := Ideal) x0 x1) fun i j => if j < 704 then ∑ k ∈ range 1024, f i k * g k (512 + j) else 0 := fun i => by
  unfold val_main_v6
  by_cases hj : (i 1).val < 704
  · refine Eq.trans ?_ (if_pos hj).symm
    refine (pad_apply_of_inside _ _ _ _ _ _ _ i (ValueIdx.ix2 (n0 := 4096) (n1 := 704) (i 0) ⟨(i 1).val, hj⟩) fun a => ?_).trans (ref_v4 hf hg _)
    match a with
    | ⟨0, _⟩ => show (i 0).val = 0 + (i 0).val * (0 + 1); omega
    | ⟨1, _⟩ => show (i 1).val = 0 + (i 1).val * (0 + 1); omega
  · refine Eq.trans ?_ (if_neg hj).symm
    refine (pad_apply_of_not_inside _ _ _ _ _ _ _ i 1 fun h => hj ?_).trans ?_
    · have h2 := h.2.2
      have h3 : ((i 1).val - 0) / (0 + 1) < 704 := h2
      omega
    · show (((0#32 : BitVec 32).toInt : ℝ) : EReal) = 0
      simp

end reference

set_option backward.isDefEq.respectTransparency.types false in
/-- The mixing input products are the reference's, at every argument. -/
theorem algebraic : Cert.algebraic_Kernel8Ideal_Reference8Ideal := fun m g m' g' _ agree => by
  refine ⟨_, _, _, Cert.Kernel8Ideal.Value.run_blocks m g, ?_⟩
  refine (θ_run _ _ _).mono (fun r h c => ?_) (Cert.Reference8Ideal.Value.run (F := Ideal) m' g')
  obtain ⟨g0, g1⟩ := agree c
  obtain ⟨r0, r1, r2, rest⟩ := h c
  have e0 := X2.self (a := 4096) (b := 1024) (m ((c : Thread Cert.Kernel8Ideal.nD Cert.Kernel8Ideal.τ).loc Cert.Kernel8Ideal.main_arg0))
  have e1 := X2.self (a := 1024) (b := 3264) (m ((c : Thread Cert.Kernel8Ideal.nD Cert.Kernel8Ideal.τ).loc Cert.Kernel8Ideal.main_arg1))
  refine ⟨r0.trans ((Cert.Reference8Ideal.Read.val_main_v6_eq (F := Ideal) _ _).trans ?_), r1.trans ((Cert.Reference8Ideal.Read.val_main_v3_eq (F := Ideal) _ _).trans ?_),
    r2.trans ((Cert.Reference8Ideal.Read.val_main_v7_eq (F := Ideal) _ _).trans ?_), rest⟩
  · rw [g0, g1]
    exact (result4 m c e0 e1 _ (ref_v6 e0 e1)).symm
  · rw [g0, g1]
    exact (result5 m c e0 e1 _ (ref_v3 e0 e1)).symm
  · rw [g0, g1]
    exact (result6 m c e0 e1 _ (ref_v7 e0 e1)).symm

end Cert.Attn.MixIn

end
-- ==== Proof.MixDx.lean ====
/- The gradient of the mixer's input, through the three products and the norm, and the gradient of the norm's gain: at every argument,
   infinities included. The gain's gradient is summed over all points. -/
module

public import proofs.«01_k».proof.Defs
public import proofs.«01_k».proof.Proof.Row
public import proofs.«01_k».proof.Proof.Split
public import proofs.«01_k».proof.Proof.Gen.Kernel9Ideal.Value
public import proofs.«01_k».proof.Proof.Gen.Reference9Ideal.Run
public import proofs.«01_k».proof.Proof.Gen.Reference9Ideal.Read

@[expose] public section

set_option maxRecDepth 16384

noncomputable section

namespace Cert.Attn.MixDx

open Idealize.ShloMosaic Idealize.ShloMosaic.TcCoe Idealize.SL.Sem
open scoped BigOperators
open Finset (range)

/-- The gradient of the normed input: the three cotangents times their columns of the weight, transposed. -/
def dh (p l d w : ℕ → ℕ → EReal) (i j : ℕ) : EReal := ∑ k ∈ range 512, p i k * w j k + (∑ k ∈ range 704, l i k * w j (512 + k) + ∑ k ∈ range 2048, d i k * w j (1216 + k))

/-- The same as the kernel sums it, the latent columns first and zeros beside them. -/
theorem dh_eq (p l d w : ℕ → ℕ → EReal) (i j : ℕ) :
    ∑ k ∈ range 768, l i k * (if k < 704 then w j (512 + k) else 0) + ∑ k ∈ range 512, p i k * w j (0 + k) + ∑ k ∈ range 2048, d i k * w j (1216 + k) = dh p l d w i j := by
  unfold dh
  have e : ∑ k ∈ range 768, l i k * (if k < 704 then w j (512 + k) else 0) = ∑ k ∈ range 704, l i k * w j (512 + k) := by
    rw [show (768 : ℕ) = 704 + 64 from rfl, Finset.sum_range_add]
    refine (congrArg₂ (· + ·) (Finset.sum_congr rfl fun k hk => ?_) (Finset.sum_eq_zero fun k _ => ?_)).trans (add_zero _)
    · rw [if_pos (Finset.mem_range.mp hk)]
    · rw [if_neg (by omega), mul_zero]
  rw [e, add_comm (∑ k ∈ range 704, _), add_assoc]
  simp only [Nat.zero_add]

section kernel

open Cert.Kernel9Ideal Cert.Kernel9Ideal.Gen Cert.Kernel9Ideal.Value

section payloads

variable {v3 : Vec Ideal S512x768 .bf16} {v4 : Vec Ideal S1024x768 .bf16} {v7 : Vec Ideal S512x512 .bf16} {v8 : Vec Ideal S1024x512 .bf16} {v12 : Vec Ideal S512x2048 .bf16} {v13 : Vec Ideal S1024x2048 .bf16}
  {A N xv yv : FVec Ideal S512x1024 .f32} {R : FVec Ideal S512x1 .f32} {gv prev : FVec Ideal S1x1024 .f32}
  {p q l u d w h x y : ℕ → ℕ → EReal} {g e : ℕ → EReal}

theorem pay3_x : X2 (a := 1) (b := 1024) (k0_pay3 (F := Ideal)) fun _ _ => 0 := fun _ => zero_f32

theorem pay4_x (h3 : X2 (a := 512) (b := 768) v3 l) (h4 : X2 (a := 1024) (b := 768) v4 u) (h7 : X2 (a := 512) (b := 512) v7 p) (h8 : X2 (a := 1024) (b := 512) v8 q)
    (h12 : X2 (a := 512) (b := 2048) v12 d) (h13 : X2 (a := 1024) (b := 2048) v13 w) :
    X2 (a := 512) (b := 1024) (k0_pay4 (F := Ideal) v3 v4 v7 v8 v12 v13) fun i j => ∑ k ∈ range 768, l i k * u j k + ∑ k ∈ range 512, p i k * q j k + ∑ k ∈ range 2048, d i k * w j k :=
  ((X2.nt _ rfl none h3 (h4.cast _) X2.zero).add (X2.nt _ rfl none h7 (h8.cast _) X2.zero)).add (X2.nt _ rfl none h12 (h13.cast _) X2.zero)

theorem pay6_x (hx : X2 (a := 512) (b := 1024) xv x) : X2 (a := 512) (b := 1) (k0_pay6 (F := Ideal) xv) fun i _ => rr (x i) := X2.rms hx reduces_S512x1024_S512 shapeCasts_S512_S512x1 (.inl rfl) rfl

theorem pay7_x (hx : X2 (a := 512) (b := 1024) xv x) : X2 (a := 512) (b := 1024) (k0_pay7 (F := Ideal) xv) fun i j => x i j * rr (x i) :=
  hx.mul (X2.bcast (f := fun i => rr (x i)) (pay6_x hx) _)

theorem pay1_x (hh : X2 (a := 512) (b := 1024) A h) (hg : X2 (a := 1) (b := 1024) gv fun _ j => g j) (hr : X2 (a := 512) (b := 1) R fun i _ => rr (x i))
    (hn : X2 (a := 512) (b := 1024) N fun i j => x i j * rr (x i)) (hy : X2 (a := 512) (b := 1024) yv y) :
    X2 (a := 512) (b := 1024) (k0_pay1 (F := Ideal) A gv R N yv) fun i j => kx (x i) (fun j => h i j * g j) (y i j) j := by
  have hd := hh.mul (X2.bcastRow (n := 512) hg broadcasts_S1x1024_S512x1024)
  have hm := mean_x (X2.rowSum (hd.mul hn) reduces_S512x1024_S512 shapeCasts_S512_S512x1 (.inl rfl) rfl)
  exact hy.add ((X2.bcast (f := fun i => rr (x i)) hr broadcasts_S512x1_S512x1024).mul (hd.sub (hn.mul (X2.bcast hm broadcasts_S512x1_S512x1024))))

theorem pay2_x (hp : X2 (a := 1) (b := 1024) prev fun _ j => e j) {B : Vec Ideal S1x1024 .f32} {s : ℕ → EReal} (hB : X2 (a := 1) (b := 1024) B fun _ j => s j) :
    X2 (a := 1) (b := 1024) (k0_pay2 (F := Ideal) B prev) fun _ j => e j + s j := (hp.cast _).add hB

theorem pay8_x (hh : X2 (a := 512) (b := 1024) (k0_pay4 (F := Ideal) v3 v4 v7 v8 v12 v13) h) (hx : X2 (a := 512) (b := 1024) xv x) :
    X2 (a := 1) (b := 1024) (k0_pay8 (F := Ideal) v3 v4 v7 v8 v12 v13 xv) fun _ j => ∑ i ∈ range 512, h i j * (x i j * rr (x i)) :=
  X2.colSum (hh.mul (pay7_x hx)) reduces_S512x1024_S1024 shapeCasts_S1024_S1x1024 (.inl rfl) rfl

end payloads

section body

variable {F : FTy → Type} [FloatOps F]

variable (c : Dev nD) (i : grid0.Coords) (a1 : Memref sig .tc .vmem S512x768 .bf16) (h1 : a1.IsWhole) (a2 : Memref sig .tc .vmem S512x512 .bf16) (h2 : a2.IsWhole) (a3 : Memref sig .tc .vmem S512x2048 .bf16) (h3 : a3.IsWhole) (a4 : Memref sig .tc .vmem S1024x768 .bf16) (h4 : a4.IsWhole) (a5 : Memref sig .tc .vmem S1024x512 .bf16) (h5 : a5.IsWhole) (a6 : Memref sig .tc .vmem S1024x2048 .bf16) (h6 : a6.IsWhole) (a7 : Memref sig .tc .vmem S512x1024 .f32) (h7 : a7.IsWhole) (a8 : Memref sig .tc .vmem S1x1024 .f32) (h8 : a8.IsWhole) (a9 : Memref sig .tc .vmem S512x1024 .f32) (h9 : a9.IsWhole) (a10 : Memref sig .tc .vmem S512x1024 .f32) (h10 : a10.IsWhole) (a11 : Memref sig .tc .vmem S1x1024 .f32) (h11 : a11.IsWhole)
  (x0 : Vec F S512x768 .bf16) (x1 : Vec F S512x512 .bf16) (x2 : Vec F S512x2048 .bf16) (x3 : Vec F S1024x768 .bf16) (x4 : Vec F S1024x512 .bf16) (x5 : Vec F S1024x2048 .bf16) (x6 : Vec F S512x1024 .f32) (x7 : Vec F S1x1024 .f32) (x8 : Vec F S512x1024 .f32) (xo : Vec F S1x1024 .f32)

theorem o_A (hc0) : out0_A_9 c i a1 h1 a2 h2 a3 h3 a4 h4 a5 h5 a6 h6 a7 h7 a8 h8 a9 h9 a10 h10 a11 h11 hc0 x0 x1 x2 x3 x4 x5 x6 x7 x8 = k0_pay1 (k0_pay4 (F := F) x0 x3 x1 x4 x2 x5) (k0_pay5 x7) (k0_pay6 x6) (k0_pay7 x6) x8 := by
  unfold out0_A_9
  rw [View.read_writes_eq_canon _ _ _ (cover0_A_9 c i a1 h1 a2 h2 a3 h3 a4 h4 a5 h5 a6 h6 a7 h7 a8 h8 a9 h9 a10 h10 a11 h11 hc0 x0 x1 x2 x3 x4 x5 x6 x7 x8)]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h11.read_unread, View.ld_unit_zero (S := S512x768) hz2, View.ld_unit_zero (S := S512x512) hz2, View.ld_unit_zero (S := S512x2048) hz2, View.ld_unit_zero (S := S1024x768) hz2, View.ld_unit_zero (S := S1024x512) hz2, View.ld_unit_zero (S := S1024x2048) hz2, View.ld_unit_zero (S := S512x1024) hz2, View.ld_unit_zero (S := S1x1024) hz2]

theorem o_B (hc0) : out0_B_9 c i a1 h1 a2 h2 a3 h3 a4 h4 a5 h5 a6 h6 a7 h7 a8 h8 a9 h9 a10 h10 a11 h11 hc0 x0 x1 x2 x3 x4 x5 x6 x7 x8 xo = k0_pay1 (k0_pay4 (F := F) x0 x3 x1 x4 x2 x5) (k0_pay5 x7) (k0_pay6 x6) (k0_pay7 x6) x8 := by
  unfold out0_B_9
  rw [View.read_writes_eq_canon _ _ _ (cover0_B_9 c i a1 h1 a2 h2 a3 h3 a4 h4 a5 h5 a6 h6 a7 h7 a8 h8 a9 h9 a10 h10 a11 h11 hc0 x0 x1 x2 x3 x4 x5 x6 x7 x8 xo)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h11.read_unread, View.ld_unit_zero (S := S512x768) hz2, View.ld_unit_zero (S := S512x512) hz2, View.ld_unit_zero (S := S512x2048) hz2, View.ld_unit_zero (S := S1024x768) hz2, View.ld_unit_zero (S := S1024x512) hz2, View.ld_unit_zero (S := S1024x2048) hz2, View.ld_unit_zero (S := S512x1024) hz2, View.ld_unit_zero (S := S1x1024) hz2]

theorem g_A (hc0) : out0_A_10 c i a1 h1 a2 h2 a3 h3 a4 h4 a5 h5 a6 h6 a7 h7 a8 h8 a9 h9 a10 h10 a11 h11 hc0 x0 x1 x2 x3 x4 x5 x6 x7 x8 = k0_pay2 (k0_pay8 (F := F) x0 x3 x1 x4 x2 x5 x6) k0_pay3 := by
  unfold out0_A_10
  rw [View.read_writes_eq_canon _ _ _ (cover0_A_10 c i a1 h1 a2 h2 a3 h3 a4 h4 a5 h5 a6 h6 a7 h7 a8 h8 a9 h9 a10 h10 a11 h11 hc0 x0 x1 x2 x3 x4 x5 x6 x7 x8)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread, h8.read_unread, h9.read_unread, h11.read_unread, View.ld_unit_zero (S := S512x768) hz2, View.ld_unit_zero (S := S512x512) hz2, View.ld_unit_zero (S := S512x2048) hz2, View.ld_unit_zero (S := S1024x768) hz2, View.ld_unit_zero (S := S1024x512) hz2, View.ld_unit_zero (S := S1024x2048) hz2, View.ld_unit_zero (S := S512x1024) hz2, View.ld_unit_zero (S := S1x1024) hz2]

theorem g_B (hc0) : out0_B_10 c i a1 h1 a2 h2 a3 h3 a4 h4 a5 h5 a6 h6 a7 h7 a8 h8 a9 h9 a10 h10 a11 h11 hc0 x0 x1 x2 x3 x4 x5 x6 x7 x8 xo = k0_pay2 (k0_pay8 (F := F) x0 x3 x1 x4 x2 x5 x6) xo := by
  unfold out0_B_10
  rw [View.read_writes_eq_canon _ _ _ (cover0_B_10 c i a1 h1 a2 h2 a3 h3 a4 h4 a5 h5 a6 h6 a7 h7 a8 h8 a9 h9 a10 h10 a11 h11 hc0 x0 x1 x2 x3 x4 x5 x6 x7 x8 xo)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h11.read_unread, View.ld_unit_zero (S := S512x768) hz2, View.ld_unit_zero (S := S512x512) hz2, View.ld_unit_zero (S := S512x2048) hz2, View.ld_unit_zero (S := S1024x768) hz2, View.ld_unit_zero (S := S1024x512) hz2, View.ld_unit_zero (S := S1024x2048) hz2, View.ld_unit_zero (S := S512x1024) hz2, View.ld_unit_zero (S := S1x1024) hz2]

end body

variable (m : (ℓ : Loc nD τ sig) → Buf (Elt Ideal) ℓ) (c : Dev nD)

theorem ix0 : ∀ t : Fin cfg0.N, win0_0.index t = ![t.val, 0] := (by decide +kernel : ∀ t : Fin grid0.N, win0_0.index t = ![t.val, 0])
theorem ix1 : ∀ t : Fin cfg0.N, win0_1.index t = ![t.val, 0] := (by decide +kernel : ∀ t : Fin grid0.N, win0_1.index t = ![t.val, 0])
theorem ix2 : ∀ t : Fin cfg0.N, win0_2.index t = ![t.val, 0] := (by decide +kernel : ∀ t : Fin grid0.N, win0_2.index t = ![t.val, 0])
theorem ix3 : ∀ t : Fin cfg0.N, win0_3.index t = ![0, 0] := (by decide +kernel : ∀ t : Fin grid0.N, win0_3.index t = ![0, 0])
theorem ix4 : ∀ t : Fin cfg0.N, win0_4.index t = ![0, 0] := (by decide +kernel : ∀ t : Fin grid0.N, win0_4.index t = ![0, 0])
theorem ix5 : ∀ t : Fin cfg0.N, win0_5.index t = ![0, 0] := (by decide +kernel : ∀ t : Fin grid0.N, win0_5.index t = ![0, 0])
theorem ix6 : ∀ t : Fin cfg0.N, win0_6.index t = ![t.val, 0] := (by decide +kernel : ∀ t : Fin grid0.N, win0_6.index t = ![t.val, 0])
theorem ix7 : ∀ t : Fin cfg0.N, win0_7.index t = ![0, 0] := (by decide +kernel : ∀ t : Fin grid0.N, win0_7.index t = ![0, 0])
theorem ix8 : ∀ t : Fin cfg0.N, win0_8.index t = ![t.val, 0] := (by decide +kernel : ∀ t : Fin grid0.N, win0_8.index t = ![t.val, 0])
theorem ix9 : ∀ t : Fin cfg0.N, win0_9.index t = ![t.val, 0] := (by decide +kernel : ∀ t : Fin grid0.N, win0_9.index t = ![t.val, 0])
theorem ix10 : ∀ t : Fin cfg0.N, win0_10.index t = ![0, 0] := (by decide +kernel : ∀ t : Fin grid0.N, win0_10.index t = ![0, 0])
theorem fl10 : ∀ t : Fin cfg0.N, (cfg0.win 10).flush t = true → t.val = 7 := (by decide +kernel : ∀ t : Fin grid0.N, win0_10.flush t = true → t.val = 7)

section operands

variable {p l d w x y : ℕ → ℕ → EReal} {g : ℕ → EReal} (t : Fin cfg0.N)

theorem in0 (h : X2 (a := 4096) (b := 768) (m ((c : Thread nD τ).loc main_arg0)) l) : X2 (a := 512) (b := 768) (iblk m c 0 t) fun i j => l (t.val * 512 + i) j := by
  intro y
  refine (h _).trans ?_
  blk_simp [ix0]

theorem in1 (h : X2 (a := 4096) (b := 512) (m ((c : Thread nD τ).loc main_arg1)) p) : X2 (a := 512) (b := 512) (iblk m c 1 t) fun i j => p (t.val * 512 + i) j := by
  intro y
  refine (h _).trans ?_
  blk_simp [ix1]

theorem in2 (h : X2 (a := 4096) (b := 2048) (m ((c : Thread nD τ).loc main_arg2)) d) : X2 (a := 512) (b := 2048) (iblk m c 2 t) fun i j => d (t.val * 512 + i) j := by
  intro y
  refine (h _).trans ?_
  blk_simp [ix2]

theorem in6 (h : X2 (a := 4096) (b := 1024) (m ((c : Thread nD τ).loc main_arg4)) x) : X2 (a := 512) (b := 1024) (iblk m c 6 t) fun i j => x (t.val * 512 + i) j := by
  intro y
  refine (h _).trans ?_
  blk_simp [ix6]

theorem in8 (h : X2 (a := 4096) (b := 1024) (m ((c : Thread nD τ).loc main_arg6)) y) : X2 (a := 512) (b := 1024) (iblk m c 8 t) fun i j => y (t.val * 512 + i) j := by
  intro y
  refine (h _).trans ?_
  blk_simp [ix8]

theorem zero16 (i : S1024x64.Idx) : broadcastInDim S1024x64 ![] bcast_S_S1024x64 (constant (F := Ideal) S_ .bf16 0x0000#16) i = (0 : EReal) := by
  show Ideal.ofBits .bf16 0x0000#16 = 0
  simp [Ideal.ofBits, Ideal.ieee]

theorem in3 (h : X2 (a := 1024) (b := 3264) (m ((c : Thread nD τ).loc main_arg3)) w) : X2 (a := 1024) (b := 768) (iblk m c 3 t) fun i j => if j < 704 then w i (512 + j) else 0 := by
  intro y
  show V m c main_v3 _ = _
  entry_read
  refine (((h.cols slices_S1024x3264_S1024x704_0_512).padded zero16 concatenates_S1024x704_S1024x64_S1024x768_d1) _).trans ?_
  blk_simp [ix3]

theorem in4 (h : X2 (a := 1024) (b := 3264) (m ((c : Thread nD τ).loc main_arg3)) w) : X2 (a := 1024) (b := 512) (iblk m c 4 t) fun i j => w i (0 + j) := by
  intro y
  show V m c main_v0 _ = _
  entry_read
  refine ((h.cols slices_S1024x3264_S1024x512_0_0) _).trans ?_
  blk_simp [ix4]

theorem in5 (h : X2 (a := 1024) (b := 3264) (m ((c : Thread nD τ).loc main_arg3)) w) : X2 (a := 1024) (b := 2048) (iblk m c 5 t) fun i j => w i (1216 + j) := by
  intro y
  show V m c main_v4 _ = _
  entry_read
  refine ((h.cols slices_S1024x3264_S1024x2048_0_1216) _).trans ?_
  blk_simp [ix5]

theorem in7 (h : ∀ i : S1024.Idx, m ((c : Thread nD τ).loc main_arg5) i = g (i 0).val) : X2 (a := 1) (b := 1024) (iblk m c 7 t) fun _ j => g j := by
  intro y
  show V m c main_v5 _ = _
  entry_read
  refine (X2.line h shapeCasts_S1024_S1x1024 _).trans ?_
  blk_simp [ix7]

end operands

/-! ## What a point leaves -/

theorem out_at (t : Fin cfg0.N) : (outsAt0 m c t.val t.isLt).1 = k0_pay1 (k0_pay4 (F := Ideal) (iblk m c 0 t) (iblk m c 3 t) (iblk m c 1 t) (iblk m c 4 t) (iblk m c 2 t) (iblk m c 5 t))
    (k0_pay5 (iblk m c 7 t)) (k0_pay6 (iblk m c 6 t)) (k0_pay7 (iblk m c 6 t)) (iblk m c 8 t) := by
  by_cases h : t.val % 8 = 0
  · rw [outsAt0_A m c t h]
    dsimp only
    rw [o_A (F := Ideal)]
  · rw [outsAt0_B m c t h]
    dsimp only
    rw [o_B (F := Ideal)]

theorem gain_first (t : Fin cfg0.N) (h : t.val % 8 = 0) :
    (outsAt0 m c t.val t.isLt).2 = k0_pay2 (k0_pay8 (F := Ideal) (iblk m c 0 t) (iblk m c 3 t) (iblk m c 1 t) (iblk m c 4 t) (iblk m c 2 t) (iblk m c 5 t) (iblk m c 6 t)) (k0_pay3 (F := Ideal)) := by
  rw [outsAt0_A m c t h]
  dsimp only
  rw [g_A (F := Ideal)]

theorem gain_next (t : Fin cfg0.N) (h : ¬t.val % 8 = 0) :
    (outsAt0 m c t.val t.isLt).2 = k0_pay2 (k0_pay8 (F := Ideal) (iblk m c 0 t) (iblk m c 3 t) (iblk m c 1 t) (iblk m c 4 t) (iblk m c 2 t) (iblk m c 5 t) (iblk m c 6 t))
      (outsAt0 m c (t.val - 1) (by have := t.isLt; omega)).2 := by
  rw [outsAt0_B m c t h]
  dsimp only
  rw [g_B (F := Ideal)]

section results

variable {p l d w x y : ℕ → ℕ → EReal} {g : ℕ → EReal}
  (hl : X2 (a := 4096) (b := 768) (m ((c : Thread nD τ).loc main_arg0)) l) (hp : X2 (a := 4096) (b := 512) (m ((c : Thread nD τ).loc main_arg1)) p)
  (hd : X2 (a := 4096) (b := 2048) (m ((c : Thread nD τ).loc main_arg2)) d) (hw : X2 (a := 1024) (b := 3264) (m ((c : Thread nD τ).loc main_arg3)) w)
  (hx : X2 (a := 4096) (b := 1024) (m ((c : Thread nD τ).loc main_arg4)) x) (hg : ∀ i : S1024.Idx, m ((c : Thread nD τ).loc main_arg5) i = g (i 0).val)
  (hy : X2 (a := 4096) (b := 1024) (m ((c : Thread nD τ).loc main_arg6)) y)

include hl hp hd hw in
theorem dh_at (t : Fin cfg0.N) : X2 (a := 512) (b := 1024) (k0_pay4 (F := Ideal) (iblk m c 0 t) (iblk m c 3 t) (iblk m c 1 t) (iblk m c 4 t) (iblk m c 2 t) (iblk m c 5 t)) fun i j =>
    dh p l d w (t.val * 512 + i) j :=
  (pay4_x (in0 m c t hl) (in3 m c t hw) (in1 m c t hp) (in4 m c t hw) (in2 m c t hd) (in5 m c t hw)).congr fun i j _ _ => dh_eq p l d w (t.val * 512 + i) j

include hl hp hd hw hx in
theorem gain : ∀ (n : ℕ) (hn : n < cfg0.N), X2 (a := 1) (b := 1024) (outsAt0 m c n hn).2 fun _ j =>
    ∑ s ∈ range (n + 1), ∑ i ∈ range 512, dh p l d w (s * 512 + i) j * (x (s * 512 + i) j * rr (x (s * 512 + i))) := by
  intro n
  induction n with
  | zero =>
    intro hn
    rw [gain_first m c ⟨0, hn⟩ rfl]
    refine (pay2_x pay3_x (pay8_x (dh_at m c hl hp hd hw ⟨0, hn⟩) (in6 m c ⟨0, hn⟩ hx))).congr fun i j _ _ => ?_
    exact (zero_add _).trans (Finset.sum_range_one (fun s => ∑ i ∈ range 512, dh p l d w (s * 512 + i) j * (x (s * 512 + i) j * rr (x (s * 512 + i))))).symm
  | succ n ih =>
    intro hn
    have hN : n + 1 < 8 := lt_of_lt_of_eq hn N_0
    rw [gain_next m c ⟨n + 1, hn⟩ (by dsimp only; omega)]
    refine (pay2_x (ih (by omega)) (pay8_x (dh_at m c hl hp hd hw ⟨n + 1, hn⟩) (in6 m c ⟨n + 1, hn⟩ hx))).congr fun i j _ _ => ?_
    exact (Finset.sum_range_succ (fun s => ∑ i ∈ range 512, dh p l d w (s * 512 + i) j * (x (s * 512 + i) j * rr (x (s * 512 + i)))) _).symm

include hl hp hd hw hx hg hy in
/-- The first result: the input's gradient. -/
theorem result9 (G : FVec Ideal S4096x1024 .f32) (hG : X2 (a := 4096) (b := 1024) G fun i j => kx (x i) (fun j => dh p l d w i j * g j) (y i j) j) : (dats m 0 c).arrAt 9 cfg0.N = G := by
  refine (dats m 0 c).arrAt_eq_of_covers 9 _ (by decide +kernel) fun t hf' y => ?_
  have e := (pay1_x (dh_at m c hl hp hd hw t) ((in7 m c t hg).cast shapeCasts_S1x1024_S1x1024) (pay6_x (in6 m c t hx)) (pay7_x (in6 m c t hx)) (in8 m c t hy)) y
  blk_simp
  rw [after0_9, out_at m c t]
  refine e.trans (Eq.trans ?_ (hG _).symm)
  blk_simp [ix9]

include hl hp hd hw hx in
/-- The second: the gain's gradient. -/
theorem result10 (G : FVec Ideal S1x1024 .f32) (hG : X2 (a := 1) (b := 1024) G fun _ j => ∑ i ∈ range 4096, dh p l d w i j * (x i j * rr (x i))) : (dats m 0 c).arrAt 10 cfg0.N = G := by
  refine (dats m 0 c).arrAt_eq_of_covers 10 _ (by decide +kernel) fun t hf' y => ?_
  have h7 := fl10 t hf'
  blk_simp
  rw [after0_10]
  refine (gain m c hl hp hd hw hx t.val t.isLt y).trans (Eq.trans ?_ (hG _).symm)
  blk_simp [ix10]
  rw [h7]
  exact sum_blocks 512 (fun i => dh p l d w i (y 1).val * (x i (y 1).val * rr (x i))) 8

end results

end kernel

section reference

open Cert.Reference9Ideal Cert.Reference9Ideal.Read

variable {p l d w x y : ℕ → ℕ → EReal} {g : ℕ → EReal} {x0 : FVec Ideal S4096x768 .bf16} {x1 : FVec Ideal S4096x512 .bf16} {x2 : FVec Ideal S4096x2048 .bf16} {x3 : FVec Ideal S1024x3264 .bf16}
  {x4 x6 : FVec Ideal S4096x1024 .f32} {x5 : FVec Ideal S1024 .f32}
  (hl : X2 (a := 4096) (b := 768) x0 l) (hp : X2 (a := 4096) (b := 512) x1 p) (hd : X2 (a := 4096) (b := 2048) x2 d) (hw : X2 (a := 1024) (b := 3264) x3 w)
  (hx : X2 (a := 4096) (b := 1024) x4 x) (hg : ∀ i : S1024.Idx, x5 i = g (i 0).val) (hy : X2 (a := 4096) (b := 1024) x6 y)

include hl hp hd in
theorem ref_v25 : X2 (a := 4096) (b := 3264) (val_main_v25 (F := Ideal) x0 x1 x2) fun i k => if k < 512 then p i k else if k < 1216 then l i (k - 512) else d i (k - 1216) := fun i => by
  have l0 : (i 0).val < 4096 := (i 0).isLt
  have l1 : (i 1).val < 3264 := (i 1).isLt
  unfold val_main_v25
  by_cases h1 : (i 1).val < 512
  · refine Eq.trans ?_ (if_pos h1).symm
    refine (concatenate_apply_piece _ _ _ i 0 (by show 0 < 3; decide) S4096x512 _ rfl rfl 0 rfl (ValueIdx.ix2 (⟨(i 0).val, l0⟩ : Fin 4096) (⟨(i 1).val, h1⟩ : Fin 512)) ?_ ?_).trans (hp _)
    · intro b hb
      match b, hb with
      | ⟨0, _⟩, _ => rfl
      | ⟨1, _⟩, hb => exact absurd rfl hb
    · exact Nat.zero_add _
  · refine Eq.trans ?_ (if_neg h1).symm
    by_cases h2 : (i 1).val < 1216
    · refine Eq.trans ?_ (if_pos h2).symm
      have e : X2 (a := 4096) (b := 704) (val_main_v2 (F := Ideal) x0) fun i j => l i j := by
        refine X2.congr (f := fun i j => l i (0 + j)) ?_ fun i j _ _ => by rw [Nat.zero_add]
        intro i
        show val_main_v1 (F := Ideal) x0 i = _
        unfold val_main_v1
        exact hl.cols _ i
      refine (concatenate_apply_piece _ _ _ i 1 (by show 1 < 3; decide) S4096x704 _ rfl rfl 512 rfl (ValueIdx.ix2 (⟨(i 0).val, l0⟩ : Fin 4096) (⟨(i 1).val - 512, by omega⟩ : Fin 704)) ?_ ?_).trans (e _)
      · intro b hb
        match b, hb with
        | ⟨0, _⟩, _ => rfl
        | ⟨1, _⟩, hb => exact absurd rfl hb
      · show 512 + ((i 1).val - 512) = (i 1).val
        omega
    · refine Eq.trans ?_ (if_neg h2).symm
      refine (concatenate_apply_piece _ _ _ i 2 (by show 2 < 3; decide) S4096x2048 _ rfl rfl 1216 rfl (ValueIdx.ix2 (⟨(i 0).val, l0⟩ : Fin 4096) (⟨(i 1).val - 1216, by omega⟩ : Fin 2048)) ?_ ?_).trans (hd _)
      · intro b hb
        match b, hb with
        | ⟨0, _⟩, _ => rfl
        | ⟨1, _⟩, hb => exact absurd rfl hb
      · show 1216 + ((i 1).val - 1216) = (i 1).val
        omega

include hl hp hd hw in
theorem ref_v26 : X2 (a := 4096) (b := 1024) (val_main_v26 (F := Ideal) x0 x1 x2 x3) (dh p l d w) := fun i => by
  rw [val_main_v26_apply]
  refine Eq.trans (b := ∑ k ∈ range (512 + (704 + 2048)), (if k < 512 then p (i 0).val k else if k < 1216 then l (i 0).val (k - 512) else d (i 0).val (k - 1216)) * w (i 1).val k) ?_ ?_
  · refine Eq.trans ?_ (Finset.sum_range _).symm
    refine Finset.sum_congr rfl fun k _ => ?_
    show val_main_v25 (F := Ideal) x0 x1 x2 (lidx_main_v26 i k) * x3 (ridx_main_v26 i k) = _
    rw [ref_v25 hl hp hd, hw]
  · rw [Finset.sum_range_add, Finset.sum_range_add]
    unfold dh
    refine congrArg₂ (· + ·) (Finset.sum_congr rfl fun k hk => ?_) (congrArg₂ (· + ·) (Finset.sum_congr rfl fun k hk => ?_) (Finset.sum_congr rfl fun k _ => ?_))
    · rw [if_pos (Finset.mem_range.mp hk)]
    · have := Finset.mem_range.mp hk
      rw [if_neg (by omega), if_pos (by omega), Nat.add_sub_cancel_left]
    · rw [if_neg (by omega), if_neg (by omega), show 512 + (704 + k) - 1216 = k by omega, show 512 + (704 + k) = 1216 + k by omega]

include hx in
theorem ref_v11 : X2 (a := 4096) (b := 1) (val_main_v11 (F := Ideal) x4) fun i _ => nn (x i) := fun i => by
  rw [val_main_v11_apply, val_main_v9_apply, val_main_v7_apply, val_main_v8_apply, val_main_v10_apply, val_main_v6_apply, val_main_cst_apply, val_main_cst_0_apply, val_main_cst_1_apply]
  unfold nn
  refine congrArg₂ (· + ·) (congrArg₂ Ideal.div ?_ rfl) rfl
  refine (congrArg₂ (· + ·) zero_f32 rfl).trans ((zero_add _).trans ?_)
  refine Eq.trans ?_ (Finset.sum_range _).symm
  refine Finset.sum_congr rfl fun k _ => ?_
  show x4 _ * x4 _ = _
  rw [hx]

include hx in
theorem ref_v12 : X2 (a := 4096) (b := 1) (val_main_v12 (F := Ideal) x4) fun i _ => rr (x i) := fun i => by
  show Ideal.rsqrt (val_main_v11 (F := Ideal) x4 i) = _
  rw [ref_v11 hx]
  rfl

include hx in
theorem ref_v15 : X2 (a := 4096) (b := 1) (val_main_v15 (F := Ideal) x4) fun i _ => Ideal.ofBits .f32 0xBF000000#32 * Ideal.div (rr (x i)) (nn (x i)) := fun i => by
  rw [val_main_v15_apply, val_main_v14_apply, val_main_cst_2_apply]
  show _ * Ideal.div (val_main_v12 (F := Ideal) x4 i) (val_main_v11 (F := Ideal) x4 i) = _
  rw [ref_v11 hx, ref_v12 hx]
  rfl

include hl hp hd hw hx in
/-- The reference's second result: the gain's gradient. -/
theorem ref_v48 : X2 (a := 1) (b := 1024) (val_main_v48 (F := Ideal) x0 x1 x2 x3 x4) fun _ j => ∑ i ∈ range 4096, dh p l d w i j * (x i j * rr (x i)) := fun i => by
  have l0 : (i 0).val < 1 := (i 0).isLt
  rw [val_main_v48_apply, val_main_v32_apply, val_main_cst_4_apply]
  refine (congrArg₂ (· + ·) zero_f32 (Fin.sum_univ_one _)).trans ((zero_add _).trans ?_)
  rw [val_main_v29_apply, val_main_v28_apply, val_main_cst_3_apply]
  refine (congrArg₂ (· + ·) zero_f32 rfl).trans ((zero_add _).trans ?_)
  refine Eq.trans ?_ (Finset.sum_range _).symm
  refine Finset.sum_congr rfl fun k _ => ?_
  rw [val_main_v27_apply, val_main_v17_apply, val_main_v16_apply]
  show x4 _ * val_main_v12 (F := Ideal) x4 _ * val_main_v26 (F := Ideal) x0 x1 x2 x3 _ = _
  rw [hx, ref_v12 hx, ref_v26 hl hp hd hw, mul_comm]
  have e : (i 0).val * 1024 + (i 1).val = (i 1).val := by omega
  show dh p l d w k.val (0 * 1024 + ((i 0).val * 1024 + (i 1).val)) * (x k.val (0 * 1024 + ((i 0).val * 1024 + (i 1).val)) * rr (x k.val)) = _
  rw [e, Nat.zero_mul, Nat.zero_add]

include hl hp hd hw hg in
/-- The gradient of the normalised row, the gain multiplied in. -/
theorem ref_v31 : X2 (a := 4096) (b := 1024) (val_main_v31 (F := Ideal) x0 x1 x2 x3 x5) fun i j => dh p l d w i j * g j := fun i => by
  rw [val_main_v31_apply, val_main_v30_apply, val_main_v18_apply]
  show val_main_v26 (F := Ideal) x0 x1 x2 x3 i * x5 _ = _
  rw [ref_v26 hl hp hd hw, hg]

include hl hp hd hw hx hg in
theorem ref_v43 : X2 (a := 4096) (b := 1024) (val_main_v43 (F := Ideal) x0 x1 x2 x3 x4 x5) fun i _ => qq (x i) fun j => dh p l d w i j * g j := fun i => by
  rw [val_main_v43_apply, val_main_v42_apply, val_main_cst_7_apply]
  refine (congrArg₂ (· + ·) zero_f32 (Fin.sum_univ_one _)).trans ((zero_add _).trans ?_)
  rw [val_main_v41_apply, val_main_v40_apply, val_main_cst_6_apply, val_main_v39_apply, val_main_v35_apply, val_main_v34_apply, val_main_cst_5_apply]
  unfold qq
  refine congrArg₂ Ideal.div (congrArg₂ (· * ·) ?_ (ref_v15 hx _)) rfl
  refine (congrArg₂ (· + ·) zero_f32 rfl).trans ((zero_add _).trans ?_)
  refine Eq.trans ?_ (Finset.sum_range _).symm
  refine Finset.sum_congr rfl fun k _ => ?_
  show x4 _ * val_main_v31 (F := Ideal) x0 x1 x2 x3 x5 _ = _
  rw [hx, ref_v31 hl hp hd hw hg]
  have e : (i 0).val * 1 + 0 = (i 0).val := by omega
  show x ((i 0).val * 1 + 0) k.val * (dh p l d w ((i 0).val * 1 + 0) k.val * g k.val) = _
  rw [e]

include hl hp hd hw hx hg hy in
/-- The reference's first result, in the kernel's form. -/
theorem ref_v47 : X2 (a := 4096) (b := 1024) (val_main_v47 (F := Ideal) x0 x1 x2 x3 x4 x5 x6) fun i j => kx (x i) (fun j => dh p l d w i j * g j) (y i j) j := fun i => by
  show x6 i + val_main_v31 (F := Ideal) x0 x1 x2 x3 x5 i * val_main_v36 (F := Ideal) x4 i + x4 i * val_main_v43 (F := Ideal) x0 x1 x2 x3 x4 x5 i + val_main_v43 (F := Ideal) x0 x1 x2 x3 x4 x5 i * x4 i = _
  rw [val_main_v36_apply, hy, ref_v31 hl hp hd hw hg, ref_v12 hx, hx, ref_v43 hl hp hd hw hx hg]
  exact (row (x (i 0).val) (fun j => dh p l d w (i 0).val j * g j) (y (i 0).val (i 1).val) (i 1).val (i 1).isLt).symm

end reference

set_option backward.isDefEq.respectTransparency.types false in
/-- The gradients of the mixer's input and of its norm's gain are the reference's, at every argument. -/
theorem algebraic : Cert.algebraic_Kernel9Ideal_Reference9Ideal := fun m g m' g' _ agree => by
  refine ⟨_, _, Cert.Kernel9Ideal.Value.run_blocks m g, ?_⟩
  refine (θ_run _ _ _).mono (fun r h c => ?_) (Cert.Reference9Ideal.Value.run (F := Ideal) m' g')
  obtain ⟨g0, g1, g2, g3, g4, g5, g6⟩ := agree c
  obtain ⟨r0, r1, rest⟩ := h c
  have e0 := X2.self (a := 4096) (b := 768) (m ((c : Thread Cert.Kernel9Ideal.nD Cert.Kernel9Ideal.τ).loc Cert.Kernel9Ideal.main_arg0))
  have e1 := X2.self (a := 4096) (b := 512) (m ((c : Thread Cert.Kernel9Ideal.nD Cert.Kernel9Ideal.τ).loc Cert.Kernel9Ideal.main_arg1))
  have e2 := X2.self (a := 4096) (b := 2048) (m ((c : Thread Cert.Kernel9Ideal.nD Cert.Kernel9Ideal.τ).loc Cert.Kernel9Ideal.main_arg2))
  have e3 := X2.self (a := 1024) (b := 3264) (m ((c : Thread Cert.Kernel9Ideal.nD Cert.Kernel9Ideal.τ).loc Cert.Kernel9Ideal.main_arg3))
  have e4 := X2.self (a := 4096) (b := 1024) (m ((c : Thread Cert.Kernel9Ideal.nD Cert.Kernel9Ideal.τ).loc Cert.Kernel9Ideal.main_arg4))
  have e6 := X2.self (a := 4096) (b := 1024) (m ((c : Thread Cert.Kernel9Ideal.nD Cert.Kernel9Ideal.τ).loc Cert.Kernel9Ideal.main_arg6))
  obtain ⟨γ, e5⟩ := line_of (b := 1024) (m ((c : Thread Cert.Kernel9Ideal.nD Cert.Kernel9Ideal.τ).loc Cert.Kernel9Ideal.main_arg5))
  refine ⟨r0.trans ((Cert.Reference9Ideal.Read.val_main_v47_eq (F := Ideal) _ c).trans ?_), r1.trans ((Cert.Reference9Ideal.Read.val_main_v48_eq (F := Ideal) _ _ _ _ _).trans ?_), rest⟩
  · rw [g0, g1, g2, g3, g4, g5, g6]
    exact (result9 m c e0 e1 e2 e3 e4 e5 e6 _ (ref_v47 e0 e1 e2 e3 e4 e5 e6)).symm
  · rw [g0, g1, g2, g3, g4]
    exact (result10 m c e0 e1 e2 e3 e4 _ (ref_v48 e0 e1 e2 e3 e4)).symm

end Cert.Attn.MixDx

end
-- ==== Proof.Gate.lean ====
/- The attention projection and the gated sum of the two branches: a block of rows at a time. -/
module

public import proofs.«01_k».proof.Defs
public import proofs.«01_k».proof.Proof.Split
public import proofs.«01_k».proof.Proof.Gen.Kernel10Ideal.Value
public import proofs.«01_k».proof.Proof.Gen.Reference10Ideal.Run
public import proofs.«01_k».proof.Proof.Gen.Reference10Ideal.Read

@[expose] public section

set_option maxRecDepth 16384

noncomputable section

namespace Cert.Attn.Gate

open Idealize.ShloMosaic Idealize.ShloMosaic.TcCoe Idealize.SL.Sem
open scoped BigOperators
open Finset (range)

section kernel

open Cert.Kernel10Ideal Cert.Kernel10Ideal.Gen Cert.Kernel10Ideal.Value

variable {o w p q : ℕ → ℕ → EReal} {β : ℕ → EReal}

/-- One gate: the activation of a block of the logits with their offset. -/
theorem act_x {A : FVec Ideal S512x1024 .bf16} {B : FVec Ideal S1x1024 .f32} (hA : X2 A p) (hB : X2 B fun _ j => β j) :
    X2 (addf (mulf (broadcast S512x1024 (Scalar.ofBits (F := Ideal) .f32 0x3F000000#32)) (tanh (mulf (broadcast S512x1024 (Scalar.ofBits (F := Ideal) .f32 0x3F000000#32))
      (addf (extf .f32 A bitsLt_bf16_f32) (broadcastTo S512x1024 (shapeCast S1x1024 B shapeCasts_S1x1024_S1x1024) broadcasts_S1x1024_S512x1024)))))
      (broadcast S512x1024 (Scalar.ofBits (F := Ideal) .f32 0x3F000000#32))) fun i j => sg (p i j + β j) :=
  X2.sg (X2.add (A := extf .f32 A bitsLt_bf16_f32) hA (X2.bcastRow (hB.cast _) _))

theorem out5_x {A : FVec Ideal S512x1024 .bf16} {B : FVec Ideal S1024x1024 .bf16} (x2 : FVec Ideal S512x2048 .bf16) (x3 : FVec Ideal S1x2048 .f32) (x4 : FVec Ideal S512x1024 .bf16) (hA : X2 A o) (hB : X2 B w) :
    X2 (a := 512) (b := 1024) (out0_5 (F := Ideal) A B x2 x3 x4) fun i j => ∑ k ∈ range 1024, o i k * w k j := by
  unfold out0_5
  rw [View.canon_unit_zero hz2, View.ld_unit_zero (S := S512x1024) hz2, View.ld_unit_zero (S := S1024x1024) hz2]
  exact X2.plain _ rfl none hA hB X2.zero

theorem out6_x {A : FVec Ideal S512x1024 .bf16} {B : FVec Ideal S1024x1024 .bf16} {P : FVec Ideal S512x2048 .bf16} {R : FVec Ideal S1x2048 .f32} {Q : FVec Ideal S512x1024 .bf16}
    (hA : X2 A o) (hB : X2 B w) (hP : X2 P p) (hR : X2 R fun _ j => β j) (hQ : X2 Q q) :
    X2 (a := 512) (b := 1024) (out0_6 (F := Ideal) A B P R Q) fun i j => sg (p i j + β j) * q i j + sg (p i (1024 + j) + β (1024 + j)) * ∑ k ∈ range 1024, o i k * w k j := by
  unfold out0_6
  rw [View.canon_unit_zero hz2, View.ld_unit_zero (S := S512x1024) hz2, View.ld_unit_zero (S := S1024x1024) hz2, View.ld_unit_zero (S := S512x1024) hz2]
  have h1 := (act_x (X2.ld16 (n := 512) (w := 1024) (o := 0) (c := 0) hP inb_S512x2048_S512x1024_0_0) (X2.ld32 (n := 1) (w := 1024) (o := 0) (c := 0) hR inb_S1x2048_S1x1024_0_0)).mul (B := extf .f32 Q bitsLt_bf16_f32) hQ
  have h2 := (act_x (X2.ld16 (n := 512) (w := 1024) (o := 0) (c := 1024) hP inb_S512x2048_S512x1024_0_1024) (X2.ld32 (n := 1) (w := 1024) (o := 0) (c := 1024) hR inb_S1x2048_S1x1024_0_1024)).mul
    (X2.plain dot_S512x1024_S1024x1024_S512x1024_1_0_0_1_n_n rfl none hA hB X2.zero)
  exact (h1.add h2).congr fun i j _ _ => by simp only [Nat.zero_add]

variable (m : (ℓ : Loc nD τ sig) → Buf (Elt Ideal) ℓ) (c : Dev nD)

theorem ix0 : ∀ t : Fin cfg0.N, win0_0.index t = ![t.val, 0] := (by decide +kernel : ∀ t : Fin grid0.N, win0_0.index t = ![t.val, 0])
theorem ix1 : ∀ t : Fin cfg0.N, win0_1.index t = ![0, 0] := (by decide +kernel : ∀ t : Fin grid0.N, win0_1.index t = ![0, 0])
theorem ix2 : ∀ t : Fin cfg0.N, win0_2.index t = ![t.val, 0] := (by decide +kernel : ∀ t : Fin grid0.N, win0_2.index t = ![t.val, 0])
theorem ix3 : ∀ t : Fin cfg0.N, win0_3.index t = ![0, 0] := (by decide +kernel : ∀ t : Fin grid0.N, win0_3.index t = ![0, 0])
theorem ix4 : ∀ t : Fin cfg0.N, win0_4.index t = ![t.val, 0] := (by decide +kernel : ∀ t : Fin grid0.N, win0_4.index t = ![t.val, 0])
theorem ix5 : ∀ t : Fin cfg0.N, win0_5.index t = ![t.val, 0] := (by decide +kernel : ∀ t : Fin grid0.N, win0_5.index t = ![t.val, 0])
theorem ix6 : ∀ t : Fin cfg0.N, win0_6.index t = ![t.val, 0] := (by decide +kernel : ∀ t : Fin grid0.N, win0_6.index t = ![t.val, 0])

section operands

variable (ho : X2 (a := 4096) (b := 1024) (m ((c : Thread nD τ).loc main_arg0)) o) (hw : X2 (a := 1024) (b := 1024) (m ((c : Thread nD τ).loc main_arg1)) w)
  (hp : X2 (a := 4096) (b := 2048) (m ((c : Thread nD τ).loc main_arg2)) p) (hb : ∀ i : S2048.Idx, m ((c : Thread nD τ).loc main_arg3) i = β (i 0).val)
  (hq : X2 (a := 4096) (b := 1024) (m ((c : Thread nD τ).loc main_arg4)) q) (t : Fin cfg0.N)

include ho in
theorem in0 : X2 (a := 512) (b := 1024) (iblk m c 0 t) fun i j => o (t.val * 512 + i) j := by
  intro y
  refine (ho _).trans ?_
  blk_simp [ix0]

include hw in
theorem in1 : X2 (a := 1024) (b := 1024) (iblk m c 1 t) w := by
  intro y
  refine (hw _).trans ?_
  blk_simp [ix1]

include hp in
theorem in2 : X2 (a := 512) (b := 2048) (iblk m c 2 t) fun i j => p (t.val * 512 + i) j := by
  intro y
  refine (hp _).trans ?_
  blk_simp [ix2]

include hb in
theorem in3 : X2 (a := 1) (b := 2048) (iblk m c 3 t) fun _ j => β j := by
  intro y
  show V m c main_v0 _ = _
  entry_read
  refine (X2.line hb shapeCasts_S2048_S1x2048 _).trans ?_
  blk_simp [ix3]

include hq in
theorem in4 : X2 (a := 512) (b := 1024) (iblk m c 4 t) fun i j => q (t.val * 512 + i) j := by
  intro y
  refine (hq _).trans ?_
  blk_simp [ix4]

end operands

variable (ho : X2 (a := 4096) (b := 1024) (m ((c : Thread nD τ).loc main_arg0)) o) (hw : X2 (a := 1024) (b := 1024) (m ((c : Thread nD τ).loc main_arg1)) w)
  (hp : X2 (a := 4096) (b := 2048) (m ((c : Thread nD τ).loc main_arg2)) p) (hb : ∀ i : S2048.Idx, m ((c : Thread nD τ).loc main_arg3) i = β (i 0).val)
  (hq : X2 (a := 4096) (b := 1024) (m ((c : Thread nD τ).loc main_arg4)) q)

include ho hw in
/-- The first result: the projected attention. -/
theorem result5 (G : FVec Ideal S4096x1024 .bf16) (hG : X2 (a := 4096) (b := 1024) G fun i j => ∑ k ∈ range 1024, o i k * w k j) : (dats m 0 c).arrAt 5 cfg0.N = G := by
  refine (dats m 0 c).arrAt_eq_of_covers 5 _ (by decide +kernel) fun t hf' y => ?_
  blk_simp
  rw [after0_5]
  refine (out5_x _ _ _ (in0 m c ho t) (in1 m c hw t) y).trans (Eq.trans ?_ (hG _).symm)
  blk_simp [ix5]

include ho hw hp hb hq in
/-- The second: the two branches, each times its gate, added. -/
theorem result6 (G : FVec Ideal S4096x1024 .bf16)
    (hG : X2 (a := 4096) (b := 1024) G fun i j => sg (p i j + β j) * q i j + sg (p i (1024 + j) + β (1024 + j)) * ∑ k ∈ range 1024, o i k * w k j) : (dats m 0 c).arrAt 6 cfg0.N = G := by
  refine (dats m 0 c).arrAt_eq_of_covers 6 _ (by decide +kernel) fun t hf' y => ?_
  blk_simp
  rw [after0_6]
  refine (out6_x (in0 m c ho t) (in1 m c hw t) (in2 m c hp t) (in3 m c hb t) (in4 m c hq t) y).trans (Eq.trans ?_ (hG _).symm)
  blk_simp [ix6]

end kernel

section reference

open Cert.Reference10Ideal Cert.Reference10Ideal.Read

variable {o w p q : ℕ → ℕ → EReal} {β : ℕ → EReal} {x0 : FVec Ideal S4096x1024 .bf16} {x1 : FVec Ideal S1024x1024 .bf16} {x2 : FVec Ideal S4096x2048 .bf16} {x3 : FVec Ideal S2048 .f32} {x4 : FVec Ideal S4096x1024 .bf16}
  (ho : X2 (a := 4096) (b := 1024) x0 o) (hw : X2 (a := 1024) (b := 1024) x1 w) (hp : X2 (a := 4096) (b := 2048) x2 p) (hb : ∀ i : S2048.Idx, x3 i = β (i 0).val) (hq : X2 (a := 4096) (b := 1024) x4 q)

include ho hw in
theorem ref_v2 : X2 (a := 4096) (b := 1024) (val_main_v2 (F := Ideal) x0 x1) fun i j => ∑ k ∈ range 1024, o i k * w k j := fun i => by
  rw [val_main_v2_apply]
  refine Eq.trans ?_ (Finset.sum_range _).symm
  refine Finset.sum_congr rfl fun k _ => ?_
  show x0 (lidx_main_v2 i k) * x1 (ridx_main_v2 i k) = _
  rw [ho, hw]

include hp hb in
theorem ref_v13 : X2 (a := 4096) (b := 2048) (val_main_v13 (F := Ideal) x2 x3) fun i j => sg (p i j + β j) := fun i => by
  rw [val_main_v13_apply, val_main_v11_apply, val_main_v12_apply, val_main_v10_apply, val_main_cst_apply, val_main_cst_0_apply]
  show Ideal.div (Ideal.ofBits .f32 0x3F800000#32) (Ideal.ofBits .f32 0x3F800000#32 + Ideal.exp (-(x2 i + val_main_v6 (F := Ideal) x3 i))) = _
  rw [one_f32, val_main_v6_apply, val_main_v5_apply, hp, hb]
  exact sg_eq _

include ho hw hp hb hq in
theorem ref_v18 : X2 (a := 4096) (b := 1024) (val_main_v18 (F := Ideal) x0 x1 x2 x3 x4) fun i j => sg (p i j + β j) * q i j + sg (p i (1024 + j) + β (1024 + j)) * ∑ k ∈ range 1024, o i k * w k j := fun i => by
  show val_main_v14 (F := Ideal) x2 x3 i * x4 i + val_main_v15 (F := Ideal) x2 x3 i * val_main_v2 (F := Ideal) x0 x1 i = _
  rw [val_main_v14_apply, val_main_v15_apply, ref_v13 hp hb, ref_v13 hp hb, ref_v2 ho hw, hq]

end reference

set_option backward.isDefEq.respectTransparency.types false in
/-- The attention projection and the merged branches are the reference's, at every argument. -/
theorem algebraic : Cert.algebraic_Kernel10Ideal_Reference10Ideal := fun m g m' g' _ agree => by
  refine ⟨_, _, Cert.Kernel10Ideal.Value.run_blocks m g, ?_⟩
  refine (θ_run _ _ _).mono (fun r h c => ?_) (Cert.Reference10Ideal.Value.run (F := Ideal) m' g')
  obtain ⟨g0, g1, g2, g3, g4⟩ := agree c
  obtain ⟨r0, r1, rest⟩ := h c
  have e0 := X2.self (a := 4096) (b := 1024) (m ((c : Thread Cert.Kernel10Ideal.nD Cert.Kernel10Ideal.τ).loc Cert.Kernel10Ideal.main_arg0))
  have e1 := X2.self (a := 1024) (b := 1024) (m ((c : Thread Cert.Kernel10Ideal.nD Cert.Kernel10Ideal.τ).loc Cert.Kernel10Ideal.main_arg1))
  have e2 := X2.self (a := 4096) (b := 2048) (m ((c : Thread Cert.Kernel10Ideal.nD Cert.Kernel10Ideal.τ).loc Cert.Kernel10Ideal.main_arg2))
  obtain ⟨β, e3⟩ := line_of (b := 2048) (m ((c : Thread Cert.Kernel10Ideal.nD Cert.Kernel10Ideal.τ).loc Cert.Kernel10Ideal.main_arg3))
  have e4 := X2.self (a := 4096) (b := 1024) (m ((c : Thread Cert.Kernel10Ideal.nD Cert.Kernel10Ideal.τ).loc Cert.Kernel10Ideal.main_arg4))
  refine ⟨r0.trans ((Cert.Reference10Ideal.Read.val_main_v19_eq (F := Ideal) _ _).trans ?_), r1.trans ((Cert.Reference10Ideal.Read.val_main_v20_eq (F := Ideal) _ _ _ _ _).trans ?_), rest⟩
  · rw [g0, g1]
    exact (result5 m c e0 e1 _ (ref_v2 e0 e1)).symm
  · rw [g0, g1, g2, g3, g4]
    exact (result6 m c e0 e1 e2 e3 e4 _ (ref_v18 e0 e1 e2 e3 e4)).symm

end Cert.Attn.Gate

end
-- ==== Proof.OutDx.lean ====
/- The gates' backward pass: the cotangents of the two branches and of the gates' logits, a block of rows at a time, and the gradient of the gates' bias,
   summed over all points. At every argument: only products, which associate, and sums of the same terms. -/
module

public import proofs.«01_k».proof.Defs
public import Idealize.ShloMosaic.Lib.Pipeline.ReadBack
public import proofs.«01_k».proof.Proof.Gate
public import proofs.«01_k».proof.Proof.Split
public import proofs.«01_k».proof.Proof.Gen.Kernel11Ideal.Value
public import proofs.«01_k».proof.Proof.Gen.Reference11Ideal.Run
public import proofs.«01_k».proof.Proof.Gen.Reference11Ideal.Read

@[expose] public section

set_option maxRecDepth 16384

noncomputable section

namespace Cert.Attn.OutDx

open Idealize.ShloMosaic Idealize.ShloMosaic.TcCoe Idealize.SL.Sem
open scoped BigOperators
open Finset (range)

/-- The cotangent of a gate's logit: the branch's cotangent, times the branch and the gate's derivative. -/
def dl (d b g : EReal) : EReal := d * b * g * (1 - g)

/-- The merged branches' cotangent: the output's times the weight, transposed. -/
def dm (y w : ℕ → ℕ → EReal) (i j : ℕ) : EReal := ∑ k ∈ range 1024, y i k * w j k

/-- The gates' logits' cotangent, column by column: the first half is the first branch's. -/
def both (d u v γ : ℕ → ℕ → EReal) (i j : ℕ) : EReal := if j < 1024 then dl (d i j) (u i j) (γ i j) else dl (d i (j - 1024)) (v i (j - 1024)) (γ i j)

/-- Two stores, a half of the columns each, leave every column at its own. -/
theorem X2.halves {e : EltTy} (val : Elt Ideal e → EReal) {a n : ℕ} {P Q : (Sh a n).Idx → Elt Ideal e} {f g : ℕ → ℕ → EReal}
    (i0 : ∀ x, (![0, 0] : Fin 2 → ℕ) x + (Sh a n).size x ≤ (Sh a (n + n)).size x) (i1 : ∀ x, (![0, n] : Fin 2 → ℕ) x + (Sh a n).size x ≤ (Sh a (n + n)).size x)
    {L : List (View.Piece (Elt Ideal) (Sh a (n + n)) e)} (hP : X2 (fun i => val (P i)) f) (hQ : X2 (fun i => val (Q i)) g) :
    X2 (a := a) (b := n + n) (fun i => val (View.canon (⟨Rect.unit (s := Sh a (n + n)) ![0, n] (Sh a n).size i1, Q⟩ :: ⟨Rect.unit (s := Sh a (n + n)) ![0, 0] (Sh a n).size i0, P⟩ :: L) i)) fun i j => if j < n then f i j else g i (j - n) := fun i => by
  have l0 : (i 0).val < a := (i 0).isLt
  have l1 : (i 1).val < n + n := (i 1).isLt
  by_cases h : (i 1).val < n
  · refine Eq.trans ?_ (if_pos h).symm
    have e : (Rect.unit (s := Sh a (n + n)) ![0, 0] (Sh a n).size i0).emb (ValueIdx.ix2 (n0 := a) (n1 := n) ⟨(i 0).val, l0⟩ ⟨(i 1).val, h⟩) = i := by
      funext x
      match x with
      | ⟨0, _⟩ => exact Fin.ext (show 0 + 1 * (i 0).val = (i 0).val by omega)
      | ⟨1, _⟩ => exact Fin.ext (show 0 + 1 * (i 1).val = (i 1).val by omega)
    have o : i ∉ (Rect.unit (s := Sh a (n + n)) ![0, n] (Sh a n).size i1).set := fun hm => by
      obtain ⟨x, hx⟩ := LoadRect.exists_idx_of_mem _ hm
      have : n + 1 * (x 1).val = (i 1).val := congrArg (fun y : (Sh a (n + n)).Idx => (y 1).val) hx
      omega
    refine (congrArg val ((View.canon_cons_of_not_mem _ _ o).trans <| (congrArg (View.canon _) e.symm).trans (View.canon_cons_emb _ _ _ _))).trans (hP _)
  · refine Eq.trans ?_ (if_neg h).symm
    have e : (Rect.unit (s := Sh a (n + n)) ![0, n] (Sh a n).size i1).emb (ValueIdx.ix2 (n0 := a) (n1 := n) ⟨(i 0).val, l0⟩ ⟨(i 1).val - n, by omega⟩) = i := by
      funext x
      match x with
      | ⟨0, _⟩ => exact Fin.ext (show 0 + 1 * (i 0).val = (i 0).val by omega)
      | ⟨1, _⟩ => exact Fin.ext (show n + 1 * ((i 1).val - n) = (i 1).val by omega)
    refine (congrArg val ((congrArg (View.canon _) e.symm).trans (View.canon_cons_emb _ _ _ _))).trans (hQ _)

section kernel

open Cert.Kernel11Ideal Cert.Kernel11Ideal.Gen Cert.Kernel11Ideal.Value

section body

variable {F : FTy → Type} [FloatOps F]

/-- The first gate of a block, from the logits' and the bias's first columns. -/
def ga (x2 : Vec F S512x2048 .bf16) (x3 : Vec F S1x2048 .f32) : FVec F S512x1024 .f32 := k0_pay3 (View.ld x2 (Rect.unit (s := S512x2048) ![0, 0] S512x1024.size inb_S512x2048_S512x1024_0_0)) (View.ld x3 (Rect.unit (s := S1x2048) ![0, 0] S1x1024.size inb_S1x2048_S1x1024_0_0))

/-- The second gate, from the others. -/
def gb (x2 : Vec F S512x2048 .bf16) (x3 : Vec F S1x2048 .f32) : FVec F S512x1024 .f32 := k0_pay4 (View.ld x2 (Rect.unit (s := S512x2048) ![0, 1024] S512x1024.size inb_S512x2048_S512x1024_0_1024)) (View.ld x3 (Rect.unit (s := S1x2048) ![0, 1024] S1x1024.size inb_S1x2048_S1x1024_0_1024))

variable (c : Dev nD) (i : grid0.Coords) (a1 : Memref sig .tc .vmem S512x1024 .f32) (h1 : a1.IsWhole) (a2 : Memref sig .tc .vmem S1024x1024 .bf16) (h2 : a2.IsWhole) (a3 : Memref sig .tc .vmem S512x2048 .bf16) (h3 : a3.IsWhole) (a4 : Memref sig .tc .vmem S1x2048 .f32) (h4 : a4.IsWhole) (a5 : Memref sig .tc .vmem S512x1024 .bf16) (h5 : a5.IsWhole) (a6 : Memref sig .tc .vmem S512x1024 .bf16) (h6 : a6.IsWhole) (a7 : Memref sig .tc .vmem S512x1024 .bf16) (h7 : a7.IsWhole) (a8 : Memref sig .tc .vmem S512x1024 .bf16) (h8 : a8.IsWhole) (a9 : Memref sig .tc .vmem S512x2048 .bf16) (h9 : a9.IsWhole) (a10 : Memref sig .tc .vmem S1x2048 .f32) (h10 : a10.IsWhole)
  (x0 : Vec F S512x1024 .f32) (x1 : Vec F S1024x1024 .bf16) (x2 : Vec F S512x2048 .bf16) (x3 : Vec F S1x2048 .f32) (x4 : Vec F S512x1024 .bf16) (x5 : Vec F S512x1024 .bf16) (xo : Vec F S1x2048 .f32)

theorem o6_A (hc0) : out0_A_6 c i a1 h1 a2 h2 a3 h3 a4 h4 a5 h5 a6 h6 a7 h7 a8 h8 a9 h9 a10 h10 hc0 x0 x1 x2 x3 x4 x5 = k0_pay5 x0 x1 (View.ld x2 (Rect.unit (s := S512x2048) ![0, 0] S512x1024.size inb_S512x2048_S512x1024_0_0)) (View.ld x3 (Rect.unit (s := S1x2048) ![0, 0] S1x1024.size inb_S1x2048_S1x1024_0_0)) := by
  unfold out0_A_6
  rw [View.read_writes_eq_canon _ _ _ (cover0_A_6 c i a1 h1 a2 h2 a3 h3 a4 h4 a5 h5 a6 h6 a7 h7 a8 h8 a9 h9 a10 h10 hc0 x0 x1 x2 x3 x4 x5)]
  unfold kernelRun0_A
  dsimp only
  sl_unfold_words
  rw [View.canon_unit_zero hz2]
  simp only [View.readAt_eq_ld, h1.read_unread, h2.read_unread, h3.read_unread, h4.read_unread, h5.read_unread, h6.read_unread, h10.read_unread, View.ld_unit_zero (S := S512x1024) hz2, View.ld_unit_zero (S := S1024x1024) hz2, View.ld_unit_zero (S := S512x2048) hz2, View.ld_unit_zero (S := S1x2048) hz2]

theorem o7_A (hc0) : out0_A_7 c i a1 h1 a2 h2 a3 h3 a4 h4 a5 h5 a6 h6 a7 h7 a8 h8 a9 h9 a10 h10 hc0 x0 x1 x2 x3 x4 x5 = k0_pay6 (k0_pay2 (F := F) x0 x1) (gb x2 x3) := by
  unfold out0_A_7
  rw [View.read_writes_eq_canon _ _ _ (cover0_A_7 c i a1 h1 a2 h2 a3 h3 a4 h4 a5 h5 a6 h6 a7 h7 a8 h8 a9 h9 a10 h10 hc0 x0 x1 x2 x3 x4 x5)]
  unfold kernelRun0_A
  dsimp only
  sl_unfold_words
  rw [View.canon_unit_zero hz2]
  simp only [View.readAt_eq_ld, h1.read_unread, h2.read_unread, h3.read_unread, h4.read_unread, h5.read_unread, h6.read_unread, h10.read_unread, View.ld_unit_zero (S := S512x1024) hz2, View.ld_unit_zero (S := S1024x1024) hz2, View.ld_unit_zero (S := S512x2048) hz2, View.ld_unit_zero (S := S1x2048) hz2]
  rfl

theorem o8_A (hc0) : out0_A_8 c i a1 h1 a2 h2 a3 h3 a4 h4 a5 h5 a6 h6 a7 h7 a8 h8 a9 h9 a10 h10 hc0 x0 x1 x2 x3 x4 x5 = View.canon [⟨Rect.unit (s := S512x2048) ![0, 1024] S512x1024.size inb_S512x2048_S512x1024_0_1024, k0_pay10 (k0_pay2 (F := F) x0 x1) (gb x2 x3) x5⟩, ⟨Rect.unit (s := S512x2048) ![0, 0] S512x1024.size inb_S512x2048_S512x1024_0_0, k0_pay9 (k0_pay2 (F := F) x0 x1) (ga x2 x3) x4⟩] := by
  unfold out0_A_8
  rw [View.read_writes_eq_canon _ _ _ (cover0_A_8 c i a1 h1 a2 h2 a3 h3 a4 h4 a5 h5 a6 h6 a7 h7 a8 h8 a9 h9 a10 h10 hc0 x0 x1 x2 x3 x4 x5)]
  unfold kernelRun0_A
  dsimp only
  sl_unfold_words
  simp only [View.readAt_eq_ld, h1.read_unread, h2.read_unread, h3.read_unread, h4.read_unread, h5.read_unread, h6.read_unread, h10.read_unread, View.ld_unit_zero (S := S512x1024) hz2, View.ld_unit_zero (S := S1024x1024) hz2, View.ld_unit_zero (S := S512x2048) hz2, View.ld_unit_zero (S := S1x2048) hz2]
  rfl

theorem o6_B (hc0) : out0_B_6 c i a1 h1 a2 h2 a3 h3 a4 h4 a5 h5 a6 h6 a7 h7 a8 h8 a9 h9 a10 h10 hc0 x0 x1 x2 x3 x4 x5 xo = k0_pay5 x0 x1 (View.ld x2 (Rect.unit (s := S512x2048) ![0, 0] S512x1024.size inb_S512x2048_S512x1024_0_0)) (View.ld x3 (Rect.unit (s := S1x2048) ![0, 0] S1x1024.size inb_S1x2048_S1x1024_0_0)) := by
  unfold out0_B_6
  rw [View.read_writes_eq_canon _ _ _ (cover0_B_6 c i a1 h1 a2 h2 a3 h3 a4 h4 a5 h5 a6 h6 a7 h7 a8 h8 a9 h9 a10 h10 hc0 x0 x1 x2 x3 x4 x5 xo)]
  unfold kernelRun0_B
  dsimp only
  sl_unfold_words
  rw [View.canon_unit_zero hz2]
  simp only [View.readAt_eq_ld, h1.read_unread, h2.read_unread, h3.read_unread, h4.read_unread, h5.read_unread, h6.read_unread, h10.read_unread, View.ld_unit_zero (S := S512x1024) hz2, View.ld_unit_zero (S := S1024x1024) hz2, View.ld_unit_zero (S := S512x2048) hz2, View.ld_unit_zero (S := S1x2048) hz2]

theorem o7_B (hc0) : out0_B_7 c i a1 h1 a2 h2 a3 h3 a4 h4 a5 h5 a6 h6 a7 h7 a8 h8 a9 h9 a10 h10 hc0 x0 x1 x2 x3 x4 x5 xo = k0_pay6 (k0_pay2 (F := F) x0 x1) (gb x2 x3) := by
  unfold out0_B_7
  rw [View.read_writes_eq_canon _ _ _ (cover0_B_7 c i a1 h1 a2 h2 a3 h3 a4 h4 a5 h5 a6 h6 a7 h7 a8 h8 a9 h9 a10 h10 hc0 x0 x1 x2 x3 x4 x5 xo)]
  unfold kernelRun0_B
  dsimp only
  sl_unfold_words
  rw [View.canon_unit_zero hz2]
  simp only [View.readAt_eq_ld, h1.read_unread, h2.read_unread, h3.read_unread, h4.read_unread, h5.read_unread, h6.read_unread, h10.read_unread, View.ld_unit_zero (S := S512x1024) hz2, View.ld_unit_zero (S := S1024x1024) hz2, View.ld_unit_zero (S := S512x2048) hz2, View.ld_unit_zero (S := S1x2048) hz2]
  rfl

theorem o8_B (hc0) : out0_B_8 c i a1 h1 a2 h2 a3 h3 a4 h4 a5 h5 a6 h6 a7 h7 a8 h8 a9 h9 a10 h10 hc0 x0 x1 x2 x3 x4 x5 xo = View.canon [⟨Rect.unit (s := S512x2048) ![0, 1024] S512x1024.size inb_S512x2048_S512x1024_0_1024, k0_pay10 (k0_pay2 (F := F) x0 x1) (gb x2 x3) x5⟩, ⟨Rect.unit (s := S512x2048) ![0, 0] S512x1024.size inb_S512x2048_S512x1024_0_0, k0_pay9 (k0_pay2 (F := F) x0 x1) (ga x2 x3) x4⟩] := by
  unfold out0_B_8
  rw [View.read_writes_eq_canon _ _ _ (cover0_B_8 c i a1 h1 a2 h2 a3 h3 a4 h4 a5 h5 a6 h6 a7 h7 a8 h8 a9 h9 a10 h10 hc0 x0 x1 x2 x3 x4 x5 xo)]
  unfold kernelRun0_B
  dsimp only
  sl_unfold_words
  simp only [View.readAt_eq_ld, h1.read_unread, h2.read_unread, h3.read_unread, h4.read_unread, h5.read_unread, h6.read_unread, h10.read_unread, View.ld_unit_zero (S := S512x1024) hz2, View.ld_unit_zero (S := S1024x1024) hz2, View.ld_unit_zero (S := S512x2048) hz2, View.ld_unit_zero (S := S1x2048) hz2]
  rfl

theorem o9_A (hc0) : out0_A_9 c i a1 h1 a2 h2 a3 h3 a4 h4 a5 h5 a6 h6 a7 h7 a8 h8 a9 h9 a10 h10 hc0 x0 x1 x2 x3 x4 x5 = View.canon (⟨Rect.unit (s := S1x2048) ![0, 1024] S1x1024.size inb_S1x2048_S1x1024_0_1024, k0_pay12 (k0_pay2 (F := F) x0 x1) (gb x2 x3) x5 (View.ld (k0_pay1 (F := F)) (Rect.unit (s := S1x2048) ![0, 1024] S1x1024.size inb_S1x2048_S1x1024_0_1024))⟩ :: ⟨Rect.unit (s := S1x2048) ![0, 0] S1x1024.size inb_S1x2048_S1x1024_0_0, k0_pay11 (k0_pay2 (F := F) x0 x1) (ga x2 x3) x4 (View.ld (k0_pay1 (F := F)) (Rect.unit (s := S1x2048) ![0, 0] S1x1024.size inb_S1x2048_S1x1024_0_0))⟩ :: [⟨Rect.unit (s := S1x2048) ![0, 0] S1x2048.size inb_S1x2048_S1x2048_0_0, k0_pay1 (F := F)⟩]) := by
  unfold out0_A_9
  rw [View.read_writes_eq_canon _ _ _ (cover0_A_9 c i a1 h1 a2 h2 a3 h3 a4 h4 a5 h5 a6 h6 a7 h7 a8 h8 a9 h9 a10 h10 hc0 x0 x1 x2 x3 x4 x5)]
  unfold kernelRun0_A
  dsimp only
  sl_unfold_words
  rw [View.readCov_skip _ _ _ _ _ (by decide), View.readCov_fill _ _ _ _ _ (by decide), View.readCov_fill _ _ _ _ _ (by decide)]
  simp only [View.readAt_eq_ld, h1.read_unread, h2.read_unread, h3.read_unread, h4.read_unread, h5.read_unread, h6.read_unread, h10.read_unread, View.ld_unit_zero (S := S512x1024) hz2, View.ld_unit_zero (S := S1024x1024) hz2, View.ld_unit_zero (S := S512x2048) hz2, View.ld_unit_zero (S := S1x2048) hz2]
  rfl

theorem o9_B (hc0) : out0_B_9 c i a1 h1 a2 h2 a3 h3 a4 h4 a5 h5 a6 h6 a7 h7 a8 h8 a9 h9 a10 h10 hc0 x0 x1 x2 x3 x4 x5 xo = View.canon (⟨Rect.unit (s := S1x2048) ![0, 1024] S1x1024.size inb_S1x2048_S1x1024_0_1024, k0_pay12 (k0_pay2 (F := F) x0 x1) (gb x2 x3) x5 (View.ld xo (Rect.unit (s := S1x2048) ![0, 1024] S1x1024.size inb_S1x2048_S1x1024_0_1024))⟩ :: ⟨Rect.unit (s := S1x2048) ![0, 0] S1x1024.size inb_S1x2048_S1x1024_0_0, k0_pay11 (k0_pay2 (F := F) x0 x1) (ga x2 x3) x4 (View.ld xo (Rect.unit (s := S1x2048) ![0, 0] S1x1024.size inb_S1x2048_S1x1024_0_0))⟩ :: []) := by
  unfold out0_B_9
  rw [View.read_writes_eq_canon _ _ _ (cover0_B_9 c i a1 h1 a2 h2 a3 h3 a4 h4 a5 h5 a6 h6 a7 h7 a8 h8 a9 h9 a10 h10 hc0 x0 x1 x2 x3 x4 x5 xo)]
  unfold kernelRun0_B
  dsimp only
  sl_unfold_words
  simp only [View.readAt_eq_ld, h1.read_unread, h2.read_unread, h3.read_unread, h4.read_unread, h5.read_unread, h6.read_unread, h10.read_unread, View.ld_unit_zero (S := S512x1024) hz2, View.ld_unit_zero (S := S1024x1024) hz2, View.ld_unit_zero (S := S512x2048) hz2, View.ld_unit_zero (S := S1x2048) hz2]
  rfl

end body

section payloads

variable {x0 : Vec Ideal S512x1024 .f32} {x1 : Vec Ideal S1024x1024 .bf16} {x2 : Vec Ideal S512x2048 .bf16} {x3 : Vec Ideal S1x2048 .f32} {D A B : FVec Ideal S512x1024 .f32} {U V : FVec Ideal S512x1024 .bf16}
  {prev base : FVec Ideal S1x1024 .f32} {xo : FVec Ideal S1x2048 .f32} {y w p d u v γ δ : ℕ → ℕ → EReal} {β e : ℕ → EReal}

theorem pay1_x : X2 (a := 1) (b := 2048) (k0_pay1 (F := Ideal)) fun _ _ => 0 := fun _ => zero_f32

theorem pay2_x (hy : X2 (a := 512) (b := 1024) x0 y) (hw : X2 (a := 1024) (b := 1024) x1 w) : X2 (a := 512) (b := 1024) (k0_pay2 (F := Ideal) x0 x1) (dm y w) :=
  X2.nt (A := truncf .bf16 x0 bitsLt_bf16_f32) _ rfl none hy hw X2.zero

theorem ga_x (h2 : X2 (a := 512) (b := 2048) x2 p) (h3 : X2 (a := 1) (b := 2048) x3 fun _ j => β j) : X2 (a := 512) (b := 1024) (ga (F := Ideal) x2 x3) fun i j => sg (p i j + β j) :=
  X2.congr (Gate.act_x (X2.ld16 (n := 512) (w := 1024) (o := 0) (c := 0) h2 inb_S512x2048_S512x1024_0_0) (X2.ld32 (n := 1) (w := 1024) (o := 0) (c := 0) h3 inb_S1x2048_S1x1024_0_0)) fun i j _ _ => by
    simp only [Nat.zero_add]

theorem gb_x (h2 : X2 (a := 512) (b := 2048) x2 p) (h3 : X2 (a := 1) (b := 2048) x3 fun _ j => β j) : X2 (a := 512) (b := 1024) (gb (F := Ideal) x2 x3) fun i j => sg (p i (1024 + j) + β (1024 + j)) :=
  X2.congr (Gate.act_x (X2.ld16 (n := 512) (w := 1024) (o := 0) (c := 1024) h2 inb_S512x2048_S512x1024_0_1024) (X2.ld32 (n := 1) (w := 1024) (o := 0) (c := 1024) h3 inb_S1x2048_S1x1024_0_1024)) fun i j _ _ => by
    simp only [Nat.zero_add]

theorem pay7_x (hD : X2 (a := 512) (b := 1024) D d) (hA : X2 (a := 512) (b := 1024) A γ) (hU : X2 (a := 512) (b := 1024) U u) :
    X2 (a := 512) (b := 1024) (k0_pay7 (F := Ideal) D A U) fun i j => dl (d i j) (u i j) (γ i j) :=
  ((hD.mul (B := extf .f32 U bitsLt_bf16_f32) hU).mul hA).mul (X2.sub (A := broadcast S512x1024 (Scalar.ofBits (F := Ideal) .f32 0x3F800000#32)) (f := fun _ _ => 1) (fun _ => one_f32) hA)

theorem pay11_x (hD : X2 (a := 512) (b := 1024) D d) (hA : X2 (a := 512) (b := 1024) A γ) (hU : X2 (a := 512) (b := 1024) U u) (hp : X2 (a := 1) (b := 1024) prev fun _ j => e j) :
    X2 (a := 1) (b := 1024) (k0_pay11 (F := Ideal) D A U prev) fun _ j => e j + ∑ i ∈ range 512, dl (d i j) (u i j) (γ i j) :=
  (hp.cast _).add (X2.colSum (pay7_x hD hA hU) reduces_S512x1024_S1024 shapeCasts_S1024_S1x1024 (.inl rfl) rfl)

theorem logits_x (hD : X2 (a := 512) (b := 1024) D d) (hA : X2 (a := 512) (b := 1024) A γ) (hB : X2 (a := 512) (b := 1024) B fun i j => γ i (1024 + j)) (hU : X2 (a := 512) (b := 1024) U u)
    (hV : X2 (a := 512) (b := 1024) V v) :
    X2 (a := 512) (b := 2048) (View.canon (Val := Elt Ideal) (e := .bf16) [⟨Rect.unit (s := S512x2048) ![0, 1024] S512x1024.size inb_S512x2048_S512x1024_0_1024, k0_pay10 (F := Ideal) D B V⟩, ⟨Rect.unit (s := S512x2048) ![0, 0] S512x1024.size inb_S512x2048_S512x1024_0_0, k0_pay9 (F := Ideal) D A U⟩]) (both d u v γ) :=
  (X2.halves (e := .bf16) (fun x => x) (n := 1024) inb_S512x2048_S512x1024_0_0 inb_S512x2048_S512x1024_0_1024 (pay7_x hD hA hU) (pay7_x hD hB hV)).congr fun i j _ _ => by
    unfold both
    split_ifs with h
    · rfl
    · rw [Nat.add_sub_cancel' (by omega : 1024 ≤ j)]

theorem bias_x (hD : X2 (a := 512) (b := 1024) D d) (hA : X2 (a := 512) (b := 1024) A γ) (hB : X2 (a := 512) (b := 1024) B fun i j => γ i (1024 + j)) (hU : X2 (a := 512) (b := 1024) U u)
    (hV : X2 (a := 512) (b := 1024) V v) (ho : X2 (a := 1) (b := 2048) xo fun _ j => e j) (L : List (View.Piece (Elt Ideal) S1x2048 .f32)) :
    X2 (a := 1) (b := 2048) (View.canon (Val := Elt Ideal) (e := .f32) (⟨Rect.unit (s := S1x2048) ![0, 1024] S1x1024.size inb_S1x2048_S1x1024_0_1024, k0_pay12 (F := Ideal) D B V (View.ld xo (Rect.unit (s := S1x2048) ![0, 1024] S1x1024.size inb_S1x2048_S1x1024_0_1024))⟩ :: ⟨Rect.unit (s := S1x2048) ![0, 0] S1x1024.size inb_S1x2048_S1x1024_0_0, k0_pay11 (F := Ideal) D A U (View.ld xo (Rect.unit (s := S1x2048) ![0, 0] S1x1024.size inb_S1x2048_S1x1024_0_0))⟩ :: L))
      fun _ j => e j + ∑ i ∈ range 512, both d u v γ i j :=
  (X2.halves (e := .f32) (fun x => x) (n := 1024) inb_S1x2048_S1x1024_0_0 inb_S1x2048_S1x1024_0_1024
    (pay11_x hD hA hU (X2.ld32 (n := 1) (w := 1024) (o := 0) (c := 0) ho inb_S1x2048_S1x1024_0_0)) (pay11_x hD hB hV (X2.ld32 (n := 1) (w := 1024) (o := 0) (c := 1024) ho inb_S1x2048_S1x1024_0_1024))).congr fun i j _ _ => by
    unfold both
    split_ifs with h
    · rw [Nat.zero_add]
    · rw [Nat.add_sub_cancel' (by omega : 1024 ≤ j)]

end payloads

variable (m : (ℓ : Loc nD τ sig) → Buf (Elt Ideal) ℓ) (c : Dev nD)

theorem ix0 : ∀ t : Fin cfg0.N, win0_0.index t = ![t.val, 0] := (by decide +kernel : ∀ t : Fin grid0.N, win0_0.index t = ![t.val, 0])
theorem ix1 : ∀ t : Fin cfg0.N, win0_1.index t = ![0, 0] := (by decide +kernel : ∀ t : Fin grid0.N, win0_1.index t = ![0, 0])
theorem ix2 : ∀ t : Fin cfg0.N, win0_2.index t = ![t.val, 0] := (by decide +kernel : ∀ t : Fin grid0.N, win0_2.index t = ![t.val, 0])
theorem ix3 : ∀ t : Fin cfg0.N, win0_3.index t = ![0, 0] := (by decide +kernel : ∀ t : Fin grid0.N, win0_3.index t = ![0, 0])
theorem ix4 : ∀ t : Fin cfg0.N, win0_4.index t = ![t.val, 0] := (by decide +kernel : ∀ t : Fin grid0.N, win0_4.index t = ![t.val, 0])
theorem ix5 : ∀ t : Fin cfg0.N, win0_5.index t = ![t.val, 0] := (by decide +kernel : ∀ t : Fin grid0.N, win0_5.index t = ![t.val, 0])
theorem ix6 : ∀ t : Fin cfg0.N, win0_6.index t = ![t.val, 0] := (by decide +kernel : ∀ t : Fin grid0.N, win0_6.index t = ![t.val, 0])
theorem ix7 : ∀ t : Fin cfg0.N, win0_7.index t = ![t.val, 0] := (by decide +kernel : ∀ t : Fin grid0.N, win0_7.index t = ![t.val, 0])
theorem ix8 : ∀ t : Fin cfg0.N, win0_8.index t = ![t.val, 0] := (by decide +kernel : ∀ t : Fin grid0.N, win0_8.index t = ![t.val, 0])
theorem ix9 : ∀ t : Fin cfg0.N, win0_9.index t = ![0, 0] := (by decide +kernel : ∀ t : Fin grid0.N, win0_9.index t = ![0, 0])
theorem fl9 : ∀ t : Fin cfg0.N, (cfg0.win 9).flush t = true → t.val = 7 := (by decide +kernel : ∀ t : Fin grid0.N, win0_9.flush t = true → t.val = 7)

section operands

variable {y w p u v : ℕ → ℕ → EReal} {β : ℕ → EReal} (t : Fin cfg0.N)

theorem in0 (h : X2 (a := 4096) (b := 1024) (m ((c : Thread nD τ).loc main_arg0)) y) : X2 (a := 512) (b := 1024) (iblk m c 0 t) fun i j => y (t.val * 512 + i) j := by
  intro y
  refine (h _).trans ?_
  blk_simp [ix0]

theorem in2 (h : X2 (a := 4096) (b := 2048) (m ((c : Thread nD τ).loc main_arg2)) p) : X2 (a := 512) (b := 2048) (iblk m c 2 t) fun i j => p (t.val * 512 + i) j := by
  intro y
  refine (h _).trans ?_
  blk_simp [ix2]

theorem in4 (h : X2 (a := 4096) (b := 1024) (m ((c : Thread nD τ).loc main_arg4)) u) : X2 (a := 512) (b := 1024) (iblk m c 4 t) fun i j => u (t.val * 512 + i) j := by
  intro y
  refine (h _).trans ?_
  blk_simp [ix4]

theorem in5 (h : X2 (a := 4096) (b := 1024) (m ((c : Thread nD τ).loc main_arg5)) v) : X2 (a := 512) (b := 1024) (iblk m c 5 t) fun i j => v (t.val * 512 + i) j := by
  intro y
  refine (h _).trans ?_
  blk_simp [ix5]

theorem in1 (h : X2 (a := 1024) (b := 1024) (m ((c : Thread nD τ).loc main_arg1)) w) : X2 (a := 1024) (b := 1024) (iblk m c 1 t) w := by
  intro y
  refine (h _).trans ?_
  blk_simp [ix1]

theorem in3 (h : ∀ i : S2048.Idx, m ((c : Thread nD τ).loc main_arg3) i = β (i 0).val) : X2 (a := 1) (b := 2048) (iblk m c 3 t) fun _ j => β j := by
  intro y
  show V m c main_v0 _ = _
  entry_read
  refine (X2.line h shapeCasts_S2048_S1x2048 _).trans ?_
  blk_simp [ix3]

end operands

/-! ## What a point leaves -/

theorem first_at (t : Fin cfg0.N) : (outsAt0 m c t.val t.isLt).1 = k0_pay5 (F := Ideal) (iblk m c 0 t) (iblk m c 1 t) (View.ld (Val := Elt Ideal) (iblk m c 2 t) (Rect.unit (s := S512x2048) ![0, 0] S512x1024.size inb_S512x2048_S512x1024_0_0)) (View.ld (Val := Elt Ideal) (iblk m c 3 t) (Rect.unit (s := S1x2048) ![0, 0] S1x1024.size inb_S1x2048_S1x1024_0_0)) := by
  by_cases h : t.val % 8 = 0
  · rw [outsAt0_A m c t h]
    dsimp only
    rw [o6_A (F := Ideal)]
    rfl
  · rw [outsAt0_B m c t h]
    dsimp only
    rw [o6_B (F := Ideal)]
    rfl

theorem second_at (t : Fin cfg0.N) : (outsAt0 m c t.val t.isLt).2.1 = k0_pay6 (F := Ideal) (k0_pay2 (F := Ideal) (iblk m c 0 t) (iblk m c 1 t)) (gb (F := Ideal) (iblk m c 2 t) (iblk m c 3 t)) := by
  by_cases h : t.val % 8 = 0
  · rw [outsAt0_A m c t h]
    dsimp only
    rw [o7_A (F := Ideal)]
  · rw [outsAt0_B m c t h]
    dsimp only
    rw [o7_B (F := Ideal)]

theorem logits_at (t : Fin cfg0.N) : (outsAt0 m c t.val t.isLt).2.2.1 = View.canon (Val := Elt Ideal) (e := .bf16) [⟨Rect.unit (s := S512x2048) ![0, 1024] S512x1024.size inb_S512x2048_S512x1024_0_1024, k0_pay10 (F := Ideal) (k0_pay2 (F := Ideal) (iblk m c 0 t) (iblk m c 1 t)) (gb (F := Ideal) (iblk m c 2 t) (iblk m c 3 t)) (iblk m c 5 t)⟩, ⟨Rect.unit (s := S512x2048) ![0, 0] S512x1024.size inb_S512x2048_S512x1024_0_0, k0_pay9 (F := Ideal) (k0_pay2 (F := Ideal) (iblk m c 0 t) (iblk m c 1 t)) (ga (F := Ideal) (iblk m c 2 t) (iblk m c 3 t)) (iblk m c 4 t)⟩] := by
  by_cases h : t.val % 8 = 0
  · rw [outsAt0_A m c t h]
    dsimp only
    rw [o8_A (F := Ideal)]
  · rw [outsAt0_B m c t h]
    dsimp only
    rw [o8_B (F := Ideal)]

theorem bias_first (t : Fin cfg0.N) (h : t.val % 8 = 0) : (outsAt0 m c t.val t.isLt).2.2.2 = View.canon (Val := Elt Ideal) (e := .f32) (⟨Rect.unit (s := S1x2048) ![0, 1024] S1x1024.size inb_S1x2048_S1x1024_0_1024, k0_pay12 (F := Ideal) (k0_pay2 (F := Ideal) (iblk m c 0 t) (iblk m c 1 t)) (gb (F := Ideal) (iblk m c 2 t) (iblk m c 3 t)) (iblk m c 5 t) (View.ld (Val := Elt Ideal) (k0_pay1 (F := Ideal)) (Rect.unit (s := S1x2048) ![0, 1024] S1x1024.size inb_S1x2048_S1x1024_0_1024))⟩ :: ⟨Rect.unit (s := S1x2048) ![0, 0] S1x1024.size inb_S1x2048_S1x1024_0_0, k0_pay11 (F := Ideal) (k0_pay2 (F := Ideal) (iblk m c 0 t) (iblk m c 1 t)) (ga (F := Ideal) (iblk m c 2 t) (iblk m c 3 t)) (iblk m c 4 t) (View.ld (Val := Elt Ideal) (k0_pay1 (F := Ideal)) (Rect.unit (s := S1x2048) ![0, 0] S1x1024.size inb_S1x2048_S1x1024_0_0))⟩ :: [⟨Rect.unit (s := S1x2048) ![0, 0] S1x2048.size inb_S1x2048_S1x2048_0_0, k0_pay1 (F := Ideal)⟩]) := by
  rw [outsAt0_A m c t h]
  dsimp only
  rw [o9_A (F := Ideal)]

theorem bias_next (t : Fin cfg0.N) (h : ¬t.val % 8 = 0) : (outsAt0 m c t.val t.isLt).2.2.2 = View.canon (Val := Elt Ideal) (e := .f32) (⟨Rect.unit (s := S1x2048) ![0, 1024] S1x1024.size inb_S1x2048_S1x1024_0_1024, k0_pay12 (F := Ideal) (k0_pay2 (F := Ideal) (iblk m c 0 t) (iblk m c 1 t)) (gb (F := Ideal) (iblk m c 2 t) (iblk m c 3 t)) (iblk m c 5 t) (View.ld (Val := Elt Ideal) (outsAt0 m c (t.val - 1) (by have := t.isLt; omega)).2.2.2 (Rect.unit (s := S1x2048) ![0, 1024] S1x1024.size inb_S1x2048_S1x1024_0_1024))⟩ :: ⟨Rect.unit (s := S1x2048) ![0, 0] S1x1024.size inb_S1x2048_S1x1024_0_0, k0_pay11 (F := Ideal) (k0_pay2 (F := Ideal) (iblk m c 0 t) (iblk m c 1 t)) (ga (F := Ideal) (iblk m c 2 t) (iblk m c 3 t)) (iblk m c 4 t) (View.ld (Val := Elt Ideal) (outsAt0 m c (t.val - 1) (by have := t.isLt; omega)).2.2.2 (Rect.unit (s := S1x2048) ![0, 0] S1x1024.size inb_S1x2048_S1x1024_0_0))⟩ :: []) := by
  rw [outsAt0_B m c t h]
  dsimp only
  rw [o9_B (F := Ideal)]

section results

variable {y w p u v : ℕ → ℕ → EReal} {β : ℕ → EReal}
  (hy : X2 (a := 4096) (b := 1024) (m ((c : Thread nD τ).loc main_arg0)) y) (hw : X2 (a := 1024) (b := 1024) (m ((c : Thread nD τ).loc main_arg1)) w)
  (hp : X2 (a := 4096) (b := 2048) (m ((c : Thread nD τ).loc main_arg2)) p) (hb : ∀ i : S2048.Idx, m ((c : Thread nD τ).loc main_arg3) i = β (i 0).val)
  (hu : X2 (a := 4096) (b := 1024) (m ((c : Thread nD τ).loc main_arg4)) u) (hv : X2 (a := 4096) (b := 1024) (m ((c : Thread nD τ).loc main_arg5)) v)

include hy hw hp hb in
/-- The first result: the first branch's cotangent. -/
theorem result6 (G : FVec Ideal S4096x1024 .bf16) (hG : X2 (a := 4096) (b := 1024) G fun i j => dm y w i j * sg (p i j + β j)) : (dats m 0 c).arrAt 6 cfg0.N = G := by
  refine (dats m 0 c).arrAt_eq_of_covers 6 _ (by decide +kernel) fun t hf' y => ?_
  have e := ((pay2_x (in0 m c t hy) (in1 m c t hw)).mul (ga_x (in2 m c t hp) (in3 m c t hb))) y
  blk_simp
  rw [after0_6, first_at m c t]
  refine Eq.trans e (Eq.trans ?_ (hG _).symm)
  blk_simp [ix6]
  rfl

include hy hw hp hb in
/-- The second: the other branch's. -/
theorem result7 (G : FVec Ideal S4096x1024 .bf16) (hG : X2 (a := 4096) (b := 1024) G fun i j => dm y w i j * sg (p i (1024 + j) + β (1024 + j))) : (dats m 0 c).arrAt 7 cfg0.N = G := by
  refine (dats m 0 c).arrAt_eq_of_covers 7 _ (by decide +kernel) fun t hf' y => ?_
  have e := ((pay2_x (in0 m c t hy) (in1 m c t hw)).mul (gb_x (in2 m c t hp) (in3 m c t hb))) y
  blk_simp
  rw [after0_7, second_at m c t]
  refine Eq.trans e (Eq.trans ?_ (hG _).symm)
  blk_simp [ix7]
  rfl

include hy hw hp hb hu hv in
/-- The third: the gates' logits'. -/
theorem result8 (G : FVec Ideal S4096x2048 .bf16) (hG : X2 (a := 4096) (b := 2048) G (both (dm y w) u v fun i j => sg (p i j + β j))) : (dats m 0 c).arrAt 8 cfg0.N = G := by
  refine (dats m 0 c).arrAt_eq_of_covers 8 _ (by decide +kernel) fun t hf' y => ?_
  have e := logits_x (pay2_x (in0 m c t hy) (in1 m c t hw)) (ga_x (in2 m c t hp) (in3 m c t hb)) (gb_x (in2 m c t hp) (in3 m c t hb)) (in4 m c t hu) (in5 m c t hv) y
  blk_simp
  rw [after0_8, logits_at m c t]
  refine Eq.trans e (Eq.trans ?_ (hG _).symm)
  blk_simp [ix8]
  rfl

include hy hw hp hb hu hv in
theorem bias : ∀ (n : ℕ) (hn : n < cfg0.N), X2 (a := 1) (b := 2048) (outsAt0 m c n hn).2.2.2 fun _ j =>
    ∑ s ∈ range (n + 1), ∑ i ∈ range 512, both (dm y w) u v (fun i j => sg (p i j + β j)) (s * 512 + i) j := by
  intro n
  induction n with
  | zero =>
    intro hn
    rw [bias_first m c ⟨0, hn⟩ rfl]
    refine (bias_x (pay2_x (in0 m c ⟨0, hn⟩ hy) (in1 m c ⟨0, hn⟩ hw)) (ga_x (in2 m c ⟨0, hn⟩ hp) (in3 m c ⟨0, hn⟩ hb)) (gb_x (in2 m c ⟨0, hn⟩ hp) (in3 m c ⟨0, hn⟩ hb))
      (in4 m c ⟨0, hn⟩ hu) (in5 m c ⟨0, hn⟩ hv) pay1_x _).congr fun i j _ _ => ?_
    exact (zero_add _).trans (Finset.sum_range_one (fun s => ∑ i ∈ range 512, both (dm y w) u v (fun i j => sg (p i j + β j)) (s * 512 + i) j)).symm
  | succ n ih =>
    intro hn
    have hN : n + 1 < 8 := lt_of_lt_of_eq hn N_0
    rw [bias_next m c ⟨n + 1, hn⟩ (by dsimp only; omega)]
    refine (bias_x (pay2_x (in0 m c ⟨n + 1, hn⟩ hy) (in1 m c ⟨n + 1, hn⟩ hw)) (ga_x (in2 m c ⟨n + 1, hn⟩ hp) (in3 m c ⟨n + 1, hn⟩ hb)) (gb_x (in2 m c ⟨n + 1, hn⟩ hp) (in3 m c ⟨n + 1, hn⟩ hb))
      (in4 m c ⟨n + 1, hn⟩ hu) (in5 m c ⟨n + 1, hn⟩ hv) (ih (by omega)) _).congr fun i j _ _ => ?_
    exact (Finset.sum_range_succ (fun s => ∑ i ∈ range 512, both (dm y w) u v (fun i j => sg (p i j + β j)) (s * 512 + i) j) _).symm

include hy hw hp hb hu hv in
/-- The fourth: the bias's gradient, the sum over all rows. -/
theorem result9 (G : FVec Ideal S1x2048 .f32) (hG : X2 (a := 1) (b := 2048) G fun _ j => ∑ i ∈ range 4096, both (dm y w) u v (fun i j => sg (p i j + β j)) i j) : (dats m 0 c).arrAt 9 cfg0.N = G := by
  refine (dats m 0 c).arrAt_eq_of_covers 9 _ (by decide +kernel) fun t hf' z => ?_
  have h7 := fl9 t hf'
  blk_simp
  rw [after0_9]
  refine (bias m c hy hw hp hb hu hv t.val t.isLt z).trans (Eq.trans ?_ (hG _).symm)
  blk_simp [ix9]
  rw [h7]
  exact sum_blocks 512 (fun i => both (dm y w) u v (fun i j => sg (p i j + β j)) i (z 1).val) 8

end results

end kernel

section reference

open Cert.Reference11Ideal Cert.Reference11Ideal.Read

variable {y w p u v : ℕ → ℕ → EReal} {β : ℕ → EReal} {x0 : FVec Ideal S4096x1024 .f32} {x1 : FVec Ideal S1024x1024 .bf16} {x2 : FVec Ideal S4096x2048 .bf16} {x3 : FVec Ideal S2048 .f32} {x4 x5 : FVec Ideal S4096x1024 .bf16}
  (hy : X2 (a := 4096) (b := 1024) x0 y) (hw : X2 (a := 1024) (b := 1024) x1 w) (hp : X2 (a := 4096) (b := 2048) x2 p) (hb : ∀ i : S2048.Idx, x3 i = β (i 0).val)
  (hu : X2 (a := 4096) (b := 1024) x4 u) (hv : X2 (a := 4096) (b := 1024) x5 v)

include hp hb in
theorem ref_v12 : X2 (a := 4096) (b := 2048) (val_main_v12 (F := Ideal) x2 x3) fun i j => sg (p i j + β j) := fun i => by
  rw [val_main_v12_apply, val_main_v10_apply, val_main_v11_apply, val_main_v9_apply, val_main_cst_apply, val_main_cst_0_apply]
  show Ideal.div (Ideal.ofBits .f32 0x3F800000#32) (Ideal.ofBits .f32 0x3F800000#32 + Ideal.exp (-(x2 i + val_main_v5 (F := Ideal) x3 i))) = _
  rw [one_f32, val_main_v5_apply, val_main_v4_apply, hp, hb]
  exact sg_eq _

include hy hw in
theorem ref_v22 : X2 (a := 4096) (b := 1024) (val_main_v22 (F := Ideal) x0 x1) (dm y w) := fun i => by
  rw [val_main_v22_apply]
  refine Eq.trans ?_ (Finset.sum_range _).symm
  refine Finset.sum_congr rfl fun k _ => ?_
  show x0 (lidx_main_v22 i k) * x1 (ridx_main_v22 i k) = _
  rw [hy, hw]

include hy hw hp hb in
theorem ref_v25 : X2 (a := 4096) (b := 1024) (val_main_v25 (F := Ideal) x0 x1 x2 x3) fun i j => dm y w i j * sg (p i j + β j) := fun i => by
  show val_main_v16 (F := Ideal) x2 x3 i * val_main_v22 (F := Ideal) x0 x1 i = _
  rw [val_main_v16_apply, ref_v12 hp hb, ref_v22 hy hw, mul_comm]

include hy hw hp hb in
theorem ref_v23 : X2 (a := 4096) (b := 1024) (val_main_v23 (F := Ideal) x0 x1 x2 x3) fun i j => dm y w i j * sg (p i (1024 + j) + β (1024 + j)) := fun i => by
  show val_main_v17 (F := Ideal) x2 x3 i * val_main_v22 (F := Ideal) x0 x1 i = _
  rw [val_main_v17_apply, ref_v12 hp hb, ref_v22 hy hw, mul_comm]

include hy hw hu hv in
theorem ref_v27 : X2 (a := 4096) (b := 2048) (val_main_v27 (F := Ideal) x0 x1 x4 x5) fun i j => if j < 1024 then dm y w i j * u i j else dm y w i (j - 1024) * v i (j - 1024) := fun i => by
  have l0 : (i 0).val < 4096 := (i 0).isLt
  have l1 : (i 1).val < 2048 := (i 1).isLt
  have ea : X2 (a := 4096) (b := 1024) (val_main_v26 (F := Ideal) x0 x1 x4) fun i j => dm y w i j * u i j := X2.mul (B := val_main_v2 (F := Ideal) x4) (ref_v22 hy hw) hu
  have eb : X2 (a := 4096) (b := 1024) (val_main_v24 (F := Ideal) x0 x1 x5) fun i j => dm y w i j * v i j := X2.mul (B := val_main_v3 (F := Ideal) x5) (ref_v22 hy hw) hv
  unfold val_main_v27
  by_cases h1 : (i 1).val < 1024
  · refine Eq.trans ?_ (if_pos h1).symm
    refine (concatenate_apply_piece _ _ _ i 0 (by show 0 < 2; decide) S4096x1024 _ rfl rfl 0 rfl (ValueIdx.ix2 (⟨(i 0).val, l0⟩ : Fin 4096) (⟨(i 1).val, h1⟩ : Fin 1024)) ?_ ?_).trans (ea _)
    · intro b hb
      match b, hb with
      | ⟨0, _⟩, _ => rfl
      | ⟨1, _⟩, hb => exact absurd rfl hb
    · exact Nat.zero_add _
  · refine Eq.trans ?_ (if_neg h1).symm
    refine (concatenate_apply_piece _ _ _ i 1 (by show 1 < 2; decide) S4096x1024 _ rfl rfl 1024 rfl (ValueIdx.ix2 (⟨(i 0).val, l0⟩ : Fin 4096) (⟨(i 1).val - 1024, by omega⟩ : Fin 1024)) ?_ ?_).trans (eb _)
    · intro b hb
      match b, hb with
      | ⟨0, _⟩, _ => rfl
      | ⟨1, _⟩, hb => exact absurd rfl hb
    · show 1024 + ((i 1).val - 1024) = (i 1).val
      omega

include hy hw hp hb hu hv in
theorem ref_v28 : X2 (a := 4096) (b := 2048) (val_main_v28 (F := Ideal) x0 x1 x2 x3 x4 x5) (both (dm y w) u v fun i j => sg (p i j + β j)) := fun i => by
  show val_main_v27 (F := Ideal) x0 x1 x4 x5 i * (val_main_v12 (F := Ideal) x2 x3 i * (val_main_v13 (F := Ideal) i - val_main_v12 (F := Ideal) x2 x3 i)) = _
  rw [val_main_v13_apply, val_main_cst_1_apply]
  show _ * (_ * (Ideal.ofBits .f32 0x3F800000#32 - _)) = _
  rw [one_f32, ref_v27 hy hw hu hv, ref_v12 hp hb]
  unfold both dl
  beta_reduce
  split_ifs with h
  · exact (mul_assoc _ _ _).symm
  · exact (mul_assoc _ _ _).symm

include hy hw hp hb hu hv in
/-- The reference's last result: the bias's gradient. -/
theorem ref_v35 : X2 (a := 1) (b := 2048) (val_main_v35 (F := Ideal) x0 x1 x2 x3 x4 x5) fun _ j => ∑ i ∈ range 4096, both (dm y w) u v (fun i j => sg (p i j + β j)) i j := fun i => by
  have l0 : (i 0).val < 1 := (i 0).isLt
  rw [val_main_v35_apply, val_main_v31_apply, val_main_cst_3_apply]
  refine (congrArg₂ (· + ·) zero_f32 (Fin.sum_univ_one _)).trans ((zero_add _).trans ?_)
  rw [val_main_v30_apply, val_main_v29_apply, val_main_cst_2_apply]
  refine (congrArg₂ (· + ·) zero_f32 rfl).trans ((zero_add _).trans ?_)
  refine Eq.trans ?_ (Finset.sum_range _).symm
  refine Finset.sum_congr rfl fun k _ => ?_
  rw [ref_v28 hy hw hp hb hu hv]
  have e : (i 0).val * 2048 + (i 1).val = (i 1).val := by omega
  show both (dm y w) u v (fun i j => sg (p i j + β j)) k.val (0 * 2048 + ((i 0).val * 2048 + (i 1).val)) = _
  rw [e, Nat.zero_mul, Nat.zero_add]

end reference

set_option backward.isDefEq.respectTransparency.types false in
/-- The branches' cotangents, the logits' and the bias's gradient are the reference's, at every argument. -/
theorem algebraic : Cert.algebraic_Kernel11Ideal_Reference11Ideal := fun m g m' g' _ agree => by
  refine ⟨_, _, _, _, Cert.Kernel11Ideal.Value.run_blocks m g, ?_⟩
  refine (θ_run _ _ _).mono (fun r h c => ?_) (Cert.Reference11Ideal.Value.run (F := Ideal) m' g')
  obtain ⟨g0, g1, g2, g3, g4, g5⟩ := agree c
  obtain ⟨r0, r1, r2, r3, rest⟩ := h c
  have e0 := X2.self (a := 4096) (b := 1024) (m ((c : Thread Cert.Kernel11Ideal.nD Cert.Kernel11Ideal.τ).loc Cert.Kernel11Ideal.main_arg0))
  have e1 := X2.self (a := 1024) (b := 1024) (m ((c : Thread Cert.Kernel11Ideal.nD Cert.Kernel11Ideal.τ).loc Cert.Kernel11Ideal.main_arg1))
  have e2 := X2.self (a := 4096) (b := 2048) (m ((c : Thread Cert.Kernel11Ideal.nD Cert.Kernel11Ideal.τ).loc Cert.Kernel11Ideal.main_arg2))
  have e4 := X2.self (a := 4096) (b := 1024) (m ((c : Thread Cert.Kernel11Ideal.nD Cert.Kernel11Ideal.τ).loc Cert.Kernel11Ideal.main_arg4))
  have e5 := X2.self (a := 4096) (b := 1024) (m ((c : Thread Cert.Kernel11Ideal.nD Cert.Kernel11Ideal.τ).loc Cert.Kernel11Ideal.main_arg5))
  obtain ⟨β, e3⟩ := line_of (b := 2048) (m ((c : Thread Cert.Kernel11Ideal.nD Cert.Kernel11Ideal.τ).loc Cert.Kernel11Ideal.main_arg3))
  refine ⟨r0.trans ((Cert.Reference11Ideal.Read.val_main_v32_eq (F := Ideal) _ _ _ _).trans ?_), r1.trans ((Cert.Reference11Ideal.Read.val_main_v33_eq (F := Ideal) _ _ _ _).trans ?_),
    r2.trans ((Cert.Reference11Ideal.Read.val_main_v34_eq (F := Ideal) _ _ _ _ _ _).trans ?_), r3.trans ((Cert.Reference11Ideal.Read.val_main_v35_eq (F := Ideal) _ _ _ _ _ _).trans ?_), rest⟩
  · rw [g0, g1, g2, g3]
    exact (result6 m c e0 e1 e2 e3 _ (ref_v25 e0 e1 e2 e3)).symm
  · rw [g0, g1, g2, g3]
    exact (result7 m c e0 e1 e2 e3 _ (ref_v23 e0 e1 e2 e3)).symm
  · rw [g0, g1, g2, g3, g4, g5]
    exact (result8 m c e0 e1 e2 e3 e4 e5 _ (ref_v28 e0 e1 e2 e3 e4 e5)).symm
  · rw [g0, g1, g2, g3, g4, g5]
    exact (result9 m c e0 e1 e2 e3 e4 e5 _ (ref_v35 e0 e1 e2 e3 e4 e5)).symm

end Cert.Attn.OutDx

end
-- ==== Proof.Out.lean ====
/- The mixing output product with its residual: a block of rows at a time, against the whole weight. -/
module

public import proofs.«01_k».proof.Defs
public import proofs.«01_k».proof.Proof.Ext
public import Idealize.ShloMosaic.Lib.Pipeline.ValueKit
public import proofs.«01_k».proof.Proof.Gen.Kernel12Ideal.Value
public import proofs.«01_k».proof.Proof.Gen.Reference12Ideal.Run
public import proofs.«01_k».proof.Proof.Gen.Reference12Ideal.Read

@[expose] public section

set_option maxRecDepth 16384

noncomputable section

namespace Cert.Attn.Out

open Idealize.ShloMosaic Idealize.ShloMosaic.TcCoe Idealize.SL.Sem
open scoped BigOperators
open Finset (range)

section kernel

open Cert.Kernel12Ideal Cert.Kernel12Ideal.Gen Cert.Kernel12Ideal.Value

theorem out_x {A : FVec Ideal S1024x1024 .bf16} {B : FVec Ideal S1024x1024 .bf16} {C : FVec Ideal S1024x1024 .f32} {f g h : ℕ → ℕ → EReal} (hA : X2 A f) (hB : X2 B g) (hC : X2 C h) :
    X2 (a := 1024) (b := 1024) (out0_3 (F := Ideal) A B C) fun i j => h i j + ∑ k ∈ range 1024, f i k * g k j := by
  unfold out0_3
  rw [View.canon_unit_zero hz2, View.ld_unit_zero (S := S1024x1024) hz2, View.ld_unit_zero (S := S1024x1024) hz2, View.ld_unit_zero (S := S1024x1024) hz2]
  exact hC.add (X2.plain _ rfl none hA hB X2.zero)

variable (m : (ℓ : Loc nD τ sig) → Buf (Elt Ideal) ℓ) (c : Dev nD)

theorem ix0 : ∀ t : Fin cfg0.N, win0_0.index t = ![t.val, 0] := (by decide +kernel : ∀ t : Fin grid0.N, win0_0.index t = ![t.val, 0])
theorem ix1 : ∀ t : Fin cfg0.N, win0_1.index t = ![0, 0] := (by decide +kernel : ∀ t : Fin grid0.N, win0_1.index t = ![0, 0])
theorem ix2 : ∀ t : Fin cfg0.N, win0_2.index t = ![t.val, 0] := (by decide +kernel : ∀ t : Fin grid0.N, win0_2.index t = ![t.val, 0])
theorem ix3 : ∀ t : Fin cfg0.N, win0_3.index t = ![t.val, 0] := (by decide +kernel : ∀ t : Fin grid0.N, win0_3.index t = ![t.val, 0])

theorem in0 {f : ℕ → ℕ → EReal} (h : X2 (a := 4096) (b := 1024) (m ((c : Thread nD τ).loc main_arg0)) f) (t : Fin cfg0.N) :
    X2 (a := 1024) (b := 1024) (iblk m c 0 t) fun i j => f (t.val * 1024 + i) j := by
  intro y
  refine (h _).trans ?_
  blk_simp [ix0]

theorem in1 {f : ℕ → ℕ → EReal} (h : X2 (a := 1024) (b := 1024) (m ((c : Thread nD τ).loc main_arg1)) f) (t : Fin cfg0.N) :
    X2 (a := 1024) (b := 1024) (iblk m c 1 t) fun i j => f i j := by
  intro y
  refine (h _).trans ?_
  blk_simp [ix1]

theorem in2 {f : ℕ → ℕ → EReal} (h : X2 (a := 4096) (b := 1024) (m ((c : Thread nD τ).loc main_arg2)) f) (t : Fin cfg0.N) :
    X2 (a := 1024) (b := 1024) (iblk m c 2 t) fun i j => f (t.val * 1024 + i) j := by
  intro y
  refine (h _).trans ?_
  blk_simp [ix2]

/-- The kernel's result: the residual and the product, added. -/
theorem result {f g h : ℕ → ℕ → EReal} (hf : X2 (a := 4096) (b := 1024) (m ((c : Thread nD τ).loc main_arg0)) f) (hg : X2 (a := 1024) (b := 1024) (m ((c : Thread nD τ).loc main_arg1)) g)
    (hh : X2 (a := 4096) (b := 1024) (m ((c : Thread nD τ).loc main_arg2)) h) (G : FVec Ideal S4096x1024 .f32)
    (hG : X2 (a := 4096) (b := 1024) G fun i j => h i j + ∑ k ∈ range 1024, f i k * g k j) :
    (dats m 0 c).arrAt 3 cfg0.N = G := by
  refine (dats m 0 c).arrAt_eq_of_covers 3 _ (by decide +kernel) fun t hf' y => ?_
  blk_simp
  rw [after0_3]
  refine (out_x (in0 m c hf t) (in1 m c hg t) (in2 m c hh t) y).trans (Eq.trans ?_ (hG _).symm)
  blk_simp [ix3]

end kernel

section reference

open Cert.Reference12Ideal Cert.Reference12Ideal.Read

/-- The reference's result is the same. -/
theorem ref {f g h : ℕ → ℕ → EReal} (x0 : FVec Ideal S4096x1024 .bf16) (x1 : FVec Ideal S1024x1024 .bf16) (x2 : FVec Ideal S4096x1024 .f32) (hf : X2 (a := 4096) (b := 1024) x0 f)
    (hg : X2 (a := 1024) (b := 1024) x1 g) (hh : X2 (a := 4096) (b := 1024) x2 h) :
    X2 (a := 4096) (b := 1024) (val_main_v3 (F := Ideal) x0 x1 x2) fun i j => h i j + ∑ k ∈ range 1024, f i k * g k j := fun i => by
  show x2 i + val_main_v2 (F := Ideal) x0 x1 i = _
  rw [val_main_v2_apply, hh i]
  congr 1
  refine Eq.trans ?_ (Finset.sum_range _).symm
  refine Finset.sum_congr rfl fun k _ => ?_
  show x0 (lidx_main_v2 i k) * x1 (ridx_main_v2 i k) = _
  rw [hf, hg]

end reference

set_option backward.isDefEq.respectTransparency.types false in
/-- The mixing output product with its residual is the reference's, at every argument. -/
theorem algebraic : Cert.algebraic_Kernel12Ideal_Reference12Ideal := fun m g m' g' _ agree => by
  refine ⟨_, Cert.Kernel12Ideal.Value.run_blocks m g, ?_⟩
  refine (θ_run _ _ _).mono (fun r h c => ?_) (Cert.Reference12Ideal.Value.run (F := Ideal) m' g')
  obtain ⟨g0, g1, g2⟩ := agree c
  obtain ⟨r0, rest⟩ := h c
  refine ⟨r0.trans ((Cert.Reference12Ideal.Read.val_main_v3_eq (F := Ideal) _ _ _).trans ?_), rest⟩
  rw [g0, g1, g2]
  exact (result m c (X2.self _) (X2.self _) (X2.self _) _ (ref _ _ _ (X2.self _) (X2.self _) (X2.self _))).symm

end Cert.Attn.Out

end
-- ==== Proof.Norm.lean ====
/- The norm of the rows, times its gain. -/
module

public import proofs.«01_k».proof.Defs
public import proofs.«01_k».proof.Proof.Row
public import proofs.«01_k».proof.Proof.Split
public import proofs.«01_k».proof.Proof.Gen.Kernel13Ideal.Value
public import proofs.«01_k».proof.Proof.Gen.Reference13Ideal.Run
public import proofs.«01_k».proof.Proof.Gen.Reference13Ideal.Read

@[expose] public section

set_option maxRecDepth 16384

noncomputable section

namespace Cert.Attn.Norm

open Idealize.ShloMosaic Idealize.ShloMosaic.TcCoe Idealize.SL.Sem
open scoped BigOperators
open Finset (range)

section kernel

open Cert.Kernel13Ideal Cert.Kernel13Ideal.Gen Cert.Kernel13Ideal.Value

variable {x : ℕ → ℕ → EReal} {g : ℕ → EReal}

theorem out_x {A : FVec Ideal S512x1024 .f32} {B : FVec Ideal S1x1024 .f32} (hA : X2 A x) (hB : X2 B fun _ j => g j) :
    X2 (a := 512) (b := 1024) (out0_2 (F := Ideal) A B) fun i j => x i j * rr (x i) * g j := by
  unfold out0_2
  rw [View.canon_unit_zero hz2, View.ld_unit_zero (S := S512x1024) hz2, View.ld_unit_zero (S := S1x1024) hz2]
  exact (hA.mul (X2.bcast (f := fun i => rr (x i)) (X2.rms hA reduces_S512x1024_S512 shapeCasts_S512_S512x1 (.inl rfl) rfl) broadcasts_S512x1_S512x1024)).mul
    (X2.bcastRow (n := 512) (hB.cast shapeCasts_S1x1024_S1x1024) broadcasts_S1x1024_S512x1024)

variable (m : (ℓ : Loc nD τ sig) → Buf (Elt Ideal) ℓ) (c : Dev nD)

theorem ix0 : ∀ t : Fin cfg0.N, win0_0.index t = ![t.val, 0] := (by decide +kernel : ∀ t : Fin grid0.N, win0_0.index t = ![t.val, 0])
theorem ix1 : ∀ t : Fin cfg0.N, win0_1.index t = ![0, 0] := (by decide +kernel : ∀ t : Fin grid0.N, win0_1.index t = ![0, 0])
theorem ix2 : ∀ t : Fin cfg0.N, win0_2.index t = ![t.val, 0] := (by decide +kernel : ∀ t : Fin grid0.N, win0_2.index t = ![t.val, 0])

variable (hx : X2 (a := 4096) (b := 1024) (m ((c : Thread nD τ).loc main_arg0)) x) (hg : ∀ i : S1024.Idx, m ((c : Thread nD τ).loc main_arg1) i = g (i 0).val)

include hx in
theorem in0 (t : Fin cfg0.N) : X2 (a := 512) (b := 1024) (iblk m c 0 t) fun i j => x (t.val * 512 + i) j := by
  intro y
  refine (hx _).trans ?_
  blk_simp [ix0]

include hg in
theorem in1 (t : Fin cfg0.N) : X2 (a := 1) (b := 1024) (iblk m c 1 t) fun _ j => g j := by
  intro y
  show V m c main_v0 _ = _
  entry_read
  refine (X2.line hg shapeCasts_S1024_S1x1024 _).trans ?_
  blk_simp [ix1]

include hx hg in
theorem result2 (G : FVec Ideal S4096x1024 .bf16) (hG : X2 (a := 4096) (b := 1024) G fun i j => x i j * rr (x i) * g j) : (dats m 0 c).arrAt 2 cfg0.N = G := by
  refine (dats m 0 c).arrAt_eq_of_covers 2 _ (by decide +kernel) fun t hf' y => ?_
  blk_simp
  rw [after0_2]
  refine (out_x (in0 m c hx t) (in1 m c hg t) y).trans (Eq.trans ?_ (hG _).symm)
  blk_simp [ix2]

end kernel

section reference

open Cert.Reference13Ideal Cert.Reference13Ideal.Read

variable {x : ℕ → ℕ → EReal} {g : ℕ → EReal} {x0 : FVec Ideal S4096x1024 .f32} {x1 : FVec Ideal S1024 .f32}
  (hx : X2 (a := 4096) (b := 1024) x0 x) (hg : ∀ i : S1024.Idx, x1 i = g (i 0).val)

include hx in
theorem ref_v7 : X2 (a := 4096) (b := 1) (val_main_v7 (F := Ideal) x0) fun i _ => rr (x i) := fun i => by
  show Ideal.rsqrt (val_main_v6 (F := Ideal) x0 i) = _
  refine congrArg Ideal.rsqrt ?_
  rw [val_main_v6_apply, val_main_v4_apply, val_main_v2_apply, val_main_v3_apply, val_main_v5_apply, val_main_v1_apply, val_main_cst_apply, val_main_cst_0_apply, val_main_cst_1_apply]
  unfold nn
  refine congrArg₂ (· + ·) (congrArg₂ Ideal.div ?_ rfl) rfl
  refine (congrArg₂ (· + ·) zero_f32 rfl).trans ((zero_add _).trans ?_)
  refine Eq.trans ?_ (Finset.sum_range _).symm
  refine Finset.sum_congr rfl fun k _ => ?_
  show x0 _ * x0 _ = _
  rw [hx]

include hx hg in
theorem ref_v13 : X2 (a := 4096) (b := 1024) (val_main_v13 (F := Ideal) x0 x1) fun i j => x i j * rr (x i) * g j := fun i => by
  show x0 i * val_main_v8 (F := Ideal) x0 i * val_main_v11 (F := Ideal) x1 i = _
  rw [val_main_v8_apply, val_main_v11_apply, val_main_v10_apply, ref_v7 hx, hx, hg]

end reference

set_option backward.isDefEq.respectTransparency.types false in
/-- The normed rows are the reference's, at every argument. -/
theorem algebraic : Cert.algebraic_Kernel13Ideal_Reference13Ideal := fun m g m' g' _ agree => by
  refine ⟨_, Cert.Kernel13Ideal.Value.run_blocks m g, ?_⟩
  refine (θ_run _ _ _).mono (fun r h c => ?_) (Cert.Reference13Ideal.Value.run (F := Ideal) m' g')
  obtain ⟨g0, g1⟩ := agree c
  obtain ⟨r0, rest⟩ := h c
  have e0 := X2.self (a := 4096) (b := 1024) (m ((c : Thread Cert.Kernel13Ideal.nD Cert.Kernel13Ideal.τ).loc Cert.Kernel13Ideal.main_arg0))
  obtain ⟨γ, e1⟩ := line_of (b := 1024) (m ((c : Thread Cert.Kernel13Ideal.nD Cert.Kernel13Ideal.τ).loc Cert.Kernel13Ideal.main_arg1))
  refine ⟨r0.trans ((Cert.Reference13Ideal.Read.val_main_v13_eq (F := Ideal) _ _).trans ?_), rest⟩
  rw [g0, g1]
  exact (result2 m c e0 e1 _ (ref_v13 e0 e1)).symm

end Cert.Attn.Norm

end
-- ==== Proof.Adam.lean ====
/- The optimizer's update of one weight: a block of rows at a time, every entry on its own. -/
module

public import proofs.«01_k».proof.Defs
public import proofs.«01_k».proof.Proof.Split
public import proofs.«01_k».proof.Proof.Gen.Kernel14Ideal.Value
public import proofs.«01_k».proof.Proof.Gen.Reference14Ideal.Run
public import proofs.«01_k».proof.Proof.Gen.Reference14Ideal.Read

@[expose] public section

set_option maxRecDepth 16384

noncomputable section

namespace Cert.Attn.Adam

open Idealize.ShloMosaic Idealize.ShloMosaic.TcCoe Idealize.SL.Sem
open scoped BigOperators
open Finset (range)

/-- The first moment after a step, at a gradient and a moment. -/
def mom (g m : EReal) : EReal := Ideal.ofBits .f32 0x3F666666#32 * m + Ideal.ofBits .f32 0x3DCCCCCD#32 * g

/-- The second moment after a step. -/
def var (g v : EReal) : EReal := Ideal.ofBits .f32 0x3F7FBE77#32 * v + Ideal.ofBits .f32 0x3A83126F#32 * (g * g)

/-- The step itself, with the weight's decay. -/
def step (w g m v : EReal) : EReal :=
  Ideal.ofBits .f32 0xBA83126F#32 * (Ideal.div (Ideal.div (mom g m) (Ideal.ofBits .f32 0x3F26BD02#32)) (Ideal.sqrt (Ideal.div (var g v) (Ideal.ofBits .f32 0x3C231ACC#32)) + Ideal.ofBits .f32 0x322BCC77#32)
    + Ideal.ofBits .f32 0x3C23D70A#32 * w)

section kernel

open Cert.Kernel14Ideal Cert.Kernel14Ideal.Gen Cert.Kernel14Ideal.Value

variable {w g μ v : ℕ → ℕ → EReal} {A B C D : FVec Ideal S128x1408 .f32}

theorem out4_x (hB : X2 B g) : X2 (a := 128) (b := 1408) (out0_4 (F := Ideal) A B C D) g := by
  unfold out0_4
  rw [View.canon_unit_zero hz2, View.ld_unit_zero (S := S128x1408) hz2]
  exact hB

theorem out6_x (hB : X2 B g) (hC : X2 C μ) : X2 (a := 128) (b := 1408) (out0_6 (F := Ideal) A B C D) fun i j => mom (g i j) (μ i j) := fun i => by
  unfold out0_6
  rw [View.canon_unit_zero hz2, View.ld_unit_zero (S := S128x1408) hz2, View.ld_unit_zero (S := S128x1408) hz2]
  show mom (B i) (C i) = _
  rw [hB, hC]

theorem out7_x (hB : X2 B g) (hD : X2 D v) : X2 (a := 128) (b := 1408) (out0_7 (F := Ideal) A B C D) fun i j => var (g i j) (v i j) := fun i => by
  unfold out0_7
  rw [View.canon_unit_zero hz2, View.ld_unit_zero (S := S128x1408) hz2, View.ld_unit_zero (S := S128x1408) hz2]
  show var (B i) (D i) = _
  rw [hB, hD]

theorem out5_x (hA : X2 A w) (hB : X2 B g) (hC : X2 C μ) (hD : X2 D v) : X2 (a := 128) (b := 1408) (out0_5 (F := Ideal) A B C D) fun i j => step (w i j) (g i j) (μ i j) (v i j) := fun i => by
  unfold out0_5
  rw [View.canon_unit_zero hz2, View.ld_unit_zero (S := S128x1408) hz2, View.ld_unit_zero (S := S128x1408) hz2, View.ld_unit_zero (S := S128x1408) hz2, View.ld_unit_zero (S := S128x1408) hz2]
  show step (A i) (B i) (C i) (D i) = _
  rw [hA, hB, hC, hD]

variable (m : (ℓ : Loc nD τ sig) → Buf (Elt Ideal) ℓ) (c : Dev nD)

theorem ix0 : ∀ t : Fin cfg0.N, win0_0.index t = ![t.val, 0] := (by decide +kernel : ∀ t : Fin grid0.N, win0_0.index t = ![t.val, 0])
theorem ix1 : ∀ t : Fin cfg0.N, win0_1.index t = ![t.val, 0] := (by decide +kernel : ∀ t : Fin grid0.N, win0_1.index t = ![t.val, 0])
theorem ix2 : ∀ t : Fin cfg0.N, win0_2.index t = ![t.val, 0] := (by decide +kernel : ∀ t : Fin grid0.N, win0_2.index t = ![t.val, 0])
theorem ix3 : ∀ t : Fin cfg0.N, win0_3.index t = ![t.val, 0] := (by decide +kernel : ∀ t : Fin grid0.N, win0_3.index t = ![t.val, 0])
theorem ix4 : ∀ t : Fin cfg0.N, win0_4.index t = ![t.val, 0] := (by decide +kernel : ∀ t : Fin grid0.N, win0_4.index t = ![t.val, 0])
theorem ix5 : ∀ t : Fin cfg0.N, win0_5.index t = ![t.val, 0] := (by decide +kernel : ∀ t : Fin grid0.N, win0_5.index t = ![t.val, 0])
theorem ix6 : ∀ t : Fin cfg0.N, win0_6.index t = ![t.val, 0] := (by decide +kernel : ∀ t : Fin grid0.N, win0_6.index t = ![t.val, 0])
theorem ix7 : ∀ t : Fin cfg0.N, win0_7.index t = ![t.val, 0] := (by decide +kernel : ∀ t : Fin grid0.N, win0_7.index t = ![t.val, 0])

section operands

variable (hw : X2 (a := 4096) (b := 1408) (m ((c : Thread nD τ).loc main_arg0)) w) (hg : X2 (a := 4096) (b := 1408) (m ((c : Thread nD τ).loc main_arg1)) g)
  (hm : X2 (a := 4096) (b := 1408) (m ((c : Thread nD τ).loc main_arg2)) μ) (hv : X2 (a := 4096) (b := 1408) (m ((c : Thread nD τ).loc main_arg3)) v) (t : Fin cfg0.N)

include hw in
theorem in0 : X2 (a := 128) (b := 1408) (iblk m c 0 t) fun i j => w (t.val * 128 + i) j := by
  intro y
  refine (hw _).trans ?_
  blk_simp [ix0]

include hg in
theorem in1 : X2 (a := 128) (b := 1408) (iblk m c 1 t) fun i j => g (t.val * 128 + i) j := by
  intro y
  refine (hg _).trans ?_
  blk_simp [ix1]

include hm in
theorem in2 : X2 (a := 128) (b := 1408) (iblk m c 2 t) fun i j => μ (t.val * 128 + i) j := by
  intro y
  refine (hm _).trans ?_
  blk_simp [ix2]

include hv in
theorem in3 : X2 (a := 128) (b := 1408) (iblk m c 3 t) fun i j => v (t.val * 128 + i) j := by
  intro y
  refine (hv _).trans ?_
  blk_simp [ix3]

end operands

variable (hw : X2 (a := 4096) (b := 1408) (m ((c : Thread nD τ).loc main_arg0)) w) (hg : X2 (a := 4096) (b := 1408) (m ((c : Thread nD τ).loc main_arg1)) g)
  (hm : X2 (a := 4096) (b := 1408) (m ((c : Thread nD τ).loc main_arg2)) μ) (hv : X2 (a := 4096) (b := 1408) (m ((c : Thread nD τ).loc main_arg3)) v)

include hg in
/-- The gradient, passed on. -/
theorem result4 (G : FVec Ideal S4096x1408 .f32) (hG : X2 (a := 4096) (b := 1408) G fun i j => g i j) : (dats m 0 c).arrAt 4 cfg0.N = G := by
  refine (dats m 0 c).arrAt_eq_of_covers 4 _ (by decide +kernel) fun t hf' y => ?_
  blk_simp
  rw [after0_4]
  refine (out4_x (in1 m c hg t) y).trans (Eq.trans ?_ (hG _).symm)
  blk_simp [ix4]

include hw hg hm hv in
/-- The weight's change. -/
theorem result5 (G : FVec Ideal S4096x1408 .f32) (hG : X2 (a := 4096) (b := 1408) G fun i j => step (w i j) (g i j) (μ i j) (v i j)) : (dats m 0 c).arrAt 5 cfg0.N = G := by
  refine (dats m 0 c).arrAt_eq_of_covers 5 _ (by decide +kernel) fun t hf' y => ?_
  blk_simp
  rw [after0_5]
  refine (out5_x (in0 m c hw t) (in1 m c hg t) (in2 m c hm t) (in3 m c hv t) y).trans (Eq.trans ?_ (hG _).symm)
  blk_simp [ix5]

include hg hm in
/-- The first moment. -/
theorem result6 (G : FVec Ideal S4096x1408 .f32) (hG : X2 (a := 4096) (b := 1408) G fun i j => mom (g i j) (μ i j)) : (dats m 0 c).arrAt 6 cfg0.N = G := by
  refine (dats m 0 c).arrAt_eq_of_covers 6 _ (by decide +kernel) fun t hf' y => ?_
  blk_simp
  rw [after0_6]
  refine (out6_x (in1 m c hg t) (in2 m c hm t) y).trans (Eq.trans ?_ (hG _).symm)
  blk_simp [ix6]

include hg hv in
/-- The second moment. -/
theorem result7 (G : FVec Ideal S4096x1408 .f32) (hG : X2 (a := 4096) (b := 1408) G fun i j => var (g i j) (v i j)) : (dats m 0 c).arrAt 7 cfg0.N = G := by
  refine (dats m 0 c).arrAt_eq_of_covers 7 _ (by decide +kernel) fun t hf' y => ?_
  blk_simp
  rw [after0_7]
  refine (out7_x (in1 m c hg t) (in3 m c hv t) y).trans (Eq.trans ?_ (hG _).symm)
  blk_simp [ix7]

end kernel

section reference

open Cert.Reference14Ideal Cert.Reference14Ideal.Read

variable {w g μ v : ℕ → ℕ → EReal} {x0 x1 x2 x3 : FVec Ideal S4096x1408 .f32}
  (hw : X2 (a := 4096) (b := 1408) x0 w) (hg : X2 (a := 4096) (b := 1408) x1 g) (hm : X2 (a := 4096) (b := 1408) x2 μ) (hv : X2 (a := 4096) (b := 1408) x3 v)

theorem ref4 (i : S4096x1408.Idx) : val_main_v4 (F := Ideal) x1 x2 i = mom (x1 i) (x2 i) := by
  rw [val_main_v4_apply, val_main_v1_apply, val_main_v0_apply, val_main_v3_apply, val_main_v2_apply]
  rfl

theorem ref10 (i : S4096x1408.Idx) : val_main_v10 (F := Ideal) x1 x3 i = var (x1 i) (x3 i) := by
  rw [val_main_v10_apply, val_main_v6_apply, val_main_v5_apply, val_main_v9_apply, val_main_v8_apply]
  rfl

theorem ref23 (i : S4096x1408.Idx) : val_main_v23 (F := Ideal) x0 x1 x2 x3 i = step (x0 i) (x1 i) (x2 i) (x3 i) := by
  rw [val_main_v23_apply, val_main_v22_apply, val_main_v21_apply, val_main_v18_apply, val_main_v12_apply, val_main_v11_apply, val_main_v17_apply, val_main_v15_apply, val_main_v14_apply, val_main_v13_apply,
    val_main_v16_apply, val_main_v20_apply, val_main_v19_apply, ref4, ref10]
  rfl

end reference

set_option backward.isDefEq.respectTransparency.types false in
/-- The update's four results are the reference's, at every argument. -/
theorem algebraic : Cert.algebraic_Kernel14Ideal_Reference14Ideal := fun m g m' g' _ agree => by
  refine ⟨_, _, _, _, Cert.Kernel14Ideal.Value.run_blocks m g, ?_⟩
  refine (θ_run _ _ _).mono (fun r h c => ?_) (Cert.Reference14Ideal.Value.run (F := Ideal) m' g')
  obtain ⟨g0, g1, g2, g3⟩ := agree c
  obtain ⟨r0, r1, r2, r3, rest⟩ := h c
  have e0 := X2.self (a := 4096) (b := 1408) (m ((c : Thread Cert.Kernel14Ideal.nD Cert.Kernel14Ideal.τ).loc Cert.Kernel14Ideal.main_arg0))
  have e1 := X2.self (a := 4096) (b := 1408) (m ((c : Thread Cert.Kernel14Ideal.nD Cert.Kernel14Ideal.τ).loc Cert.Kernel14Ideal.main_arg1))
  have e2 := X2.self (a := 4096) (b := 1408) (m ((c : Thread Cert.Kernel14Ideal.nD Cert.Kernel14Ideal.τ).loc Cert.Kernel14Ideal.main_arg2))
  have e3 := X2.self (a := 4096) (b := 1408) (m ((c : Thread Cert.Kernel14Ideal.nD Cert.Kernel14Ideal.τ).loc Cert.Kernel14Ideal.main_arg3))
  refine ⟨r0.trans ?_, r1.trans ((Cert.Reference14Ideal.Read.val_main_v23_eq (F := Ideal) _ _ _ _).trans ?_), r2.trans ((Cert.Reference14Ideal.Read.val_main_v4_eq (F := Ideal) _ _).trans ?_),
    r3.trans ((Cert.Reference14Ideal.Read.val_main_v10_eq (F := Ideal) _ _).trans ?_), rest⟩
  · rw [g1]
    exact (result4 m c e1 _ e1).symm
  · rw [g0, g1, g2, g3]
    exact (result5 m c e0 e1 e2 e3 _ fun i => (ref23 i).trans (by rw [e0 i, e1 i, e2 i, e3 i])).symm
  · rw [g1, g2]
    exact (result6 m c e1 e2 _ fun i => (ref4 i).trans (by rw [e1 i, e2 i])).symm
  · rw [g1, g3]
    exact (result7 m c e1 e3 _ fun i => (ref10 i).trans (by rw [e1 i, e3 i])).symm

end Cert.Attn.Adam

end
-- ==== Proof.OutDw.lean ====
/- The gradient of the mixing output weight: a block of its columns at a time, the tokens in two halves. -/
module

public import proofs.«01_k».proof.Defs
public import proofs.«01_k».proof.Proof.Ext
public import Idealize.ShloMosaic.Lib.Pipeline.ValueKit
public import proofs.«01_k».proof.Proof.Gen.Kernel15Ideal.Value
public import proofs.«01_k».proof.Proof.Gen.Reference15Ideal.Run
public import proofs.«01_k».proof.Proof.Gen.Reference15Ideal.Read

@[expose] public section

set_option maxRecDepth 16384

noncomputable section

namespace Cert.Attn.OutDw

open Idealize.ShloMosaic Idealize.ShloMosaic.TcCoe Idealize.SL.Sem
open scoped BigOperators
open Finset (range)

section kernel

open Cert.Kernel15Ideal Cert.Kernel15Ideal.Gen Cert.Kernel15Ideal.Value

section body

variable {F : FTy → Type} [FloatOps F]

theorem s_A (c : Dev nD) (i : grid0.Coords) (a3 : Memref sig .tc .vmem S2048x1024 .bf16) (h3 : a3.IsWhole) (a4 : Memref sig .tc .vmem S2048x512 .f32) (h4 : a4.IsWhole)
    (a5 : Memref sig .tc .vmem S1024x512 .bf16) (h5 : a5.IsWhole) (a6 : Memref sig .tc .vmem S1024x512 .f32) (h6 : a6.IsWhole) (hc0 hc1 hc2)
    (x0 : Vec F S2048x1024 .bf16) (x1 : Vec F S2048x512 .f32) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x1024) hz2, View.ld_unit_zero (S := S2048x512) hz2, shapeCast_self]

theorem o_B (c : Dev nD) (i : grid0.Coords) (a3 : Memref sig .tc .vmem S2048x1024 .bf16) (h3 : a3.IsWhole) (a4 : Memref sig .tc .vmem S2048x512 .f32) (h4 : a4.IsWhole)
    (a5 : Memref sig .tc .vmem S1024x512 .bf16) (h5 : a5.IsWhole) (a6 : Memref sig .tc .vmem S1024x512 .f32) (h6 : a6.IsWhole) (hc0 hc1 hc2)
    (x0 : Vec F S2048x1024 .bf16) (x1 : Vec F S2048x512 .f32) (xs : Vec F S1024x512 .f32) :
    out0_B_2 c i a3 h3 a4 h4 a5 h5 a6 h6 hc0 hc1 hc2 x0 x1 xs = k0_pay4 (addf xs (k0_pay1 x0 x1)) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz2, View.readCov_unit_zero (S := S1024x512) _ hz2]
  unfold k0_pay3
  simp only [View.readAt_eq_ld, h3.read_unread, h4.read_unread, h6.read_unread, View.ld_unit_zero (S := S2048x1024) hz2, View.ld_unit_zero (S := S2048x512) hz2,
    View.ld_unit_zero (S := S1024x512) hz2, shapeCast_self]

variable (m : (ℓ : Loc nD τ sig) → Buf (Elt F) ℓ)

/-- What a point that writes back leaves in the output's buffer: the two blocks' products, added. -/
theorem out_odd (c : Dev nD) (t t' : Fin cfg0.N) (h : t.val % 2 = 1) (ht : t'.val = t.val - 1) :
    (outsAt0 m c t.val t.isLt).1 = k0_pay4 (F := F) (addf (k0_pay1 (F := F) (iblk m c 0 t') (iblk m c 1 t')) (k0_pay1 (F := F) (iblk m c 0 t) (iblk m c 1 t))) := by
  rw [outsAt0_B m c t (by omega) h h]
  dsimp only
  rw [o_B (F := F)]
  have e : (outsAt0 m c (t.val - 1) (by have := t.isLt; omega)).2 = k0_pay1 (F := F) (iblk m c 0 t') (iblk m c 1 t') := by
    have := outsAt0_A m c t' (by omega) (by omega) (by omega)
    simp only [ht] at this
    rw [this]
    dsimp only
    rw [s_A (F := F)]
  rw [e]

end body

variable (m : (ℓ : Loc nD τ sig) → Buf (Elt Ideal) ℓ) (c : Dev nD)

theorem ix0 : ∀ t : Fin cfg0.N, win0_0.index t = ![t.val % 2, t.val / 4] := (by decide +kernel : ∀ t : Fin grid0.N, win0_0.index t = ![t.val % 2, t.val / 4])
theorem ix1 : ∀ t : Fin cfg0.N, win0_1.index t = ![t.val % 2, t.val / 2 % 2] := (by decide +kernel : ∀ t : Fin grid0.N, win0_1.index t = ![t.val % 2, t.val / 2 % 2])

theorem in0 {f : ℕ → ℕ → EReal} (h : X2 (a := 4096) (b := 1024) (m ((c : Thread nD τ).loc main_arg0)) f) (t : Fin cfg0.N) :
    X2 (a := 2048) (b := 1024) (iblk m c 0 t) fun i j => f (t.val % 2 * 2048 + i) (t.val / 4 * 1024 + j) := by
  intro y
  refine (h _).trans ?_
  blk_simp [ix0]

theorem in1 {f : ℕ → ℕ → EReal} (h : X2 (a := 4096) (b := 1024) (m ((c : Thread nD τ).loc main_arg1)) f) (t : Fin cfg0.N) :
    X2 (a := 2048) (b := 512) (iblk m c 1 t) fun i j => f (t.val % 2 * 2048 + i) (t.val / 2 % 2 * 512 + j) := by
  intro y
  refine (h _).trans ?_
  blk_simp [ix1]

theorem pay1_x {A : FVec Ideal S2048x1024 .bf16} {B : FVec Ideal S2048x512 .f32} {f g : ℕ → ℕ → EReal} (hA : X2 A f) (hB : X2 B g) :
    X2 (a := 1024) (b := 512) (k0_pay1 (F := Ideal) A B) fun i j => ∑ k ∈ range 2048, f k i * g k j :=
  X2.tn _ rfl rfl rfl rfl rfl rfl none hA hB X2.zero

theorem pay4_x {A : FVec Ideal S1024x512 .f32} {f : ℕ → ℕ → EReal} (hA : X2 A f) :
    X2 (a := 1024) (b := 512) (k0_pay4 (F := Ideal) A) fun i j => f i j := hA

/-- The kernel's result: the product of the transposed activations with the cotangent. -/
theorem result {f g : ℕ → ℕ → EReal} (hf : X2 (a := 4096) (b := 1024) (m ((c : Thread nD τ).loc main_arg0)) f)
    (hg : X2 (a := 4096) (b := 1024) (m ((c : Thread nD τ).loc main_arg1)) g) :
    X2 (a := 1024) (b := 1024) (G2 m c) fun i j => ∑ k ∈ range 4096, f k i * g k j := fun i => by
  have l0 : (i 0).val < 1024 := (i 0).isLt
  have l1 : (i 1).val < 1024 := (i 1).isLt
  have hp : pt2Of i < cfg0.N := lt_of_lt_of_eq (by unfold pt2Of run2Of; omega) N_0.symm
  have hp' : pt2Of i - 1 < cfg0.N := by omega
  unfold G2
  rw [dif_pos hp, ← outsAt0_sweep m c (pt2Of i) hp, out_odd m c ⟨pt2Of i, hp⟩ ⟨pt2Of i - 1, hp'⟩ (by show (2 * run2Of i + 1) % 2 = 1; omega) rfl]
  refine (pay4_x ((pay1_x (in0 m c hf _) (in1 m c hg _)).add (pay1_x (in0 m c hf _) (in1 m c hg _))) (loc2Of i)).trans ?_
  dsimp only
  rw [show (4096 : ℕ) = 2048 + 2048 from rfl, Finset.sum_range_add]
  have e0 : (pt2Of i - 1) % 2 = 0 := by unfold pt2Of; omega
  have e1 : pt2Of i % 2 = 1 := by unfold pt2Of; omega
  have r0 : (pt2Of i - 1) / 4 * 1024 + (i 0).val % 1024 = (i 0).val := by unfold pt2Of run2Of; omega
  have r1 : pt2Of i / 4 * 1024 + (i 0).val % 1024 = (i 0).val := by unfold pt2Of run2Of; omega
  have c0 : (pt2Of i - 1) / 2 % 2 * 512 + (i 1).val % 512 = (i 1).val := by unfold pt2Of run2Of; omega
  have c1 : pt2Of i / 2 % 2 * 512 + (i 1).val % 512 = (i 1).val := by unfold pt2Of run2Of; omega
  show (∑ k ∈ range 2048, f ((pt2Of i - 1) % 2 * 2048 + k) ((pt2Of i - 1) / 4 * 1024 + (i 0).val % 1024) * g ((pt2Of i - 1) % 2 * 2048 + k) ((pt2Of i - 1) / 2 % 2 * 512 + (i 1).val % 512))
    + ∑ k ∈ range 2048, f (pt2Of i % 2 * 2048 + k) (pt2Of i / 4 * 1024 + (i 0).val % 1024) * g (pt2Of i % 2 * 2048 + k) (pt2Of i / 2 % 2 * 512 + (i 1).val % 512) = _
  rw [e0, e1, r0, r1, c0, c1]
  simp only [Nat.zero_mul, Nat.zero_add, Nat.one_mul]

end kernel

section reference

open Cert.Reference15Ideal Cert.Reference15Ideal.Read

/-- The reference's result: the product of the transposed activations with the cotangent. -/
theorem ref {f g : ℕ → ℕ → EReal} (x0 : FVec Ideal S4096x1024 .bf16) (x1 : FVec Ideal S4096x1024 .f32) (hf : X2 (a := 4096) (b := 1024) x0 f) (hg : X2 (a := 4096) (b := 1024) x1 g) :
    X2 (a := 1024) (b := 1024) (val_main_v5 (F := Ideal) x0 x1) fun i j => ∑ k ∈ range 4096, f k i * g k j := fun i => by
  show val_main_v4 (F := Ideal) x0 x1 i = _
  rw [val_main_v4_apply, val_main_v3_apply]
  refine Eq.trans ?_ (Finset.sum_range _).symm
  refine Finset.sum_congr rfl fun k _ => ?_
  show x1 (lidx_main_v3 (idx_main_v4 i) k) * x0 (ridx_main_v3 (idx_main_v4 i) k) = _
  rw [hf, hg, mul_comm (g _ _)]

end reference

set_option backward.isDefEq.respectTransparency.types false in
/-- The gradient of the mixing output weight is the reference's, at every argument. -/
theorem algebraic : Cert.algebraic_Kernel15Ideal_Reference15Ideal := fun m g m' g' _ agree => by
  refine ⟨fun c => Cert.Kernel15Ideal.Value.G2 m c, Cert.Kernel15Ideal.Value.run m g, ?_⟩
  refine (θ_run _ _ _).mono (fun r h c => ?_) (Cert.Reference15Ideal.Value.run (F := Ideal) m' g')
  obtain ⟨g0, g1⟩ := agree c
  obtain ⟨r0, rest⟩ := h c
  refine ⟨r0.trans ((Cert.Reference15Ideal.Read.val_main_v5_eq (F := Ideal) _ _).trans (funext fun i => ?_)), rest⟩
  rw [g0, g1]
  exact (ref _ _ (X2.self _) (X2.self _) i).trans (result m c (X2.self _) (X2.self _) i).symm

end Cert.Attn.OutDw

end
-- ==== Proof.ProductsDw.lean ====
/- The gradients of the weights around the mixer's branches: the tokens in two halves. -/
module

public import proofs.«01_k».proof.Defs
public import proofs.«01_k».proof.Proof.Ext
public import Idealize.ShloMosaic.Lib.Pipeline.ValueKit
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29Ideal.Value
public import proofs.«01_k».proof.Proof.Gen.Reference29Ideal.Run
public import proofs.«01_k».proof.Proof.Gen.Reference29Ideal.Read

@[expose] public section

set_option maxRecDepth 16384

noncomputable section

open Idealize.ShloMosaic Idealize.ShloMosaic.TcCoe Idealize.SL.Sem
open scoped BigOperators
open Finset (range)

/-! ## The gradient of the gates' columns of the first weight -/

namespace Cert.Attn.GateDw

section kernel

open Cert.Kernel16Ideal Cert.Kernel16Ideal.Gen Cert.Kernel16Ideal.Value

section body

variable {F : FTy → Type} [FloatOps F] (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole)
  (x0 : Vec F S2048x1024 .bf16) (x1 : Vec F S2048x1024 .bf16)

theorem s_A (hc0 hc1 hc2) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x1024) hz2, View.ld_unit_zero (S := S2048x1024) hz2, shapeCast_self]

theorem o_B (hc0 hc1 hc2) (xs : Vec F S1024x1024 .f32) :
    out0_B_2 c i a3 h3 a4 h4 a5 h5 a6 h6 hc0 hc1 hc2 x0 x1 xs = k0_pay4 (addf xs (k0_pay1 x0 x1)) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz2, View.readCov_unit_zero (S := S1024x1024) _ hz2]
  unfold k0_pay3
  simp only [View.readAt_eq_ld, h6.read_unread, h3.read_unread, h4.read_unread, View.ld_unit_zero (S := S2048x1024) hz2, View.ld_unit_zero (S := S2048x1024) hz2,
    View.ld_unit_zero (S := S1024x1024) hz2, shapeCast_self]

variable (m : (ℓ : Loc nD τ sig) → Buf (Elt F) ℓ)

theorem out_odd (c : Dev nD) (t t' : Fin cfg0.N) (h : t.val % 2 = 1) (ht : t'.val = t.val - 1) :
    (outsAt0 m c t.val t.isLt).1 = k0_pay4 (F := F) (addf (k0_pay1 (F := F) (iblk m c 0 t') (iblk m c 1 t')) (k0_pay1 (F := F) (iblk m c 0 t) (iblk m c 1 t))) := by
  rw [outsAt0_B m c t (by omega) h h]
  dsimp only
  rw [o_B (F := F)]
  have e : (outsAt0 m c (t.val - 1) (by have := t.isLt; omega)).2 = k0_pay1 (F := F) (iblk m c 0 t') (iblk m c 1 t') := by
    have := outsAt0_A m c t' (by omega) (by omega) (by omega)
    simp only [ht] at this
    rw [this]
    dsimp only
    rw [s_A (F := F)]
  rw [e]

end body

variable (m : (ℓ : Loc nD τ sig) → Buf (Elt Ideal) ℓ) (c : Dev nD)

theorem ix0 : ∀ t : Fin cfg0.N, win0_0.index t = ![t.val % 2, 0] := (by decide +kernel : ∀ t : Fin grid0.N, win0_0.index t = ![t.val % 2, 0])
theorem ix1 : ∀ t : Fin cfg0.N, win0_1.index t = ![t.val % 2, t.val / 2] := (by decide +kernel : ∀ t : Fin grid0.N, win0_1.index t = ![t.val % 2, t.val / 2])

theorem in0 {f : ℕ → ℕ → EReal} (h : X2 (a := 4096) (b := 1024) (m ((c : Thread nD τ).loc main_arg0)) f) (t : Fin cfg0.N) :
    X2 (a := 2048) (b := 1024) (iblk m c 0 t) fun i j => f (t.val % 2 * 2048 + i) j := by
  intro y
  refine (h _).trans ?_
  blk_simp [ix0]

theorem in1 {f : ℕ → ℕ → EReal} (h : X2 (a := 4096) (b := 2048) (m ((c : Thread nD τ).loc main_arg1)) f) (t : Fin cfg0.N) :
    X2 (a := 2048) (b := 1024) (iblk m c 1 t) fun i j => f (t.val % 2 * 2048 + i) (t.val / 2 * 1024 + j) := by
  intro y
  refine (h _).trans ?_
  blk_simp [ix1]

theorem pay1_x {A : FVec Ideal S2048x1024 .bf16} {B : FVec Ideal S2048x1024 .bf16} {f g : ℕ → ℕ → EReal} (hA : X2 A f) (hB : X2 B g) :
    X2 (a := 1024) (b := 1024) (k0_pay1 (F := Ideal) A B) fun i j => ∑ k ∈ range 2048, f k i * g k j :=
  X2.tn _ rfl rfl rfl rfl rfl rfl none hA hB X2.zero

theorem pay4_x {A : FVec Ideal S1024x1024 .f32} {f : ℕ → ℕ → EReal} (hA : X2 A f) : X2 (a := 1024) (b := 1024) (k0_pay4 (F := Ideal) A) f := hA

theorem result {f g : ℕ → ℕ → EReal} (hf : X2 (a := 4096) (b := 1024) (m ((c : Thread nD τ).loc main_arg0)) f)
    (hg : X2 (a := 4096) (b := 2048) (m ((c : Thread nD τ).loc main_arg1)) g) : X2 (a := 1024) (b := 2048) (G2 m c) fun i j => ∑ k ∈ range 4096, f k i * g k j := fun i => by
  have l0 : (i 0).val < 1024 := (i 0).isLt
  have l1 : (i 1).val < 2048 := (i 1).isLt
  have hp : pt2Of i < cfg0.N := lt_of_lt_of_eq (by unfold pt2Of run2Of; omega) N_0.symm
  have hp' : pt2Of i - 1 < cfg0.N := by omega
  unfold G2
  rw [dif_pos hp, ← outsAt0_sweep m c (pt2Of i) hp, out_odd m c ⟨pt2Of i, hp⟩ ⟨pt2Of i - 1, hp'⟩ (by show (2 * run2Of i + 1) % 2 = 1; omega) rfl]
  refine (pay4_x ((pay1_x (in0 m c hf _) (in1 m c hg _)).add (pay1_x (in0 m c hf _) (in1 m c hg _))) (loc2Of i)).trans ?_
  dsimp only
  rw [show (4096 : ℕ) = 2048 + 2048 from rfl, Finset.sum_range_add]
  have e0 : (pt2Of i - 1) % 2 = 0 := by unfold pt2Of; omega
  have e1 : pt2Of i % 2 = 1 := by unfold pt2Of; omega
  have r0 : (i 0).val % 1024 = (i 0).val := by omega
  have c0 : (pt2Of i - 1) / 2 * 1024 + (i 1).val % 1024 = (i 1).val := by unfold pt2Of run2Of; omega
  have c1 : pt2Of i / 2 * 1024 + (i 1).val % 1024 = (i 1).val := by unfold pt2Of run2Of; omega
  show (∑ k ∈ range 2048, f ((pt2Of i - 1) % 2 * 2048 + k) ((i 0).val % 1024) * g ((pt2Of i - 1) % 2 * 2048 + k) ((pt2Of i - 1) / 2 * 1024 + (i 1).val % 1024))
    + ∑ k ∈ range 2048, f (pt2Of i % 2 * 2048 + k) ((i 0).val % 1024) * g (pt2Of i % 2 * 2048 + k) (pt2Of i / 2 * 1024 + (i 1).val % 1024) = _
  rw [e0, e1, r0, c0, c1]
  simp only [Nat.zero_mul, Nat.zero_add, Nat.one_mul]

end kernel

open Cert.Reference16Ideal Cert.Reference16Ideal.Read in
theorem ref {f g : ℕ → ℕ → EReal} (x0 : FVec Ideal S4096x1024 .bf16) (x1 : FVec Ideal S4096x2048 .bf16) (hf : X2 (a := 4096) (b := 1024) x0 f) (hg : X2 (a := 4096) (b := 2048) x1 g) :
    X2 (a := 1024) (b := 2048) (val_main_v6 (F := Ideal) x0 x1) fun i j => ∑ k ∈ range 4096, f k i * g k j := fun i => by
  show val_main_v5 (F := Ideal) x0 x1 i = _
  rw [val_main_v5_apply, val_main_v4_apply]
  refine Eq.trans ?_ (Finset.sum_range _).symm
  refine Finset.sum_congr rfl fun k _ => ?_
  show x1 (lidx_main_v4 (idx_main_v5 i) k) * x0 (ridx_main_v4 (idx_main_v5 i) k) = _
  rw [hf, hg, mul_comm (g _ _)]

set_option backward.isDefEq.respectTransparency.types false in
/-- The gradient of the gates' columns of the first weight is the reference's, at every argument. -/
theorem algebraic : Cert.algebraic_Kernel16Ideal_Reference16Ideal := fun m g m' g' _ agree => by
  refine ⟨fun c => Cert.Kernel16Ideal.Value.G2 m c, Cert.Kernel16Ideal.Value.run m g, ?_⟩
  refine (θ_run _ _ _).mono (fun r h c => ?_) (Cert.Reference16Ideal.Value.run (F := Ideal) m' g')
  obtain ⟨g0, g1⟩ := agree c
  obtain ⟨r0, rest⟩ := h c
  refine ⟨r0.trans ((Cert.Reference16Ideal.Read.val_main_v6_eq (F := Ideal) _ _).trans (funext fun i => ?_)), rest⟩
  rw [g0, g1]
  exact (ref _ _ (X2.self _) (X2.self _) i).trans (result m c (X2.self _) (X2.self _) i).symm

end Cert.Attn.GateDw

/-! ## The gradient of the attention projection -/

namespace Cert.Attn.ProjDw

section kernel

open Cert.Kernel17Ideal Cert.Kernel17Ideal.Gen Cert.Kernel17Ideal.Value

section body

variable {F : FTy → Type} [FloatOps F] (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole)
  (x0 : Vec F S2048x1024 .bf16) (x1 : Vec F S2048x1024 .bf16)

theorem s_A (hc0 hc1 hc2) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x1024) hz2, View.ld_unit_zero (S := S2048x1024) hz2, shapeCast_self]

theorem o_B (hc0 hc1 hc2) (xs : Vec F S1024x1024 .f32) :
    out0_B_2 c i a3 h3 a4 h4 a5 h5 a6 h6 hc0 hc1 hc2 x0 x1 xs = k0_pay4 (addf xs (k0_pay1 x0 x1)) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz2, View.readCov_unit_zero (S := S1024x1024) _ hz2]
  unfold k0_pay3
  simp only [View.readAt_eq_ld, h6.read_unread, h3.read_unread, h4.read_unread, View.ld_unit_zero (S := S2048x1024) hz2, View.ld_unit_zero (S := S2048x1024) hz2,
    View.ld_unit_zero (S := S1024x1024) hz2, shapeCast_self]

variable (m : (ℓ : Loc nD τ sig) → Buf (Elt F) ℓ)

theorem out_odd (c : Dev nD) (t t' : Fin cfg0.N) (h : t.val % 2 = 1) (ht : t'.val = t.val - 1) :
    (outsAt0 m c t.val t.isLt).1 = k0_pay4 (F := F) (addf (k0_pay1 (F := F) (iblk m c 0 t') (iblk m c 1 t')) (k0_pay1 (F := F) (iblk m c 0 t) (iblk m c 1 t))) := by
  rw [outsAt0_B m c t (by omega) h h]
  dsimp only
  rw [o_B (F := F)]
  have e : (outsAt0 m c (t.val - 1) (by have := t.isLt; omega)).2 = k0_pay1 (F := F) (iblk m c 0 t') (iblk m c 1 t') := by
    have := outsAt0_A m c t' (by omega) (by omega) (by omega)
    simp only [ht] at this
    rw [this]
    dsimp only
    rw [s_A (F := F)]
  rw [e]

end body

variable (m : (ℓ : Loc nD τ sig) → Buf (Elt Ideal) ℓ) (c : Dev nD)

theorem ix0 : ∀ t : Fin cfg0.N, win0_0.index t = ![t.val % 2, 0] := (by decide +kernel : ∀ t : Fin grid0.N, win0_0.index t = ![t.val % 2, 0])
theorem ix1 : ∀ t : Fin cfg0.N, win0_1.index t = ![t.val % 2, 0] := (by decide +kernel : ∀ t : Fin grid0.N, win0_1.index t = ![t.val % 2, 0])

theorem in0 {f : ℕ → ℕ → EReal} (h : X2 (a := 4096) (b := 1024) (m ((c : Thread nD τ).loc main_arg0)) f) (t : Fin cfg0.N) :
    X2 (a := 2048) (b := 1024) (iblk m c 0 t) fun i j => f (t.val % 2 * 2048 + i) j := by
  intro y
  refine (h _).trans ?_
  blk_simp [ix0]

theorem in1 {f : ℕ → ℕ → EReal} (h : X2 (a := 4096) (b := 1024) (m ((c : Thread nD τ).loc main_arg1)) f) (t : Fin cfg0.N) :
    X2 (a := 2048) (b := 1024) (iblk m c 1 t) fun i j => f (t.val % 2 * 2048 + i) j := by
  intro y
  refine (h _).trans ?_
  blk_simp [ix1]

theorem pay1_x {A : FVec Ideal S2048x1024 .bf16} {B : FVec Ideal S2048x1024 .bf16} {f g : ℕ → ℕ → EReal} (hA : X2 A f) (hB : X2 B g) :
    X2 (a := 1024) (b := 1024) (k0_pay1 (F := Ideal) A B) fun i j => ∑ k ∈ range 2048, f k i * g k j :=
  X2.tn _ rfl rfl rfl rfl rfl rfl none hA hB X2.zero

theorem pay4_x {A : FVec Ideal S1024x1024 .f32} {f : ℕ → ℕ → EReal} (hA : X2 A f) : X2 (a := 1024) (b := 1024) (k0_pay4 (F := Ideal) A) f := hA

theorem result {f g : ℕ → ℕ → EReal} (hf : X2 (a := 4096) (b := 1024) (m ((c : Thread nD τ).loc main_arg0)) f)
    (hg : X2 (a := 4096) (b := 1024) (m ((c : Thread nD τ).loc main_arg1)) g) : X2 (a := 1024) (b := 1024) (G2 m c) fun i j => ∑ k ∈ range 4096, f k i * g k j := fun i => by
  have l0 : (i 0).val < 1024 := (i 0).isLt
  have l1 : (i 1).val < 1024 := (i 1).isLt
  have hp : pt2Of i < cfg0.N := lt_of_lt_of_eq (by unfold pt2Of run2Of; omega) N_0.symm
  have hp' : pt2Of i - 1 < cfg0.N := by omega
  unfold G2
  rw [dif_pos hp, ← outsAt0_sweep m c (pt2Of i) hp, out_odd m c ⟨pt2Of i, hp⟩ ⟨pt2Of i - 1, hp'⟩ (by show (2 * run2Of i + 1) % 2 = 1; omega) rfl]
  refine (pay4_x ((pay1_x (in0 m c hf _) (in1 m c hg _)).add (pay1_x (in0 m c hf _) (in1 m c hg _))) (loc2Of i)).trans ?_
  dsimp only
  rw [show (4096 : ℕ) = 2048 + 2048 from rfl, Finset.sum_range_add]
  have e0 : (pt2Of i - 1) % 2 = 0 := by unfold pt2Of; omega
  have e1 : pt2Of i % 2 = 1 := by unfold pt2Of; omega
  have r0 : (i 0).val % 1024 = (i 0).val := by omega
  have c0 : (i 1).val % 1024 = (i 1).val := by omega
  show (∑ k ∈ range 2048, f ((pt2Of i - 1) % 2 * 2048 + k) ((i 0).val % 1024) * g ((pt2Of i - 1) % 2 * 2048 + k) ((i 1).val % 1024))
    + ∑ k ∈ range 2048, f (pt2Of i % 2 * 2048 + k) ((i 0).val % 1024) * g (pt2Of i % 2 * 2048 + k) ((i 1).val % 1024) = _
  rw [e0, e1, r0, c0]
  simp only [Nat.zero_mul, Nat.zero_add, Nat.one_mul]

end kernel

open Cert.Reference17Ideal Cert.Reference17Ideal.Read in
theorem ref {f g : ℕ → ℕ → EReal} (x0 : FVec Ideal S4096x1024 .bf16) (x1 : FVec Ideal S4096x1024 .bf16) (hf : X2 (a := 4096) (b := 1024) x0 f) (hg : X2 (a := 4096) (b := 1024) x1 g) :
    X2 (a := 1024) (b := 1024) (val_main_v6 (F := Ideal) x0 x1) fun i j => ∑ k ∈ range 4096, f k i * g k j := fun i => by
  show val_main_v5 (F := Ideal) x0 x1 i = _
  rw [val_main_v5_apply, val_main_v4_apply]
  refine Eq.trans ?_ (Finset.sum_range _).symm
  refine Finset.sum_congr rfl fun k _ => ?_
  show x1 (lidx_main_v4 (idx_main_v5 i) k) * x0 (ridx_main_v4 (idx_main_v5 i) k) = _
  rw [hf, hg, mul_comm (g _ _)]

set_option backward.isDefEq.respectTransparency.types false in
/-- The gradient of the attention projection is the reference's, at every argument. -/
theorem algebraic : Cert.algebraic_Kernel17Ideal_Reference17Ideal := fun m g m' g' _ agree => by
  refine ⟨fun c => Cert.Kernel17Ideal.Value.G2 m c, Cert.Kernel17Ideal.Value.run m g, ?_⟩
  refine (θ_run _ _ _).mono (fun r h c => ?_) (Cert.Reference17Ideal.Value.run (F := Ideal) m' g')
  obtain ⟨g0, g1⟩ := agree c
  obtain ⟨r0, rest⟩ := h c
  refine ⟨r0.trans ((Cert.Reference17Ideal.Read.val_main_v6_eq (F := Ideal) _ _).trans (funext fun i => ?_)), rest⟩
  rw [g0, g1]
  exact (ref _ _ (X2.self _) (X2.self _) i).trans (result m c (X2.self _) (X2.self _) i).symm

end Cert.Attn.ProjDw

/-! ## The gradient of the query's weight -/

namespace Cert.Attn.UqDw

section kernel

open Cert.Kernel25Ideal Cert.Kernel25Ideal.Gen Cert.Kernel25Ideal.Value

section body

variable {F : FTy → Type} [FloatOps F] (c : Dev nD) (i : grid0.Coords) (a3 : Memref sig .tc .vmem S2048x384 .bf16) (h3 : a3.IsWhole) (a4 : Memref sig .tc .vmem S2048x1024 .bf16) (h4 : a4.IsWhole)
    (a5 : Memref sig .tc .vmem S384x1024 .bf16) (h5 : a5.IsWhole) (a6 : Memref sig .tc .vmem S384x1024 .f32) (h6 : a6.IsWhole)
  (x0 : Vec F S2048x384 .bf16) (x1 : Vec F S2048x1024 .bf16)

theorem s_A (hc0 hc1 hc2) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x384) hz2, View.ld_unit_zero (S := S2048x1024) hz2, shapeCast_self]

theorem o_B (hc0 hc1 hc2) (xs : Vec F S384x1024 .f32) :
    out0_B_2 c i a3 h3 a4 h4 a5 h5 a6 h6 hc0 hc1 hc2 x0 x1 xs = k0_pay4 (addf xs (k0_pay1 x0 x1)) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz2, View.readCov_unit_zero (S := S384x1024) _ hz2]
  unfold k0_pay3
  simp only [View.readAt_eq_ld, h6.read_unread, h3.read_unread, h4.read_unread, View.ld_unit_zero (S := S2048x384) hz2, View.ld_unit_zero (S := S2048x1024) hz2,
    View.ld_unit_zero (S := S384x1024) hz2, shapeCast_self]

variable (m : (ℓ : Loc nD τ sig) → Buf (Elt F) ℓ)

theorem out_odd (c : Dev nD) (t t' : Fin cfg0.N) (h : t.val % 2 = 1) (ht : t'.val = t.val - 1) :
    (outsAt0 m c t.val t.isLt).1 = k0_pay4 (F := F) (addf (k0_pay1 (F := F) (iblk m c 0 t') (iblk m c 1 t')) (k0_pay1 (F := F) (iblk m c 0 t) (iblk m c 1 t))) := by
  rw [outsAt0_B m c t (by omega) h h]
  dsimp only
  rw [o_B (F := F)]
  have e : (outsAt0 m c (t.val - 1) (by have := t.isLt; omega)).2 = k0_pay1 (F := F) (iblk m c 0 t') (iblk m c 1 t') := by
    have := outsAt0_A m c t' (by omega) (by omega) (by omega)
    simp only [ht] at this
    rw [this]
    dsimp only
    rw [s_A (F := F)]
  rw [e]

end body

variable (m : (ℓ : Loc nD τ sig) → Buf (Elt Ideal) ℓ) (c : Dev nD)

theorem ix0 : ∀ t : Fin cfg0.N, win0_0.index t = ![t.val % 2, 0] := (by decide +kernel : ∀ t : Fin grid0.N, win0_0.index t = ![t.val % 2, 0])
theorem ix1 : ∀ t : Fin cfg0.N, win0_1.index t = ![t.val % 2, t.val / 2] := (by decide +kernel : ∀ t : Fin grid0.N, win0_1.index t = ![t.val % 2, t.val / 2])

theorem in0 {f : ℕ → ℕ → EReal} (h : X2 (a := 4096) (b := 384) (m ((c : Thread nD τ).loc main_arg0)) f) (t : Fin cfg0.N) :
    X2 (a := 2048) (b := 384) (iblk m c 0 t) fun i j => f (t.val % 2 * 2048 + i) j := by
  intro y
  refine (h _).trans ?_
  blk_simp [ix0]

theorem in1 {f : ℕ → ℕ → EReal} (h : X2 (a := 4096) (b := 2048) (m ((c : Thread nD τ).loc main_arg1)) f) (t : Fin cfg0.N) :
    X2 (a := 2048) (b := 1024) (iblk m c 1 t) fun i j => f (t.val % 2 * 2048 + i) (t.val / 2 * 1024 + j) := by
  intro y
  refine (h _).trans ?_
  blk_simp [ix1]

theorem pay1_x {A : FVec Ideal S2048x384 .bf16} {B : FVec Ideal S2048x1024 .bf16} {f g : ℕ → ℕ → EReal} (hA : X2 A f) (hB : X2 B g) :
    X2 (a := 384) (b := 1024) (k0_pay1 (F := Ideal) A B) fun i j => ∑ k ∈ range 2048, f k i * g k j :=
  X2.tn _ rfl rfl rfl rfl rfl rfl none hA hB X2.zero

theorem pay4_x {A : FVec Ideal S384x1024 .f32} {f : ℕ → ℕ → EReal} (hA : X2 A f) : X2 (a := 384) (b := 1024) (k0_pay4 (F := Ideal) A) f := hA

theorem result {f g : ℕ → ℕ → EReal} (hf : X2 (a := 4096) (b := 384) (m ((c : Thread nD τ).loc main_arg0)) f)
    (hg : X2 (a := 4096) (b := 2048) (m ((c : Thread nD τ).loc main_arg1)) g) : X2 (a := 384) (b := 2048) (G2 m c) fun i j => ∑ k ∈ range 4096, f k i * g k j := fun i => by
  have l0 : (i 0).val < 384 := (i 0).isLt
  have l1 : (i 1).val < 2048 := (i 1).isLt
  have hp : pt2Of i < cfg0.N := lt_of_lt_of_eq (by unfold pt2Of run2Of; omega) N_0.symm
  have hp' : pt2Of i - 1 < cfg0.N := by omega
  unfold G2
  rw [dif_pos hp, ← outsAt0_sweep m c (pt2Of i) hp, out_odd m c ⟨pt2Of i, hp⟩ ⟨pt2Of i - 1, hp'⟩ (by show (2 * run2Of i + 1) % 2 = 1; omega) rfl]
  refine (pay4_x ((pay1_x (in0 m c hf _) (in1 m c hg _)).add (pay1_x (in0 m c hf _) (in1 m c hg _))) (loc2Of i)).trans ?_
  dsimp only
  rw [show (4096 : ℕ) = 2048 + 2048 from rfl, Finset.sum_range_add]
  have e0 : (pt2Of i - 1) % 2 = 0 := by unfold pt2Of; omega
  have e1 : pt2Of i % 2 = 1 := by unfold pt2Of; omega
  have r0 : (i 0).val % 384 = (i 0).val := by omega
  have c0 : (pt2Of i - 1) / 2 * 1024 + (i 1).val % 1024 = (i 1).val := by unfold pt2Of run2Of; omega
  have c1 : pt2Of i / 2 * 1024 + (i 1).val % 1024 = (i 1).val := by unfold pt2Of run2Of; omega
  show (∑ k ∈ range 2048, f ((pt2Of i - 1) % 2 * 2048 + k) ((i 0).val % 384) * g ((pt2Of i - 1) % 2 * 2048 + k) ((pt2Of i - 1) / 2 * 1024 + (i 1).val % 1024))
    + ∑ k ∈ range 2048, f (pt2Of i % 2 * 2048 + k) ((i 0).val % 384) * g (pt2Of i % 2 * 2048 + k) (pt2Of i / 2 * 1024 + (i 1).val % 1024) = _
  rw [e0, e1, r0, c0, c1]
  simp only [Nat.zero_mul, Nat.zero_add, Nat.one_mul]

end kernel

open Cert.Reference25Ideal Cert.Reference25Ideal.Read in
theorem ref {f g : ℕ → ℕ → EReal} (x0 : FVec Ideal S4096x384 .bf16) (x1 : FVec Ideal S4096x2048 .bf16) (hf : X2 (a := 4096) (b := 384) x0 f) (hg : X2 (a := 4096) (b := 2048) x1 g) :
    X2 (a := 384) (b := 2048) (val_main_v6 (F := Ideal) x0 x1) fun i j => ∑ k ∈ range 4096, f k i * g k j := fun i => by
  show val_main_v5 (F := Ideal) x0 x1 i = _
  rw [val_main_v5_apply, val_main_v4_apply]
  refine Eq.trans ?_ (Finset.sum_range _).symm
  refine Finset.sum_congr rfl fun k _ => ?_
  show x1 (lidx_main_v4 (idx_main_v5 i) k) * x0 (ridx_main_v4 (idx_main_v5 i) k) = _
  rw [hf, hg, mul_comm (g _ _)]

set_option backward.isDefEq.respectTransparency.types false in
/-- The gradient of the query's weight is the reference's, at every argument. -/
theorem algebraic : Cert.algebraic_Kernel25Ideal_Reference25Ideal := fun m g m' g' _ agree => by
  refine ⟨fun c => Cert.Kernel25Ideal.Value.G2 m c, Cert.Kernel25Ideal.Value.run m g, ?_⟩
  refine (θ_run _ _ _).mono (fun r h c => ?_) (Cert.Reference25Ideal.Value.run (F := Ideal) m' g')
  obtain ⟨g0, g1⟩ := agree c
  obtain ⟨r0, rest⟩ := h c
  refine ⟨r0.trans ((Cert.Reference25Ideal.Read.val_main_v6_eq (F := Ideal) _ _).trans (funext fun i => ?_)), rest⟩
  rw [g0, g1]
  exact (ref _ _ (X2.self _) (X2.self _) i).trans (result m c (X2.self _) (X2.self _) i).symm

end Cert.Attn.UqDw

/-! ## The gradient of the keys' and values' weight -/

namespace Cert.Attn.UkvDw

section kernel

open Cert.Kernel26Ideal Cert.Kernel26Ideal.Gen Cert.Kernel26Ideal.Value

section body

variable {F : FTy → Type} [FloatOps F] (c : Dev nD) (i : grid0.Coords) (a3 : Memref sig .tc .vmem S2048x256 .bf16) (h3 : a3.IsWhole) (a4 : Memref sig .tc .vmem S2048x1024 .bf16) (h4 : a4.IsWhole)
    (a5 : Memref sig .tc .vmem S256x1024 .bf16) (h5 : a5.IsWhole) (a6 : Memref sig .tc .vmem S256x1024 .f32) (h6 : a6.IsWhole)
  (x0 : Vec F S2048x256 .bf16) (x1 : Vec F S2048x1024 .bf16)

theorem s_A (hc0 hc1 hc2) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x256) hz2, View.ld_unit_zero (S := S2048x1024) hz2, shapeCast_self]

theorem o_B (hc0 hc1 hc2) (xs : Vec F S256x1024 .f32) :
    out0_B_2 c i a3 h3 a4 h4 a5 h5 a6 h6 hc0 hc1 hc2 x0 x1 xs = k0_pay4 (addf xs (k0_pay1 x0 x1)) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz2, View.readCov_unit_zero (S := S256x1024) _ hz2]
  unfold k0_pay3
  simp only [View.readAt_eq_ld, h6.read_unread, h3.read_unread, h4.read_unread, View.ld_unit_zero (S := S2048x256) hz2, View.ld_unit_zero (S := S2048x1024) hz2,
    View.ld_unit_zero (S := S256x1024) hz2, shapeCast_self]

variable (m : (ℓ : Loc nD τ sig) → Buf (Elt F) ℓ)

theorem out_odd (c : Dev nD) (t t' : Fin cfg0.N) (h : t.val % 2 = 1) (ht : t'.val = t.val - 1) :
    (outsAt0 m c t.val t.isLt).1 = k0_pay4 (F := F) (addf (k0_pay1 (F := F) (iblk m c 0 t') (iblk m c 1 t')) (k0_pay1 (F := F) (iblk m c 0 t) (iblk m c 1 t))) := by
  rw [outsAt0_B m c t (by omega) h h]
  dsimp only
  rw [o_B (F := F)]
  have e : (outsAt0 m c (t.val - 1) (by have := t.isLt; omega)).2 = k0_pay1 (F := F) (iblk m c 0 t') (iblk m c 1 t') := by
    have := outsAt0_A m c t' (by omega) (by omega) (by omega)
    simp only [ht] at this
    rw [this]
    dsimp only
    rw [s_A (F := F)]
  rw [e]

end body

variable (m : (ℓ : Loc nD τ sig) → Buf (Elt Ideal) ℓ) (c : Dev nD)

theorem ix0 : ∀ t : Fin cfg0.N, win0_0.index t = ![t.val % 2, 0] := (by decide +kernel : ∀ t : Fin grid0.N, win0_0.index t = ![t.val % 2, 0])
theorem ix1 : ∀ t : Fin cfg0.N, win0_1.index t = ![t.val % 2, t.val / 2] := (by decide +kernel : ∀ t : Fin grid0.N, win0_1.index t = ![t.val % 2, t.val / 2])

theorem in0 {f : ℕ → ℕ → EReal} (h : X2 (a := 4096) (b := 256) (m ((c : Thread nD τ).loc main_arg0)) f) (t : Fin cfg0.N) :
    X2 (a := 2048) (b := 256) (iblk m c 0 t) fun i j => f (t.val % 2 * 2048 + i) j := by
  intro y
  refine (h _).trans ?_
  blk_simp [ix0]

theorem in1 {f : ℕ → ℕ → EReal} (h : X2 (a := 4096) (b := 2048) (m ((c : Thread nD τ).loc main_arg1)) f) (t : Fin cfg0.N) :
    X2 (a := 2048) (b := 1024) (iblk m c 1 t) fun i j => f (t.val % 2 * 2048 + i) (t.val / 2 * 1024 + j) := by
  intro y
  refine (h _).trans ?_
  blk_simp [ix1]

theorem pay1_x {A : FVec Ideal S2048x256 .bf16} {B : FVec Ideal S2048x1024 .bf16} {f g : ℕ → ℕ → EReal} (hA : X2 A f) (hB : X2 B g) :
    X2 (a := 256) (b := 1024) (k0_pay1 (F := Ideal) A B) fun i j => ∑ k ∈ range 2048, f k i * g k j :=
  X2.tn _ rfl rfl rfl rfl rfl rfl none hA hB X2.zero

theorem pay4_x {A : FVec Ideal S256x1024 .f32} {f : ℕ → ℕ → EReal} (hA : X2 A f) : X2 (a := 256) (b := 1024) (k0_pay4 (F := Ideal) A) f := hA

theorem result {f g : ℕ → ℕ → EReal} (hf : X2 (a := 4096) (b := 256) (m ((c : Thread nD τ).loc main_arg0)) f)
    (hg : X2 (a := 4096) (b := 2048) (m ((c : Thread nD τ).loc main_arg1)) g) : X2 (a := 256) (b := 2048) (G2 m c) fun i j => ∑ k ∈ range 4096, f k i * g k j := fun i => by
  have l0 : (i 0).val < 256 := (i 0).isLt
  have l1 : (i 1).val < 2048 := (i 1).isLt
  have hp : pt2Of i < cfg0.N := lt_of_lt_of_eq (by unfold pt2Of run2Of; omega) N_0.symm
  have hp' : pt2Of i - 1 < cfg0.N := by omega
  unfold G2
  rw [dif_pos hp, ← outsAt0_sweep m c (pt2Of i) hp, out_odd m c ⟨pt2Of i, hp⟩ ⟨pt2Of i - 1, hp'⟩ (by show (2 * run2Of i + 1) % 2 = 1; omega) rfl]
  refine (pay4_x ((pay1_x (in0 m c hf _) (in1 m c hg _)).add (pay1_x (in0 m c hf _) (in1 m c hg _))) (loc2Of i)).trans ?_
  dsimp only
  rw [show (4096 : ℕ) = 2048 + 2048 from rfl, Finset.sum_range_add]
  have e0 : (pt2Of i - 1) % 2 = 0 := by unfold pt2Of; omega
  have e1 : pt2Of i % 2 = 1 := by unfold pt2Of; omega
  have r0 : (i 0).val % 256 = (i 0).val := by omega
  have c0 : (pt2Of i - 1) / 2 * 1024 + (i 1).val % 1024 = (i 1).val := by unfold pt2Of run2Of; omega
  have c1 : pt2Of i / 2 * 1024 + (i 1).val % 1024 = (i 1).val := by unfold pt2Of run2Of; omega
  show (∑ k ∈ range 2048, f ((pt2Of i - 1) % 2 * 2048 + k) ((i 0).val % 256) * g ((pt2Of i - 1) % 2 * 2048 + k) ((pt2Of i - 1) / 2 * 1024 + (i 1).val % 1024))
    + ∑ k ∈ range 2048, f (pt2Of i % 2 * 2048 + k) ((i 0).val % 256) * g (pt2Of i % 2 * 2048 + k) (pt2Of i / 2 * 1024 + (i 1).val % 1024) = _
  rw [e0, e1, r0, c0, c1]
  simp only [Nat.zero_mul, Nat.zero_add, Nat.one_mul]

end kernel

open Cert.Reference26Ideal Cert.Reference26Ideal.Read in
theorem ref {f g : ℕ → ℕ → EReal} (x0 : FVec Ideal S4096x256 .bf16) (x1 : FVec Ideal S4096x2048 .bf16) (hf : X2 (a := 4096) (b := 256) x0 f) (hg : X2 (a := 4096) (b := 2048) x1 g) :
    X2 (a := 256) (b := 2048) (val_main_v6 (F := Ideal) x0 x1) fun i j => ∑ k ∈ range 4096, f k i * g k j := fun i => by
  show val_main_v5 (F := Ideal) x0 x1 i = _
  rw [val_main_v5_apply, val_main_v4_apply]
  refine Eq.trans ?_ (Finset.sum_range _).symm
  refine Finset.sum_congr rfl fun k _ => ?_
  show x1 (lidx_main_v4 (idx_main_v5 i) k) * x0 (ridx_main_v4 (idx_main_v5 i) k) = _
  rw [hf, hg, mul_comm (g _ _)]

set_option backward.isDefEq.respectTransparency.types false in
/-- The gradient of the keys' and values' weight is the reference's, at every argument. -/
theorem algebraic : Cert.algebraic_Kernel26Ideal_Reference26Ideal := fun m g m' g' _ agree => by
  refine ⟨fun c => Cert.Kernel26Ideal.Value.G2 m c, Cert.Kernel26Ideal.Value.run m g, ?_⟩
  refine (θ_run _ _ _).mono (fun r h c => ?_) (Cert.Reference26Ideal.Value.run (F := Ideal) m' g')
  obtain ⟨g0, g1⟩ := agree c
  obtain ⟨r0, rest⟩ := h c
  refine ⟨r0.trans ((Cert.Reference26Ideal.Read.val_main_v6_eq (F := Ideal) _ _).trans (funext fun i => ?_)), rest⟩
  rw [g0, g1]
  exact (ref _ _ (X2.self _) (X2.self _) i).trans (result m c (X2.self _) (X2.self _) i).symm

end Cert.Attn.UkvDw

/-! ## The gradient of the latents' columns of the first weight -/

namespace Cert.Attn.LatDw

section kernel

open Cert.Kernel27Ideal Cert.Kernel27Ideal.Gen Cert.Kernel27Ideal.Value

section body

variable {F : FTy → Type} [FloatOps F] (c : Dev nD) (i : grid0.Coords) (a3 : Memref sig .tc .vmem S2048x1024 .bf16) (h3 : a3.IsWhole) (a4 : Memref sig .tc .vmem S2048x768 .bf16) (h4 : a4.IsWhole)
    (a5 : Memref sig .tc .vmem S1024x768 .bf16) (h5 : a5.IsWhole) (a6 : Memref sig .tc .vmem S1024x768 .f32) (h6 : a6.IsWhole)
  (x0 : Vec F S2048x1024 .bf16) (x1 : Vec F S2048x768 .bf16)

theorem s_A (hc0 hc1 hc2) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x1024) hz2, View.ld_unit_zero (S := S2048x768) hz2, shapeCast_self]

theorem o_B (hc0 hc1 hc2) (xs : Vec F S1024x768 .f32) :
    out0_B_2 c i a3 h3 a4 h4 a5 h5 a6 h6 hc0 hc1 hc2 x0 x1 xs = k0_pay4 (addf xs (k0_pay1 x0 x1)) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz2, View.readCov_unit_zero (S := S1024x768) _ hz2]
  unfold k0_pay3
  simp only [View.readAt_eq_ld, h6.read_unread, h3.read_unread, h4.read_unread, View.ld_unit_zero (S := S2048x1024) hz2, View.ld_unit_zero (S := S2048x768) hz2,
    View.ld_unit_zero (S := S1024x768) hz2, shapeCast_self]

variable (m : (ℓ : Loc nD τ sig) → Buf (Elt F) ℓ)

theorem out_odd (c : Dev nD) (t t' : Fin cfg0.N) (h : t.val % 2 = 1) (ht : t'.val = t.val - 1) :
    (outsAt0 m c t.val t.isLt).1 = k0_pay4 (F := F) (addf (k0_pay1 (F := F) (iblk m c 0 t') (iblk m c 1 t')) (k0_pay1 (F := F) (iblk m c 0 t) (iblk m c 1 t))) := by
  rw [outsAt0_B m c t (by omega) h h]
  dsimp only
  rw [o_B (F := F)]
  have e : (outsAt0 m c (t.val - 1) (by have := t.isLt; omega)).2 = k0_pay1 (F := F) (iblk m c 0 t') (iblk m c 1 t') := by
    have := outsAt0_A m c t' (by omega) (by omega) (by omega)
    simp only [ht] at this
    rw [this]
    dsimp only
    rw [s_A (F := F)]
  rw [e]

end body

variable (m : (ℓ : Loc nD τ sig) → Buf (Elt Ideal) ℓ) (c : Dev nD)

theorem ix0 : ∀ t : Fin cfg0.N, win0_0.index t = ![t.val % 2, 0] := (by decide +kernel : ∀ t : Fin grid0.N, win0_0.index t = ![t.val % 2, 0])
theorem ix1 : ∀ t : Fin cfg0.N, win0_1.index t = ![t.val % 2, 0] := (by decide +kernel : ∀ t : Fin grid0.N, win0_1.index t = ![t.val % 2, 0])

theorem in0 {f : ℕ → ℕ → EReal} (h : X2 (a := 4096) (b := 1024) (m ((c : Thread nD τ).loc main_arg0)) f) (t : Fin cfg0.N) :
    X2 (a := 2048) (b := 1024) (iblk m c 0 t) fun i j => f (t.val % 2 * 2048 + i) j := by
  intro y
  refine (h _).trans ?_
  blk_simp [ix0]

theorem in1 {f : ℕ → ℕ → EReal} (h : X2 (a := 4096) (b := 768) (m ((c : Thread nD τ).loc main_arg1)) f) (t : Fin cfg0.N) :
    X2 (a := 2048) (b := 768) (iblk m c 1 t) fun i j => f (t.val % 2 * 2048 + i) j := by
  intro y
  refine (h _).trans ?_
  blk_simp [ix1]

theorem pay1_x {A : FVec Ideal S2048x1024 .bf16} {B : FVec Ideal S2048x768 .bf16} {f g : ℕ → ℕ → EReal} (hA : X2 A f) (hB : X2 B g) :
    X2 (a := 1024) (b := 768) (k0_pay1 (F := Ideal) A B) fun i j => ∑ k ∈ range 2048, f k i * g k j :=
  X2.tn _ rfl rfl rfl rfl rfl rfl none hA hB X2.zero

theorem pay4_x {A : FVec Ideal S1024x768 .f32} {f : ℕ → ℕ → EReal} (hA : X2 A f) : X2 (a := 1024) (b := 768) (k0_pay4 (F := Ideal) A) f := hA

theorem result {f g : ℕ → ℕ → EReal} (hf : X2 (a := 4096) (b := 1024) (m ((c : Thread nD τ).loc main_arg0)) f)
    (hg : X2 (a := 4096) (b := 768) (m ((c : Thread nD τ).loc main_arg1)) g) : X2 (a := 1024) (b := 768) (G2 m c) fun i j => ∑ k ∈ range 4096, f k i * g k j := fun i => by
  have l0 : (i 0).val < 1024 := (i 0).isLt
  have l1 : (i 1).val < 768 := (i 1).isLt
  have hp : pt2Of i < cfg0.N := lt_of_lt_of_eq (by unfold pt2Of run2Of; omega) N_0.symm
  have hp' : pt2Of i - 1 < cfg0.N := by omega
  unfold G2
  rw [dif_pos hp, ← outsAt0_sweep m c (pt2Of i) hp, out_odd m c ⟨pt2Of i, hp⟩ ⟨pt2Of i - 1, hp'⟩ (by show (2 * run2Of i + 1) % 2 = 1; omega) rfl]
  refine (pay4_x ((pay1_x (in0 m c hf _) (in1 m c hg _)).add (pay1_x (in0 m c hf _) (in1 m c hg _))) (loc2Of i)).trans ?_
  dsimp only
  rw [show (4096 : ℕ) = 2048 + 2048 from rfl, Finset.sum_range_add]
  have e0 : (pt2Of i - 1) % 2 = 0 := by unfold pt2Of; omega
  have e1 : pt2Of i % 2 = 1 := by unfold pt2Of; omega
  have r0 : (i 0).val % 1024 = (i 0).val := by omega
  have c0 : (i 1).val % 768 = (i 1).val := by omega
  show (∑ k ∈ range 2048, f ((pt2Of i - 1) % 2 * 2048 + k) ((i 0).val % 1024) * g ((pt2Of i - 1) % 2 * 2048 + k) ((i 1).val % 768))
    + ∑ k ∈ range 2048, f (pt2Of i % 2 * 2048 + k) ((i 0).val % 1024) * g (pt2Of i % 2 * 2048 + k) ((i 1).val % 768) = _
  rw [e0, e1, r0, c0]
  simp only [Nat.zero_mul, Nat.zero_add, Nat.one_mul]

end kernel

open Cert.Reference27Ideal Cert.Reference27Ideal.Read in
theorem ref {f g : ℕ → ℕ → EReal} (x0 : FVec Ideal S4096x1024 .bf16) (x1 : FVec Ideal S4096x768 .bf16) (hf : X2 (a := 4096) (b := 1024) x0 f) (hg : X2 (a := 4096) (b := 768) x1 g) :
    X2 (a := 1024) (b := 768) (val_main_v6 (F := Ideal) x0 x1) fun i j => ∑ k ∈ range 4096, f k i * g k j := fun i => by
  show val_main_v5 (F := Ideal) x0 x1 i = _
  rw [val_main_v5_apply, val_main_v4_apply]
  refine Eq.trans ?_ (Finset.sum_range _).symm
  refine Finset.sum_congr rfl fun k _ => ?_
  show x1 (lidx_main_v4 (idx_main_v5 i) k) * x0 (ridx_main_v4 (idx_main_v5 i) k) = _
  rw [hf, hg, mul_comm (g _ _)]

set_option backward.isDefEq.respectTransparency.types false in
/-- The gradient of the latents' columns of the first weight is the reference's, at every argument. -/
theorem algebraic : Cert.algebraic_Kernel27Ideal_Reference27Ideal := fun m g m' g' _ agree => by
  refine ⟨fun c => Cert.Kernel27Ideal.Value.G2 m c, Cert.Kernel27Ideal.Value.run m g, ?_⟩
  refine (θ_run _ _ _).mono (fun r h c => ?_) (Cert.Reference27Ideal.Value.run (F := Ideal) m' g')
  obtain ⟨g0, g1⟩ := agree c
  obtain ⟨r0, rest⟩ := h c
  refine ⟨r0.trans ((Cert.Reference27Ideal.Read.val_main_v6_eq (F := Ideal) _ _).trans (funext fun i => ?_)), rest⟩
  rw [g0, g1]
  exact (ref _ _ (X2.self _) (X2.self _) i).trans (result m c (X2.self _) (X2.self _) i).symm

end Cert.Attn.LatDw

/-! ## The gradient of the pool's columns of the first weight -/

namespace Cert.Attn.PoolInDw

section kernel

open Cert.Kernel28Ideal Cert.Kernel28Ideal.Gen Cert.Kernel28Ideal.Value

section body

variable {F : FTy → Type} [FloatOps F] (c : Dev nD) (i : grid0.Coords) (a3 : Memref sig .tc .vmem S2048x1024 .bf16) (h3 : a3.IsWhole) (a4 : Memref sig .tc .vmem S2048x512 .bf16) (h4 : a4.IsWhole)
    (a5 : Memref sig .tc .vmem S1024x512 .bf16) (h5 : a5.IsWhole) (a6 : Memref sig .tc .vmem S1024x512 .f32) (h6 : a6.IsWhole)
  (x0 : Vec F S2048x1024 .bf16) (x1 : Vec F S2048x512 .bf16)

theorem s_A (hc0 hc1 hc2) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x1024) hz2, View.ld_unit_zero (S := S2048x512) hz2, shapeCast_self]

theorem o_B (hc0 hc1 hc2) (xs : Vec F S1024x512 .f32) :
    out0_B_2 c i a3 h3 a4 h4 a5 h5 a6 h6 hc0 hc1 hc2 x0 x1 xs = k0_pay4 (addf xs (k0_pay1 x0 x1)) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz2, View.readCov_unit_zero (S := S1024x512) _ hz2]
  unfold k0_pay3
  simp only [View.readAt_eq_ld, h6.read_unread, h3.read_unread, h4.read_unread, View.ld_unit_zero (S := S2048x1024) hz2, View.ld_unit_zero (S := S2048x512) hz2,
    View.ld_unit_zero (S := S1024x512) hz2, shapeCast_self]

variable (m : (ℓ : Loc nD τ sig) → Buf (Elt F) ℓ)

theorem out_odd (c : Dev nD) (t t' : Fin cfg0.N) (h : t.val % 2 = 1) (ht : t'.val = t.val - 1) :
    (outsAt0 m c t.val t.isLt).1 = k0_pay4 (F := F) (addf (k0_pay1 (F := F) (iblk m c 0 t') (iblk m c 1 t')) (k0_pay1 (F := F) (iblk m c 0 t) (iblk m c 1 t))) := by
  rw [outsAt0_B m c t (by omega) h h]
  dsimp only
  rw [o_B (F := F)]
  have e : (outsAt0 m c (t.val - 1) (by have := t.isLt; omega)).2 = k0_pay1 (F := F) (iblk m c 0 t') (iblk m c 1 t') := by
    have := outsAt0_A m c t' (by omega) (by omega) (by omega)
    simp only [ht] at this
    rw [this]
    dsimp only
    rw [s_A (F := F)]
  rw [e]

end body

variable (m : (ℓ : Loc nD τ sig) → Buf (Elt Ideal) ℓ) (c : Dev nD)

theorem ix0 : ∀ t : Fin cfg0.N, win0_0.index t = ![t.val % 2, 0] := (by decide +kernel : ∀ t : Fin grid0.N, win0_0.index t = ![t.val % 2, 0])
theorem ix1 : ∀ t : Fin cfg0.N, win0_1.index t = ![t.val % 2, 0] := (by decide +kernel : ∀ t : Fin grid0.N, win0_1.index t = ![t.val % 2, 0])

theorem in0 {f : ℕ → ℕ → EReal} (h : X2 (a := 4096) (b := 1024) (m ((c : Thread nD τ).loc main_arg0)) f) (t : Fin cfg0.N) :
    X2 (a := 2048) (b := 1024) (iblk m c 0 t) fun i j => f (t.val % 2 * 2048 + i) j := by
  intro y
  refine (h _).trans ?_
  blk_simp [ix0]

theorem in1 {f : ℕ → ℕ → EReal} (h : X2 (a := 4096) (b := 512) (m ((c : Thread nD τ).loc main_arg1)) f) (t : Fin cfg0.N) :
    X2 (a := 2048) (b := 512) (iblk m c 1 t) fun i j => f (t.val % 2 * 2048 + i) j := by
  intro y
  refine (h _).trans ?_
  blk_simp [ix1]

theorem pay1_x {A : FVec Ideal S2048x1024 .bf16} {B : FVec Ideal S2048x512 .bf16} {f g : ℕ → ℕ → EReal} (hA : X2 A f) (hB : X2 B g) :
    X2 (a := 1024) (b := 512) (k0_pay1 (F := Ideal) A B) fun i j => ∑ k ∈ range 2048, f k i * g k j :=
  X2.tn _ rfl rfl rfl rfl rfl rfl none hA hB X2.zero

theorem pay4_x {A : FVec Ideal S1024x512 .f32} {f : ℕ → ℕ → EReal} (hA : X2 A f) : X2 (a := 1024) (b := 512) (k0_pay4 (F := Ideal) A) f := hA

theorem result {f g : ℕ → ℕ → EReal} (hf : X2 (a := 4096) (b := 1024) (m ((c : Thread nD τ).loc main_arg0)) f)
    (hg : X2 (a := 4096) (b := 512) (m ((c : Thread nD τ).loc main_arg1)) g) : X2 (a := 1024) (b := 512) (G2 m c) fun i j => ∑ k ∈ range 4096, f k i * g k j := fun i => by
  have l0 : (i 0).val < 1024 := (i 0).isLt
  have l1 : (i 1).val < 512 := (i 1).isLt
  have hp : pt2Of i < cfg0.N := lt_of_lt_of_eq (by unfold pt2Of run2Of; omega) N_0.symm
  have hp' : pt2Of i - 1 < cfg0.N := by omega
  unfold G2
  rw [dif_pos hp, ← outsAt0_sweep m c (pt2Of i) hp, out_odd m c ⟨pt2Of i, hp⟩ ⟨pt2Of i - 1, hp'⟩ (by show (2 * run2Of i + 1) % 2 = 1; omega) rfl]
  refine (pay4_x ((pay1_x (in0 m c hf _) (in1 m c hg _)).add (pay1_x (in0 m c hf _) (in1 m c hg _))) (loc2Of i)).trans ?_
  dsimp only
  rw [show (4096 : ℕ) = 2048 + 2048 from rfl, Finset.sum_range_add]
  have e0 : (pt2Of i - 1) % 2 = 0 := by unfold pt2Of; omega
  have e1 : pt2Of i % 2 = 1 := by unfold pt2Of; omega
  have r0 : (i 0).val % 1024 = (i 0).val := by omega
  have c0 : (i 1).val % 512 = (i 1).val := by omega
  show (∑ k ∈ range 2048, f ((pt2Of i - 1) % 2 * 2048 + k) ((i 0).val % 1024) * g ((pt2Of i - 1) % 2 * 2048 + k) ((i 1).val % 512))
    + ∑ k ∈ range 2048, f (pt2Of i % 2 * 2048 + k) ((i 0).val % 1024) * g (pt2Of i % 2 * 2048 + k) ((i 1).val % 512) = _
  rw [e0, e1, r0, c0]
  simp only [Nat.zero_mul, Nat.zero_add, Nat.one_mul]

end kernel

open Cert.Reference28Ideal Cert.Reference28Ideal.Read in
theorem ref {f g : ℕ → ℕ → EReal} (x0 : FVec Ideal S4096x1024 .bf16) (x1 : FVec Ideal S4096x512 .bf16) (hf : X2 (a := 4096) (b := 1024) x0 f) (hg : X2 (a := 4096) (b := 512) x1 g) :
    X2 (a := 1024) (b := 512) (val_main_v6 (F := Ideal) x0 x1) fun i j => ∑ k ∈ range 4096, f k i * g k j := fun i => by
  show val_main_v5 (F := Ideal) x0 x1 i = _
  rw [val_main_v5_apply, val_main_v4_apply]
  refine Eq.trans ?_ (Finset.sum_range _).symm
  refine Finset.sum_congr rfl fun k _ => ?_
  show x1 (lidx_main_v4 (idx_main_v5 i) k) * x0 (ridx_main_v4 (idx_main_v5 i) k) = _
  rw [hf, hg, mul_comm (g _ _)]

set_option backward.isDefEq.respectTransparency.types false in
/-- The gradient of the pool's columns of the first weight is the reference's, at every argument. -/
theorem algebraic : Cert.algebraic_Kernel28Ideal_Reference28Ideal := fun m g m' g' _ agree => by
  refine ⟨fun c => Cert.Kernel28Ideal.Value.G2 m c, Cert.Kernel28Ideal.Value.run m g, ?_⟩
  refine (θ_run _ _ _).mono (fun r h c => ?_) (Cert.Reference28Ideal.Value.run (F := Ideal) m' g')
  obtain ⟨g0, g1⟩ := agree c
  obtain ⟨r0, rest⟩ := h c
  refine ⟨r0.trans ((Cert.Reference28Ideal.Read.val_main_v6_eq (F := Ideal) _ _).trans (funext fun i => ?_)), rest⟩
  rw [g0, g1]
  exact (ref _ _ (X2.self _) (X2.self _) i).trans (result m c (X2.self _) (X2.self _) i).symm

end Cert.Attn.PoolInDw

/-! ## The gradient of the pool's output weight -/

namespace Cert.Attn.PoolDw

section kernel

open Cert.Kernel29Ideal Cert.Kernel29Ideal.Gen Cert.Kernel29Ideal.Value

section body

variable {F : FTy → Type} [FloatOps F] (c : Dev nD) (i : grid0.Coords) (a3 : Memref sig .tc .vmem S2048x512 .bf16) (h3 : a3.IsWhole) (a4 : Memref sig .tc .vmem S2048x1024 .bf16) (h4 : a4.IsWhole)
    (a5 : Memref sig .tc .vmem S512x1024 .bf16) (h5 : a5.IsWhole) (a6 : Memref sig .tc .vmem S512x1024 .f32) (h6 : a6.IsWhole)
  (x0 : Vec F S2048x512 .bf16) (x1 : Vec F S2048x1024 .bf16)

theorem s_A (hc0 hc1 hc2) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz2]
  unfold k0_pay2
  simp only [View.readAt_eq_ld, h3.read_unread, h4.read_unread, View.ld_unit_zero (S := S2048x512) hz2, View.ld_unit_zero (S := S2048x1024) hz2, shapeCast_self]

theorem o_B (hc0 hc1 hc2) (xs : Vec F S512x1024 .f32) :
    out0_B_2 c i a3 h3 a4 h4 a5 h5 a6 h6 hc0 hc1 hc2 x0 x1 xs = k0_pay4 (addf xs (k0_pay1 x0 x1)) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz2, View.readCov_unit_zero (S := S512x1024) _ hz2]
  unfold k0_pay3
  simp only [View.readAt_eq_ld, h6.read_unread, h3.read_unread, h4.read_unread, View.ld_unit_zero (S := S2048x512) hz2, View.ld_unit_zero (S := S2048x1024) hz2,
    View.ld_unit_zero (S := S512x1024) hz2, shapeCast_self]

variable (m : (ℓ : Loc nD τ sig) → Buf (Elt F) ℓ)

theorem out_odd (c : Dev nD) (t t' : Fin cfg0.N) (h : t.val % 2 = 1) (ht : t'.val = t.val - 1) :
    (outsAt0 m c t.val t.isLt).1 = k0_pay4 (F := F) (addf (k0_pay1 (F := F) (iblk m c 0 t') (iblk m c 1 t')) (k0_pay1 (F := F) (iblk m c 0 t) (iblk m c 1 t))) := by
  rw [outsAt0_B m c t (by omega) h h]
  dsimp only
  rw [o_B (F := F)]
  have e : (outsAt0 m c (t.val - 1) (by have := t.isLt; omega)).2 = k0_pay1 (F := F) (iblk m c 0 t') (iblk m c 1 t') := by
    have := outsAt0_A m c t' (by omega) (by omega) (by omega)
    simp only [ht] at this
    rw [this]
    dsimp only
    rw [s_A (F := F)]
  rw [e]

end body

variable (m : (ℓ : Loc nD τ sig) → Buf (Elt Ideal) ℓ) (c : Dev nD)

theorem ix0 : ∀ t : Fin cfg0.N, win0_0.index t = ![t.val % 2, 0] := (by decide +kernel : ∀ t : Fin grid0.N, win0_0.index t = ![t.val % 2, 0])
theorem ix1 : ∀ t : Fin cfg0.N, win0_1.index t = ![t.val % 2, 0] := (by decide +kernel : ∀ t : Fin grid0.N, win0_1.index t = ![t.val % 2, 0])

theorem in0 {f : ℕ → ℕ → EReal} (h : X2 (a := 4096) (b := 512) (m ((c : Thread nD τ).loc main_arg0)) f) (t : Fin cfg0.N) :
    X2 (a := 2048) (b := 512) (iblk m c 0 t) fun i j => f (t.val % 2 * 2048 + i) j := by
  intro y
  refine (h _).trans ?_
  blk_simp [ix0]

theorem in1 {f : ℕ → ℕ → EReal} (h : X2 (a := 4096) (b := 1024) (m ((c : Thread nD τ).loc main_arg1)) f) (t : Fin cfg0.N) :
    X2 (a := 2048) (b := 1024) (iblk m c 1 t) fun i j => f (t.val % 2 * 2048 + i) j := by
  intro y
  refine (h _).trans ?_
  blk_simp [ix1]

theorem pay1_x {A : FVec Ideal S2048x512 .bf16} {B : FVec Ideal S2048x1024 .bf16} {f g : ℕ → ℕ → EReal} (hA : X2 A f) (hB : X2 B g) :
    X2 (a := 512) (b := 1024) (k0_pay1 (F := Ideal) A B) fun i j => ∑ k ∈ range 2048, f k i * g k j :=
  X2.tn _ rfl rfl rfl rfl rfl rfl none hA hB X2.zero

theorem pay4_x {A : FVec Ideal S512x1024 .f32} {f : ℕ → ℕ → EReal} (hA : X2 A f) : X2 (a := 512) (b := 1024) (k0_pay4 (F := Ideal) A) f := hA

theorem result {f g : ℕ → ℕ → EReal} (hf : X2 (a := 4096) (b := 512) (m ((c : Thread nD τ).loc main_arg0)) f)
    (hg : X2 (a := 4096) (b := 1024) (m ((c : Thread nD τ).loc main_arg1)) g) : X2 (a := 512) (b := 1024) (G2 m c) fun i j => ∑ k ∈ range 4096, f k i * g k j := fun i => by
  have l0 : (i 0).val < 512 := (i 0).isLt
  have l1 : (i 1).val < 1024 := (i 1).isLt
  have hp : pt2Of i < cfg0.N := lt_of_lt_of_eq (by unfold pt2Of run2Of; omega) N_0.symm
  have hp' : pt2Of i - 1 < cfg0.N := by omega
  unfold G2
  rw [dif_pos hp, ← outsAt0_sweep m c (pt2Of i) hp, out_odd m c ⟨pt2Of i, hp⟩ ⟨pt2Of i - 1, hp'⟩ (by show (2 * run2Of i + 1) % 2 = 1; omega) rfl]
  refine (pay4_x ((pay1_x (in0 m c hf _) (in1 m c hg _)).add (pay1_x (in0 m c hf _) (in1 m c hg _))) (loc2Of i)).trans ?_
  dsimp only
  rw [show (4096 : ℕ) = 2048 + 2048 from rfl, Finset.sum_range_add]
  have e0 : (pt2Of i - 1) % 2 = 0 := by unfold pt2Of; omega
  have e1 : pt2Of i % 2 = 1 := by unfold pt2Of; omega
  have r0 : (i 0).val % 512 = (i 0).val := by omega
  have c0 : (i 1).val % 1024 = (i 1).val := by omega
  show (∑ k ∈ range 2048, f ((pt2Of i - 1) % 2 * 2048 + k) ((i 0).val % 512) * g ((pt2Of i - 1) % 2 * 2048 + k) ((i 1).val % 1024))
    + ∑ k ∈ range 2048, f (pt2Of i % 2 * 2048 + k) ((i 0).val % 512) * g (pt2Of i % 2 * 2048 + k) ((i 1).val % 1024) = _
  rw [e0, e1, r0, c0]
  simp only [Nat.zero_mul, Nat.zero_add, Nat.one_mul]

end kernel

open Cert.Reference29Ideal Cert.Reference29Ideal.Read in
theorem ref {f g : ℕ → ℕ → EReal} (x0 : FVec Ideal S4096x512 .bf16) (x1 : FVec Ideal S4096x1024 .bf16) (hf : X2 (a := 4096) (b := 512) x0 f) (hg : X2 (a := 4096) (b := 1024) x1 g) :
    X2 (a := 512) (b := 1024) (val_main_v6 (F := Ideal) x0 x1) fun i j => ∑ k ∈ range 4096, f k i * g k j := fun i => by
  show val_main_v5 (F := Ideal) x0 x1 i = _
  rw [val_main_v5_apply, val_main_v4_apply]
  refine Eq.trans ?_ (Finset.sum_range _).symm
  refine Finset.sum_congr rfl fun k _ => ?_
  show x1 (lidx_main_v4 (idx_main_v5 i) k) * x0 (ridx_main_v4 (idx_main_v5 i) k) = _
  rw [hf, hg, mul_comm (g _ _)]

set_option backward.isDefEq.respectTransparency.types false in
/-- The gradient of the pool's output weight is the reference's, at every argument. -/
theorem algebraic : Cert.algebraic_Kernel29Ideal_Reference29Ideal := fun m g m' g' _ agree => by
  refine ⟨fun c => Cert.Kernel29Ideal.Value.G2 m c, Cert.Kernel29Ideal.Value.run m g, ?_⟩
  refine (θ_run _ _ _).mono (fun r h c => ?_) (Cert.Reference29Ideal.Value.run (F := Ideal) m' g')
  obtain ⟨g0, g1⟩ := agree c
  obtain ⟨r0, rest⟩ := h c
  refine ⟨r0.trans ((Cert.Reference29Ideal.Read.val_main_v6_eq (F := Ideal) _ _).trans (funext fun i => ?_)), rest⟩
  rw [g0, g1]
  exact (ref _ _ (X2.self _) (X2.self _) i).trans (result m c (X2.self _) (X2.self _) i).symm

end Cert.Attn.PoolDw

end
-- ==== Proof.Products.lean ====
/- The plain products around the mixer's branches, and their inputs' gradients: a block of rows at a time. -/
module

public import proofs.«01_k».proof.Defs
public import proofs.«01_k».proof.Proof.Ext
public import Idealize.ShloMosaic.Lib.Pipeline.ValueKit
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24Ideal.Value
public import proofs.«01_k».proof.Proof.Gen.Reference24Ideal.Run
public import proofs.«01_k».proof.Proof.Gen.Reference24Ideal.Read

@[expose] public section

set_option maxRecDepth 16384

noncomputable section

open Idealize.ShloMosaic Idealize.ShloMosaic.TcCoe Idealize.SL.Sem
open scoped BigOperators
open Finset (range)

/-! ## The gradient of the attention projection's input -/

namespace Cert.Attn.ProjDx

section kernel

open Cert.Kernel18Ideal Cert.Kernel18Ideal.Gen Cert.Kernel18Ideal.Value

theorem out_x {A : FVec Ideal S1024x1024 .bf16} {B : FVec Ideal S1024x1024 .bf16} {f g : ℕ → ℕ → EReal} (hA : X2 A f) (hB : X2 B g) :
    X2 (a := 1024) (b := 1024) (out0_2 (F := Ideal) A B) fun i j => ∑ k ∈ range 1024, f i k * g j k := by
  unfold out0_2
  rw [View.canon_unit_zero hz2, View.ld_unit_zero (S := S1024x1024) hz2, View.ld_unit_zero (S := S1024x1024) hz2]
  exact X2.nt _ rfl none hA hB X2.zero

variable (m : (ℓ : Loc nD τ sig) → Buf (Elt Ideal) ℓ) (c : Dev nD)

theorem ix0 : ∀ t : Fin cfg0.N, win0_0.index t = ![t.val, 0] := (by decide +kernel : ∀ t : Fin grid0.N, win0_0.index t = ![t.val, 0])
theorem ix1 : ∀ t : Fin cfg0.N, win0_1.index t = ![0, 0] := (by decide +kernel : ∀ t : Fin grid0.N, win0_1.index t = ![0, 0])
theorem ix2 : ∀ t : Fin cfg0.N, win0_2.index t = ![t.val, 0] := (by decide +kernel : ∀ t : Fin grid0.N, win0_2.index t = ![t.val, 0])

theorem in0 {f : ℕ → ℕ → EReal} (h : X2 (a := 4096) (b := 1024) (m ((c : Thread nD τ).loc main_arg0)) f) (t : Fin cfg0.N) :
    X2 (a := 1024) (b := 1024) (iblk m c 0 t) fun i j => f (t.val * 1024 + i) j := by
  intro y
  refine (h _).trans ?_
  blk_simp [ix0]

theorem in1 {g : ℕ → ℕ → EReal} (h : X2 (a := 1024) (b := 1024) (m ((c : Thread nD τ).loc main_arg1)) g) (t : Fin cfg0.N) :
    X2 (a := 1024) (b := 1024) (iblk m c 1 t) (fun i j => g i j) := by
  intro y
  refine (h _).trans ?_
  blk_simp [ix1]

theorem result {f g : ℕ → ℕ → EReal} (hf : X2 (a := 4096) (b := 1024) (m ((c : Thread nD τ).loc main_arg0)) f) (hg : X2 (a := 1024) (b := 1024) (m ((c : Thread nD τ).loc main_arg1)) g)
    (G : FVec Ideal S4096x1024 .bf16) (hG : X2 (a := 4096) (b := 1024) G fun i j => ∑ k ∈ range 1024, f i k * g j k) : (dats m 0 c).arrAt 2 cfg0.N = G := by
  refine (dats m 0 c).arrAt_eq_of_covers 2 _ (by decide +kernel) fun t hf' y => ?_
  blk_simp
  rw [after0_2]
  refine (out_x (in0 m c hf t) (in1 m c hg t) y).trans (Eq.trans ?_ (hG _).symm)
  blk_simp [ix2]

end kernel

open Cert.Reference18Ideal Cert.Reference18Ideal.Read in
theorem ref {f g : ℕ → ℕ → EReal} (x0 : FVec Ideal S4096x1024 .bf16) (x1 : FVec Ideal S1024x1024 .bf16) (hf : X2 (a := 4096) (b := 1024) x0 f) (hg : X2 (a := 1024) (b := 1024) x1 g) :
    X2 (a := 4096) (b := 1024) (val_main_v5 (F := Ideal) x0 x1) fun i j => ∑ k ∈ range 1024, f i k * g j k := fun i => by
  show val_main_v4 (F := Ideal) x0 x1 i = _
  rw [val_main_v4_apply]
  refine Eq.trans ?_ (Finset.sum_range _).symm
  refine Finset.sum_congr rfl fun k _ => ?_
  show x0 (lidx_main_v4 i k) * x1 (ridx_main_v4 i k) = _
  rw [hf, hg]

set_option backward.isDefEq.respectTransparency.types false in
/-- The gradient of the attention projection's input is the reference's, at every argument. -/
theorem algebraic : Cert.algebraic_Kernel18Ideal_Reference18Ideal := fun m g m' g' _ agree => by
  refine ⟨_, Cert.Kernel18Ideal.Value.run_blocks m g, ?_⟩
  refine (θ_run _ _ _).mono (fun r h c => ?_) (Cert.Reference18Ideal.Value.run (F := Ideal) m' g')
  obtain ⟨g0, g1⟩ := agree c
  obtain ⟨r0, rest⟩ := h c
  refine ⟨r0.trans ((Cert.Reference18Ideal.Read.val_main_v5_eq (F := Ideal) _ _).trans ?_), rest⟩
  rw [g0, g1]
  exact (result m c (X2.self _) (X2.self _) _ (ref _ _ (X2.self _) (X2.self _))).symm

end Cert.Attn.ProjDx

/-! ## The query's product with its weight -/

namespace Cert.Attn.Uq

section kernel

open Cert.Kernel19Ideal Cert.Kernel19Ideal.Gen Cert.Kernel19Ideal.Value

theorem out_x {A : FVec Ideal S1024x384 .bf16} {B : FVec Ideal S384x1024 .bf16} {f g : ℕ → ℕ → EReal} (hA : X2 A f) (hB : X2 B g) :
    X2 (a := 1024) (b := 1024) (out0_2 (F := Ideal) A B) fun i j => ∑ k ∈ range 384, f i k * g k j := by
  unfold out0_2
  rw [View.canon_unit_zero hz2, View.ld_unit_zero (S := S1024x384) hz2, View.ld_unit_zero (S := S384x1024) hz2]
  exact X2.plain _ rfl none hA hB X2.zero

variable (m : (ℓ : Loc nD τ sig) → Buf (Elt Ideal) ℓ) (c : Dev nD)

theorem ix0 : ∀ t : Fin cfg0.N, win0_0.index t = ![t.val / 2, 0] := (by decide +kernel : ∀ t : Fin grid0.N, win0_0.index t = ![t.val / 2, 0])
theorem ix1 : ∀ t : Fin cfg0.N, win0_1.index t = ![0, t.val % 2] := (by decide +kernel : ∀ t : Fin grid0.N, win0_1.index t = ![0, t.val % 2])
theorem ix2 : ∀ t : Fin cfg0.N, win0_2.index t = ![t.val / 2, t.val % 2] := (by decide +kernel : ∀ t : Fin grid0.N, win0_2.index t = ![t.val / 2, t.val % 2])

theorem in0 {f : ℕ → ℕ → EReal} (h : X2 (a := 4096) (b := 384) (m ((c : Thread nD τ).loc main_arg0)) f) (t : Fin cfg0.N) :
    X2 (a := 1024) (b := 384) (iblk m c 0 t) fun i j => f (t.val / 2 * 1024 + i) j := by
  intro y
  refine (h _).trans ?_
  blk_simp [ix0]

theorem in1 {g : ℕ → ℕ → EReal} (h : X2 (a := 384) (b := 2048) (m ((c : Thread nD τ).loc main_arg1)) g) (t : Fin cfg0.N) :
    X2 (a := 384) (b := 1024) (iblk m c 1 t) (fun i j => g i (t.val % 2 * 1024 + j)) := by
  intro y
  refine (h _).trans ?_
  blk_simp [ix1]

theorem result {f g : ℕ → ℕ → EReal} (hf : X2 (a := 4096) (b := 384) (m ((c : Thread nD τ).loc main_arg0)) f) (hg : X2 (a := 384) (b := 2048) (m ((c : Thread nD τ).loc main_arg1)) g)
    (G : FVec Ideal S4096x2048 .f32) (hG : X2 (a := 4096) (b := 2048) G fun i j => ∑ k ∈ range 384, f i k * g k j) : (dats m 0 c).arrAt 2 cfg0.N = G := by
  refine (dats m 0 c).arrAt_eq_of_covers 2 _ (by decide +kernel) fun t hf' y => ?_
  blk_simp
  rw [after0_2]
  refine (out_x (in0 m c hf t) (in1 m c hg t) y).trans (Eq.trans ?_ (hG _).symm)
  blk_simp [ix2]

end kernel

open Cert.Reference19Ideal Cert.Reference19Ideal.Read in
theorem ref {f g : ℕ → ℕ → EReal} (x0 : FVec Ideal S4096x384 .bf16) (x1 : FVec Ideal S384x2048 .bf16) (hf : X2 (a := 4096) (b := 384) x0 f) (hg : X2 (a := 384) (b := 2048) x1 g) :
    X2 (a := 4096) (b := 2048) (val_main_v2 (F := Ideal) x0 x1) fun i j => ∑ k ∈ range 384, f i k * g k j := fun i => by
  rw [val_main_v2_apply]
  refine Eq.trans ?_ (Finset.sum_range _).symm
  refine Finset.sum_congr rfl fun k _ => ?_
  show x0 (lidx_main_v2 i k) * x1 (ridx_main_v2 i k) = _
  rw [hf, hg]

set_option backward.isDefEq.respectTransparency.types false in
/-- The query's product with its weight is the reference's, at every argument. -/
theorem algebraic : Cert.algebraic_Kernel19Ideal_Reference19Ideal := fun m g m' g' _ agree => by
  refine ⟨_, Cert.Kernel19Ideal.Value.run_blocks m g, ?_⟩
  refine (θ_run _ _ _).mono (fun r h c => ?_) (Cert.Reference19Ideal.Value.run (F := Ideal) m' g')
  obtain ⟨g0, g1⟩ := agree c
  obtain ⟨r0, rest⟩ := h c
  refine ⟨r0.trans ((Cert.Reference19Ideal.Read.val_main_v2_eq (F := Ideal) _ _).trans ?_), rest⟩
  rw [g0, g1]
  exact (result m c (X2.self _) (X2.self _) _ (ref _ _ (X2.self _) (X2.self _))).symm

end Cert.Attn.Uq

/-! ## The gradient of the query's latents -/

namespace Cert.Attn.UqDx

section kernel

open Cert.Kernel20Ideal Cert.Kernel20Ideal.Gen Cert.Kernel20Ideal.Value

theorem out_x {A : FVec Ideal S1024x2048 .bf16} {B : FVec Ideal S384x2048 .bf16} {f g : ℕ → ℕ → EReal} (hA : X2 A f) (hB : X2 B g) :
    X2 (a := 1024) (b := 384) (out0_2 (F := Ideal) A B) fun i j => ∑ k ∈ range 2048, f i k * g j k := by
  unfold out0_2
  rw [View.canon_unit_zero hz2, View.ld_unit_zero (S := S1024x2048) hz2, View.ld_unit_zero (S := S384x2048) hz2]
  exact X2.nt _ rfl none hA hB X2.zero

variable (m : (ℓ : Loc nD τ sig) → Buf (Elt Ideal) ℓ) (c : Dev nD)

theorem ix0 : ∀ t : Fin cfg0.N, win0_0.index t = ![t.val, 0] := (by decide +kernel : ∀ t : Fin grid0.N, win0_0.index t = ![t.val, 0])
theorem ix1 : ∀ t : Fin cfg0.N, win0_1.index t = ![0, 0] := (by decide +kernel : ∀ t : Fin grid0.N, win0_1.index t = ![0, 0])
theorem ix2 : ∀ t : Fin cfg0.N, win0_2.index t = ![t.val, 0] := (by decide +kernel : ∀ t : Fin grid0.N, win0_2.index t = ![t.val, 0])

theorem in0 {f : ℕ → ℕ → EReal} (h : X2 (a := 4096) (b := 2048) (m ((c : Thread nD τ).loc main_arg0)) f) (t : Fin cfg0.N) :
    X2 (a := 1024) (b := 2048) (iblk m c 0 t) fun i j => f (t.val * 1024 + i) j := by
  intro y
  refine (h _).trans ?_
  blk_simp [ix0]

theorem in1 {g : ℕ → ℕ → EReal} (h : X2 (a := 384) (b := 2048) (m ((c : Thread nD τ).loc main_arg1)) g) (t : Fin cfg0.N) :
    X2 (a := 384) (b := 2048) (iblk m c 1 t) (fun i j => g i j) := by
  intro y
  refine (h _).trans ?_
  blk_simp [ix1]

theorem result {f g : ℕ → ℕ → EReal} (hf : X2 (a := 4096) (b := 2048) (m ((c : Thread nD τ).loc main_arg0)) f) (hg : X2 (a := 384) (b := 2048) (m ((c : Thread nD τ).loc main_arg1)) g)
    (G : FVec Ideal S4096x384 .f32) (hG : X2 (a := 4096) (b := 384) G fun i j => ∑ k ∈ range 2048, f i k * g j k) : (dats m 0 c).arrAt 2 cfg0.N = G := by
  refine (dats m 0 c).arrAt_eq_of_covers 2 _ (by decide +kernel) fun t hf' y => ?_
  blk_simp
  rw [after0_2]
  refine (out_x (in0 m c hf t) (in1 m c hg t) y).trans (Eq.trans ?_ (hG _).symm)
  blk_simp [ix2]

end kernel

open Cert.Reference20Ideal Cert.Reference20Ideal.Read in
theorem ref {f g : ℕ → ℕ → EReal} (x0 : FVec Ideal S4096x2048 .bf16) (x1 : FVec Ideal S384x2048 .bf16) (hf : X2 (a := 4096) (b := 2048) x0 f) (hg : X2 (a := 384) (b := 2048) x1 g) :
    X2 (a := 4096) (b := 384) (val_main_v4 (F := Ideal) x0 x1) fun i j => ∑ k ∈ range 2048, f i k * g j k := fun i => by
  rw [val_main_v4_apply]
  refine Eq.trans ?_ (Finset.sum_range _).symm
  refine Finset.sum_congr rfl fun k _ => ?_
  show x0 (lidx_main_v4 i k) * x1 (ridx_main_v4 i k) = _
  rw [hf, hg]

set_option backward.isDefEq.respectTransparency.types false in
/-- The gradient of the query's latents is the reference's, at every argument. -/
theorem algebraic : Cert.algebraic_Kernel20Ideal_Reference20Ideal := fun m g m' g' _ agree => by
  refine ⟨_, Cert.Kernel20Ideal.Value.run_blocks m g, ?_⟩
  refine (θ_run _ _ _).mono (fun r h c => ?_) (Cert.Reference20Ideal.Value.run (F := Ideal) m' g')
  obtain ⟨g0, g1⟩ := agree c
  obtain ⟨r0, rest⟩ := h c
  refine ⟨r0.trans ((Cert.Reference20Ideal.Read.val_main_v4_eq (F := Ideal) _ _).trans ?_), rest⟩
  rw [g0, g1]
  exact (result m c (X2.self _) (X2.self _) _ (ref _ _ (X2.self _) (X2.self _))).symm

end Cert.Attn.UqDx

/-! ## The keys' and values' product with their weight -/

namespace Cert.Attn.Ukv

section kernel

open Cert.Kernel21Ideal Cert.Kernel21Ideal.Gen Cert.Kernel21Ideal.Value

theorem out_x {A : FVec Ideal S1024x256 .bf16} {B : FVec Ideal S256x1024 .bf16} {f g : ℕ → ℕ → EReal} (hA : X2 A f) (hB : X2 B g) :
    X2 (a := 1024) (b := 1024) (out0_2 (F := Ideal) A B) fun i j => ∑ k ∈ range 256, f i k * g k j := by
  unfold out0_2
  rw [View.canon_unit_zero hz2, View.ld_unit_zero (S := S1024x256) hz2, View.ld_unit_zero (S := S256x1024) hz2]
  exact X2.plain _ rfl none hA hB X2.zero

variable (m : (ℓ : Loc nD τ sig) → Buf (Elt Ideal) ℓ) (c : Dev nD)

theorem ix0 : ∀ t : Fin cfg0.N, win0_0.index t = ![t.val / 2, 0] := (by decide +kernel : ∀ t : Fin grid0.N, win0_0.index t = ![t.val / 2, 0])
theorem ix1 : ∀ t : Fin cfg0.N, win0_1.index t = ![0, t.val % 2] := (by decide +kernel : ∀ t : Fin grid0.N, win0_1.index t = ![0, t.val % 2])
theorem ix2 : ∀ t : Fin cfg0.N, win0_2.index t = ![t.val / 2, t.val % 2] := (by decide +kernel : ∀ t : Fin grid0.N, win0_2.index t = ![t.val / 2, t.val % 2])

theorem in0 {f : ℕ → ℕ → EReal} (h : X2 (a := 4096) (b := 256) (m ((c : Thread nD τ).loc main_arg0)) f) (t : Fin cfg0.N) :
    X2 (a := 1024) (b := 256) (iblk m c 0 t) fun i j => f (t.val / 2 * 1024 + i) j := by
  intro y
  refine (h _).trans ?_
  blk_simp [ix0]

theorem in1 {g : ℕ → ℕ → EReal} (h : X2 (a := 256) (b := 2048) (m ((c : Thread nD τ).loc main_arg1)) g) (t : Fin cfg0.N) :
    X2 (a := 256) (b := 1024) (iblk m c 1 t) (fun i j => g i (t.val % 2 * 1024 + j)) := by
  intro y
  refine (h _).trans ?_
  blk_simp [ix1]

theorem result {f g : ℕ → ℕ → EReal} (hf : X2 (a := 4096) (b := 256) (m ((c : Thread nD τ).loc main_arg0)) f) (hg : X2 (a := 256) (b := 2048) (m ((c : Thread nD τ).loc main_arg1)) g)
    (G : FVec Ideal S4096x2048 .bf16) (hG : X2 (a := 4096) (b := 2048) G fun i j => ∑ k ∈ range 256, f i k * g k j) : (dats m 0 c).arrAt 2 cfg0.N = G := by
  refine (dats m 0 c).arrAt_eq_of_covers 2 _ (by decide +kernel) fun t hf' y => ?_
  blk_simp
  rw [after0_2]
  refine (out_x (in0 m c hf t) (in1 m c hg t) y).trans (Eq.trans ?_ (hG _).symm)
  blk_simp [ix2]

end kernel

open Cert.Reference21Ideal Cert.Reference21Ideal.Read in
theorem ref {f g : ℕ → ℕ → EReal} (x0 : FVec Ideal S4096x256 .bf16) (x1 : FVec Ideal S256x2048 .bf16) (hf : X2 (a := 4096) (b := 256) x0 f) (hg : X2 (a := 256) (b := 2048) x1 g) :
    X2 (a := 4096) (b := 2048) (val_main_v3 (F := Ideal) x0 x1) fun i j => ∑ k ∈ range 256, f i k * g k j := fun i => by
  show val_main_v2 (F := Ideal) x0 x1 i = _
  rw [val_main_v2_apply]
  refine Eq.trans ?_ (Finset.sum_range _).symm
  refine Finset.sum_congr rfl fun k _ => ?_
  show x0 (lidx_main_v2 i k) * x1 (ridx_main_v2 i k) = _
  rw [hf, hg]

set_option backward.isDefEq.respectTransparency.types false in
/-- The keys' and values' product with their weight is the reference's, at every argument. -/
theorem algebraic : Cert.algebraic_Kernel21Ideal_Reference21Ideal := fun m g m' g' _ agree => by
  refine ⟨_, Cert.Kernel21Ideal.Value.run_blocks m g, ?_⟩
  refine (θ_run _ _ _).mono (fun r h c => ?_) (Cert.Reference21Ideal.Value.run (F := Ideal) m' g')
  obtain ⟨g0, g1⟩ := agree c
  obtain ⟨r0, rest⟩ := h c
  refine ⟨r0.trans ((Cert.Reference21Ideal.Read.val_main_v3_eq (F := Ideal) _ _).trans ?_), rest⟩
  rw [g0, g1]
  exact (result m c (X2.self _) (X2.self _) _ (ref _ _ (X2.self _) (X2.self _))).symm

end Cert.Attn.Ukv

/-! ## The gradient of the keys' and values' latents -/

namespace Cert.Attn.UkvDx

section kernel

open Cert.Kernel22Ideal Cert.Kernel22Ideal.Gen Cert.Kernel22Ideal.Value

theorem out_x {A : FVec Ideal S1024x2048 .bf16} {B : FVec Ideal S256x2048 .bf16} {f g : ℕ → ℕ → EReal} (hA : X2 A f) (hB : X2 B g) :
    X2 (a := 1024) (b := 256) (out0_2 (F := Ideal) A B) fun i j => ∑ k ∈ range 2048, f i k * g j k := by
  unfold out0_2
  rw [View.canon_unit_zero hz2, View.ld_unit_zero (S := S1024x2048) hz2, View.ld_unit_zero (S := S256x2048) hz2]
  exact X2.nt _ rfl none hA hB X2.zero

variable (m : (ℓ : Loc nD τ sig) → Buf (Elt Ideal) ℓ) (c : Dev nD)

theorem ix0 : ∀ t : Fin cfg0.N, win0_0.index t = ![t.val, 0] := (by decide +kernel : ∀ t : Fin grid0.N, win0_0.index t = ![t.val, 0])
theorem ix1 : ∀ t : Fin cfg0.N, win0_1.index t = ![0, 0] := (by decide +kernel : ∀ t : Fin grid0.N, win0_1.index t = ![0, 0])
theorem ix2 : ∀ t : Fin cfg0.N, win0_2.index t = ![t.val, 0] := (by decide +kernel : ∀ t : Fin grid0.N, win0_2.index t = ![t.val, 0])

theorem in0 {f : ℕ → ℕ → EReal} (h : X2 (a := 4096) (b := 2048) (m ((c : Thread nD τ).loc main_arg0)) f) (t : Fin cfg0.N) :
    X2 (a := 1024) (b := 2048) (iblk m c 0 t) fun i j => f (t.val * 1024 + i) j := by
  intro y
  refine (h _).trans ?_
  blk_simp [ix0]

theorem in1 {g : ℕ → ℕ → EReal} (h : X2 (a := 256) (b := 2048) (m ((c : Thread nD τ).loc main_arg1)) g) (t : Fin cfg0.N) :
    X2 (a := 256) (b := 2048) (iblk m c 1 t) (fun i j => g i j) := by
  intro y
  refine (h _).trans ?_
  blk_simp [ix1]

theorem result {f g : ℕ → ℕ → EReal} (hf : X2 (a := 4096) (b := 2048) (m ((c : Thread nD τ).loc main_arg0)) f) (hg : X2 (a := 256) (b := 2048) (m ((c : Thread nD τ).loc main_arg1)) g)
    (G : FVec Ideal S4096x256 .f32) (hG : X2 (a := 4096) (b := 256) G fun i j => ∑ k ∈ range 2048, f i k * g j k) : (dats m 0 c).arrAt 2 cfg0.N = G := by
  refine (dats m 0 c).arrAt_eq_of_covers 2 _ (by decide +kernel) fun t hf' y => ?_
  blk_simp
  rw [after0_2]
  refine (out_x (in0 m c hf t) (in1 m c hg t) y).trans (Eq.trans ?_ (hG _).symm)
  blk_simp [ix2]

end kernel

open Cert.Reference22Ideal Cert.Reference22Ideal.Read in
theorem ref {f g : ℕ → ℕ → EReal} (x0 : FVec Ideal S4096x2048 .bf16) (x1 : FVec Ideal S256x2048 .bf16) (hf : X2 (a := 4096) (b := 2048) x0 f) (hg : X2 (a := 256) (b := 2048) x1 g) :
    X2 (a := 4096) (b := 256) (val_main_v4 (F := Ideal) x0 x1) fun i j => ∑ k ∈ range 2048, f i k * g j k := fun i => by
  rw [val_main_v4_apply]
  refine Eq.trans ?_ (Finset.sum_range _).symm
  refine Finset.sum_congr rfl fun k _ => ?_
  show x0 (lidx_main_v4 i k) * x1 (ridx_main_v4 i k) = _
  rw [hf, hg]

set_option backward.isDefEq.respectTransparency.types false in
/-- The gradient of the keys' and values' latents is the reference's, at every argument. -/
theorem algebraic : Cert.algebraic_Kernel22Ideal_Reference22Ideal := fun m g m' g' _ agree => by
  refine ⟨_, Cert.Kernel22Ideal.Value.run_blocks m g, ?_⟩
  refine (θ_run _ _ _).mono (fun r h c => ?_) (Cert.Reference22Ideal.Value.run (F := Ideal) m' g')
  obtain ⟨g0, g1⟩ := agree c
  obtain ⟨r0, rest⟩ := h c
  refine ⟨r0.trans ((Cert.Reference22Ideal.Read.val_main_v4_eq (F := Ideal) _ _).trans ?_), rest⟩
  rw [g0, g1]
  exact (result m c (X2.self _) (X2.self _) _ (ref _ _ (X2.self _) (X2.self _))).symm

end Cert.Attn.UkvDx

/-! ## The pool's output projection -/

namespace Cert.Attn.Pool

section kernel

open Cert.Kernel23Ideal Cert.Kernel23Ideal.Gen Cert.Kernel23Ideal.Value

theorem out_x {A : FVec Ideal S1024x512 .bf16} {B : FVec Ideal S512x1024 .bf16} {f g : ℕ → ℕ → EReal} (hA : X2 A f) (hB : X2 B g) :
    X2 (a := 1024) (b := 1024) (out0_2 (F := Ideal) A B) fun i j => ∑ k ∈ range 512, f i k * g k j := by
  unfold out0_2
  rw [View.canon_unit_zero hz2, View.ld_unit_zero (S := S1024x512) hz2, View.ld_unit_zero (S := S512x1024) hz2]
  exact X2.plain _ rfl none hA hB X2.zero

variable (m : (ℓ : Loc nD τ sig) → Buf (Elt Ideal) ℓ) (c : Dev nD)

theorem ix0 : ∀ t : Fin cfg0.N, win0_0.index t = ![t.val, 0] := (by decide +kernel : ∀ t : Fin grid0.N, win0_0.index t = ![t.val, 0])
theorem ix1 : ∀ t : Fin cfg0.N, win0_1.index t = ![0, 0] := (by decide +kernel : ∀ t : Fin grid0.N, win0_1.index t = ![0, 0])
theorem ix2 : ∀ t : Fin cfg0.N, win0_2.index t = ![t.val, 0] := (by decide +kernel : ∀ t : Fin grid0.N, win0_2.index t = ![t.val, 0])

theorem in0 {f : ℕ → ℕ → EReal} (h : X2 (a := 4096) (b := 512) (m ((c : Thread nD τ).loc main_arg0)) f) (t : Fin cfg0.N) :
    X2 (a := 1024) (b := 512) (iblk m c 0 t) fun i j => f (t.val * 1024 + i) j := by
  intro y
  refine (h _).trans ?_
  blk_simp [ix0]

theorem in1 {g : ℕ → ℕ → EReal} (h : X2 (a := 512) (b := 1024) (m ((c : Thread nD τ).loc main_arg1)) g) (t : Fin cfg0.N) :
    X2 (a := 512) (b := 1024) (iblk m c 1 t) (fun i j => g i j) := by
  intro y
  refine (h _).trans ?_
  blk_simp [ix1]

theorem result {f g : ℕ → ℕ → EReal} (hf : X2 (a := 4096) (b := 512) (m ((c : Thread nD τ).loc main_arg0)) f) (hg : X2 (a := 512) (b := 1024) (m ((c : Thread nD τ).loc main_arg1)) g)
    (G : FVec Ideal S4096x1024 .bf16) (hG : X2 (a := 4096) (b := 1024) G fun i j => ∑ k ∈ range 512, f i k * g k j) : (dats m 0 c).arrAt 2 cfg0.N = G := by
  refine (dats m 0 c).arrAt_eq_of_covers 2 _ (by decide +kernel) fun t hf' y => ?_
  blk_simp
  rw [after0_2]
  refine (out_x (in0 m c hf t) (in1 m c hg t) y).trans (Eq.trans ?_ (hG _).symm)
  blk_simp [ix2]

end kernel

open Cert.Reference23Ideal Cert.Reference23Ideal.Read in
theorem ref {f g : ℕ → ℕ → EReal} (x0 : FVec Ideal S4096x512 .bf16) (x1 : FVec Ideal S512x1024 .bf16) (hf : X2 (a := 4096) (b := 512) x0 f) (hg : X2 (a := 512) (b := 1024) x1 g) :
    X2 (a := 4096) (b := 1024) (val_main_v3 (F := Ideal) x0 x1) fun i j => ∑ k ∈ range 512, f i k * g k j := fun i => by
  show val_main_v2 (F := Ideal) x0 x1 i = _
  rw [val_main_v2_apply]
  refine Eq.trans ?_ (Finset.sum_range _).symm
  refine Finset.sum_congr rfl fun k _ => ?_
  show x0 (lidx_main_v2 i k) * x1 (ridx_main_v2 i k) = _
  rw [hf, hg]

set_option backward.isDefEq.respectTransparency.types false in
/-- The pool's output projection is the reference's, at every argument. -/
theorem algebraic : Cert.algebraic_Kernel23Ideal_Reference23Ideal := fun m g m' g' _ agree => by
  refine ⟨_, Cert.Kernel23Ideal.Value.run_blocks m g, ?_⟩
  refine (θ_run _ _ _).mono (fun r h c => ?_) (Cert.Reference23Ideal.Value.run (F := Ideal) m' g')
  obtain ⟨g0, g1⟩ := agree c
  obtain ⟨r0, rest⟩ := h c
  refine ⟨r0.trans ((Cert.Reference23Ideal.Read.val_main_v3_eq (F := Ideal) _ _).trans ?_), rest⟩
  rw [g0, g1]
  exact (result m c (X2.self _) (X2.self _) _ (ref _ _ (X2.self _) (X2.self _))).symm

end Cert.Attn.Pool

/-! ## The gradient of the pool's output -/

namespace Cert.Attn.PoolDx

section kernel

open Cert.Kernel24Ideal Cert.Kernel24Ideal.Gen Cert.Kernel24Ideal.Value

theorem out_x {A : FVec Ideal S1024x1024 .bf16} {B : FVec Ideal S512x1024 .bf16} {f g : ℕ → ℕ → EReal} (hA : X2 A f) (hB : X2 B g) :
    X2 (a := 1024) (b := 512) (out0_2 (F := Ideal) A B) fun i j => ∑ k ∈ range 1024, f i k * g j k := by
  unfold out0_2
  rw [View.canon_unit_zero hz2, View.ld_unit_zero (S := S1024x1024) hz2, View.ld_unit_zero (S := S512x1024) hz2]
  exact X2.nt _ rfl none hA hB X2.zero

variable (m : (ℓ : Loc nD τ sig) → Buf (Elt Ideal) ℓ) (c : Dev nD)

theorem ix0 : ∀ t : Fin cfg0.N, win0_0.index t = ![t.val, 0] := (by decide +kernel : ∀ t : Fin grid0.N, win0_0.index t = ![t.val, 0])
theorem ix1 : ∀ t : Fin cfg0.N, win0_1.index t = ![0, 0] := (by decide +kernel : ∀ t : Fin grid0.N, win0_1.index t = ![0, 0])
theorem ix2 : ∀ t : Fin cfg0.N, win0_2.index t = ![t.val, 0] := (by decide +kernel : ∀ t : Fin grid0.N, win0_2.index t = ![t.val, 0])

theorem in0 {f : ℕ → ℕ → EReal} (h : X2 (a := 4096) (b := 1024) (m ((c : Thread nD τ).loc main_arg0)) f) (t : Fin cfg0.N) :
    X2 (a := 1024) (b := 1024) (iblk m c 0 t) fun i j => f (t.val * 1024 + i) j := by
  intro y
  refine (h _).trans ?_
  blk_simp [ix0]

theorem in1 {g : ℕ → ℕ → EReal} (h : X2 (a := 512) (b := 1024) (m ((c : Thread nD τ).loc main_arg1)) g) (t : Fin cfg0.N) :
    X2 (a := 512) (b := 1024) (iblk m c 1 t) (fun i j => g i j) := by
  intro y
  refine (h _).trans ?_
  blk_simp [ix1]

theorem result {f g : ℕ → ℕ → EReal} (hf : X2 (a := 4096) (b := 1024) (m ((c : Thread nD τ).loc main_arg0)) f) (hg : X2 (a := 512) (b := 1024) (m ((c : Thread nD τ).loc main_arg1)) g)
    (G : FVec Ideal S4096x512 .f32) (hG : X2 (a := 4096) (b := 512) G fun i j => ∑ k ∈ range 1024, f i k * g j k) : (dats m 0 c).arrAt 2 cfg0.N = G := by
  refine (dats m 0 c).arrAt_eq_of_covers 2 _ (by decide +kernel) fun t hf' y => ?_
  blk_simp
  rw [after0_2]
  refine (out_x (in0 m c hf t) (in1 m c hg t) y).trans (Eq.trans ?_ (hG _).symm)
  blk_simp [ix2]

end kernel

open Cert.Reference24Ideal Cert.Reference24Ideal.Read in
theorem ref {f g : ℕ → ℕ → EReal} (x0 : FVec Ideal S4096x1024 .bf16) (x1 : FVec Ideal S512x1024 .bf16) (hf : X2 (a := 4096) (b := 1024) x0 f) (hg : X2 (a := 512) (b := 1024) x1 g) :
    X2 (a := 4096) (b := 512) (val_main_v4 (F := Ideal) x0 x1) fun i j => ∑ k ∈ range 1024, f i k * g j k := fun i => by
  rw [val_main_v4_apply]
  refine Eq.trans ?_ (Finset.sum_range _).symm
  refine Finset.sum_congr rfl fun k _ => ?_
  show x0 (lidx_main_v4 i k) * x1 (ridx_main_v4 i k) = _
  rw [hf, hg]

set_option backward.isDefEq.respectTransparency.types false in
/-- The gradient of the pool's output is the reference's, at every argument. -/
theorem algebraic : Cert.algebraic_Kernel24Ideal_Reference24Ideal := fun m g m' g' _ agree => by
  refine ⟨_, Cert.Kernel24Ideal.Value.run_blocks m g, ?_⟩
  refine (θ_run _ _ _).mono (fun r h c => ?_) (Cert.Reference24Ideal.Value.run (F := Ideal) m' g')
  obtain ⟨g0, g1⟩ := agree c
  obtain ⟨r0, rest⟩ := h c
  refine ⟨r0.trans ((Cert.Reference24Ideal.Read.val_main_v4_eq (F := Ideal) _ _).trans ?_), rest⟩
  rw [g0, g1]
  exact (result m c (X2.self _) (X2.self _) _ (ref _ _ (X2.self _) (X2.self _))).symm

end Cert.Attn.PoolDx

end
-- ==== Proof.Frames.lean ====
/- The claims about the three programs' runs, and the rewrites' statements. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import Idealize.ShloMosaic.Lib.Quiescent

@[expose] public section

noncomputable section

namespace Cert.Attn

open Idealize.ShloMosaic Idealize.SL.Sem

/-- The kernel runs and leaves its arguments unchanged. -/
theorem frame_p : Cert.quiescent_Kernel := fun m ρ _ => Cert.Kernel.Gen.frame m ρ

/-- So does its idealisation. -/
theorem frame_pi : Cert.quiescent_KernelIdeal := fun m ρ _ => Cert.KernelIdeal.Gen.frame m ρ

/-- So does its idealisation on finite arguments. -/
theorem frame_pi_finite : Cert.quiescent_KernelIdeal_pre_finite := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- So does the reference on finite arguments. -/
theorem frame_ri_finite : Cert.quiescent_ReferenceIdeal_pre_finite := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The named constants have the values that the table gives them. -/
theorem preserves : Cert.preserves_Kernel_KernelIdeal :=
  ⟨IdealRules.named_const.statement Cert.KernelIdeal.κ "scale" .bf16 0x3D94#16 _ rfl,
   IdealRules.named_const.statement Cert.KernelIdeal.κ "scale" .f32 0x3D93CD3A#32 _ rfl,
   IdealRules.named_const.statement Cert.KernelIdeal.κ "mask" .f32 0xF149F2CA#32 _ rfl⟩

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Adequacy
public import Idealize.ShloMosaic.Init
public import proofs.«01_k».proof.Proof.Gen.Pre_finite4
public import proofs.«01_k».proof.Proof.Frames2
public import proofs.«01_k».proof.Proof.UpDw
public import proofs.«01_k».proof.Proof.UpDx
public import proofs.«01_k».proof.Proof.DownDx
public import proofs.«01_k».proof.Proof.DownDw
public import proofs.«01_k».proof.Proof.UpAct
public import proofs.«01_k».proof.Proof.Down
public import proofs.«01_k».proof.Proof.MixIn
public import proofs.«01_k».proof.Proof.MixDx
public import proofs.«01_k».proof.Proof.Gate
public import proofs.«01_k».proof.Proof.OutDx
public import proofs.«01_k».proof.Proof.Out
public import proofs.«01_k».proof.Proof.Norm
public import proofs.«01_k».proof.Proof.Adam
public import proofs.«01_k».proof.Proof.OutDw
public import proofs.«01_k».proof.Proof.ProductsDw
public import proofs.«01_k».proof.Proof.Products
public import proofs.«01_k».proof.Proof.Frames
public import proofs.«01_k».proof.Proof.Alg

@[expose] public section

noncomputable section

namespace Cert.Proof

open Idealize.ShloMosaic Idealize.SL.Sem Cert.Kernel

/-- The certificate's claims: every program runs, the rewrites keep their values, and on finite arguments kernel and reference agree. -/
theorem claim : Cert.Claim :=
  ⟨Kernel.Gen.facts, KernelIdeal.Gen.facts, ReferenceIdeal.Gen.facts, Kernel2.Gen.facts, Kernel2Ideal.Gen.facts, Reference2Ideal.Gen.facts, Kernel3.Gen.facts,
    Kernel3Ideal.Gen.facts, Reference3Ideal.Gen.facts, Kernel4.Gen.facts, Kernel4Ideal.Gen.facts, Reference4Ideal.Gen.facts, Kernel5.Gen.facts, Kernel5Ideal.Gen.facts,
    Reference5Ideal.Gen.facts, Kernel6.Gen.facts, Kernel6Ideal.Gen.facts, Reference6Ideal.Gen.facts, Kernel7.Gen.facts, Kernel7Ideal.Gen.facts, Reference7Ideal.Gen.facts,
    Kernel8.Gen.facts, Kernel8Ideal.Gen.facts, Reference8Ideal.Gen.facts, Kernel9.Gen.facts, Kernel9Ideal.Gen.facts, Reference9Ideal.Gen.facts, Kernel10.Gen.facts,
    Kernel10Ideal.Gen.facts, Reference10Ideal.Gen.facts, Kernel11.Gen.facts, Kernel11Ideal.Gen.facts, Reference11Ideal.Gen.facts, Kernel12.Gen.facts, Kernel12Ideal.Gen.facts,
    Reference12Ideal.Gen.facts, Kernel13.Gen.facts, Kernel13Ideal.Gen.facts, Reference13Ideal.Gen.facts, Kernel14.Gen.facts, Kernel14Ideal.Gen.facts, Reference14Ideal.Gen.facts,
    Kernel15.Gen.facts, Kernel15Ideal.Gen.facts, Reference15Ideal.Gen.facts, Kernel16.Gen.facts, Kernel16Ideal.Gen.facts, Reference16Ideal.Gen.facts, Kernel17.Gen.facts,
    Kernel17Ideal.Gen.facts, Reference17Ideal.Gen.facts, Kernel18.Gen.facts, Kernel18Ideal.Gen.facts, Reference18Ideal.Gen.facts, Kernel19.Gen.facts, Kernel19Ideal.Gen.facts,
    Reference19Ideal.Gen.facts, Kernel20.Gen.facts, Kernel20Ideal.Gen.facts, Reference20Ideal.Gen.facts, Kernel21.Gen.facts, Kernel21Ideal.Gen.facts, Reference21Ideal.Gen.facts,
    Kernel22.Gen.facts, Kernel22Ideal.Gen.facts, Reference22Ideal.Gen.facts, Kernel23.Gen.facts, Kernel23Ideal.Gen.facts, Reference23Ideal.Gen.facts, Kernel24.Gen.facts,
    Kernel24Ideal.Gen.facts, Reference24Ideal.Gen.facts, Kernel25.Gen.facts, Kernel25Ideal.Gen.facts, Reference25Ideal.Gen.facts, Kernel26.Gen.facts, Kernel26Ideal.Gen.facts,
    Reference26Ideal.Gen.facts, Kernel27.Gen.facts, Kernel27Ideal.Gen.facts, Reference27Ideal.Gen.facts, Kernel28.Gen.facts, Kernel28Ideal.Gen.facts, Reference28Ideal.Gen.facts,
    Kernel29.Gen.facts, Kernel29Ideal.Gen.facts, Reference29Ideal.Gen.facts, Pre_finite.Gen.facts, Pre_finite4.Gen.facts, Attn.frame_p, Attn.frame_pi, Attn.frame_pi_finite,
    Attn.frame_ri, Attn.frame_ri_finite, Attn.frame_p2, Attn.frame_pi2, Attn.frame_ri2, Attn.frame_p3, Attn.frame_pi3, Attn.frame_ri3, Attn.frame_p4, Attn.frame_pi4,
    Attn.frame_pi4_finite, Attn.frame_ri4, Attn.frame_ri4_finite, Attn.frame_p5, Attn.frame_pi5, Attn.frame_ri5, Attn.frame_p6, Attn.frame_pi6, Attn.frame_ri6, Attn.frame_p7,
    Attn.frame_pi7, Attn.frame_ri7, Attn.frame_p8, Attn.frame_pi8, Attn.frame_ri8, Attn.frame_p9, Attn.frame_pi9, Attn.frame_ri9, Attn.frame_p10, Attn.frame_pi10, Attn.frame_ri10,
    Attn.frame_p11, Attn.frame_pi11, Attn.frame_ri11, Attn.frame_p12, Attn.frame_pi12, Attn.frame_ri12, Attn.frame_p13, Attn.frame_pi13, Attn.frame_ri13, Attn.frame_p14,
    Attn.frame_pi14, Attn.frame_ri14, Attn.frame_p15, Attn.frame_pi15, Attn.frame_ri15, Attn.frame_p16, Attn.frame_pi16, Attn.frame_ri16, Attn.frame_p17, Attn.frame_pi17,
    Attn.frame_ri17, Attn.frame_p18, Attn.frame_pi18, Attn.frame_ri18, Attn.frame_p19, Attn.frame_pi19, Attn.frame_ri19, Attn.frame_p20, Attn.frame_pi20, Attn.frame_ri20,
    Attn.frame_p21, Attn.frame_pi21, Attn.frame_ri21, Attn.frame_p22, Attn.frame_pi22, Attn.frame_ri22, Attn.frame_p23, Attn.frame_pi23, Attn.frame_ri23, Attn.frame_p24,
    Attn.frame_pi24, Attn.frame_ri24, Attn.frame_p25, Attn.frame_pi25, Attn.frame_ri25, Attn.frame_p26, Attn.frame_pi26, Attn.frame_ri26, Attn.frame_p27, Attn.frame_pi27,
    Attn.frame_ri27, Attn.frame_p28, Attn.frame_pi28, Attn.frame_ri28, Attn.frame_p29, Attn.frame_pi29, Attn.frame_ri29, Attn.preserves, Attn.algebraic, trivial,
    Attn.UpDw.algebraic, trivial, Attn.UpDx.algebraic, trivial, Attn.DownDx.algebraic, trivial, Attn.DownDw.algebraic, trivial, Attn.UpAct.algebraic, trivial, Attn.Down.algebraic,
    trivial, Attn.MixIn.algebraic, trivial, Attn.MixDx.algebraic, trivial, Attn.Gate.algebraic, trivial, Attn.OutDx.algebraic, trivial, Attn.Out.algebraic, trivial,
    Attn.Norm.algebraic, trivial, Attn.Adam.algebraic, trivial, Attn.OutDw.algebraic, trivial, Attn.GateDw.algebraic, trivial, Attn.ProjDw.algebraic, trivial,
    Attn.ProjDx.algebraic, trivial, Attn.Uq.algebraic, trivial, Attn.UqDx.algebraic, trivial, Attn.Ukv.algebraic, trivial, Attn.UkvDx.algebraic, trivial, Attn.Pool.algebraic,
    trivial, Attn.PoolDx.algebraic, trivial, Attn.UqDw.algebraic, trivial, Attn.UkvDw.algebraic, trivial, Attn.LatDw.algebraic, trivial, Attn.PoolInDw.algebraic, trivial,
    Attn.PoolDw.algebraic⟩

end Cert.Proof

end
